-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v107) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v86) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v107) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v121) = v0 c
          ∧ r.2.mem ((c.tc : Thread Cert.Reference8Ideal.nD Cert.Reference8Ideal.τ).loc Cert.Reference8Ideal.main_v123) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite3 : Cert.Pre_finite3.Facts) (hPre_finite7 : Cert.Pre_finite7.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S16x4096x2560 : Shape := ⟨3, ![16, 4096, 2560]⟩
abbrev S12x15x31 : Shape := ⟨3, ![12, 15, 31]⟩
abbrev S_ : Shape := ⟨0, ![]⟩

class Facts : Prop where
  bitsLt_bf16_f32 : FTy.bits .bf16 < FTy.bits .f32
  bcast_S_S16x4096x2560 : S_.BroadcastsInDim S16x4096x2560 (![] : Fin 0 → Fin S16x4096x2560.rank)
  bcast_S_S12x15x31 : S_.BroadcastsInDim S12x15x31 (![] : Fin 0 → Fin S12x15x31.rank)

variable [Facts]

def fn {F : FTy → Type} [FloatOps F] (main_arg0 : FVec F S16x4096x2560 .bf16) (main_arg1 : FVec F S12x15x31 .f32) : IVec S16x4096x2560 1 × IVec S12x15x31 1 :=
  let main_v0 : FVec F S16x4096x2560 .f32 := (extf .f32 · bitsLt_bf16_f32) main_arg0
  let main_v1 : FVec F S16x4096x2560 .f32 := Host.absf main_v0
  let main_cst : FVec F S_ .f32 := constant S_ .f32 0x7F800000#32
  let main_v2 : FVec F S16x4096x2560 .f32 := broadcastInDim S16x4096x2560 ![] bcast_S_S16x4096x2560 main_cst
  let main_v3 : IVec S16x4096x2560 1 := cmpf .olt main_v1 main_v2
  let main_v4 : FVec F S12x15x31 .f32 := Host.absf main_arg1
  let main_cst_0 : FVec F S_ .f32 := constant S_ .f32 0x7F800000#32
  let main_v5 : FVec F S12x15x31 .f32 := broadcastInDim S12x15x31 ![] bcast_S_S12x15x31 main_cst_0
  let main_v6 : IVec S12x15x31 1 := cmpf .olt main_v4 main_v5
  (main_v3, main_v6)
-- ==== Pre_finite2.lean ====
abbrev S16x4096x1024 : Shape := ⟨3, ![16, 4096, 1024]⟩
abbrev S16x4096x768 : Shape := ⟨3, ![16, 4096, 768]⟩
abbrev S16x4096x4096 : Shape := ⟨3, ![16, 4096, 4096]⟩
abbrev S16x256x512 : Shape := ⟨3, ![16, 256, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S128 : Shape := ⟨1, ![128]⟩
abbrev S16x4096x256 : Shape := ⟨3, ![16, 4096, 256]⟩
abbrev S_ : Shape := ⟨0, ![]⟩
abbrev S16x256x256 : Shape := ⟨3, ![16, 256, 256]⟩

class Facts : Prop where
  slices_S16x4096x4096_S16x4096x256_0_0_3840 : S16x4096x4096.Slices ![0, 0, 3840] S16x4096x256
  bitsLt_bf16_f32 : FTy.bits .bf16 < FTy.bits .f32
  bcast_S_S16x4096x256 : S_.BroadcastsInDim S16x4096x256 (![] : Fin 0 → Fin S16x4096x256.rank)
  slices_S16x256x512_S16x256x256_0_0_0 : S16x256x512.Slices ![0, 0, 0] S16x256x256
  bcast_S_S16x256x256 : S_.BroadcastsInDim S16x256x256 (![] : Fin 0 → Fin S16x256x256.rank)

variable [Facts]

def fn {F : FTy → Type} [FloatOps F] (main_arg0 : FVec F S16x4096x1024 .f32) (main_arg1 : FVec F S16x4096x768 .bf16) (main_arg2 : FVec F S16x4096x768 .bf16) (main_arg3 : FVec F S16x4096x4096 .bf16) (main_arg4 : FVec F S16x256x512 .bf16) (main_arg5 : FVec F S1024x1024 .f32) (main_arg6 : FVec F S1024 .f32) (main_arg7 : FVec F S1024 .f32) (main_arg8 : FVec F S1024x4096 .f32) (main_arg9 : FVec F S4096x1024 .f32) (main_arg10 : FVec F S1024 .f32) (main_arg11 : FVec F S1024 .f32) (main_arg12 : FVec F S128 .f32) : IVec S16x4096x256 1 × IVec S16x256x256 1 :=
  let main_v0 : FVec F S16x4096x256 .bf16 := (extractStridedSlice S16x4096x256 ![0, 0, 3840] · slices_S16x4096x4096_S16x4096x256_0_0_3840) main_arg3
  let main_v1 : FVec F S16x4096x256 .f32 := (extf .f32 · bitsLt_bf16_f32) main_v0
  let main_v2 : FVec F S16x4096x256 .f32 := Host.absf main_v1
  let main_cst : FVec F S_ .f32 := constant S_ .f32 0x7F800000#32
  let main_v3 : FVec F S16x4096x256 .f32 := broadcastInDim S16x4096x256 ![] bcast_S_S16x4096x256 main_cst
  let main_v4 : IVec S16x4096x256 1 := cmpf .olt main_v2 main_v3
  let main_v5 : FVec F S16x256x256 .bf16 := (extractStridedSlice S16x256x256 ![0, 0, 0] · slices_S16x256x512_S16x256x256_0_0_0) main_arg4
  let main_v6 : FVec F S16x256x256 .f32 := (extf .f32 · bitsLt_bf16_f32) main_v5
  let main_v7 : FVec F S16x256x256 .f32 := Host.absf main_v6
  let main_cst_0 : FVec F S_ .f32 := constant S_ .f32 0x7F800000#32
  let main_v8 : FVec F S16x256x256 .f32 := broadcastInDim S16x256x256 ![] bcast_S_S16x256x256 main_cst_0
  let main_v9 : IVec S16x256x256 1 := cmpf .olt main_v7 main_v8
  (main_v4, main_v9)
-- ==== Pre_finite3.lean ====
abbrev S16x4096x1024 : Shape := ⟨3, ![16, 4096, 1024]⟩
abbrev S16x4096x768 : Shape := ⟨3, ![16, 4096, 768]⟩
abbrev S16x4096x2560 : Shape := ⟨3, ![16, 4096, 2560]⟩
abbrev S16x256x512 : Shape := ⟨3, ![16, 256, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16x4096x256 : Shape := ⟨3, ![16, 4096, 256]⟩
abbrev S_ : Shape := ⟨0, ![]⟩
abbrev S16x256x256 : Shape := ⟨3, ![16, 256, 256]⟩

class Facts : Prop where
  slices_S16x4096x2560_S16x4096x256_0_0_2304 : S16x4096x2560.Slices ![0, 0, 2304] S16x4096x256
  bitsLt_bf16_f32 : FTy.bits .bf16 < FTy.bits .f32
  bcast_S_S16x4096x256 : S_.BroadcastsInDim S16x4096x256 (![] : Fin 0 → Fin S16x4096x256.rank)
  slices_S16x256x512_S16x256x256_0_0_0 : S16x256x512.Slices ![0, 0, 0] S16x256x256
  bcast_S_S16x256x256 : S_.BroadcastsInDim S16x256x256 (![] : Fin 0 → Fin S16x256x256.rank)

variable [Facts]

def fn {F : FTy → Type} [FloatOps F] (main_arg0 : FVec F S16x4096x1024 .f32) (main_arg1 : FVec F S16x4096x768 .bf16) (main_arg2 : FVec F S16x4096x2560 .bf16) (main_arg3 : FVec F S16x256x512 .bf16) (main_arg4 : FVec F S1024x1024 .f32) (main_arg5 : FVec F S1024 .f32) (main_arg6 : FVec F S1024 .f32) (main_arg7 : FVec F S1024x4096 .f32) (main_arg8 : FVec F S4096x1024 .f32) (main_arg9 : FVec F S1024 .f32) (main_arg10 : FVec F S1024 .f32) : IVec S16x4096x256 1 × IVec S16x256x256 1 :=
  let main_v0 : FVec F S16x4096x256 .bf16 := (extractStridedSlice S16x4096x256 ![0, 0, 2304] · slices_S16x4096x2560_S16x4096x256_0_0_2304) main_arg2
  let main_v1 : FVec F S16x4096x256 .f32 := (extf .f32 · bitsLt_bf16_f32) main_v0
  let main_v2 : FVec F S16x4096x256 .f32 := Host.absf main_v1
  let main_cst : FVec F S_ .f32 := constant S_ .f32 0x7F800000#32
  let main_v3 : FVec F S16x4096x256 .f32 := broadcastInDim S16x4096x256 ![] bcast_S_S16x4096x256 main_cst
  let main_v4 : IVec S16x4096x256 1 := cmpf .olt main_v2 main_v3
  let main_v5 : FVec F S16x256x256 .bf16 := (extractStridedSlice S16x256x256 ![0, 0, 0] · slices_S16x256x512_S16x256x256_0_0_0) main_arg3
  let main_v6 : FVec F S16x256x256 .f32 := (extf .f32 · bitsLt_bf16_f32) main_v5
  let main_v7 : FVec F S16x256x256 .f32 := Host.absf main_v6
  let main_cst_0 : FVec F S_ .f32 := constant S_ .f32 0x7F800000#32
  let main_v8 : FVec F S16x256x256 .f32 := broadcastInDim S16x256x256 ![] bcast_S_S16x256x256 main_cst_0
  let main_v9 : IVec S16x256x256 1 := cmpf .olt main_v7 main_v8
  (main_v4, main_v9)
-- ==== Pre_finite7.lean ====
abbrev S2x16384x1024 : Shape := ⟨3, ![2, 16384, 1024]⟩
abbrev S2x16384x768 : Shape := ⟨3, ![2, 16384, 768]⟩
abbrev S2x16384x4096 : Shape := ⟨3, ![2, 16384, 4096]⟩
abbrev S2x256x512 : Shape := ⟨3, ![2, 256, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S128 : Shape := ⟨1, ![128]⟩
abbrev S2x16384x256 : Shape := ⟨3, ![2, 16384, 256]⟩
abbrev S_ : Shape := ⟨0, ![]⟩
abbrev S2x256x256 : Shape := ⟨3, ![2, 256, 256]⟩

class Facts : Prop where
  slices_S2x16384x4096_S2x16384x256_0_0_3840 : S2x16384x4096.Slices ![0, 0, 3840] S2x16384x256
  bitsLt_bf16_f32 : FTy.bits .bf16 < FTy.bits .f32
  bcast_S_S2x16384x256 : S_.BroadcastsInDim S2x16384x256 (![] : Fin 0 → Fin S2x16384x256.rank)
  slices_S2x256x512_S2x256x256_0_0_0 : S2x256x512.Slices ![0, 0, 0] S2x256x256
  bcast_S_S2x256x256 : S_.BroadcastsInDim S2x256x256 (![] : Fin 0 → Fin S2x256x256.rank)

variable [Facts]

def fn {F : FTy → Type} [FloatOps F] (main_arg0 : FVec F S2x16384x1024 .f32) (main_arg1 : FVec F S2x16384x768 .bf16) (main_arg2 : FVec F S2x16384x768 .bf16) (main_arg3 : FVec F S2x16384x4096 .bf16) (main_arg4 : FVec F S2x256x512 .bf16) (main_arg5 : FVec F S1024x1024 .f32) (main_arg6 : FVec F S1024 .f32) (main_arg7 : FVec F S1024 .f32) (main_arg8 : FVec F S1024x4096 .f32) (main_arg9 : FVec F S4096x1024 .f32) (main_arg10 : FVec F S1024 .f32) (main_arg11 : FVec F S1024 .f32) (main_arg12 : FVec F S128 .f32) : IVec S2x16384x256 1 × IVec S2x256x256 1 :=
  let main_v0 : FVec F S2x16384x256 .bf16 := (extractStridedSlice S2x16384x256 ![0, 0, 3840] · slices_S2x16384x4096_S2x16384x256_0_0_3840) main_arg3
  let main_v1 : FVec F S2x16384x256 .f32 := (extf .f32 · bitsLt_bf16_f32) main_v0
  let main_v2 : FVec F S2x16384x256 .f32 := Host.absf main_v1
  let main_cst : FVec F S_ .f32 := constant S_ .f32 0x7F800000#32
  let main_v3 : FVec F S2x16384x256 .f32 := broadcastInDim S2x16384x256 ![] bcast_S_S2x16384x256 main_cst
  let main_v4 : IVec S2x16384x256 1 := cmpf .olt main_v2 main_v3
  let main_v5 : FVec F S2x256x256 .bf16 := (extractStridedSlice S2x256x256 ![0, 0, 0] · slices_S2x256x512_S2x256x256_0_0_0) main_arg4
  let main_v6 : FVec F S2x256x256 .f32 := (extf .f32 · bitsLt_bf16_f32) main_v5
  let main_v7 : FVec F S2x256x256 .f32 := Host.absf main_v6
  let main_cst_0 : FVec F S_ .f32 := constant S_ .f32 0x7F800000#32
  let main_v8 : FVec F S2x256x256 .f32 := broadcastInDim S2x256x256 ![] bcast_S_S2x256x256 main_cst_0
  let main_v9 : IVec S2x256x256 1 := cmpf .olt main_v7 main_v8
  (main_v4, main_v9)
-- ==== Pre_finite8.lean ====
abbrev S16x4096x4096 : Shape := ⟨3, ![16, 4096, 4096]⟩
abbrev S2x768 : Shape := ⟨2, ![2, 768]⟩
abbrev S16x4096x3072 : Shape := ⟨3, ![16, 4096, 3072]⟩
abbrev S_ : Shape := ⟨0, ![]⟩

class Facts : Prop where
  slices_S16x4096x4096_S16x4096x3072_0_0_0 : S16x4096x4096.Slices ![0, 0, 0] S16x4096x3072
  bitsLt_bf16_f32 : FTy.bits .bf16 < FTy.bits .f32
  bcast_S_S16x4096x3072 : S_.BroadcastsInDim S16x4096x3072 (![] : Fin 0 → Fin S16x4096x3072.rank)
  bcast_S_S2x768 : S_.BroadcastsInDim S2x768 (![] : Fin 0 → Fin S2x768.rank)

variable [Facts]

def fn {F : FTy → Type} [FloatOps F] (main_arg0 : FVec F S16x4096x4096 .bf16) (main_arg1 : FVec F S2x768 .f32) : IVec S16x4096x3072 1 × IVec S2x768 1 :=
  let main_v0 : FVec F S16x4096x3072 .bf16 := (extractStridedSlice S16x4096x3072 ![0, 0, 0] · slices_S16x4096x4096_S16x4096x3072_0_0_0) main_arg0
  let main_v1 : FVec F S16x4096x3072 .f32 := (extf .f32 · bitsLt_bf16_f32) main_v0
  let main_v2 : FVec F S16x4096x3072 .f32 := Host.absf main_v1
  let main_cst : FVec F S_ .f32 := constant S_ .f32 0x7F800000#32
  let main_v3 : FVec F S16x4096x3072 .f32 := broadcastInDim S16x4096x3072 ![] bcast_S_S16x4096x3072 main_cst
  let main_v4 : IVec S16x4096x3072 1 := cmpf .olt main_v2 main_v3
  let main_v5 : FVec F S2x768 .f32 := Host.absf main_arg1
  let main_cst_0 : FVec F S_ .f32 := constant S_ .f32 0x7F800000#32
  let main_v6 : FVec F S2x768 .f32 := broadcastInDim S2x768 ![] bcast_S_S2x768 main_cst_0
  let main_v7 : IVec S2x768 1 := cmpf .olt main_v5 main_v6
  (main_v4, main_v7)
-- ==== Kernel.lean ====
abbrev S16x4096x2560 : Shape := ⟨3, ![16, 4096, 2560]⟩
abbrev S12x15x31 : Shape := ⟨3, ![12, 15, 31]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S64x64x1 : Shape := ⟨3, ![64, 64, 1]⟩
abbrev S12x15x64x64 : Shape := ⟨4, ![12, 15, 64, 64]⟩
abbrev S12x14x64x64 : Shape := ⟨4, ![12, 14, 64, 64]⟩
abbrev S12x14x64x1x64 : Shape := ⟨5, ![12, 14, 64, 1, 64]⟩
abbrev S12x14x64x2x64 : Shape := ⟨5, ![12, 14, 64, 2, 64]⟩
abbrev S6x2x14x64x128 : Shape := ⟨5, ![6, 2, 14, 64, 128]⟩
abbrev S6x14x2x64x128 : Shape := ⟨5, ![6, 14, 2, 64, 128]⟩
abbrev S6x14x128x128 : Shape := ⟨4, ![6, 14, 128, 128]⟩
abbrev S16x4096x768 : Shape := ⟨3, ![16, 4096, 768]⟩
abbrev S1x512x768 : Shape := ⟨3, ![1, 512, 768]⟩
abbrev S1536x768 : Shape := ⟨2, ![1536, 768]⟩
abbrev S48x128x512 : Shape := ⟨3, ![48, 128, 512]⟩
abbrev S48x128x128 : Shape := ⟨3, ![48, 128, 128]⟩
abbrev S512x768 : Shape := ⟨2, ![512, 768]⟩
abbrev S1x128 : Shape := ⟨2, ![1, 128]⟩
abbrev S1x64x128 : Shape := ⟨3, ![1, 64, 128]⟩
abbrev S64x128 : Shape := ⟨2, ![64, 128]⟩
abbrev S128x128 : Shape := ⟨2, ![128, 128]⟩
abbrev S512x128 : Shape := ⟨2, ![512, 128]⟩
abbrev S128x512 : Shape := ⟨2, ![128, 512]⟩
abbrev S1x1x128x128 : Shape := ⟨4, ![1, 1, 128, 128]⟩
abbrev S1x128x512 : Shape := ⟨3, ![1, 128, 512]⟩
abbrev S128 : Shape := ⟨1, ![128]⟩
abbrev S128x1 : Shape := ⟨2, ![128, 1]⟩
abbrev S1x128x128 : Shape := ⟨3, ![1, 128, 128]⟩

abbrev nBuf : Space → Nat
  | .hbm => 67
  | .vmem => 23
  | .smem => 0
  | _ => 0

abbrev bufTy : (tb : Table) → Fin (tcTables nBuf tb) → BufTy
  | .hbm, ⟨0, _⟩ => ⟨S16x4096x2560, .bf16⟩
  | .hbm, ⟨1, _⟩ => ⟨S12x15x31, .f32⟩
  | .hbm, ⟨2, _⟩ => ⟨S64, .i32⟩
  | .hbm, ⟨3, _⟩ => ⟨S64x1, .i32⟩
  | .hbm, ⟨4, _⟩ => ⟨S64, .i32⟩
  | .hbm, ⟨5, _⟩ => ⟨S1x64, .i32⟩
  | .hbm, ⟨6, _⟩ => ⟨S_, .i32⟩
  | .hbm, ⟨7, _⟩ => ⟨S64x1, .i32⟩
  | .hbm, ⟨8, _⟩ => ⟨S64x1, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S64x1, .i32⟩
  | .hbm, ⟨13, _⟩ => ⟨S64x1, .i32⟩
  | .hbm, ⟨14, _⟩ => ⟨S_, .i32⟩
  | .hbm, ⟨15, _⟩ => ⟨S64x1, .i32⟩
  | .hbm, ⟨16, _⟩ => ⟨S64x1, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S_, .i32⟩
  | .hbm, ⟨21, _⟩ => ⟨S64x1, .i32⟩
  | .hbm, ⟨22, _⟩ => ⟨S64x1, .i32⟩
  | .hbm, ⟨23, _⟩ => ⟨S64x64, .i32⟩
  | .hbm, ⟨24, _⟩ => ⟨S64x64, .i32⟩
  | .hbm, ⟨25, _⟩ => ⟨S64x64, .i1⟩
  | .hbm, ⟨26, _⟩ => ⟨S64x64, .i1⟩
  | .hbm, ⟨27, _⟩ => ⟨S64x64, .i32⟩
  | .hbm, ⟨28, _⟩ => ⟨S64x64, .i32⟩
  | .hbm, ⟨29, _⟩ => ⟨S64x64, .i32⟩
  | .hbm, ⟨30, _⟩ => ⟨S_, .i32⟩
  | .hbm, ⟨31, _⟩ => ⟨S64x64, .i32⟩
  | .hbm, ⟨32, _⟩ => ⟨S64x64, .i32⟩
  | .hbm, ⟨33, _⟩ => ⟨S_, .i32⟩
  | .hbm, ⟨34, _⟩ => ⟨S64x64, .i32⟩
  | .hbm, ⟨35, _⟩ => ⟨S64x64, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S_, .i32⟩
  | .hbm, ⟨42, _⟩ => ⟨S64x64, .i32⟩
  | .hbm, ⟨43, _⟩ => ⟨S64x64, .i32⟩
  | .hbm, ⟨44, _⟩ => ⟨S_, .i32⟩
  | .hbm, ⟨45, _⟩ => ⟨S64x64, .i32⟩
  | .hbm, ⟨46, _⟩ => ⟨S64x64, .i1⟩
  | .hbm, ⟨47, _⟩ => ⟨S_, .i32⟩
  | .hbm, ⟨48, _⟩ => ⟨S64x64, .i32⟩
  | .hbm, ⟨49, _⟩ => ⟨S64x64, .i32⟩
  | .hbm, ⟨50, _⟩ => ⟨S64x64, .i32⟩
  | .hbm, ⟨51, _⟩ => ⟨S64x64x1, .i32⟩
  | .hbm, ⟨52, _⟩ => ⟨S12x15x64x64, .f32⟩
  | .hbm, ⟨53, _⟩ => ⟨S_, .f32⟩
  | .hbm, ⟨54, _⟩ => ⟨S_, .f32⟩
  | .hbm, ⟨55, _⟩ => ⟨S12x15x64x64, .i1⟩
  | .hbm, ⟨56, _⟩ => ⟨S12x15x64x64, .f32⟩
  | .hbm, ⟨57, _⟩ => ⟨S12x15x64x64, .f32⟩
  | .hbm, ⟨58, _⟩ => ⟨S12x14x64x64, .f32⟩
  | .hbm, ⟨59, _⟩ => ⟨S12x14x64x64, .f32⟩
  | .hbm, ⟨60, _⟩ => ⟨S12x14x64x1x64, .f32⟩
  | .hbm, ⟨61, _⟩ => ⟨S12x14x64x1x64, .f32⟩
  | .hbm, ⟨62, _⟩ => ⟨S12x14x64x2x64, .f32⟩
  | .hbm, ⟨63, _⟩ => ⟨S6x2x14x64x128, .f32⟩
  | .hbm, ⟨64, _⟩ => ⟨S6x14x2x64x128, .f32⟩
  | .hbm, ⟨65, _⟩ => ⟨S6x14x128x128, .f32⟩
  | .hbm, ⟨66, _⟩ => ⟨S16x4096x768, .bf16⟩
  | .local _ .vmem, ⟨0, _⟩ => ⟨S1x512x768, .bf16⟩
  | .local _ .vmem, ⟨1, _⟩ => ⟨S1x512x768, .bf16⟩
  | .local _ .vmem, ⟨2, _⟩ => ⟨S1x512x768, .bf16⟩
  | .local _ .vmem, ⟨3, _⟩ => ⟨S1x512x768, .bf16⟩
  | .local _ .vmem, ⟨4, _⟩ => ⟨S1x512x768, .bf16⟩
  | .local _ .vmem, ⟨5, _⟩ => ⟨S1x512x768, .bf16⟩
  | .local _ .vmem, ⟨6, _⟩ => ⟨S1x512x768, .bf16⟩
  | .local _ .vmem, ⟨7, _⟩ => ⟨S1x512x768, .bf16⟩
  | .local _ .vmem, ⟨8, _⟩ => ⟨S1x512x768, .bf16⟩
  | .local _ .vmem, ⟨9, _⟩ => ⟨S1x512x768, .bf16⟩
  | .local _ .vmem, ⟨10, _⟩ => ⟨S1x512x768, .bf16⟩
  | .local _ .vmem, ⟨11, _⟩ => ⟨S1x512x768, .bf16⟩
  | .local _ .vmem, ⟨12, _⟩ => ⟨S1x512x768, .bf16⟩
  | .local _ .vmem, ⟨13, _⟩ => ⟨S1x512x768, .bf16⟩
  | .local _ .vmem, ⟨14, _⟩ => ⟨S6x14x128x128, .f32⟩
  | .local _ .vmem, ⟨15, _⟩ => ⟨S1x512x768, .bf16⟩
  | .local _ .vmem, ⟨16, _⟩ => ⟨S1x512x768, .bf16⟩
  | .local _ .vmem, ⟨17, _⟩ => ⟨S1536x768, .bf16⟩
  | .local _ .vmem, ⟨18, _⟩ => ⟨S1536x768, .bf16⟩
  | .local _ .vmem, ⟨19, _⟩ => ⟨S48x128x512, .f32⟩
  | .local _ .vmem, ⟨20, _⟩ => ⟨S48x128x512, .bf16⟩
  | .local _ .vmem, ⟨21, _⟩ => ⟨S48x128x128, .f32⟩
  | .local _ .vmem, ⟨22, _⟩ => ⟨S48x128x128, .f32⟩
  | _, _ => ⟨S16x4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_c_6 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_c_8 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32 : BitVec 32 := 0#32
  let c8_i32 : BitVec 32 := 8#32
  let v33 : BitVec 32 := Scalar.addi c0_i32 c8_i32
  let c1_i32 : BitVec 32 := 1#32
  ⟨c0_i32, v33, c1_i32⟩
def k0_mult1 (i : grid0.Coords) (k0_t1 : Fin k0_t1_loop.trips) : BitVec 32 :=
  let c56_i32 : BitVec 32 := 56#32
  let c0_i32_36 : BitVec 32 := 0#32
  let arg1 : BitVec 32 := BitVec.ofNat 32 (i 1).val
  let c8_i32_35 : BitVec 32 := 8#32
  let v36 : BitVec 32 := Scalar.muli arg1 c8_i32_35
  let c0_i32 : BitVec 32 := 0#32
  let c1_i32 : BitVec 32 := 1#32
  let arg17 : BitVec 32 := Scf.iv c0_i32 c1_i32 k0_t1
  let v37 : BitVec 32 := Scalar.addi v36 arg17
  let c4_i32 : BitVec 32 := 4#32
  let v38 : BitVec 32 := Scalar.subi v37 c4_i32
  let v39 : BitVec 32 := Scalar.maxsi c0_i32_36 v38
  let v40 : BitVec 32 := Scalar.minsi c56_i32 v39
  let c8_i32_37 : BitVec 32 := 8#32
  let v41 : BitVec 32 := Scalar.muli arg1 c8_i32_37
  let v42 : BitVec 32 := Scalar.subi v40 v41
  let c8_i32_38 : BitVec 32 := 8#32
  let v43 : BitVec 32 := Scalar.addi v42 c8_i32_38
  let c64_i32_39 : BitVec 32 := 64#32
  let v44 : BitVec 32 := Scalar.muli v43 c64_i32_39
  v44
def k0_mult2 (k0_t1 : Fin k0_t1_loop.trips) : BitVec 32 :=
  let c0_i32 : BitVec 32 := 0#32
  let c1_i32 : BitVec 32 := 1#32
  let arg17 : BitVec 32 := Scf.iv c0_i32 c1_i32 k0_t1
  let c64_i32_40 : BitVec 32 := 64#32
  let v47 : BitVec 32 := Scalar.muli arg17 c64_i32_40
  v47
def k0_off1 (k0_t1 : Fin k0_t1_loop.trips) : Fin 3 → Nat :=
  let c0_41 : Index := 0#32
  let c0_i32 : BitVec 32 := 0#32
  let c1_i32 : BitVec 32 := 1#32
  let arg17 : BitVec 32 := Scf.iv c0_i32 c1_i32 k0_t1
  let c64_i32_40 : BitVec 32 := 64#32
  let v47 : BitVec 32 := Scalar.muli arg17 c64_i32_40
  let v48 : BitVec 32 := v47
  let v49 : Index := Scalar.indexCast v48
  let c0_42 : Index := 0#32
  ![0, v49.toNat, 0]
def k0_off2 (i : grid0.Coords) (k0_t1 : Fin k0_t1_loop.trips) : Fin 2 → Nat :=
  let c56_i32 : BitVec 32 := 56#32
  let c0_i32_36 : BitVec 32 := 0#32
  let arg1 : BitVec 32 := BitVec.ofNat 32 (i 1).val
  let c8_i32_35 : BitVec 32 := 8#32
  let v36 : BitVec 32 := Scalar.muli arg1 c8_i32_35
  let c0_i32 : BitVec 32 := 0#32
  let c1_i32 : BitVec 32 := 1#32
  let arg17 : BitVec 32 := Scf.iv c0_i32 c1_i32 k0_t1
  let v37 : BitVec 32 := Scalar.addi v36 arg17
  let c4_i32 : BitVec 32 := 4#32
  let v38 : BitVec 32 := Scalar.subi v37 c4_i32
  let v39 : BitVec 32 := Scalar.maxsi c0_i32_36 v38
  let v40 : BitVec 32 := Scalar.minsi c56_i32 v39
  let c8_i32_37 : BitVec 32 := 8#32
  let v41 : BitVec 32 := Scalar.muli arg1 c8_i32_37
  let v42 : BitVec 32 := Scalar.subi v40 v41
  let c8_i32_38 : BitVec 32 := 8#32
  let v43 : BitVec 32 := Scalar.addi v42 c8_i32_38
  let c64_i32_39 : BitVec 32 := 64#32
  let v44 : BitVec 32 := Scalar.muli v43 c64_i32_39
  let v45 : BitVec 32 := v44
  let v62 : Index := Scalar.indexCast v45
  let c0_44 : Index := 0#32
  ![v62.toNat, 0]
def k0_off3 (i : grid0.Coords) (k0_t1 : Fin k0_t1_loop.trips) (c0_i32_46 : BitVec 32) : Fin 4 → Nat :=
  let c0_47 : Index := 0#32
  let c7_i32 : BitVec 32 := 7#32
  let arg1 : BitVec 32 := BitVec.ofNat 32 (i 1).val
  let c8_i32_35 : BitVec 32 := 8#32
  let v36 : BitVec 32 := Scalar.muli arg1 c8_i32_35
  let c0_i32 : BitVec 32 := 0#32
  let c1_i32 : BitVec 32 := 1#32
  let arg17 : BitVec 32 := Scf.iv c0_i32 c1_i32 k0_t1
  let v37 : BitVec 32 := Scalar.addi v36 arg17
  let c56_i32 : BitVec 32 := 56#32
  let c0_i32_36 : BitVec 32 := 0#32
  let c4_i32 : BitVec 32 := 4#32
  let v38 : BitVec 32 := Scalar.subi v37 c4_i32
  let v39 : BitVec 32 := Scalar.maxsi c0_i32_36 v38
  let v40 : BitVec 32 := Scalar.minsi c56_i32 v39
  let v46 : BitVec 32 := Scalar.subi v37 v40
  let v65 : BitVec 32 := Scalar.subi c7_i32 v46
  let v66 : BitVec 32 := Scalar.addi v65 c0_i32_46
  let v67 : Index := Scalar.indexCast v66
  let c0_48 : Index := 0#32
  let c0_49 : Index := 0#32
  ![0, v67.toNat, 0, 0]
def k0_off4 (k0_t1 : Fin k0_t1_loop.trips) (c0_i32_64 : BitVec 32) : Fin 3 → Nat :=
  let c0_i32 : BitVec 32 := 0#32
  let c1_i32 : BitVec 32 := 1#32
  let arg17 : BitVec 32 := Scf.iv c0_i32 c1_i32 k0_t1
  let c6_i32_63 : BitVec 32 := 6#32
  let v87 : BitVec 32 := Scalar.muli arg17 c6_i32_63
  let v88 : BitVec 32 := Scalar.addi v87 c0_i32_64
  let v89 : Index := Scalar.indexCast v88
  let c0_65 : Index := 0#32
  let c0_66 : Index := 0#32
  ![v89.toNat, 0, 0]
def k0_off5 (k0_t1 : Fin k0_t1_loop.trips) (c0_i32_69 : BitVec 32) : Fin 3 → Nat :=
  let c0_i32 : BitVec 32 := 0#32
  let c1_i32 : BitVec 32 := 1#32
  let arg17 : BitVec 32 := Scf.iv c0_i32 c1_i32 k0_t1
  let c6_i32_68 : BitVec 32 := 6#32
  let v97 : BitVec 32 := Scalar.muli arg17 c6_i32_68
  let v98 : BitVec 32 := Scalar.addi v97 c0_i32_69
  let v99 : Index := Scalar.indexCast v98
  let c0_70 : Index := 0#32
  let c0_71 : Index := 0#32
  ![v99.toNat, 0, 0]
def k0_off6 (k0_t1 : Fin k0_t1_loop.trips) : Fin 3 → Nat :=
  let c0_72 : Index := 0#32
  let c0_i32 : BitVec 32 := 0#32
  let c1_i32 : BitVec 32 := 1#32
  let arg17 : BitVec 32 := Scf.iv c0_i32 c1_i32 k0_t1
  let c64_i32_40 : BitVec 32 := 64#32
  let v47 : BitVec 32 := Scalar.muli arg17 c64_i32_40
  let v48 : BitVec 32 := v47
  let v103 : Index := Scalar.indexCast v48
  let c128 : Index := 128#32
  ![0, v103.toNat, 128]
def k0_off7 (i : grid0.Coords) (k0_t1 : Fin k0_t1_loop.trips) : Fin 2 → Nat :=
  let c56_i32 : BitVec 32 := 56#32
  let c0_i32_36 : BitVec 32 := 0#32
  let arg1 : BitVec 32 := BitVec.ofNat 32 (i 1).val
  let c8_i32_35 : BitVec 32 := 8#32
  let v36 : BitVec 32 := Scalar.muli arg1 c8_i32_35
  let c0_i32 : BitVec 32 := 0#32
  let c1_i32 : BitVec 32 := 1#32
  let arg17 : BitVec 32 := Scf.iv c0_i32 c1_i32 k0_t1
  let v37 : BitVec 32 := Scalar.addi v36 arg17
  let c4_i32 : BitVec 32 := 4#32
  let v38 : BitVec 32 := Scalar.subi v37 c4_i32
  let v39 : BitVec 32 := Scalar.maxsi c0_i32_36 v38
  let v40 : BitVec 32 := Scalar.minsi c56_i32 v39
  let c8_i32_37 : BitVec 32 := 8#32
  let v41 : BitVec 32 := Scalar.muli arg1 c8_i32_37
  let v42 : BitVec 32 := Scalar.subi v40 v41
  let c8_i32_38 : BitVec 32 := 8#32
  let v43 : BitVec 32 := Scalar.addi v42 c8_i32_38
  let c64_i32_39 : BitVec 32 := 64#32
  let v44 : BitVec 32 := Scalar.muli v43 c64_i32_39
  let v45 : BitVec 32 := v44
  let v116 : Index := Scalar.indexCast v45
  let c128_75 : Index := 128#32
  ![v116.toNat, 128]
def k0_off8 (i : grid0.Coords) (k0_t1 : Fin k0_t1_loop.trips) (c0_i32_78 : BitVec 32) : Fin 4 → Nat :=
  let c1 : Index := 1#32
  let c7_i32_77 : BitVec 32 := 7#32
  let arg1 : BitVec 32 := BitVec.ofNat 32 (i 1).val
  let c8_i32_35 : BitVec 32 := 8#32
  let v36 : BitVec 32 := Scalar.muli arg1 c8_i32_35
  let c0_i32 : BitVec 32 := 0#32
  let c1_i32 : BitVec 32 := 1#32
  let arg17 : BitVec 32 := Scf.iv c0_i32 c1_i32 k0_t1
  let v37 : BitVec 32 := Scalar.addi v36 arg17
  let c56_i32 : BitVec 32 := 56#32
  let c0_i32_36 : BitVec 32 := 0#32
  let c4_i32 : BitVec 32 := 4#32
  let v38 : BitVec 32 := Scalar.subi v37 c4_i32
  let v39 : BitVec 32 := Scalar.maxsi c0_i32_36 v38
  let v40 : BitVec 32 := Scalar.minsi c56_i32 v39
  let v46 : BitVec 32 := Scalar.subi v37 v40
  let v119 : BitVec 32 := Scalar.subi c7_i32_77 v46
  let v120 : BitVec 32 := Scalar.addi v119 c0_i32_78
  let v121 : Index := Scalar.indexCast v120
  let c0_79 : Index := 0#32
  let c0_80 : Index := 0#32
  ![1, v121.toNat, 0, 0]
def k0_off9 (k0_t1 : Fin k0_t1_loop.trips) : Fin 3 → Nat :=
  let c0_105 : Index := 0#32
  let c0_i32 : BitVec 32 := 0#32
  let c1_i32 : BitVec 32 := 1#32
  let arg17 : BitVec 32 := Scf.iv c0_i32 c1_i32 k0_t1
  let c64_i32_40 : BitVec 32 := 64#32
  let v47 : BitVec 32 := Scalar.muli arg17 c64_i32_40
  let v48 : BitVec 32 := v47
  let v157 : Index := Scalar.indexCast v48
  let c256 : Index := 256#32
  ![0, v157.toNat, 256]
def k0_off10 (i : grid0.Coords) (k0_t1 : Fin k0_t1_loop.trips) : Fin 2 → Nat :=
  let c56_i32 : BitVec 32 := 56#32
  let c0_i32_36 : BitVec 32 := 0#32
  let arg1 : BitVec 32 := BitVec.ofNat 32 (i 1).val
  let c8_i32_35 : BitVec 32 := 8#32
  let v36 : BitVec 32 := Scalar.muli arg1 c8_i32_35
  let c0_i32 : BitVec 32 := 0#32
  let c1_i32 : BitVec 32 := 1#32
  let arg17 : BitVec 32 := Scf.iv c0_i32 c1_i32 k0_t1
  let v37 : BitVec 32 := Scalar.addi v36 arg17
  let c4_i32 : BitVec 32 := 4#32
  let v38 : BitVec 32 := Scalar.subi v37 c4_i32
  let v39 : BitVec 32 := Scalar.maxsi c0_i32_36 v38
  let v40 : BitVec 32 := Scalar.minsi c56_i32 v39
  let c8_i32_37 : BitVec 32 := 8#32
  let v41 : BitVec 32 := Scalar.muli arg1 c8_i32_37
  let v42 : BitVec 32 := Scalar.subi v40 v41
  let c8_i32_38 : BitVec 32 := 8#32
  let v43 : BitVec 32 := Scalar.addi v42 c8_i32_38
  let c64_i32_39 : BitVec 32 := 64#32
  let v44 : BitVec 32 := Scalar.muli v43 c64_i32_39
  let v45 : BitVec 32 := v44
  let v170 : Index := Scalar.indexCast v45
  let c256_108 : Index := 256#32
  ![v170.toNat, 256]
def k0_off11 (i : grid0.Coords) (k0_t1 : Fin k0_t1_loop.trips) (c0_i32_111 : BitVec 32) : Fin 4 → Nat :=
  let c2 : Index := 2#32
  let c7_i32_110 : BitVec 32 := 7#32
  let arg1 : BitVec 32 := BitVec.ofNat 32 (i 1).val
  let c8_i32_35 : BitVec 32 := 8#32
  let v36 : BitVec 32 := Scalar.muli arg1 c8_i32_35
  let c0_i32 : BitVec 32 := 0#32
  let c1_i32 : BitVec 32 := 1#32
  let arg17 : BitVec 32 := Scf.iv c0_i32 c1_i32 k0_t1
  let v37 : BitVec 32 := Scalar.addi v36 arg17
  let c56_i32 : BitVec 32 := 56#32
  let c0_i32_36 : BitVec 32 := 0#32
  let c4_i32 : BitVec 32 := 4#32
  let v38 : BitVec 32 := Scalar.subi v37 c4_i32
  let v39 : BitVec 32 := Scalar.maxsi c0_i32_36 v38
  let v40 : BitVec 32 := Scalar.minsi c56_i32 v39
  let v46 : BitVec 32 := Scalar.subi v37 v40
  let v173 : BitVec 32 := Scalar.subi c7_i32_110 v46
  let v174 : BitVec 32 := Scalar.addi v173 c0_i32_111
  let v175 : Index := Scalar.indexCast v174
  let c0_112 : Index := 0#32
  let c0_113 : Index := 0#32
  ![2, v175.toNat, 0, 0]
def k0_off12 (k0_t1 : Fin k0_t1_loop.trips) : Fin 3 → Nat :=
  let c0_138 : Index := 0#32
  let c0_i32 : BitVec 32 := 0#32
  let c1_i32 : BitVec 32 := 1#32
  let arg17 : BitVec 32 := Scf.iv c0_i32 c1_i32 k0_t1
  let c64_i32_40 : BitVec 32 := 64#32
  let v47 : BitVec 32 := Scalar.muli arg17 c64_i32_40
  let v48 : BitVec 32 := v47
  let v211 : Index := Scalar.indexCast v48
  let c384 : Index := 384#32
  ![0, v211.toNat, 384]
def k0_off13 (i : grid0.Coords) (k0_t1 : Fin k0_t1_loop.trips) : Fin 2 → Nat :=
  let c56_i32 : BitVec 32 := 56#32
  let c0_i32_36 : BitVec 32 := 0#32
  let arg1 : BitVec 32 := BitVec.ofNat 32 (i 1).val
  let c8_i32_35 : BitVec 32 := 8#32
  let v36 : BitVec 32 := Scalar.muli arg1 c8_i32_35
  let c0_i32 : BitVec 32 := 0#32
  let c1_i32 : BitVec 32 := 1#32
  let arg17 : BitVec 32 := Scf.iv c0_i32 c1_i32 k0_t1
  let v37 : BitVec 32 := Scalar.addi v36 arg17
  let c4_i32 : BitVec 32 := 4#32
  let v38 : BitVec 32 := Scalar.subi v37 c4_i32
  let v39 : BitVec 32 := Scalar.maxsi c0_i32_36 v38
  let v40 : BitVec 32 := Scalar.minsi c56_i32 v39
  let c8_i32_37 : BitVec 32 := 8#32
  let v41 : BitVec 32 := Scalar.muli arg1 c8_i32_37
  let v42 : BitVec 32 := Scalar.subi v40 v41
  let c8_i32_38 : BitVec 32 := 8#32
  let v43 : BitVec 32 := Scalar.addi v42 c8_i32_38
  let c64_i32_39 : BitVec 32 := 64#32
  let v44 : BitVec 32 := Scalar.muli v43 c64_i32_39
  let v45 : BitVec 32 := v44
  let v224 : Index := Scalar.indexCast v45
  let c384_141 : Index := 384#32
  ![v224.toNat, 384]
def k0_off14 (i : grid0.Coords) (k0_t1 : Fin k0_t1_loop.trips) (c0_i32_144 : BitVec 32) : Fin 4 → Nat :=
  let c3 : Index := 3#32
  let c7_i32_143 : BitVec 32 := 7#32
  let arg1 : BitVec 32 := BitVec.ofNat 32 (i 1).val
  let c8_i32_35 : BitVec 32 := 8#32
  let v36 : BitVec 32 := Scalar.muli arg1 c8_i32_35
  let c0_i32 : BitVec 32 := 0#32
  let c1_i32 : BitVec 32 := 1#32
  let arg17 : BitVec 32 := Scf.iv c0_i32 c1_i32 k0_t1
  let v37 : BitVec 32 := Scalar.addi v36 arg17
  let c56_i32 : BitVec 32 := 56#32
  let c0_i32_36 : BitVec 32 := 0#32
  let c4_i32 : BitVec 32 := 4#32
  let v38 : BitVec 32 := Scalar.subi v37 c4_i32
  let v39 : BitVec 32 := Scalar.maxsi c0_i32_36 v38
  let v40 : BitVec 32 := Scalar.minsi c56_i32 v39
  let v46 : BitVec 32 := Scalar.subi v37 v40
  let v227 : BitVec 32 := Scalar.subi c7_i32_143 v46
  let v228 : BitVec 32 := Scalar.addi v227 c0_i32_144
  let v229 : Index := Scalar.indexCast v228
  let c0_145 : Index := 0#32
  let c0_146 : Index := 0#32
  ![3, v229.toNat, 0, 0]
def k0_off15 (k0_t1 : Fin k0_t1_loop.trips) : Fin 3 → Nat :=
  let c0_170 : Index := 0#32
  let c0_i32 : BitVec 32 := 0#32
  let c1_i32 : BitVec 32 := 1#32
  let arg17 : BitVec 32 := Scf.iv c0_i32 c1_i32 k0_t1
  let c64_i32_40 : BitVec 32 := 64#32
  let v47 : BitVec 32 := Scalar.muli arg17 c64_i32_40
  let v48 : BitVec 32 := v47
  let v265 : Index := Scalar.indexCast v48
  let c512_171 : Index := 512#32
  ![0, v265.toNat, 512]
def k0_off16 (i : grid0.Coords) (k0_t1 : Fin k0_t1_loop.trips) : Fin 2 → Nat :=
  let c56_i32 : BitVec 32 := 56#32
  let c0_i32_36 : BitVec 32 := 0#32
  let arg1 : BitVec 32 := BitVec.ofNat 32 (i 1).val
  let c8_i32_35 : BitVec 32 := 8#32
  let v36 : BitVec 32 := Scalar.muli arg1 c8_i32_35
  let c0_i32 : BitVec 32 := 0#32
  let c1_i32 : BitVec 32 := 1#32
  let arg17 : BitVec 32 := Scf.iv c0_i32 c1_i32 k0_t1
  let v37 : BitVec 32 := Scalar.addi v36 arg17
  let c4_i32 : BitVec 32 := 4#32
  let v38 : BitVec 32 := Scalar.subi v37 c4_i32
  let v39 : BitVec 32 := Scalar.maxsi c0_i32_36 v38
  let v40 : BitVec 32 := Scalar.minsi c56_i32 v39
  let c8_i32_37 : BitVec 32 := 8#32
  let v41 : BitVec 32 := Scalar.muli arg1 c8_i32_37
  let v42 : BitVec 32 := Scalar.subi v40 v41
  let c8_i32_38 : BitVec 32 := 8#32
  let v43 : BitVec 32 := Scalar.addi v42 c8_i32_38
  let c64_i32_39 : BitVec 32 := 64#32
  let v44 : BitVec 32 := Scalar.muli v43 c64_i32_39
  let v45 : BitVec 32 := v44
  let v278 : Index := Scalar.indexCast v45
  let c512_174 : Index := 512#32
  ![v278.toNat, 512]
def k0_off17 (i : grid0.Coords) (k0_t1 : Fin k0_t1_loop.trips) (c0_i32_177 : BitVec 32) : Fin 4 → Nat :=
  let c4 : Index := 4#32
  let c7_i32_176 : BitVec 32 := 7#32
  let arg1 : BitVec 32 := BitVec.ofNat 32 (i 1).val
  let c8_i32_35 : BitVec 32 := 8#32
  let v36 : BitVec 32 := Scalar.muli arg1 c8_i32_35
  let c0_i32 : BitVec 32 := 0#32
  let c1_i32 : BitVec 32 := 1#32
  let arg17 : BitVec 32 := Scf.iv c0_i32 c1_i32 k0_t1
  let v37 : BitVec 32 := Scalar.addi v36 arg17
  let c56_i32 : BitVec 32 := 56#32
  let c0_i32_36 : BitVec 32 := 0#32
  let c4_i32 : BitVec 32 := 4#32
  let v38 : BitVec 32 := Scalar.subi v37 c4_i32
  let v39 : BitVec 32 := Scalar.maxsi c0_i32_36 v38
  let v40 : BitVec 32 := Scalar.minsi c56_i32 v39
  let v46 : BitVec 32 := Scalar.subi v37 v40
  let v281 : BitVec 32 := Scalar.subi c7_i32_176 v46
  let v282 : BitVec 32 := Scalar.addi v281 c0_i32_177
  let v283 : Index := Scalar.indexCast v282
  let c0_178 : Index := 0#32
  let c0_179 : Index := 0#32
  ![4, v283.toNat, 0, 0]
def k0_off18 (k0_t1 : Fin k0_t1_loop.trips) : Fin 3 → Nat :=
  let c0_204 : Index := 0#32
  let c0_i32 : BitVec 32 := 0#32
  let c1_i32 : BitVec 32 := 1#32
  let arg17 : BitVec 32 := Scf.iv c0_i32 c1_i32 k0_t1
  let c64_i32_40 : BitVec 32 := 64#32
  let v47 : BitVec 32 := Scalar.muli arg17 c64_i32_40
  let v48 : BitVec 32 := v47
  let v319 : Index := Scalar.indexCast v48
  let c640 : Index := 640#32
  ![0, v319.toNat, 640]
def k0_off19 (i : grid0.Coords) (k0_t1 : Fin k0_t1_loop.trips) : Fin 2 → Nat :=
  let c56_i32 : BitVec 32 := 56#32
  let c0_i32_36 : BitVec 32 := 0#32
  let arg1 : BitVec 32 := BitVec.ofNat 32 (i 1).val
  let c8_i32_35 : BitVec 32 := 8#32
  let v36 : BitVec 32 := Scalar.muli arg1 c8_i32_35
  let c0_i32 : BitVec 32 := 0#32
  let c1_i32 : BitVec 32 := 1#32
  let arg17 : BitVec 32 := Scf.iv c0_i32 c1_i32 k0_t1
  let v37 : BitVec 32 := Scalar.addi v36 arg17
  let c4_i32 : BitVec 32 := 4#32
  let v38 : BitVec 32 := Scalar.subi v37 c4_i32
  let v39 : BitVec 32 := Scalar.maxsi c0_i32_36 v38
  let v40 : BitVec 32 := Scalar.minsi c56_i32 v39
  let c8_i32_37 : BitVec 32 := 8#32
  let v41 : BitVec 32 := Scalar.muli arg1 c8_i32_37
  let v42 : BitVec 32 := Scalar.subi v40 v41
  let c8_i32_38 : BitVec 32 := 8#32
  let v43 : BitVec 32 := Scalar.addi v42 c8_i32_38
  let c64_i32_39 : BitVec 32 := 64#32
  let v44 : BitVec 32 := Scalar.muli v43 c64_i32_39
  let v45 : BitVec 32 := v44
  let v332 : Index := Scalar.indexCast v45
  let c640_207 : Index := 640#32
  ![v332.toNat, 640]
def k0_off20 (i : grid0.Coords) (k0_t1 : Fin k0_t1_loop.trips) (c0_i32_210 : BitVec 32) : Fin 4 → Nat :=
  let c5 : Index := 5#32
  let c7_i32_209 : BitVec 32 := 7#32
  let arg1 : BitVec 32 := BitVec.ofNat 32 (i 1).val
  let c8_i32_35 : BitVec 32 := 8#32
  let v36 : BitVec 32 := Scalar.muli arg1 c8_i32_35
  let c0_i32 : BitVec 32 := 0#32
  let c1_i32 : BitVec 32 := 1#32
  let arg17 : BitVec 32 := Scf.iv c0_i32 c1_i32 k0_t1
  let v37 : BitVec 32 := Scalar.addi v36 arg17
  let c56_i32 : BitVec 32 := 56#32
  let c0_i32_36 : BitVec 32 := 0#32
  let c4_i32 : BitVec 32 := 4#32
  let v38 : BitVec 32 := Scalar.subi v37 c4_i32
  let v39 : BitVec 32 := Scalar.maxsi c0_i32_36 v38
  let v40 : BitVec 32 := Scalar.minsi c56_i32 v39
  let v46 : BitVec 32 := Scalar.subi v37 v40
  let v335 : BitVec 32 := Scalar.subi c7_i32_209 v46
  let v336 : BitVec 32 := Scalar.addi v335 c0_i32_210
  let v337 : Index := Scalar.indexCast v336
  let c0_211 : Index := 0#32
  let c0_212 : Index := 0#32
  ![5, v337.toNat, 0, 0]
@[reducible] def k0_t2_loop : Scf.Loop 32 :=
  let c0_i32_28 : BitVec 32 := 0#32
  let c48_i32 : BitVec 32 := 48#32
  let v34 : BitVec 32 := Scalar.addi c0_i32_28 c48_i32
  let c1_i32_29 : BitVec 32 := 1#32
  ⟨c0_i32_28, v34, c1_i32_29⟩
def k0_off21 (k0_t2 : Fin k0_t2_loop.trips) : Fin 3 → Nat :=
  let c0_i32_28 : BitVec 32 := 0#32
  let c1_i32_29 : BitVec 32 := 1#32
  let arg17 : BitVec 32 := Scf.iv c0_i32_28 c1_i32_29 k0_t2
  let v36 : Index := Scalar.indexCast arg17
  let c0_35 : Index := 0#32
  let c0_36 : Index := 0#32
  ![v36.toNat, 0, 0]
def k0_off22 (k0_t2 : Fin k0_t2_loop.trips) : Fin 3 → Nat :=
  let c0_i32_28 : BitVec 32 := 0#32
  let c1_i32_29 : BitVec 32 := 1#32
  let arg17 : BitVec 32 := Scf.iv c0_i32_28 c1_i32_29 k0_t2
  let v39 : Index := Scalar.indexCast arg17
  let c0_37 : Index := 0#32
  let c0_38 : Index := 0#32
  ![v39.toNat, 0, 0]
@[reducible] def k0_t3_loop : Scf.Loop 32 :=
  let c0_i32_31 : BitVec 32 := 0#32
  let c8_i32_32 : BitVec 32 := 8#32
  let v35 : BitVec 32 := Scalar.addi c0_i32_31 c8_i32_32
  let c1_i32_33 : BitVec 32 := 1#32
  ⟨c0_i32_31, v35, c1_i32_33⟩
def k0_mult3 (i : grid0.Coords) (k0_t3 : Fin k0_t3_loop.trips) : BitVec 32 :=
  let c56_i32 : BitVec 32 := 56#32
  let c0_i32_36 : BitVec 32 := 0#32
  let arg1 : BitVec 32 := BitVec.ofNat 32 (i 1).val
  let c8_i32_35 : BitVec 32 := 8#32
  let v36 : BitVec 32 := Scalar.muli arg1 c8_i32_35
  let c0_i32_31 : BitVec 32 := 0#32
  let c1_i32_33 : BitVec 32 := 1#32
  let arg17 : BitVec 32 := Scf.iv c0_i32_31 c1_i32_33 k0_t3
  let v37 : BitVec 32 := Scalar.addi v36 arg17
  let c4_i32 : BitVec 32 := 4#32
  let v38 : BitVec 32 := Scalar.subi v37 c4_i32
  let v39 : BitVec 32 := Scalar.maxsi c0_i32_36 v38
  let v40 : BitVec 32 := Scalar.minsi c56_i32 v39
  let c8_i32_37 : BitVec 32 := 8#32
  let v41 : BitVec 32 := Scalar.muli arg1 c8_i32_37
  let v42 : BitVec 32 := Scalar.subi v40 v41
  let c8_i32_38 : BitVec 32 := 8#32
  let v43 : BitVec 32 := Scalar.addi v42 c8_i32_38
  let c64_i32_39 : BitVec 32 := 64#32
  let v44 : BitVec 32 := Scalar.muli v43 c64_i32_39
  v44
def k0_mult4 (k0_t3 : Fin k0_t3_loop.trips) : BitVec 32 :=
  let c0_i32_31 : BitVec 32 := 0#32
  let c1_i32_33 : BitVec 32 := 1#32
  let arg17 : BitVec 32 := Scf.iv c0_i32_31 c1_i32_33 k0_t3
  let c64_i32_40 : BitVec 32 := 64#32
  let v46 : BitVec 32 := Scalar.muli arg17 c64_i32_40
  v46
def k0_off23 (k0_t3 : Fin k0_t3_loop.trips) (c0_i32_41 : BitVec 32) : Fin 3 → Nat :=
  let c0_i32_31 : BitVec 32 := 0#32
  let c1_i32_33 : BitVec 32 := 1#32
  let arg17 : BitVec 32 := Scf.iv c0_i32_31 c1_i32_33 k0_t3
  let c6_i32 : BitVec 32 := 6#32
  let v48 : BitVec 32 := Scalar.muli arg17 c6_i32
  let v49 : BitVec 32 := Scalar.addi v48 c0_i32_41
  let v50 : Index := Scalar.indexCast v49
  let c0_42 : Index := 0#32
  let c0_43 : Index := 0#32
  ![v50.toNat, 0, 0]
def k0_off24 (i : grid0.Coords) (k0_t3 : Fin k0_t3_loop.trips) : Fin 2 → Nat :=
  let c56_i32 : BitVec 32 := 56#32
  let c0_i32_36 : BitVec 32 := 0#32
  let arg1 : BitVec 32 := BitVec.ofNat 32 (i 1).val
  let c8_i32_35 : BitVec 32 := 8#32
  let v36 : BitVec 32 := Scalar.muli arg1 c8_i32_35
  let c0_i32_31 : BitVec 32 := 0#32
  let c1_i32_33 : BitVec 32 := 1#32
  let arg17 : BitVec 32 := Scf.iv c0_i32_31 c1_i32_33 k0_t3
  let v37 : BitVec 32 := Scalar.addi v36 arg17
  let c4_i32 : BitVec 32 := 4#32
  let v38 : BitVec 32 := Scalar.subi v37 c4_i32
  let v39 : BitVec 32 := Scalar.maxsi c0_i32_36 v38
  let v40 : BitVec 32 := Scalar.minsi c56_i32 v39
  let c8_i32_37 : BitVec 32 := 8#32
  let v41 : BitVec 32 := Scalar.muli arg1 c8_i32_37
  let v42 : BitVec 32 := Scalar.subi v40 v41
  let c8_i32_38 : BitVec 32 := 8#32
  let v43 : BitVec 32 := Scalar.addi v42 c8_i32_38
  let c64_i32_39 : BitVec 32 := 64#32
  let v44 : BitVec 32 := Scalar.muli v43 c64_i32_39
  let v45 : BitVec 32 := v44
  let v53 : Index := Scalar.indexCast v45
  let c0_44 : Index := 0#32
  ![v53.toNat, 0]
def k0_off25 (k0_t3 : Fin k0_t3_loop.trips) (c0_i32_41 : BitVec 32) : Fin 3 → Nat :=
  let c0_i32_31 : BitVec 32 := 0#32
  let c1_i32_33 : BitVec 32 := 1#32
  let arg17 : BitVec 32 := Scf.iv c0_i32_31 c1_i32_33 k0_t3
  let c6_i32 : BitVec 32 := 6#32
  let v48 : BitVec 32 := Scalar.muli arg17 c6_i32
  let v49 : BitVec 32 := Scalar.addi v48 c0_i32_41
  let v56 : Index := Scalar.indexCast v49
  let c0_45 : Index := 0#32
  let c0_46 : Index := 0#32
  ![v56.toNat, 0, 0]
def k0_off26 (k0_t3 : Fin k0_t3_loop.trips) : Fin 3 → Nat :=
  let c0_47 : Index := 0#32
  let c0_i32_31 : BitVec 32 := 0#32
  let c1_i32_33 : BitVec 32 := 1#32
  let arg17 : BitVec 32 := Scf.iv c0_i32_31 c1_i32_33 k0_t3
  let c64_i32_40 : BitVec 32 := 64#32
  let v46 : BitVec 32 := Scalar.muli arg17 c64_i32_40
  let v47 : BitVec 32 := v46
  let v66 : Index := Scalar.indexCast v47
  let c0_48 : Index := 0#32
  ![0, v66.toNat, 0]
def k0_off27 (i : grid0.Coords) (k0_t3 : Fin k0_t3_loop.trips) : Fin 2 → Nat :=
  let c56_i32 : BitVec 32 := 56#32
  let c0_i32_36 : BitVec 32 := 0#32
  let arg1 : BitVec 32 := BitVec.ofNat 32 (i 1).val
  let c8_i32_35 : BitVec 32 := 8#32
  let v36 : BitVec 32 := Scalar.muli arg1 c8_i32_35
  let c0_i32_31 : BitVec 32 := 0#32
  let c1_i32_33 : BitVec 32 := 1#32
  let arg17 : BitVec 32 := Scf.iv c0_i32_31 c1_i32_33 k0_t3
  let v37 : BitVec 32 := Scalar.addi v36 arg17
  let c4_i32 : BitVec 32 := 4#32
  let v38 : BitVec 32 := Scalar.subi v37 c4_i32
  let v39 : BitVec 32 := Scalar.maxsi c0_i32_36 v38
  let v40 : BitVec 32 := Scalar.minsi c56_i32 v39
  let c8_i32_37 : BitVec 32 := 8#32
  let v41 : BitVec 32 := Scalar.muli arg1 c8_i32_37
  let v42 : BitVec 32 := Scalar.subi v40 v41
  let c8_i32_38 : BitVec 32 := 8#32
  let v43 : BitVec 32 := Scalar.addi v42 c8_i32_38
  let c64_i32_39 : BitVec 32 := 64#32
  let v44 : BitVec 32 := Scalar.muli v43 c64_i32_39
  let v45 : BitVec 32 := v44
  let v75 : Index := Scalar.indexCast v45
  let c128 : Index := 128#32
  ![v75.toNat, 128]
def k0_off28 (k0_t3 : Fin k0_t3_loop.trips) : Fin 3 → Nat :=
  let c0_56 : Index := 0#32
  let c0_i32_31 : BitVec 32 := 0#32
  let c1_i32_33 : BitVec 32 := 1#32
  let arg17 : BitVec 32 := Scf.iv c0_i32_31 c1_i32_33 k0_t3
  let c64_i32_40 : BitVec 32 := 64#32
  let v46 : BitVec 32 := Scalar.muli arg17 c64_i32_40
  let v47 : BitVec 32 := v46
  let v88 : Index := Scalar.indexCast v47
  let c128_57 : Index := 128#32
  ![0, v88.toNat, 128]
def k0_off29 (i : grid0.Coords) (k0_t3 : Fin k0_t3_loop.trips) : Fin 2 → Nat :=
  let c56_i32 : BitVec 32 := 56#32
  let c0_i32_36 : BitVec 32 := 0#32
  let arg1 : BitVec 32 := BitVec.ofNat 32 (i 1).val
  let c8_i32_35 : BitVec 32 := 8#32
  let v36 : BitVec 32 := Scalar.muli arg1 c8_i32_35
  let c0_i32_31 : BitVec 32 := 0#32
  let c1_i32_33 : BitVec 32 := 1#32
  let arg17 : BitVec 32 := Scf.iv c0_i32_31 c1_i32_33 k0_t3
  let v37 : BitVec 32 := Scalar.addi v36 arg17
  let c4_i32 : BitVec 32 := 4#32
  let v38 : BitVec 32 := Scalar.subi v37 c4_i32
  let v39 : BitVec 32 := Scalar.maxsi c0_i32_36 v38
  let v40 : BitVec 32 := Scalar.minsi c56_i32 v39
  let c8_i32_37 : BitVec 32 := 8#32
  let v41 : BitVec 32 := Scalar.muli arg1 c8_i32_37
  let v42 : BitVec 32 := Scalar.subi v40 v41
  let c8_i32_38 : BitVec 32 := 8#32
  let v43 : BitVec 32 := Scalar.addi v42 c8_i32_38
  let c64_i32_39 : BitVec 32 := 64#32
  let v44 : BitVec 32 := Scalar.muli v43 c64_i32_39
  let v45 : BitVec 32 := v44
  let v97 : Index := Scalar.indexCast v45
  let c256 : Index := 256#32
  ![v97.toNat, 256]
def k0_off30 (k0_t3 : Fin k0_t3_loop.trips) : Fin 3 → Nat :=
  let c0_64 : Index := 0#32
  let c0_i32_31 : BitVec 32 := 0#32
  let c1_i32_33 : BitVec 32 := 1#32
  let arg17 : BitVec 32 := Scf.iv c0_i32_31 c1_i32_33 k0_t3
  let c64_i32_40 : BitVec 32 := 64#32
  let v46 : BitVec 32 := Scalar.muli arg17 c64_i32_40
  let v47 : BitVec 32 := v46
  let v110 : Index := Scalar.indexCast v47
  let c256_65 : Index := 256#32
  ![0, v110.toNat, 256]
def k0_off31 (i : grid0.Coords) (k0_t3 : Fin k0_t3_loop.trips) : Fin 2 → Nat :=
  let c56_i32 : BitVec 32 := 56#32
  let c0_i32_36 : BitVec 32 := 0#32
  let arg1 : BitVec 32 := BitVec.ofNat 32 (i 1).val
  let c8_i32_35 : BitVec 32 := 8#32
  let v36 : BitVec 32 := Scalar.muli arg1 c8_i32_35
  let c0_i32_31 : BitVec 32 := 0#32
  let c1_i32_33 : BitVec 32 := 1#32
  let arg17 : BitVec 32 := Scf.iv c0_i32_31 c1_i32_33 k0_t3
  let v37 : BitVec 32 := Scalar.addi v36 arg17
  let c4_i32 : BitVec 32 := 4#32
  let v38 : BitVec 32 := Scalar.subi v37 c4_i32
  let v39 : BitVec 32 := Scalar.maxsi c0_i32_36 v38
  let v40 : BitVec 32 := Scalar.minsi c56_i32 v39
  let c8_i32_37 : BitVec 32 := 8#32
  let v41 : BitVec 32 := Scalar.muli arg1 c8_i32_37
  let v42 : BitVec 32 := Scalar.subi v40 v41
  let c8_i32_38 : BitVec 32 := 8#32
  let v43 : BitVec 32 := Scalar.addi v42 c8_i32_38
  let c64_i32_39 : BitVec 32 := 64#32
  let v44 : BitVec 32 := Scalar.muli v43 c64_i32_39
  let v45 : BitVec 32 := v44
  let v119 : Index := Scalar.indexCast v45
  let c384 : Index := 384#32
  ![v119.toNat, 384]
def k0_off32 (k0_t3 : Fin k0_t3_loop.trips) : Fin 3 → Nat :=
  let c0_72 : Index := 0#32
  let c0_i32_31 : BitVec 32 := 0#32
  let c1_i32_33 : BitVec 32 := 1#32
  let arg17 : BitVec 32 := Scf.iv c0_i32_31 c1_i32_33 k0_t3
  let c64_i32_40 : BitVec 32 := 64#32
  let v46 : BitVec 32 := Scalar.muli arg17 c64_i32_40
  let v47 : BitVec 32 := v46
  let v132 : Index := Scalar.indexCast v47
  let c384_73 : Index := 384#32
  ![0, v132.toNat, 384]
def k0_off33 (i : grid0.Coords) (k0_t3 : Fin k0_t3_loop.trips) : Fin 2 → Nat :=
  let c56_i32 : BitVec 32 := 56#32
  let c0_i32_36 : BitVec 32 := 0#32
  let arg1 : BitVec 32 := BitVec.ofNat 32 (i 1).val
  let c8_i32_35 : BitVec 32 := 8#32
  let v36 : BitVec 32 := Scalar.muli arg1 c8_i32_35
  let c0_i32_31 : BitVec 32 := 0#32
  let c1_i32_33 : BitVec 32 := 1#32
  let arg17 : BitVec 32 := Scf.iv c0_i32_31 c1_i32_33 k0_t3
  let v37 : BitVec 32 := Scalar.addi v36 arg17
  let c4_i32 : BitVec 32 := 4#32
  let v38 : BitVec 32 := Scalar.subi v37 c4_i32
  let v39 : BitVec 32 := Scalar.maxsi c0_i32_36 v38
  let v40 : BitVec 32 := Scalar.minsi c56_i32 v39
  let c8_i32_37 : BitVec 32 := 8#32
  let v41 : BitVec 32 := Scalar.muli arg1 c8_i32_37
  let v42 : BitVec 32 := Scalar.subi v40 v41
  let c8_i32_38 : BitVec 32 := 8#32
  let v43 : BitVec 32 := Scalar.addi v42 c8_i32_38
  let c64_i32_39 : BitVec 32 := 64#32
  let v44 : BitVec 32 := Scalar.muli v43 c64_i32_39
  let v45 : BitVec 32 := v44
  let v141 : Index := Scalar.indexCast v45
  let c512_78 : Index := 512#32
  ![v141.toNat, 512]
def k0_off34 (k0_t3 : Fin k0_t3_loop.trips) : Fin 3 → Nat :=
  let c0_82 : Index := 0#32
  let c0_i32_31 : BitVec 32 := 0#32
  let c1_i32_33 : BitVec 32 := 1#32
  let arg17 : BitVec 32 := Scf.iv c0_i32_31 c1_i32_33 k0_t3
  let c64_i32_40 : BitVec 32 := 64#32
  let v46 : BitVec 32 := Scalar.muli arg17 c64_i32_40
  let v47 : BitVec 32 := v46
  let v154 : Index := Scalar.indexCast v47
  let c512_83 : Index := 512#32
  ![0, v154.toNat, 512]
def k0_off35 (i : grid0.Coords) (k0_t3 : Fin k0_t3_loop.trips) : Fin 2 → Nat :=
  let c56_i32 : BitVec 32 := 56#32
  let c0_i32_36 : BitVec 32 := 0#32
  let arg1 : BitVec 32 := BitVec.ofNat 32 (i 1).val
  let c8_i32_35 : BitVec 32 := 8#32
  let v36 : BitVec 32 := Scalar.muli arg1 c8_i32_35
  let c0_i32_31 : BitVec 32 := 0#32
  let c1_i32_33 : BitVec 32 := 1#32
  let arg17 : BitVec 32 := Scf.iv c0_i32_31 c1_i32_33 k0_t3
  let v37 : BitVec 32 := Scalar.addi v36 arg17
  let c4_i32 : BitVec 32 := 4#32
  let v38 : BitVec 32 := Scalar.subi v37 c4_i32
  let v39 : BitVec 32 := Scalar.maxsi c0_i32_36 v38
  let v40 : BitVec 32 := Scalar.minsi c56_i32 v39
  let c8_i32_37 : BitVec 32 := 8#32
  let v41 : BitVec 32 := Scalar.muli arg1 c8_i32_37
  let v42 : BitVec 32 := Scalar.subi v40 v41
  let c8_i32_38 : BitVec 32 := 8#32
  let v43 : BitVec 32 := Scalar.addi v42 c8_i32_38
  let c64_i32_39 : BitVec 32 := 64#32
  let v44 : BitVec 32 := Scalar.muli v43 c64_i32_39
  let v45 : BitVec 32 := v44
  let v163 : Index := Scalar.indexCast v45
  let c640 : Index := 640#32
  ![v163.toNat, 640]
def k0_off36 (k0_t3 : Fin k0_t3_loop.trips) : Fin 3 → Nat :=
  let c0_90 : Index := 0#32
  let c0_i32_31 : BitVec 32 := 0#32
  let c1_i32_33 : BitVec 32 := 1#32
  let arg17 : BitVec 32 := Scf.iv c0_i32_31 c1_i32_33 k0_t3
  let c64_i32_40 : BitVec 32 := 64#32
  let v46 : BitVec 32 := Scalar.muli arg17 c64_i32_40
  let v47 : BitVec 32 := v46
  let v176 : Index := Scalar.indexCast v47
  let c640_91 : Index := 640#32
  ![0, v176.toNat, 640]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![arg0.toNat, v2.toNat, c0_i32_1.toNat]

def cc0_transform_1 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c7_i32 : BitVec 32 := 7#32
  let v1 : BitVec 32 := Scalar.maxsi c0_i32 v0
  let v2 : BitVec 32 := Scalar.minsi c7_i32 v1
  let c1_i32 : BitVec 32 := 1#32
  let c0_i32_0 : BitVec 32 := 0#32
  ![arg0.toNat, v2.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c1_i32 : BitVec 32 := 1#32
  let c0_i32_1 : BitVec 32 := 0#32
  ![arg0.toNat, v2.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c7_i32 : BitVec 32 := 7#32
  let v1 : BitVec 32 := Scalar.maxsi c0_i32 v0
  let v2 : BitVec 32 := Scalar.minsi c7_i32 v1
  let c1_i32_0 : BitVec 32 := 1#32
  let c0_i32_1 : BitVec 32 := 0#32
  ![arg0.toNat, v2.toNat, c1_i32_0.toNat]

def cc0_transform_4 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c7_i32 : BitVec 32 := 7#32
  let v1 : BitVec 32 := Scalar.maxsi c0_i32 v0
  let v2 : BitVec 32 := Scalar.minsi c7_i32 v1
  let c2_i32 : BitVec 32 := 2#32
  let c0_i32_0 : BitVec 32 := 0#32
  ![arg0.toNat, v2.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c2_i32 : BitVec 32 := 2#32
  let c0_i32_1 : BitVec 32 := 0#32
  ![arg0.toNat, v2.toNat, c2_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c7_i32 : BitVec 32 := 7#32
  let v1 : BitVec 32 := Scalar.maxsi c0_i32 v0
  let v2 : BitVec 32 := Scalar.minsi c7_i32 v1
  let c2_i32 : BitVec 32 := 2#32
  let c0_i32_0 : BitVec 32 := 0#32
  ![arg0.toNat, v2.toNat, c2_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S6x14x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16x4096x2560 : Shape := ⟨3, ![16, 4096, 2560]⟩
abbrev S12x15x31 : Shape := ⟨3, ![12, 15, 31]⟩
abbrev S16x4096x768 : Shape := ⟨3, ![16, 4096, 768]⟩
abbrev S16x256x16x12x64 : Shape := ⟨5, ![16, 256, 16, 12, 64]⟩
abbrev S_ : Shape := ⟨0, ![]⟩
abbrev S16x4096x12x64 : Shape := ⟨4, ![16, 4096, 12, 64]⟩
abbrev S64 : Shape := ⟨1, ![64]⟩
abbrev S4x16 : Shape := ⟨2, ![4, 16]⟩
abbrev S4 : Shape := ⟨1, ![4]⟩
abbrev S4x1 : Shape := ⟨2, ![4, 1]⟩
abbrev S32 : Shape := ⟨1, ![32]⟩
abbrev S1x32 : Shape := ⟨2, ![1, 32]⟩
abbrev S4x32 : Shape := ⟨2, ![4, 32]⟩
abbrev S4x1x32 : Shape := ⟨3, ![4, 1, 32]⟩
abbrev S4x16x1 : Shape := ⟨3, ![4, 16, 1]⟩
abbrev S4x16x32 : Shape := ⟨3, ![4, 16, 32]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S64x1x8x1 : Shape := ⟨4, ![64, 1, 8, 1]⟩
abbrev S1x4x1x32 : Shape := ⟨4, ![1, 4, 1, 32]⟩
abbrev S64x4x8x32 : Shape := ⟨4, ![64, 4, 8, 32]⟩
abbrev S256x256 : Shape := ⟨2, ![256, 256]⟩
abbrev S64x1x1x8x1 : Shape := ⟨5, ![64, 1, 1, 8, 1]⟩
abbrev S4x16x1x32 : Shape := ⟨4, ![4, 16, 1, 32]⟩
abbrev S1x4x16x1x32 : Shape := ⟨5, ![1, 4, 16, 1, 32]⟩
abbrev S64x4x16x8x32 : Shape := ⟨5, ![64, 4, 16, 8, 32]⟩
abbrev S256x16x256 : Shape := ⟨3, ![256, 16, 256]⟩
abbrev S256x256x1 : Shape := ⟨3, ![256, 256, 1]⟩
abbrev S16x256x256x12x64 : Shape := ⟨5, ![16, 256, 256, 12, 64]⟩
abbrev S12x465 : Shape := ⟨2, ![12, 465]⟩
abbrev S256x16x256x1 : Shape := ⟨4, ![256, 16, 256, 1]⟩
abbrev S12x256x16x256 : Shape := ⟨4, ![12, 256, 16, 256]⟩
abbrev S16x256x12x16x256 : Shape := ⟨5, ![16, 256, 12, 16, 256]⟩
abbrev S256x12x16x256 : Shape := ⟨4, ![256, 12, 16, 256]⟩
abbrev S1x256x12x16x256 : Shape := ⟨5, ![1, 256, 12, 16, 256]⟩
abbrev S256x1x16x256 : Shape := ⟨4, ![256, 1, 16, 256]⟩
abbrev S16x256x12x16 : Shape := ⟨4, ![16, 256, 12, 16]⟩
abbrev S16x256x12x16x1 : Shape := ⟨5, ![16, 256, 12, 16, 1]⟩
abbrev S16x256x12x64x16 : Shape := ⟨5, ![16, 256, 12, 64, 16]⟩

abbrev nBuf : Space → Nat
  | .hbm => 185
  | .vmem => 0
  | .smem => 0
  | _ => 0

abbrev hbmTy0_0 (i : Nat) : BufTy := match i % 128 with
  | 0 => ⟨S16x4096x2560, .bf16⟩
  | 1 => ⟨S12x15x31, .f32⟩
  | 2 => ⟨S16x4096x2560, .f32⟩
  | 3 => ⟨S16x4096x768, .f32⟩
  | 4 => ⟨S16x4096x768, .f32⟩
  | 5 => ⟨S16x4096x768, .f32⟩
  | 6 => ⟨S16x256x16x12x64, .f32⟩
  | 7 => ⟨S_, .f32⟩
  | 8 => ⟨S16x256x16x12x64, .f32⟩
  | 9 => ⟨S16x256x16x12x64, .f32⟩
  | 10 => ⟨S16x4096x12x64, .f32⟩
  | 11 => ⟨S16x4096x12x64, .f32⟩
  | 12 => ⟨S64, .i32⟩
  | 13 => ⟨S4x16, .i32⟩
  | 14 => ⟨S_, .i32⟩
  | 15 => ⟨S4x16, .i32⟩
  | 16 => ⟨S4x16, .i32⟩
  | 17 => ⟨S_, .i32⟩
  | 18 => ⟨S_, .i32⟩
  | 19 => ⟨S_, .i32⟩
  | 20 => ⟨S4x16, .i32⟩
  | 21 => ⟨S4x16, .i32⟩
  | 22 => ⟨S_, .i32⟩
  | 23 => ⟨S4x16, .i32⟩
  | 24 => ⟨S4x16, .i32⟩
  | 25 => ⟨S4, .i32⟩
  | 26 => ⟨S_, .i32⟩
  | 27 => ⟨S4, .i32⟩
  | 28 => ⟨S4, .i32⟩
  | 29 => ⟨S_, .i32⟩
  | 30 => ⟨S4, .i32⟩
  | 31 => ⟨S4, .i32⟩
  | 32 => ⟨S_, .i32⟩
  | 33 => ⟨S_, .i32⟩
  | 34 => ⟨S_, .i32⟩
  | 35 => ⟨S4, .i32⟩
  | 36 => ⟨S4, .i32⟩
  | 37 => ⟨S_, .i32⟩
  | 38 => ⟨S4, .i32⟩
  | 39 => ⟨S4, .i32⟩
  | 40 => ⟨S4x1, .i32⟩
  | 41 => ⟨S32, .i32⟩
  | 42 => ⟨S1x32, .i32⟩
  | 43 => ⟨S4x32, .i32⟩
  | 44 => ⟨S4x32, .i32⟩
  | 45 => ⟨S4x32, .i32⟩
  | 46 => ⟨S4x1x32, .i32⟩
  | 47 => ⟨S4x16x1, .i32⟩
  | 48 => ⟨S4x16x32, .i32⟩
  | 49 => ⟨S4x16x32, .i32⟩
  | 50 => ⟨S4x16x32, .i1⟩
  | 51 => ⟨S4x16x1, .i32⟩
  | 52 => ⟨S_, .i32⟩
  | 53 => ⟨S4x16x1, .i32⟩
  | 54 => ⟨S4x16x1, .i32⟩
  | 55 => ⟨S4x16x32, .i32⟩
  | 56 => ⟨S4x16x32, .i32⟩
  | 57 => ⟨S4x16x32, .i1⟩
  | 58 => ⟨S4x16x32, .i1⟩
  | 59 => ⟨S4x16x1, .i32⟩
  | 60 => ⟨S4x16x32, .i32⟩
  | 61 => ⟨S4x16x32, .i32⟩
  | 62 => ⟨S4x16x32, .i32⟩
  | 63 => ⟨S_, .i32⟩
  | 64 => ⟨S4x16x32, .i32⟩
  | 65 => ⟨S4x16x32, .i32⟩
  | 66 => ⟨S_, .i32⟩
  | 67 => ⟨S4x16x32, .i32⟩
  | 68 => ⟨S4x16x32, .i32⟩
  | 69 => ⟨S_, .i32⟩
  | 70 => ⟨S_, .i32⟩
  | 71 => ⟨S_, .i32⟩
  | 72 => ⟨S4x16x32, .i32⟩
  | 73 => ⟨S4x16x32, .i32⟩
  | 74 => ⟨S_, .i32⟩
  | 75 => ⟨S4x16x32, .i32⟩
  | 76 => ⟨S4x16x32, .i32⟩
  | 77 => ⟨S64, .i32⟩
  | 78 => ⟨S_, .i32⟩
  | 79 => ⟨S64, .i32⟩
  | 80 => ⟨S64, .i32⟩
  | 81 => ⟨S_, .i32⟩
  | 82 => ⟨S_, .i32⟩
  | 83 => ⟨S_, .i32⟩
  | 84 => ⟨S64, .i32⟩
  | 85 => ⟨S64, .i32⟩
  | 86 => ⟨S_, .i32⟩
  | 87 => ⟨S64, .i32⟩
  | 88 => ⟨S64, .i32⟩
  | 89 => ⟨S64x1, .i32⟩
  | 90 => ⟨S8, .i32⟩
  | 91 => ⟨S1x8, .i32⟩
  | 92 => ⟨S64x8, .i32⟩
  | 93 => ⟨S64x8, .i32⟩
  | 94 => ⟨S64x8, .i32⟩
  | 95 => ⟨S64x1, .i32⟩
  | 96 => ⟨S64x8, .i32⟩
  | 97 => ⟨S64x8, .i32⟩
  | 98 => ⟨S_, .i32⟩
  | 99 => ⟨S64x8, .i32⟩
  | 100 => ⟨S64x8, .i32⟩
  | 101 => ⟨S_, .i32⟩
  | 102 => ⟨S64x8, .i32⟩
  | 103 => ⟨S64x8, .i32⟩
  | 104 => ⟨S64x1x8x1, .i32⟩
  | 105 => ⟨S_, .i32⟩
  | 106 => ⟨S64x1x8x1, .i32⟩
  | 107 => ⟨S64x1x8x1, .i32⟩
  | 108 => ⟨S4x1x32, .i32⟩
  | 109 => ⟨S1x4x1x32, .i32⟩
  | 110 => ⟨S64x4x8x32, .i32⟩
  | 111 => ⟨S64x4x8x32, .i32⟩
  | 112 => ⟨S64x4x8x32, .i32⟩
  | 113 => ⟨S256x256, .i32⟩
  | 114 => ⟨S64x1x8x1, .i32⟩
  | 115 => ⟨S_, .i32⟩
  | 116 => ⟨S64x1x8x1, .i32⟩
  | 117 => ⟨S64x1x8x1, .i32⟩
  | 118 => ⟨S64x1x1x8x1, .i32⟩
  | 119 => ⟨S4x16x1x32, .i32⟩
  | 120 => ⟨S1x4x16x1x32, .i32⟩
  | 121 => ⟨S64x4x16x8x32, .i32⟩
  | 122 => ⟨S64x4x16x8x32, .i32⟩
  | 123 => ⟨S64x4x16x8x32, .i32⟩
  | 124 => ⟨S256x16x256, .i32⟩
  | 125 => ⟨S4x16x1x32, .i1⟩
  | 126 => ⟨S64x4x16x8x32, .i1⟩
  | 127 => ⟨S256x16x256, .i1⟩
  | _ => ⟨S16x4096x2560, .bf16⟩

abbrev hbmTy0_1 (i : Nat) : BufTy := match i % 128 with
  | 0 => ⟨S_, .i32⟩
  | 1 => ⟨S256x256, .i32⟩
  | 2 => ⟨S256x256, .i1⟩
  | 3 => ⟨S_, .i32⟩
  | 4 => ⟨S256x256, .i32⟩
  | 5 => ⟨S256x256, .i32⟩
  | 6 => ⟨S256x256, .i32⟩
  | 7 => ⟨S256x256x1, .i32⟩
  | 8 => ⟨S16x256x256x12x64, .f32⟩
  | 9 => ⟨S_, .i32⟩
  | 10 => ⟨S256x256, .i32⟩
  | 11 => ⟨S256x256, .i1⟩
  | 12 => ⟨S_, .i32⟩
  | 13 => ⟨S256x256, .i32⟩
  | 14 => ⟨S256x256, .i32⟩
  | 15 => ⟨S256x256, .i32⟩
  | 16 => ⟨S256x256x1, .i32⟩
  | 17 => ⟨S16x256x256x12x64, .f32⟩
  | 18 => ⟨S12x465, .f32⟩
  | 19 => ⟨S_, .i32⟩
  | 20 => ⟨S256x16x256, .i32⟩
  | 21 => ⟨S256x16x256, .i1⟩
  | 22 => ⟨S_, .i32⟩
  | 23 => ⟨S256x16x256, .i32⟩
  | 24 => ⟨S256x16x256, .i32⟩
  | 25 => ⟨S256x16x256, .i32⟩
  | 26 => ⟨S256x16x256x1, .i32⟩
  | 27 => ⟨S12x256x16x256, .f32⟩
  | 28 => ⟨S16x256x12x16x256, .f32⟩
  | 29 => ⟨S256x12x16x256, .f32⟩
  | 30 => ⟨S1x256x12x16x256, .f32⟩
  | 31 => ⟨S16x256x12x16x256, .f32⟩
  | 32 => ⟨S16x256x12x16x256, .f32⟩
  | 33 => ⟨S256x1x16x256, .i1⟩
  | 34 => ⟨S_, .f32⟩
  | 35 => ⟨S_, .f32⟩
  | 36 => ⟨S16x256x12x16x256, .i1⟩
  | 37 => ⟨S16x256x12x16x256, .f32⟩
  | 38 => ⟨S16x256x12x16x256, .f32⟩
  | 39 => ⟨S_, .f32⟩
  | 40 => ⟨S16x256x12x16, .f32⟩
  | 41 => ⟨S_, .f32⟩
  | 42 => ⟨S16x256x12x16, .f32⟩
  | 43 => ⟨S16x256x12x16, .f32⟩
  | 44 => ⟨S16x256x12x16x1, .f32⟩
  | 45 => ⟨S16x256x12x16x256, .f32⟩
  | 46 => ⟨S16x256x12x16x256, .f32⟩
  | 47 => ⟨S16x256x12x16x256, .f32⟩
  | 48 => ⟨S_, .f32⟩
  | 49 => ⟨S16x256x12x16, .f32⟩
  | 50 => ⟨S16x256x12x16x1, .f32⟩
  | 51 => ⟨S16x256x12x16x256, .f32⟩
  | 52 => ⟨S16x256x12x16x256, .f32⟩
  | 53 => ⟨S16x256x12x64x16, .f32⟩
  | 54 => ⟨S16x256x16x12x64, .f32⟩
  | 55 => ⟨S16x4096x768, .f32⟩
  | 56 => ⟨S16x4096x768, .bf16⟩
  | _ => ⟨S16x4096x2560, .bf16⟩

abbrev hbmTy (i : Nat) : BufTy := match i / 128 with
  | 0 => hbmTy0_0 i
  | 1 => hbmTy0_1 i
  | _ => ⟨S16x4096x2560, .bf16⟩

abbrev bufTy : (tb : Table) → Fin (tcTables nBuf tb) → BufTy
  | .hbm, ⟨i, _⟩ => hbmTy i
  | _, _ => ⟨S16x4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_c_5 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_c_10 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_v46 : Ref sig .tc := ⟨.hbm, 76, rfl⟩
abbrev main_v47 : Ref sig .tc := ⟨.hbm, 77, rfl⟩
abbrev main_c_11 : Ref sig .tc := ⟨.hbm, 78, rfl⟩
abbrev main_v48 : Ref sig .tc := ⟨.hbm, 79, rfl⟩
abbrev main_v49 : Ref sig .tc := ⟨.hbm, 80, rfl⟩
abbrev main_c_12 : Ref sig .tc := ⟨.hbm, 81, rfl⟩
abbrev main_c_13 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_14 : Ref sig .tc := ⟨.hbm, 98, rfl⟩
abbrev main_v60 : Ref sig .tc := ⟨.hbm, 99, rfl⟩
abbrev main_v61 : Ref sig .tc := ⟨.hbm, 100, rfl⟩
abbrev main_c_15 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_c_16 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_17 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_18 : Ref sig .tc := ⟨.hbm, 128, rfl⟩
abbrev main_v86 : Ref sig .tc := ⟨.hbm, 129, rfl⟩
abbrev main_v87 : Ref sig .tc := ⟨.hbm, 130, rfl⟩
abbrev main_c_19 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_20 : Ref sig .tc := ⟨.hbm, 137, rfl⟩
abbrev main_v93 : Ref sig .tc := ⟨.hbm, 138, rfl⟩
abbrev main_v94 : Ref sig .tc := ⟨.hbm, 139, rfl⟩
abbrev main_c_21 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_c_22 : Ref sig .tc := ⟨.hbm, 147, rfl⟩
abbrev main_v101 : Ref sig .tc := ⟨.hbm, 148, rfl⟩
abbrev main_v102 : Ref sig .tc := ⟨.hbm, 149, rfl⟩
abbrev main_c_23 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_24 : Ref sig .tc := ⟨.hbm, 162, rfl⟩
abbrev main_call4_v0 : Ref sig .tc := ⟨.hbm, 163, rfl⟩
abbrev main_call4_v1 : Ref sig .tc := ⟨.hbm, 164, rfl⟩
abbrev main_call4_v2 : Ref sig .tc := ⟨.hbm, 165, rfl⟩
abbrev main_v114 : Ref sig .tc := ⟨.hbm, 166, rfl⟩
abbrev main_cst_25 : Ref sig .tc := ⟨.hbm, 167, rfl⟩
abbrev main_v115 : Ref sig .tc := ⟨.hbm, 168, rfl⟩
abbrev main_cst_26 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_27 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩

abbrev nD : Nat := 1
abbrev τ : Topo := Topo.v7x

variable {F : FTy → Type} [FloatOps F]
-- ==== Kernel2.lean ====
abbrev S16x4096x1024 : Shape := ⟨3, ![16, 4096, 1024]⟩
abbrev S16x4096x768 : Shape := ⟨3, ![16, 4096, 768]⟩
abbrev S16x4096x4096 : Shape := ⟨3, ![16, 4096, 4096]⟩
abbrev S16x256x512 : Shape := ⟨3, ![16, 256, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S128 : Shape := ⟨1, ![128]⟩
abbrev S1x1024 : Shape := ⟨2, ![1, 1024]⟩
abbrev S1x128 : Shape := ⟨2, ![1, 128]⟩
abbrev S1x512x1024 : Shape := ⟨3, ![1, 512, 1024]⟩
abbrev S1x512x768 : Shape := ⟨3, ![1, 512, 768]⟩
abbrev S1x512x256 : Shape := ⟨3, ![1, 512, 256]⟩
abbrev S1x256x512 : Shape := ⟨3, ![1, 256, 512]⟩
abbrev S512x256 : Shape := ⟨2, ![512, 256]⟩
abbrev S512x768 : Shape := ⟨2, ![512, 768]⟩
abbrev S512x128 : Shape := ⟨2, ![512, 128]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S256x128 : Shape := ⟨2, ![256, 128]⟩
abbrev S1x256x128 : Shape := ⟨3, ![1, 256, 128]⟩
abbrev S256x256 : Shape := ⟨2, ![256, 256]⟩
abbrev S768x1024 : Shape := ⟨2, ![768, 1024]⟩
abbrev S512x1024 : Shape := ⟨2, ![512, 1024]⟩
abbrev S256 : Shape := ⟨1, ![256]⟩
abbrev S256x1 : Shape := ⟨2, ![256, 1]⟩
abbrev S256x1024 : Shape := ⟨2, ![256, 1024]⟩

abbrev nBuf : Space → Nat
  | .hbm => 22
  | .vmem => 23
  | .smem => 0
  | _ => 0

abbrev bufTy : (tb : Table) → Fin (tcTables nBuf tb) → BufTy
  | .hbm, ⟨0, _⟩ => ⟨S16x4096x1024, .f32⟩
  | .hbm, ⟨1, _⟩ => ⟨S16x4096x768, .bf16⟩
  | .hbm, ⟨2, _⟩ => ⟨S16x4096x768, .bf16⟩
  | .hbm, ⟨3, _⟩ => ⟨S16x4096x4096, .bf16⟩
  | .hbm, ⟨4, _⟩ => ⟨S16x256x512, .bf16⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S1024, .f32⟩
  | .hbm, ⟨12, _⟩ => ⟨S128, .f32⟩
  | .hbm, ⟨13, _⟩ => ⟨S1024x1024, .bf16⟩
  | .hbm, ⟨14, _⟩ => ⟨S1024x4096, .bf16⟩
  | .hbm, ⟨15, _⟩ => ⟨S4096x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x128, .f32⟩
  | .hbm, ⟨21, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x768, .bf16⟩
  | .local _ .vmem, ⟨3, _⟩ => ⟨S1x512x768, .bf16⟩
  | .local _ .vmem, ⟨4, _⟩ => ⟨S1x512x768, .bf16⟩
  | .local _ .vmem, ⟨5, _⟩ => ⟨S1x512x768, .bf16⟩
  | .local _ .vmem, ⟨6, _⟩ => ⟨S1x512x768, .bf16⟩
  | .local _ .vmem, ⟨7, _⟩ => ⟨S1x512x768, .bf16⟩
  | .local _ .vmem, ⟨8, _⟩ => ⟨S1x128, .f32⟩
  | .local _ .vmem, ⟨9, _⟩ => ⟨S1x512x256, .bf16⟩
  | .local _ .vmem, ⟨10, _⟩ => ⟨S1x512x256, .bf16⟩
  | .local _ .vmem, ⟨11, _⟩ => ⟨S1x256x512, .bf16⟩
  | .local _ .vmem, ⟨12, _⟩ => ⟨S1x256x512, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S1x1024, .f32⟩
  | .local _ .vmem, ⟨20, _⟩ => ⟨S1x512x1024, .f32⟩
  | .local _ .vmem, ⟨21, _⟩ => ⟨S1x512x1024, .f32⟩
  | .local _ .vmem, ⟨22, _⟩ => ⟨S512x256, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let c0_i32 : BitVec 32 := 0#32
  ![arg0.toNat, arg1.toNat, c15_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel2Ideal.lean ====
abbrev S16x4096x1024 : Shape := ⟨3, ![16, 4096, 1024]⟩
abbrev S16x4096x768 : Shape := ⟨3, ![16, 4096, 768]⟩
abbrev S16x4096x4096 : Shape := ⟨3, ![16, 4096, 4096]⟩
abbrev S16x256x512 : Shape := ⟨3, ![16, 256, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S128 : Shape := ⟨1, ![128]⟩
abbrev S1x1024 : Shape := ⟨2, ![1, 1024]⟩
abbrev S1x128 : Shape := ⟨2, ![1, 128]⟩
abbrev S1x512x1024 : Shape := ⟨3, ![1, 512, 1024]⟩
abbrev S1x512x768 : Shape := ⟨3, ![1, 512, 768]⟩
abbrev S1x512x256 : Shape := ⟨3, ![1, 512, 256]⟩
abbrev S1x256x512 : Shape := ⟨3, ![1, 256, 512]⟩
abbrev S512x256 : Shape := ⟨2, ![512, 256]⟩
abbrev S512x768 : Shape := ⟨2, ![512, 768]⟩
abbrev S512x128 : Shape := ⟨2, ![512, 128]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S256x128 : Shape := ⟨2, ![256, 128]⟩
abbrev S1x256x128 : Shape := ⟨3, ![1, 256, 128]⟩
abbrev S256x256 : Shape := ⟨2, ![256, 256]⟩
abbrev S768x1024 : Shape := ⟨2, ![768, 1024]⟩
abbrev S512x1024 : Shape := ⟨2, ![512, 1024]⟩
abbrev S256 : Shape := ⟨1, ![256]⟩
abbrev S256x1 : Shape := ⟨2, ![256, 1]⟩
abbrev S256x1024 : Shape := ⟨2, ![256, 1024]⟩

abbrev nBuf : Space → Nat
  | .hbm => 22
  | .vmem => 23
  | .smem => 0
  | _ => 0

abbrev bufTy : (tb : Table) → Fin (tcTables nBuf tb) → BufTy
  | .hbm, ⟨0, _⟩ => ⟨S16x4096x1024, .f32⟩
  | .hbm, ⟨1, _⟩ => ⟨S16x4096x768, .bf16⟩
  | .hbm, ⟨2, _⟩ => ⟨S16x4096x768, .bf16⟩
  | .hbm, ⟨3, _⟩ => ⟨S16x4096x4096, .bf16⟩
  | .hbm, ⟨4, _⟩ => ⟨S16x256x512, .bf16⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S1024, .f32⟩
  | .hbm, ⟨12, _⟩ => ⟨S128, .f32⟩
  | .hbm, ⟨13, _⟩ => ⟨S1024x1024, .bf16⟩
  | .hbm, ⟨14, _⟩ => ⟨S1024x4096, .bf16⟩
  | .hbm, ⟨15, _⟩ => ⟨S4096x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x128, .f32⟩
  | .hbm, ⟨21, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x768, .bf16⟩
  | .local _ .vmem, ⟨3, _⟩ => ⟨S1x512x768, .bf16⟩
  | .local _ .vmem, ⟨4, _⟩ => ⟨S1x512x768, .bf16⟩
  | .local _ .vmem, ⟨5, _⟩ => ⟨S1x512x768, .bf16⟩
  | .local _ .vmem, ⟨6, _⟩ => ⟨S1x512x768, .bf16⟩
  | .local _ .vmem, ⟨7, _⟩ => ⟨S1x512x768, .bf16⟩
  | .local _ .vmem, ⟨8, _⟩ => ⟨S1x128, .f32⟩
  | .local _ .vmem, ⟨9, _⟩ => ⟨S1x512x256, .bf16⟩
  | .local _ .vmem, ⟨10, _⟩ => ⟨S1x512x256, .bf16⟩
  | .local _ .vmem, ⟨11, _⟩ => ⟨S1x256x512, .bf16⟩
  | .local _ .vmem, ⟨12, _⟩ => ⟨S1x256x512, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S1x1024, .f32⟩
  | .local _ .vmem, ⟨20, _⟩ => ⟨S1x512x1024, .f32⟩
  | .local _ .vmem, ⟨21, _⟩ => ⟨S1x512x1024, .f32⟩
  | .local _ .vmem, ⟨22, _⟩ => ⟨S512x256, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let c0_i32 : BitVec 32 := 0#32
  ![arg0.toNat, arg1.toNat, c15_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S16x4096x1024 : Shape := ⟨3, ![16, 4096, 1024]⟩
abbrev S16x4096x768 : Shape := ⟨3, ![16, 4096, 768]⟩
abbrev S16x4096x4096 : Shape := ⟨3, ![16, 4096, 4096]⟩
abbrev S16x256x512 : Shape := ⟨3, ![16, 256, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S128 : Shape := ⟨1, ![128]⟩
abbrev S16x4096x256 : Shape := ⟨3, ![16, 4096, 256]⟩
abbrev S16x256x256 : Shape := ⟨3, ![16, 256, 256]⟩
abbrev S16x4096x6x128 : Shape := ⟨4, ![16, 4096, 6, 128]⟩
abbrev S_ : Shape := ⟨0, ![]⟩
abbrev S16x4096x6 : Shape := ⟨3, ![16, 4096, 6]⟩
abbrev S16x4096x6x1 : Shape := ⟨4, ![16, 4096, 6, 1]⟩
abbrev S1x1x1x128 : Shape := ⟨4, ![1, 1, 1, 128]⟩
abbrev S16x4096x4x64 : Shape := ⟨4, ![16, 4096, 4, 64]⟩
abbrev S16x256x4x64 : Shape := ⟨4, ![16, 256, 4, 64]⟩
abbrev S16x4x4096x256 : Shape := ⟨4, ![16, 4, 4096, 256]⟩
abbrev S16x4x4096 : Shape := ⟨3, ![16, 4, 4096]⟩
abbrev S16x4x4096x1 : Shape := ⟨4, ![16, 4, 4096, 1]⟩
abbrev S16x4x64x4096 : Shape := ⟨4, ![16, 4, 64, 4096]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 150
  | .vmem => 0
  | .smem => 0
  | _ => 0

abbrev hbmTy0_0 (i : Nat) : BufTy := match i % 128 with
  | 0 => ⟨S16x4096x1024, .f32⟩
  | 1 => ⟨S16x4096x768, .bf16⟩
  | 2 => ⟨S16x4096x768, .bf16⟩
  | 3 => ⟨S16x4096x4096, .bf16⟩
  | 4 => ⟨S16x256x512, .bf16⟩
  | 5 => ⟨S1024x1024, .f32⟩
  | 6 => ⟨S1024, .f32⟩
  | 7 => ⟨S1024, .f32⟩
  | 8 => ⟨S1024x4096, .f32⟩
  | 9 => ⟨S4096x1024, .f32⟩
  | 10 => ⟨S1024, .f32⟩
  | 11 => ⟨S1024, .f32⟩
  | 12 => ⟨S128, .f32⟩
  | 13 => ⟨S16x4096x768, .bf16⟩
  | 14 => ⟨S16x4096x768, .f32⟩
  | 15 => ⟨S16x4096x256, .bf16⟩
  | 16 => ⟨S16x4096x256, .f32⟩
  | 17 => ⟨S16x256x256, .bf16⟩
  | 18 => ⟨S16x256x256, .f32⟩
  | 19 => ⟨S16x256x256, .bf16⟩
  | 20 => ⟨S16x256x256, .f32⟩
  | 21 => ⟨S16x4096x768, .f32⟩
  | 22 => ⟨S16x4096x768, .f32⟩
  | 23 => ⟨S16x4096x768, .f32⟩
  | 24 => ⟨S16x4096x6x128, .f32⟩
  | 25 => ⟨S16x4096x6x128, .f32⟩
  | 26 => ⟨S_, .f32⟩
  | 27 => ⟨S16x4096x6, .f32⟩
  | 28 => ⟨S16x4096x6x1, .f32⟩
  | 29 => ⟨S_, .f32⟩
  | 30 => ⟨S16x4096x6x1, .f32⟩
  | 31 => ⟨S16x4096x6x1, .f32⟩
  | 32 => ⟨S_, .f32⟩
  | 33 => ⟨S16x4096x6x1, .f32⟩
  | 34 => ⟨S16x4096x6x1, .f32⟩
  | 35 => ⟨S16x4096x6x1, .f32⟩
  | 36 => ⟨S16x4096x6x128, .f32⟩
  | 37 => ⟨S16x4096x6x128, .f32⟩
  | 38 => ⟨S1x1x1x128, .f32⟩
  | 39 => ⟨S16x4096x6x128, .f32⟩
  | 40 => ⟨S16x4096x6x128, .f32⟩
  | 41 => ⟨S16x4096x768, .f32⟩
  | 42 => ⟨S16x4096x768, .f32⟩
  | 43 => ⟨S16x4096x768, .f32⟩
  | 44 => ⟨S_, .f32⟩
  | 45 => ⟨S16x4096x768, .f32⟩
  | 46 => ⟨S16x4096x768, .f32⟩
  | 47 => ⟨S_, .f32⟩
  | 48 => ⟨S16x4096x768, .f32⟩
  | 49 => ⟨S16x4096x768, .f32⟩
  | 50 => ⟨S16x4096x768, .f32⟩
  | 51 => ⟨S16x4096x768, .f32⟩
  | 52 => ⟨S16x4096x4x64, .f32⟩
  | 53 => ⟨S_, .f32⟩
  | 54 => ⟨S16x4096x4x64, .f32⟩
  | 55 => ⟨S16x4096x4x64, .f32⟩
  | 56 => ⟨S16x256x4x64, .f32⟩
  | 57 => ⟨S16x256x4x64, .f32⟩
  | 58 => ⟨S16x4x4096x256, .f32⟩
  | 59 => ⟨S_, .f32⟩
  | 60 => ⟨S16x4x4096, .f32⟩
  | 61 => ⟨S_, .f32⟩
  | 62 => ⟨S16x4x4096, .f32⟩
  | 63 => ⟨S16x4x4096, .f32⟩
  | 64 => ⟨S16x4x4096x1, .f32⟩
  | 65 => ⟨S16x4x4096x256, .f32⟩
  | 66 => ⟨S16x4x4096x256, .f32⟩
  | 67 => ⟨S16x4x4096x256, .f32⟩
  | 68 => ⟨S_, .f32⟩
  | 69 => ⟨S16x4x4096, .f32⟩
  | 70 => ⟨S16x4x4096x1, .f32⟩
  | 71 => ⟨S16x4x4096x256, .f32⟩
  | 72 => ⟨S16x4x4096x256, .f32⟩
  | 73 => ⟨S16x4x64x4096, .f32⟩
  | 74 => ⟨S16x4096x4x64, .f32⟩
  | 75 => ⟨S16x4096x256, .f32⟩
  | 76 => ⟨S16x4096x1024, .f32⟩
  | 77 => ⟨S16x4096x1024, .f32⟩
  | 78 => ⟨S_, .f32⟩
  | 79 => ⟨S16x4096x1024, .f32⟩
  | 80 => ⟨S16x4096x1024, .f32⟩
  | 81 => ⟨S16x4096x1024, .f32⟩
  | 82 => ⟨S_, .f32⟩
  | 83 => ⟨S16x4096, .f32⟩
  | 84 => ⟨S16x4096x1, .f32⟩
  | 85 => ⟨S_, .f32⟩
  | 86 => ⟨S16x4096x1, .f32⟩
  | 87 => ⟨S16x4096x1, .f32⟩
  | 88 => ⟨S16x4096x1024, .f32⟩
  | 89 => ⟨S16x4096x1024, .f32⟩
  | 90 => ⟨S16x4096x1024, .f32⟩
  | 91 => ⟨S_, .f32⟩
  | 92 => ⟨S16x4096, .f32⟩
  | 93 => ⟨S16x4096x1, .f32⟩
  | 94 => ⟨S_, .f32⟩
  | 95 => ⟨S16x4096x1, .f32⟩
  | 96 => ⟨S16x4096x1, .f32⟩
  | 97 => ⟨S16x4096x1024, .f32⟩
  | 98 => ⟨S16x4096x1024, .f32⟩
  | 99 => ⟨S_, .f32⟩
  | 100 => ⟨S16x4096x1, .f32⟩
  | 101 => ⟨S16x4096x1, .f32⟩
  | 102 => ⟨S16x4096x1, .f32⟩
  | 103 => ⟨S16x4096x1024, .f32⟩
  | 104 => ⟨S16x4096x1024, .f32⟩
  | 105 => ⟨S1x1x1024, .f32⟩
  | 106 => ⟨S16x4096x1024, .f32⟩
  | 107 => ⟨S16x4096x1024, .f32⟩
  | 108 => ⟨S1x1x1024, .f32⟩
  | 109 => ⟨S16x4096x1024, .f32⟩
  | 110 => ⟨S16x4096x1024, .f32⟩
  | 111 => ⟨S16x4096x4096, .f32⟩
  | 112 => ⟨S_, .f32⟩
  | 113 => ⟨S16x4096x4096, .f32⟩
  | 114 => ⟨S16x4096x4096, .f32⟩
  | 115 => ⟨S16x4096x4096, .f32⟩
  | 116 => ⟨S_, .f32⟩
  | 117 => ⟨S16x4096x1024, .f32⟩
  | 118 => ⟨S16x4096x1024, .f32⟩
  | 119 => ⟨S16x4096x1024, .f32⟩
  | 120 => ⟨S16x4096x1024, .f32⟩
  | 121 => ⟨S_, .f32⟩
  | 122 => ⟨S16x4096, .f32⟩
  | 123 => ⟨S16x4096x1, .f32⟩
  | 124 => ⟨S_, .f32⟩
  | 125 => ⟨S16x4096x1, .f32⟩
  | 126 => ⟨S16x4096x1, .f32⟩
  | 127 => ⟨S16x4096x1024, .f32⟩
  | _ => ⟨S16x4096x1024, .f32⟩

abbrev hbmTy0_1 (i : Nat) : BufTy := match i % 128 with
  | 0 => ⟨S16x4096x1024, .f32⟩
  | 1 => ⟨S16x4096x1024, .f32⟩
  | 2 => ⟨S_, .f32⟩
  | 3 => ⟨S16x4096, .f32⟩
  | 4 => ⟨S16x4096x1, .f32⟩
  | 5 => ⟨S_, .f32⟩
  | 6 => ⟨S16x4096x1, .f32⟩
  | 7 => ⟨S16x4096x1, .f32⟩
  | 8 => ⟨S16x4096x1024, .f32⟩
  | 9 => ⟨S16x4096x1024, .f32⟩
  | 10 => ⟨S_, .f32⟩
  | 11 => ⟨S16x4096x1, .f32⟩
  | 12 => ⟨S16x4096x1, .f32⟩
  | 13 => ⟨S16x4096x1, .f32⟩
  | 14 => ⟨S16x4096x1024, .f32⟩
  | 15 => ⟨S16x4096x1024, .f32⟩
  | 16 => ⟨S1x1x1024, .f32⟩
  | 17 => ⟨S16x4096x1024, .f32⟩
  | 18 => ⟨S16x4096x1024, .f32⟩
  | 19 => ⟨S1x1x1024, .f32⟩
  | 20 => ⟨S16x4096x1024, .f32⟩
  | 21 => ⟨S16x4096x1024, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_call1_cst : Ref sig .tc := ⟨.hbm, 112, rfl⟩
abbrev main_call1_v0 : Ref sig .tc := ⟨.hbm, 113, rfl⟩
abbrev main_v78 : Ref sig .tc := ⟨.hbm, 114, rfl⟩
abbrev main_v79 : Ref sig .tc := ⟨.hbm, 115, rfl⟩
abbrev main_cst_12 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_13 : Ref sig .tc := ⟨.hbm, 121, rfl⟩
abbrev main_v84 : Ref sig .tc := ⟨.hbm, 122, rfl⟩
abbrev main_v85 : Ref sig .tc := ⟨.hbm, 123, rfl⟩
abbrev main_cst_14 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_15 : Ref sig .tc := ⟨.hbm, 130, rfl⟩
abbrev main_v91 : Ref sig .tc := ⟨.hbm, 131, rfl⟩
abbrev main_v92 : Ref sig .tc := ⟨.hbm, 132, rfl⟩
abbrev main_cst_16 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_17 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩

abbrev nD : Nat := 1
abbrev τ : Topo := Topo.v7x

variable {F : FTy → Type} [FloatOps F]
-- ==== Kernel3.lean ====
abbrev S16x4096x1024 : Shape := ⟨3, ![16, 4096, 1024]⟩
abbrev S16x4096x768 : Shape := ⟨3, ![16, 4096, 768]⟩
abbrev S16x4096x2560 : Shape := ⟨3, ![16, 4096, 2560]⟩
abbrev S16x256x512 : Shape := ⟨3, ![16, 256, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S1x512x768 : Shape := ⟨3, ![1, 512, 768]⟩
abbrev S1x512x256 : Shape := ⟨3, ![1, 512, 256]⟩
abbrev S1x256x512 : Shape := ⟨3, ![1, 256, 512]⟩
abbrev S512x256 : Shape := ⟨2, ![512, 256]⟩
abbrev S512x768 : Shape := ⟨2, ![512, 768]⟩
abbrev S1x128 : Shape := ⟨2, ![1, 128]⟩
abbrev S1x128x128 : Shape := ⟨3, ![1, 128, 128]⟩
abbrev S128x128 : Shape := ⟨2, ![128, 128]⟩
abbrev S256x128 : Shape := ⟨2, ![256, 128]⟩
abbrev S1x256x128 : Shape := ⟨3, ![1, 256, 128]⟩
abbrev S256x256 : Shape := ⟨2, ![256, 256]⟩
abbrev S768x1024 : Shape := ⟨2, ![768, 1024]⟩
abbrev S512x1024 : Shape := ⟨2, ![512, 1024]⟩
abbrev S256 : Shape := ⟨1, ![256]⟩
abbrev S256x1 : Shape := ⟨2, ![256, 1]⟩
abbrev S256x1024 : Shape := ⟨2, ![256, 1024]⟩
abbrev S512 : Shape := ⟨1, ![512]⟩
abbrev S512x1 : Shape := ⟨2, ![512, 1]⟩

abbrev nBuf : Space → Nat
  | .hbm => 19
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S16x4096x768, .bf16⟩
  | .hbm, ⟨2, _⟩ => ⟨S16x4096x2560, .bf16⟩
  | .hbm, ⟨3, _⟩ => ⟨S16x256x512, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S1024x1024, .bf16⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x768, .bf16⟩
  | .local _ .vmem, ⟨3, _⟩ => ⟨S1x512x768, .bf16⟩
  | .local _ .vmem, ⟨4, _⟩ => ⟨S1x512x256, .bf16⟩
  | .local _ .vmem, ⟨5, _⟩ => ⟨S1x512x256, .bf16⟩
  | .local _ .vmem, ⟨6, _⟩ => ⟨S1x256x512, .bf16⟩
  | .local _ .vmem, ⟨7, _⟩ => ⟨S1x256x512, .bf16⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S512x256, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S16x4096x1024 : Shape := ⟨3, ![16, 4096, 1024]⟩
abbrev S16x4096x768 : Shape := ⟨3, ![16, 4096, 768]⟩
abbrev S16x4096x2560 : Shape := ⟨3, ![16, 4096, 2560]⟩
abbrev S16x256x512 : Shape := ⟨3, ![16, 256, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16x4096x256 : Shape := ⟨3, ![16, 4096, 256]⟩
abbrev S16x256x256 : Shape := ⟨3, ![16, 256, 256]⟩
abbrev S16x4096x4x64 : Shape := ⟨4, ![16, 4096, 4, 64]⟩
abbrev S_ : Shape := ⟨0, ![]⟩
abbrev S16x256x4x64 : Shape := ⟨4, ![16, 256, 4, 64]⟩
abbrev S16x4x4096x256 : Shape := ⟨4, ![16, 4, 4096, 256]⟩
abbrev S16x4x4096 : Shape := ⟨3, ![16, 4, 4096]⟩
abbrev S16x4x4096x1 : Shape := ⟨4, ![16, 4, 4096, 1]⟩
abbrev S16x4x64x4096 : Shape := ⟨4, ![16, 4, 64, 4096]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4096 : Shape := ⟨3, ![16, 4096, 4096]⟩

abbrev nBuf : Space → Nat
  | .hbm => 116
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x768, .bf16⟩
  | .hbm, ⟨2, _⟩ => ⟨S16x4096x2560, .bf16⟩
  | .hbm, ⟨3, _⟩ => ⟨S16x256x512, .bf16⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S16x4096x256, .bf16⟩
  | .hbm, ⟨12, _⟩ => ⟨S16x4096x256, .f32⟩
  | .hbm, ⟨13, _⟩ => ⟨S16x256x256, .bf16⟩
  | .hbm, ⟨14, _⟩ => ⟨S16x256x256, .f32⟩
  | .hbm, ⟨15, _⟩ => ⟨S16x256x256, .bf16⟩
  | .hbm, ⟨16, _⟩ => ⟨S16x256x256, .f32⟩
  | .hbm, ⟨17, _⟩ => ⟨S16x4096x768, .f32⟩
  | .hbm, ⟨18, _⟩ => ⟨S16x4096x4x64, .f32⟩
  | .hbm, ⟨19, _⟩ => ⟨S_, .f32⟩
  | .hbm, ⟨20, _⟩ => ⟨S16x4096x4x64, .f32⟩
  | .hbm, ⟨21, _⟩ => ⟨S16x4096x4x64, .f32⟩
  | .hbm, ⟨22, _⟩ => ⟨S16x256x4x64, .f32⟩
  | .hbm, ⟨23, _⟩ => ⟨S16x256x4x64, .f32⟩
  | .hbm, ⟨24, _⟩ => ⟨S16x4x4096x256, .f32⟩
  | .hbm, ⟨25, _⟩ => ⟨S_, .f32⟩
  | .hbm, ⟨26, _⟩ => ⟨S16x4x4096, .f32⟩
  | .hbm, ⟨27, _⟩ => ⟨S_, .f32⟩
  | .hbm, ⟨28, _⟩ => ⟨S16x4x4096, .f32⟩
  | .hbm, ⟨29, _⟩ => ⟨S16x4x4096, .f32⟩
  | .hbm, ⟨30, _⟩ => ⟨S16x4x4096x1, .f32⟩
  | .hbm, ⟨31, _⟩ => ⟨S16x4x4096x256, .f32⟩
  | .hbm, ⟨32, _⟩ => ⟨S16x4x4096x256, .f32⟩
  | .hbm, ⟨33, _⟩ => ⟨S16x4x4096x256, .f32⟩
  | .hbm, ⟨34, _⟩ => ⟨S_, .f32⟩
  | .hbm, ⟨35, _⟩ => ⟨S16x4x4096, .f32⟩
  | .hbm, ⟨36, _⟩ => ⟨S16x4x4096x1, .f32⟩
  | .hbm, ⟨37, _⟩ => ⟨S16x4x4096x256, .f32⟩
  | .hbm, ⟨38, _⟩ => ⟨S16x4x4096x256, .f32⟩
  | .hbm, ⟨39, _⟩ => ⟨S16x4x64x4096, .f32⟩
  | .hbm, ⟨40, _⟩ => ⟨S16x4096x4x64, .f32⟩
  | .hbm, ⟨41, _⟩ => ⟨S16x4096x256, .f32⟩
  | .hbm, ⟨42, _⟩ => ⟨S16x4096x1024, .f32⟩
  | .hbm, ⟨43, _⟩ => ⟨S16x4096x1024, .f32⟩
  | .hbm, ⟨44, _⟩ => ⟨S_, .f32⟩
  | .hbm, ⟨45, _⟩ => ⟨S16x4096x1024, .f32⟩
  | .hbm, ⟨46, _⟩ => ⟨S16x4096x1024, .f32⟩
  | .hbm, ⟨47, _⟩ => ⟨S16x4096x1024, .f32⟩
  | .hbm, ⟨48, _⟩ => ⟨S_, .f32⟩
  | .hbm, ⟨49, _⟩ => ⟨S16x4096, .f32⟩
  | .hbm, ⟨50, _⟩ => ⟨S16x4096x1, .f32⟩
  | .hbm, ⟨51, _⟩ => ⟨S_, .f32⟩
  | .hbm, ⟨52, _⟩ => ⟨S16x4096x1, .f32⟩
  | .hbm, ⟨53, _⟩ => ⟨S16x4096x1, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | .hbm, ⟨57, _⟩ => ⟨S_, .f32⟩
  | .hbm, ⟨58, _⟩ => ⟨S16x4096, .f32⟩
  | .hbm, ⟨59, _⟩ => ⟨S16x4096x1, .f32⟩
  | .hbm, ⟨60, _⟩ => ⟨S_, .f32⟩
  | .hbm, ⟨61, _⟩ => ⟨S16x4096x1, .f32⟩
  | .hbm, ⟨62, _⟩ => ⟨S16x4096x1, .f32⟩
  | .hbm, ⟨63, _⟩ => ⟨S16x4096x1024, .f32⟩
  | .hbm, ⟨64, _⟩ => ⟨S16x4096x1024, .f32⟩
  | .hbm, ⟨65, _⟩ => ⟨S_, .f32⟩
  | .hbm, ⟨66, _⟩ => ⟨S16x4096x1, .f32⟩
  | .hbm, ⟨67, _⟩ => ⟨S16x4096x1, .f32⟩
  | .hbm, ⟨68, _⟩ => ⟨S16x4096x1, .f32⟩
  | .hbm, ⟨69, _⟩ => ⟨S16x4096x1024, .f32⟩
  | .hbm, ⟨70, _⟩ => ⟨S16x4096x1024, .f32⟩
  | .hbm, ⟨71, _⟩ => ⟨S1x1x1024, .f32⟩
  | .hbm, ⟨72, _⟩ => ⟨S16x4096x1024, .f32⟩
  | .hbm, ⟨73, _⟩ => ⟨S16x4096x1024, .f32⟩
  | .hbm, ⟨74, _⟩ => ⟨S1x1x1024, .f32⟩
  | .hbm, ⟨75, _⟩ => ⟨S16x4096x1024, .f32⟩
  | .hbm, ⟨76, _⟩ => ⟨S16x4096x1024, .f32⟩
  | .hbm, ⟨77, _⟩ => ⟨S16x4096x4096, .f32⟩
  | .hbm, ⟨78, _⟩ => ⟨S_, .f32⟩
  | .hbm, ⟨79, _⟩ => ⟨S16x4096x4096, .f32⟩
  | .hbm, ⟨80, _⟩ => ⟨S16x4096x4096, .f32⟩
  | .hbm, ⟨81, _⟩ => ⟨S16x4096x4096, .f32⟩
  | .hbm, ⟨82, _⟩ => ⟨S_, .f32⟩
  | .hbm, ⟨83, _⟩ => ⟨S16x4096x1024, .f32⟩
  | .hbm, ⟨84, _⟩ => ⟨S16x4096x1024, .f32⟩
  | .hbm, ⟨85, _⟩ => ⟨S16x4096x1024, .f32⟩
  | .hbm, ⟨86, _⟩ => ⟨S16x4096x1024, .f32⟩
  | .hbm, ⟨87, _⟩ => ⟨S_, .f32⟩
  | .hbm, ⟨88, _⟩ => ⟨S16x4096, .f32⟩
  | .hbm, ⟨89, _⟩ => ⟨S16x4096x1, .f32⟩
  | .hbm, ⟨90, _⟩ => ⟨S_, .f32⟩
  | .hbm, ⟨91, _⟩ => ⟨S16x4096x1, .f32⟩
  | .hbm, ⟨92, _⟩ => ⟨S16x4096x1, .f32⟩
  | .hbm, ⟨93, _⟩ => ⟨S16x4096x1024, .f32⟩
  | .hbm, ⟨94, _⟩ => ⟨S16x4096x1024, .f32⟩
  | .hbm, ⟨95, _⟩ => ⟨S16x4096x1024, .f32⟩
  | .hbm, ⟨96, _⟩ => ⟨S_, .f32⟩
  | .hbm, ⟨97, _⟩ => ⟨S16x4096, .f32⟩
  | .hbm, ⟨98, _⟩ => ⟨S16x4096x1, .f32⟩
  | .hbm, ⟨99, _⟩ => ⟨S_, .f32⟩
  | .hbm, ⟨100, _⟩ => ⟨S16x4096x1, .f32⟩
  | .hbm, ⟨101, _⟩ => ⟨S16x4096x1, .f32⟩
  | .hbm, ⟨102, _⟩ => ⟨S16x4096x1024, .f32⟩
  | .hbm, ⟨103, _⟩ => ⟨S16x4096x1024, .f32⟩
  | .hbm, ⟨104, _⟩ => ⟨S_, .f32⟩
  | .hbm, ⟨105, _⟩ => ⟨S16x4096x1, .f32⟩
  | .hbm, ⟨106, _⟩ => ⟨S16x4096x1, .f32⟩
  | .hbm, ⟨107, _⟩ => ⟨S16x4096x1, .f32⟩
  | .hbm, ⟨108, _⟩ => ⟨S16x4096x1024, .f32⟩
  | .hbm, ⟨109, _⟩ => ⟨S16x4096x1024, .f32⟩
  | .hbm, ⟨110, _⟩ => ⟨S1x1x1024, .f32⟩
  | .hbm, ⟨111, _⟩ => ⟨S16x4096x1024, .f32⟩
  | .hbm, ⟨112, _⟩ => ⟨S16x4096x1024, .f32⟩
  | .hbm, ⟨113, _⟩ => ⟨S1x1x1024, .f32⟩
  | .hbm, ⟨114, _⟩ => ⟨S16x4096x1024, .f32⟩
  | .hbm, ⟨115, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_call0_cst : Ref sig .tc := ⟨.hbm, 78, rfl⟩
abbrev main_call0_v0 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_10 : Ref sig .tc := ⟨.hbm, 87, rfl⟩
abbrev main_v63 : Ref sig .tc := ⟨.hbm, 88, rfl⟩
abbrev main_v64 : Ref sig .tc := ⟨.hbm, 89, rfl⟩
abbrev main_cst_11 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_12 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]
-- ==== Kernel4.lean ====
abbrev S16x4096x1024 : Shape := ⟨3, ![16, 4096, 1024]⟩
abbrev S1024x4096 : Shape := ⟨2, ![1024, 4096]⟩
abbrev S65536x1024 : Shape := ⟨2, ![65536, 1024]⟩
abbrev S65536x4096 : Shape := ⟨2, ![65536, 4096]⟩
abbrev S512x1024 : Shape := ⟨2, ![512, 1024]⟩
abbrev S512x4096 : Shape := ⟨2, ![512, 4096]⟩
abbrev S1024x512 : Shape := ⟨2, ![1024, 512]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S16x4096x1024, .f32⟩
  | .hbm, ⟨1, _⟩ => ⟨S1024x4096, .f32⟩
  | .hbm, ⟨2, _⟩ => ⟨S65536x1024, .f32⟩
  | .hbm, ⟨3, _⟩ => ⟨S1024x4096, .bf16⟩
  | .hbm, ⟨4, _⟩ => ⟨S65536x4096, .bf16⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S512x4096, .bf16⟩
  | .local _ .vmem, ⟨4, _⟩ => ⟨S512x4096, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S16x4096x1024 : Shape := ⟨3, ![16, 4096, 1024]⟩
abbrev S1024x4096 : Shape := ⟨2, ![1024, 4096]⟩
abbrev S16x4096x4096 : Shape := ⟨3, ![16, 4096, 4096]⟩
abbrev S65536x4096 : Shape := ⟨2, ![65536, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x4096, .f32⟩
  | .hbm, ⟨2, _⟩ => ⟨S16x4096x4096, .f32⟩
  | .hbm, ⟨3, _⟩ => ⟨S65536x4096, .f32⟩
  | .hbm, ⟨4, _⟩ => ⟨S65536x4096, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S16x4096x1024 : Shape := ⟨3, ![16, 4096, 1024]⟩
abbrev S1024x2560 : Shape := ⟨2, ![1024, 2560]⟩
abbrev S65536x1024 : Shape := ⟨2, ![65536, 1024]⟩
abbrev S65536x2560 : Shape := ⟨2, ![65536, 2560]⟩
abbrev S512x1024 : Shape := ⟨2, ![512, 1024]⟩
abbrev S512x2560 : Shape := ⟨2, ![512, 2560]⟩
abbrev S1024x512 : Shape := ⟨2, ![1024, 512]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S16x4096x1024, .f32⟩
  | .hbm, ⟨1, _⟩ => ⟨S1024x2560, .f32⟩
  | .hbm, ⟨2, _⟩ => ⟨S65536x1024, .f32⟩
  | .hbm, ⟨3, _⟩ => ⟨S1024x2560, .bf16⟩
  | .hbm, ⟨4, _⟩ => ⟨S65536x2560, .bf16⟩
  | .local _ .vmem, ⟨0, _⟩ => ⟨S512x1024, .f32⟩
  | .local _ .vmem, ⟨1, _⟩ => ⟨S512x1024, .f32⟩
  | .local _ .vmem, ⟨2, _⟩ => ⟨S1024x2560, .bf16⟩
  | .local _ .vmem, ⟨3, _⟩ => ⟨S512x2560, .bf16⟩
  | .local _ .vmem, ⟨4, _⟩ => ⟨S512x2560, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S16x4096x1024 : Shape := ⟨3, ![16, 4096, 1024]⟩
abbrev S1024x2560 : Shape := ⟨2, ![1024, 2560]⟩
abbrev S16x4096x2560 : Shape := ⟨3, ![16, 4096, 2560]⟩
abbrev S65536x2560 : Shape := ⟨2, ![65536, 2560]⟩

abbrev nBuf : Space → Nat
  | .hbm => 5
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x2560, .f32⟩
  | .hbm, ⟨2, _⟩ => ⟨S16x4096x2560, .f32⟩
  | .hbm, ⟨3, _⟩ => ⟨S65536x2560, .f32⟩
  | .hbm, ⟨4, _⟩ => ⟨S65536x2560, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S16x256x1024 : Shape := ⟨3, ![16, 256, 1024]⟩
abbrev S1024x512 : Shape := ⟨2, ![1024, 512]⟩
abbrev S4096x1024 : Shape := ⟨2, ![4096, 1024]⟩
abbrev S4096x512 : Shape := ⟨2, ![4096, 512]⟩
abbrev S512x1024 : Shape := ⟨2, ![512, 1024]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S16x256x1024, .f32⟩
  | .hbm, ⟨1, _⟩ => ⟨S1024x512, .f32⟩
  | .hbm, ⟨2, _⟩ => ⟨S4096x1024, .f32⟩
  | .hbm, ⟨3, _⟩ => ⟨S1024x512, .bf16⟩
  | .hbm, ⟨4, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S512x512, .bf16⟩
  | .local _ .vmem, ⟨4, _⟩ => ⟨S512x512, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S16x256x1024 : Shape := ⟨3, ![16, 256, 1024]⟩
abbrev S1024x512 : Shape := ⟨2, ![1024, 512]⟩
abbrev S16x256x512 : Shape := ⟨3, ![16, 256, 512]⟩
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024x512, .f32⟩
  | .hbm, ⟨2, _⟩ => ⟨S16x256x512, .f32⟩
  | .hbm, ⟨3, _⟩ => ⟨S4096x512, .f32⟩
  | .hbm, ⟨4, _⟩ => ⟨S4096x512, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S2x16384x1024 : Shape := ⟨3, ![2, 16384, 1024]⟩
abbrev S2x16384x768 : Shape := ⟨3, ![2, 16384, 768]⟩
abbrev S2x16384x4096 : Shape := ⟨3, ![2, 16384, 4096]⟩
abbrev S2x256x512 : Shape := ⟨3, ![2, 256, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S128 : Shape := ⟨1, ![128]⟩
abbrev S1x1024 : Shape := ⟨2, ![1, 1024]⟩
abbrev S1x128 : Shape := ⟨2, ![1, 128]⟩
abbrev S1x512x1024 : Shape := ⟨3, ![1, 512, 1024]⟩
abbrev S1x512x768 : Shape := ⟨3, ![1, 512, 768]⟩
abbrev S1x512x256 : Shape := ⟨3, ![1, 512, 256]⟩
abbrev S1x256x512 : Shape := ⟨3, ![1, 256, 512]⟩
abbrev S512x256 : Shape := ⟨2, ![512, 256]⟩
abbrev S512x768 : Shape := ⟨2, ![512, 768]⟩
abbrev S512x128 : Shape := ⟨2, ![512, 128]⟩
abbrev S512 : Shape := ⟨1, ![512]⟩
abbrev S512x1 : Shape := ⟨2, ![512, 1]⟩
abbrev S1x128x128 : Shape := ⟨3, ![1, 128, 128]⟩
abbrev S128x128 : Shape := ⟨2, ![128, 128]⟩
abbrev S256x128 : Shape := ⟨2, ![256, 128]⟩
abbrev S1x256x128 : Shape := ⟨3, ![1, 256, 128]⟩
abbrev S256x256 : Shape := ⟨2, ![256, 256]⟩
abbrev S768x1024 : Shape := ⟨2, ![768, 1024]⟩
abbrev S512x1024 : Shape := ⟨2, ![512, 1024]⟩
abbrev S256 : Shape := ⟨1, ![256]⟩
abbrev S256x1 : Shape := ⟨2, ![256, 1]⟩
abbrev S256x1024 : Shape := ⟨2, ![256, 1024]⟩

abbrev nBuf : Space → Nat
  | .hbm => 22
  | .vmem => 23
  | .smem => 0
  | _ => 0

abbrev bufTy : (tb : Table) → Fin (tcTables nBuf tb) → BufTy
  | .hbm, ⟨0, _⟩ => ⟨S2x16384x1024, .f32⟩
  | .hbm, ⟨1, _⟩ => ⟨S2x16384x768, .bf16⟩
  | .hbm, ⟨2, _⟩ => ⟨S2x16384x768, .bf16⟩
  | .hbm, ⟨3, _⟩ => ⟨S2x16384x4096, .bf16⟩
  | .hbm, ⟨4, _⟩ => ⟨S2x256x512, .bf16⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S1024, .f32⟩
  | .hbm, ⟨11, _⟩ => ⟨S1024, .f32⟩
  | .hbm, ⟨12, _⟩ => ⟨S128, .f32⟩
  | .hbm, ⟨13, _⟩ => ⟨S1024x1024, .bf16⟩
  | .hbm, ⟨14, _⟩ => ⟨S1024x4096, .bf16⟩
  | .hbm, ⟨15, _⟩ => ⟨S4096x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x128, .f32⟩
  | .hbm, ⟨21, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x768, .bf16⟩
  | .local _ .vmem, ⟨3, _⟩ => ⟨S1x512x768, .bf16⟩
  | .local _ .vmem, ⟨4, _⟩ => ⟨S1x512x768, .bf16⟩
  | .local _ .vmem, ⟨5, _⟩ => ⟨S1x512x768, .bf16⟩
  | .local _ .vmem, ⟨6, _⟩ => ⟨S1x512x768, .bf16⟩
  | .local _ .vmem, ⟨7, _⟩ => ⟨S1x512x768, .bf16⟩
  | .local _ .vmem, ⟨8, _⟩ => ⟨S1x128, .f32⟩
  | .local _ .vmem, ⟨9, _⟩ => ⟨S1x512x256, .bf16⟩
  | .local _ .vmem, ⟨10, _⟩ => ⟨S1x512x256, .bf16⟩
  | .local _ .vmem, ⟨11, _⟩ => ⟨S1x256x512, .bf16⟩
  | .local _ .vmem, ⟨12, _⟩ => ⟨S1x256x512, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S1x1024, .f32⟩
  | .local _ .vmem, ⟨20, _⟩ => ⟨S1x512x1024, .f32⟩
  | .local _ .vmem, ⟨21, _⟩ => ⟨S1x512x1024, .f32⟩
  | .local _ .vmem, ⟨22, _⟩ => ⟨S512x256, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let c0_i32 : BitVec 32 := 0#32
  ![arg0.toNat, arg1.toNat, c15_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference7Ideal.lean ====
abbrev S2x16384x1024 : Shape := ⟨3, ![2, 16384, 1024]⟩
abbrev S2x16384x768 : Shape := ⟨3, ![2, 16384, 768]⟩
abbrev S2x16384x4096 : Shape := ⟨3, ![2, 16384, 4096]⟩
abbrev S2x256x512 : Shape := ⟨3, ![2, 256, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S128 : Shape := ⟨1, ![128]⟩
abbrev S2x16384x256 : Shape := ⟨3, ![2, 16384, 256]⟩
abbrev S2x256x256 : Shape := ⟨3, ![2, 256, 256]⟩
abbrev S2x16384x6x128 : Shape := ⟨4, ![2, 16384, 6, 128]⟩
abbrev S_ : Shape := ⟨0, ![]⟩
abbrev S2x16384x6 : Shape := ⟨3, ![2, 16384, 6]⟩
abbrev S2x16384x6x1 : Shape := ⟨4, ![2, 16384, 6, 1]⟩
abbrev S1x1x1x128 : Shape := ⟨4, ![1, 1, 1, 128]⟩
abbrev S2x16384x4x64 : Shape := ⟨4, ![2, 16384, 4, 64]⟩
abbrev S2x256x4x64 : Shape := ⟨4, ![2, 256, 4, 64]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x64x16384 : Shape := ⟨4, ![2, 4, 64, 16384]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 150
  | .vmem => 0
  | .smem => 0
  | _ => 0

abbrev hbmTy0_0 (i : Nat) : BufTy := match i % 128 with
  | 0 => ⟨S2x16384x1024, .f32⟩
  | 1 => ⟨S2x16384x768, .bf16⟩
  | 2 => ⟨S2x16384x768, .bf16⟩
  | 3 => ⟨S2x16384x4096, .bf16⟩
  | 4 => ⟨S2x256x512, .bf16⟩
  | 5 => ⟨S1024x1024, .f32⟩
  | 6 => ⟨S1024, .f32⟩
  | 7 => ⟨S1024, .f32⟩
  | 8 => ⟨S1024x4096, .f32⟩
  | 9 => ⟨S4096x1024, .f32⟩
  | 10 => ⟨S1024, .f32⟩
  | 11 => ⟨S1024, .f32⟩
  | 12 => ⟨S128, .f32⟩
  | 13 => ⟨S2x16384x768, .bf16⟩
  | 14 => ⟨S2x16384x768, .f32⟩
  | 15 => ⟨S2x16384x256, .bf16⟩
  | 16 => ⟨S2x16384x256, .f32⟩
  | 17 => ⟨S2x256x256, .bf16⟩
  | 18 => ⟨S2x256x256, .f32⟩
  | 19 => ⟨S2x256x256, .bf16⟩
  | 20 => ⟨S2x256x256, .f32⟩
  | 21 => ⟨S2x16384x768, .f32⟩
  | 22 => ⟨S2x16384x768, .f32⟩
  | 23 => ⟨S2x16384x768, .f32⟩
  | 24 => ⟨S2x16384x6x128, .f32⟩
  | 25 => ⟨S2x16384x6x128, .f32⟩
  | 26 => ⟨S_, .f32⟩
  | 27 => ⟨S2x16384x6, .f32⟩
  | 28 => ⟨S2x16384x6x1, .f32⟩
  | 29 => ⟨S_, .f32⟩
  | 30 => ⟨S2x16384x6x1, .f32⟩
  | 31 => ⟨S2x16384x6x1, .f32⟩
  | 32 => ⟨S_, .f32⟩
  | 33 => ⟨S2x16384x6x1, .f32⟩
  | 34 => ⟨S2x16384x6x1, .f32⟩
  | 35 => ⟨S2x16384x6x1, .f32⟩
  | 36 => ⟨S2x16384x6x128, .f32⟩
  | 37 => ⟨S2x16384x6x128, .f32⟩
  | 38 => ⟨S1x1x1x128, .f32⟩
  | 39 => ⟨S2x16384x6x128, .f32⟩
  | 40 => ⟨S2x16384x6x128, .f32⟩
  | 41 => ⟨S2x16384x768, .f32⟩
  | 42 => ⟨S2x16384x768, .f32⟩
  | 43 => ⟨S2x16384x768, .f32⟩
  | 44 => ⟨S_, .f32⟩
  | 45 => ⟨S2x16384x768, .f32⟩
  | 46 => ⟨S2x16384x768, .f32⟩
  | 47 => ⟨S_, .f32⟩
  | 48 => ⟨S2x16384x768, .f32⟩
  | 49 => ⟨S2x16384x768, .f32⟩
  | 50 => ⟨S2x16384x768, .f32⟩
  | 51 => ⟨S2x16384x768, .f32⟩
  | 52 => ⟨S2x16384x4x64, .f32⟩
  | 53 => ⟨S_, .f32⟩
  | 54 => ⟨S2x16384x4x64, .f32⟩
  | 55 => ⟨S2x16384x4x64, .f32⟩
  | 56 => ⟨S2x256x4x64, .f32⟩
  | 57 => ⟨S2x256x4x64, .f32⟩
  | 58 => ⟨S2x4x16384x256, .f32⟩
  | 59 => ⟨S_, .f32⟩
  | 60 => ⟨S2x4x16384, .f32⟩
  | 61 => ⟨S_, .f32⟩
  | 62 => ⟨S2x4x16384, .f32⟩
  | 63 => ⟨S2x4x16384, .f32⟩
  | 64 => ⟨S2x4x16384x1, .f32⟩
  | 65 => ⟨S2x4x16384x256, .f32⟩
  | 66 => ⟨S2x4x16384x256, .f32⟩
  | 67 => ⟨S2x4x16384x256, .f32⟩
  | 68 => ⟨S_, .f32⟩
  | 69 => ⟨S2x4x16384, .f32⟩
  | 70 => ⟨S2x4x16384x1, .f32⟩
  | 71 => ⟨S2x4x16384x256, .f32⟩
  | 72 => ⟨S2x4x16384x256, .f32⟩
  | 73 => ⟨S2x4x64x16384, .f32⟩
  | 74 => ⟨S2x16384x4x64, .f32⟩
  | 75 => ⟨S2x16384x256, .f32⟩
  | 76 => ⟨S2x16384x1024, .f32⟩
  | 77 => ⟨S2x16384x1024, .f32⟩
  | 78 => ⟨S_, .f32⟩
  | 79 => ⟨S2x16384x1024, .f32⟩
  | 80 => ⟨S2x16384x1024, .f32⟩
  | 81 => ⟨S2x16384x1024, .f32⟩
  | 82 => ⟨S_, .f32⟩
  | 83 => ⟨S2x16384, .f32⟩
  | 84 => ⟨S2x16384x1, .f32⟩
  | 85 => ⟨S_, .f32⟩
  | 86 => ⟨S2x16384x1, .f32⟩
  | 87 => ⟨S2x16384x1, .f32⟩
  | 88 => ⟨S2x16384x1024, .f32⟩
  | 89 => ⟨S2x16384x1024, .f32⟩
  | 90 => ⟨S2x16384x1024, .f32⟩
  | 91 => ⟨S_, .f32⟩
  | 92 => ⟨S2x16384, .f32⟩
  | 93 => ⟨S2x16384x1, .f32⟩
  | 94 => ⟨S_, .f32⟩
  | 95 => ⟨S2x16384x1, .f32⟩
  | 96 => ⟨S2x16384x1, .f32⟩
  | 97 => ⟨S2x16384x1024, .f32⟩
  | 98 => ⟨S2x16384x1024, .f32⟩
  | 99 => ⟨S_, .f32⟩
  | 100 => ⟨S2x16384x1, .f32⟩
  | 101 => ⟨S2x16384x1, .f32⟩
  | 102 => ⟨S2x16384x1, .f32⟩
  | 103 => ⟨S2x16384x1024, .f32⟩
  | 104 => ⟨S2x16384x1024, .f32⟩
  | 105 => ⟨S1x1x1024, .f32⟩
  | 106 => ⟨S2x16384x1024, .f32⟩
  | 107 => ⟨S2x16384x1024, .f32⟩
  | 108 => ⟨S1x1x1024, .f32⟩
  | 109 => ⟨S2x16384x1024, .f32⟩
  | 110 => ⟨S2x16384x1024, .f32⟩
  | 111 => ⟨S2x16384x4096, .f32⟩
  | 112 => ⟨S_, .f32⟩
  | 113 => ⟨S2x16384x4096, .f32⟩
  | 114 => ⟨S2x16384x4096, .f32⟩
  | 115 => ⟨S2x16384x4096, .f32⟩
  | 116 => ⟨S_, .f32⟩
  | 117 => ⟨S2x16384x1024, .f32⟩
  | 118 => ⟨S2x16384x1024, .f32⟩
  | 119 => ⟨S2x16384x1024, .f32⟩
  | 120 => ⟨S2x16384x1024, .f32⟩
  | 121 => ⟨S_, .f32⟩
  | 122 => ⟨S2x16384, .f32⟩
  | 123 => ⟨S2x16384x1, .f32⟩
  | 124 => ⟨S_, .f32⟩
  | 125 => ⟨S2x16384x1, .f32⟩
  | 126 => ⟨S2x16384x1, .f32⟩
  | 127 => ⟨S2x16384x1024, .f32⟩
  | _ => ⟨S2x16384x1024, .f32⟩

abbrev hbmTy0_1 (i : Nat) : BufTy := match i % 128 with
  | 0 => ⟨S2x16384x1024, .f32⟩
  | 1 => ⟨S2x16384x1024, .f32⟩
  | 2 => ⟨S_, .f32⟩
  | 3 => ⟨S2x16384, .f32⟩
  | 4 => ⟨S2x16384x1, .f32⟩
  | 5 => ⟨S_, .f32⟩
  | 6 => ⟨S2x16384x1, .f32⟩
  | 7 => ⟨S2x16384x1, .f32⟩
  | 8 => ⟨S2x16384x1024, .f32⟩
  | 9 => ⟨S2x16384x1024, .f32⟩
  | 10 => ⟨S_, .f32⟩
  | 11 => ⟨S2x16384x1, .f32⟩
  | 12 => ⟨S2x16384x1, .f32⟩
  | 13 => ⟨S2x16384x1, .f32⟩
  | 14 => ⟨S2x16384x1024, .f32⟩
  | 15 => ⟨S2x16384x1024, .f32⟩
  | 16 => ⟨S1x1x1024, .f32⟩
  | 17 => ⟨S2x16384x1024, .f32⟩
  | 18 => ⟨S2x16384x1024, .f32⟩
  | 19 => ⟨S1x1x1024, .f32⟩
  | 20 => ⟨S2x16384x1024, .f32⟩
  | 21 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_3 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_6 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_call1_cst : Ref sig .tc := ⟨.hbm, 112, rfl⟩
abbrev main_call1_v0 : Ref sig .tc := ⟨.hbm, 113, rfl⟩
abbrev main_v78 : Ref sig .tc := ⟨.hbm, 114, rfl⟩
abbrev main_v79 : Ref sig .tc := ⟨.hbm, 115, rfl⟩
abbrev main_cst_12 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_13 : Ref sig .tc := ⟨.hbm, 121, rfl⟩
abbrev main_v84 : Ref sig .tc := ⟨.hbm, 122, rfl⟩
abbrev main_v85 : Ref sig .tc := ⟨.hbm, 123, rfl⟩
abbrev main_cst_14 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_15 : Ref sig .tc := ⟨.hbm, 130, rfl⟩
abbrev main_v91 : Ref sig .tc := ⟨.hbm, 131, rfl⟩
abbrev main_v92 : Ref sig .tc := ⟨.hbm, 132, rfl⟩
abbrev main_cst_16 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_17 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩

abbrev nD : Nat := 1
abbrev τ : Topo := Topo.v7x

variable {F : FTy → Type} [FloatOps F]
-- ==== Kernel8.lean ====
abbrev S16x4096x4096 : Shape := ⟨3, ![16, 4096, 4096]⟩
abbrev S2x768 : Shape := ⟨2, ![2, 768]⟩
abbrev S16x4096x768 : Shape := ⟨3, ![16, 4096, 768]⟩
abbrev S1x256x768 : Shape := ⟨3, ![1, 256, 768]⟩
abbrev S6x128x128 : Shape := ⟨3, ![6, 128, 128]⟩
abbrev S1x768 : Shape := ⟨2, ![1, 768]⟩
abbrev S768 : Shape := ⟨1, ![768]⟩
abbrev S256x256 : Shape := ⟨2, ![256, 256]⟩
abbrev S256x128 : Shape := ⟨2, ![256, 128]⟩
abbrev S32x128 : Shape := ⟨2, ![32, 128]⟩
abbrev S8x128 : Shape := ⟨2, ![8, 128]⟩
abbrev S1x256x128 : Shape := ⟨3, ![1, 256, 128]⟩
abbrev S1x128 : Shape := ⟨2, ![1, 128]⟩
abbrev S1x128x128 : Shape := ⟨3, ![1, 128, 128]⟩
abbrev S128x128 : Shape := ⟨2, ![128, 128]⟩
abbrev S384x128 : Shape := ⟨2, ![384, 128]⟩
abbrev S32x8x128 : Shape := ⟨3, ![32, 8, 128]⟩
abbrev S1024x256 : Shape := ⟨2, ![1024, 256]⟩
abbrev S96x128 : Shape := ⟨2, ![96, 128]⟩
abbrev S64x128 : Shape := ⟨2, ![64, 128]⟩
abbrev S48x128 : Shape := ⟨2, ![48, 128]⟩
abbrev S1024x128 : Shape := ⟨2, ![1024, 128]⟩

abbrev nBuf : Space → Nat
  | .hbm => 4
  | .vmem => 20
  | .smem => 0
  | _ => 0

abbrev bufTy : (tb : Table) → Fin (tcTables nBuf tb) → BufTy
  | .hbm, ⟨0, _⟩ => ⟨S16x4096x4096, .bf16⟩
  | .hbm, ⟨1, _⟩ => ⟨S2x768, .f32⟩
  | .hbm, ⟨2, _⟩ => ⟨S16x4096x768, .bf16⟩
  | .hbm, ⟨3, _⟩ => ⟨S16x4096x768, .bf16⟩
  | .local _ .vmem, ⟨0, _⟩ => ⟨S2x768, .f32⟩
  | .local _ .vmem, ⟨1, _⟩ => ⟨S1x256x768, .bf16⟩
  | .local _ .vmem, ⟨2, _⟩ => ⟨S1x256x768, .bf16⟩
  | .local _ .vmem, ⟨3, _⟩ => ⟨S1x256x768, .bf16⟩
  | .local _ .vmem, ⟨4, _⟩ => ⟨S1x256x768, .bf16⟩
  | .local _ .vmem, ⟨5, _⟩ => ⟨S1x256x768, .bf16⟩
  | .local _ .vmem, ⟨6, _⟩ => ⟨S1x256x768, .bf16⟩
  | .local _ .vmem, ⟨7, _⟩ => ⟨S1x256x768, .bf16⟩
  | .local _ .vmem, ⟨8, _⟩ => ⟨S1x256x768, .bf16⟩
  | .local _ .vmem, ⟨9, _⟩ => ⟨S1x256x768, .bf16⟩
  | .local _ .vmem, ⟨10, _⟩ => ⟨S1x256x768, .bf16⟩
  | .local _ .vmem, ⟨11, _⟩ => ⟨S1x256x768, .bf16⟩
  | .local _ .vmem, ⟨12, _⟩ => ⟨S1x256x768, .bf16⟩
  | .local _ .vmem, ⟨13, _⟩ => ⟨S1x256x768, .bf16⟩
  | .local _ .vmem, ⟨14, _⟩ => ⟨S1x256x768, .bf16⟩
  | .local _ .vmem, ⟨15, _⟩ => ⟨S1x256x768, .bf16⟩
  | .local _ .vmem, ⟨16, _⟩ => ⟨S1x256x768, .bf16⟩
  | .local _ .vmem, ⟨17, _⟩ => ⟨S6x128x128, .f32⟩
  | .local _ .vmem, ⟨18, _⟩ => ⟨S6x128x128, .f32⟩
  | .local _ .vmem, ⟨19, _⟩ => ⟨S1x768, .f32⟩
  | _, _ => ⟨S16x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 16], ![false, false]⟩

def k0_mult1 : BitVec 32 :=
  let c0_i32_124 : BitVec 32 := 0#32
  let c128_i32_125 : BitVec 32 := 128#32
  let v452 : BitVec 32 := Scalar.muli c0_i32_124 c128_i32_125
  v452
def k0_off1 (c0_i32_124 : BitVec 32) : Fin 3 → Nat :=
  let c0_126 : Index := 0#32
  let c0_127 : Index := 0#32
  let c128_i32_125 : BitVec 32 := 128#32
  let v452 : BitVec 32 := Scalar.muli c0_i32_124 c128_i32_125
  let v453 : BitVec 32 := v452
  let v454 : Index := Scalar.indexCast v453
  ![0, 0, v454.toNat]
def k0_off2 (c0_i32_124 : BitVec 32) : Fin 2 → Nat :=
  let c0_132 : Index := 0#32
  let c128_i32_125 : BitVec 32 := 128#32
  let v452 : BitVec 32 := Scalar.muli c0_i32_124 c128_i32_125
  let v453 : BitVec 32 := v452
  let v466 : Index := Scalar.indexCast v453
  ![0, v466.toNat]
def k0_mult2 : BitVec 32 :=
  let c1_i32_370 : BitVec 32 := 1#32
  let c128_i32_371 : BitVec 32 := 128#32
  let v2768 : BitVec 32 := Scalar.muli c1_i32_370 c128_i32_371
  v2768
def k0_mult3 : BitVec 32 :=
  let c2_i32_616 : BitVec 32 := 2#32
  let c128_i32_617 : BitVec 32 := 128#32
  let v5084 : BitVec 32 := Scalar.muli c2_i32_616 c128_i32_617
  v5084
def k0_mult4 : BitVec 32 :=
  let c3_i32_862 : BitVec 32 := 3#32
  let c128_i32_863 : BitVec 32 := 128#32
  let v7400 : BitVec 32 := Scalar.muli c3_i32_862 c128_i32_863
  v7400
def k0_mult5 : BitVec 32 :=
  let c4_i32_1108 : BitVec 32 := 4#32
  let c128_i32_1109 : BitVec 32 := 128#32
  let v9716 : BitVec 32 := Scalar.muli c4_i32_1108 c128_i32_1109
  v9716
def k0_mult6 : BitVec 32 :=
  let c5_i32_1354 : BitVec 32 := 5#32
  let c128_i32_1355 : BitVec 32 := 128#32
  let v12032 : BitVec 32 := Scalar.muli c5_i32_1354 c128_i32_1355
  v12032
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let c0_i32 : BitVec 32 := 0#32
  ![arg0.toNat, v0.toNat, c2_i32.toNat]

def cc0_transform_6 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c3_i32 : BitVec 32 := 3#32
  let c0_i32 : BitVec 32 := 0#32
  ![arg0.toNat, v0.toNat, c3_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

abbrev stage0_0 : Fin 1 → Memref sig .tc .vmem S2x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S16x4096x4096 : Shape := ⟨3, ![16, 4096, 4096]⟩
abbrev S2x768 : Shape := ⟨2, ![2, 768]⟩
abbrev S16x4096x768 : Shape := ⟨3, ![16, 4096, 768]⟩
abbrev S_ : Shape := ⟨0, ![]⟩
abbrev S768 : Shape := ⟨1, ![768]⟩
abbrev S1x768 : Shape := ⟨2, ![1, 768]⟩
abbrev S16x4096x6x128 : Shape := ⟨4, ![16, 4096, 6, 128]⟩
abbrev S6x128 : Shape := ⟨2, ![6, 128]⟩
abbrev S1x1x6x128 : Shape := ⟨4, ![1, 1, 6, 128]⟩
abbrev S4096x4096 : Shape := ⟨2, ![4096, 4096]⟩
abbrev S16x6x4096x128 : Shape := ⟨4, ![16, 6, 4096, 128]⟩
abbrev S16x6x128x4096 : Shape := ⟨4, ![16, 6, 128, 4096]⟩
abbrev S4096x4096x1 : Shape := ⟨3, ![4096, 4096, 1]⟩
abbrev S16x6x4096x1x128 : Shape := ⟨5, ![16, 6, 4096, 1, 128]⟩
abbrev S16x6x1x4096x128 : Shape := ⟨5, ![16, 6, 1, 4096, 128]⟩
abbrev S16x6x4096x4096x128 : Shape := ⟨5, ![16, 6, 4096, 4096, 128]⟩
abbrev S16x6x4096x4096 : Shape := ⟨4, ![16, 6, 4096, 4096]⟩

abbrev nBuf : Space → Nat
  | .hbm => 174
  | .vmem => 0
  | .smem => 0
  | _ => 0

abbrev hbmTy0_0 (i : Nat) : BufTy := match i % 128 with
  | 0 => ⟨S16x4096x4096, .bf16⟩
  | 1 => ⟨S2x768, .f32⟩
  | 2 => ⟨S16x4096x768, .bf16⟩
  | 3 => ⟨S16x4096x768, .f32⟩
  | 4 => ⟨S16x4096x768, .bf16⟩
  | 5 => ⟨S16x4096x768, .f32⟩
  | 6 => ⟨S16x4096x768, .bf16⟩
  | 7 => ⟨S16x4096x768, .f32⟩
  | 8 => ⟨S16x4096x768, .bf16⟩
  | 9 => ⟨S16x4096x768, .f32⟩
  | 10 => ⟨S_, .f32⟩
  | 11 => ⟨S768, .f32⟩
  | 12 => ⟨S_, .f32⟩
  | 13 => ⟨S768, .f32⟩
  | 14 => ⟨S768, .f32⟩
  | 15 => ⟨S1x768, .f32⟩
  | 16 => ⟨S2x768, .f32⟩
  | 17 => ⟨S2x768, .f32⟩
  | 18 => ⟨S2x768, .f32⟩
  | 19 => ⟨S_, .f32⟩
  | 20 => ⟨S768, .f32⟩
  | 21 => ⟨S1x768, .f32⟩
  | 22 => ⟨S2x768, .f32⟩
  | 23 => ⟨S2x768, .f32⟩
  | 24 => ⟨S_, .f32⟩
  | 25 => ⟨S768, .f32⟩
  | 26 => ⟨S1x768, .f32⟩
  | 27 => ⟨S768, .f32⟩
  | 28 => ⟨S768, .f32⟩
  | 29 => ⟨S16x4096x768, .f32⟩
  | 30 => ⟨S16x4096x768, .f32⟩
  | 31 => ⟨S_, .f32⟩
  | 32 => ⟨S16x4096x768, .f32⟩
  | 33 => ⟨S16x4096x768, .f32⟩
  | 34 => ⟨S_, .f32⟩
  | 35 => ⟨S16x4096x768, .f32⟩
  | 36 => ⟨S16x4096x768, .f32⟩
  | 37 => ⟨S16x4096x768, .f32⟩
  | 38 => ⟨S16x4096x6x128, .f32⟩
  | 39 => ⟨S16x4096x6x128, .f32⟩
  | 40 => ⟨S6x128, .f32⟩
  | 41 => ⟨S_, .f32⟩
  | 42 => ⟨S6x128, .f32⟩
  | 43 => ⟨S6x128, .f32⟩
  | 44 => ⟨S16x4096x6x128, .f32⟩
  | 45 => ⟨S16x4096x6x128, .f32⟩
  | 46 => ⟨S16x4096x6x128, .f32⟩
  | 47 => ⟨S_, .f32⟩
  | 48 => ⟨S16x4096x6x128, .f32⟩
  | 49 => ⟨S16x4096x6x128, .f32⟩
  | 50 => ⟨S_, .f32⟩
  | 51 => ⟨S16x4096x6x128, .f32⟩
  | 52 => ⟨S16x4096x6x128, .f32⟩
  | 53 => ⟨S1x1x6x128, .f32⟩
  | 54 => ⟨S16x4096x6x128, .f32⟩
  | 55 => ⟨S16x4096x6x128, .f32⟩
  | 56 => ⟨S1x1x6x128, .f32⟩
  | 57 => ⟨S16x4096x6x128, .f32⟩
  | 58 => ⟨S16x4096x6x128, .f32⟩
  | 59 => ⟨S_, .f32⟩
  | 60 => ⟨S16x4096x6x128, .f32⟩
  | 61 => ⟨S16x4096x6x128, .f32⟩
  | 62 => ⟨S16x4096x6x128, .f32⟩
  | 63 => ⟨S_, .f32⟩
  | 64 => ⟨S6x128, .f32⟩
  | 65 => ⟨S6x128, .f32⟩
  | 66 => ⟨S16x4096x6x128, .f32⟩
  | 67 => ⟨S16x4096x6x128, .f32⟩
  | 68 => ⟨S16x4096x6x128, .f32⟩
  | 69 => ⟨S_, .f32⟩
  | 70 => ⟨S16x4096x6x128, .f32⟩
  | 71 => ⟨S16x4096x6x128, .f32⟩
  | 72 => ⟨S_, .f32⟩
  | 73 => ⟨S16x4096x6x128, .f32⟩
  | 74 => ⟨S16x4096x6x128, .f32⟩
  | 75 => ⟨S1x1x6x128, .f32⟩
  | 76 => ⟨S16x4096x6x128, .f32⟩
  | 77 => ⟨S16x4096x6x128, .f32⟩
  | 78 => ⟨S1x1x6x128, .f32⟩
  | 79 => ⟨S16x4096x6x128, .f32⟩
  | 80 => ⟨S16x4096x6x128, .f32⟩
  | 81 => ⟨S_, .f32⟩
  | 82 => ⟨S16x4096x6x128, .f32⟩
  | 83 => ⟨S16x4096x6x128, .f32⟩
  | 84 => ⟨S16x4096x6x128, .f32⟩
  | 85 => ⟨S_, .i1⟩
  | 86 => ⟨S4096x4096, .i1⟩
  | 87 => ⟨S4096x4096, .i32⟩
  | 88 => ⟨S_, .i32⟩
  | 89 => ⟨S4096x4096, .i32⟩
  | 90 => ⟨S4096x4096, .i32⟩
  | 91 => ⟨S4096x4096, .i32⟩
  | 92 => ⟨S4096x4096, .i1⟩
  | 93 => ⟨S_, .i1⟩
  | 94 => ⟨S4096x4096, .i1⟩
  | 95 => ⟨S4096x4096, .i1⟩
  | 96 => ⟨S16x6x4096x128, .f32⟩
  | 97 => ⟨S16x6x4096x128, .f32⟩
  | 98 => ⟨S16x6x4096x128, .f32⟩
  | 99 => ⟨S16x6x4096x128, .f32⟩
  | 100 => ⟨S4096x4096, .f32⟩
  | 101 => ⟨S16x6x128x4096, .f32⟩
  | 102 => ⟨S16x6x4096x128, .f32⟩
  | 103 => ⟨S4096x4096x1, .i1⟩
  | 104 => ⟨S16x6x4096x1x128, .f32⟩
  | 105 => ⟨S16x6x1x4096x128, .f32⟩
  | 106 => ⟨S16x6x4096x4096x128, .f32⟩
  | 107 => ⟨S16x6x4096x4096x128, .f32⟩
  | 108 => ⟨S16x6x4096x4096x128, .f32⟩
  | 109 => ⟨S_, .f32⟩
  | 110 => ⟨S_, .f32⟩
  | 111 => ⟨S16x6x4096x4096x128, .i1⟩
  | 112 => ⟨S16x6x4096x4096x128, .f32⟩
  | 113 => ⟨S16x6x4096x4096x128, .f32⟩
  | 114 => ⟨S16x6x4096x1x128, .f32⟩
  | 115 => ⟨S16x6x1x4096x128, .f32⟩
  | 116 => ⟨S16x6x4096x4096x128, .f32⟩
  | 117 => ⟨S16x6x4096x4096x128, .f32⟩
  | 118 => ⟨S16x6x4096x4096x128, .f32⟩
  | 119 => ⟨S16x6x4096x4096x128, .f32⟩
  | 120 => ⟨S16x6x4096x4096x128, .f32⟩
  | 121 => ⟨S_, .f32⟩
  | 122 => ⟨S16x6x4096x4096, .f32⟩
  | 123 => ⟨S16x6x4096x128, .f32⟩
  | 124 => ⟨S16x4096x6x128, .f32⟩
  | 125 => ⟨S16x4096x6x128, .f32⟩
  | 126 => ⟨S16x4096x6x128, .f32⟩
  | 127 => ⟨S16x4096x6x128, .f32⟩
  | _ => ⟨S16x4096x4096, .bf16⟩

abbrev hbmTy0_1 (i : Nat) : BufTy := match i % 128 with
  | 0 => ⟨S16x4096x6x128, .f32⟩
  | 1 => ⟨S_, .i1⟩
  | 2 => ⟨S4096x4096, .i1⟩
  | 3 => ⟨S4096x4096, .i32⟩
  | 4 => ⟨S_, .i32⟩
  | 5 => ⟨S4096x4096, .i32⟩
  | 6 => ⟨S4096x4096, .i32⟩
  | 7 => ⟨S4096x4096, .i32⟩
  | 8 => ⟨S4096x4096, .i1⟩
  | 9 => ⟨S_, .i1⟩
  | 10 => ⟨S4096x4096, .i1⟩
  | 11 => ⟨S4096x4096, .i1⟩
  | 12 => ⟨S16x6x4096x128, .f32⟩
  | 13 => ⟨S16x6x4096x128, .f32⟩
  | 14 => ⟨S16x6x4096x128, .f32⟩
  | 15 => ⟨S16x6x4096x128, .f32⟩
  | 16 => ⟨S4096x4096, .f32⟩
  | 17 => ⟨S16x6x128x4096, .f32⟩
  | 18 => ⟨S16x6x4096x128, .f32⟩
  | 19 => ⟨S4096x4096x1, .i1⟩
  | 20 => ⟨S16x6x4096x1x128, .f32⟩
  | 21 => ⟨S16x6x1x4096x128, .f32⟩
  | 22 => ⟨S16x6x4096x4096x128, .f32⟩
  | 23 => ⟨S16x6x4096x4096x128, .f32⟩
  | 24 => ⟨S16x6x4096x4096x128, .f32⟩
  | 25 => ⟨S_, .f32⟩
  | 26 => ⟨S_, .f32⟩
  | 27 => ⟨S16x6x4096x4096x128, .i1⟩
  | 28 => ⟨S16x6x4096x4096x128, .f32⟩
  | 29 => ⟨S16x6x4096x4096x128, .f32⟩
  | 30 => ⟨S16x6x4096x1x128, .f32⟩
  | 31 => ⟨S16x6x1x4096x128, .f32⟩
  | 32 => ⟨S16x6x4096x4096x128, .f32⟩
  | 33 => ⟨S16x6x4096x4096x128, .f32⟩
  | 34 => ⟨S16x6x4096x4096x128, .f32⟩
  | 35 => ⟨S16x6x4096x4096x128, .f32⟩
  | 36 => ⟨S16x6x4096x4096x128, .f32⟩
  | 37 => ⟨S_, .f32⟩
  | 38 => ⟨S16x6x4096x4096, .f32⟩
  | 39 => ⟨S16x6x4096x128, .f32⟩
  | 40 => ⟨S16x4096x6x128, .f32⟩
  | 41 => ⟨S16x4096x6x128, .f32⟩
  | 42 => ⟨S16x4096x768, .f32⟩
  | 43 => ⟨S16x4096x768, .bf16⟩
  | 44 => ⟨S16x4096x768, .f32⟩
  | 45 => ⟨S16x4096x768, .bf16⟩
  | _ => ⟨S16x4096x4096, .bf16⟩

abbrev hbmTy (i : Nat) : BufTy := match i / 128 with
  | 0 => hbmTy0_0 i
  | 1 => hbmTy0_1 i
  | _ => ⟨S16x4096x4096, .bf16⟩

abbrev bufTy : (tb : Table) → Fin (tcTables nBuf tb) → BufTy
  | .hbm, ⟨i, _⟩ => hbmTy i
  | _, _ => ⟨S16x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c : Ref sig .tc := ⟨.hbm, 85, rfl⟩
abbrev main_v63 : Ref sig .tc := ⟨.hbm, 86, rfl⟩
abbrev main_call1_v0 : Ref sig .tc := ⟨.hbm, 87, rfl⟩
abbrev main_call1_c : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_c_0 : Ref sig .tc := ⟨.hbm, 93, rfl⟩
abbrev main_call1_v5 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_11 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_12 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_13 : Ref sig .tc := ⟨.hbm, 129, rfl⟩
abbrev main_v93 : Ref sig .tc := ⟨.hbm, 130, rfl⟩
abbrev main_call7_v0 : Ref sig .tc := ⟨.hbm, 131, rfl⟩
abbrev main_call7_c : Ref sig .tc := ⟨.hbm, 132, rfl⟩
abbrev main_call7_v1 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_call7_c_0 : Ref sig .tc := ⟨.hbm, 137, rfl⟩
abbrev main_call7_v5 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_14 : Ref sig .tc := ⟨.hbm, 153, rfl⟩
abbrev main_call8_v0 : Ref sig .tc := ⟨.hbm, 154, rfl⟩
abbrev main_call8_v1 : Ref sig .tc := ⟨.hbm, 155, rfl⟩
abbrev main_call8_v2 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_15 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩

abbrev nD : Nat := 1
abbrev τ : Topo := Topo.v7x

variable {F : FTy → Type} [FloatOps F]
-- ==== Proof.KRun.lean ====
module

public import proofs.«01_k».proof.Proof.Gen.Kernel.Loops
public import proofs.«01_k».proof.Proof.Gen.Kernel.Skeleton
public import proofs.«01_k».proof.Proof.Gen.Kernel.Frame.Runs
public import Idealize.ShloMosaic.Lib.Pipeline.ReadBack
public import Idealize.ShloMosaic.Lib.Ring
public import Idealize.ShloMosaic.Lib.Tactic
public import Idealize.ShloMosaic.Lib.Pipeline.ValueKit

@[expose] public section

set_option maxRecDepth 16384

noncomputable section

/-! One grid point of the kernel, run over any floats: every scratch buffer and the output block end at what their stores lay down,
whatever they held before. -/

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Stores that cover a whole buffer decide its contents. -/
theorem writes_whole {sp : Space} {S : Shape} {e : EltTy} {M : Memref sig .tc sp S e} (h : M.IsWhole) (f : M.view.ty.Contents (Elt F))
    (L : List (View.Piece (Elt F) S e)) (hc : ∀ y, ∃ p ∈ L, y ∈ p.1.set) :
    M.view.writes (Elt F) f L = h.unread (View.canon (Val := Elt F) L) :=
  h.eq_unread (View.read_writes_eq_canon M.view f L hc)

/-- The three bands' stores into a buffer of three bands, last first. -/
def catPieces {κ1 κ2 κ3 : Kind} {sp1 sp2 sp3 : Space} (va : View sig κ1 sp1 S1x512x768 .bf16) (vb : View sig κ2 sp2 S1x512x768 .bf16) (vd : View sig κ3 sp3 S1x512x768 .bf16)
    (fa : va.ty.Contents (Elt F)) (fb : vb.ty.Contents (Elt F)) (fd : vd.ty.Contents (Elt F)) : List (View.Piece (Elt F) S1536x768 .bf16) :=
  [⟨Rect.unit (s := S1536x768) ![1024, 0] S512x768.size (by decide), k0_pay42 (F := F) (vd.readAt (Elt F) (Rect.unit (s := S1x512x768) ![0, 0, 0] S1x512x768.size (by decide)).toLoadRect fd)⟩,
   ⟨Rect.unit (s := S1536x768) ![512, 0] S512x768.size (by decide), k0_pay42 (F := F) (vb.readAt (Elt F) (Rect.unit (s := S1x512x768) ![0, 0, 0] S1x512x768.size (by decide)).toLoadRect fb)⟩,
   ⟨Rect.unit (s := S1536x768) ![0, 0] S512x768.size (by decide), k0_pay42 (F := F) (va.readAt (Elt F) (Rect.unit (s := S1x512x768) ![0, 0, 0] S1x512x768.size (by decide)).toLoadRect fa)⟩]

theorem catCover {κ1 κ2 κ3 : Kind} {sp1 sp2 sp3 : Space} (va : View sig κ1 sp1 S1x512x768 .bf16) (vb : View sig κ2 sp2 S1x512x768 .bf16) (vd : View sig κ3 sp3 S1x512x768 .bf16)
    (fa : va.ty.Contents (Elt F)) (fb : vb.ty.Contents (Elt F)) (fd : vd.ty.Contents (Elt F)) : ∀ y, ∃ p ∈ catPieces va vb vd fa fb fd, y ∈ p.1.set :=
  View.cover_of_tiledL _ S512x768.size (by sl_kernel_rfl)

section Two
variable (c : Dev nD) (i : grid0.Coords) (arg2 : Memref sig .tc .vmem S1x512x768 .bf16) (harg2 : arg2.IsWhole) (arg3 : Memref sig .tc .vmem S1x512x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x512x768 .bf16) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S6x14x128x128 .f32) (harg9 : arg9.IsWhole) (arg10 : Memref sig .tc .vmem S1x512x768 .bf16) (harg10 : arg10.IsWhole) (arg11 : Memref sig .tc .vmem S1536x768 .bf16) (harg11 : arg11.IsWhole) (arg12 : Memref sig .tc .vmem S1536x768 .bf16) (harg12 : arg12.IsWhole) (arg13 : Memref sig .tc .vmem S48x128x512 .f32) (harg13 : arg13.IsWhole) (arg14 : Memref sig .tc .vmem S48x128x512 .bf16) (harg14 : arg14.IsWhole) (arg15 : Memref sig .tc .vmem S48x128x128 .f32) (harg15 : arg15.IsWhole) (arg16 : Memref sig .tc .vmem S48x128x128 .f32) (harg16 : arg16.IsWhole)

theorem cov1s (a1 : BitVec 32) (X2 : BufTy.Contents (Elt F) arg2.view.ty) (X9 : BufTy.Contents (Elt F) arg9.view.ty) (X11 : BufTy.Contents (Elt F) arg11.view.ty) : ∀ y, ∃ p ∈ (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 (Scf.trips k0_t1_loop.lb k0_t1_loop.ub k0_t1_loop.st)).1, y ∈ p.1.set :=
  View.cover_of_tiledL _ S1x128x512.size (by sl_kernel_rfl)

theorem cov1m (a1 : BitVec 32) (X2 : BufTy.Contents (Elt F) arg2.view.ty) (X9 : BufTy.Contents (Elt F) arg9.view.ty) (X11 : BufTy.Contents (Elt F) arg11.view.ty) : ∀ y, ∃ p ∈ (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 (Scf.trips k0_t1_loop.lb k0_t1_loop.ub k0_t1_loop.st)).2, y ∈ p.1.set :=
  View.cover_of_tiledL _ S1x128x128.size (by sl_kernel_rfl)

theorem cov2e (X13 : BufTy.Contents (Elt F) arg13.view.ty) (X15 : BufTy.Contents (Elt F) arg15.view.ty) : ∀ y, ∃ p ∈ (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 (Scf.trips k0_t2_loop.lb k0_t2_loop.ub k0_t2_loop.st)).1, y ∈ p.1.set :=
  View.cover_of_tiledL _ S1x128x512.size (by sl_kernel_rfl)

theorem cov2d (X13 : BufTy.Contents (Elt F) arg13.view.ty) (X15 : BufTy.Contents (Elt F) arg15.view.ty) : ∀ y, ∃ p ∈ (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 (Scf.trips k0_t2_loop.lb k0_t2_loop.ub k0_t2_loop.st)).2, y ∈ p.1.set :=
  View.cover_of_tiledL _ S1x128x128.size (by sl_kernel_rfl)

theorem cov3o (a1 : BitVec 32) (X12 : BufTy.Contents (Elt F) arg12.view.ty) (X14 : BufTy.Contents (Elt F) arg14.view.ty) (X16 : BufTy.Contents (Elt F) arg16.view.ty) : ∀ y, ∃ p ∈ (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X12 X14 X16 (Scf.trips k0_t3_loop.lb k0_t3_loop.ub k0_t3_loop.st)), y ∈ p.1.set :=
  View.cover_of_tiledL _ S1x64x128.size (by sl_kernel_rfl)

/-- The keys' buffer and the values' buffer after their three stores. -/
def Z11 (x1 x2 x3 : Vec F S1x512x768 .bf16) : BufTy.Contents (Elt F) arg11.view.ty := harg11.unread (View.canon (Val := Elt F) (catPieces arg3.view arg4.view arg5.view (harg3.unread x1) (harg4.unread x2) (harg5.unread x3)))
def Z12 (x4 x5 x6 : Vec F S1x512x768 .bf16) : BufTy.Contents (Elt F) arg12.view.ty := harg12.unread (View.canon (Val := Elt F) (catPieces arg6.view arg7.view arg8.view (harg6.unread x4) (harg7.unread x5) (harg8.unread x6)))

/-- The scratch buffers after the loop that fills them, from the buffers it reads. -/
def Z13 (a1 : BitVec 32) (X2 : BufTy.Contents (Elt F) arg2.view.ty) (X9 : BufTy.Contents (Elt F) arg9.view.ty) (X11 : BufTy.Contents (Elt F) arg11.view.ty) : BufTy.Contents (Elt F) arg13.view.ty := harg13.unread (View.canon (Val := Elt F) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 (Scf.trips k0_t1_loop.lb k0_t1_loop.ub k0_t1_loop.st)).1)
def Z15 (a1 : BitVec 32) (X2 : BufTy.Contents (Elt F) arg2.view.ty) (X9 : BufTy.Contents (Elt F) arg9.view.ty) (X11 : BufTy.Contents (Elt F) arg11.view.ty) : BufTy.Contents (Elt F) arg15.view.ty := harg15.unread (View.canon (Val := Elt F) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 (Scf.trips k0_t1_loop.lb k0_t1_loop.ub k0_t1_loop.st)).2)
def Z14 (X13 : BufTy.Contents (Elt F) arg13.view.ty) (X15 : BufTy.Contents (Elt F) arg15.view.ty) : BufTy.Contents (Elt F) arg14.view.ty := harg14.unread (View.canon (Val := Elt F) (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 (Scf.trips k0_t2_loop.lb k0_t2_loop.ub k0_t2_loop.st)).1)
def Z16 (X13 : BufTy.Contents (Elt F) arg13.view.ty) (X15 : BufTy.Contents (Elt F) arg15.view.ty) : BufTy.Contents (Elt F) arg16.view.ty := harg16.unread (View.canon (Val := Elt F) (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 (Scf.trips k0_t2_loop.lb k0_t2_loop.ub k0_t2_loop.st)).2)
def Z10 (a1 : BitVec 32) (X12 : BufTy.Contents (Elt F) arg12.view.ty) (X14 : BufTy.Contents (Elt F) arg14.view.ty) (X16 : BufTy.Contents (Elt F) arg16.view.ty) : Vec F S1x512x768 .bf16 := View.canon (Val := Elt F) (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X12 X14 X16 (Scf.trips k0_t3_loop.lb k0_t3_loop.ub k0_t3_loop.st))

theorem end13 (a1 : BitVec 32) (X2 : BufTy.Contents (Elt F) arg2.view.ty) (X9 : BufTy.Contents (Elt F) arg9.view.ty) (X11 : BufTy.Contents (Elt F) arg11.view.ty) (Y : BufTy.Contents (Elt F) arg11.view.ty) (h : Y = X11) (f) : arg13.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 Y (Scf.trips k0_t1_loop.lb k0_t1_loop.ub k0_t1_loop.st)).1 = Z13 c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 := by
  subst h; exact writes_whole harg13 f _ (cov1s c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 Y)
theorem end15 (a1 : BitVec 32) (X2 : BufTy.Contents (Elt F) arg2.view.ty) (X9 : BufTy.Contents (Elt F) arg9.view.ty) (X11 : BufTy.Contents (Elt F) arg11.view.ty) (Y : BufTy.Contents (Elt F) arg11.view.ty) (h : Y = X11) (f) : arg15.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 Y (Scf.trips k0_t1_loop.lb k0_t1_loop.ub k0_t1_loop.st)).2 = Z15 c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 := by
  subst h; exact writes_whole harg15 f _ (cov1m c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 Y)
theorem end14 (X13 : BufTy.Contents (Elt F) arg13.view.ty) (X15 : BufTy.Contents (Elt F) arg15.view.ty) (Y : BufTy.Contents (Elt F) arg13.view.ty) (Y' : BufTy.Contents (Elt F) arg15.view.ty) (h : Y = X13) (h' : Y' = X15) (f) : arg14.view.writes (Elt F) f (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 Y Y' (Scf.trips k0_t2_loop.lb k0_t2_loop.ub k0_t2_loop.st)).1 = Z14 c i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 := by
  subst h h'; exact writes_whole harg14 f _ (cov2e c i arg2 harg2 arg3 harg3 arg4 harg4 arg5 harg5 arg6 harg6 arg7 harg7 arg8 harg8 arg9 harg9 arg10 harg10 arg11 harg11 arg12 harg12 arg13 harg13 arg14 harg14 arg15 harg15 arg16 harg16 Y Y')
theorem end16 (X13 : BufTy.Contents (Elt F) arg13.view.ty) (X15 : BufTy.Contents (Elt F) arg15.view.ty) (Y : BufTy.Contents (Elt F) arg13.view.ty) (Y' : BufTy.Contents (Elt F) arg15.view.ty) (h : Y = X13) (h' : Y' = X15) (f) : arg16.view.writes (Elt F) f (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 Y Y' (Scf.trips k0_t2_loop.lb k0_t2_loop.ub k0_t2_loop.st)).2 = Z16 c i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 := by
  subst h h'; exact writes_whole harg16 f _ (cov2d c i arg2 harg2 arg3 harg3 arg4 harg4 arg5 harg5 arg6 harg6 arg7 harg7 arg8 harg8 arg9 harg9 arg10 harg10 arg11 harg11 arg12 harg12 arg13 harg13 arg14 harg14 arg15 harg15 arg16 harg16 Y Y')
theorem end10 (a1 : BitVec 32) (X12 : BufTy.Contents (Elt F) arg12.view.ty) (X14 : BufTy.Contents (Elt F) arg14.view.ty) (X16 : BufTy.Contents (Elt F) arg16.view.ty) (Y : BufTy.Contents (Elt F) arg12.view.ty) (Y' : BufTy.Contents (Elt F) arg14.view.ty) (Y'' : BufTy.Contents (Elt F) arg16.view.ty) (h : Y = X12) (h' : Y' = X14) (h'' : Y'' = X16) (f) :
    arg10.view.read (Elt F) (arg10.view.writes (Elt F) f (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 Y Y' Y'' (Scf.trips k0_t3_loop.lb k0_t3_loop.ub k0_t3_loop.st))) = Z10 c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X12 X14 X16 := by
  subst h h' h''; exact View.read_writes_eq_canon arg10.view f _ (cov3o c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 Y Y' Y'')

/-- What one grid point leaves in the output block. -/
def Zout (x0 x1 x2 x3 x4 x5 x6 : Vec F S1x512x768 .bf16) (x7 : Vec F S6x14x128x128 .f32) (a1 : BitVec 32) : Vec F S1x512x768 .bf16 :=
  Z10 c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 (Z12 arg6 harg6 arg7 harg7 arg8 harg8 arg12 harg12 x4 x5 x6)
    (Z14 c i arg2 harg2 arg3 harg3 arg4 harg4 arg5 harg5 arg6 harg6 arg7 harg7 arg8 harg8 arg9 harg9 arg10 harg10 arg11 harg11 arg12 harg12 arg13 harg13 arg14 harg14 arg15 harg15 arg16 harg16 (Z13 c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 (harg2.unread x0) (harg9.unread x7) (Z11 arg3 harg3 arg4 harg4 arg5 harg5 arg11 harg11 x1 x2 x3)) (Z15 c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 (harg2.unread x0) (harg9.unread x7) (Z11 arg3 harg3 arg4 harg4 arg5 harg5 arg11 harg11 x1 x2 x3)))
    (Z16 c i arg2 harg2 arg3 harg3 arg4 harg4 arg5 harg5 arg6 harg6 arg7 harg7 arg8 harg8 arg9 harg9 arg10 harg10 arg11 harg11 arg12 harg12 arg13 harg13 arg14 harg14 arg15 harg15 arg16 harg16 (Z13 c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 (harg2.unread x0) (harg9.unread x7) (Z11 arg3 harg3 arg4 harg4 arg5 harg5 arg11 harg11 x1 x2 x3)) (Z15 c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 (harg2.unread x0) (harg9.unread x7) (Z11 arg3 harg3 arg4 harg4 arg5 harg5 arg11 harg11 x1 x2 x3)))

end Two

set_option maxHeartbeats 1000000 in
theorem run (c : Dev nD) (i : grid0.Coords) (arg2 : Memref sig .tc .vmem S1x512x768 .bf16) (harg2 : arg2.IsWhole) (arg3 : Memref sig .tc .vmem S1x512x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x512x768 .bf16) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S6x14x128x128 .f32) (harg9 : arg9.IsWhole) (arg10 : Memref sig .tc .vmem S1x512x768 .bf16) (harg10 : arg10.IsWhole) (arg11 : Memref sig .tc .vmem S1536x768 .bf16) (harg11 : arg11.IsWhole) (arg12 : Memref sig .tc .vmem S1536x768 .bf16) (harg12 : arg12.IsWhole) (arg13 : Memref sig .tc .vmem S48x128x512 .f32) (harg13 : arg13.IsWhole) (arg14 : Memref sig .tc .vmem S48x128x512 .bf16) (harg14 : arg14.IsWhole) (arg15 : Memref sig .tc .vmem S48x128x128 .f32) (harg15 : arg15.IsWhole) (arg16 : Memref sig .tc .vmem S48x128x128 .f32) (harg16 : arg16.IsWhole)
    (x0 : Vec F S1x512x768 .bf16) (x1 : Vec F S1x512x768 .bf16) (x2 : Vec F S1x512x768 .bf16) (x3 : Vec F S1x512x768 .bf16) (x4 : Vec F S1x512x768 .bf16) (x5 : Vec F S1x512x768 .bf16) (x6 : Vec F S1x512x768 .bf16) (x7 : Vec F S6x14x128x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (Zout c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (BitVec.ofNat 32 (i 1).val)) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_na_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_na_attn_eq_skeleton]; unfold cc0_na_attn_skel
  simp only [k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  have h11 : ∀ f, arg11.view.writes (Elt F) f (run.sl.HS0_3 c arg3 harg3 arg4 harg4 arg5 harg5 x1 x2 x3) = Z11 arg3 harg3 arg4 harg4 arg5 harg5 arg11 harg11 x1 x2 x3 := fun f =>
    writes_whole harg11 f _ (catCover arg3.view arg4.view arg5.view (harg3.unread x1) (harg4.unread x2) (harg5.unread x3))
  have h12 : ∀ f, arg12.view.writes (Elt F) f (run.sl.HS1_3 c arg6 harg6 arg7 harg7 arg8 harg8 x4 x5 x6) = Z12 arg6 harg6 arg7 harg7 arg8 harg8 arg12 harg12 x4 x5 x6 := fun f =>
    writes_whole harg12 f _ (catCover arg6.view arg7.view arg8.view (harg6.unread x4) (harg7.unread x5) (harg8.unread x6))
  isplitl [H8]
  · iexists _; isplitr; swap; · iexact H8
    ipureintro
    refine end10 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ (h12 _) ?_ ?_ _
    · exact end14 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ (end13 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ (h11 _) _) (end15 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ (h11 _) _) _
    · exact end16 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ (end13 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ (h11 _) _) (end15 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ (h11 _) _) _
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexists _, _; isplitr; swap; · iexact HS5
  ipureintro; rfl

end Cert.Kernel.Gen

end
-- ==== Proof.KFrame.lean ====
module

public import proofs.«01_k».proof.Proof.KRun
public import Idealize.ShloMosaic.Lib.Claim
public import Idealize.ShloMosaic.Lib.Pipeline.Value
public import proofs.«01_k».proof.Proof.Gen.Kernel.Frame.Runs
public import Idealize.ShloMosaic.Lib.Pipeline.ReadBack
public import Idealize.ShloMosaic.Lib.Ring
public import Idealize.ShloMosaic.Lib.Tactic
public import Idealize.ShloMosaic.Lib.Pipeline.ValueKit

@[expose] public section

set_option maxRecDepth 16384

noncomputable section

/-! The whole launch: what it leaves in the output array, and its frame. -/

namespace Cert.Kernel.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output's staging buffer holds after the body at point `t`. -/
def outsAt0 (c : Dev nD) (t : Fin cfg0.N) : Vec F S1x512x768 .bf16 :=
  Zout c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (X0_0 m c t) (X0_1 m c t) (X0_2 m c t) (X0_3 m c t) (X0_4 m c t) (X0_5 m c t) (X0_6 m c t) (iblk m c 7 t) (BitVec.ofNat 32 (grid0.coords t 1).val)

/-! ## The pipeline's proof data -/

/-- The proof data of the pipeline: the arrays as the region finds them, each input block kept, the output block at its closed form. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => X0_6 m c t
    | ⟨7, _⟩ => iblk m c 7 t
    | ⟨8, _⟩ => (outsAt0 m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t) := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid0.coords t) _ _ _ _ _ _ _ _ _ _ _ _ _ _ _ _ _ _ _ _ _ _ _ _ _ _ _ _ _ _ (X0_0 m c t) (X0_1 m c t) (X0_2 m c t) (X0_3 m c t) (X0_4 m c t) (X0_5 m c t) (X0_6 m c t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every execution ends with every array of the pipeline at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: every execution ends, with the arguments unchanged and no semaphore left up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Na

end
-- ==== Proof.Attn.lean ====
module

public import Idealize.ShloMosaic.PureOps.Ideal.Laws

@[expose] public section

noncomputable section

namespace Cert.Attn

open Idealize.ShloMosaic

/-- A finite extended real: neither infinity. -/
def Fin' (x : EReal) : Prop := x ≠ ⊤ ∧ x ≠ ⊥

theorem Fin'.coe {x : EReal} (h : Fin' x) : ((x.toReal : ℝ) : EReal) = x := EReal.coe_toReal h.1 h.2

theorem fin_coe (r : ℝ) : Fin' (r : EReal) := ⟨EReal.coe_ne_top r, EReal.coe_ne_bot r⟩

theorem Fin'.add {x y : EReal} (hx : Fin' x) (hy : Fin' y) : Fin' (x + y) := by
  rw [← hx.coe, ← hy.coe, ← EReal.coe_add]; exact fin_coe _

theorem Fin'.mul {x y : EReal} (hx : Fin' x) (hy : Fin' y) : Fin' (x * y) := by
  rw [← hx.coe, ← hy.coe, ← EReal.coe_mul]; exact fin_coe _

theorem coe_sum {ι : Type} (s : Finset ι) (f : ι → ℝ) : (((∑ i ∈ s, f i : ℝ)) : EReal) = ∑ i ∈ s, (f i : EReal) := by
  classical
  induction s using Finset.induction with
  | empty => simp
  | insert a s ha ih => rw [Finset.sum_insert ha, Finset.sum_insert ha, EReal.coe_add, ih]

theorem Fin'.sum {ι : Type} (s : Finset ι) (f : ι → EReal) (h : ∀ i, Fin' (f i)) : Fin' (∑ i ∈ s, f i) := by
  have : f = fun i => (((f i).toReal : ℝ) : EReal) := funext fun i => (h i).coe.symm
  rw [this, ← coe_sum]; exact fin_coe _

theorem fold_max_eq_sup {ι : Type} [Fintype ι] (f : ι → EReal) : Finset.univ.fold max ⊥ f = Finset.univ.sup f := rfl

theorem div_coe {a b : ℝ} (hb : b ≠ 0) : Ideal.div (a : EReal) (b : EReal) = ((a / b : ℝ) : EReal) := by
  have : ((b : ℝ) : EReal) ≠ 0 := by exact_mod_cast hb
  rw [Ideal.div, if_neg this, div_eq_mul_inv, EReal.coe_mul, EReal.coe_inv]

/-- Attention over `K` keys of which only the `R` at `ι` are scored above `⊥`: the weighted sum over all of them,
    divided once by the sum of the weights, is the sum over the `R` of the divided weights. -/
theorem attn_eq {K R : Type} [Fintype K] [Fintype R] (ι : R → K) (hι : Function.Injective ι)
    (f : K → EReal) (g : R → EReal) (hg : ∀ r, g r = f (ι r))
    (hoff : ∀ k, (∀ r, ι r ≠ k) → f k = ⊥) (hf : ∀ k, f k ≠ ⊤) (hex : ∃ k, f k ≠ ⊥)
    (v : K → EReal) (w : R → EReal) (hw : ∀ r, w r = v (ι r)) (hv : ∀ k, Fin' (v k)) :
    Ideal.div (∑ k, Ideal.exp (f k - Finset.univ.sup f) * v k) (∑ k, Ideal.exp (f k - Finset.univ.sup f))
      = ∑ r, Ideal.div (Ideal.exp (g r - Finset.univ.sup g)) (∑ r', Ideal.exp (g r' - Finset.univ.sup g)) * w r := by
  classical
  have hsup : Finset.univ.sup g = Finset.univ.sup f := by
    apply le_antisymm
    · exact Finset.sup_le fun r _ => by rw [hg]; exact Finset.le_sup (Finset.mem_univ _)
    · refine Finset.sup_le fun k _ => ?_
      by_cases hk : ∃ r, ι r = k
      · obtain ⟨r, rfl⟩ := hk; rw [← hg]; exact Finset.le_sup (Finset.mem_univ _)
      · rw [hoff k fun r h => hk ⟨r, h⟩]; exact bot_le
  obtain ⟨k0, hk0⟩ := hex
  obtain ⟨km, -, hkm⟩ := Finset.exists_mem_eq_sup (Finset.univ : Finset K) ⟨k0, Finset.mem_univ _⟩ f
  have hMt : Finset.univ.sup f ≠ ⊤ := hkm ▸ hf km
  have hMb : Finset.univ.sup f ≠ ⊥ := fun h => hk0 (le_bot_iff.1 (h ▸ Finset.le_sup (Finset.mem_univ k0)))
  have hfm : f km ≠ ⊥ := hkm ▸ hMb
  rw [hsup]
  generalize hM : Finset.univ.sup f = M at *
  obtain ⟨m, rfl⟩ : ∃ m : ℝ, M = m := ⟨M.toReal, (EReal.coe_toReal hMt hMb).symm⟩
  let E : K → ℝ := fun k => if f k = ⊥ then 0 else Real.exp ((f k).toReal - m)
  have hE : ∀ k, Ideal.exp (f k - (m : EReal)) = (E k : EReal) := fun k => by
    by_cases h : f k = ⊥
    · simp [E, h]
    · simp only [E, h, if_false]
      conv_lhs => rw [← EReal.coe_toReal (hf k) h, ← EReal.coe_sub]
      rfl
  have hEnn : ∀ k, 0 ≤ E k := fun k => by
    by_cases h : f k = ⊥ <;> simp [E, h, Real.exp_nonneg]
  have hEpos : 0 < E km := by simp [E, hfm, Real.exp_pos]
  have hEoff : ∀ k, k ∉ Finset.univ.image ι → E k = 0 := fun k hk => by
    have : f k = ⊥ := hoff k fun r h => hk (Finset.mem_image.2 ⟨r, Finset.mem_univ _, h⟩)
    simp [E, this]
  have hD : 0 < ∑ k, E k := Finset.sum_pos' (fun k _ => hEnn k) ⟨km, Finset.mem_univ _, hEpos⟩
  have hR : ∀ F : K → ℝ, (∀ k, k ∉ Finset.univ.image ι → F k = 0) → ∑ r, F (ι r) = ∑ k, F k := fun F hF => by
    rw [← Finset.sum_image (s := Finset.univ) (g := ι) (f := F) (fun a _ b _ h => hι h)]
    exact Finset.sum_subset (Finset.subset_univ _) fun k _ hk => hF k hk
  have hvr : ∀ k, v k = (((v k).toReal : ℝ) : EReal) := fun k => (hv k).coe.symm
  have hgE : ∀ r, Ideal.exp (g r - (m : EReal)) = (E (ι r) : EReal) := fun r => by rw [hg, hE]
  simp only [hE, hgE]
  rw [← coe_sum, ← coe_sum, hR E hEoff]
  have h1 : (∑ k, (E k : EReal) * v k) = ((∑ k, E k * (v k).toReal : ℝ) : EReal) := by
    rw [coe_sum]; exact Finset.sum_congr rfl fun k _ => by rw [EReal.coe_mul, ← hvr]
  rw [h1, div_coe hD.ne', ← hR (fun k => E k * (v k).toReal) (fun k hk => by rw [hEoff k hk, zero_mul]),
    Finset.sum_div, coe_sum]
  refine Finset.sum_congr rfl fun r _ => ?_
  rw [div_coe hD.ne', hw, hvr (ι r), ← EReal.coe_mul]
  simp only [EReal.toReal_coe]
  congr 1; ring

end Cert.Attn

end
-- ==== Proof.Spec.lean ====
module

public import proofs.«01_k».proof.Proof.Attn
public import Idealize.ShloMosaic.Lib.ValueIdx

@[expose] public section

noncomputable section

namespace Cert.Attn

open Idealize.ShloMosaic Idealize.ShloMosaic.ValueIdx

/-- An array of rank three read at natural numbers, `0` outside it. -/
def at3 {n0 n1 n2 : ℕ} (x : (⟨3, ![n0, n1, n2]⟩ : Shape).Idx → EReal) (a b c : ℕ) : EReal :=
  if h : a < n0 ∧ b < n1 ∧ c < n2 then x (ix3 ⟨a, h.1⟩ ⟨b, h.2.1⟩ ⟨c, h.2.2⟩) else 0

theorem at3_eq {n0 n1 n2 : ℕ} (x : (⟨3, ![n0, n1, n2]⟩ : Shape).Idx → EReal) (i : (⟨3, ![n0, n1, n2]⟩ : Shape).Idx) :
    x i = at3 x (i 0).val (i 1).val (i 2).val := by
  have h : (i 0).val < n0 ∧ (i 1).val < n1 ∧ (i 2).val < n2 := ⟨(i 0).isLt, (i 1).isLt, (i 2).isLt⟩
  rw [at3, dif_pos h]; exact congrArg x (eq_ix3 i)

theorem at3_of {n0 n1 n2 : ℕ} (x : (⟨3, ![n0, n1, n2]⟩ : Shape).Idx → EReal) (i : (⟨3, ![n0, n1, n2]⟩ : Shape).Idx)
    {a b c : ℕ} (h0 : (i 0).val = a) (h1 : (i 1).val = b) (h2 : (i 2).val = c) : x i = at3 x a b c := by
  subst h0 h1 h2; exact at3_eq x i

theorem fin_at3 {n0 n1 n2 : ℕ} (x : (⟨3, ![n0, n1, n2]⟩ : Shape).Idx → EReal) (h : ∀ i, Fin' (x i)) (a b c : ℕ) :
    Fin' (at3 x a b c) := by
  unfold at3; split
  · exact h _
  · exact fin_coe 0

/-- The first grid row of the window of grid row `r`. -/
def rowStart (r : ℕ) : ℕ := min (r - 4) 56
/-- The first column gathered for column block `n`. -/
def colStart (n : ℕ) : ℕ := min (16 * n - 8) 32
/-- The first column of the window of column `c`. -/
def winStart (c : ℕ) : ℕ := min (c - 8) 48
/-- Column `kc` lies in the window of column `c`. -/
def Seen (c kc : ℕ) : Prop := winStart c ≤ kc ∧ kc < winStart c + 16

instance (c kc : ℕ) : Decidable (Seen c kc) := inferInstanceAs (Decidable (_ ∧ _))

variable (h : (⟨3, ![16, 4096, 2560]⟩ : Shape).Idx → EReal) (rpb : (⟨3, ![12, 15, 31]⟩ : Shape).Idx → EReal)

/-- The score of token `t`'s query against token `u`'s key in head `n` of batch `b`, where the window holds it. -/
def score (b t n u : ℕ) : EReal :=
  if Seen (t % 64) (u % 64) then
    (∑ d : Fin 64, at3 h b t (64 * n + d) * Ideal.ofBits .f32 0x3E000000#32 * at3 h b u (768 + 64 * n + d))
      + at3 rpb n (u / 64 + 7 - t / 64) (u % 64 + 15 - t % 64)
  else ⊥

/-- The token of the `k`-th key of the window rows of token `t`. -/
def keyTok (t k : ℕ) : ℕ := rowStart (t / 64) * 64 + k
/-- The token of the `k`-th key gathered for token `t`. -/
def gatTok (t k : ℕ) : ℕ := rowStart (t / 64) * 64 + ((k / 32) * 64 + colStart (t % 64 / 16) + k % 32)

/-- The attention output as the reference writes it, over the gathered keys. -/
def refOut (b t n d : ℕ) : EReal :=
  ∑ k : Fin 256, Ideal.div (Ideal.exp (score h rpb b t n (gatTok t k) - Finset.univ.sup fun k' : Fin 256 => score h rpb b t n (gatTok t k')))
      (∑ k'' : Fin 256, Ideal.exp (score h rpb b t n (gatTok t k'') - Finset.univ.sup fun k' : Fin 256 => score h rpb b t n (gatTok t k')))
    * at3 h b (gatTok t k) (1536 + 64 * n + d)

/-- The attention output as the kernel writes it, over all the keys of the window rows. -/
def kerOut (b t n d : ℕ) : EReal :=
  Ideal.div (∑ k : Fin 512, Ideal.exp (score h rpb b t n (keyTok t k) - Finset.univ.sup fun k' : Fin 512 => score h rpb b t n (keyTok t k'))
      * at3 h b (keyTok t k) (1536 + 64 * n + d))
    (∑ k : Fin 512, Ideal.exp (score h rpb b t n (keyTok t k) - Finset.univ.sup fun k' : Fin 512 => score h rpb b t n (keyTok t k')))

theorem eighth : Ideal.ofBits .f32 0x3E000000#32 = ((1 / 8 : ℝ) : EReal) := by
  simp [Ideal.ofBits, Ideal.ieee, ← EReal.coe_mul]; norm_num

theorem eighth_bf16 : Ideal.ofBits .bf16 0x3E00#16 = Ideal.ofBits .f32 0x3E000000#32 := by
  rw [eighth]; simp [Ideal.ofBits, Ideal.ieee, ← EReal.coe_mul]; norm_num

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

variable {h rpb}

theorem score_fin (hh : ∀ i, Fin' (h i)) (hr : ∀ i, Fin' (rpb i)) {b t n u : ℕ} (hs : Seen (t % 64) (u % 64)) :
    Fin' (score h rpb b t n u) := by
  rw [score, if_pos hs]
  refine Fin'.add (Fin'.sum _ _ fun d => Fin'.mul (Fin'.mul (fin_at3 h hh _ _ _) ?_) (fin_at3 h hh _ _ _)) (fin_at3 rpb hr _ _ _)
  rw [eighth]; exact fin_coe _

/-- The two are one, on finite arrays. -/
theorem kerOut_eq_refOut (hh : ∀ i, Fin' (h i)) (hr : ∀ i, Fin' (rpb i)) (b t n d : ℕ) :
    kerOut h rpb b t n d = refOut h rpb b t n d := by
  have hc := Nat.mod_lt t (show 0 < 64 by decide)
  have hmod : ∀ x : ℕ, (rowStart (t / 64) * 64 + x) % 64 = x % 64 := fun x => by omega
  refine attn_eq (fun k : Fin 256 => (⟨(k / 32) * 64 + colStart (t % 64 / 16) + k % 32, ?_⟩ : Fin 512)) ?_
    (fun k : Fin 512 => score h rpb b t n (keyTok t k)) (fun k : Fin 256 => score h rpb b t n (gatTok t k))
    (fun r => rfl) ?_ ?_ ?_
    (fun k : Fin 512 => at3 h b (keyTok t k) (1536 + 64 * n + d)) (fun k : Fin 256 => at3 h b (gatTok t k) (1536 + 64 * n + d))
    (fun r => rfl) (fun k => fin_at3 h hh _ _ _)
  · have := k.isLt; simp only [colStart]; omega
  · intro k k' e
    have e' := congrArg Fin.val e
    simp only [colStart] at e'
    exact Fin.ext (by omega)
  · intro k hk
    show score h rpb b t n (keyTok t k) = ⊥
    rw [keyTok, score, if_neg]
    rw [hmod]
    intro hs
    have hkl := k.isLt
    simp only [Seen, winStart] at hs
    refine hk ⟨(k.val / 64) * 32 + (k.val % 64 - colStart (t % 64 / 16)), ?_⟩ (Fin.ext ?_)
    · simp only [colStart]; omega
    · simp only [colStart]; omega
  · intro k
    by_cases hs : Seen (t % 64) ((keyTok t k) % 64)
    · exact (score_fin hh hr hs).1
    · rw [score, if_neg hs]; exact bot_ne_top
  · refine ⟨⟨winStart (t % 64), by simp only [winStart]; omega⟩, ?_⟩
    refine (score_fin hh hr ?_).2
    simp only [keyTok, hmod, Seen, winStart]; omega

end Cert.Attn

end
-- ==== Proof.NaOff.lean ====
module

public import proofs.«01_k».proof.KernelIdeal
public import proofs.«01_k».proof.Proof.Spec

@[expose] public section

set_option maxRecDepth 16384

noncomputable section

/-! The offsets the kernel computes, as numbers: the block's row band `j = i 1`, the trip `t`, the column group `p`. -/

namespace Cert.KernelIdeal.Gen

open Idealize.ShloMosaic Cert.Attn

/-- The first of the 512 keys of row `t` of band `j`, in the three bands laid end to end. -/
def key0 (j t : ℕ) : ℕ := (rowStart (8 * j + t) + 8 - 8 * j) * 64

/-- The first of the seven bias tiles' numbers for row `t` of band `j`. -/
def tile0 (j t : ℕ) : ℕ := 7 + rowStart (8 * j + t) - (8 * j + t)

theorem off1_eq (t : Fin k0_t1_loop.trips) : k0_off1 t = ![0, t.val * 64, 0] := by
  revert t; decide +kernel

theorem off6_eq (t : Fin k0_t1_loop.trips) : k0_off6 t = ![0, t.val * 64, 128] := by
  revert t; decide +kernel

theorem off9_eq (t : Fin k0_t1_loop.trips) : k0_off9 t = ![0, t.val * 64, 256] := by
  revert t; decide +kernel

theorem off12_eq (t : Fin k0_t1_loop.trips) : k0_off12 t = ![0, t.val * 64, 384] := by
  revert t; decide +kernel

theorem off15_eq (t : Fin k0_t1_loop.trips) : k0_off15 t = ![0, t.val * 64, 512] := by
  revert t; decide +kernel

theorem off18_eq (t : Fin k0_t1_loop.trips) : k0_off18 t = ![0, t.val * 64, 640] := by
  revert t; decide +kernel

theorem off2_eq (i : grid0.Coords) (t : Fin k0_t1_loop.trips) : k0_off2 i t = ![key0 (i 1).val t.val, 0] := by
  unfold k0_off2; generalize (i 1) = j; revert j t; decide +kernel

theorem off7_eq (i : grid0.Coords) (t : Fin k0_t1_loop.trips) : k0_off7 i t = ![key0 (i 1).val t.val, 128] := by
  unfold k0_off7; generalize (i 1) = j; revert j t; decide +kernel

theorem off10_eq (i : grid0.Coords) (t : Fin k0_t1_loop.trips) : k0_off10 i t = ![key0 (i 1).val t.val, 256] := by
  unfold k0_off10; generalize (i 1) = j; revert j t; decide +kernel

theorem off13_eq (i : grid0.Coords) (t : Fin k0_t1_loop.trips) : k0_off13 i t = ![key0 (i 1).val t.val, 384] := by
  unfold k0_off13; generalize (i 1) = j; revert j t; decide +kernel

theorem off16_eq (i : grid0.Coords) (t : Fin k0_t1_loop.trips) : k0_off16 i t = ![key0 (i 1).val t.val, 512] := by
  unfold k0_off16; generalize (i 1) = j; revert j t; decide +kernel

theorem off19_eq (i : grid0.Coords) (t : Fin k0_t1_loop.trips) : k0_off19 i t = ![key0 (i 1).val t.val, 640] := by
  unfold k0_off19; generalize (i 1) = j; revert j t; decide +kernel

theorem off3_0_eq (i : grid0.Coords) (t : Fin k0_t1_loop.trips) : k0_off3 i t 0#32 = ![0, tile0 (i 1).val t.val + 0, 0, 0] := by
  unfold k0_off3; generalize (i 1) = j; revert j t; decide +kernel

theorem off3_2_eq (i : grid0.Coords) (t : Fin k0_t1_loop.trips) : k0_off3 i t 2#32 = ![0, tile0 (i 1).val t.val + 2, 0, 0] := by
  unfold k0_off3; generalize (i 1) = j; revert j t; decide +kernel

theorem off3_4_eq (i : grid0.Coords) (t : Fin k0_t1_loop.trips) : k0_off3 i t 4#32 = ![0, tile0 (i 1).val t.val + 4, 0, 0] := by
  unfold k0_off3; generalize (i 1) = j; revert j t; decide +kernel

theorem off3_6_eq (i : grid0.Coords) (t : Fin k0_t1_loop.trips) : k0_off3 i t 6#32 = ![0, tile0 (i 1).val t.val + 6, 0, 0] := by
  unfold k0_off3; generalize (i 1) = j; revert j t; decide +kernel

theorem off8_0_eq (i : grid0.Coords) (t : Fin k0_t1_loop.trips) : k0_off8 i t 0#32 = ![1, tile0 (i 1).val t.val + 0, 0, 0] := by
  unfold k0_off8; generalize (i 1) = j; revert j t; decide +kernel

theorem off8_2_eq (i : grid0.Coords) (t : Fin k0_t1_loop.trips) : k0_off8 i t 2#32 = ![1, tile0 (i 1).val t.val + 2, 0, 0] := by
  unfold k0_off8; generalize (i 1) = j; revert j t; decide +kernel

theorem off8_4_eq (i : grid0.Coords) (t : Fin k0_t1_loop.trips) : k0_off8 i t 4#32 = ![1, tile0 (i 1).val t.val + 4, 0, 0] := by
  unfold k0_off8; generalize (i 1) = j; revert j t; decide +kernel

theorem off8_6_eq (i : grid0.Coords) (t : Fin k0_t1_loop.trips) : k0_off8 i t 6#32 = ![1, tile0 (i 1).val t.val + 6, 0, 0] := by
  unfold k0_off8; generalize (i 1) = j; revert j t; decide +kernel

theorem off11_0_eq (i : grid0.Coords) (t : Fin k0_t1_loop.trips) : k0_off11 i t 0#32 = ![2, tile0 (i 1).val t.val + 0, 0, 0] := by
  unfold k0_off11; generalize (i 1) = j; revert j t; decide +kernel

theorem off11_2_eq (i : grid0.Coords) (t : Fin k0_t1_loop.trips) : k0_off11 i t 2#32 = ![2, tile0 (i 1).val t.val + 2, 0, 0] := by
  unfold k0_off11; generalize (i 1) = j; revert j t; decide +kernel

theorem off11_4_eq (i : grid0.Coords) (t : Fin k0_t1_loop.trips) : k0_off11 i t 4#32 = ![2, tile0 (i 1).val t.val + 4, 0, 0] := by
  unfold k0_off11; generalize (i 1) = j; revert j t; decide +kernel

theorem off11_6_eq (i : grid0.Coords) (t : Fin k0_t1_loop.trips) : k0_off11 i t 6#32 = ![2, tile0 (i 1).val t.val + 6, 0, 0] := by
  unfold k0_off11; generalize (i 1) = j; revert j t; decide +kernel

theorem off14_0_eq (i : grid0.Coords) (t : Fin k0_t1_loop.trips) : k0_off14 i t 0#32 = ![3, tile0 (i 1).val t.val + 0, 0, 0] := by
  unfold k0_off14; generalize (i 1) = j; revert j t; decide +kernel

theorem off14_2_eq (i : grid0.Coords) (t : Fin k0_t1_loop.trips) : k0_off14 i t 2#32 = ![3, tile0 (i 1).val t.val + 2, 0, 0] := by
  unfold k0_off14; generalize (i 1) = j; revert j t; decide +kernel

theorem off14_4_eq (i : grid0.Coords) (t : Fin k0_t1_loop.trips) : k0_off14 i t 4#32 = ![3, tile0 (i 1).val t.val + 4, 0, 0] := by
  unfold k0_off14; generalize (i 1) = j; revert j t; decide +kernel

theorem off14_6_eq (i : grid0.Coords) (t : Fin k0_t1_loop.trips) : k0_off14 i t 6#32 = ![3, tile0 (i 1).val t.val + 6, 0, 0] := by
  unfold k0_off14; generalize (i 1) = j; revert j t; decide +kernel

theorem off17_0_eq (i : grid0.Coords) (t : Fin k0_t1_loop.trips) : k0_off17 i t 0#32 = ![4, tile0 (i 1).val t.val + 0, 0, 0] := by
  unfold k0_off17; generalize (i 1) = j; revert j t; decide +kernel

theorem off17_2_eq (i : grid0.Coords) (t : Fin k0_t1_loop.trips) : k0_off17 i t 2#32 = ![4, tile0 (i 1).val t.val + 2, 0, 0] := by
  unfold k0_off17; generalize (i 1) = j; revert j t; decide +kernel

theorem off17_4_eq (i : grid0.Coords) (t : Fin k0_t1_loop.trips) : k0_off17 i t 4#32 = ![4, tile0 (i 1).val t.val + 4, 0, 0] := by
  unfold k0_off17; generalize (i 1) = j; revert j t; decide +kernel

theorem off17_6_eq (i : grid0.Coords) (t : Fin k0_t1_loop.trips) : k0_off17 i t 6#32 = ![4, tile0 (i 1).val t.val + 6, 0, 0] := by
  unfold k0_off17; generalize (i 1) = j; revert j t; decide +kernel

theorem off20_0_eq (i : grid0.Coords) (t : Fin k0_t1_loop.trips) : k0_off20 i t 0#32 = ![5, tile0 (i 1).val t.val + 0, 0, 0] := by
  unfold k0_off20; generalize (i 1) = j; revert j t; decide +kernel

theorem off20_2_eq (i : grid0.Coords) (t : Fin k0_t1_loop.trips) : k0_off20 i t 2#32 = ![5, tile0 (i 1).val t.val + 2, 0, 0] := by
  unfold k0_off20; generalize (i 1) = j; revert j t; decide +kernel

theorem off20_4_eq (i : grid0.Coords) (t : Fin k0_t1_loop.trips) : k0_off20 i t 4#32 = ![5, tile0 (i 1).val t.val + 4, 0, 0] := by
  unfold k0_off20; generalize (i 1) = j; revert j t; decide +kernel

theorem off20_6_eq (i : grid0.Coords) (t : Fin k0_t1_loop.trips) : k0_off20 i t 6#32 = ![5, tile0 (i 1).val t.val + 6, 0, 0] := by
  unfold k0_off20; generalize (i 1) = j; revert j t; decide +kernel

theorem off4_0_eq (t : Fin k0_t1_loop.trips) : k0_off4 t 0#32 = ![t.val * 6 + 0, 0, 0] := by
  revert t; decide +kernel

theorem off4_1_eq (t : Fin k0_t1_loop.trips) : k0_off4 t 1#32 = ![t.val * 6 + 1, 0, 0] := by
  revert t; decide +kernel

theorem off4_2_eq (t : Fin k0_t1_loop.trips) : k0_off4 t 2#32 = ![t.val * 6 + 2, 0, 0] := by
  revert t; decide +kernel

theorem off4_3_eq (t : Fin k0_t1_loop.trips) : k0_off4 t 3#32 = ![t.val * 6 + 3, 0, 0] := by
  revert t; decide +kernel

theorem off4_4_eq (t : Fin k0_t1_loop.trips) : k0_off4 t 4#32 = ![t.val * 6 + 4, 0, 0] := by
  revert t; decide +kernel

theorem off4_5_eq (t : Fin k0_t1_loop.trips) : k0_off4 t 5#32 = ![t.val * 6 + 5, 0, 0] := by
  revert t; decide +kernel

theorem off5_0_eq (t : Fin k0_t1_loop.trips) : k0_off5 t 0#32 = ![t.val * 6 + 0, 0, 0] := by
  revert t; decide +kernel

theorem off5_1_eq (t : Fin k0_t1_loop.trips) : k0_off5 t 1#32 = ![t.val * 6 + 1, 0, 0] := by
  revert t; decide +kernel

theorem off5_2_eq (t : Fin k0_t1_loop.trips) : k0_off5 t 2#32 = ![t.val * 6 + 2, 0, 0] := by
  revert t; decide +kernel

theorem off5_3_eq (t : Fin k0_t1_loop.trips) : k0_off5 t 3#32 = ![t.val * 6 + 3, 0, 0] := by
  revert t; decide +kernel

theorem off5_4_eq (t : Fin k0_t1_loop.trips) : k0_off5 t 4#32 = ![t.val * 6 + 4, 0, 0] := by
  revert t; decide +kernel

theorem off5_5_eq (t : Fin k0_t1_loop.trips) : k0_off5 t 5#32 = ![t.val * 6 + 5, 0, 0] := by
  revert t; decide +kernel

theorem off23_0_eq (t : Fin k0_t3_loop.trips) : k0_off23 t 0#32 = ![t.val * 6 + 0, 0, 0] := by
  revert t; decide +kernel

theorem off23_1_eq (t : Fin k0_t3_loop.trips) : k0_off23 t 1#32 = ![t.val * 6 + 1, 0, 0] := by
  revert t; decide +kernel

theorem off23_2_eq (t : Fin k0_t3_loop.trips) : k0_off23 t 2#32 = ![t.val * 6 + 2, 0, 0] := by
  revert t; decide +kernel

theorem off23_3_eq (t : Fin k0_t3_loop.trips) : k0_off23 t 3#32 = ![t.val * 6 + 3, 0, 0] := by
  revert t; decide +kernel

theorem off23_4_eq (t : Fin k0_t3_loop.trips) : k0_off23 t 4#32 = ![t.val * 6 + 4, 0, 0] := by
  revert t; decide +kernel

theorem off23_5_eq (t : Fin k0_t3_loop.trips) : k0_off23 t 5#32 = ![t.val * 6 + 5, 0, 0] := by
  revert t; decide +kernel

theorem off25_0_eq (t : Fin k0_t3_loop.trips) : k0_off25 t 0#32 = ![t.val * 6 + 0, 0, 0] := by
  revert t; decide +kernel

theorem off25_1_eq (t : Fin k0_t3_loop.trips) : k0_off25 t 1#32 = ![t.val * 6 + 1, 0, 0] := by
  revert t; decide +kernel

theorem off25_2_eq (t : Fin k0_t3_loop.trips) : k0_off25 t 2#32 = ![t.val * 6 + 2, 0, 0] := by
  revert t; decide +kernel

theorem off25_3_eq (t : Fin k0_t3_loop.trips) : k0_off25 t 3#32 = ![t.val * 6 + 3, 0, 0] := by
  revert t; decide +kernel

theorem off25_4_eq (t : Fin k0_t3_loop.trips) : k0_off25 t 4#32 = ![t.val * 6 + 4, 0, 0] := by
  revert t; decide +kernel

theorem off25_5_eq (t : Fin k0_t3_loop.trips) : k0_off25 t 5#32 = ![t.val * 6 + 5, 0, 0] := by
  revert t; decide +kernel

theorem off21_eq (u : Fin k0_t2_loop.trips) : k0_off21 u = ![u.val, 0, 0] := by
  revert u; decide +kernel

theorem off22_eq (u : Fin k0_t2_loop.trips) : k0_off22 u = ![u.val, 0, 0] := by
  revert u; decide +kernel

theorem off24_eq (i : grid0.Coords) (t : Fin k0_t3_loop.trips) : k0_off24 i t = ![key0 (i 1).val t.val, 0] := by
  unfold k0_off24; generalize (i 1) = j; revert j t; decide +kernel

theorem off27_eq (i : grid0.Coords) (t : Fin k0_t3_loop.trips) : k0_off27 i t = ![key0 (i 1).val t.val, 128] := by
  unfold k0_off27; generalize (i 1) = j; revert j t; decide +kernel

theorem off29_eq (i : grid0.Coords) (t : Fin k0_t3_loop.trips) : k0_off29 i t = ![key0 (i 1).val t.val, 256] := by
  unfold k0_off29; generalize (i 1) = j; revert j t; decide +kernel

theorem off31_eq (i : grid0.Coords) (t : Fin k0_t3_loop.trips) : k0_off31 i t = ![key0 (i 1).val t.val, 384] := by
  unfold k0_off31; generalize (i 1) = j; revert j t; decide +kernel

theorem off33_eq (i : grid0.Coords) (t : Fin k0_t3_loop.trips) : k0_off33 i t = ![key0 (i 1).val t.val, 512] := by
  unfold k0_off33; generalize (i 1) = j; revert j t; decide +kernel

theorem off35_eq (i : grid0.Coords) (t : Fin k0_t3_loop.trips) : k0_off35 i t = ![key0 (i 1).val t.val, 640] := by
  unfold k0_off35; generalize (i 1) = j; revert j t; decide +kernel

theorem off26_eq (t : Fin k0_t3_loop.trips) : k0_off26 t = ![0, t.val * 64, 0] := by
  revert t; decide +kernel

theorem off28_eq (t : Fin k0_t3_loop.trips) : k0_off28 t = ![0, t.val * 64, 128] := by
  revert t; decide +kernel

theorem off30_eq (t : Fin k0_t3_loop.trips) : k0_off30 t = ![0, t.val * 64, 256] := by
  revert t; decide +kernel

theorem off32_eq (t : Fin k0_t3_loop.trips) : k0_off32 t = ![0, t.val * 64, 384] := by
  revert t; decide +kernel

theorem off34_eq (t : Fin k0_t3_loop.trips) : k0_off34 t = ![0, t.val * 64, 512] := by
  revert t; decide +kernel

theorem off36_eq (t : Fin k0_t3_loop.trips) : k0_off36 t = ![0, t.val * 64, 640] := by
  revert t; decide +kernel

end Cert.KernelIdeal.Gen

end
-- ==== Proof.NaPay.lean ====
module

public import proofs.«01_k».proof.Proof.Gen.KernelIdeal.Skeleton
public import proofs.«01_k».proof.Proof.NaOff
public import Idealize.ShloMosaic.Lib.ValueIdx
public import Idealize.ShloMosaic.Lib.Pointwise

@[expose] public section

set_option maxRecDepth 16384

noncomputable section

/-! What the kernel stores, read at an index: the scores, their row maxima, the exponentials, their row sums, the outputs. -/

namespace Cert.KernelIdeal.Gen

open Idealize.ShloMosaic Idealize.ShloMosaic.TcCoe Idealize.ShloMosaic.Tactic
open Cert.Attn

/-- An array of rank two read at natural numbers, `0` outside it. -/
def at2 {n0 n1 : ℕ} (x : (⟨2, ![n0, n1]⟩ : Shape).Idx → EReal) (a b : ℕ) : EReal :=
  if h : a < n0 ∧ b < n1 then x (ix2 ⟨a, h.1⟩ ⟨b, h.2⟩) else 0

theorem at2_of {n0 n1 : ℕ} (x : (⟨2, ![n0, n1]⟩ : Shape).Idx → EReal) (i : (⟨2, ![n0, n1]⟩ : Shape).Idx)
    {a b : ℕ} (h0 : (i 0).val = a) (h1 : (i 1).val = b) : x i = at2 x a b := by
  subst h0 h1; rw [at2, dif_pos ⟨(i 0).isLt, (i 1).isLt⟩]; exact congrArg x (eq_ix2 i)

/-- An array of rank four read at natural numbers, `0` outside it. -/
def at4 {n0 n1 n2 n3 : ℕ} (x : (⟨4, ![n0, n1, n2, n3]⟩ : Shape).Idx → EReal) (a b c d : ℕ) : EReal :=
  if h : a < n0 ∧ b < n1 ∧ c < n2 ∧ d < n3 then x (ix4 ⟨a, h.1⟩ ⟨b, h.2.1⟩ ⟨c, h.2.2.1⟩ ⟨d, h.2.2.2⟩) else 0

theorem at4_of {n0 n1 n2 n3 : ℕ} (x : (⟨4, ![n0, n1, n2, n3]⟩ : Shape).Idx → EReal) (i : (⟨4, ![n0, n1, n2, n3]⟩ : Shape).Idx)
    {a b c d : ℕ} (h0 : (i 0).val = a) (h1 : (i 1).val = b) (h2 : (i 2).val = c) (h3 : (i 3).val = d) : x i = at4 x a b c d := by
  subst h0 h1 h2 h3; rw [at4, dif_pos ⟨(i 0).isLt, (i 1).isLt, (i 2).isLt, (i 3).isLt⟩]; exact congrArg x (eq_ix4 i)

variable (x0 : Vec Ideal S1x512x768 .bf16) (kc vc : Vec Ideal S1536x768 .bf16) (x7 : Vec Ideal S6x14x128x128 .f32)

/-- The scaled query of slab row `r`, zero off its own half of the lanes. -/
def qz (t p r l : ℕ) : EReal :=
  if (l < 64 ↔ r < 64) then at3 x0 0 (t * 64 + r % 64) (p * 128 + l) * Ideal.ofBits .bf16 0x3E00#16 else 0

/-- The score the kernel forms for row `t` of band `j`, column group `p`, slab row `r`, key `k`. -/
def sc (j t p r k : ℕ) : EReal :=
  (∑ l : Fin 128, qz x0 t p r l.val
      * at2 kc (key0 j t + k) (p * 128 + l.val))
    + at4 x7 p (tile0 j t + 2 * (k / 128)) r (k % 128)

/-- The row maximum of the scores. -/
def mx (j t p r : ℕ) : EReal :=
  (Finset.univ : Finset (Fin 512)).fold max (Ideal.ofBits .f32 0xFF800000#32) fun k => sc x0 kc x7 j t p r k.val

/-- The weight of key `k` before the division. -/
def ex (j t p r k : ℕ) : EReal := Ideal.exp (sc x0 kc x7 j t p r k - mx x0 kc x7 j t p r)

/-- The scores' buffer, all slabs. -/
def SB (j : ℕ) : Vec Ideal S48x128x512 .f32 := fun y => sc x0 kc x7 j ((y 0).val / 6) ((y 0).val % 6) (y 1).val (y 2).val
/-- The row maxima's buffer. -/
def MB (j : ℕ) : Vec Ideal S48x128x128 .f32 := fun y => mx x0 kc x7 j ((y 0).val / 6) ((y 0).val % 6) (y 1).val
/-- The weights' buffer. -/
def EB (j : ℕ) : Vec Ideal S48x128x512 .bf16 := fun y => ex x0 kc x7 j ((y 0).val / 6) ((y 0).val % 6) (y 1).val (y 2).val
/-- The row sums' buffer. -/
def DB (j : ℕ) : Vec Ideal S48x128x128 .f32 := fun y => ∑ k : Fin 512, ex x0 kc x7 j ((y 0).val / 6) ((y 0).val % 6) (y 1).val k.val

/-- The slab row holding column `c` for lane `l`. -/
def row (l c : ℕ) : ℕ := (if l < 64 then 0 else 64) + c

/-- One output of the band: row `t`, grid column `c`, column group `p`, lane `l`. -/
def ou (j t p c l : ℕ) : EReal :=
  Ideal.div (∑ k : Fin 512, ex x0 kc x7 j t p (row l c) k.val * at2 vc (key0 j t + k.val) (p * 128 + l))
    (∑ k : Fin 512, ex x0 kc x7 j t p (row l c) k.val)

/-- The output block. -/
def OB (j : ℕ) : Vec Ideal S1x512x768 .bf16 := fun y => ou x0 kc vc x7 j ((y 1).val / 64) ((y 2).val / 128) ((y 1).val % 64) ((y 2).val % 128)

/-- The scores' slab the kernel forms from its loads. -/
def scorePay (q : Vec Ideal S1x64x128 .bf16) (k : Vec Ideal S512x128 .bf16) (b0 b1 b2 b3 : Vec Ideal S1x1x128x128 .f32) : FVec Ideal S128x512 .f32 :=
  addf (k0_pay11 k0_pay2 q k) (k0_pay36 b0 b1 b2 b3)

theorem sel_lt (n : ℕ) (hn : n < 128) {α : Type} (a b : α) :
    Scalar.select (IntOp.cmpi CmpIPredicate.slt (BitVec.ofNat 32 n) 64#32) a b = if n < 64 then a else b := by
  have h : ∀ m : Fin 128, IntOp.cmpi CmpIPredicate.slt (BitVec.ofNat 32 m.val) 64#32 = if m.val < 64 then 1#1 else 0#1 := by decide
  rw [h ⟨n, hn⟩]; dsimp only; split <;> rfl

theorem scorePay_apply (q : Vec Ideal S1x64x128 .bf16) (k : Vec Ideal S512x128 .bf16) (b0 b1 b2 b3 : Vec Ideal S1x1x128x128 .f32)
    {j t p : ℕ} (hq : ∀ (c : Fin 64) (l : Fin 128), q (ix3 0 c l) = at3 x0 0 (t * 64 + c.val) (p * 128 + l.val))
    (hk : ∀ (c : Fin 512) (l : Fin 128), k (ix2 c l) = at2 kc (key0 j t + c.val) (p * 128 + l.val))
    (h0 : ∀ (r l : Fin 128), b0 (ix4 0 0 r l) = at4 x7 p (tile0 j t + 0) r.val l.val)
    (h1 : ∀ (r l : Fin 128), b1 (ix4 0 0 r l) = at4 x7 p (tile0 j t + 2) r.val l.val)
    (h2 : ∀ (r l : Fin 128), b2 (ix4 0 0 r l) = at4 x7 p (tile0 j t + 4) r.val l.val)
    (h3 : ∀ (r l : Fin 128), b3 (ix4 0 0 r l) = at4 x7 p (tile0 j t + 6) r.val l.val)
    (r : Fin 128) (c : Fin 512) :
    scorePay q k b0 b1 b2 b3 (ix2 r c) = sc x0 kc x7 j t p r.val c.val := by
  have hr := r.isLt
  have hc := c.isLt
  have e1 : (k0_pay11 (F := Ideal) k0_pay2 q k (ix2 r c) : EReal) = ∑ l : Fin 128,
      qz x0 t p r.val l.val
      * at2 kc (key0 j t + c.val) (p * 128 + l.val) := by
    pointwise [k0_pay11, k0_pay2]
    refine Finset.sum_congr rfl fun l _ => ?_
    refine congrArg₂ (fun x y : EReal => x * y) ?_ (hk c l)
    unfold qz
    by_cases hr6 : r.val < 64
    · refine (dif_pos hr6).trans ((sel_lt l.val l.isLt _ _).trans ?_)
      simp only [hr6, iff_true]
      split
      · rw [Nat.mod_eq_of_lt hr6]; exact congrArg (· * _) (hq ⟨r.val, hr6⟩ l)
      · rfl
    · refine (dif_neg hr6).trans ((sel_lt l.val l.isLt _ _).trans ?_)
      simp only [hr6, iff_false]
      by_cases hl : l.val < 64
      · rw [if_pos hl, if_neg (not_not_intro hl)]
      · rw [if_neg hl, if_pos hl]
        have : r.val % 64 = r.val - 64 := by omega
        rw [this]; exact congrArg (· * _) (hq ⟨r.val - 64, by omega⟩ l)
  have e2 : (k0_pay36 (F := Ideal) b0 b1 b2 b3 (ix2 r c) : EReal) = at4 x7 p (tile0 j t + 2 * (c.val / 128)) r.val (c.val % 128) := by
    pointwise [k0_pay36]
    by_cases c0 : c.val < 128
    · refine (dif_pos c0).trans ((h0 _ _).trans ?_); have e1 : 2 * (c.val / 128) = 0 := by omega
      have e2 : c.val % 128 = c.val := by omega
      rw [e1, e2]
    · refine (dif_neg c0).trans ?_
      by_cases c1 : c.val - 128 < 128
      · refine (dif_pos c1).trans ((h1 _ _).trans ?_); have e1 : 2 * (c.val / 128) = 2 := by omega
        have e2 : c.val % 128 = c.val - 128 := by omega
        rw [e1, e2]
      · refine (dif_neg c1).trans ?_
        by_cases c2 : c.val - 128 - 128 < 128
        · refine (dif_pos c2).trans ((h2 _ _).trans ?_); have e1 : 2 * (c.val / 128) = 4 := by omega
          have e2 : c.val % 128 = c.val - 128 - 128 := by omega
          rw [e1, e2]
        · refine (dif_neg c2).trans ((h3 _ _).trans ?_); have e1 : 2 * (c.val / 128) = 6 := by omega
          have e2 : c.val % 128 = c.val - 128 - 128 - 128 := by omega
          rw [e1, e2]
  exact congrArg₂ (fun x y : EReal => x + y) e1 e2

theorem pay19_apply (s : FVec Ideal S128x512 .f32) (r : Fin 128) (l : Fin 512) :
    k0_pay19 (F := Ideal) s (ix3 0 r l) = s (ix2 r l) := by
  pointwise [k0_pay19]

theorem pay20_apply (s : FVec Ideal S128x512 .f32) (r : Fin 128) (l : Fin 128) :
    k0_pay20 (F := Ideal) s (ix3 0 r l) = (Finset.univ : Finset (Fin 512)).fold max (Ideal.ofBits .f32 0xFF800000#32) fun k => s (ix2 r k) := by
  pointwise [k0_pay20]

theorem lad (m : Vec Ideal S1x128x128 .f32) (X : EReal) (r : Fin 128) (l : ℕ) (hl : l < 512)
    (hm : ∀ l : Fin 128, m (ix3 0 r l) = X) :
    (if h : l < 128 then m (ix3 0 r ⟨l, h⟩)
     else if h : l - 128 < 128 then m (ix3 0 r ⟨l - 128, h⟩)
     else if h : l - 128 - 128 < 128 then m (ix3 0 r ⟨l - 128 - 128, h⟩)
     else m (ix3 0 r ⟨l - 128 - 128 - 128, by omega⟩)) = X := by
  split
  · exact hm _
  · split
    · exact hm _
    · split
      · exact hm _
      · exact hm _

theorem pay8_apply (s : Vec Ideal S1x128x512 .f32) (m : Vec Ideal S1x128x128 .f32) (r : Fin 128) (l : Fin 512)
    (X : EReal) (hm : ∀ l : Fin 128, m (ix3 0 r l) = X) :
    k0_pay8 (F := Ideal) s m (ix3 0 r l) = Ideal.exp (s (ix3 0 r l) - X) := by
  pointwise [k0_pay8, k0_pay6]
  exact congrArg Ideal.exp (congrArg (s (ix3 0 r l) - ·) (lad m X r l.val l.isLt hm))

theorem pay7_apply (s : Vec Ideal S1x128x512 .f32) (m : Vec Ideal S1x128x128 .f32) (r : Fin 128) (l : Fin 128)
    (X : EReal) (hm : ∀ l : Fin 128, m (ix3 0 r l) = X) :
    k0_pay7 (F := Ideal) s m (ix3 0 r l) = ∑ k : Fin 512, Ideal.exp (s (ix3 0 r k) - X) := by
  pointwise [k0_pay7, k0_pay6]
  exact Finset.sum_congr rfl fun k _ => congrArg Ideal.exp (congrArg (s (ix3 0 r k) - ·) (lad m X r k.val k.isLt hm))

theorem pay10_apply (e : Vec Ideal S1x128x512 .bf16) (v : Vec Ideal S512x128 .bf16) (d : Vec Ideal S1x128x128 .f32)
    {j t p : ℕ} (he : ∀ (r : Fin 128) (k : Fin 512), e (ix3 0 r k) = ex x0 kc x7 j t p r.val k.val)
    (hd : ∀ (r l : Fin 128), d (ix3 0 r l) = ∑ k : Fin 512, ex x0 kc x7 j t p r.val k.val)
    (hv : ∀ (k : Fin 512) (l : Fin 128), v (ix2 k l) = at2 vc (key0 j t + k.val) (p * 128 + l.val))
    (c : Fin 64) (l : Fin 128) :
    k0_pay10 (F := Ideal) e v d (ix3 0 c l) = ou x0 kc vc x7 j t p c.val l.val := by
  pointwise [k0_pay10, k0_pay2]
  refine (sel_lt l.val l.isLt _ _).trans ?_
  unfold ou row
  by_cases hl : l.val < 64
  · simp only [hl, if_true, zero_add]
    refine congrArg₂ Ideal.div (Finset.sum_congr rfl fun k _ => congrArg₂ (fun x y : EReal => x * y) (he _ _) (hv _ _)) (hd _ _)
  · simp only [hl, if_false]
    refine congrArg₂ Ideal.div (Finset.sum_congr rfl fun k _ => congrArg₂ (fun x y : EReal => x * y) (he _ _) (hv _ _)) (hd _ _)

end Cert.KernelIdeal.Gen

end
-- ==== Proof.NaLoops.lean ====
module

public import proofs.«01_k».proof.Proof.Gen.KernelIdeal.Loops
public import proofs.«01_k».proof.Proof.NaPay
public import Idealize.ShloMosaic.Lib.Pipeline.ReadBack
public import Idealize.ShloMosaic.Lib.Pipeline.ValueKit

@[expose] public section

set_option maxRecDepth 16384

noncomputable section

/-! Every store of the three loops is a block of the closed forms. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn

section Read
theorem idxv {s : Shape} (off size : Fin s.rank → ℕ) (inb) (y : (Rect.unit (s := s) off size inb).shape.Idx) (a : Fin s.rank)
    {o m : ℕ} (ho : off a = o) (h : o + (y a).val = m) : ((Rect.unit (s := s) off size inb).idx y a : ℕ) = m := by
  rw [Rect.idx_unit_val, ho, h]

variable {κ : Kind} {sp : Space} {n0 n1 n2 n3 : ℕ}

theorem rd2b (v : View sig κ sp ⟨2, ![n0, n1]⟩ .bf16) (f : v.ty.Contents (Elt Ideal)) (x : Vec Ideal ⟨2, ![n0, n1]⟩ .bf16)
    (hx : v.read (Elt Ideal) f = x) (off size : Fin 2 → ℕ) (inb) (y : (Rect.unit (s := ⟨2, ![n0, n1]⟩) off size inb).shape.Idx)
    {o0 o1 a b : ℕ} (ho : off = ![o0, o1]) (h0 : o0 + (y 0).val = a) (h1 : o1 + (y 1).val = b) :
    (v.readAt (Elt Ideal) (Rect.unit (s := ⟨2, ![n0, n1]⟩) off size inb).toLoadRect f y : EReal) = at2 x a b := by
  subst hx
  refine at2_of _ _ ?_ ?_
  · exact idxv (s := ⟨2, ![n0, n1]⟩) off size inb y 0 (by rw [ho]; rfl) h0
  · exact idxv (s := ⟨2, ![n0, n1]⟩) off size inb y 1 (by rw [ho]; rfl) h1

theorem rd3b (v : View sig κ sp ⟨3, ![n0, n1, n2]⟩ .bf16) (f : v.ty.Contents (Elt Ideal)) (x : Vec Ideal ⟨3, ![n0, n1, n2]⟩ .bf16)
    (hx : v.read (Elt Ideal) f = x) (off size : Fin 3 → ℕ) (inb) (y : (Rect.unit (s := ⟨3, ![n0, n1, n2]⟩) off size inb).shape.Idx)
    {o0 o1 o2 a b c : ℕ} (ho : off = ![o0, o1, o2]) (h0 : o0 + (y 0).val = a) (h1 : o1 + (y 1).val = b) (h2 : o2 + (y 2).val = c) :
    (v.readAt (Elt Ideal) (Rect.unit (s := ⟨3, ![n0, n1, n2]⟩) off size inb).toLoadRect f y : EReal) = at3 x a b c := by
  subst hx
  refine at3_of _ _ ?_ ?_ ?_
  · exact idxv (s := ⟨3, ![n0, n1, n2]⟩) off size inb y 0 (by rw [ho]; rfl) h0
  · exact idxv (s := ⟨3, ![n0, n1, n2]⟩) off size inb y 1 (by rw [ho]; rfl) h1
  · exact idxv (s := ⟨3, ![n0, n1, n2]⟩) off size inb y 2 (by rw [ho]; rfl) h2

theorem rd3f (v : View sig κ sp ⟨3, ![n0, n1, n2]⟩ .f32) (f : v.ty.Contents (Elt Ideal)) (x : Vec Ideal ⟨3, ![n0, n1, n2]⟩ .f32)
    (hx : v.read (Elt Ideal) f = x) (off size : Fin 3 → ℕ) (inb) (y : (Rect.unit (s := ⟨3, ![n0, n1, n2]⟩) off size inb).shape.Idx)
    {o0 o1 o2 a b c : ℕ} (ho : off = ![o0, o1, o2]) (h0 : o0 + (y 0).val = a) (h1 : o1 + (y 1).val = b) (h2 : o2 + (y 2).val = c) :
    (v.readAt (Elt Ideal) (Rect.unit (s := ⟨3, ![n0, n1, n2]⟩) off size inb).toLoadRect f y : EReal) = at3 x a b c := by
  subst hx
  refine at3_of _ _ ?_ ?_ ?_
  · exact idxv (s := ⟨3, ![n0, n1, n2]⟩) off size inb y 0 (by rw [ho]; rfl) h0
  · exact idxv (s := ⟨3, ![n0, n1, n2]⟩) off size inb y 1 (by rw [ho]; rfl) h1
  · exact idxv (s := ⟨3, ![n0, n1, n2]⟩) off size inb y 2 (by rw [ho]; rfl) h2

theorem rd4f (v : View sig κ sp ⟨4, ![n0, n1, n2, n3]⟩ .f32) (f : v.ty.Contents (Elt Ideal)) (x : Vec Ideal ⟨4, ![n0, n1, n2, n3]⟩ .f32)
    (hx : v.read (Elt Ideal) f = x) (off size : Fin 4 → ℕ) (inb) (y : (Rect.unit (s := ⟨4, ![n0, n1, n2, n3]⟩) off size inb).shape.Idx)
    {o0 o1 o2 o3 a b c d : ℕ} (ho : off = ![o0, o1, o2, o3]) (h0 : o0 + (y 0).val = a) (h1 : o1 + (y 1).val = b) (h2 : o2 + (y 2).val = c)
    (h3 : o3 + (y 3).val = d) :
    (v.readAt (Elt Ideal) (Rect.unit (s := ⟨4, ![n0, n1, n2, n3]⟩) off size inb).toLoadRect f y : EReal) = at4 x a b c d := by
  subst hx
  refine at4_of _ _ ?_ ?_ ?_ ?_
  · exact idxv (s := ⟨4, ![n0, n1, n2, n3]⟩) off size inb y 0 (by rw [ho]; rfl) h0
  · exact idxv (s := ⟨4, ![n0, n1, n2, n3]⟩) off size inb y 1 (by rw [ho]; rfl) h1
  · exact idxv (s := ⟨4, ![n0, n1, n2, n3]⟩) off size inb y 2 (by rw [ho]; rfl) h2
  · exact idxv (s := ⟨4, ![n0, n1, n2, n3]⟩) off size inb y 3 (by rw [ho]; rfl) h3

end Read

theorem at3_ix3 {n0 n1 n2 : ℕ} (x : (⟨3, ![n0, n1, n2]⟩ : Shape).Idx → EReal) {a b c : ℕ} (ha : a < n0) (hb : b < n1) (hc : c < n2) :
    at3 x a b c = x (ix3 ⟨a, ha⟩ ⟨b, hb⟩ ⟨c, hc⟩) := dif_pos ⟨ha, hb, hc⟩

variable (x0 : Vec Ideal S1x512x768 .bf16) (kc vc : Vec Ideal S1536x768 .bf16) (x7 : Vec Ideal S6x14x128x128 .f32)

theorem slab_div (t p : ℕ) (hp : p < 6) : (t * 6 + p) / 6 = t ∧ (t * 6 + p) % 6 = p := by omega

/-- A slab of scores stored at its place is a block of the scores' buffer. -/
theorem fS (s : FVec Ideal S128x512 .f32) {j t p : ℕ} (hp : p < 6)
    (hs : ∀ (r : Fin 128) (c : Fin 512), s (ix2 r c) = sc x0 kc x7 j t p r.val c.val)
    (off : Fin 3 → ℕ) (inb) (ho : off = ![t * 6 + p, 0, 0]) (x : S1x128x512.Idx) :
    k0_pay19 (F := Ideal) s x = SB x0 kc x7 j ((Rect.unit (s := S48x128x512) off ![1, 128, 512] inb).emb x) := by
  have hx0 : (x 0).val = 0 := by have : (x 0).val < 1 := (x 0).isLt; omega
  obtain ⟨d1, d2⟩ := slab_div t p hp
  have e0 : ((Rect.unit (s := S48x128x512) off ![1, 128, 512] inb).emb x 0).val = t * 6 + p :=
    idxv (s := S48x128x512) off ![1, 128, 512] inb x 0 (by rw [ho]) (by rw [hx0]; rfl)
  have e1 : ((Rect.unit (s := S48x128x512) off ![1, 128, 512] inb).emb x 1).val = (x 1).val :=
    idxv (s := S48x128x512) off ![1, 128, 512] inb x 1 (by rw [ho]; rfl) (Nat.zero_add _)
  have e2 : ((Rect.unit (s := S48x128x512) off ![1, 128, 512] inb).emb x 2).val = (x 2).val :=
    idxv (s := S48x128x512) off ![1, 128, 512] inb x 2 (by rw [ho]; rfl) (Nat.zero_add _)
  unfold SB
  rw [e0, e1, e2, d1, d2]
  have hx : x = ix3 0 (x 1) (x 2) := by
    funext a; match a with | ⟨0, _⟩ => exact Fin.ext hx0 | ⟨1, _⟩ => rfl | ⟨2, _⟩ => rfl
  rw [hx]
  exact (pay19_apply s (x 1) (x 2)).trans (hs (x 1) (x 2))

/-- The row maxima stored at their place are a block of the maxima's buffer. -/
theorem fM (s : FVec Ideal S128x512 .f32) {j t p : ℕ} (hp : p < 6)
    (hs : ∀ (r : Fin 128) (c : Fin 512), s (ix2 r c) = sc x0 kc x7 j t p r.val c.val)
    (off : Fin 3 → ℕ) (inb) (ho : off = ![t * 6 + p, 0, 0]) (x : S1x128x128.Idx) :
    k0_pay20 (F := Ideal) s x = MB x0 kc x7 j ((Rect.unit (s := S48x128x128) off ![1, 128, 128] inb).emb x) := by
  have hx0 : (x 0).val = 0 := by have : (x 0).val < 1 := (x 0).isLt; omega
  obtain ⟨d1, d2⟩ := slab_div t p hp
  have e0 : ((Rect.unit (s := S48x128x128) off ![1, 128, 128] inb).emb x 0).val = t * 6 + p :=
    idxv (s := S48x128x128) off ![1, 128, 128] inb x 0 (by rw [ho]) (by rw [hx0]; rfl)
  have e1 : ((Rect.unit (s := S48x128x128) off ![1, 128, 128] inb).emb x 1).val = (x 1).val :=
    idxv (s := S48x128x128) off ![1, 128, 128] inb x 1 (by rw [ho]; rfl) (Nat.zero_add _)
  unfold MB
  rw [e0, e1, d1, d2]
  have hx : x = ix3 0 (x 1) (x 2) := by
    funext a; match a with | ⟨0, _⟩ => exact Fin.ext hx0 | ⟨1, _⟩ => rfl | ⟨2, _⟩ => rfl
  rw [hx]
  refine (pay20_apply s (x 1) (x 2)).trans ?_
  unfold mx
  exact congrArg (fun f => Finset.fold max (Ideal.ofBits .f32 0xFF800000#32) f (Finset.univ : Finset (Fin 512))) (funext fun k => hs (x 1) k)

/-- An output piece stored at its place is a block of the output block. -/
theorem fO (v : FVec Ideal S1x64x128 .bf16) {j t p : ℕ} (hp : p < 6)
    (hv : ∀ (c : Fin 64) (l : Fin 128), v (ix3 0 c l) = ou x0 kc vc x7 j t p c.val l.val)
    (off : Fin 3 → ℕ) (inb) (ho : off = ![0, t * 64, p * 128]) (x : S1x64x128.Idx) :
    v x = OB x0 kc vc x7 j ((Rect.unit (s := S1x512x768) off ![1, 64, 128] inb).emb x) := by
  have hx0 : (x 0).val = 0 := by have : (x 0).val < 1 := (x 0).isLt; omega
  have h1 : (x 1).val < 64 := (x 1).isLt
  have h2 : (x 2).val < 128 := (x 2).isLt
  have e1 : ((Rect.unit (s := S1x512x768) off ![1, 64, 128] inb).emb x 1).val = t * 64 + (x 1).val :=
    idxv (s := S1x512x768) off ![1, 64, 128] inb x 1 (by rw [ho]; rfl) (rfl)
  have e2 : ((Rect.unit (s := S1x512x768) off ![1, 64, 128] inb).emb x 2).val = p * 128 + (x 2).val :=
    idxv (s := S1x512x768) off ![1, 64, 128] inb x 2 (by rw [ho]; rfl) (rfl)
  unfold OB
  rw [e1, e2]
  have a1 : (t * 64 + (x 1).val) / 64 = t := by omega
  have a2 : (t * 64 + (x 1).val) % 64 = (x 1).val := by omega
  have a3 : (p * 128 + (x 2).val) / 128 = p := by omega
  have a4 : (p * 128 + (x 2).val) % 128 = (x 2).val := by omega
  rw [a1, a2, a3, a4]
  have hx : x = ix3 0 (x 1) (x 2) := by
    funext a; match a with | ⟨0, _⟩ => exact Fin.ext hx0 | ⟨1, _⟩ => rfl | ⟨2, _⟩ => rfl
  rw [hx]
  exact hv (x 1) (x 2)

/-- Stores that are blocks of `G`, one more in front. -/
theorem pieces_cons {S : Shape} {e : EltTy} (G : S.Idx → Elt Ideal e) (r : Rect S) (f : r.shape.Idx → Elt Ideal e)
    (L : List (View.Piece (Elt Ideal) S e)) (h : ∀ x, f x = G (r.emb x)) (hL : View.PiecesOf G L) : View.PiecesOf G (⟨r, f⟩ :: L) := ⟨h, hL⟩

section Slabs
variable (q : Vec Ideal S1x64x128 .bf16) (k : Vec Ideal S512x128 .bf16) (b0 b1 b2 b3 : Vec Ideal S1x1x128x128 .f32) {j t p : ℕ} (hp : p < 6)
    (hq : ∀ (c : Fin 64) (l : Fin 128), q (ix3 0 c l) = at3 x0 0 (t * 64 + c.val) (p * 128 + l.val))
    (hk : ∀ (c : Fin 512) (l : Fin 128), k (ix2 c l) = at2 kc (key0 j t + c.val) (p * 128 + l.val))
    (h0 : ∀ (r l : Fin 128), b0 (ix4 0 0 r l) = at4 x7 p (tile0 j t + 0) r.val l.val)
    (h1 : ∀ (r l : Fin 128), b1 (ix4 0 0 r l) = at4 x7 p (tile0 j t + 2) r.val l.val)
    (h2 : ∀ (r l : Fin 128), b2 (ix4 0 0 r l) = at4 x7 p (tile0 j t + 4) r.val l.val)
    (h3 : ∀ (r l : Fin 128), b3 (ix4 0 0 r l) = at4 x7 p (tile0 j t + 6) r.val l.val)
include hp hq hk h0 h1 h2 h3

theorem pS0 (off : Fin 3 → ℕ) (inb) (ho : off = ![t * 6 + p, 0, 0]) (x : (Rect.unit (s := S48x128x512) off ![1, 128, 512] inb).shape.Idx) :
    k0_pay14 (F := Ideal) (k0_pay11 k0_pay2 q k) (k0_pay12 b0) b1 b2 b3 x = SB x0 kc x7 j ((Rect.unit (s := S48x128x512) off ![1, 128, 512] inb).emb x) :=
  fS x0 kc x7 (scorePay q k b0 b1 b2 b3) hp (scorePay_apply x0 kc x7 q k b0 b1 b2 b3 hq hk h0 h1 h2 h3) off inb ho x

theorem pM0 (off : Fin 3 → ℕ) (inb) (ho : off = ![t * 6 + p, 0, 0]) (x : (Rect.unit (s := S48x128x128) off ![1, 128, 128] inb).shape.Idx) :
    k0_pay15 (F := Ideal) (k0_pay11 k0_pay2 q k) (k0_pay12 b0) b1 b2 b3 x = MB x0 kc x7 j ((Rect.unit (s := S48x128x128) off ![1, 128, 128] inb).emb x) :=
  fM x0 kc x7 (scorePay q k b0 b1 b2 b3) hp (scorePay_apply x0 kc x7 q k b0 b1 b2 b3 hq hk h0 h1 h2 h3) off inb ho x

theorem pS1 (off : Fin 3 → ℕ) (inb) (ho : off = ![t * 6 + p, 0, 0]) (x : (Rect.unit (s := S48x128x512) off ![1, 128, 512] inb).shape.Idx) :
    k0_pay19 (F := Ideal) (k0_pay18 k0_pay2 (k0_pay16 q) k0_pay17 k b0 b1 b2 b3) x = SB x0 kc x7 j ((Rect.unit (s := S48x128x512) off ![1, 128, 512] inb).emb x) :=
  fS x0 kc x7 (scorePay q k b0 b1 b2 b3) hp (scorePay_apply x0 kc x7 q k b0 b1 b2 b3 hq hk h0 h1 h2 h3) off inb ho x

theorem pM1 (off : Fin 3 → ℕ) (inb) (ho : off = ![t * 6 + p, 0, 0]) (x : (Rect.unit (s := S48x128x128) off ![1, 128, 128] inb).shape.Idx) :
    k0_pay20 (F := Ideal) (k0_pay18 k0_pay2 (k0_pay16 q) k0_pay17 k b0 b1 b2 b3) x = MB x0 kc x7 j ((Rect.unit (s := S48x128x128) off ![1, 128, 128] inb).emb x) :=
  fM x0 kc x7 (scorePay q k b0 b1 b2 b3) hp (scorePay_apply x0 kc x7 q k b0 b1 b2 b3 hq hk h0 h1 h2 h3) off inb ho x

theorem pS2 (off : Fin 3 → ℕ) (inb) (ho : off = ![t * 6 + p, 0, 0]) (x : (Rect.unit (s := S48x128x512) off ![1, 128, 512] inb).shape.Idx) :
    k0_pay24 (F := Ideal) (k0_pay21 k0_pay2 q k) (k0_pay22 b0) b1 b2 b3 x = SB x0 kc x7 j ((Rect.unit (s := S48x128x512) off ![1, 128, 512] inb).emb x) :=
  fS x0 kc x7 (scorePay q k b0 b1 b2 b3) hp (scorePay_apply x0 kc x7 q k b0 b1 b2 b3 hq hk h0 h1 h2 h3) off inb ho x

theorem pM2 (off : Fin 3 → ℕ) (inb) (ho : off = ![t * 6 + p, 0, 0]) (x : (Rect.unit (s := S48x128x128) off ![1, 128, 128] inb).shape.Idx) :
    k0_pay25 (F := Ideal) (k0_pay21 k0_pay2 q k) (k0_pay22 b0) b1 b2 b3 x = MB x0 kc x7 j ((Rect.unit (s := S48x128x128) off ![1, 128, 128] inb).emb x) :=
  fM x0 kc x7 (scorePay q k b0 b1 b2 b3) hp (scorePay_apply x0 kc x7 q k b0 b1 b2 b3 hq hk h0 h1 h2 h3) off inb ho x

theorem pS3 (off : Fin 3 → ℕ) (inb) (ho : off = ![t * 6 + p, 0, 0]) (x : (Rect.unit (s := S48x128x512) off ![1, 128, 512] inb).shape.Idx) :
    k0_pay28 (F := Ideal) (k0_pay27 k0_pay2 (k0_pay26 q) k b0 b1 b2 b3) x = SB x0 kc x7 j ((Rect.unit (s := S48x128x512) off ![1, 128, 512] inb).emb x) :=
  fS x0 kc x7 (scorePay q k b0 b1 b2 b3) hp (scorePay_apply x0 kc x7 q k b0 b1 b2 b3 hq hk h0 h1 h2 h3) off inb ho x

theorem pM3 (off : Fin 3 → ℕ) (inb) (ho : off = ![t * 6 + p, 0, 0]) (x : (Rect.unit (s := S48x128x128) off ![1, 128, 128] inb).shape.Idx) :
    k0_pay29 (F := Ideal) (k0_pay27 k0_pay2 (k0_pay26 q) k b0 b1 b2 b3) x = MB x0 kc x7 j ((Rect.unit (s := S48x128x128) off ![1, 128, 128] inb).emb x) :=
  fM x0 kc x7 (scorePay q k b0 b1 b2 b3) hp (scorePay_apply x0 kc x7 q k b0 b1 b2 b3 hq hk h0 h1 h2 h3) off inb ho x

theorem pS4 (off : Fin 3 → ℕ) (inb) (ho : off = ![t * 6 + p, 0, 0]) (x : (Rect.unit (s := S48x128x512) off ![1, 128, 512] inb).shape.Idx) :
    k0_pay33 (F := Ideal) (k0_pay30 k0_pay2 q k) (k0_pay31 b0) b1 b2 b3 x = SB x0 kc x7 j ((Rect.unit (s := S48x128x512) off ![1, 128, 512] inb).emb x) :=
  fS x0 kc x7 (scorePay q k b0 b1 b2 b3) hp (scorePay_apply x0 kc x7 q k b0 b1 b2 b3 hq hk h0 h1 h2 h3) off inb ho x

theorem pM4 (off : Fin 3 → ℕ) (inb) (ho : off = ![t * 6 + p, 0, 0]) (x : (Rect.unit (s := S48x128x128) off ![1, 128, 128] inb).shape.Idx) :
    k0_pay34 (F := Ideal) (k0_pay30 k0_pay2 q k) (k0_pay31 b0) b1 b2 b3 x = MB x0 kc x7 j ((Rect.unit (s := S48x128x128) off ![1, 128, 128] inb).emb x) :=
  fM x0 kc x7 (scorePay q k b0 b1 b2 b3) hp (scorePay_apply x0 kc x7 q k b0 b1 b2 b3 hq hk h0 h1 h2 h3) off inb ho x

theorem pS5 (off : Fin 3 → ℕ) (inb) (ho : off = ![t * 6 + p, 0, 0]) (x : (Rect.unit (s := S48x128x512) off ![1, 128, 512] inb).shape.Idx) :
    k0_pay4 (F := Ideal) (k0_pay35 k0_pay2 q k) (k0_pay36 b0 b1 b2 b3) x = SB x0 kc x7 j ((Rect.unit (s := S48x128x512) off ![1, 128, 512] inb).emb x) :=
  fS x0 kc x7 (scorePay q k b0 b1 b2 b3) hp (scorePay_apply x0 kc x7 q k b0 b1 b2 b3 hq hk h0 h1 h2 h3) off inb ho x

theorem pM5 (off : Fin 3 → ℕ) (inb) (ho : off = ![t * 6 + p, 0, 0]) (x : (Rect.unit (s := S48x128x128) off ![1, 128, 128] inb).shape.Idx) :
    k0_pay5 (F := Ideal) (k0_pay35 k0_pay2 q k) (k0_pay36 b0 b1 b2 b3) x = MB x0 kc x7 j ((Rect.unit (s := S48x128x128) off ![1, 128, 128] inb).emb x) :=
  fM x0 kc x7 (scorePay q k b0 b1 b2 b3) hp (scorePay_apply x0 kc x7 q k b0 b1 b2 b3 hq hk h0 h1 h2 h3) off inb ho x

end Slabs

section One
variable (c : Dev nD) (i : grid0.Coords) (arg2 : Memref sig .tc .vmem S1x512x768 .bf16) (harg2 : arg2.IsWhole) (arg3 : Memref sig .tc .vmem S1x512x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x512x768 .bf16) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S6x14x128x128 .f32) (harg9 : arg9.IsWhole) (arg10 : Memref sig .tc .vmem S1x512x768 .bf16) (harg10 : arg10.IsWhole) (arg11 : Memref sig .tc .vmem S1536x768 .bf16) (harg11 : arg11.IsWhole) (arg12 : Memref sig .tc .vmem S1536x768 .bf16) (harg12 : arg12.IsWhole) (arg13 : Memref sig .tc .vmem S48x128x512 .f32) (harg13 : arg13.IsWhole) (arg14 : Memref sig .tc .vmem S48x128x512 .bf16) (harg14 : arg14.IsWhole) (arg15 : Memref sig .tc .vmem S48x128x128 .f32) (harg15 : arg15.IsWhole) (arg16 : Memref sig .tc .vmem S48x128x128 .f32) (harg16 : arg16.IsWhole) (a1 : BitVec 32)
  (X2 : BufTy.Contents (Elt Ideal) arg2.view.ty) (X9 : BufTy.Contents (Elt Ideal) arg9.view.ty) (X11 : BufTy.Contents (Elt Ideal) arg11.view.ty)
  (h2 : arg2.view.read (Elt Ideal) X2 = x0) (h9 : arg9.view.read (Elt Ideal) X9 = x7) (h11 : arg11.view.read (Elt Ideal) X11 = kc)

include h2 h9 h11

theorem trip1SB (k : Fin k0_t1_loop.trips) :
    View.PiecesOf (SB x0 kc x7 (i 1).val) (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 k).1 := by
  unfold trip_k0_t1
  dsimp only
  refine pieces_cons _ _ _ _ ?_ (pieces_cons _ _ _ _ ?_ (pieces_cons _ _ _ _ ?_ (pieces_cons _ _ _ _ ?_ (pieces_cons _ _ _ _ ?_ (pieces_cons _ _ _ _ ?_ trivial)))))
  · refine pS5 x0 kc x7 (t := k.val) (p := 5) _ _ _ _ _ _ (by decide) ?_ ?_ ?_ ?_ ?_ ?_ _ _ (off4_5_eq k)
    · exact fun r l => rd3b arg2.view X2 x0 h2 _ _ _ _ (off18_eq k) rfl rfl rfl
    · exact fun r l => rd2b arg11.view X11 kc h11 _ _ _ _ (off19_eq i k) rfl rfl
    · exact fun r l => rd4f arg9.view X9 x7 h9 _ _ _ _ (off20_0_eq i k) rfl rfl (Nat.zero_add _) (Nat.zero_add _)
    · exact fun r l => rd4f arg9.view X9 x7 h9 _ _ _ _ (off20_2_eq i k) rfl rfl (Nat.zero_add _) (Nat.zero_add _)
    · exact fun r l => rd4f arg9.view X9 x7 h9 _ _ _ _ (off20_4_eq i k) rfl rfl (Nat.zero_add _) (Nat.zero_add _)
    · exact fun r l => rd4f arg9.view X9 x7 h9 _ _ _ _ (off20_6_eq i k) rfl rfl (Nat.zero_add _) (Nat.zero_add _)
  · refine pS4 x0 kc x7 (t := k.val) (p := 4) _ _ _ _ _ _ (by decide) ?_ ?_ ?_ ?_ ?_ ?_ _ _ (off4_4_eq k)
    · exact fun r l => rd3b arg2.view X2 x0 h2 _ _ _ _ (off15_eq k) rfl rfl rfl
    · exact fun r l => rd2b arg11.view X11 kc h11 _ _ _ _ (off16_eq i k) rfl rfl
    · exact fun r l => rd4f arg9.view X9 x7 h9 _ _ _ _ (off17_0_eq i k) rfl rfl (Nat.zero_add _) (Nat.zero_add _)
    · exact fun r l => rd4f arg9.view X9 x7 h9 _ _ _ _ (off17_2_eq i k) rfl rfl (Nat.zero_add _) (Nat.zero_add _)
    · exact fun r l => rd4f arg9.view X9 x7 h9 _ _ _ _ (off17_4_eq i k) rfl rfl (Nat.zero_add _) (Nat.zero_add _)
    · exact fun r l => rd4f arg9.view X9 x7 h9 _ _ _ _ (off17_6_eq i k) rfl rfl (Nat.zero_add _) (Nat.zero_add _)
  · refine pS3 x0 kc x7 (t := k.val) (p := 3) _ _ _ _ _ _ (by decide) ?_ ?_ ?_ ?_ ?_ ?_ _ _ (off4_3_eq k)
    · exact fun r l => rd3b arg2.view X2 x0 h2 _ _ _ _ (off12_eq k) rfl rfl rfl
    · exact fun r l => rd2b arg11.view X11 kc h11 _ _ _ _ (off13_eq i k) rfl rfl
    · exact fun r l => rd4f arg9.view X9 x7 h9 _ _ _ _ (off14_0_eq i k) rfl rfl (Nat.zero_add _) (Nat.zero_add _)
    · exact fun r l => rd4f arg9.view X9 x7 h9 _ _ _ _ (off14_2_eq i k) rfl rfl (Nat.zero_add _) (Nat.zero_add _)
    · exact fun r l => rd4f arg9.view X9 x7 h9 _ _ _ _ (off14_4_eq i k) rfl rfl (Nat.zero_add _) (Nat.zero_add _)
    · exact fun r l => rd4f arg9.view X9 x7 h9 _ _ _ _ (off14_6_eq i k) rfl rfl (Nat.zero_add _) (Nat.zero_add _)
  · refine pS2 x0 kc x7 (t := k.val) (p := 2) _ _ _ _ _ _ (by decide) ?_ ?_ ?_ ?_ ?_ ?_ _ _ (off4_2_eq k)
    · exact fun r l => rd3b arg2.view X2 x0 h2 _ _ _ _ (off9_eq k) rfl rfl rfl
    · exact fun r l => rd2b arg11.view X11 kc h11 _ _ _ _ (off10_eq i k) rfl rfl
    · exact fun r l => rd4f arg9.view X9 x7 h9 _ _ _ _ (off11_0_eq i k) rfl rfl (Nat.zero_add _) (Nat.zero_add _)
    · exact fun r l => rd4f arg9.view X9 x7 h9 _ _ _ _ (off11_2_eq i k) rfl rfl (Nat.zero_add _) (Nat.zero_add _)
    · exact fun r l => rd4f arg9.view X9 x7 h9 _ _ _ _ (off11_4_eq i k) rfl rfl (Nat.zero_add _) (Nat.zero_add _)
    · exact fun r l => rd4f arg9.view X9 x7 h9 _ _ _ _ (off11_6_eq i k) rfl rfl (Nat.zero_add _) (Nat.zero_add _)
  · refine pS1 x0 kc x7 (t := k.val) (p := 1) _ _ _ _ _ _ (by decide) ?_ ?_ ?_ ?_ ?_ ?_ _ _ (off4_1_eq k)
    · exact fun r l => rd3b arg2.view X2 x0 h2 _ _ _ _ (off6_eq k) rfl rfl rfl
    · exact fun r l => rd2b arg11.view X11 kc h11 _ _ _ _ (off7_eq i k) rfl rfl
    · exact fun r l => rd4f arg9.view X9 x7 h9 _ _ _ _ (off8_0_eq i k) rfl rfl (Nat.zero_add _) (Nat.zero_add _)
    · exact fun r l => rd4f arg9.view X9 x7 h9 _ _ _ _ (off8_2_eq i k) rfl rfl (Nat.zero_add _) (Nat.zero_add _)
    · exact fun r l => rd4f arg9.view X9 x7 h9 _ _ _ _ (off8_4_eq i k) rfl rfl (Nat.zero_add _) (Nat.zero_add _)
    · exact fun r l => rd4f arg9.view X9 x7 h9 _ _ _ _ (off8_6_eq i k) rfl rfl (Nat.zero_add _) (Nat.zero_add _)
  · refine pS0 x0 kc x7 (t := k.val) (p := 0) _ _ _ _ _ _ (by decide) ?_ ?_ ?_ ?_ ?_ ?_ _ _ (off4_0_eq k)
    · exact fun r l => rd3b arg2.view X2 x0 h2 _ _ _ _ (off1_eq k) rfl rfl rfl
    · exact fun r l => rd2b arg11.view X11 kc h11 _ _ _ _ (off2_eq i k) rfl rfl
    · exact fun r l => rd4f arg9.view X9 x7 h9 _ _ _ _ (off3_0_eq i k) rfl rfl (Nat.zero_add _) (Nat.zero_add _)
    · exact fun r l => rd4f arg9.view X9 x7 h9 _ _ _ _ (off3_2_eq i k) rfl rfl (Nat.zero_add _) (Nat.zero_add _)
    · exact fun r l => rd4f arg9.view X9 x7 h9 _ _ _ _ (off3_4_eq i k) rfl rfl (Nat.zero_add _) (Nat.zero_add _)
    · exact fun r l => rd4f arg9.view X9 x7 h9 _ _ _ _ (off3_6_eq i k) rfl rfl (Nat.zero_add _) (Nat.zero_add _)
theorem trip1MB (k : Fin k0_t1_loop.trips) :
    View.PiecesOf (MB x0 kc x7 (i 1).val) (trip_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 k).2.1 := by
  unfold trip_k0_t1
  dsimp only
  refine pieces_cons _ _ _ _ ?_ (pieces_cons _ _ _ _ ?_ (pieces_cons _ _ _ _ ?_ (pieces_cons _ _ _ _ ?_ (pieces_cons _ _ _ _ ?_ (pieces_cons _ _ _ _ ?_ trivial)))))
  · refine pM5 x0 kc x7 (t := k.val) (p := 5) _ _ _ _ _ _ (by decide) ?_ ?_ ?_ ?_ ?_ ?_ _ _ (off5_5_eq k)
    · exact fun r l => rd3b arg2.view X2 x0 h2 _ _ _ _ (off18_eq k) rfl rfl rfl
    · exact fun r l => rd2b arg11.view X11 kc h11 _ _ _ _ (off19_eq i k) rfl rfl
    · exact fun r l => rd4f arg9.view X9 x7 h9 _ _ _ _ (off20_0_eq i k) rfl rfl (Nat.zero_add _) (Nat.zero_add _)
    · exact fun r l => rd4f arg9.view X9 x7 h9 _ _ _ _ (off20_2_eq i k) rfl rfl (Nat.zero_add _) (Nat.zero_add _)
    · exact fun r l => rd4f arg9.view X9 x7 h9 _ _ _ _ (off20_4_eq i k) rfl rfl (Nat.zero_add _) (Nat.zero_add _)
    · exact fun r l => rd4f arg9.view X9 x7 h9 _ _ _ _ (off20_6_eq i k) rfl rfl (Nat.zero_add _) (Nat.zero_add _)
  · refine pM4 x0 kc x7 (t := k.val) (p := 4) _ _ _ _ _ _ (by decide) ?_ ?_ ?_ ?_ ?_ ?_ _ _ (off5_4_eq k)
    · exact fun r l => rd3b arg2.view X2 x0 h2 _ _ _ _ (off15_eq k) rfl rfl rfl
    · exact fun r l => rd2b arg11.view X11 kc h11 _ _ _ _ (off16_eq i k) rfl rfl
    · exact fun r l => rd4f arg9.view X9 x7 h9 _ _ _ _ (off17_0_eq i k) rfl rfl (Nat.zero_add _) (Nat.zero_add _)
    · exact fun r l => rd4f arg9.view X9 x7 h9 _ _ _ _ (off17_2_eq i k) rfl rfl (Nat.zero_add _) (Nat.zero_add _)
    · exact fun r l => rd4f arg9.view X9 x7 h9 _ _ _ _ (off17_4_eq i k) rfl rfl (Nat.zero_add _) (Nat.zero_add _)
    · exact fun r l => rd4f arg9.view X9 x7 h9 _ _ _ _ (off17_6_eq i k) rfl rfl (Nat.zero_add _) (Nat.zero_add _)
  · refine pM3 x0 kc x7 (t := k.val) (p := 3) _ _ _ _ _ _ (by decide) ?_ ?_ ?_ ?_ ?_ ?_ _ _ (off5_3_eq k)
    · exact fun r l => rd3b arg2.view X2 x0 h2 _ _ _ _ (off12_eq k) rfl rfl rfl
    · exact fun r l => rd2b arg11.view X11 kc h11 _ _ _ _ (off13_eq i k) rfl rfl
    · exact fun r l => rd4f arg9.view X9 x7 h9 _ _ _ _ (off14_0_eq i k) rfl rfl (Nat.zero_add _) (Nat.zero_add _)
    · exact fun r l => rd4f arg9.view X9 x7 h9 _ _ _ _ (off14_2_eq i k) rfl rfl (Nat.zero_add _) (Nat.zero_add _)
    · exact fun r l => rd4f arg9.view X9 x7 h9 _ _ _ _ (off14_4_eq i k) rfl rfl (Nat.zero_add _) (Nat.zero_add _)
    · exact fun r l => rd4f arg9.view X9 x7 h9 _ _ _ _ (off14_6_eq i k) rfl rfl (Nat.zero_add _) (Nat.zero_add _)
  · refine pM2 x0 kc x7 (t := k.val) (p := 2) _ _ _ _ _ _ (by decide) ?_ ?_ ?_ ?_ ?_ ?_ _ _ (off5_2_eq k)
    · exact fun r l => rd3b arg2.view X2 x0 h2 _ _ _ _ (off9_eq k) rfl rfl rfl
    · exact fun r l => rd2b arg11.view X11 kc h11 _ _ _ _ (off10_eq i k) rfl rfl
    · exact fun r l => rd4f arg9.view X9 x7 h9 _ _ _ _ (off11_0_eq i k) rfl rfl (Nat.zero_add _) (Nat.zero_add _)
    · exact fun r l => rd4f arg9.view X9 x7 h9 _ _ _ _ (off11_2_eq i k) rfl rfl (Nat.zero_add _) (Nat.zero_add _)
    · exact fun r l => rd4f arg9.view X9 x7 h9 _ _ _ _ (off11_4_eq i k) rfl rfl (Nat.zero_add _) (Nat.zero_add _)
    · exact fun r l => rd4f arg9.view X9 x7 h9 _ _ _ _ (off11_6_eq i k) rfl rfl (Nat.zero_add _) (Nat.zero_add _)
  · refine pM1 x0 kc x7 (t := k.val) (p := 1) _ _ _ _ _ _ (by decide) ?_ ?_ ?_ ?_ ?_ ?_ _ _ (off5_1_eq k)
    · exact fun r l => rd3b arg2.view X2 x0 h2 _ _ _ _ (off6_eq k) rfl rfl rfl
    · exact fun r l => rd2b arg11.view X11 kc h11 _ _ _ _ (off7_eq i k) rfl rfl
    · exact fun r l => rd4f arg9.view X9 x7 h9 _ _ _ _ (off8_0_eq i k) rfl rfl (Nat.zero_add _) (Nat.zero_add _)
    · exact fun r l => rd4f arg9.view X9 x7 h9 _ _ _ _ (off8_2_eq i k) rfl rfl (Nat.zero_add _) (Nat.zero_add _)
    · exact fun r l => rd4f arg9.view X9 x7 h9 _ _ _ _ (off8_4_eq i k) rfl rfl (Nat.zero_add _) (Nat.zero_add _)
    · exact fun r l => rd4f arg9.view X9 x7 h9 _ _ _ _ (off8_6_eq i k) rfl rfl (Nat.zero_add _) (Nat.zero_add _)
  · refine pM0 x0 kc x7 (t := k.val) (p := 0) _ _ _ _ _ _ (by decide) ?_ ?_ ?_ ?_ ?_ ?_ _ _ (off5_0_eq k)
    · exact fun r l => rd3b arg2.view X2 x0 h2 _ _ _ _ (off1_eq k) rfl rfl rfl
    · exact fun r l => rd2b arg11.view X11 kc h11 _ _ _ _ (off2_eq i k) rfl rfl
    · exact fun r l => rd4f arg9.view X9 x7 h9 _ _ _ _ (off3_0_eq i k) rfl rfl (Nat.zero_add _) (Nat.zero_add _)
    · exact fun r l => rd4f arg9.view X9 x7 h9 _ _ _ _ (off3_2_eq i k) rfl rfl (Nat.zero_add _) (Nat.zero_add _)
    · exact fun r l => rd4f arg9.view X9 x7 h9 _ _ _ _ (off3_4_eq i k) rfl rfl (Nat.zero_add _) (Nat.zero_add _)
    · exact fun r l => rd4f arg9.view X9 x7 h9 _ _ _ _ (off3_6_eq i k) rfl rfl (Nat.zero_add _) (Nat.zero_add _)

end One

end Cert.KernelIdeal.Gen

end
-- ==== Proof.NaLoops2.lean ====
module

public import proofs.«01_k».proof.Proof.Gen.KernelIdeal.Loops
public import proofs.«01_k».proof.Proof.NaLoops
public import Idealize.ShloMosaic.Lib.Pipeline.ReadBack
public import Idealize.ShloMosaic.Lib.Ring
public import Idealize.ShloMosaic.Lib.Tactic
public import Idealize.ShloMosaic.Lib.Pipeline.ValueKit

@[expose] public section

set_option maxRecDepth 16384

noncomputable section

/-! The buffers after the three loops are the closed forms. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn

variable (x0 : Vec Ideal S1x512x768 .bf16) (kc vc : Vec Ideal S1536x768 .bf16) (x7 : Vec Ideal S6x14x128x128 .f32)

/-- The weights stored at their place are a block of the weights' buffer. -/
theorem fE (v : Vec Ideal S1x128x512 .bf16) {j u : ℕ}
    (hv : ∀ (r : Fin 128) (l : Fin 512), v (ix3 0 r l) = ex x0 kc x7 j (u / 6) (u % 6) r.val l.val)
    (off : Fin 3 → ℕ) (inb) (ho : off = ![u, 0, 0]) (x : S1x128x512.Idx) :
    v x = EB x0 kc x7 j ((Rect.unit (s := S48x128x512) off ![1, 128, 512] inb).emb x) := by
  have hx0 : (x 0).val = 0 := by have : (x 0).val < 1 := (x 0).isLt; omega
  have e0 : ((Rect.unit (s := S48x128x512) off ![1, 128, 512] inb).emb x 0).val = u :=
    idxv (s := S48x128x512) off ![1, 128, 512] inb x 0 (by rw [ho]) (by rw [hx0]; rfl)
  have e1 : ((Rect.unit (s := S48x128x512) off ![1, 128, 512] inb).emb x 1).val = (x 1).val :=
    idxv (s := S48x128x512) off ![1, 128, 512] inb x 1 (by rw [ho]; rfl) (Nat.zero_add _)
  have e2 : ((Rect.unit (s := S48x128x512) off ![1, 128, 512] inb).emb x 2).val = (x 2).val :=
    idxv (s := S48x128x512) off ![1, 128, 512] inb x 2 (by rw [ho]; rfl) (Nat.zero_add _)
  unfold EB
  rw [e0, e1, e2]
  have hx : x = ix3 0 (x 1) (x 2) := by
    funext a; match a with | ⟨0, _⟩ => exact Fin.ext hx0 | ⟨1, _⟩ => rfl | ⟨2, _⟩ => rfl
  rw [hx]
  exact hv (x 1) (x 2)

/-- The row sums stored at their place are a block of the sums' buffer. -/
theorem fD (v : Vec Ideal S1x128x128 .f32) {j u : ℕ}
    (hv : ∀ (r : Fin 128) (l : Fin 128), v (ix3 0 r l) = ∑ k : Fin 512, ex x0 kc x7 j (u / 6) (u % 6) r.val k.val)
    (off : Fin 3 → ℕ) (inb) (ho : off = ![u, 0, 0]) (x : S1x128x128.Idx) :
    v x = DB x0 kc x7 j ((Rect.unit (s := S48x128x128) off ![1, 128, 128] inb).emb x) := by
  have hx0 : (x 0).val = 0 := by have : (x 0).val < 1 := (x 0).isLt; omega
  have e0 : ((Rect.unit (s := S48x128x128) off ![1, 128, 128] inb).emb x 0).val = u :=
    idxv (s := S48x128x128) off ![1, 128, 128] inb x 0 (by rw [ho]) (by rw [hx0]; rfl)
  have e1 : ((Rect.unit (s := S48x128x128) off ![1, 128, 128] inb).emb x 1).val = (x 1).val :=
    idxv (s := S48x128x128) off ![1, 128, 128] inb x 1 (by rw [ho]; rfl) (Nat.zero_add _)
  unfold DB
  rw [e0, e1]
  have hx : x = ix3 0 (x 1) (x 2) := by
    funext a; match a with | ⟨0, _⟩ => exact Fin.ext hx0 | ⟨1, _⟩ => rfl | ⟨2, _⟩ => rfl
  rw [hx]
  exact hv (x 1) (x 2)

theorem SB_at (j u r l : ℕ) (hu : u < 48) (hr : r < 128) (hl : l < 512) : at3 (SB x0 kc x7 j) u r l = sc x0 kc x7 j (u / 6) (u % 6) r l :=
  at3_ix3 _ hu hr hl
theorem MB_at (j u r l : ℕ) (hu : u < 48) (hr : r < 128) (hl : l < 128) : at3 (MB x0 kc x7 j) u r l = mx x0 kc x7 j (u / 6) (u % 6) r :=
  at3_ix3 _ hu hr hl
theorem EB_at (j u r l : ℕ) (hu : u < 48) (hr : r < 128) (hl : l < 512) : at3 (EB x0 kc x7 j) u r l = ex x0 kc x7 j (u / 6) (u % 6) r l :=
  at3_ix3 _ hu hr hl
theorem DB_at (j u r l : ℕ) (hu : u < 48) (hr : r < 128) (hl : l < 128) : at3 (DB x0 kc x7 j) u r l = ∑ k : Fin 512, ex x0 kc x7 j (u / 6) (u % 6) r k.val :=
  at3_ix3 _ hu hr hl

theorem pieces_append {S : Shape} {e : EltTy} (G : S.Idx → Elt Ideal e) : ∀ (L M : List (View.Piece (Elt Ideal) S e)),
    View.PiecesOf G L → View.PiecesOf G M → View.PiecesOf G (L ++ M)
  | [], _, _, h => h
  | _ :: L, M, h, h' => ⟨h.1, pieces_append G L M h.2 h'⟩

/-- A buffer whose stores are blocks of `G` and cover it reads `G`. -/
theorem read_of_pieces {κ : Kind} {sp : Space} {S : Shape} {e : EltTy} (v : View sig κ sp S e) (f : v.ty.Contents (Elt Ideal)) (G : S.Idx → Elt Ideal e)
    (L : List (View.Piece (Elt Ideal) S e)) (hL : View.PiecesOf G L) (hc : ∀ y, ∃ p ∈ L, y ∈ p.1.set) :
    v.read (Elt Ideal) (v.writes (Elt Ideal) f L) = G := by
  rw [View.read_writes_eq_canon v f L hc]
  funext y
  exact View.canon_apply_of_pieces G L (fun p hp x => hL.mem p hp x) y (hc y)

section Two
variable (c : Dev nD) (i : grid0.Coords) (arg2 : Memref sig .tc .vmem S1x512x768 .bf16) (harg2 : arg2.IsWhole) (arg3 : Memref sig .tc .vmem S1x512x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x512x768 .bf16) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S6x14x128x128 .f32) (harg9 : arg9.IsWhole) (arg10 : Memref sig .tc .vmem S1x512x768 .bf16) (harg10 : arg10.IsWhole) (arg11 : Memref sig .tc .vmem S1536x768 .bf16) (harg11 : arg11.IsWhole) (arg12 : Memref sig .tc .vmem S1536x768 .bf16) (harg12 : arg12.IsWhole) (arg13 : Memref sig .tc .vmem S48x128x512 .f32) (harg13 : arg13.IsWhole) (arg14 : Memref sig .tc .vmem S48x128x512 .bf16) (harg14 : arg14.IsWhole) (arg15 : Memref sig .tc .vmem S48x128x128 .f32) (harg15 : arg15.IsWhole) (arg16 : Memref sig .tc .vmem S48x128x128 .f32) (harg16 : arg16.IsWhole)

theorem pb1SB (a1 : BitVec 32) (X2 : BufTy.Contents (Elt Ideal) arg2.view.ty) (X9 : BufTy.Contents (Elt Ideal) arg9.view.ty) (X11 : BufTy.Contents (Elt Ideal) arg11.view.ty)
    (h2 : arg2.view.read (Elt Ideal) X2 = x0) (h9 : arg9.view.read (Elt Ideal) X9 = x7) (h11 : arg11.view.read (Elt Ideal) X11 = kc) : ∀ k : ℕ, k ≤ k0_t1_loop.trips →
    View.PiecesOf (SB x0 kc x7 (i 1).val) (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 k).1
  | 0, _ => trivial
  | k + 1, h => by
    rw [pb_k0_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 ⟨k, h⟩]
    exact pieces_append _ _ _ (trip1SB x0 kc x7 c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 h2 h9 h11 ⟨k, h⟩) (pb1SB a1 X2 X9 X11 h2 h9 h11 k (Nat.le_of_succ_le h))

theorem cov1SB (a1 : BitVec 32) (X2 : BufTy.Contents (Elt Ideal) arg2.view.ty) (X9 : BufTy.Contents (Elt Ideal) arg9.view.ty) (X11 : BufTy.Contents (Elt Ideal) arg11.view.ty) :
    ∀ y, ∃ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 (Scf.trips k0_t1_loop.lb k0_t1_loop.ub k0_t1_loop.st)).1, y ∈ p.1.set :=
  View.cover_of_tiledL _ S1x128x512.size (by sl_kernel_rfl)

theorem read1SB (f : arg13.view.ty.Contents (Elt Ideal)) (a1 : BitVec 32) (X2 : BufTy.Contents (Elt Ideal) arg2.view.ty) (X9 : BufTy.Contents (Elt Ideal) arg9.view.ty) (X11 : BufTy.Contents (Elt Ideal) arg11.view.ty)
    (h2 : arg2.view.read (Elt Ideal) X2 = x0) (h9 : arg9.view.read (Elt Ideal) X9 = x7) (h11 : arg11.view.read (Elt Ideal) X11 = kc) :
    arg13.view.read (Elt Ideal) (arg13.view.writes (Elt Ideal) f (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 (Scf.trips k0_t1_loop.lb k0_t1_loop.ub k0_t1_loop.st)).1) = SB x0 kc x7 (i 1).val :=
  read_of_pieces _ _ _ _ (pb1SB x0 kc x7 c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 h2 h9 h11 _ le_rfl) (cov1SB c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11)

theorem pb1MB (a1 : BitVec 32) (X2 : BufTy.Contents (Elt Ideal) arg2.view.ty) (X9 : BufTy.Contents (Elt Ideal) arg9.view.ty) (X11 : BufTy.Contents (Elt Ideal) arg11.view.ty)
    (h2 : arg2.view.read (Elt Ideal) X2 = x0) (h9 : arg9.view.read (Elt Ideal) X9 = x7) (h11 : arg11.view.read (Elt Ideal) X11 = kc) : ∀ k : ℕ, k ≤ k0_t1_loop.trips →
    View.PiecesOf (MB x0 kc x7 (i 1).val) (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 k).2
  | 0, _ => trivial
  | k + 1, h => by
    rw [pb_k0_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 ⟨k, h⟩]
    exact pieces_append _ _ _ (trip1MB x0 kc x7 c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 h2 h9 h11 ⟨k, h⟩) (pb1MB a1 X2 X9 X11 h2 h9 h11 k (Nat.le_of_succ_le h))

theorem cov1MB (a1 : BitVec 32) (X2 : BufTy.Contents (Elt Ideal) arg2.view.ty) (X9 : BufTy.Contents (Elt Ideal) arg9.view.ty) (X11 : BufTy.Contents (Elt Ideal) arg11.view.ty) :
    ∀ y, ∃ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 (Scf.trips k0_t1_loop.lb k0_t1_loop.ub k0_t1_loop.st)).2, y ∈ p.1.set :=
  View.cover_of_tiledL _ S1x128x128.size (by sl_kernel_rfl)

theorem read1MB (f : arg15.view.ty.Contents (Elt Ideal)) (a1 : BitVec 32) (X2 : BufTy.Contents (Elt Ideal) arg2.view.ty) (X9 : BufTy.Contents (Elt Ideal) arg9.view.ty) (X11 : BufTy.Contents (Elt Ideal) arg11.view.ty)
    (h2 : arg2.view.read (Elt Ideal) X2 = x0) (h9 : arg9.view.read (Elt Ideal) X9 = x7) (h11 : arg11.view.read (Elt Ideal) X11 = kc) :
    arg15.view.read (Elt Ideal) (arg15.view.writes (Elt Ideal) f (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 (Scf.trips k0_t1_loop.lb k0_t1_loop.ub k0_t1_loop.st)).2) = MB x0 kc x7 (i 1).val :=
  read_of_pieces _ _ _ _ (pb1MB x0 kc x7 c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11 h2 h9 h11 _ le_rfl) (cov1MB c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X2 X9 X11)

theorem trip2EB (X13 : BufTy.Contents (Elt Ideal) arg13.view.ty) (X15 : BufTy.Contents (Elt Ideal) arg15.view.ty)
    (h13 : arg13.view.read (Elt Ideal) X13 = SB x0 kc x7 (i 1).val) (h15 : arg15.view.read (Elt Ideal) X15 = MB x0 kc x7 (i 1).val) (k : Fin k0_t2_loop.trips) :
    View.PiecesOf (EB x0 kc x7 (i 1).val) (trip_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 k).1 := by
  have hk : k.val < 48 := lt_of_lt_of_eq k.isLt (by decide)
  unfold trip_k0_t2
  dsimp only
  refine pieces_cons _ _ _ _ ?_ trivial
  refine fE x0 kc x7 (u := k.val) _ ?_ _ _ (off21_eq k)
  intro r l
  refine (pay8_apply _ _ r l (mx x0 kc x7 (i 1).val (k.val / 6) (k.val % 6) r.val) ?_).trans ?_
  · intro l
    exact (rd3f arg15.view X15 _ h15 _ _ _ _ (off22_eq k) rfl (Nat.zero_add _) (Nat.zero_add _)).trans (MB_at x0 kc x7 _ _ _ _ hk r.isLt l.isLt)
  · exact congrArg (fun z : EReal => Ideal.exp (z - mx x0 kc x7 (i 1).val (k.val / 6) (k.val % 6) r.val))
      ((rd3f arg13.view X13 _ h13 _ _ _ _ (off21_eq k) rfl (Nat.zero_add _) (Nat.zero_add _)).trans (SB_at x0 kc x7 _ _ _ _ hk r.isLt l.isLt))

theorem pb2EB (X13 : BufTy.Contents (Elt Ideal) arg13.view.ty) (X15 : BufTy.Contents (Elt Ideal) arg15.view.ty)
    (h13 : arg13.view.read (Elt Ideal) X13 = SB x0 kc x7 (i 1).val) (h15 : arg15.view.read (Elt Ideal) X15 = MB x0 kc x7 (i 1).val) : ∀ k : ℕ, k ≤ k0_t2_loop.trips →
    View.PiecesOf (EB x0 kc x7 (i 1).val) (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 k).1
  | 0, _ => trivial
  | k + 1, h => by
    rw [pb_k0_t2_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 ⟨k, h⟩]
    exact pieces_append _ _ _ (trip2EB x0 kc x7 c i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 h13 h15 ⟨k, h⟩) (pb2EB X13 X15 h13 h15 k (Nat.le_of_succ_le h))

theorem cov2EB (X13 : BufTy.Contents (Elt Ideal) arg13.view.ty) (X15 : BufTy.Contents (Elt Ideal) arg15.view.ty) :
    ∀ y, ∃ p ∈ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 (Scf.trips k0_t2_loop.lb k0_t2_loop.ub k0_t2_loop.st)).1, y ∈ p.1.set :=
  View.cover_of_tiledL _ S1x128x512.size (by sl_kernel_rfl)

theorem read2EB (f : arg14.view.ty.Contents (Elt Ideal)) (X13 : BufTy.Contents (Elt Ideal) arg13.view.ty) (X15 : BufTy.Contents (Elt Ideal) arg15.view.ty)
    (h13 : arg13.view.read (Elt Ideal) X13 = SB x0 kc x7 (i 1).val) (h15 : arg15.view.read (Elt Ideal) X15 = MB x0 kc x7 (i 1).val) :
    arg14.view.read (Elt Ideal) (arg14.view.writes (Elt Ideal) f (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 (Scf.trips k0_t2_loop.lb k0_t2_loop.ub k0_t2_loop.st)).1) = EB x0 kc x7 (i 1).val :=
  read_of_pieces _ _ _ _ (pb2EB x0 kc x7 c i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 h13 h15 _ le_rfl) (cov2EB c i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15)

theorem trip2DB (X13 : BufTy.Contents (Elt Ideal) arg13.view.ty) (X15 : BufTy.Contents (Elt Ideal) arg15.view.ty)
    (h13 : arg13.view.read (Elt Ideal) X13 = SB x0 kc x7 (i 1).val) (h15 : arg15.view.read (Elt Ideal) X15 = MB x0 kc x7 (i 1).val) (k : Fin k0_t2_loop.trips) :
    View.PiecesOf (DB x0 kc x7 (i 1).val) (trip_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 k).2.1 := by
  have hk : k.val < 48 := lt_of_lt_of_eq k.isLt (by decide)
  unfold trip_k0_t2
  dsimp only
  refine pieces_cons _ _ _ _ ?_ trivial
  refine fD x0 kc x7 (u := k.val) _ ?_ _ _ (off22_eq k)
  intro r l
  refine (pay7_apply _ _ r l (mx x0 kc x7 (i 1).val (k.val / 6) (k.val % 6) r.val) ?_).trans ?_
  · intro l
    exact (rd3f arg15.view X15 _ h15 _ _ _ _ (off22_eq k) rfl (Nat.zero_add _) (Nat.zero_add _)).trans (MB_at x0 kc x7 _ _ _ _ hk r.isLt l.isLt)
  · exact Finset.sum_congr rfl fun m _ => congrArg (fun z : EReal => Ideal.exp (z - mx x0 kc x7 (i 1).val (k.val / 6) (k.val % 6) r.val))
      ((rd3f arg13.view X13 _ h13 _ _ _ _ (off21_eq k) rfl (Nat.zero_add _) (Nat.zero_add _)).trans (SB_at x0 kc x7 _ _ _ _ hk r.isLt m.isLt))

theorem pb2DB (X13 : BufTy.Contents (Elt Ideal) arg13.view.ty) (X15 : BufTy.Contents (Elt Ideal) arg15.view.ty)
    (h13 : arg13.view.read (Elt Ideal) X13 = SB x0 kc x7 (i 1).val) (h15 : arg15.view.read (Elt Ideal) X15 = MB x0 kc x7 (i 1).val) : ∀ k : ℕ, k ≤ k0_t2_loop.trips →
    View.PiecesOf (DB x0 kc x7 (i 1).val) (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 k).2
  | 0, _ => trivial
  | k + 1, h => by
    rw [pb_k0_t2_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 ⟨k, h⟩]
    exact pieces_append _ _ _ (trip2DB x0 kc x7 c i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 h13 h15 ⟨k, h⟩) (pb2DB X13 X15 h13 h15 k (Nat.le_of_succ_le h))

theorem cov2DB (X13 : BufTy.Contents (Elt Ideal) arg13.view.ty) (X15 : BufTy.Contents (Elt Ideal) arg15.view.ty) :
    ∀ y, ∃ p ∈ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 (Scf.trips k0_t2_loop.lb k0_t2_loop.ub k0_t2_loop.st)).2, y ∈ p.1.set :=
  View.cover_of_tiledL _ S1x128x128.size (by sl_kernel_rfl)

theorem read2DB (f : arg16.view.ty.Contents (Elt Ideal)) (X13 : BufTy.Contents (Elt Ideal) arg13.view.ty) (X15 : BufTy.Contents (Elt Ideal) arg15.view.ty)
    (h13 : arg13.view.read (Elt Ideal) X13 = SB x0 kc x7 (i 1).val) (h15 : arg15.view.read (Elt Ideal) X15 = MB x0 kc x7 (i 1).val) :
    arg16.view.read (Elt Ideal) (arg16.view.writes (Elt Ideal) f (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 (Scf.trips k0_t2_loop.lb k0_t2_loop.ub k0_t2_loop.st)).2) = DB x0 kc x7 (i 1).val :=
  read_of_pieces _ _ _ _ (pb2DB x0 kc x7 c i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15 h13 h15 _ le_rfl) (cov2DB c i arg2 harg2 arg3 harg3 arg4 harg4 arg5 harg5 arg6 harg6 arg7 harg7 arg8 harg8 arg9 harg9 arg10 harg10 arg11 harg11 arg12 harg12 arg13 harg13 arg14 harg14 arg15 harg15 arg16 harg16 X13 X15)

theorem trip3OB (a1 : BitVec 32) (X12 : BufTy.Contents (Elt Ideal) arg12.view.ty) (X14 : BufTy.Contents (Elt Ideal) arg14.view.ty) (X16 : BufTy.Contents (Elt Ideal) arg16.view.ty)
    (h12 : arg12.view.read (Elt Ideal) X12 = vc) (h14 : arg14.view.read (Elt Ideal) X14 = EB x0 kc x7 (i 1).val) (h16 : arg16.view.read (Elt Ideal) X16 = DB x0 kc x7 (i 1).val) (k : Fin k0_t3_loop.trips) :
    View.PiecesOf (OB x0 kc vc x7 (i 1).val) (trip_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X12 X14 X16 k).1 := by
  have hk : k.val < 8 := lt_of_lt_of_eq k.isLt (by decide)
  unfold trip_k0_t3
  dsimp only
  refine pieces_cons _ _ _ _ ?_ (pieces_cons _ _ _ _ ?_ (pieces_cons _ _ _ _ ?_ (pieces_cons _ _ _ _ ?_ (pieces_cons _ _ _ _ ?_ (pieces_cons _ _ _ _ ?_ trivial)))))
  · refine fO x0 kc vc x7 (t := k.val) (p := 5) _ (by decide) ?_ _ _ (off36_eq k)
    intro r l
    refine pay10_apply x0 kc vc x7 _ _ _ ?_ ?_ ?_ r l
    · exact fun r l => (rd3b arg14.view X14 _ h14 _ _ _ _ (off23_5_eq k) (show _ = k.val * 6 + 5 from rfl) (Nat.zero_add _) (Nat.zero_add _)).trans ((EB_at x0 kc x7 _ _ _ _ (by omega) r.isLt l.isLt).trans (by rw [(slab_div k.val 5 (by decide)).1, (slab_div k.val 5 (by decide)).2]))
    · exact fun r l => (rd3f arg16.view X16 _ h16 _ _ _ _ (off25_5_eq k) (show _ = k.val * 6 + 5 from rfl) (Nat.zero_add _) (Nat.zero_add _)).trans ((DB_at x0 kc x7 _ _ _ _ (by omega) r.isLt l.isLt).trans (by rw [(slab_div k.val 5 (by decide)).1, (slab_div k.val 5 (by decide)).2]))
    · exact fun r l => rd2b arg12.view X12 vc h12 _ _ _ _ (off35_eq i k) rfl rfl
  · refine fO x0 kc vc x7 (t := k.val) (p := 4) _ (by decide) ?_ _ _ (off34_eq k)
    intro r l
    refine pay10_apply x0 kc vc x7 _ _ _ ?_ ?_ ?_ r l
    · exact fun r l => (rd3b arg14.view X14 _ h14 _ _ _ _ (off23_4_eq k) (show _ = k.val * 6 + 4 from rfl) (Nat.zero_add _) (Nat.zero_add _)).trans ((EB_at x0 kc x7 _ _ _ _ (by omega) r.isLt l.isLt).trans (by rw [(slab_div k.val 4 (by decide)).1, (slab_div k.val 4 (by decide)).2]))
    · exact fun r l => (rd3f arg16.view X16 _ h16 _ _ _ _ (off25_4_eq k) (show _ = k.val * 6 + 4 from rfl) (Nat.zero_add _) (Nat.zero_add _)).trans ((DB_at x0 kc x7 _ _ _ _ (by omega) r.isLt l.isLt).trans (by rw [(slab_div k.val 4 (by decide)).1, (slab_div k.val 4 (by decide)).2]))
    · exact fun r l => rd2b arg12.view X12 vc h12 _ _ _ _ (off33_eq i k) rfl rfl
  · refine fO x0 kc vc x7 (t := k.val) (p := 3) _ (by decide) ?_ _ _ (off32_eq k)
    intro r l
    refine pay10_apply x0 kc vc x7 _ _ _ ?_ ?_ ?_ r l
    · exact fun r l => (rd3b arg14.view X14 _ h14 _ _ _ _ (off23_3_eq k) (show _ = k.val * 6 + 3 from rfl) (Nat.zero_add _) (Nat.zero_add _)).trans ((EB_at x0 kc x7 _ _ _ _ (by omega) r.isLt l.isLt).trans (by rw [(slab_div k.val 3 (by decide)).1, (slab_div k.val 3 (by decide)).2]))
    · exact fun r l => (rd3f arg16.view X16 _ h16 _ _ _ _ (off25_3_eq k) (show _ = k.val * 6 + 3 from rfl) (Nat.zero_add _) (Nat.zero_add _)).trans ((DB_at x0 kc x7 _ _ _ _ (by omega) r.isLt l.isLt).trans (by rw [(slab_div k.val 3 (by decide)).1, (slab_div k.val 3 (by decide)).2]))
    · exact fun r l => rd2b arg12.view X12 vc h12 _ _ _ _ (off31_eq i k) rfl rfl
  · refine fO x0 kc vc x7 (t := k.val) (p := 2) _ (by decide) ?_ _ _ (off30_eq k)
    intro r l
    refine pay10_apply x0 kc vc x7 _ _ _ ?_ ?_ ?_ r l
    · exact fun r l => (rd3b arg14.view X14 _ h14 _ _ _ _ (off23_2_eq k) (show _ = k.val * 6 + 2 from rfl) (Nat.zero_add _) (Nat.zero_add _)).trans ((EB_at x0 kc x7 _ _ _ _ (by omega) r.isLt l.isLt).trans (by rw [(slab_div k.val 2 (by decide)).1, (slab_div k.val 2 (by decide)).2]))
    · exact fun r l => (rd3f arg16.view X16 _ h16 _ _ _ _ (off25_2_eq k) (show _ = k.val * 6 + 2 from rfl) (Nat.zero_add _) (Nat.zero_add _)).trans ((DB_at x0 kc x7 _ _ _ _ (by omega) r.isLt l.isLt).trans (by rw [(slab_div k.val 2 (by decide)).1, (slab_div k.val 2 (by decide)).2]))
    · exact fun r l => rd2b arg12.view X12 vc h12 _ _ _ _ (off29_eq i k) rfl rfl
  · refine fO x0 kc vc x7 (t := k.val) (p := 1) _ (by decide) ?_ _ _ (off28_eq k)
    intro r l
    refine pay10_apply x0 kc vc x7 _ _ _ ?_ ?_ ?_ r l
    · exact fun r l => (rd3b arg14.view X14 _ h14 _ _ _ _ (off23_1_eq k) (show _ = k.val * 6 + 1 from rfl) (Nat.zero_add _) (Nat.zero_add _)).trans ((EB_at x0 kc x7 _ _ _ _ (by omega) r.isLt l.isLt).trans (by rw [(slab_div k.val 1 (by decide)).1, (slab_div k.val 1 (by decide)).2]))
    · exact fun r l => (rd3f arg16.view X16 _ h16 _ _ _ _ (off25_1_eq k) (show _ = k.val * 6 + 1 from rfl) (Nat.zero_add _) (Nat.zero_add _)).trans ((DB_at x0 kc x7 _ _ _ _ (by omega) r.isLt l.isLt).trans (by rw [(slab_div k.val 1 (by decide)).1, (slab_div k.val 1 (by decide)).2]))
    · exact fun r l => rd2b arg12.view X12 vc h12 _ _ _ _ (off27_eq i k) rfl rfl
  · refine fO x0 kc vc x7 (t := k.val) (p := 0) _ (by decide) ?_ _ _ (off26_eq k)
    intro r l
    refine pay10_apply x0 kc vc x7 _ _ _ ?_ ?_ ?_ r l
    · exact fun r l => (rd3b arg14.view X14 _ h14 _ _ _ _ (off23_0_eq k) (show _ = k.val * 6 + 0 from rfl) (Nat.zero_add _) (Nat.zero_add _)).trans ((EB_at x0 kc x7 _ _ _ _ (by omega) r.isLt l.isLt).trans (by rw [(slab_div k.val 0 (by decide)).1, (slab_div k.val 0 (by decide)).2]))
    · exact fun r l => (rd3f arg16.view X16 _ h16 _ _ _ _ (off25_0_eq k) (show _ = k.val * 6 + 0 from rfl) (Nat.zero_add _) (Nat.zero_add _)).trans ((DB_at x0 kc x7 _ _ _ _ (by omega) r.isLt l.isLt).trans (by rw [(slab_div k.val 0 (by decide)).1, (slab_div k.val 0 (by decide)).2]))
    · exact fun r l => rd2b arg12.view X12 vc h12 _ _ _ _ (off24_eq i k) rfl rfl

theorem pb3OB (a1 : BitVec 32) (X12 : BufTy.Contents (Elt Ideal) arg12.view.ty) (X14 : BufTy.Contents (Elt Ideal) arg14.view.ty) (X16 : BufTy.Contents (Elt Ideal) arg16.view.ty)
    (h12 : arg12.view.read (Elt Ideal) X12 = vc) (h14 : arg14.view.read (Elt Ideal) X14 = EB x0 kc x7 (i 1).val) (h16 : arg16.view.read (Elt Ideal) X16 = DB x0 kc x7 (i 1).val) : ∀ k : ℕ, k ≤ k0_t3_loop.trips →
    View.PiecesOf (OB x0 kc vc x7 (i 1).val) (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X12 X14 X16 k)
  | 0, _ => trivial
  | k + 1, h => by
    rw [pb_k0_t3_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X12 X14 X16 ⟨k, h⟩]
    exact pieces_append _ _ _ (trip3OB x0 kc vc x7 c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X12 X14 X16 h12 h14 h16 ⟨k, h⟩) (pb3OB a1 X12 X14 X16 h12 h14 h16 k (Nat.le_of_succ_le h))

theorem cov3OB (a1 : BitVec 32) (X12 : BufTy.Contents (Elt Ideal) arg12.view.ty) (X14 : BufTy.Contents (Elt Ideal) arg14.view.ty) (X16 : BufTy.Contents (Elt Ideal) arg16.view.ty) :
    ∀ y, ∃ p ∈ (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X12 X14 X16 (Scf.trips k0_t3_loop.lb k0_t3_loop.ub k0_t3_loop.st)), y ∈ p.1.set :=
  View.cover_of_tiledL _ S1x64x128.size (by sl_kernel_rfl)

theorem read3OB (f : arg10.view.ty.Contents (Elt Ideal)) (a1 : BitVec 32) (X12 : BufTy.Contents (Elt Ideal) arg12.view.ty) (X14 : BufTy.Contents (Elt Ideal) arg14.view.ty) (X16 : BufTy.Contents (Elt Ideal) arg16.view.ty)
    (h12 : arg12.view.read (Elt Ideal) X12 = vc) (h14 : arg14.view.read (Elt Ideal) X14 = EB x0 kc x7 (i 1).val) (h16 : arg16.view.read (Elt Ideal) X16 = DB x0 kc x7 (i 1).val) :
    arg10.view.read (Elt Ideal) (arg10.view.writes (Elt Ideal) f (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X12 X14 X16 (Scf.trips k0_t3_loop.lb k0_t3_loop.ub k0_t3_loop.st))) = OB x0 kc vc x7 (i 1).val :=
  read_of_pieces _ _ _ _ (pb3OB x0 kc vc x7 c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X12 X14 X16 h12 h14 h16 _ le_rfl) (cov3OB c i arg2 harg2 arg3 harg3 arg4 harg4 arg5 harg5 arg6 harg6 arg7 harg7 arg8 harg8 arg9 harg9 arg10 harg10 arg11 harg11 arg12 harg12 arg13 harg13 arg14 harg14 arg15 harg15 arg16 harg16 a1 X12 X14 X16)

end Two

end Cert.KernelIdeal.Gen

end
-- ==== Proof.NaRun.lean ====
module

public import proofs.«01_k».proof.Proof.NaLoops2
public import proofs.«01_k».proof.Proof.Gen.KernelIdeal.Frame.Runs
public import Idealize.ShloMosaic.Lib.Pipeline.ReadBack
public import Idealize.ShloMosaic.Lib.Ring
public import Idealize.ShloMosaic.Lib.Tactic
public import Idealize.ShloMosaic.Lib.Pipeline.ValueKit

@[expose] public section

set_option maxRecDepth 16384

noncomputable section

/-! One grid point of the kernel, run: what it leaves in the output block. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn

local notation "𝕄" => MT nD τ sig Unit (Elt Ideal) ℕ (UR sig nD τ) ℕ

/-- Three consecutive blocks of 512 rows, one below the other. -/
def cat3 (a b d : Vec Ideal S1x512x768 .bf16) : Vec Ideal S1536x768 .bf16 := fun y =>
  at3 (if (y 0).val < 512 then a else if (y 0).val < 1024 then b else d) 0 ((y 0).val % 512) (y 1).val

theorem pay42_apply (a : Vec Ideal S1x512x768 .bf16) (r : Fin 512) (l : Fin 768) :
    k0_pay42 (F := Ideal) a (ix2 r l) = a (ix3 0 r l) := by
  pointwise [k0_pay42]

theorem fC (G : Vec Ideal S1536x768 .bf16) (a : Vec Ideal S1x512x768 .bf16) (o : ℕ) (inb)
    (hG : ∀ y : S1536x768.Idx, o ≤ (y 0).val → (y 0).val < o + 512 → G y = at3 a 0 ((y 0).val - o) (y 1).val)
    (x : S512x768.Idx) : k0_pay42 (F := Ideal) a x = G ((Rect.unit (s := S1536x768) ![o, 0] S512x768.size inb).emb x) := by
  have h1 : (x 0).val < 512 := (x 0).isLt
  have e0 : ((Rect.unit (s := S1536x768) ![o, 0] S512x768.size inb).emb x 0).val = o + (x 0).val :=
    idxv (s := S1536x768) ![o, 0] S512x768.size inb x 0 rfl rfl
  have e1 : ((Rect.unit (s := S1536x768) ![o, 0] S512x768.size inb).emb x 1).val = (x 1).val :=
    idxv (s := S1536x768) ![o, 0] S512x768.size inb x 1 rfl (Nat.zero_add _)
  rw [hG _ (by omega) (by omega), e0, e1, Nat.add_sub_cancel_left]
  have hx : x = ix2 (x 0) (x 1) := by funext a; match a with | ⟨0, _⟩ => rfl | ⟨1, _⟩ => rfl
  rw [hx]
  exact (pay42_apply a (x 0) (x 1)).trans (at3_of a _ rfl rfl rfl)

theorem whole_read {κ : Kind} {sp : Space} (v : View sig κ sp S1x512x768 .bf16) (f : v.ty.Contents (Elt Ideal)) (inb) :
    v.readAt (Elt Ideal) (Rect.unit (s := S1x512x768) ![0, 0, 0] S1x512x768.size inb).toLoadRect f = v.read (Elt Ideal) f := by
  funext x
  refine congrArg (v.read (Elt Ideal) f) ?_
  funext a
  apply Fin.ext
  refine (Rect.idx_unit_val _ _ _ x a).trans ?_
  match a with | ⟨0, _⟩ => exact Nat.zero_add _ | ⟨1, _⟩ => exact Nat.zero_add _ | ⟨2, _⟩ => exact Nat.zero_add _

theorem catRead {κ κ1 κ2 κ3 : Kind} {sp sp1 sp2 sp3 : Space} (v : View sig κ sp S1536x768 .bf16) (f : v.ty.Contents (Elt Ideal))
    (va : View sig κ1 sp1 S1x512x768 .bf16) (vb : View sig κ2 sp2 S1x512x768 .bf16) (vd : View sig κ3 sp3 S1x512x768 .bf16)
    (fa : va.ty.Contents (Elt Ideal)) (fb : vb.ty.Contents (Elt Ideal)) (fd : vd.ty.Contents (Elt Ideal))
    (a b d : Vec Ideal S1x512x768 .bf16) (ha : va.read (Elt Ideal) fa = a) (hb : vb.read (Elt Ideal) fb = b) (hd : vd.read (Elt Ideal) fd = d)
    (i0 i1 i2 j0 j1 j2) (L : List (View.Piece (Elt Ideal) S1536x768 .bf16))
    (hL : L = [⟨Rect.unit (s := S1536x768) ![1024, 0] S512x768.size i2, k0_pay42 (F := Ideal) (vd.readAt (Elt Ideal) (Rect.unit (s := S1x512x768) ![0, 0, 0] S1x512x768.size j2).toLoadRect fd)⟩,
      ⟨Rect.unit (s := S1536x768) ![512, 0] S512x768.size i1, k0_pay42 (F := Ideal) (vb.readAt (Elt Ideal) (Rect.unit (s := S1x512x768) ![0, 0, 0] S1x512x768.size j1).toLoadRect fb)⟩,
      ⟨Rect.unit (s := S1536x768) ![0, 0] S512x768.size i0, k0_pay42 (F := Ideal) (va.readAt (Elt Ideal) (Rect.unit (s := S1x512x768) ![0, 0, 0] S1x512x768.size j0).toLoadRect fa)⟩]) :
    v.read (Elt Ideal) (v.writes (Elt Ideal) f L) = cat3 a b d := by
  subst ha hb hd
  refine read_of_pieces v f _ L ?_ ?_
  · subst hL
    rw [whole_read, whole_read, whole_read]
    refine pieces_cons _ _ _ _ (fC _ _ _ _ ?_) (pieces_cons _ _ _ _ (fC _ _ _ _ ?_) (pieces_cons _ _ _ _ (fC _ _ _ _ ?_) trivial))
    · intro y h1 h2
      unfold cat3
      rw [if_neg (by omega), if_neg (by omega), show (y 0).val % 512 = (y 0).val - 1024 by omega]
    · intro y h1 h2
      unfold cat3
      rw [if_neg (by omega), if_pos (by omega), show (y 0).val % 512 = (y 0).val - 512 by omega]
    · intro y h1 h2
      unfold cat3
      rw [if_pos (by omega), show (y 0).val % 512 = (y 0).val - 0 by omega]
  · subst hL
    exact View.cover_of_tiledL _ S512x768.size (by sl_kernel_rfl)

set_option maxHeartbeats 1000000 in
theorem run (c : Dev nD) (i : grid0.Coords) (arg2 : Memref sig .tc .vmem S1x512x768 .bf16) (harg2 : arg2.IsWhole) (arg3 : Memref sig .tc .vmem S1x512x768 .bf16) (harg3 : arg3.IsWhole) (arg4 : Memref sig .tc .vmem S1x512x768 .bf16) (harg4 : arg4.IsWhole) (arg5 : Memref sig .tc .vmem S1x512x768 .bf16) (harg5 : arg5.IsWhole) (arg6 : Memref sig .tc .vmem S1x512x768 .bf16) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S6x14x128x128 .f32) (harg9 : arg9.IsWhole) (arg10 : Memref sig .tc .vmem S1x512x768 .bf16) (harg10 : arg10.IsWhole) (arg11 : Memref sig .tc .vmem S1536x768 .bf16) (harg11 : arg11.IsWhole) (arg12 : Memref sig .tc .vmem S1536x768 .bf16) (harg12 : arg12.IsWhole) (arg13 : Memref sig .tc .vmem S48x128x512 .f32) (harg13 : arg13.IsWhole) (arg14 : Memref sig .tc .vmem S48x128x512 .bf16) (harg14 : arg14.IsWhole) (arg15 : Memref sig .tc .vmem S48x128x128 .f32) (harg15 : arg15.IsWhole) (arg16 : Memref sig .tc .vmem S48x128x128 .f32) (harg16 : arg16.IsWhole)
    (x0 : Vec Ideal S1x512x768 .bf16) (x1 : Vec Ideal S1x512x768 .bf16) (x2 : Vec Ideal S1x512x768 .bf16) (x3 : Vec Ideal S1x512x768 .bf16) (x4 : Vec Ideal S1x512x768 .bf16) (x5 : Vec Ideal S1x512x768 .bf16) (x6 : Vec Ideal S1x512x768 .bf16) (x7 : Vec Ideal S6x14x128x128 .f32)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (OB x0 (cat3 x1 x2 x3) (cat3 x4 x5 x6) x7 (i 1).val) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := Ideal)) Variants.none c none) E (cc0_na_attn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_na_attn_eq_skeleton]; unfold cc0_na_attn_skel
  simp only [k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  have h11 : ∀ f, arg11.view.read (Elt Ideal) (arg11.view.writes (Elt Ideal) f (run.sl.HS0_3 c arg3 harg3 arg4 harg4 arg5 harg5 x1 x2 x3)) = cat3 x1 x2 x3 := fun f =>
    catRead arg11.view f arg3.view arg4.view arg5.view _ _ _ x1 x2 x3 (harg3.read_unread x1) (harg4.read_unread x2) (harg5.read_unread x3) _ _ _ _ _ _ _ rfl
  have h12 : ∀ f, arg12.view.read (Elt Ideal) (arg12.view.writes (Elt Ideal) f (run.sl.HS1_3 c arg6 harg6 arg7 harg7 arg8 harg8 x4 x5 x6)) = cat3 x4 x5 x6 := fun f =>
    catRead arg12.view f arg6.view arg7.view arg8.view _ _ _ x4 x5 x6 (harg6.read_unread x4) (harg7.read_unread x5) (harg8.read_unread x6) _ _ _ _ _ _ _ rfl
  isplitl [H8]
  · iexists _; isplitr; swap; · iexact H8
    ipureintro
    refine read3OB x0 (cat3 x1 x2 x3) (cat3 x4 x5 x6) x7 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ (h12 _) ?_ ?_
    · exact read2EB x0 (cat3 x1 x2 x3) x7 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _
        (read1SB x0 (cat3 x1 x2 x3) x7 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ (harg2.read_unread x0) (harg9.read_unread x7) (h11 _))
        (read1MB x0 (cat3 x1 x2 x3) x7 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ (harg2.read_unread x0) (harg9.read_unread x7) (h11 _))
    · exact read2DB x0 (cat3 x1 x2 x3) x7 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _
        (read1SB x0 (cat3 x1 x2 x3) x7 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ (harg2.read_unread x0) (harg9.read_unread x7) (h11 _))
        (read1MB x0 (cat3 x1 x2 x3) x7 c i arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ (harg2.read_unread x0) (harg9.read_unread x7) (h11 _))
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexists _, _; isplitr; swap; · iexact HS5
  ipureintro; rfl

end Cert.KernelIdeal.Gen

end
-- ==== Proof.NaFrame.lean ====
module

public import proofs.«01_k».proof.Proof.NaRun
public import Idealize.ShloMosaic.Lib.Claim
public import Idealize.ShloMosaic.Lib.Pipeline.Value
public import proofs.«01_k».proof.Proof.Gen.KernelIdeal.Frame.Runs
public import Idealize.ShloMosaic.Lib.Pipeline.ReadBack
public import Idealize.ShloMosaic.Lib.Ring
public import Idealize.ShloMosaic.Lib.Tactic
public import Idealize.ShloMosaic.Lib.Pipeline.ValueKit

@[expose] public section

set_option maxRecDepth 16384

noncomputable section

/-! The whole launch: what it leaves in the output array, and its frame. -/

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- What the output's staging buffer holds after the body at point `t`. -/
def outsAt0 (c : Dev nD) (t : Fin cfg0.N) : Vec Ideal S1x512x768 .bf16 :=
  OB (X0_0 m c t) (cat3 (X0_1 m c t) (X0_2 m c t) (X0_3 m c t)) (cat3 (X0_4 m c t) (X0_5 m c t) (X0_6 m c t)) (iblk m c 7 t) (grid0.coords t 1).val

/-! ## The pipeline's proof data -/

/-- The proof data of the pipeline: the arrays as the region finds them, each input block kept, the output block at its closed form. -/
def dats (_ : Fin 1) (c : Dev nD) : Dat τ (Elt Ideal) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => X0_6 m c t
    | ⟨7, _⟩ => iblk m c 7 t
    | ⟨8, _⟩ => (outsAt0 m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t) := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1200000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid0.coords t) _ _ _ _ _ _ _ _ _ _ _ _ _ _ _ _ _ _ _ _ _ _ _ _ _ _ _ _ _ _ (X0_0 m c t) (X0_1 m c t) (X0_2 m c t) (X0_3 m c t) (X0_4 m c t) (X0_5 m c t) (X0_6 m c t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- Every execution ends with every array of the pipeline at what the proof data say. -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: every execution ends, with the arguments unchanged and no semaphore left up. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

/-! ## Blockwise: what each point writes back, and the final array block by block -/

/-- What point `t` writes back. -/
theorem flushed8 (c : Dev nD) (t : Fin cfg0.N) :
    (dats m 0 c).flushed 8 t = (cfg0.win 8).cut (grid0.coords t) (outsAt0 m c t) := by
  show (cfg0.win 8).cut (grid0.coords t) ((dats m 0 c).after 8 t) = _
  rw [after0_8]

/-- The index map sends distinct grid points to distinct block indices (decided over the 128 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index. -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt Ideal) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S16x4096x768.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 8's array is `(dats m 0 c).arrAt 8 N`. -/
theorem post8 (r : PUnit × MemSt nD τ sig (Elt Ideal)) (h : Pipeline.FramePost cfgs (dats m) 0 (V m) r) (c : Dev nD) :
    r.2.mem ((c : Thread nD τ).loc main_v40) = (dats m 0 c).arrAt 8 cfg0.N :=
  (h c).1 8

/-- After the frame run, argument `main_arg0` is as launched: input window 6 stages it and never writes it back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 6).trans (((dats m 0 c).arrAt_in 6 rfl _).trans ((A_eq m c 6).trans (V_main_arg0 m c)))

/-- After the frame run, argument `main_arg1` is as launched: no window stages it, and the run leaves the region's other buffers as they were. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The frame run with each output array after the run NAMED — `(dats m 0 c).arrAt w N`, which `blocks_w` / `entry_w` read —,
    the arguments unchanged. -/
theorem run_blocks : θ_run defs (onTc (τ := τ) (main (F := Ideal))) ⟨m, fun _ => 0, ρ⟩ fun r => ∀ c : Dev nD,
      r.2.mem ((c : Thread nD τ).loc main_v40) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post8 m r h c,
      kept_main_arg0 m r h c,
      kept_main_arg1 m r h c⟩)
    (run_main m ρ)

end Cert.KernelIdeal.Na

end
-- ==== Proof.NaBias.lean ====
module

public import proofs.«01_k».proof.Proof.NaFrame
public import Idealize.ShloMosaic.Lib.Pointwise
public import Idealize.ShloMosaic.Lib.Claim

@[expose] public section

set_option maxRecDepth 16384

noncomputable section

/-! The bias table the host forms, read at an index. -/

namespace Cert.KernelIdeal.Na

open Idealize.ShloMosaic Idealize.ShloMosaic.TcCoe Idealize.ShloMosaic.Tactic
open Cert.Attn Cert.KernelIdeal Cert.KernelIdeal.Gen

/-- The first column of each query column's window. -/
def hv6 : Vec Ideal S64x1 .i32 :=
  minsi (broadcastInDim S64x1 ![] bcast_S_S64x1 (constantI S_ 32 48#32))
    (maxsi (broadcastInDim S64x1 ![] bcast_S_S64x1 (constantI S_ 32 0#32))
      (subi (broadcastInDim S64x1 ![0] bcast_S64_S64x1_0 (iotaInDim S64 32 0)) (broadcastInDim S64x1 ![] bcast_S_S64x1 (constantI S_ 32 8#32))))

/-- Whether a key column lies in the window. -/
def hv15 : Vec Ideal S64x64 .i1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 hv6))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (addi hv6 (broadcastInDim S64x1 ![] bcast_S_S64x1 (constantI S_ 32 16#32)))))

/-- The column offset, held in range. -/
def hv23 : Vec Ideal S64x64 .i32 :=
  minsi (broadcastInDim S64x64 ![] bcast_S_S64x64 (constantI S_ 32 30#32))
    (maxsi (broadcastInDim S64x64 ![] bcast_S_S64x64 (constantI S_ 32 0#32))
      (subi (addi (subi (broadcastInDim S64x64 ![0, 1] bcast_S1x64_S64x64_0_1 (broadcastInDim S1x64 ![1] bcast_S64_S1x64_1 (iotaInDim S64 32 0)))
          (broadcastInDim S64x64 ![0, 1] bcast_S64x1_S64x64_0_1 (broadcastInDim S64x1 ![0] bcast_S64_S64x1_0 (iotaInDim S64 32 0))))
        (broadcastInDim S64x64 ![] bcast_S_S64x64 (constantI S_ 32 16#32))) (broadcastInDim S64x64 ![] bcast_S_S64x64 (constantI S_ 32 1#32))))

/-- The column offset as an index. -/
def hv28 : Vec Ideal S64x64 .i32 :=
  select (cmpi .slt hv23 (broadcastInDim S64x64 ![] bcast_S_S64x64 (constantI S_ 32 0#32)))
    (addi hv23 (broadcastInDim S64x64 ![] bcast_S_S64x64 (constantI S_ 32 31#32))) hv23

/-- The bias of every head, row offset, query column and key column, minus infinity outside the window. -/
def hv31 (x : Vec Ideal S12x15x31 .f32) : Vec Ideal S12x15x64x64 .f32 :=
  select (broadcastInDim S12x15x64x64 ![2, 3] bcast_S64x64_S12x15x64x64_2_3 hv15)
    (Host.gather gather_S12x15x31_S64x64x1_S12x15x64x64_01_2_n_n_2_2_12151 x (broadcastInDim S64x64x1 ![0, 1] bcast_S64x64_S64x64x1_0_1 hv28))
    (broadcastInDim S12x15x64x64 ![] bcast_S_S12x15x64x64 (constant (F := Ideal) S_ .f32 0xFF800000#32))

/-- The table the kernel reads. -/
def BT (x : Vec Ideal S12x15x31 .f32) : Vec Ideal S6x14x128x128 .f32 :=
  shapeCast S6x14x128x128 (transpose S6x14x2x64x128 [0, 2, 1, 3, 4]
    (shapeCast S6x2x14x64x128 (concatenate S12x14x64x2x64 3
      [⟨S12x14x64x1x64, broadcastInDim S12x14x64x1x64 ![0, 1, 2, 4] bcast_S12x14x64x64_S12x14x64x1x64_0_1_2_4 (extractStridedSlice S12x14x64x64 ![0, 0, 0, 0] (hv31 x) slices_S12x15x64x64_S12x14x64x64_0_0_0_0)⟩,
       ⟨S12x14x64x1x64, broadcastInDim S12x14x64x1x64 ![0, 1, 2, 4] bcast_S12x14x64x64_S12x14x64x1x64_0_1_2_4 (extractStridedSlice S12x14x64x64 ![0, 1, 0, 0] (hv31 x) slices_S12x15x64x64_S12x14x64x64_0_1_0_0)⟩]
      concatenates_S12x14x64x1x64_S12x14x64x1x64_S12x14x64x2x64_d3) shapeCasts_S12x14x64x2x64_S6x2x14x64x128)
    transposes_S6x2x14x64x128_S6x14x2x64x128_0_2_1_3_4) shapeCasts_S6x14x2x64x128_S6x14x128x128

theorem hv15_at : ∀ c k : Fin 64, hv15 (ix2 c k) = if Seen c k then 1#1 else 0#1 := by
  decide +kernel

theorem hv28_at : ∀ c k : Fin 64, hv28 (ix2 c k) = BitVec.ofNat 32 (min (k.val + 15 - c.val) 30) := by
  decide +kernel

theorem gather_at (x : Vec Ideal S12x15x31 .f32) (idx : Vec Ideal S64x64x1 .i32) (n : Fin 12) (a : Fin 15) (c k : Fin 64) (o : ℕ) (ho : o < 31)
    (hi : idx (ix3 c k 0) = BitVec.ofNat 32 o) :
    Host.gather gather_S12x15x31_S64x64x1_S12x15x64x64_01_2_n_n_2_2_12151 x idx (ix4 n a c k) = x (ix3 n a ⟨o, ho⟩) := by
  refine congrArg x ?_
  funext ax
  refine Fin.ext ?_
  show GatherDims.start _ (ix4 n a c k) idx ax + GatherDims.batchCoord _ (ix4 n a c k) ax + GatherDims.offCoord _ (ix4 n a c k) ax = _
  match ax with
  | 0 => exact (congrArg₂ (· + ·) (congrArg₂ (· + ·) (dif_neg (by decide)) (dif_neg (by decide))) (dif_pos (by decide))).trans (by rw [Nat.add_zero, Nat.zero_add]; rfl)
  | 1 => exact (congrArg₂ (· + ·) (congrArg₂ (· + ·) (dif_neg (by decide)) (dif_neg (by decide))) (dif_pos (by decide))).trans (by rw [Nat.add_zero, Nat.zero_add]; rfl)
  | 2 =>
    refine (congrArg₂ (· + ·) (congrArg₂ (· + ·) (dif_pos (by decide)) (dif_neg (by decide))) (dif_neg (by decide))).trans ?_
    have hsi : GatherDims.siIdx gather_S12x15x31_S64x64x1_S12x15x64x64_01_2_n_n_2_2_12151 (ix4 n a c k)
        ⟨List.idxOf (2 : Fin 3) [2], by decide⟩ = ix3 c k 0 := by
      funext q; refine Fin.ext ?_
      match q with
      | ⟨0, _⟩ => rfl
      | ⟨1, _⟩ => rfl
      | ⟨2, _⟩ => rfl
    exact (congrArg (fun z => min (idx z).toInt.toNat (31 - 1)) hsi).trans ((congrArg (fun z : BitVec 32 => min z.toInt.toNat (31 - 1)) hi).trans
      ((show ∀ q : Fin 31, min (BitVec.ofNat 32 q.val).toInt.toNat 30 = q.val by decide) ⟨o, ho⟩))

theorem hv31_at (x : Vec Ideal S12x15x31 .f32) (n : Fin 12) (a : Fin 15) (c k : Fin 64) :
    (hv31 x (ix4 n a c k) : EReal) = if Seen c k then at3 x n a (k.val + 15 - c.val) else ⊥ := by
  have hc := c.isLt
  have hk := k.isLt
  have e : hv31 x (ix4 n a c k) = Scalar.select (hv15 (ix2 c k)) (x (ix3 n a ⟨min (k.val + 15 - c.val) 30, by omega⟩)) (Ideal.ofBits .f32 0xFF800000#32) := by
    refine Eq.trans ?_ (congrArg (fun z => Scalar.select (hv15 (ix2 c k)) z (Ideal.ofBits .f32 0xFF800000#32))
      (gather_at x (broadcastInDim S64x64x1 ![0, 1] bcast_S64x64_S64x64x1_0_1 hv28) n a c k _ (by omega) ((show _ = hv28 (ix2 c k) by pointwise).trans (hv28_at c k))))
    unfold hv31
    generalize Host.gather gather_S12x15x31_S64x64x1_S12x15x64x64_01_2_n_n_2_2_12151 x (broadcastInDim S64x64x1 ![0, 1] bcast_S64x64_S64x64x1_0_1 hv28) = G
    generalize hv15 = M
    pointwise
  rw [e, hv15_at, Cert.Attn.neg_inf]
  by_cases hs : Seen c k
  · rw [if_pos hs, if_pos hs]
    show x _ = _
    refine at3_of _ _ rfl rfl ?_
    simp only [Seen, winStart] at hs
    show min (k.val + 15 - c.val) 30 = _
    omega
  · rw [if_neg hs, if_neg hs]; rfl

attribute [local irreducible] hv31

theorem BT_at (x : Vec Ideal S12x15x31 .f32) (p : Fin 6) (d : Fin 14) (r l : Fin 128) :
    (BT x (ix4 p d r l) : EReal) = if Seen (r.val % 64) (l.val % 64) then at3 x (2 * p.val + r.val / 64) (d.val + l.val / 64) (l.val % 64 + 15 - r.val % 64) else ⊥ := by
  have hl := l.isLt
  have hr := r.isLt
  have hp := p.isLt
  have hd := d.isLt
  pointwise [BT]
  by_cases h : l.val / 64 < 1
  · refine (dif_pos h).trans ((hv31_at x ⟨p.val * 2 + r.val / 64, by omega⟩ ⟨d.val, by omega⟩ ⟨r.val % 64, by omega⟩ ⟨l.val % 64, by omega⟩).trans ?_)
    show (if _ then at3 x (p.val * 2 + r.val / 64) d.val _ else ⊥) = _
    rw [show l.val / 64 = 0 by omega, Nat.mul_comm p.val 2, Nat.add_zero]
    rfl
  · refine (dif_neg h).trans ((hv31_at x ⟨p.val * 2 + r.val / 64, by omega⟩ ⟨1 + d.val, by omega⟩ ⟨r.val % 64, by omega⟩ ⟨l.val % 64, by omega⟩).trans ?_)
    show (if _ then at3 x (p.val * 2 + r.val / 64) (1 + d.val) _ else ⊥) = _
    rw [show l.val / 64 = 1 by omega, Nat.mul_comm p.val 2, Nat.add_comm 1]

variable (m : (ℓ : Loc nD τ sig) → Buf (Elt Ideal) ℓ)

set_option maxHeartbeats 1600000 in
theorem V_v39 (c : Dev nD) : V m c main_v39 = BT (m ((c : Thread nD τ).loc main_arg1)) := by
  show StableHlo.after (List.flatten [hostOps0, hostOps0_1, hostOps0_2, hostOps0_3, hostOps0_4, hostOps0_5, hostOps0_6]) (fun b => m (c, b)) (Proc.devRef .tc main_v39) = _
  simp only [hostOps0, hostOps0_1, hostOps0_2, hostOps0_3, hostOps0_4, hostOps0_5, hostOps0_6, List.flatten_cons, List.flatten_nil, List.append_nil, List.cons_append,
    List.nil_append, StableHlo.after_cons, StableHlo.after_nil]
  after_results_simp
  after_results_loop
  simp -implicitDefEqProofs only [StableHlo.TRef.toBuf, StableHlo.TRef.ofBuf, cast_cast, cast_eq, id_eq]
  unfold BT hv31 hv28 hv23 hv15 hv6
  rfl

end Cert.KernelIdeal.Na

end
-- ==== Proof.NaPure.lean ====
module

public import proofs.«01_k».proof.Proof.NaPay
public import Idealize.ShloMosaic.Lib.Pointwise

@[expose] public section

set_option maxRecDepth 16384

noncomputable section

/-! The closed form of one output of a band is the attention over the rows of its window. -/

namespace Cert.KernelIdeal.Gen

open Idealize.ShloMosaic Idealize.ShloMosaic.TcCoe Idealize.ShloMosaic.Tactic
open Cert.Attn

variable {x0 : Vec Ideal S1x512x768 .bf16} {kc vc : Vec Ideal S1536x768 .bf16} {x7 : Vec Ideal S6x14x128x128 .f32}
variable {h : (⟨3, ![16, 4096, 2560]⟩ : Shape).Idx → EReal} {rpb : (⟨3, ![12, 15, 31]⟩ : Shape).Idx → EReal} {b j : ℕ} (hj : j < 8)
  (hx0 : ∀ x l : ℕ, x < 512 → l < 768 → at3 x0 0 x l = at3 h b (j * 512 + x) l)
  (hkc : ∀ x l : ℕ, x < 1536 → l < 768 → 512 ≤ j * 512 + x → j * 512 + x - 512 < 4096 → at2 kc x l = at3 h b (j * 512 + x - 512) (768 + l))
  (hvc : ∀ x l : ℕ, x < 1536 → l < 768 → 512 ≤ j * 512 + x → j * 512 + x - 512 < 4096 → at2 vc x l = at3 h b (j * 512 + x - 512) (1536 + l))
  (hx7 : ∀ p d r l : ℕ, p < 6 → d < 14 → r < 128 → l < 128 →
    at4 x7 p d r l = if Seen (r % 64) (l % 64) then at3 rpb (2 * p + r / 64) (d + l / 64) (l % 64 + 15 - r % 64) else ⊥)

theorem key0_tok {j t k : ℕ} (hj : j < 8) (ht : t < 8) (hk : k < 512) :
    key0 j t + k < 1536 ∧ 512 ≤ j * 512 + (key0 j t + k) ∧ j * 512 + (key0 j t + k) - 512 = rowStart (8 * j + t) * 64 + k
      ∧ rowStart (8 * j + t) * 64 + k < 4096 := by
  simp only [key0, rowStart]; omega

include hj hx0 hkc hx7 in
theorem sc_eq {t p c l k : ℕ} (ht : t < 8) (hp : p < 6) (hc : c < 64) (hl : l < 128) (hk : k < 512) :
    sc x0 kc x7 j t p (row l c) k = score h rpb b (j * 512 + t * 64 + c) (2 * p + l / 64) (keyTok (j * 512 + t * 64 + c) k) := by
  have t1 : (j * 512 + t * 64 + c) / 64 = 8 * j + t := by omega
  have t2 : (j * 512 + t * 64 + c) % 64 = c := by omega
  have hrow : row l c < 128 ∧ row l c / 64 = l / 64 ∧ row l c % 64 = c ∧ (row l c < 64 ↔ l < 64) := by
    unfold row; split <;> omega
  obtain ⟨k1, k2, k3, k4⟩ := key0_tok hj ht hk
  have hd : tile0 j t + 2 * (k / 128) < 14 := by simp only [tile0, rowStart]; omega
  unfold sc score keyTok
  rw [hx7 p _ _ _ hp hd hrow.1 (Nat.mod_lt _ (by decide)), hrow.2.1, hrow.2.2.1, t1, t2]
  have u1 : (rowStart (8 * j + t) * 64 + k) / 64 = rowStart (8 * j + t) + k / 64 := by omega
  have u2 : (rowStart (8 * j + t) * 64 + k) % 64 = k % 64 := by omega
  have u3 : k % 128 % 64 = k % 64 := by omega
  rw [u1, u2, u3]
  by_cases hs : Seen c (k % 64)
  · rw [if_pos hs, if_pos hs]
    have e1 : tile0 j t + 2 * (k / 128) + k % 128 / 64 = rowStart (8 * j + t) + k / 64 + 7 - (8 * j + t) := by
      simp only [tile0, rowStart]; omega
    rw [e1]
    refine congrArg₂ (fun x y : EReal => x + y) ?_ rfl
    rw [Fin.sum_univ_two_halves 64 64 rfl]
    by_cases hl6 : l < 64
    · have z : (∑ i : Fin 64, qz x0 t p (row l c) (64 + i.val) * at2 kc (key0 j t + k) (p * 128 + (64 + i.val))) = 0 := by
        refine Finset.sum_eq_zero fun i _ => ?_
        rw [qz, if_neg (by rw [hrow.2.2.2]; omega), zero_mul]
      refine (congrArg₂ (fun x y : EReal => x + y) (Finset.sum_congr rfl fun i _ => ?_) z).trans (add_zero _)
      have hi := i.isLt
      show qz x0 t p (row l c) i.val * at2 kc (key0 j t + k) (p * 128 + i.val) = _
      rw [qz, if_pos (by rw [hrow.2.2.2]; omega), hrow.2.2.1, hx0 _ _ (by omega) (by omega), hkc _ _ k1 (by omega) k2 (by omega), k3, eighth_bf16]
      rw [show j * 512 + (t * 64 + c) = j * 512 + t * 64 + c by omega, show p * 128 + i.val = 64 * (2 * p + l / 64) + i.val by omega,
        show 768 + (64 * (2 * p + l / 64) + i.val) = 768 + 64 * (2 * p + l / 64) + i.val by omega]
    · have z : (∑ i : Fin 64, qz x0 t p (row l c) i.val * at2 kc (key0 j t + k) (p * 128 + i.val)) = 0 := by
        refine Finset.sum_eq_zero fun i _ => ?_
        rw [qz, if_neg (by rw [hrow.2.2.2]; omega), zero_mul]
      refine (congrArg₂ (fun x y : EReal => x + y) z (Finset.sum_congr rfl fun i _ => ?_)).trans (zero_add _)
      have hi := i.isLt
      show qz x0 t p (row l c) (64 + i.val) * at2 kc (key0 j t + k) (p * 128 + (64 + i.val)) = _
      rw [qz, if_pos (by rw [hrow.2.2.2]; omega), hrow.2.2.1, hx0 _ _ (by omega) (by omega), hkc _ _ k1 (by omega) k2 (by omega), k3, eighth_bf16]
      rw [show j * 512 + (t * 64 + c) = j * 512 + t * 64 + c by omega, show p * 128 + (64 + i.val) = 64 * (2 * p + l / 64) + i.val by omega,
        show 768 + (64 * (2 * p + l / 64) + i.val) = 768 + 64 * (2 * p + l / 64) + i.val by omega]
  · rw [if_neg hs, if_neg hs]; exact EReal.add_bot _

include hj hx0 hkc hvc hx7 in
/-- One output of band `j` is the attention of its token and head. -/
theorem ou_eq {t p c l : ℕ} (ht : t < 8) (hp : p < 6) (hc : c < 64) (hl : l < 128) :
    ou x0 kc vc x7 j t p c l = kerOut h rpb b (j * 512 + t * 64 + c) (2 * p + l / 64) (l % 64) := by
  have hs : ∀ k : Fin 512, sc x0 kc x7 j t p (row l c) k.val = score h rpb b (j * 512 + t * 64 + c) (2 * p + l / 64) (keyTok (j * 512 + t * 64 + c) k.val) :=
    fun k => sc_eq hj hx0 hkc hx7 ht hp hc hl k.isLt
  have hm : mx x0 kc x7 j t p (row l c) = Finset.univ.sup fun k' : Fin 512 => score h rpb b (j * 512 + t * 64 + c) (2 * p + l / 64) (keyTok (j * 512 + t * 64 + c) k'.val) := by
    unfold mx
    rw [neg_inf, fold_max_eq_sup]
    exact congrArg (Finset.univ : Finset (Fin 512)).sup (funext hs)
  have he : ∀ k : Fin 512, ex x0 kc x7 j t p (row l c) k.val = _ := fun k => by
    unfold ex; rw [hs k, hm]
  unfold ou kerOut
  refine congrArg₂ Ideal.div (Finset.sum_congr rfl fun k _ => ?_) (Finset.sum_congr rfl fun k _ => he k)
  obtain ⟨k1, k2, k3, k4⟩ := key0_tok hj ht k.isLt
  rw [he k, hvc _ _ k1 (by omega) k2 (by omega), k3]
  unfold keyTok
  rw [show (j * 512 + t * 64 + c) / 64 = 8 * j + t by omega, show 1536 + (p * 128 + l) = 1536 + 64 * (2 * p + l / 64) + l % 64 by omega]

end Cert.KernelIdeal.Gen

end
-- ==== Proof.NaValue.lean ====
module

public import proofs.«01_k».proof.Proof.NaBias
public import proofs.«01_k».proof.Proof.NaPure
public import Idealize.ShloMosaic.Lib.Pipeline.ValueKit

@[expose] public section

set_option maxRecDepth 16384

noncomputable section

/-! The output array after the launch is the attention over the rows of each token's window. -/

namespace Cert.KernelIdeal.Na

open Idealize.ShloMosaic Idealize.ShloMosaic.TcCoe Idealize.ShloMosaic.Tactic
open Idealize.ShloMosaic.Pipeline (Dat Cfg Window BodyObligation cellOf)
open Cert.Attn Cert.KernelIdeal Cert.KernelIdeal.Gen

variable (m : (ℓ : Loc nD τ sig) → Buf (Elt Ideal) ℓ)

theorem index0 : ∀ t : Fin grid0.N, win0_0.index t = ![(grid0.coords t 0).val, (grid0.coords t 1).val, 0] := by decide +kernel

theorem index1 : ∀ t : Fin grid0.N, win0_1.index t = ![(grid0.coords t 0).val, (grid0.coords t 1).val - 1, 1] := by decide +kernel

theorem index2 : ∀ t : Fin grid0.N, win0_2.index t = ![(grid0.coords t 0).val, (grid0.coords t 1).val, 1] := by decide +kernel

theorem index3 : ∀ t : Fin grid0.N, win0_3.index t = ![(grid0.coords t 0).val, min ((grid0.coords t 1).val + 1) 7, 1] := by decide +kernel

theorem index4 : ∀ t : Fin grid0.N, win0_4.index t = ![(grid0.coords t 0).val, (grid0.coords t 1).val - 1, 2] := by decide +kernel

theorem index5 : ∀ t : Fin grid0.N, win0_5.index t = ![(grid0.coords t 0).val, (grid0.coords t 1).val, 2] := by decide +kernel

theorem index6 : ∀ t : Fin grid0.N, win0_6.index t = ![(grid0.coords t 0).val, min ((grid0.coords t 1).val + 1) 7, 2] := by decide +kernel

theorem index7 : ∀ t : Fin grid0.N, win0_7.index t = ![0, 0, 0, 0] := by decide +kernel

theorem index8 : ∀ t : Fin grid0.N, win0_8.index t = ![(grid0.coords t 0).val, (grid0.coords t 1).val, 0] := by decide +kernel

theorem X0_at (c : Dev nD) (t : Fin cfg0.N) {x l : ℕ} (hx : x < 512) (hl : l < 768) :
    at3 (X0_0 m c t) 0 x l = at3 (m ((c : Thread nD τ).loc main_arg0)) (grid0.coords t 0).val ((grid0.coords t 1).val * 512 + x) (0 + l) := by
  rw [at3, dif_pos ⟨Nat.one_pos, hx, hl⟩]
  unfold X0_0 Pipeline.Window.fill
  refine (dif_pos (moved0_0 t _)).trans ?_
  unfold iblk
  refine at3_of (m ((c : Thread nD τ).loc main_arg0)) _ ?_ ?_ ?_
  · blk_simp [index0 t]; rfl
  · blk_simp [index0 t]
  · blk_simp [index0 t]

theorem X1_at (c : Dev nD) (t : Fin cfg0.N) {x l : ℕ} (hx : x < 512) (hl : l < 768) :
    at3 (X0_1 m c t) 0 x l = at3 (m ((c : Thread nD τ).loc main_arg0)) (grid0.coords t 0).val (((grid0.coords t 1).val - 1) * 512 + x) (768 + l) := by
  rw [at3, dif_pos ⟨Nat.one_pos, hx, hl⟩]
  unfold X0_1 Pipeline.Window.fill
  refine (dif_pos (moved0_1 t _)).trans ?_
  unfold iblk
  refine at3_of (m ((c : Thread nD τ).loc main_arg0)) _ ?_ ?_ ?_
  · blk_simp [index1 t]; rfl
  · blk_simp [index1 t]
  · blk_simp [index1 t]

theorem X2_at (c : Dev nD) (t : Fin cfg0.N) {x l : ℕ} (hx : x < 512) (hl : l < 768) :
    at3 (X0_2 m c t) 0 x l = at3 (m ((c : Thread nD τ).loc main_arg0)) (grid0.coords t 0).val ((grid0.coords t 1).val * 512 + x) (768 + l) := by
  rw [at3, dif_pos ⟨Nat.one_pos, hx, hl⟩]
  unfold X0_2 Pipeline.Window.fill
  refine (dif_pos (moved0_2 t _)).trans ?_
  unfold iblk
  refine at3_of (m ((c : Thread nD τ).loc main_arg0)) _ ?_ ?_ ?_
  · blk_simp [index2 t]; rfl
  · blk_simp [index2 t]
  · blk_simp [index2 t]

theorem X3_at (c : Dev nD) (t : Fin cfg0.N) {x l : ℕ} (hx : x < 512) (hl : l < 768) :
    at3 (X0_3 m c t) 0 x l = at3 (m ((c : Thread nD τ).loc main_arg0)) (grid0.coords t 0).val ((min ((grid0.coords t 1).val + 1) 7) * 512 + x) (768 + l) := by
  rw [at3, dif_pos ⟨Nat.one_pos, hx, hl⟩]
  unfold X0_3 Pipeline.Window.fill
  refine (dif_pos (moved0_3 t _)).trans ?_
  unfold iblk
  refine at3_of (m ((c : Thread nD τ).loc main_arg0)) _ ?_ ?_ ?_
  · blk_simp [index3 t]; rfl
  · blk_simp [index3 t]
  · blk_simp [index3 t]

theorem X4_at (c : Dev nD) (t : Fin cfg0.N) {x l : ℕ} (hx : x < 512) (hl : l < 768) :
    at3 (X0_4 m c t) 0 x l = at3 (m ((c : Thread nD τ).loc main_arg0)) (grid0.coords t 0).val (((grid0.coords t 1).val - 1) * 512 + x) (1536 + l) := by
  rw [at3, dif_pos ⟨Nat.one_pos, hx, hl⟩]
  unfold X0_4 Pipeline.Window.fill
  refine (dif_pos (moved0_4 t _)).trans ?_
  unfold iblk
  refine at3_of (m ((c : Thread nD τ).loc main_arg0)) _ ?_ ?_ ?_
  · blk_simp [index4 t]; rfl
  · blk_simp [index4 t]
  · blk_simp [index4 t]

theorem X5_at (c : Dev nD) (t : Fin cfg0.N) {x l : ℕ} (hx : x < 512) (hl : l < 768) :
    at3 (X0_5 m c t) 0 x l = at3 (m ((c : Thread nD τ).loc main_arg0)) (grid0.coords t 0).val ((grid0.coords t 1).val * 512 + x) (1536 + l) := by
  rw [at3, dif_pos ⟨Nat.one_pos, hx, hl⟩]
  unfold X0_5 Pipeline.Window.fill
  refine (dif_pos (moved0_5 t _)).trans ?_
  unfold iblk
  refine at3_of (m ((c : Thread nD τ).loc main_arg0)) _ ?_ ?_ ?_
  · blk_simp [index5 t]; rfl
  · blk_simp [index5 t]
  · blk_simp [index5 t]

theorem X6_at (c : Dev nD) (t : Fin cfg0.N) {x l : ℕ} (hx : x < 512) (hl : l < 768) :
    at3 (X0_6 m c t) 0 x l = at3 (m ((c : Thread nD τ).loc main_arg0)) (grid0.coords t 0).val ((min ((grid0.coords t 1).val + 1) 7) * 512 + x) (1536 + l) := by
  rw [at3, dif_pos ⟨Nat.one_pos, hx, hl⟩]
  unfold X0_6 Pipeline.Window.fill
  refine (dif_pos (moved0_6 t _)).trans ?_
  unfold iblk
  refine at3_of (m ((c : Thread nD τ).loc main_arg0)) _ ?_ ?_ ?_
  · blk_simp [index6 t]; rfl
  · blk_simp [index6 t]
  · blk_simp [index6 t]

/-- Three neighbouring blocks one below the other hold the rows from 512 above the band on, where the array has them. -/
theorem cat3_at {a b d : Vec Ideal S1x512x768 .bf16} {h : S16x4096x2560.Idx → EReal} {n j o : ℕ} (hj : j < 8)
    (ha : ∀ {x l : ℕ}, x < 512 → l < 768 → at3 a 0 x l = at3 h n ((j - 1) * 512 + x) (o + l))
    (hb : ∀ {x l : ℕ}, x < 512 → l < 768 → at3 b 0 x l = at3 h n (j * 512 + x) (o + l))
    (hd : ∀ {x l : ℕ}, x < 512 → l < 768 → at3 d 0 x l = at3 h n (min (j + 1) 7 * 512 + x) (o + l))
    (x l : ℕ) (hx : x < 1536) (hl : l < 768) (h1 : 512 ≤ j * 512 + x) (h2 : j * 512 + x - 512 < 4096) :
    at2 (cat3 a b d) x l = at3 h n (j * 512 + x - 512) (o + l) := by
  have hm : x % 512 < 512 := Nat.mod_lt _ (by decide)
  rw [at2, dif_pos ⟨hx, hl⟩]
  show at3 (if x < 512 then a else if x < 1024 then b else d) 0 (x % 512) l = _
  by_cases c1 : x < 512
  · rw [if_pos c1, ha hm hl]
    congr 1; omega
  · rw [if_neg c1]
    by_cases c2 : x < 1024
    · rw [if_pos c2, hb hm hl]
      congr 1; omega
    · rw [if_neg c2, hd hm hl]
      congr 1; omega

theorem bias_at (c : Dev nD) (t : Fin cfg0.N) (p d r l : ℕ) (hp : p < 6) (hd : d < 14) (hr : r < 128) (hl : l < 128) :
    at4 (iblk m c 7 t) p d r l = if Seen (r % 64) (l % 64) then at3 (m ((c : Thread nD τ).loc main_arg1)) (2 * p + r / 64) (d + l / 64) (l % 64 + 15 - r % 64) else ⊥ := by
  rw [at4, dif_pos ⟨hp, hd, hr, hl⟩]
  refine Eq.trans ?_ (BT_at (m ((c : Thread nD τ).loc main_arg1)) ⟨p, hp⟩ ⟨d, hd⟩ ⟨r, hr⟩ ⟨l, hl⟩)
  rw [← V_v39]
  blk_ext [iblk, index7 t]

/-- What the body leaves at point `t`, read at an index of the block. -/
theorem outs_at (c : Dev nD) (t : Fin cfg0.N) (y : S1x512x768.Idx) :
    outsAt0 m c t y = kerOut (m ((c : Thread nD τ).loc main_arg0)) (m ((c : Thread nD τ).loc main_arg1)) (grid0.coords t 0).val ((grid0.coords t 1).val * 512 + (y 1).val) ((y 2).val / 64) ((y 2).val % 64) := by
  have h1 : (y 1).val < 512 := (y 1).isLt
  have h2 : (y 2).val < 768 := (y 2).isLt
  have hj : (grid0.coords t 1).val < 8 := (grid0.coords t 1).isLt
  unfold outsAt0
  refine (ou_eq (h := m ((c : Thread nD τ).loc main_arg0)) (rpb := m ((c : Thread nD τ).loc main_arg1)) (b := (grid0.coords t 0).val) hj
    (fun x l hx hl => (X0_at m c t hx hl).trans (by rw [Nat.zero_add]))
    (cat3_at hj (X1_at m c t) (X2_at m c t) (X3_at m c t)) (cat3_at hj (X4_at m c t) (X5_at m c t) (X6_at m c t))
    (bias_at m c t) (show (y 1).val / 64 < 8 by omega) (show (y 2).val / 128 < 6 by omega) (Nat.mod_lt _ (by decide)) (Nat.mod_lt _ (by decide))).trans ?_
  rw [show (grid0.coords t 1).val * 512 + (y 1).val / 64 * 64 + (y 1).val % 64 = (grid0.coords t 1).val * 512 + (y 1).val by omega,
    show 2 * ((y 2).val / 128) + (y 2).val % 128 / 64 = (y 2).val / 64 by omega, show (y 2).val % 128 % 64 = (y 2).val % 64 by omega]

/-- The attention over every index of the output. -/
def attnOut (h : S16x4096x2560.Idx → EReal) (rpb : S12x15x31.Idx → EReal) : S16x4096x768.Idx → EReal :=
  fun i => kerOut h rpb (i 0).val (i 1).val ((i 2).val / 64) ((i 2).val % 64)

theorem attnOut_of (h : S16x4096x2560.Idx → EReal) (rpb : S12x15x31.Idx → EReal) (i : S16x4096x768.Idx) {a b d : ℕ} (h0 : a = (i 0).val) (h1 : b = (i 1).val) (h2 : d = (i 2).val) :
    kerOut h rpb a b (d / 64) (d % 64) = attnOut h rpb i := by
  subst h0 h1 h2; rfl

/-- The output array after the launch. -/
theorem final (c : Dev nD) :
    (dats m 0 c).arrAt 8 cfg0.N = attnOut (m ((c : Thread nD τ).loc main_arg0)) (m ((c : Thread nD τ).loc main_arg1)) := by
  refine (dats m 0 c).arrAt_eq_of_covers 8 _ (by decide +kernel) fun t hf y => ?_
  rw [after0_8]
  blk_simp
  refine (outs_at m c t _).trans (attnOut_of _ _ _ ?_ ?_ ?_)
  · blk_simp [index8 t]
  · blk_simp [index8 t]
  · blk_simp [index8 t]

end Cert.KernelIdeal.Na

end
-- ==== Proof.RefTables.lean ====
module

public import proofs.«01_k».proof.Proof.Spec
public import proofs.«01_k».proof.Proof.Gen.ReferenceIdeal.Read

@[expose] public section

set_option maxRecDepth 16384

noncomputable section

namespace Cert.RefTables

open Cert.ReferenceIdeal Cert.ReferenceIdeal.Gen Cert.ReferenceIdeal.Read Idealize.ShloMosaic Idealize.ShloMosaic.ValueIdx Cert.Attn

theorem t25 : ∀ (n : Fin 4) (c : Fin 32), val_main_v25 (F := Ideal) (ix2 n c) = BitVec.ofNat 32 (colStart n + c) := by
  decide +kernel

theorem t56 : ∀ (r : Fin 64) (a : Fin 8), val_main_v56 (F := Ideal) (ix2 r a) = BitVec.ofNat 32 (rowStart r + a) := by
  decide +kernel

theorem t63 : ∀ (r : Fin 64) (a : Fin 8), val_main_v63 (F := Ideal) (ix2 r a) = BitVec.ofNat 32 (rowStart r + a + 7 - r) := by
  decide +kernel

theorem t46 : ∀ (n : Fin 4) (q : Fin 16) (c : Fin 32),
    val_main_v46 (F := Ideal) (ix3 n q c) = BitVec.ofNat 32 (min (colStart n + c + 15 - (16 * n + q)) 30) := by
  decide +kernel

theorem t37 : ∀ (n : Fin 4) (q : Fin 16) (c : Fin 32),
    val_main_v37 (F := Ideal) (ix3 n q c) = if Seen (16 * n + q) (colStart n + c) then 1#1 else 0#1 := by
  decide +kernel

end Cert.RefTables

end
-- ==== Proof.RefRead.lean ====
module

public import proofs.«01_k».proof.Proof.RefTables

@[expose] public section

set_option maxRecDepth 16384

noncomputable section

/-! The reference's attention, read at an index. -/

namespace Cert.RefTables

open Cert.ReferenceIdeal Cert.ReferenceIdeal.Gen Cert.ReferenceIdeal.Read Idealize.ShloMosaic Idealize.ShloMosaic.ValueIdx Cert.Attn

theorem toInt_small (o : ℕ) (ho : o < 2 ^ 31) : (BitVec.ofNat 32 o).toInt = o := by
  rw [BitVec.toInt_eq_toNat_of_lt (by simp; omega)]; simp; omega

/-- A word that is no negative number is kept by the wrapping of negative indices. -/
theorem wrap_at (o : ℕ) (ho : o < 2 ^ 31) (w : BitVec 32) :
    Scalar.select (IntOp.cmpi .slt (BitVec.ofNat 32 o) 0#32) w (BitVec.ofNat 32 o) = BitVec.ofNat 32 o := by
  have h : (BitVec.ofNat 32 o).slt 0#32 = false := by
    rw [BitVec.slt, toInt_small o ho]
    simp
  show (if BitVec.ofBool ((BitVec.ofNat 32 o).slt 0#32) = 1 then w else BitVec.ofNat 32 o) = _
  rw [h]; rfl

theorem mad (a b c : ℕ) : IntOp.addi (IntOp.muli (BitVec.ofNat 32 a) (BitVec.ofNat 32 b)) (BitVec.ofNat 32 c) = BitVec.ofNat 32 (a * b + c) := by
  show BitVec.ofNat 32 a * BitVec.ofNat 32 b + BitVec.ofNat 32 c = _
  rw [BitVec.ofNat_add, BitVec.ofNat_mul]

/-- The key token of gathered key `k` of column block `q`. -/
def tokOf (q k : ℕ) : ℕ := (rowStart (q / 4) + k / 32) * 64 + (colStart (q % 4) + k % 32)
/-- The place in the flat bias of head `n`, query `c` of block `q`, gathered key `k`. -/
def rpbOf (q c k : ℕ) : ℕ := (rowStart (q / 4) + k / 32 + 7 - q / 4) * 31 + min (colStart (q % 4) + k % 32 + 15 - (16 * (q % 4) + c)) 30

theorem tokOf_lt {q k : ℕ} (hk : k < 256) : tokOf q k < 4096 := by
  simp only [tokOf, rowStart, colStart]; omega

theorem rpbOf_lt {q c k : ℕ} (hq : q < 256) (hk : k < 256) : rpbOf q c k < 465 := by
  simp only [rpbOf, rowStart]; omega

theorem v72_at (q k : Fin 256) : val_main_v72 (F := Ideal) (ix2 q k) = BitVec.ofNat 32 (tokOf q k) := by
  have hq := q.isLt
  have hk := k.isLt
  rw [val_main_v72_apply, val_main_v71_apply, val_main_v69_apply, val_main_v66_apply, val_main_v64_apply, val_main_v70_apply, val_main_v68_apply, val_main_v67_apply]
  have e1 := t56 ⟨q.val / 4, by omega⟩ ⟨k.val / 32, by omega⟩
  have e2 := t25 ⟨q.val % 4, by omega⟩ ⟨k.val % 32, by omega⟩
  refine Eq.trans (congrArg₂ IntOp.addi (congrArg₂ IntOp.muli ((congrArg _ ?_).trans e1) ?_) ((congrArg _ ?_).trans e2)) (mad _ 64 _)
  · funext a; refine Fin.ext ?_
    match a with
    | ⟨0, _⟩ => show (q.val * 256 + k.val) / 1024 = q.val / 4; omega
    | ⟨1, _⟩ => show (q.val * 256 + k.val) / 32 % 8 = k.val / 32; omega
  · rfl
  · funext a; refine Fin.ext ?_
    match a with
    | ⟨0, _⟩ => show (q.val * 256 + k.val) / 256 % 4 = q.val % 4; omega
    | ⟨1, _⟩ => show (q.val * 256 + k.val) % 32 = k.val % 32; omega

theorem v91_at (q k : Fin 256) : val_main_v91 (F := Ideal) (ix3 q k 0) = BitVec.ofNat 32 (tokOf q k) := by
  rw [val_main_v91_apply, val_main_v90_apply, val_main_v87_apply]
  have e : idx_main_v91 (ix3 q k 0) = ix2 q k := by
    funext a; match a with
    | ⟨0, _⟩ => rfl
    | ⟨1, _⟩ => rfl
  rw [e, v72_at]
  exact wrap_at _ (by have := tokOf_lt (q := q.val) k.isLt; omega) _

theorem v98_at (q k : Fin 256) : val_main_v98 (F := Ideal) (ix3 q k 0) = BitVec.ofNat 32 (tokOf q k) := by
  rw [val_main_v98_apply, val_main_v97_apply, val_main_v94_apply]
  have e : idx_main_v98 (ix3 q k 0) = ix2 q k := by
    funext a; match a with
    | ⟨0, _⟩ => rfl
    | ⟨1, _⟩ => rfl
  rw [e, v72_at]
  exact wrap_at _ (by have := tokOf_lt (q := q.val) k.isLt; omega) _

theorem v82_at (q : Fin 256) (c : Fin 16) (k : Fin 256) : val_main_v82 (F := Ideal) (ix3 q c k) = BitVec.ofNat 32 (rpbOf q c k) := by
  have hq := q.isLt
  have hk := k.isLt
  have hc := c.isLt
  rw [val_main_v82_apply, val_main_v81_apply, val_main_v79_apply, val_main_v76_apply, val_main_v75_apply, val_main_v73_apply, val_main_v80_apply, val_main_v78_apply, val_main_v77_apply]
  have e1 := t63 ⟨q.val / 4, by omega⟩ ⟨k.val / 32, by omega⟩
  have e2 := t46 ⟨q.val % 4, by omega⟩ c ⟨k.val % 32, by omega⟩
  refine Eq.trans (congrArg₂ IntOp.addi (congrArg₂ IntOp.muli ((congrArg _ ?_).trans e1) ?_) ((congrArg _ ?_).trans e2)) (mad _ 31 _)
  · funext a; refine Fin.ext ?_
    match a with
    | ⟨0, _⟩ => show ((q.val * 16 + c.val) * 256 + k.val) / 16384 = q.val / 4; omega
    | ⟨1, _⟩ => show ((q.val * 16 + c.val) * 256 + k.val) / 32 % 8 = k.val / 32; omega
  · rfl
  · funext a; refine Fin.ext ?_
    match a with
    | ⟨0, _⟩ => show ((q.val * 16 + c.val) * 256 + k.val) / 4096 % 4 = q.val % 4; omega
    | ⟨1, _⟩ => show ((q.val * 16 + c.val) * 256 + k.val) / 256 % 16 = c.val; omega
    | ⟨2, _⟩ => show ((q.val * 16 + c.val) * 256 + k.val) % 32 = k.val % 32; omega

theorem v106_at (q : Fin 256) (c : Fin 16) (k : Fin 256) : val_main_v106 (F := Ideal) (ix4 q c k 0) = BitVec.ofNat 32 (rpbOf q c k) := by
  rw [val_main_v106_apply, val_main_v105_apply, val_main_v102_apply]
  have e : idx_main_v106 (ix4 q c k 0) = ix3 q c k := by
    funext a; match a with
    | ⟨0, _⟩ => rfl
    | ⟨1, _⟩ => rfl
    | ⟨2, _⟩ => rfl
  rw [e, v82_at]
  exact wrap_at _ (by have := rpbOf_lt (c := c.val) q.isLt k.isLt; omega) _

theorem v85_at (q : Fin 256) (c : Fin 16) (k : Fin 256) :
    val_main_v85 (F := Ideal) (ix3 q c k) = if Seen (16 * (q.val % 4) + c) (colStart (q.val % 4) + k.val % 32) then 1#1 else 0#1 := by
  have hq := q.isLt
  have hk := k.isLt
  have hc := c.isLt
  rw [val_main_v85_apply, val_main_v84_apply, val_main_v83_apply]
  refine (congrArg _ ?_).trans (t37 ⟨q.val % 4, by omega⟩ c ⟨k.val % 32, by omega⟩)
  funext a; refine Fin.ext ?_
  match a with
  | ⟨0, _⟩ => show ((q.val * 16 + c.val) * 256 + k.val) / 4096 % 4 = q.val % 4; omega
  | ⟨1, _⟩ => show ((q.val * 16 + c.val) * 256 + k.val) / 256 % 16 = c.val; omega
  | ⟨2, _⟩ => show ((q.val * 16 + c.val) * 256 + k.val) % 32 = k.val % 32; omega

/-! ## The gathers -/

theorem gatherTok_at (x : S16x4096x12x64.Idx → EReal) (idx : S256x256x1.Idx → BitVec 32) (b : Fin 16) (q k : Fin 256) (n : Fin 12) (d : Fin 64)
    (o : ℕ) (ho : o < 4096) (hi : idx (ix3 q k 0) = BitVec.ofNat 32 o) :
    Host.gather gather_S16x4096x12x64_S256x256x1_S16x256x256x12x64_034_1_n_n_1_2_1611264 x idx (ix5 b q k n d) = x (ix4 b ⟨o, ho⟩ n d) := by
  refine congrArg x ?_
  funext ax
  refine Fin.ext ?_
  show GatherDims.start _ (ix5 b q k n d) idx ax + GatherDims.batchCoord _ (ix5 b q k n d) ax + GatherDims.offCoord _ (ix5 b q k n d) ax = _
  match ax with
  | 0 => exact (congrArg₂ (· + ·) (congrArg₂ (· + ·) (dif_neg (by decide)) (dif_neg (by decide))) (dif_pos (by decide))).trans (by rw [Nat.add_zero, Nat.zero_add]; rfl)
  | 2 => exact (congrArg₂ (· + ·) (congrArg₂ (· + ·) (dif_neg (by decide)) (dif_neg (by decide))) (dif_pos (by decide))).trans (by rw [Nat.add_zero, Nat.zero_add]; rfl)
  | 3 => exact (congrArg₂ (· + ·) (congrArg₂ (· + ·) (dif_neg (by decide)) (dif_neg (by decide))) (dif_pos (by decide))).trans (by rw [Nat.add_zero, Nat.zero_add]; rfl)
  | 1 =>
    refine (congrArg₂ (· + ·) (congrArg₂ (· + ·) (dif_pos (by decide)) (dif_neg (by decide))) (dif_neg (by decide))).trans ?_
    have hsi : GatherDims.siIdx gather_S16x4096x12x64_S256x256x1_S16x256x256x12x64_034_1_n_n_1_2_1611264 (ix5 b q k n d)
        ⟨List.idxOf (1 : Fin 4) [1], by decide⟩ = ix3 q k 0 := by
      funext q; refine Fin.ext ?_
      match q with
      | ⟨0, _⟩ => rfl
      | ⟨1, _⟩ => rfl
      | ⟨2, _⟩ => rfl
    exact (congrArg (fun z => min (idx z).toInt.toNat (4096 - 1)) hsi).trans ((congrArg (fun z : BitVec 32 => min z.toInt.toNat (4096 - 1)) hi).trans
      (by rw [toInt_small o (by omega)]; show min o 4095 = o; omega))

theorem gatherRpb_at (x : S12x465.Idx → EReal) (idx : S256x16x256x1.Idx → BitVec 32) (n : Fin 12) (q : Fin 256) (c : Fin 16) (k : Fin 256)
    (o : ℕ) (ho : o < 465) (hi : idx (ix4 q c k 0) = BitVec.ofNat 32 o) :
    Host.gather gather_S12x465_S256x16x256x1_S12x256x16x256_0_1_n_n_1_3_121 x idx (ix4 n q c k) = x (ix2 n ⟨o, ho⟩) := by
  refine congrArg x ?_
  funext ax
  refine Fin.ext ?_
  show GatherDims.start _ (ix4 n q c k) idx ax + GatherDims.batchCoord _ (ix4 n q c k) ax + GatherDims.offCoord _ (ix4 n q c k) ax = _
  match ax with
  | 0 => exact (congrArg₂ (· + ·) (congrArg₂ (· + ·) (dif_neg (by decide)) (dif_neg (by decide))) (dif_pos (by decide))).trans (by rw [Nat.add_zero, Nat.zero_add]; rfl)
  | 1 =>
    refine (congrArg₂ (· + ·) (congrArg₂ (· + ·) (dif_pos (by decide)) (dif_neg (by decide))) (dif_neg (by decide))).trans ?_
    have hsi : GatherDims.siIdx gather_S12x465_S256x16x256x1_S12x256x16x256_0_1_n_n_1_3_121 (ix4 n q c k)
        ⟨List.idxOf (1 : Fin 2) [1], by decide⟩ = ix4 q c k 0 := by
      funext q; refine Fin.ext ?_
      match q with
      | ⟨0, _⟩ => rfl
      | ⟨1, _⟩ => rfl
      | ⟨2, _⟩ => rfl
      | ⟨3, _⟩ => rfl
    exact (congrArg (fun z => min (idx z).toInt.toNat (465 - 1)) hsi).trans ((congrArg (fun z : BitVec 32 => min z.toInt.toNat (465 - 1)) hi).trans
      (by rw [toInt_small o (by omega)]; show min o 464 = o; omega))

variable (x0 : S16x4096x2560.Idx → EReal) (x1 : S12x15x31.Idx → EReal)

theorem v7_at (b : Fin 16) (t : Fin 4096) (n : Fin 12) (d : Fin 64) : val_main_v7 (F := Ideal) x0 (ix4 b t n d) = at3 x0 b t (768 + 64 * n.val + d.val) := by
  have hb := b.isLt
  have ht := t.isLt
  have hn := n.isLt
  have hd := d.isLt
  rw [val_main_v7_apply, val_main_v2_apply, val_main_v0_apply]
  refine at3_of x0 _ ?_ ?_ ?_
  · show (((b.val * 4096 + t.val) * 12 + n.val) * 64 + d.val) / 3145728 = b.val; omega
  · show (((b.val * 4096 + t.val) * 12 + n.val) * 64 + d.val) / 768 % 4096 = t.val; omega
  · show 768 + (((b.val * 4096 + t.val) * 12 + n.val) * 64 + d.val) % 768 = _; omega

theorem v8_at (b : Fin 16) (t : Fin 4096) (n : Fin 12) (d : Fin 64) : val_main_v8 (F := Ideal) x0 (ix4 b t n d) = at3 x0 b t (1536 + 64 * n.val + d.val) := by
  have hb := b.isLt
  have ht := t.isLt
  have hn := n.isLt
  have hd := d.isLt
  rw [val_main_v8_apply, val_main_v3_apply, val_main_v0_apply]
  refine at3_of x0 _ ?_ ?_ ?_
  · show (((b.val * 4096 + t.val) * 12 + n.val) * 64 + d.val) / 3145728 = b.val; omega
  · show (((b.val * 4096 + t.val) * 12 + n.val) * 64 + d.val) / 768 % 4096 = t.val; omega
  · show 1536 + (((b.val * 4096 + t.val) * 12 + n.val) * 64 + d.val) % 768 = _; omega

theorem v6_at (b : Fin 16) (q : Fin 256) (c : Fin 16) (n : Fin 12) (d : Fin 64) :
    val_main_v6 (F := Ideal) x0 (ix5 b q c n d) = at3 x0 b (16 * q.val + c.val) (64 * n.val + d.val) * Ideal.ofBits .f32 0x3E000000#32 := by
  have hb := b.isLt
  have hq := q.isLt
  have hc := c.isLt
  have hn := n.isLt
  have hd := d.isLt
  rw [val_main_v6_apply, val_main_v4_apply, val_main_v1_apply, val_main_v0_apply]
  refine congrArg₂ (fun a c : EReal => a * c) (at3_of x0 _ ?_ ?_ ?_) rfl
  · show ((((b.val * 256 + q.val) * 16 + c.val) * 12 + n.val) * 64 + d.val) / 3145728 = b.val; omega
  · show ((((b.val * 256 + q.val) * 16 + c.val) * 12 + n.val) * 64 + d.val) / 768 % 4096 = _; omega
  · show ((((b.val * 256 + q.val) * 16 + c.val) * 12 + n.val) * 64 + d.val) % 768 = _; omega

theorem v92_at (b : Fin 16) (q k : Fin 256) (n : Fin 12) (d : Fin 64) :
    val_main_v92 (F := Ideal) x0 (ix5 b q k n d) = at3 x0 b (tokOf q k) (768 + 64 * n.val + d.val) :=
  (gatherTok_at _ _ b q k n d _ (tokOf_lt k.isLt) (v91_at q k)).trans (v7_at x0 b _ n d)

theorem v99_at (b : Fin 16) (q k : Fin 256) (n : Fin 12) (d : Fin 64) :
    val_main_v99 (F := Ideal) x0 (ix5 b q k n d) = at3 x0 b (tokOf q k) (1536 + 64 * n.val + d.val) :=
  (gatherTok_at _ _ b q k n d _ (tokOf_lt k.isLt) (v98_at q k)).trans (v8_at x0 b _ n d)

theorem v107_at (n : Fin 12) (q : Fin 256) (c : Fin 16) (k : Fin 256) :
    val_main_v107 (F := Ideal) x1 (ix4 n q c k) = at3 x1 n (rpbOf q c k / 31) (rpbOf q c k % 31) := by
  have hn := n.isLt
  have ho := rpbOf_lt (c := c.val) q.isLt k.isLt
  refine (gatherRpb_at _ _ n q c k _ ho (v106_at q c k)).trans ?_
  rw [val_main_v100_apply]
  refine at3_of x1 _ ?_ ?_ ?_
  · show (n.val * 465 + rpbOf q c k) / 465 = n.val; omega
  · show (n.val * 465 + rpbOf q c k) / 31 % 15 = _; omega
  · show (n.val * 465 + rpbOf q c k) % 31 = _; omega

/-! ## The scores, their maximum, the weights and the output -/

theorem v114_at (b : Fin 16) (q : Fin 256) (n : Fin 12) (c : Fin 16) (k : Fin 256) :
    val_main_v114 (F := Ideal) x0 x1 (ix5 b q n c k) = score x0 x1 b (16 * q.val + c.val) n (gatTok (16 * q.val + c.val) k) := by
  have hq := q.isLt
  have hc := c.isLt
  have hk := k.isLt
  have g1 : (16 * q.val + c.val) / 64 = q.val / 4 := by omega
  have g2 : (16 * q.val + c.val) % 64 = 16 * (q.val % 4) + c.val := by omega
  have g3 : (16 * (q.val % 4) + c.val) / 16 = q.val % 4 := by omega
  have g4 : gatTok (16 * q.val + c.val) k = tokOf q k := by
    rw [gatTok, tokOf, g1, g2, g3]; omega
  have g5 : tokOf q k % 64 = colStart (q.val % 4) + k.val % 32 := by
    simp only [tokOf, colStart]; omega
  have g6 : tokOf q k / 64 = rowStart (q.val / 4) + k.val / 32 := by
    simp only [tokOf, colStart]; omega
  rw [g4, score, g1, g2, g5, g6, val_main_v114_apply, val_main_call4_v1_apply, val_main_v113_apply]
  have e : idx_main_v113 (idx_main_call4_v1 (ix5 b q n c k)) = ix3 q c k := by
    funext a; match a with
    | ⟨0, _⟩ => rfl
    | ⟨1, _⟩ => rfl
    | ⟨2, _⟩ => rfl
  rw [e, v85_at]
  by_cases hs : Seen (16 * (q.val % 4) + c.val) (colStart (q.val % 4) + k.val % 32)
  · rw [if_pos hs, if_pos hs]
    show val_main_v112 (F := Ideal) x0 x1 (ix5 b q n c k) = _
    rw [val_main_v112_apply, val_main_v108_apply, val_main_v111_apply, val_main_v110_apply, val_main_v109_apply]
    refine congrArg₂ (fun a c : EReal => a + c) (Finset.sum_congr rfl fun d _ => ?_) ?_
    · refine congrArg₂ (fun a c : EReal => a * c) ((congrArg _ ?_).trans (v6_at x0 b q c n d)) ((congrArg _ ?_).trans (v92_at x0 b q k n d))
      · funext a; match a with
        | ⟨0, _⟩ => rfl
        | ⟨1, _⟩ => rfl
        | ⟨2, _⟩ => rfl
        | ⟨3, _⟩ => rfl
        | ⟨4, _⟩ => rfl
      · funext a; match a with
        | ⟨0, _⟩ => rfl
        | ⟨1, _⟩ => rfl
        | ⟨2, _⟩ => rfl
        | ⟨3, _⟩ => rfl
        | ⟨4, _⟩ => rfl
    · refine ((congrArg _ ?_).trans (v107_at x1 n q c k)).trans ?_
      · funext a; match a with
        | ⟨0, _⟩ => rfl
        | ⟨1, _⟩ => rfl
        | ⟨2, _⟩ => rfl
        | ⟨3, _⟩ => rfl
      · simp only [Seen, winStart] at hs
        have r2 : min (colStart (q.val % 4) + k.val % 32 + 15 - (16 * (q.val % 4) + c.val)) 30 = colStart (q.val % 4) + k.val % 32 + 15 - (16 * (q.val % 4) + c.val) := by omega
        have r3 : colStart (q.val % 4) + k.val % 32 + 15 - (16 * (q.val % 4) + c.val) < 31 := by omega
        rw [rpbOf, r2]
        generalize colStart (q.val % 4) + k.val % 32 + 15 - (16 * (q.val % 4) + c.val) = u at *
        rw [show ∀ w : ℕ, (w * 31 + u) / 31 = w by intro w; omega, show ∀ w : ℕ, (w * 31 + u) % 31 = u by intro w; omega]
  · rw [if_neg hs, if_neg hs]
    exact Cert.Attn.neg_inf

theorem reduceMax_at (y : S16x256x12x16x256.Idx → EReal) (z : S_.Idx → EReal) (hz : ∀ i, z i = ⊥) (b : Fin 16) (q : Fin 256) (n : Fin 12) (c : Fin 16) :
    Host.reduce (FloatOps.maximumf (F := Ideal) (φ := .f32)) y z reducesTo_S16x256x12x16x256_S16x256x12x16_d4 h_S_ (ix4 b q n c) = Finset.univ.sup fun k : Fin 256 => y (ix5 b q n c k) := by
  have hr : S16x256x12x16x256.Reduces [4] S16x256x12x16 := by decide
  have hf : ∀ k : Fin 256, hr.lift (ix4 b q n c) k = ix5 b q n c k := by
    intro k
    funext a; match a with
    | ⟨0, _⟩ => rfl
    | ⟨1, _⟩ => rfl
    | ⟨2, _⟩ => rfl
    | ⟨3, _⟩ => rfl
    | ⟨4, _⟩ => rfl
  refine (Host.reduce_eq_fold_single _ y z reducesTo_S16x256x12x16x256_S16x256x12x16_d4 hr h_S_ (ix4 b q n c)).trans ?_
  rw [hz]
  exact (congrArg (fun f => Finset.fold (max : EReal → EReal → EReal) ⊥ f (Finset.univ : Finset (Fin 256))) (funext fun k => congrArg y (hf k))).trans (fold_max_eq_sup _)

theorem v115_at (b : Fin 16) (q : Fin 256) (n : Fin 12) (c : Fin 16) :
    val_main_v115 (F := Ideal) x0 x1 (ix4 b q n c) = Finset.univ.sup fun k : Fin 256 => score x0 x1 b (16 * q.val + c.val) n (gatTok (16 * q.val + c.val) k) := by
  unfold val_main_v115
  refine (reduceMax_at _ _ (fun i => (val_main_cst_25_apply i).trans Cert.Attn.neg_inf) b q n c).trans ?_
  exact congrArg (Finset.univ : Finset (Fin 256)).sup (funext fun k => v114_at x0 x1 b q n c k)

/-- The score of query `c` of block `q` against its gathered key `k`, less the largest. -/
theorem v121_at (b : Fin 16) (q : Fin 256) (n : Fin 12) (c : Fin 16) (k : Fin 256) :
    val_main_v121 (F := Ideal) x0 x1 (ix5 b q n c k) = Ideal.exp (score x0 x1 b (16 * q.val + c.val) n (gatTok (16 * q.val + c.val) k)
      - Finset.univ.sup fun k' : Fin 256 => score x0 x1 b (16 * q.val + c.val) n (gatTok (16 * q.val + c.val) k')) := by
  rw [val_main_v121_apply, val_main_v120_apply, val_main_v119_apply, val_main_v118_apply, val_main_v117_apply, v114_at]
  have e : idx_main_v118 (idx_main_v119 (ix5 b q n c k)) = ix4 b q n c := by
    funext a; match a with
    | ⟨0, _⟩ => rfl
    | ⟨1, _⟩ => rfl
    | ⟨2, _⟩ => rfl
    | ⟨3, _⟩ => rfl
  rw [e, v115_at]
  refine congrArg Ideal.exp (congrArg₂ (fun a c : EReal => a - c) rfl ?_)
  refine (congrArg₂ (fun a c : EReal => max a c) Cert.Attn.neg_inf rfl).trans ?_
  exact bot_sup_eq _

theorem v122_at (b : Fin 16) (q : Fin 256) (n : Fin 12) (c : Fin 16) :
    val_main_v122 (F := Ideal) x0 x1 (ix4 b q n c) = ∑ k : Fin 256, Ideal.exp (score x0 x1 b (16 * q.val + c.val) n (gatTok (16 * q.val + c.val) k)
      - Finset.univ.sup fun k' : Fin 256 => score x0 x1 b (16 * q.val + c.val) n (gatTok (16 * q.val + c.val) k')) := by
  rw [val_main_v122_apply]
  refine (congrArg₂ (fun a c : EReal => a + c) (show _ = (0 : EReal) from ?_) (Finset.sum_congr rfl fun k _ => (congrArg _ ?_).trans (v121_at x0 x1 b q n c k))).trans (zero_add _)
  · show Ideal.ofBits .f32 0x00000000#32 = 0
    simp [Ideal.ofBits, Ideal.ieee]
  · funext a; match a with
    | ⟨0, _⟩ => rfl
    | ⟨1, _⟩ => rfl
    | ⟨2, _⟩ => rfl
    | ⟨3, _⟩ => rfl
    | ⟨4, _⟩ => rfl

theorem v125_at (b : Fin 16) (q : Fin 256) (n : Fin 12) (c : Fin 16) (k : Fin 256) :
    val_main_v125 (F := Ideal) x0 x1 (ix5 b q n c k) = Ideal.div (Ideal.exp (score x0 x1 b (16 * q.val + c.val) n (gatTok (16 * q.val + c.val) k)
      - Finset.univ.sup fun k' : Fin 256 => score x0 x1 b (16 * q.val + c.val) n (gatTok (16 * q.val + c.val) k')))
      (∑ k : Fin 256, Ideal.exp (score x0 x1 b (16 * q.val + c.val) n (gatTok (16 * q.val + c.val) k)
      - Finset.univ.sup fun k' : Fin 256 => score x0 x1 b (16 * q.val + c.val) n (gatTok (16 * q.val + c.val) k'))) := by
  rw [val_main_v125_apply, val_main_v124_apply, val_main_v123_apply, v121_at]
  have e : idx_main_v123 (idx_main_v124 (ix5 b q n c k)) = ix4 b q n c := by
    funext a; match a with
    | ⟨0, _⟩ => rfl
    | ⟨1, _⟩ => rfl
    | ⟨2, _⟩ => rfl
    | ⟨3, _⟩ => rfl
  rw [e, v122_at]
  rfl

/-- The reference's result is the attention over the gathered keys. -/
theorem v129_at (i : S16x4096x768.Idx) :
    val_main_v129 (F := Ideal) x0 x1 i = refOut x0 x1 (i 0).val (i 1).val ((i 2).val / 64) ((i 2).val % 64) := by
  have h0 : (i 0).val < 16 := (i 0).isLt
  have h1 : (i 1).val < 4096 := (i 1).isLt
  have h2 : (i 2).val < 768 := (i 2).isLt
  rw [val_main_v129_apply, val_main_v128_apply, val_main_v127_apply]
  show val_main_v126 (F := Ideal) x0 x1 _ = _
  have e : idx_main_v127 (idx_main_v128 i) = ix5 (⟨(i 0).val, h0⟩ : Fin 16) (⟨(i 1).val / 16, by omega⟩ : Fin 256) (⟨(i 2).val / 64, by omega⟩ : Fin 12)
      (⟨(i 2).val % 64, by omega⟩ : Fin 64) (⟨(i 1).val % 16, by omega⟩ : Fin 16) := by
    funext a; refine Fin.ext ?_
    match a with
    | ⟨0, _⟩ => show (((i 0).val * 4096 + (i 1).val) * 768 + (i 2).val) / 3145728 = (i 0).val; omega
    | ⟨1, _⟩ => show (((i 0).val * 4096 + (i 1).val) * 768 + (i 2).val) / 12288 % 256 = (i 1).val / 16; omega
    | ⟨2, _⟩ => show (((i 0).val * 4096 + (i 1).val) * 768 + (i 2).val) / 64 % 12 = (i 2).val / 64; omega
    | ⟨3, _⟩ => show (((i 0).val * 4096 + (i 1).val) * 768 + (i 2).val) % 64 = (i 2).val % 64; omega
    | ⟨4, _⟩ => show (((i 0).val * 4096 + (i 1).val) * 768 + (i 2).val) / 768 % 16 = (i 1).val % 16; omega
  rw [e, val_main_v126_apply, refOut]
  have g : 16 * ((i 1).val / 16) + (i 1).val % 16 = (i 1).val := by omega
  refine Finset.sum_congr rfl fun k _ => ?_
  have ev := v99_at x0 ⟨(i 0).val, h0⟩ ⟨(i 1).val / 16, by omega⟩ k ⟨(i 2).val / 64, by omega⟩ ⟨(i 2).val % 64, by omega⟩
  have ew := v125_at x0 x1 ⟨(i 0).val, h0⟩ ⟨(i 1).val / 16, by omega⟩ ⟨(i 2).val / 64, by omega⟩ ⟨(i 1).val % 16, by omega⟩ k
  have gt : tokOf ((i 1).val / 16) k.val = gatTok (i 1).val k.val := by
    have hk := k.isLt
    rw [gatTok, tokOf, show (i 1).val / 64 = (i 1).val / 16 / 4 by omega, show (i 1).val % 64 / 16 = (i 1).val / 16 % 4 by omega]; omega
  simp only [g, gt] at ev ew
  refine (congrArg₂ (fun a c : EReal => a * c) ((congrArg _ ?_).trans ev) ((congrArg _ ?_).trans ew)).trans (mul_comm _ _)
  · funext a; match a with
    | ⟨0, _⟩ => rfl
    | ⟨1, _⟩ => rfl
    | ⟨2, _⟩ => rfl
    | ⟨3, _⟩ => rfl
    | ⟨4, _⟩ => rfl
  · funext a; match a with
    | ⟨0, _⟩ => rfl
    | ⟨1, _⟩ => rfl
    | ⟨2, _⟩ => rfl
    | ⟨3, _⟩ => rfl
    | ⟨4, _⟩ => rfl

end Cert.RefTables

end
-- ==== Proof.Finite.lean ====
module

public import proofs.«01_k».proof.Defs
public import proofs.«01_k».proof.Pre_finite
public import proofs.«01_k».proof.Proof.Spec

@[expose] public section

noncomputable section

/-! What the precondition says of the arguments: every entry is a real number. -/

namespace Cert.Finite

open Idealize.ShloMosaic Cert.Attn

theorem facts : Cert.Pre_finite.Facts where
  bitsLt_bf16_f32 := by decide
  bcast_S_S16x4096x2560 := by decide
  bcast_S_S12x15x31 := by decide

/-- An extended real whose absolute value is below `⊤` is real. -/
theorem fin_of_olt (x : EReal) (h : Ideal.cmp .olt (max x (-x)) (Ideal.ofBits .f32 0x7F800000#32) = 1#1) : Fin' x := by
  rw [pos_inf] at h
  have h' : max x (-x) < ⊤ := by
    by_contra hc
    have : Ideal.cmp .olt (max x (-x)) ⊤ = 0#1 := by simp [Ideal.cmp, hc]
    rw [this] at h
    exact absurd h (by decide)
  refine ⟨?_, ?_⟩
  · rintro rfl; simp at h'
  · rintro rfl; simp at h'

theorem fin_args {x0 : FVec Ideal Cert.Pre_finite.S16x4096x2560 .bf16} {x1 : FVec Ideal Cert.Pre_finite.S12x15x31 .f32}
    (h : (@Cert.Pre_finite.fn facts Ideal _ x0 x1).1 = (fun _ => 1#1) ∧ (@Cert.Pre_finite.fn facts Ideal _ x0 x1).2 = (fun _ => 1#1)) :
    (∀ i, Fin' (x0 i)) ∧ ∀ i, Fin' (x1 i) :=
  ⟨fun i => fin_of_olt _ (congrFun h.1 i), fun i => fin_of_olt _ (congrFun h.2 i)⟩

end Cert.Finite

end
-- ==== Proof.NaClaims.lean ====
module

public import proofs.«01_k».proof.Defs
public import proofs.«01_k».proof.Proof.Gen.Kernel
public import proofs.«01_k».proof.Proof.KFrame
public import proofs.«01_k».proof.Proof.NaValue
public import proofs.«01_k».proof.Proof.RefRead
public import proofs.«01_k».proof.Proof.Finite
public import proofs.«01_k».proof.Proof.Gen.ReferenceIdeal.Run
public import Idealize.ShloMosaic.Lib.Quiescent

@[expose] public section

noncomputable section

/-! The claims about the neighbourhood attention, from its two runs and the law between the two values. -/

namespace Cert.NaClaims

open Idealize.ShloMosaic Idealize.SL.Sem Cert.Attn

local instance : Cert.Pre_finite.Facts := Cert.Finite.facts

theorem frame_kernel : Cert.quiescent_Kernel := fun m ρ _ => Cert.Kernel.Na.frame m ρ

theorem frame_ideal : Cert.quiescent_KernelIdeal := fun m ρ _ => Cert.KernelIdeal.Na.frame m ρ

theorem frame_ideal_finite : Cert.quiescent_KernelIdeal_pre_finite := fun m ρ _ => Cert.KernelIdeal.Na.frame m ρ

theorem frame_ref : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_ref_finite : Cert.quiescent_ReferenceIdeal_pre_finite := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Over real arguments the reference's value is the kernel's. -/
theorem value_eq (x0 : (⟨Cert.KernelIdeal.S16x4096x2560, .bf16⟩ : BufTy).Contents (Elt Ideal))
    (x1 : (⟨Cert.KernelIdeal.S12x15x31, .f32⟩ : BufTy).Contents (Elt Ideal))
    (h0 : ∀ i, Fin' (x0 i)) (h1 : ∀ i, Fin' (x1 i)) :
    Cert.ReferenceIdeal.Read.val_main_v129 (F := Ideal) x0 x1 = Cert.KernelIdeal.Na.attnOut x0 x1 :=
  funext fun i => (Cert.RefTables.v129_at x0 x1 i).trans
    (kerOut_eq_refOut (h := x0) (rpb := x1) h0 h1 _ _ _ _).symm

theorem algebraic : Cert.algebraic_KernelIdeal_ReferenceIdeal_pre_finite := by
  intro m ρ m' ρ' hpre hagree
  refine ⟨fun c => Cert.KernelIdeal.Na.attnOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Na.final m c), (h c).2⟩) (Cert.KernelIdeal.Na.run_blocks m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v129_eq (StableHlo.launchContents m' c)).trans ?_
    have hf := Cert.Finite.fin_args (hpre c)
    refine Eq.trans ?_ (value_eq _ _ hf.1 hf.2)
    exact congrArg₂ (Cert.ReferenceIdeal.Read.val_main_v129 (F := Ideal)) (hagree c).1 (hagree c).2

end Cert.NaClaims

end
-- ==== Proof.Mix.lean ====
module

public import proofs.«01_k».proof.Proof.Spec
public import Idealize.ShloMosaic.Lib.Pointwise

@[expose] public section

noncomputable section

/-! One row of the layer's second half, on sequences: head norms and gate, memory attention, output projection with
residual and norm, feed-forward with residual and norm. -/

namespace Cert.Mix

open Idealize.ShloMosaic Cert.Attn

/-- An array of rank one read at natural numbers, `0` outside it. -/
def at1 {n0 : ℕ} (x : (⟨1, ![n0]⟩ : Shape).Idx → EReal) (a : ℕ) : EReal :=
  if h : a < n0 then x (ValueIdx.ix1 ⟨a, h⟩) else 0

theorem at1_of {n0 : ℕ} (x : (⟨1, ![n0]⟩ : Shape).Idx → EReal) (i : (⟨1, ![n0]⟩ : Shape).Idx) {a : ℕ} (h0 : (i 0).val = a) : x i = at1 x a := by
  subst h0; rw [at1, dif_pos (show (i 0).val < n0 from (i 0).isLt)]; exact congrArg x (ValueIdx.eq_ix1 i)

/-- An array of rank two read at natural numbers, `0` outside it. -/
def at2 {n0 n1 : ℕ} (x : (⟨2, ![n0, n1]⟩ : Shape).Idx → EReal) (a b : ℕ) : EReal :=
  if h : a < n0 ∧ b < n1 then x (ValueIdx.ix2 ⟨a, h.1⟩ ⟨b, h.2⟩) else 0

theorem at2_of {n0 n1 : ℕ} (x : (⟨2, ![n0, n1]⟩ : Shape).Idx → EReal) (i : (⟨2, ![n0, n1]⟩ : Shape).Idx)
    {a b : ℕ} (h0 : (i 0).val = a) (h1 : (i 1).val = b) : x i = at2 x a b := by
  subst h0 h1; rw [at2, dif_pos ⟨(i 0).isLt, (i 1).isLt⟩]; exact congrArg x (ValueIdx.eq_ix2 i)

/-- One entry of a product over the 1024 features. -/
def dotr (X W : ℕ → ℕ → EReal) (r l : ℕ) : EReal := ∑ k : Fin 1024, X r k.val * W k.val l

/-- Lane `d` of head `h`: the head divided by its root mean square, weighted and gated. -/
def headn (o nw g : ℕ → EReal) (h d : ℕ) : EReal :=
  o (128 * h + d) * Ideal.rsqrt (Ideal.div (∑ e : Fin 128, o (128 * h + e.val) * o (128 * h + e.val)) (Ideal.ofBits .f32 0x43000000#32)
    + Ideal.ofBits .f32 0x358637BD#32) * nw d * (g (128 * h + d) * Ideal.logistic (g (128 * h + d)))

/-- The gated heads side by side. -/
def prim (o nw g : ℕ → EReal) (l : ℕ) : EReal := headn o nw g (l / 128) (l % 128)

theorem headn_of {o nw g : ℕ → EReal} {a n γ : EReal} {b : Fin 128 → EReal} (h d : ℕ) (ha : a = o (128 * h + d))
    (hb : ∀ e, b e = o (128 * h + e.val)) (hn : n = nw d) (hg : γ = g (128 * h + d)) :
    a * Ideal.rsqrt (Ideal.div (∑ e : Fin 128, b e * b e) (Ideal.ofBits .f32 0x43000000#32) + Ideal.ofBits .f32 0x358637BD#32) * n
      * (γ * Ideal.logistic γ) = headn o nw g h d := by
  subst ha hn hg
  simp only [hb]; rfl

/-- The score of memory slot `m` in head `n`. -/
def sco (q : ℕ → EReal) (k : ℕ → ℕ → EReal) (n m : ℕ) : EReal :=
  ∑ d : Fin 64, q (64 * n + d.val) * Ideal.ofBits .f32 0x3E000000#32 * k m (64 * n + d.val)

/-- The unnormalised weight of slot `m`. -/
def wei (q : ℕ → EReal) (k : ℕ → ℕ → EReal) (n m : ℕ) : EReal :=
  Ideal.exp (sco q k n m - Finset.univ.sup fun m' : Fin 256 => sco q k n m'.val)

/-- Memory attention, the division last. -/
def memk (q : ℕ → EReal) (k v : ℕ → ℕ → EReal) (j : ℕ) : EReal :=
  Ideal.div (∑ m : Fin 256, wei q k (j / 64) m.val * v m.val j) (∑ m : Fin 256, wei q k (j / 64) m.val)

/-- Memory attention, the weights divided first. -/
def memr (q : ℕ → EReal) (k v : ℕ → ℕ → EReal) (j : ℕ) : EReal :=
  ∑ m : Fin 256, v m.val j * Ideal.div (wei q k (j / 64) m.val) (∑ m : Fin 256, wei q k (j / 64) m.val)

/-- Multiplying by a fixed real number goes through a sum. -/
theorem mul_coe_sum {ι : Type} (s : Finset ι) (f : ι → EReal) {r : ℝ} (hr : 0 ≤ r) : (∑ i ∈ s, f i) * (r : EReal) = ∑ i ∈ s, f i * (r : EReal) := by
  classical
  induction s using Finset.induction with
  | empty => simp
  | insert a s ha ih =>
    rw [Finset.sum_insert ha, Finset.sum_insert ha, ← ih,
      EReal.right_distrib_of_nonneg_of_ne_top (by exact_mod_cast hr) (EReal.coe_ne_top r)]

/-- On finite queries and keys the two are one. -/
theorem memk_eq_memr {q : ℕ → EReal} {k : ℕ → ℕ → EReal} (v : ℕ → ℕ → EReal) (hq : ∀ i < 256, Fin' (q i)) (hk : ∀ m, ∀ i < 256, Fin' (k m i))
    {j : ℕ} (hj : j < 256) : memk q k v j = memr q k v j := by
  have hs' : ∀ n m, n < 4 → Fin' (sco q k n m) := fun n m hn => Fin'.sum _ _ fun d =>
    Fin'.mul (Fin'.mul (hq _ (by have := d.isLt; omega)) (by rw [eighth]; exact fin_coe _)) (hk _ _ (by have := d.isLt; omega))
  have hs : ∀ m, Fin' (sco q k (j / 64) m) := fun m => hs' _ _ (by omega)
  obtain ⟨km, -, hkm⟩ := Finset.exists_mem_eq_sup (Finset.univ : Finset (Fin 256)) ⟨0, Finset.mem_univ _⟩ fun m' : Fin 256 => sco q k (j / 64) m'.val
  have hw : ∀ m, wei q k (j / 64) m = ((Real.exp ((sco q k (j / 64) m).toReal - (sco q k (j / 64) km.val).toReal) : ℝ) : EReal) := fun m => by
    rw [wei, hkm]
    conv_lhs => rw [← (hs m).coe, ← (hs km.val).coe, ← EReal.coe_sub]
    rfl
  unfold memk memr
  simp only [hw]
  rw [← coe_sum]
  set D : ℝ := ∑ m : Fin 256, Real.exp ((sco q k (j / 64) m.val).toReal - (sco q k (j / 64) km.val).toReal) with hDdef
  have hD : 0 < D := Finset.sum_pos (fun m _ => Real.exp_pos _) ⟨0, Finset.mem_univ _⟩
  have h0 : ((D : ℝ) : EReal) ≠ 0 := by exact_mod_cast hD.ne'
  simp only [Ideal.div, if_neg h0, ← EReal.coe_inv]
  rw [mul_coe_sum _ _ (inv_nonneg.2 hD.le)]
  refine Finset.sum_congr rfl fun m _ => ?_
  rw [mul_comm (Real.exp _ : EReal) (v m.val j), mul_assoc]

/-- A row less its mean, over its deviation, scaled and shifted. -/
def lnr (y g b : ℕ → EReal) (j : ℕ) : EReal :=
  (y j - Ideal.div (∑ i : Fin 1024, y i.val) (Ideal.ofBits .f32 0x44800000#32))
    * Ideal.rsqrt (Ideal.div (∑ i : Fin 1024, (y i.val - Ideal.div (∑ i : Fin 1024, y i.val) (Ideal.ofBits .f32 0x44800000#32))
        * (y i.val - Ideal.div (∑ i : Fin 1024, y i.val) (Ideal.ofBits .f32 0x44800000#32))) (Ideal.ofBits .f32 0x44800000#32)
      + Ideal.ofBits .f32 0x3727C5AC#32) * g j + b j

theorem lnr_congr {y y' : ℕ → EReal} (g b : ℕ → EReal) (h : ∀ i < 1024, y i = y' i) {j : ℕ} (hj : j < 1024) : lnr y g b j = lnr y' g b j := by
  have e : ∀ i : Fin 1024, y i.val = y' i.val := fun i => h i.val i.isLt
  unfold lnr
  simp only [e, h j hj]

/-- The output projection of the gated heads and the memory attention. -/
def mixr (p mm : ℕ → EReal) (w : ℕ → ℕ → EReal) (j : ℕ) : EReal :=
  (∑ l : Fin 768, p l.val * w l.val j) + ∑ l : Fin 256, mm l.val * w (768 + l.val) j

/-- The first residual and norm. -/
def x1r (x p mm : ℕ → EReal) (w : ℕ → ℕ → EReal) (g b : ℕ → EReal) : ℕ → EReal :=
  lnr (fun j => Ideal.ofBits .f32 0x3FB504F3#32 * x j + mixr p mm w j) g b

/-- One hidden unit: the positive part, squared. -/
def hid (x1 : ℕ → EReal) (w1 : ℕ → ℕ → EReal) (f : ℕ) : EReal :=
  max (∑ i : Fin 1024, x1 i.val * w1 i.val f) 0 * max (∑ i : Fin 1024, x1 i.val * w1 i.val f) 0

/-- The feed-forward. -/
def ffn (x1 : ℕ → EReal) (w1 w2 : ℕ → ℕ → EReal) (j : ℕ) : EReal := ∑ f : Fin 4096, hid x1 w1 f.val * w2 f.val j

/-- The second residual and norm. -/
def outr (x1 : ℕ → EReal) (w1 w2 : ℕ → ℕ → EReal) (g b : ℕ → EReal) : ℕ → EReal :=
  lnr (fun j => Ideal.ofBits .f32 0x3FB504F3#32 * x1 j + ffn x1 w1 w2 j) g b

/-- The feed-forward four chunks of the hidden units at a time. -/
theorem ffn_chunks (x1 : ℕ → EReal) (w1 w2 : ℕ → ℕ → EReal) (j : ℕ) : ffn x1 w1 w2 j
    = (∑ f : Fin 1024, hid x1 w1 f.val * w2 f.val j) + (∑ f : Fin 1024, hid x1 w1 (1024 + f.val) * w2 (1024 + f.val) j)
      + (∑ f : Fin 1024, hid x1 w1 (2048 + f.val) * w2 (2048 + f.val) j) + (∑ f : Fin 1024, hid x1 w1 (3072 + f.val) * w2 (3072 + f.val) j) := by
  unfold ffn
  rw [Fin.sum_univ_tiles 4 1024 rfl, Fin.sum_univ_four]
  refine congrArg₂ (· + ·) (congrArg₂ (· + ·) (congrArg₂ (· + ·) ?_ ?_) ?_) ?_ <;> refine Finset.sum_congr rfl fun f _ => ?_ <;>
    simp

theorem outr_congr {x1 x1' : ℕ → EReal} (w1 w2 : ℕ → ℕ → EReal) (g b : ℕ → EReal) (h : ∀ i < 1024, x1 i = x1' i) {j : ℕ} (hj : j < 1024) :
    outr x1 w1 w2 g b j = outr x1' w1 w2 g b j := by
  have e : ∀ i : Fin 1024, x1 i.val = x1' i.val := fun i => h i.val i.isLt
  refine lnr_congr g b (fun i hi => ?_) hj
  simp only [h i hi, ffn, hid, e]

theorem x1r_congr {x p p' mm mm' : ℕ → EReal} (w : ℕ → ℕ → EReal) (g b : ℕ → EReal) (hp : ∀ i < 768, p i = p' i) (hm : ∀ i < 256, mm i = mm' i)
    {j : ℕ} (hj : j < 1024) : x1r x p mm w g b j = x1r x p' mm' w g b j := by
  refine lnr_congr g b (fun i _ => ?_) hj
  have e : ∀ l : Fin 768, p l.val = p' l.val := fun l => hp l.val l.isLt
  have e' : ∀ l : Fin 256, mm l.val = mm' l.val := fun l => hm l.val l.isLt
  simp only [mixr, e, e']

end Cert.Mix

end
-- ==== Proof.MixPay.lean ====
module

public import proofs.«01_k».proof.Proof.Gen.Kernel2Ideal.Value
public import proofs.«01_k».proof.Proof.Mix
public import Idealize.ShloMosaic.Lib.ValueIdx
public import Idealize.ShloMosaic.Lib.Pointwise
public import Idealize.ShloMosaic.Lib.Pipeline.ValueKit

@[expose] public section

set_option maxRecDepth 16384

noncomputable section

/-! What the block computes, read at an index. -/

namespace Cert.Kernel2Ideal.Mix

open Idealize.ShloMosaic Idealize.ShloMosaic.TcCoe Idealize.ShloMosaic.Tactic
open Cert.Kernel2Ideal Cert.Kernel2Ideal.Gen Cert.Mix Cert.Attn

theorem sel_lt (n : ℕ) (hn : n < 128) {α : Type} (a b : α) :
    Scalar.select (IntOp.cmpi CmpIPredicate.slt (BitVec.ofNat 32 n) 64#32) a b = if n < 64 then a else b := by
  have h : ∀ m : Fin 128, IntOp.cmpi CmpIPredicate.slt (BitVec.ofNat 32 m.val) 64#32 = if m.val < 64 then 1#1 else 0#1 := by decide
  rw [h ⟨n, hn⟩]; dsimp only; split <;> rfl

/-- The gated heads the block forms. -/
def primPay (v0 v3 v7 : Vec Ideal S1x512x768 .bf16) (v12 : Vec Ideal S1x128 .f32) : FVec Ideal S512x768 .bf16 :=
  k0_pay12 (k0_pay2 v0 v3) (k0_pay3 v7) (k0_pay4 v12) (k0_pay5 v0 v3 v7 v12)
    (k0_pay7 (k0_pay3 v7) (k0_pay4 v12) (k0_pay6 v0 v3)) (k0_pay8 (k0_pay2 v0 v3) (k0_pay3 v7) (k0_pay4 v12))
    (k0_pay9 (k0_pay2 v0 v3) (k0_pay3 v7) (k0_pay4 v12)) (k0_pay10 (k0_pay2 v0 v3) (k0_pay4 v12)) (k0_pay11 (k0_pay3 v7))

theorem prim_apply (v0 v3 v7 : Vec Ideal S1x512x768 .bf16) (v12 : Vec Ideal S1x128 .f32) (o nw g : ℕ → EReal) (r : Fin 512)
    (ho : ∀ l : Fin 768, (v0 (ix3 0 r l) + v3 (ix3 0 r l) : EReal) = o l.val) (hn : ∀ d : Fin 128, v12 (ix2 0 d) = nw d.val)
    (hg : ∀ l : Fin 768, v7 (ix3 0 r l) = g l.val) (l : Fin 768) : primPay v0 v3 v7 v12 (ix2 r l) = prim o nw g l.val := by
  have hl := l.isLt
  have key : ∀ h d : ℕ, l.val = 128 * h + d → d < 128 → headn o nw g h d = prim o nw g l.val := fun h d e hd => by
    rw [prim, e]; congr 1 <;> omega
  pointwise [primPay, k0_pay2, k0_pay3, k0_pay4, k0_pay5, k0_pay6, k0_pay7, k0_pay8, k0_pay9, k0_pay10, k0_pay11, k0_pay12]
  have fo : ∀ (n : ℕ) (hn : n < 768), (v0 (ix3 0 r ⟨n, hn⟩) + v3 (ix3 0 r ⟨n, hn⟩) : EReal) = o n := fun n hn => ho ⟨n, hn⟩
  have fg : ∀ (n : ℕ) (hn : n < 768), (v7 (ix3 0 r ⟨n, hn⟩) : EReal) = g n := fun n hn => hg ⟨n, hn⟩
  have fn : ∀ (n : ℕ) (hd : n < 128), (v12 (ix2 0 ⟨n, hd⟩) : EReal) = nw n := fun n hd => hn ⟨n, hd⟩
  simp only [ho, hg, fo, fg, fn]
  by_cases h0 : l.val < 128
  · refine (dif_pos h0).trans (Eq.trans ?_ (key 0 l.val (by omega) h0))
    simp only [headn, Nat.mul_zero, Nat.zero_add]
  refine (dif_neg h0).trans ?_
  by_cases h1 : l.val - 128 < 128
  · exact (dif_pos h1).trans (key 1 _ (by omega) h1)
  refine (dif_neg h1).trans ?_
  by_cases h2 : l.val - 128 - 128 < 128
  · exact (dif_pos h2).trans (key 2 _ (by omega) h2)
  refine (dif_neg h2).trans ?_
  by_cases h3 : l.val - 128 - 128 - 128 < 128
  · exact (dif_pos h3).trans (key 3 _ (by omega) h3)
  refine (dif_neg h3).trans ?_
  by_cases h4 : l.val - 128 - 128 - 128 - 128 < 128
  · exact (dif_pos h4).trans (key 4 _ (by omega) h4)
  exact (dif_neg h4).trans (key 5 _ (by omega) (by omega))

section Memory
variable (q : Vec Ideal S1x128x128 .bf16) (k v : Vec Ideal S1x256x128 .bf16) (Q : ℕ → EReal) (K V : ℕ → ℕ → EReal) (p : ℕ) (r : Fin 128)
  (hq : ∀ l : Fin 128, q (ix3 0 r l) = Q (128 * p + l.val)) (hk : ∀ (m : Fin 256) (l : Fin 128), k (ix3 0 m l) = K m.val (128 * p + l.val))
  (hv : ∀ (m : Fin 256) (l : Fin 128), v (ix3 0 m l) = V m.val (128 * p + l.val))
include hq hk

theorem score_lo (R : Fin 256) (hR : R.val = r.val) (m : Fin 256) : (k0_pay18 (F := Ideal) k0_pay13 q k (ix2 R m) : EReal) = sco Q K (2 * p) m.val := by
  have hr := r.isLt
  pointwise [k0_pay18, k0_pay13]
  rw [Fin.sum_univ_two_halves 64 64 rfl]
  refine (Ideal.add_congr ?_ (Finset.sum_eq_zero fun d _ => ?_)).trans (add_zero _)
  · refine Finset.sum_congr rfl fun d _ => ?_
    have hd := d.isLt
    refine Ideal.mul_congr ((dif_pos (by omega)).trans ((sel_lt _ (by first | (dsimp only; omega) | omega) _ _).trans ((if_pos hd).trans ?_))) ?_
    · have e : (⟨R.val, by omega⟩ : Fin 128) = r := Fin.ext hR
      rw [e, eighth_bf16, hq]
      refine Ideal.mul_congr (congrArg Q ?_) rfl
      first | (dsimp only; omega) | omega
    · rw [hk]; refine congrArg (K m.val) ?_
      first | (dsimp only; omega) | omega
  · have hd := d.isLt
    refine (Ideal.mul_congr ((dif_pos (by omega)).trans ((sel_lt _ (by first | (dsimp only; omega) | omega) _ _).trans (if_neg (by first | (dsimp only; omega) | omega)))) rfl).trans (zero_mul _)

theorem score_hi (R : Fin 256) (hR : R.val = 128 + r.val) (m : Fin 256) : (k0_pay18 (F := Ideal) k0_pay13 q k (ix2 R m) : EReal) = sco Q K (2 * p + 1) m.val := by
  have hr := r.isLt
  pointwise [k0_pay18, k0_pay13]
  rw [Fin.sum_univ_two_halves 64 64 rfl]
  refine (Ideal.add_congr (Finset.sum_eq_zero fun d _ => ?_) ?_).trans (zero_add _)
  · have hd := d.isLt
    refine (Ideal.mul_congr ((dif_neg (by omega)).trans ((sel_lt _ (by first | (dsimp only; omega) | omega) _ _).trans (if_pos hd))) rfl).trans (zero_mul _)
  · refine Finset.sum_congr rfl fun d _ => ?_
    have hd := d.isLt
    refine Ideal.mul_congr ((dif_neg (by omega)).trans ((sel_lt _ (by first | (dsimp only; omega) | omega) _ _).trans ((if_neg (by first | (dsimp only; omega) | omega)).trans ?_))) ?_
    · have e : (⟨R.val - 128, by omega⟩ : Fin 128) = r := Fin.ext (by first | (dsimp only; omega) | omega)
      rw [e, eighth_bf16, hq]
      refine Ideal.mul_congr (congrArg Q ?_) rfl
      first | (dsimp only; omega) | omega
    · rw [hk]; refine congrArg (K m.val) ?_
      first | (dsimp only; omega) | omega

include hv
theorem mem_apply (l : Fin 128) : (k0_pay34 (F := Ideal) k0_pay13 (k0_pay18 k0_pay13 q k) v (ix2 r l) : EReal) = memk Q K V (128 * p + l.val) := by
  have hr := r.isLt
  have hl := l.isLt
  have lo := score_lo q k Q K p r hq hk ⟨r.val, by omega⟩ rfl
  have hi := score_hi q k Q K p r hq hk ⟨128 + r.val, by omega⟩ rfl
  generalize k0_pay18 (F := Ideal) k0_pay13 q k = s at lo hi ⊢
  pointwise [k0_pay34, k0_pay13]
  refine (sel_lt l.val hl _ _).trans ?_
  simp only [hv]
  by_cases h : l.val < 64
  · have e : (128 * p + l.val) / 64 = 2 * p := by omega
    simp only [if_pos h, memk, wei, e, lo, Cert.Attn.neg_inf, fold_max_eq_sup]
  · have e : (128 * p + l.val) / 64 = 2 * p + 1 := by omega
    simp only [if_neg h, memk, wei, e, hi, Cert.Attn.neg_inf, fold_max_eq_sup]

end Memory

section Tail
variable (r : Fin 512) (P MM X : ℕ → EReal) (W W1 W2 : ℕ → ℕ → EReal) (G1 B1 G2 B2 : ℕ → EReal)

theorem proj_apply (v110 : FVec Ideal S512x768 .bf16) (v234 : Vec Ideal S768x1024 .bf16) (hP : ∀ l : Fin 768, v110 (ix2 r l) = P l.val)
    (hW : ∀ (l : Fin 768) (j : Fin 1024), v234 (ix2 l j) = W l.val j.val) (j : Fin 1024) :
    (k0_pay28 (F := Ideal) v110 v234 (ix2 r j) : EReal) = ∑ l : Fin 768, P l.val * W l.val j.val := by
  pointwise [k0_pay28]
  simp only [hP, hW]

theorem x1_apply (v236 : FVec Ideal S512x1024 .f32) (v413 : Vec Ideal S512x256 .bf16) (v414 : Vec Ideal S256x1024 .bf16) (v418 : Vec Ideal S1x512x1024 .f32)
    (v423 v425 : Vec Ideal S1x1024 .f32) (hA : ∀ j : Fin 1024, v236 (ix2 r j) = ∑ l : Fin 768, P l.val * W l.val j.val)
    (hM : ∀ l : Fin 256, v413 (ix2 r l) = MM l.val) (hW : ∀ (l : Fin 256) (j : Fin 1024), v414 (ix2 l j) = W (768 + l.val) j.val)
    (hx : ∀ j : Fin 1024, v418 (ix3 0 r j) = X j.val) (hg : ∀ j : Fin 1024, v423 (ix2 0 j) = G1 j.val) (hb : ∀ j : Fin 1024, v425 (ix2 0 j) = B1 j.val)
    (j : Fin 1024) : (k0_pay49 (F := Ideal) v236 v413 (k0_pay48 v414) (constant S512x1024 .f32 0#32) v418 v423 v425 (ix2 r j) : EReal) = x1r X P MM W G1 B1 j.val := by
  pointwise [k0_pay49, k0_pay48]
  simp only [hA, hM, hW, hx, hg, hb]
  rfl

theorem ffn_apply (v447 v455 : FVec Ideal S512x1024 .bf16) (a0 a1 b1 a2 b2 a3 b3 : Vec Ideal S1024x1024 .bf16)
    (hx : ∀ i : Fin 1024, v447 (ix2 r i) = X i.val) (h0 : ∀ f : Fin 1024, v455 (ix2 r f) = hid X W1 f.val)
    (e0 : ∀ f j : Fin 1024, a0 (ix2 f j) = W2 f.val j.val)
    (d1 : ∀ i f : Fin 1024, a1 (ix2 i f) = W1 i.val (1024 + f.val)) (e1 : ∀ f j : Fin 1024, b1 (ix2 f j) = W2 (1024 + f.val) j.val)
    (d2 : ∀ i f : Fin 1024, a2 (ix2 i f) = W1 i.val (2048 + f.val)) (e2 : ∀ f j : Fin 1024, b2 (ix2 f j) = W2 (2048 + f.val) j.val)
    (d3 : ∀ i f : Fin 1024, a3 (ix2 i f) = W1 i.val (3072 + f.val)) (e3 : ∀ f j : Fin 1024, b3 (ix2 f j) = W2 (3072 + f.val) j.val)
    (j : Fin 1024) : (k0_pay53 (F := Ideal) v447 k0_pay51 v455 a0 a1 b1 a2 b2 a3 b3 (ix2 r j) : EReal) = ffn X W1 W2 j.val := by
  rw [ffn_chunks]
  pointwise [k0_pay53, k0_pay51]
  simp only [hx, h0, e0, d1, e1, d2, e2, d3, e3]
  simp only [hid]

theorem hid_apply (v236 : FVec Ideal S512x1024 .f32) (v413 : Vec Ideal S512x256 .bf16) (v415 : FVec Ideal S256x1024 .bf16) (cst : FVec Ideal S512x1024 .f32) (v418 : Vec Ideal S1x512x1024 .f32)
    (v423 v425 : Vec Ideal S1x1024 .f32) (a : Vec Ideal S1024x1024 .bf16)
    (hx : ∀ i : Fin 1024, k0_pay50 v236 v413 v415 cst v418 v423 v425 (ix2 r i) = X i.val) (d : ∀ i f : Fin 1024, a (ix2 i f) = W1 i.val f.val)
    (f : Fin 1024) : (k0_pay52 (F := Ideal) v236 v413 v415 cst v418 v423 v425 a (ix2 r f) : EReal) = hid X W1 f.val := by
  pointwise [k0_pay52]
  simp only [hx, d, hid]

theorem out_apply (v446 v492 : FVec Ideal S512x1024 .f32) (v496 v498 : Vec Ideal S1x1024 .f32)
    (hx : ∀ i : Fin 1024, v446 (ix2 r i) = X i.val) (hf : ∀ i : Fin 1024, v492 (ix2 r i) = ffn X W1 W2 i.val)
    (hg : ∀ j : Fin 1024, v496 (ix2 0 j) = G2 j.val) (hb : ∀ j : Fin 1024, v498 (ix2 0 j) = B2 j.val) (j : Fin 1024) :
    (k0_pay1 (F := Ideal) v446 v492 (Scalar.ofBits .f32 0x3FB504F3#32) v496 v498 (ix3 0 r j) : EReal) = outr X W1 W2 G2 B2 j.val := by
  pointwise [k0_pay1]
  simp only [hx, hf, hg, hb]
  rfl

end Tail

end Cert.Kernel2Ideal.Mix
end
-- ==== Proof.MixBlk.lean ====
module

public import proofs.«01_k».proof.Proof.Gen.Kernel2Ideal.Value
public import proofs.«01_k».proof.Proof.Mix
public import Idealize.ShloMosaic.Lib.ValueIdx
public import Idealize.ShloMosaic.Lib.Pointwise
public import Idealize.ShloMosaic.Lib.Pipeline.ValueKit

@[expose] public section

set_option maxRecDepth 16384

noncomputable section

/-! The staged blocks, read from the arguments. -/

namespace Cert.Kernel2Ideal.Mix

open Idealize.ShloMosaic Idealize.ShloMosaic.TcCoe Idealize.ShloMosaic.Tactic
open Idealize.ShloMosaic.Pipeline (Dat Cfg Window BodyObligation cellOf)
open Cert.Kernel2Ideal Cert.Kernel2Ideal.Gen Cert.Mix Cert.Attn

variable (m : (ℓ : Loc nD τ sig) → Buf (Elt Ideal) ℓ)

/-- The batch of a grid point. -/
abbrev tb (t : Fin cfg0.N) : ℕ := (grid0.coords t 0).val
/-- The row block of a grid point. -/
abbrev tr (t : Fin cfg0.N) : ℕ := (grid0.coords t 1).val

theorem index0 : ∀ t : Fin grid0.N, win0_0.index t = ![tb t, tr t, 0] := by decide +kernel

theorem index1 : ∀ t : Fin grid0.N, win0_1.index t = ![tb t, tr t, 0] := by decide +kernel

theorem index2 : ∀ t : Fin grid0.N, win0_2.index t = ![tb t, tr t, 0] := by decide +kernel

theorem index3 : ∀ t : Fin grid0.N, win0_3.index t = ![tb t, tr t, 4] := by decide +kernel

theorem index4 : ∀ t : Fin grid0.N, win0_4.index t = ![0, 0] := by decide +kernel

theorem index5 : ∀ t : Fin grid0.N, win0_5.index t = ![tb t, tr t, 15] := by decide +kernel

theorem index6 : ∀ t : Fin grid0.N, win0_6.index t = ![tb t, 0, 0] := by decide +kernel

theorem index7 : ∀ t : Fin grid0.N, win0_7.index t = ![0, 0] := by decide +kernel

theorem index8 : ∀ t : Fin grid0.N, win0_8.index t = ![0, 0] := by decide +kernel

theorem index9 : ∀ t : Fin grid0.N, win0_9.index t = ![0, 0] := by decide +kernel

theorem index10 : ∀ t : Fin grid0.N, win0_10.index t = ![0, 0] := by decide +kernel

theorem index11 : ∀ t : Fin grid0.N, win0_11.index t = ![0, 0] := by decide +kernel

theorem index12 : ∀ t : Fin grid0.N, win0_12.index t = ![0, 0] := by decide +kernel

theorem index13 : ∀ t : Fin grid0.N, win0_13.index t = ![0, 0] := by decide +kernel

theorem index14 : ∀ t : Fin grid0.N, win0_14.index t = ![tb t, tr t, 0] := by decide +kernel

theorem V_v0 (c : Dev nD) : V m c main_v0 = m ((c : Thread nD τ).loc main_arg5) := by
  simp only [V, hostOps0, List.flatten_cons, List.flatten_nil, List.append_nil, List.cons_append, List.nil_append, StableHlo.after_cons, StableHlo.after_nil]
  after_results_simp
  after_results_loop
  rfl

theorem V_v1 (c : Dev nD) : V m c main_v1 = m ((c : Thread nD τ).loc main_arg8) := by
  simp only [V, hostOps0, List.flatten_cons, List.flatten_nil, List.append_nil, List.cons_append, List.nil_append, StableHlo.after_cons, StableHlo.after_nil]
  after_results_simp
  after_results_loop
  rfl

theorem V_v2 (c : Dev nD) : V m c main_v2 = m ((c : Thread nD τ).loc main_arg9) := by
  simp only [V, hostOps0, List.flatten_cons, List.flatten_nil, List.append_nil, List.cons_append, List.nil_append, StableHlo.after_cons, StableHlo.after_nil]
  after_results_simp
  after_results_loop
  rfl

theorem V_v3 (c : Dev nD) : V m c main_v3 = shapeCast S1x1024 (m ((c : Thread nD τ).loc main_arg6)) shapeCasts_S1024_S1x1024 := by
  simp only [V, hostOps0, List.flatten_cons, List.flatten_nil, List.append_nil, List.cons_append, List.nil_append, StableHlo.after_cons, StableHlo.after_nil]
  after_results_simp
  after_results_loop
  rfl

theorem V_v4 (c : Dev nD) : V m c main_v4 = shapeCast S1x1024 (m ((c : Thread nD τ).loc main_arg7)) shapeCasts_S1024_S1x1024 := by
  simp only [V, hostOps0, List.flatten_cons, List.flatten_nil, List.append_nil, List.cons_append, List.nil_append, StableHlo.after_cons, StableHlo.after_nil]
  after_results_simp
  after_results_loop
  rfl

theorem V_v5 (c : Dev nD) : V m c main_v5 = shapeCast S1x1024 (m ((c : Thread nD τ).loc main_arg10)) shapeCasts_S1024_S1x1024 := by
  simp only [V, hostOps0, List.flatten_cons, List.flatten_nil, List.append_nil, List.cons_append, List.nil_append, StableHlo.after_cons, StableHlo.after_nil]
  after_results_simp
  after_results_loop
  rfl

theorem V_v6 (c : Dev nD) : V m c main_v6 = shapeCast S1x1024 (m ((c : Thread nD τ).loc main_arg11)) shapeCasts_S1024_S1x1024 := by
  simp only [V, hostOps0, List.flatten_cons, List.flatten_nil, List.append_nil, List.cons_append, List.nil_append, StableHlo.after_cons, StableHlo.after_nil]
  after_results_simp
  after_results_loop
  rfl

theorem V_v7 (c : Dev nD) : V m c main_v7 = shapeCast S1x128 (m ((c : Thread nD τ).loc main_arg12)) shapeCasts_S128_S1x128 := by
  simp only [V, hostOps0, List.flatten_cons, List.flatten_nil, List.append_nil, List.cons_append, List.nil_append, StableHlo.after_cons, StableHlo.after_nil]
  after_results_simp
  after_results_loop
  rfl

theorem cast128 (x : S128.Idx → EReal) (i : S1x128.Idx) : shapeCast S1x128 x shapeCasts_S128_S1x128 i = at1 x (i 1).val := by
  idx_vars i
  pointwise
  exact at1_of x _ rfl

theorem cast1024 (x : S1024.Idx → EReal) (i : S1x1024.Idx) : shapeCast S1x1024 x shapeCasts_S1024_S1x1024 i = at1 x (i 1).val := by
  idx_vars i
  pointwise
  exact at1_of x _ rfl

theorem blk0 (c : Dev nD) (t : Fin cfg0.N) (r : Fin 512) (l : Fin 1024) :
    (iblk m c 0 t (ix3 0 r l : S1x512x1024.Idx) : EReal) = at3 (m ((c : Thread nD τ).loc main_arg0)) (tb t) (tr t * 512 + r.val) (l.val) := by
  unfold iblk
  refine at3_of (m ((c : Thread nD τ).loc main_arg0)) _ ?_ ?_ ?_
  · blk_simp [index0 t]; rfl
  · blk_simp [index0 t]
  · blk_simp [index0 t]

theorem blk1 (c : Dev nD) (t : Fin cfg0.N) (r : Fin 512) (l : Fin 768) :
    (iblk m c 1 t (ix3 0 r l : S1x512x768.Idx) : EReal) = at3 (m ((c : Thread nD τ).loc main_arg1)) (tb t) (tr t * 512 + r.val) (l.val) := by
  unfold iblk
  refine at3_of (m ((c : Thread nD τ).loc main_arg1)) _ ?_ ?_ ?_
  · blk_simp [index1 t]; rfl
  · blk_simp [index1 t]
  · blk_simp [index1 t]

theorem blk2 (c : Dev nD) (t : Fin cfg0.N) (r : Fin 512) (l : Fin 768) :
    (iblk m c 2 t (ix3 0 r l : S1x512x768.Idx) : EReal) = at3 (m ((c : Thread nD τ).loc main_arg2)) (tb t) (tr t * 512 + r.val) (l.val) := by
  unfold iblk
  refine at3_of (m ((c : Thread nD τ).loc main_arg2)) _ ?_ ?_ ?_
  · blk_simp [index2 t]; rfl
  · blk_simp [index2 t]
  · blk_simp [index2 t]

theorem blk5 (c : Dev nD) (t : Fin cfg0.N) (r : Fin 512) (l : Fin 256) :
    (iblk m c 5 t (ix3 0 r l : S1x512x256.Idx) : EReal) = at3 (m ((c : Thread nD τ).loc main_arg3)) (tb t) (tr t * 512 + r.val) (3840 + l.val) := by
  unfold iblk
  refine at3_of (m ((c : Thread nD τ).loc main_arg3)) _ ?_ ?_ ?_
  · blk_simp [index5 t]; rfl
  · blk_simp [index5 t]
  · blk_simp [index5 t]

theorem blk6 (c : Dev nD) (t : Fin cfg0.N) (r : Fin 256) (l : Fin 512) :
    (iblk m c 6 t (ix3 0 r l : S1x256x512.Idx) : EReal) = at3 (m ((c : Thread nD τ).loc main_arg4)) (tb t) (r.val) (l.val) := by
  unfold iblk
  refine at3_of (m ((c : Thread nD τ).loc main_arg4)) _ ?_ ?_ ?_
  · blk_simp [index6 t]; rfl
  · blk_simp [index6 t]
  · blk_simp [index6 t]

theorem blk3 (c : Dev nD) (t : Fin cfg0.N) (r : Fin 512) (l : Fin 768) :
    (X0_3 m c t (ix3 0 r l : S1x512x768.Idx) : EReal) = at3 (m ((c : Thread nD τ).loc main_arg3)) (tb t) (tr t * 512 + r.val) (3072 + l.val) := by
  unfold X0_3 Pipeline.Window.fill
  refine (dif_pos (moved0_3 t _)).trans ?_
  unfold iblk
  refine at3_of (m ((c : Thread nD τ).loc main_arg3)) _ ?_ ?_ ?_
  · blk_simp [index3 t]; rfl
  · blk_simp [index3 t]
  · blk_simp [index3 t]

theorem blk7 (c : Dev nD) (t : Fin cfg0.N) (r : Fin 1024) (l : Fin 1024) :
    (iblk m c 7 t (ix2 r l : S1024x1024.Idx) : EReal) = at2 (m ((c : Thread nD τ).loc main_arg5)) r.val l.val := by
  unfold iblk
  refine (congrFun (V_v0 m c) _).trans ?_
  refine at2_of (m ((c : Thread nD τ).loc main_arg5)) _ ?_ ?_
  · blk_simp [index7 t]
  · blk_simp [index7 t]

theorem blk10 (c : Dev nD) (t : Fin cfg0.N) (r : Fin 1024) (l : Fin 4096) :
    (iblk m c 10 t (ix2 r l : S1024x4096.Idx) : EReal) = at2 (m ((c : Thread nD τ).loc main_arg8)) r.val l.val := by
  unfold iblk
  refine (congrFun (V_v1 m c) _).trans ?_
  refine at2_of (m ((c : Thread nD τ).loc main_arg8)) _ ?_ ?_
  · blk_simp [index10 t]
  · blk_simp [index10 t]

theorem blk11 (c : Dev nD) (t : Fin cfg0.N) (r : Fin 4096) (l : Fin 1024) :
    (iblk m c 11 t (ix2 r l : S4096x1024.Idx) : EReal) = at2 (m ((c : Thread nD τ).loc main_arg9)) r.val l.val := by
  unfold iblk
  refine (congrFun (V_v2 m c) _).trans ?_
  refine at2_of (m ((c : Thread nD τ).loc main_arg9)) _ ?_ ?_
  · blk_simp [index11 t]
  · blk_simp [index11 t]

theorem blk4 (c : Dev nD) (t : Fin cfg0.N) (l : Fin 128) :
    (iblk m c 4 t (ix2 0 l : S1x128.Idx) : EReal) = at1 (m ((c : Thread nD τ).loc main_arg12)) l.val := by
  unfold iblk
  refine (congrFun (V_v7 m c) _).trans ?_
  refine (cast128 _ _).trans (congrArg (at1 _) ?_)
  blk_simp [index4 t]

theorem blk8 (c : Dev nD) (t : Fin cfg0.N) (l : Fin 1024) :
    (iblk m c 8 t (ix2 0 l : S1x1024.Idx) : EReal) = at1 (m ((c : Thread nD τ).loc main_arg6)) l.val := by
  unfold iblk
  refine (congrFun (V_v3 m c) _).trans ?_
  refine (cast1024 _ _).trans (congrArg (at1 _) ?_)
  blk_simp [index8 t]

theorem blk9 (c : Dev nD) (t : Fin cfg0.N) (l : Fin 1024) :
    (iblk m c 9 t (ix2 0 l : S1x1024.Idx) : EReal) = at1 (m ((c : Thread nD τ).loc main_arg7)) l.val := by
  unfold iblk
  refine (congrFun (V_v4 m c) _).trans ?_
  refine (cast1024 _ _).trans (congrArg (at1 _) ?_)
  blk_simp [index9 t]

theorem blk12 (c : Dev nD) (t : Fin cfg0.N) (l : Fin 1024) :
    (iblk m c 12 t (ix2 0 l : S1x1024.Idx) : EReal) = at1 (m ((c : Thread nD τ).loc main_arg10)) l.val := by
  unfold iblk
  refine (congrFun (V_v5 m c) _).trans ?_
  refine (cast1024 _ _).trans (congrArg (at1 _) ?_)
  blk_simp [index12 t]

theorem blk13 (c : Dev nD) (t : Fin cfg0.N) (l : Fin 1024) :
    (iblk m c 13 t (ix2 0 l : S1x1024.Idx) : EReal) = at1 (m ((c : Thread nD τ).loc main_arg11)) l.val := by
  unfold iblk
  refine (congrFun (V_v6 m c) _).trans ?_
  refine (cast1024 _ _).trans (congrArg (at1 _) ?_)
  blk_simp [index13 t]

end Cert.Kernel2Ideal.Mix

end
-- ==== Proof.MixOut.lean ====
module

public import proofs.«01_k».proof.Proof.MixPay
public import proofs.«01_k».proof.Proof.MixBlk
public import Idealize.ShloMosaic.Lib.Pipeline.ReadBack

@[expose] public section

set_option maxRecDepth 16384

noncomputable section

/-! The output array after the launch. -/

namespace Cert.Kernel2Ideal.Mix

open Idealize.ShloMosaic Idealize.ShloMosaic.TcCoe Idealize.ShloMosaic.Tactic
open Idealize.ShloMosaic.Pipeline (Dat Cfg Window BodyObligation cellOf)
open Cert.Kernel2Ideal Cert.Kernel2Ideal.Gen Cert.Mix Cert.Attn

theorem idxv {s : Shape} (off size : Fin s.rank → ℕ) (inb) (y : (Rect.unit (s := s) off size inb).shape.Idx) (a : Fin s.rank)
    {o m : ℕ} (ho : off a = o) (h : o + (y a).val = m) : ((Rect.unit (s := s) off size inb).idx y a : ℕ) = m := by
  rw [Rect.idx_unit_val, ho, h]

theorem pieces_cons {S : Shape} {e : EltTy} (G : S.Idx → Elt Ideal e) (r : Rect S) (f : r.shape.Idx → Elt Ideal e)
    (L : List (View.Piece (Elt Ideal) S e)) (h : ∀ x, f x = G (r.emb x)) (hL : View.PiecesOf G L) : View.PiecesOf G (⟨r, f⟩ :: L) := ⟨h, hL⟩

/-- A store of blocks of `G` that cover it, read back. -/
theorem readCov_of_pieces {sig : RefSig} {κ : Kind} {sp : Space} {S : Shape} {e : EltTy} (v : View sig κ sp S e) (G : S.Idx → Elt Ideal e)
    (L : List (View.Piece (Elt Ideal) S e)) (hL : View.PiecesOf G L) (hc : ∀ y, ∃ p ∈ L, y ∈ p.1.set) (B : LoadRect S) (j : B.shape.Idx) :
    v.readCov L B j = G (B.idx j) := by
  rw [View.readCov_eq_canon' v L B]
  exact View.canon_apply_of_pieces G L (fun p hp x => hL.mem p hp x) _ (hc _)

section Pieces
variable (QQ K V : ℕ → ℕ → EReal)

/-- The memory attention of every row of the block. -/
def MB : Vec Ideal S512x256 .bf16 := fun y => memk (QQ (y 0).val) K V (y 1).val

theorem piece (q : Vec Ideal S1x128x128 .bf16) (k v : Vec Ideal S1x256x128 .bf16) (t p : ℕ)
    (hq : ∀ r l : Fin 128, q (ix3 0 r l) = QQ (128 * t + r.val) (128 * p + l.val)) (hk : ∀ (m : Fin 256) (l : Fin 128), k (ix3 0 m l) = K m.val (128 * p + l.val))
    (hv : ∀ (m : Fin 256) (l : Fin 128), v (ix3 0 m l) = V m.val (128 * p + l.val))
    (off : Fin 2 → ℕ) (inb) (ho : off = ![128 * t, 128 * p]) (x : (Rect.unit (s := S512x256) off ![128, 128] inb).shape.Idx) :
    k0_pay34 (F := Ideal) k0_pay13 (k0_pay18 k0_pay13 q k) v x = MB QQ K V ((Rect.unit (s := S512x256) off ![128, 128] inb).emb x) := by
  have e0 : ((Rect.unit (s := S512x256) off ![128, 128] inb).emb x 0).val = 128 * t + (x 0).val :=
    idxv (s := S512x256) off ![128, 128] inb x 0 (by rw [ho]; rfl) rfl
  have e1 : ((Rect.unit (s := S512x256) off ![128, 128] inb).emb x 1).val = 128 * p + (x 1).val :=
    idxv (s := S512x256) off ![128, 128] inb x 1 (by rw [ho]; rfl) rfl
  unfold MB
  rw [e0, e1]
  have hx : x = ix2 (x 0) (x 1) := by
    funext a; match a with | ⟨0, _⟩ => rfl | ⟨1, _⟩ => rfl
  rw [hx]
  exact mem_apply q k v (QQ (128 * t + (x 0).val)) K V p (x 0) (hq (x 0)) hk hv (x 1)

end Pieces

/-- The whole block: what its row holds, from what its operands hold. -/
theorem block_apply (r : Fin 512) (P MM X : ℕ → EReal) (W W1 W2 : ℕ → ℕ → EReal) (G1 B1 G2 B2 : ℕ → EReal)
    (v110 : FVec Ideal S512x768 .bf16) (v234 : Vec Ideal S768x1024 .bf16) (M : Vec Ideal S512x256 .bf16) (v414 : Vec Ideal S256x1024 .bf16)
    (v418 : Vec Ideal S1x512x1024 .f32) (v423 v425 v496 v498 : Vec Ideal S1x1024 .f32) (a0 b0 a1 b1 a2 b2 a3 b3 : Vec Ideal S1024x1024 .bf16)
    (hP : ∀ l : Fin 768, v110 (ix2 r l) = P l.val) (hW : ∀ (l : Fin 768) (j : Fin 1024), v234 (ix2 l j) = W l.val j.val)
    (hM : ∀ l : Fin 256, M (ix2 r l) = MM l.val) (hW' : ∀ (l : Fin 256) (j : Fin 1024), v414 (ix2 l j) = W (768 + l.val) j.val)
    (hx : ∀ j : Fin 1024, v418 (ix3 0 r j) = X j.val)
    (hg1 : ∀ j : Fin 1024, v423 (ix2 0 j) = G1 j.val) (hb1 : ∀ j : Fin 1024, v425 (ix2 0 j) = B1 j.val)
    (hg2 : ∀ j : Fin 1024, v496 (ix2 0 j) = G2 j.val) (hb2 : ∀ j : Fin 1024, v498 (ix2 0 j) = B2 j.val)
    (d0 : ∀ i f : Fin 1024, a0 (ix2 i f) = W1 i.val f.val) (e0 : ∀ f j : Fin 1024, b0 (ix2 f j) = W2 f.val j.val)
    (d1 : ∀ i f : Fin 1024, a1 (ix2 i f) = W1 i.val (1024 + f.val)) (e1 : ∀ f j : Fin 1024, b1 (ix2 f j) = W2 (1024 + f.val) j.val)
    (d2 : ∀ i f : Fin 1024, a2 (ix2 i f) = W1 i.val (2048 + f.val)) (e2 : ∀ f j : Fin 1024, b2 (ix2 f j) = W2 (2048 + f.val) j.val)
    (d3 : ∀ i f : Fin 1024, a3 (ix2 i f) = W1 i.val (3072 + f.val)) (e3 : ∀ f j : Fin 1024, b3 (ix2 f j) = W2 (3072 + f.val) j.val)
    (j : Fin 1024) :
    (k0_pay1 (F := Ideal) (k0_pay49 (k0_pay28 v110 v234) M (k0_pay48 v414) (constant S512x1024 .f32 0#32) v418 v423 v425)
      (k0_pay53 (k0_pay50 (k0_pay28 v110 v234) M (k0_pay48 v414) (constant S512x1024 .f32 0#32) v418 v423 v425) k0_pay51
        (k0_pay52 (k0_pay28 v110 v234) M (k0_pay48 v414) (constant S512x1024 .f32 0#32) v418 v423 v425 a0) b0 a1 b1 a2 b2 a3 b3)
      (Scalar.ofBits .f32 0x3FB504F3#32) v496 v498 (ix3 0 r j) : EReal) = outr (x1r X P MM W G1 B1) W1 W2 G2 B2 j.val := by
  have hA := proj_apply r P W v110 v234 hP hW
  have hX := x1_apply r P MM X W G1 B1 (k0_pay28 v110 v234) M v414 v418 v423 v425 hA hM hW' hx hg1 hb1
  have hX' : ∀ i : Fin 1024, (k0_pay50 (F := Ideal) (k0_pay28 v110 v234) M (k0_pay48 v414) (constant S512x1024 .f32 0#32) v418 v423 v425 (ix2 r i) : EReal)
      = x1r X P MM W G1 B1 i.val := hX
  have hH := hid_apply r (x1r X P MM W G1 B1) W1 _ _ _ _ _ _ _ a0 hX' d0
  have hF := ffn_apply r (x1r X P MM W G1 B1) W1 W2 _ _ b0 a1 b1 a2 b2 a3 b3 hX' hH e0 d1 e1 d2 e2 d3 e3
  exact out_apply r (x1r X P MM W G1 B1) W1 W2 G2 B2 _ _ v496 v498 hX hF hg2 hb2 j

/-- One row of the result, from the argument arrays. -/
def rowOut (x0 : S16x4096x1024.Idx → EReal) (x1 x2 : S16x4096x768.Idx → EReal) (x3 : S16x4096x4096.Idx → EReal) (x4 : S16x256x512.Idx → EReal)
    (x5 : S1024x1024.Idx → EReal) (x6 x7 : S1024.Idx → EReal) (x8 : S1024x4096.Idx → EReal) (x9 : S4096x1024.Idx → EReal) (x10 x11 : S1024.Idx → EReal)
    (x12 : S128.Idx → EReal) (b t : ℕ) : ℕ → EReal :=
  outr (x1r (at3 x0 b t) (prim (fun l => at3 x1 b t l + at3 x2 b t l) (at1 x12) fun l => at3 x3 b t (3072 + l))
      (memk (fun l => at3 x3 b t (3840 + l)) (fun u l => at3 x4 b u l) fun u l => at3 x4 b u (256 + l)) (at2 x5) (at1 x6) (at1 x7))
    (at2 x8) (at2 x9) (at1 x10) (at1 x11)

variable (m : (ℓ : Loc nD τ sig) → Buf (Elt Ideal) ℓ)

/-- The row of the launch's arguments. -/
abbrev rowOf (c : Dev nD) : ℕ → ℕ → ℕ → EReal :=
  rowOut (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12))

set_option maxHeartbeats 1000000 in
/-- What the body leaves at point `t`, read at an index of the block. -/
theorem outs_at (c : Dev nD) (t : Fin cfg0.N) (r : Fin 512) (j : Fin 1024) :
    (outsAt0 m c t (ix3 0 r j : S1x512x1024.Idx) : EReal) = rowOf m c (tb t) (tr t * 512 + r.val) j.val := by
  unfold outsAt0
  frame_out
  refine block_apply r _ _ _ _ _ _ _ _ _ _ _ _ _ _ _ _ _ _ _ _ _ _ _ _ _ _ _ ?_ ?_ ?_ ?_ (fun j => blk0 m c t r j) (fun j => blk8 m c t j) (fun j => blk9 m c t j)
    (fun j => blk12 m c t j) (fun j => blk13 m c t j) ?_ ?_ ?_ ?_ ?_ ?_ ?_ ?_ j
  · exact prim_apply _ _ _ _ _ _ _ r (fun l => Ideal.add_congr (blk1 m c t r l) (blk2 m c t r l)) (fun d => blk4 m c t d) (fun l => blk3 m c t r l)
  · intro l j; pointwise; exact blk7 m c t _ j
  · intro l
    refine (readCov_of_pieces (View.whole cc0_scratch0)
      (MB (fun r l => at3 (m ((c : Thread nD τ).loc main_arg3)) (tb t) (tr t * 512 + r) (3840 + l)) (fun u l => at3 (m ((c : Thread nD τ).loc main_arg4)) (tb t) u l)
        fun u l => at3 (m ((c : Thread nD τ).loc main_arg4)) (tb t) u (256 + l)) _ ?_ ?_ _ _).trans ?_
    · refine pieces_cons _ _ _ _ ?_ (pieces_cons _ _ _ _ ?_ (pieces_cons _ _ _ _ ?_ (pieces_cons _ _ _ _ ?_ (pieces_cons _ _ _ _ ?_ (pieces_cons _ _ _ _ ?_ (pieces_cons _ _ _ _ ?_ (pieces_cons _ _ _ _ ?_ trivial)))))))
      · refine piece _ _ _ _ _ _ 3 1 ?_ ?_ ?_ _ _ rfl <;> intro a b <;> pointwise
        · exact (blk5 m c t _ _).trans (congrArg₂ (at3 _ _) (by first | (dsimp only; done) | (dsimp only; omega) | omega) (by first | (dsimp only; done) | (dsimp only; omega) | omega))
        · exact (blk6 m c t _ _).trans (congrArg (at3 _ _ _) (by first | (dsimp only; done) | (dsimp only; omega) | omega))
        · exact (blk6 m c t _ _).trans (congrArg (at3 _ _ _) (by first | (dsimp only; done) | (dsimp only; omega) | omega))
      · refine piece _ _ _ _ _ _ 3 0 ?_ ?_ ?_ _ _ rfl <;> intro a b <;> pointwise
        · exact (blk5 m c t _ _).trans (congrArg₂ (at3 _ _) (by first | (dsimp only; done) | (dsimp only; omega) | omega) (by first | (dsimp only; done) | (dsimp only; omega) | omega))
        · exact (blk6 m c t _ _).trans (congrArg (at3 _ _ _) (by first | (dsimp only; done) | (dsimp only; omega) | omega))
        · exact (blk6 m c t _ _).trans (congrArg (at3 _ _ _) (by first | (dsimp only; done) | (dsimp only; omega) | omega))
      · refine piece _ _ _ _ _ _ 2 1 ?_ ?_ ?_ _ _ rfl <;> intro a b <;> pointwise
        · exact (blk5 m c t _ _).trans (congrArg₂ (at3 _ _) (by first | (dsimp only; done) | (dsimp only; omega) | omega) (by first | (dsimp only; done) | (dsimp only; omega) | omega))
        · exact (blk6 m c t _ _).trans (congrArg (at3 _ _ _) (by first | (dsimp only; done) | (dsimp only; omega) | omega))
        · exact (blk6 m c t _ _).trans (congrArg (at3 _ _ _) (by first | (dsimp only; done) | (dsimp only; omega) | omega))
      · refine piece _ _ _ _ _ _ 2 0 ?_ ?_ ?_ _ _ rfl <;> intro a b <;> pointwise
        · exact (blk5 m c t _ _).trans (congrArg₂ (at3 _ _) (by first | (dsimp only; done) | (dsimp only; omega) | omega) (by first | (dsimp only; done) | (dsimp only; omega) | omega))
        · exact (blk6 m c t _ _).trans (congrArg (at3 _ _ _) (by first | (dsimp only; done) | (dsimp only; omega) | omega))
        · exact (blk6 m c t _ _).trans (congrArg (at3 _ _ _) (by first | (dsimp only; done) | (dsimp only; omega) | omega))
      · refine piece _ _ _ _ _ _ 1 1 ?_ ?_ ?_ _ _ rfl <;> intro a b <;> pointwise
        · exact (blk5 m c t _ _).trans (congrArg₂ (at3 _ _) (by first | (dsimp only; done) | (dsimp only; omega) | omega) (by first | (dsimp only; done) | (dsimp only; omega) | omega))
        · exact (blk6 m c t _ _).trans (congrArg (at3 _ _ _) (by first | (dsimp only; done) | (dsimp only; omega) | omega))
        · exact (blk6 m c t _ _).trans (congrArg (at3 _ _ _) (by first | (dsimp only; done) | (dsimp only; omega) | omega))
      · refine piece _ _ _ _ _ _ 1 0 ?_ ?_ ?_ _ _ rfl <;> intro a b <;> pointwise
        · exact (blk5 m c t _ _).trans (congrArg₂ (at3 _ _) (by first | (dsimp only; done) | (dsimp only; omega) | omega) (by first | (dsimp only; done) | (dsimp only; omega) | omega))
        · exact (blk6 m c t _ _).trans (congrArg (at3 _ _ _) (by first | (dsimp only; done) | (dsimp only; omega) | omega))
        · exact (blk6 m c t _ _).trans (congrArg (at3 _ _ _) (by first | (dsimp only; done) | (dsimp only; omega) | omega))
      · refine piece _ _ _ _ _ _ 0 1 ?_ ?_ ?_ _ _ rfl <;> intro a b <;> pointwise
        · exact (blk5 m c t _ _).trans (congrArg₂ (at3 _ _) (by first | (dsimp only; done) | (dsimp only; omega) | omega) (by first | (dsimp only; done) | (dsimp only; omega) | omega))
        · exact (blk6 m c t _ _).trans (congrArg (at3 _ _ _) (by first | (dsimp only; done) | (dsimp only; omega) | omega))
        · exact (blk6 m c t _ _).trans (congrArg (at3 _ _ _) (by first | (dsimp only; done) | (dsimp only; omega) | omega))
      · refine piece _ _ _ _ _ _ 0 0 ?_ ?_ ?_ _ _ rfl <;> intro a b <;> pointwise
        · exact (blk5 m c t _ _).trans (congrArg₂ (at3 _ _) (by first | (dsimp only; done) | (dsimp only; omega) | omega) (by first | (dsimp only; done) | (dsimp only; omega) | omega))
        · exact (blk6 m c t _ _).trans (congrArg (at3 _ _ _) (by first | (dsimp only; done) | (dsimp only; omega) | omega))
        · exact (blk6 m c t _ _).trans (congrArg (at3 _ _ _) (by first | (dsimp only; done) | (dsimp only; omega) | omega))
    · exact View.cover_of_tiledL _ S128x128.size (by sl_kernel_rfl)
    · exact congrArg₂ (fun u w : ℕ => memk (fun l => at3 (m ((c : Thread nD τ).loc main_arg3)) (tb t) (tr t * 512 + u) (3840 + l))
        (fun u l => at3 (m ((c : Thread nD τ).loc main_arg4)) (tb t) u l) (fun u l => at3 (m ((c : Thread nD τ).loc main_arg4)) (tb t) u (256 + l)) w)
        (idxv (s := S512x256) ![0, 0] ![512, 256] _ (ix2 r l) 0 rfl (Nat.zero_add _)) (idxv (s := S512x256) ![0, 0] ![512, 256] _ (ix2 r l) 1 rfl (Nat.zero_add _))
  all_goals (intro a b; pointwise)
  · exact blk7 m c t _ b
  · exact blk10 m c t a _
  · exact blk11 m c t _ b
  · exact blk10 m c t a _
  · exact blk11 m c t _ b
  · exact blk10 m c t a _
  · exact blk11 m c t _ b
  · exact blk10 m c t a _
  · exact blk11 m c t _ b

theorem outs_at' (c : Dev nD) (t : Fin cfg0.N) (y : S1x512x1024.Idx) :
    (outsAt0 m c t y : EReal) = rowOf m c (tb t) (tr t * 512 + (y 1).val) (y 2).val := by
  have hy : y = ix3 0 (y 1) (y 2) := by
    funext a; match a with | ⟨0, _⟩ => exact Fin.ext (by have : (y 0).val < 1 := (y 0).isLt; show (y 0).val = 0; omega) | ⟨1, _⟩ => rfl | ⟨2, _⟩ => rfl
  exact (congrArg (outsAt0 m c t) hy).trans (outs_at m c t (y 1) (y 2))

/-- The result over every index. -/
def mixOut (x0 : S16x4096x1024.Idx → EReal) (x1 x2 : S16x4096x768.Idx → EReal) (x3 : S16x4096x4096.Idx → EReal) (x4 : S16x256x512.Idx → EReal)
    (x5 : S1024x1024.Idx → EReal) (x6 x7 : S1024.Idx → EReal) (x8 : S1024x4096.Idx → EReal) (x9 : S4096x1024.Idx → EReal) (x10 x11 : S1024.Idx → EReal)
    (x12 : S128.Idx → EReal) : S16x4096x1024.Idx → EReal :=
  fun i => rowOut x0 x1 x2 x3 x4 x5 x6 x7 x8 x9 x10 x11 x12 (i 0).val (i 1).val (i 2).val

theorem mixOut_of (x0 : S16x4096x1024.Idx → EReal) (x1 x2 : S16x4096x768.Idx → EReal) (x3 : S16x4096x4096.Idx → EReal) (x4 : S16x256x512.Idx → EReal)
    (x5 : S1024x1024.Idx → EReal) (x6 x7 : S1024.Idx → EReal) (x8 : S1024x4096.Idx → EReal) (x9 : S4096x1024.Idx → EReal) (x10 x11 : S1024.Idx → EReal)
    (x12 : S128.Idx → EReal) (i : S16x4096x1024.Idx) {a b d : ℕ} (h0 : a = (i 0).val) (h1 : b = (i 1).val) (h2 : d = (i 2).val) :
    rowOut x0 x1 x2 x3 x4 x5 x6 x7 x8 x9 x10 x11 x12 a b d = mixOut x0 x1 x2 x3 x4 x5 x6 x7 x8 x9 x10 x11 x12 i := by
  subst h0 h1 h2; rfl

/-- The output array after the launch. -/
theorem final (c : Dev nD) :
    (dats m 0 c).arrAt 14 cfg0.N = mixOut (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11))
      (m ((c : Thread nD τ).loc main_arg12)) := by
  refine (dats m 0 c).arrAt_eq_of_covers 14 _ (by decide +kernel) fun t hf y => ?_
  rw [after0_14]
  blk_simp
  refine (outs_at' m c t _).trans (mixOut_of _ _ _ _ _ _ _ _ _ _ _ _ _ _ ?_ ?_ ?_)
  · blk_simp [index14 t]
  · blk_simp [index14 t]
  · blk_simp [index14 t]

end Cert.Kernel2Ideal.Mix
end
-- ==== Proof.Ref2Read.lean ====
module

public import proofs.«01_k».proof.Proof.Gen.Reference2Ideal.Read
public import proofs.«01_k».proof.Proof.Mix

@[expose] public section

set_option maxRecDepth 16384

noncomputable section

/-! The reference's second half of the layer, read at an index. -/

namespace Cert.Ref2

open Cert.Reference2Ideal Cert.Reference2Ideal.Gen Cert.Reference2Ideal.Read Idealize.ShloMosaic Cert.Attn Cert.Mix

theorem zero_f32 : Ideal.ofBits .f32 0x00000000#32 = 0 := by simp [Ideal.ofBits, Ideal.ieee]
theorem one_f32 : Ideal.ofBits .f32 0x3F800000#32 = 1 := by
  rw [← EReal.coe_one]; simp [Ideal.ofBits, Ideal.ieee, ← EReal.coe_mul]; norm_num

variable (x0 : (⟨S16x4096x1024, .f32⟩ : BufTy).Contents (Elt Ideal)) (x1 x2 : (⟨S16x4096x768, .bf16⟩ : BufTy).Contents (Elt Ideal))
  (x3 : (⟨S16x4096x4096, .bf16⟩ : BufTy).Contents (Elt Ideal)) (x4 : (⟨S16x256x512, .bf16⟩ : BufTy).Contents (Elt Ideal))
  (x5 : (⟨S1024x1024, .f32⟩ : BufTy).Contents (Elt Ideal)) (x6 x7 : (⟨S1024, .f32⟩ : BufTy).Contents (Elt Ideal))
  (x8 : (⟨S1024x4096, .f32⟩ : BufTy).Contents (Elt Ideal)) (x9 : (⟨S4096x1024, .f32⟩ : BufTy).Contents (Elt Ideal))
  (x10 x11 : (⟨S1024, .f32⟩ : BufTy).Contents (Elt Ideal)) (x12 : (⟨S128, .f32⟩ : BufTy).Contents (Elt Ideal))

/-- The summed scans of a token. -/
def oo (b t l : ℕ) : EReal := at3 x1 b t l + at3 x2 b t l
/-- The gate of a token. -/
def gg (b t l : ℕ) : EReal := at3 x3 b t (3072 + l)
/-- The memory query of a token. -/
def qq (b t l : ℕ) : EReal := at3 x3 b t (3840 + l)
/-- The memory keys of a batch. -/
def kk (b u l : ℕ) : EReal := at3 x4 b u l
/-- The memory values of a batch. -/
def vv (b u l : ℕ) : EReal := at3 x4 b u (256 + l)

theorem v10_at (i : S16x4096x768.Idx) : val_main_v10 (F := Ideal) x1 x2 i = oo x1 x2 (i 0).val (i 1).val (i 2).val :=
  Ideal.add_congr (at3_of x1 i rfl rfl rfl) (at3_of x2 i rfl rfl rfl)

theorem v11_at (i : S16x4096x6x128.Idx) :
    val_main_v11 (F := Ideal) x1 x2 i = oo x1 x2 (i 0).val (i 1).val (128 * (i 2).val + (i 3).val) := by
  have h0 : (i 0).val < 16 := (i 0).isLt
  have h1 : (i 1).val < 4096 := (i 1).isLt
  have h2 : (i 2).val < 6 := (i 2).isLt
  have h3 : (i 3).val < 128 := (i 3).isLt
  rw [val_main_v11_apply, v10_at]
  refine congr (congr (congrArg (oo x1 x2) ?_) ?_) ?_
  · show ((((i 0).val * 4096 + (i 1).val) * 6 + (i 2).val) * 128 + (i 3).val) / 3145728 = _; omega
  · show ((((i 0).val * 4096 + (i 1).val) * 6 + (i 2).val) * 128 + (i 3).val) / 768 % 4096 = _; omega
  · show ((((i 0).val * 4096 + (i 1).val) * 6 + (i 2).val) * 128 + (i 3).val) % 768 = _; omega

theorem v13_at (i : S16x4096x6.Idx) : val_main_v13 (F := Ideal) x1 x2 i
    = ∑ e : Fin 128, oo x1 x2 (i 0).val (i 1).val (128 * (i 2).val + e.val) * oo x1 x2 (i 0).val (i 1).val (128 * (i 2).val + e.val) := by
  rw [val_main_v13_apply]
  refine (Ideal.add_congr zero_f32 (Finset.sum_congr rfl fun k _ => ?_)).trans (zero_add _)
  exact Ideal.mul_congr (v11_at x1 x2 _) (v11_at x1 x2 _)

theorem v24_at (i : S16x4096x6x128.Idx) : val_main_v24 (F := Ideal) x1 x2 x12 i
    = oo x1 x2 (i 0).val (i 1).val (128 * (i 2).val + (i 3).val)
      * Ideal.rsqrt (Ideal.div (∑ e : Fin 128, oo x1 x2 (i 0).val (i 1).val (128 * (i 2).val + e.val) * oo x1 x2 (i 0).val (i 1).val (128 * (i 2).val + e.val))
        (Ideal.ofBits .f32 0x43000000#32) + Ideal.ofBits .f32 0x358637BD#32) * at1 x12 (i 3).val := by
  rw [val_main_v24_apply, val_main_v21_apply, val_main_v20_apply, val_main_v19_apply, val_main_v18_apply, val_main_v16_apply, val_main_v14_apply, val_main_v15_apply,
    val_main_v17_apply, val_main_v23_apply, val_main_v22_apply, v11_at, v13_at]
  exact Ideal.mul_congr rfl (at1_of x12 _ rfl)

theorem v1_at (i : S16x4096x768.Idx) : val_main_v1 (F := Ideal) x3 i = gg x3 (i 0).val (i 1).val (i 2).val := by
  rw [val_main_v1_apply, val_main_v0_apply]
  exact at3_of x3 _ rfl rfl rfl

theorem v26_at (i : S16x4096x768.Idx) : val_main_v26 (F := Ideal) x3 i
    = gg x3 (i 0).val (i 1).val (i 2).val * Ideal.logistic (gg x3 (i 0).val (i 1).val (i 2).val) := by
  refine Ideal.mul_congr (v1_at x3 i) ?_
  rw [val_main_call0_v5_apply, val_main_call0_v4_apply, val_main_call0_v3_apply, val_main_call0_v2_apply, val_main_call0_v1_apply, val_main_call0_v0_apply, v1_at]
  exact congrArg₂ Ideal.div one_f32 (Ideal.add_congr one_f32 rfl)

theorem v27_at (i : S16x4096x768.Idx) : val_main_v27 (F := Ideal) x1 x2 x3 x12 i
    = prim (oo x1 x2 (i 0).val (i 1).val) (at1 x12) (gg x3 (i 0).val (i 1).val) (i 2).val := by
  have h0 : (i 0).val < 16 := (i 0).isLt
  have h1 : (i 1).val < 4096 := (i 1).isLt
  have h2 : (i 2).val < 768 := (i 2).isLt
  have e0 : (((i 0).val * 4096 + (i 1).val) * 768 + (i 2).val) / 3145728 = (i 0).val := by omega
  have e1 : (((i 0).val * 4096 + (i 1).val) * 768 + (i 2).val) / 768 % 4096 = (i 1).val := by omega
  have e2 : (((i 0).val * 4096 + (i 1).val) * 768 + (i 2).val) / 128 % 6 = (i 2).val / 128 := by omega
  have e3 : (((i 0).val * 4096 + (i 1).val) * 768 + (i 2).val) % 128 = (i 2).val % 128 := by omega
  have e4 : (i 2).val = 128 * ((i 2).val / 128) + (i 2).val % 128 := by omega
  rw [val_main_v27_apply, val_main_v25_apply, v24_at, v26_at]
  dsimp only
  rw [e0, e1, e2, e3]
  exact headn_of (o := oo x1 x2 (i 0).val (i 1).val) (nw := at1 x12) (g := gg x3 (i 0).val (i 1).val) _ _ rfl (fun _ => rfl) rfl
    (congrArg (gg x3 (i 0).val (i 1).val) e4)

theorem v30_at (i : S16x4096x4x64.Idx) :
    val_main_v30 (F := Ideal) x3 i = qq x3 (i 0).val (i 1).val (64 * (i 2).val + (i 3).val) * Ideal.ofBits .f32 0x3E000000#32 := by
  have h0 : (i 0).val < 16 := (i 0).isLt
  have h1 : (i 1).val < 4096 := (i 1).isLt
  have h2 : (i 2).val < 4 := (i 2).isLt
  have h3 : (i 3).val < 64 := (i 3).isLt
  rw [val_main_v30_apply, val_main_v28_apply, val_main_v29_apply, val_main_v3_apply, val_main_v2_apply]
  refine Ideal.mul_congr (at3_of x3 _ ?_ ?_ ?_) rfl
  · show ((((i 0).val * 4096 + (i 1).val) * 4 + (i 2).val) * 64 + (i 3).val) / 1048576 = _; omega
  · show ((((i 0).val * 4096 + (i 1).val) * 4 + (i 2).val) * 64 + (i 3).val) / 256 % 4096 = _; omega
  · show 3840 + ((((i 0).val * 4096 + (i 1).val) * 4 + (i 2).val) * 64 + (i 3).val) % 256 = _; omega

theorem v31_at (i : S16x256x4x64.Idx) : val_main_v31 (F := Ideal) x4 i = kk x4 (i 0).val (i 1).val (64 * (i 2).val + (i 3).val) := by
  have h0 : (i 0).val < 16 := (i 0).isLt
  have h1 : (i 1).val < 256 := (i 1).isLt
  have h2 : (i 2).val < 4 := (i 2).isLt
  have h3 : (i 3).val < 64 := (i 3).isLt
  rw [val_main_v31_apply, val_main_v5_apply, val_main_v4_apply]
  refine at3_of x4 _ ?_ ?_ ?_
  · show ((((i 0).val * 256 + (i 1).val) * 4 + (i 2).val) * 64 + (i 3).val) / 65536 = _; omega
  · show ((((i 0).val * 256 + (i 1).val) * 4 + (i 2).val) * 64 + (i 3).val) / 256 % 256 = _; omega
  · show ((((i 0).val * 256 + (i 1).val) * 4 + (i 2).val) * 64 + (i 3).val) % 256 = _; omega

theorem v32_at (i : S16x256x4x64.Idx) : val_main_v32 (F := Ideal) x4 i = vv x4 (i 0).val (i 1).val (64 * (i 2).val + (i 3).val) := by
  have h0 : (i 0).val < 16 := (i 0).isLt
  have h1 : (i 1).val < 256 := (i 1).isLt
  have h2 : (i 2).val < 4 := (i 2).isLt
  have h3 : (i 3).val < 64 := (i 3).isLt
  rw [val_main_v32_apply, val_main_v7_apply, val_main_v6_apply]
  refine at3_of x4 _ ?_ ?_ ?_
  · show ((((i 0).val * 256 + (i 1).val) * 4 + (i 2).val) * 64 + (i 3).val) / 65536 = _; omega
  · show ((((i 0).val * 256 + (i 1).val) * 4 + (i 2).val) * 64 + (i 3).val) / 256 % 256 = _; omega
  · show 256 + ((((i 0).val * 256 + (i 1).val) * 4 + (i 2).val) * 64 + (i 3).val) % 256 = _; omega

theorem v33_at (i : S16x4x4096x256.Idx) :
    val_main_v33 (F := Ideal) x3 x4 i = sco (qq x3 (i 0).val (i 2).val) (kk x4 (i 0).val) (i 1).val (i 3).val := by
  rw [val_main_v33_apply]
  exact Finset.sum_congr rfl fun d _ => Ideal.mul_congr (v30_at x3 _) (v31_at x4 _)

theorem reduceMax_at (y : S16x4x4096x256.Idx → EReal) (z : S_.Idx → EReal) (hz : ∀ i, z i = ⊥) (b : Fin 16) (n : Fin 4) (t : Fin 4096) :
    Host.reduce (FloatOps.maximumf (F := Ideal) (φ := .f32)) y z reducesTo_S16x4x4096x256_S16x4x4096_d3 h_S_ (ix3 b n t) = Finset.univ.sup fun k : Fin 256 => y (ix4 b n t k) := by
  have hr : S16x4x4096x256.Reduces [3] S16x4x4096 := by decide
  have hf : ∀ k : Fin 256, hr.lift (ix3 b n t) k = ix4 b n t k := by
    intro k
    funext a; match a with
    | ⟨0, _⟩ => rfl
    | ⟨1, _⟩ => rfl
    | ⟨2, _⟩ => rfl
    | ⟨3, _⟩ => rfl
  refine (Host.reduce_eq_fold_single _ y z reducesTo_S16x4x4096x256_S16x4x4096_d3 hr h_S_ (ix3 b n t)).trans ?_
  rw [hz]
  exact (congrArg (fun f => Finset.fold (max : EReal → EReal → EReal) ⊥ f (Finset.univ : Finset (Fin 256))) (funext fun k => congrArg y (hf k))).trans (fold_max_eq_sup _)

theorem v36_at (i : S16x4x4096.Idx) : val_main_v36 (F := Ideal) x3 x4 i
    = Finset.univ.sup fun m : Fin 256 => sco (qq x3 (i 0).val (i 2).val) (kk x4 (i 0).val) (i 1).val m.val := by
  have h : val_main_v34 (F := Ideal) x3 x4 i = Finset.univ.sup fun m : Fin 256 => sco (qq x3 (i 0).val (i 2).val) (kk x4 (i 0).val) (i 1).val m.val := by
    rw [eq_ix3 i]
    unfold val_main_v34
    refine (reduceMax_at _ _ (fun i => (val_main_cst_3_apply i).trans Cert.Attn.neg_inf) (i 0) (i 1) (i 2)).trans ?_
    exact congrArg (Finset.univ : Finset (Fin 256)).sup (funext fun k => v33_at x3 x4 _)
  rw [val_main_v36_apply, h]
  exact (congrArg₂ (fun a c : EReal => max a c) Cert.Attn.neg_inf rfl).trans (bot_sup_eq _)

theorem v40_at (i : S16x4x4096x256.Idx) :
    val_main_v40 (F := Ideal) x3 x4 i = wei (qq x3 (i 0).val (i 2).val) (kk x4 (i 0).val) (i 1).val (i 3).val := by
  rw [val_main_v40_apply, val_main_v39_apply, val_main_v38_apply, val_main_v37_apply, v33_at, v36_at]
  rfl

theorem v44_at (i : S16x4x4096x256.Idx) : val_main_v44 (F := Ideal) x3 x4 i
    = Ideal.div (wei (qq x3 (i 0).val (i 2).val) (kk x4 (i 0).val) (i 1).val (i 3).val)
      (∑ m : Fin 256, wei (qq x3 (i 0).val (i 2).val) (kk x4 (i 0).val) (i 1).val m.val) := by
  rw [val_main_v44_apply, val_main_v43_apply, val_main_v42_apply, val_main_v41_apply, v40_at]
  refine congrArg₂ Ideal.div rfl ((Ideal.add_congr zero_f32 (Finset.sum_congr rfl fun k _ => ?_)).trans (zero_add _))
  exact v40_at x3 x4 _

theorem v47_at (i : S16x4096x256.Idx) : val_main_v47 (F := Ideal) x3 x4 i
    = memr (qq x3 (i 0).val (i 1).val) (kk x4 (i 0).val) (vv x4 (i 0).val) (i 2).val := by
  have h0 : (i 0).val < 16 := (i 0).isLt
  have h1 : (i 1).val < 4096 := (i 1).isLt
  have h2 : (i 2).val < 256 := (i 2).isLt
  have e0 : (((i 0).val * 4096 + (i 1).val) * 256 + (i 2).val) / 1048576 = (i 0).val := by omega
  have e1 : (((i 0).val * 4096 + (i 1).val) * 256 + (i 2).val) / 256 % 4096 = (i 1).val := by omega
  have e2 : (((i 0).val * 4096 + (i 1).val) * 256 + (i 2).val) / 64 % 4 = (i 2).val / 64 := by omega
  have e3 : (((i 0).val * 4096 + (i 1).val) * 256 + (i 2).val) % 64 = (i 2).val % 64 := by omega
  have e4 : 64 * ((i 2).val / 64) + (i 2).val % 64 = (i 2).val := by omega
  rw [val_main_v47_apply, val_main_v46_apply, val_main_v45_apply]
  refine Finset.sum_congr rfl fun m _ => ?_
  rw [v32_at, v44_at]
  dsimp only
  rw [e0, e1, e2, e3, e4]

theorem v48_lo (i : S16x4096x1024.Idx) (h : (i 2).val < 768) : val_main_v48 (F := Ideal) x1 x2 x3 x4 x12 i
    = prim (oo x1 x2 (i 0).val (i 1).val) (at1 x12) (gg x3 (i 0).val (i 1).val) (i 2).val := by
  refine (concatenate_pair_apply_left 2 _ _ concatenates_S16x4096x768_S16x4096x256_S16x4096x1024_d2 i rfl (ix3 (i 0) (i 1) ⟨(i 2).val, h⟩ : S16x4096x768.Idx) ?_).trans
    (v27_at x1 x2 x3 x12 _)
  intro a; match a with | ⟨0, _⟩ => rfl | ⟨1, _⟩ => rfl | ⟨2, _⟩ => rfl

theorem v48_hi (i : S16x4096x1024.Idx) (l : ℕ) (hl : l < 256) (h : (i 2).val = 768 + l) : val_main_v48 (F := Ideal) x1 x2 x3 x4 x12 i
    = memr (qq x3 (i 0).val (i 1).val) (kk x4 (i 0).val) (vv x4 (i 0).val) l := by
  refine (concatenate_pair_apply_right 2 _ _ concatenates_S16x4096x768_S16x4096x256_S16x4096x1024_d2 i rfl rfl (ix3 (i 0) (i 1) ⟨l, hl⟩ : S16x4096x256.Idx) ?_ ?_).trans
    (v47_at x3 x4 _)
  · intro a; match a with | ⟨0, _⟩ => exact fun _ => rfl | ⟨1, _⟩ => exact fun _ => rfl | ⟨2, _⟩ => exact fun h => absurd rfl h
  · show l + 768 = (i 2).val
    omega

/-- The projected row of a token. -/
def mm (b t j : ℕ) : EReal :=
  mixr (prim (oo x1 x2 b t) (at1 x12) (gg x3 b t)) (memr (qq x3 b t) (kk x4 b) (vv x4 b)) (at2 x5) j

theorem v49_at (i : S16x4096x1024.Idx) : val_main_v49 (F := Ideal) x1 x2 x3 x4 x5 x12 i = mm x1 x2 x3 x4 x5 x12 (i 0).val (i 1).val (i 2).val := by
  rw [val_main_v49_apply, Fin.sum_univ_two_halves 768 256 rfl]
  refine Ideal.add_congr (Finset.sum_congr rfl fun l _ => ?_) (Finset.sum_congr rfl fun l _ => ?_)
  · exact Ideal.mul_congr (v48_lo x1 x2 x3 x4 x12 _ l.isLt) (at2_of x5 _ rfl rfl)
  · exact Ideal.mul_congr (v48_hi x1 x2 x3 x4 x12 _ l.val l.isLt rfl) (at2_of x5 _ rfl rfl)

/-- The row before the first norm. -/
def y1 (b t j : ℕ) : EReal := Ideal.ofBits .f32 0x3FB504F3#32 * at3 x0 b t j + mm x1 x2 x3 x4 x5 x12 b t j

theorem v52_at (i : S16x4096x1024.Idx) : val_main_v52 (F := Ideal) x0 x1 x2 x3 x4 x5 x12 i = y1 x0 x1 x2 x3 x4 x5 x12 (i 0).val (i 1).val (i 2).val := by
  rw [val_main_v52_apply, val_main_v51_apply, val_main_v50_apply, v49_at]
  exact Ideal.add_congr (Ideal.mul_congr rfl (at3_of x0 i rfl rfl rfl)) rfl

theorem v56_at (i : S16x4096x1.Idx) : val_main_v56 (F := Ideal) x0 x1 x2 x3 x4 x5 x12 i
    = Ideal.div (∑ j : Fin 1024, y1 x0 x1 x2 x3 x4 x5 x12 (i 0).val (i 1).val j.val) (Ideal.ofBits .f32 0x44800000#32) := by
  rw [val_main_v56_apply, val_main_v55_apply, val_main_v54_apply, val_main_v53_apply]
  refine congrArg₂ Ideal.div ((Ideal.add_congr zero_f32 (Finset.sum_congr rfl fun k _ => ?_)).trans (zero_add _)) rfl
  exact v52_at x0 x1 x2 x3 x4 x5 x12 _

theorem v58_at (i : S16x4096x1024.Idx) : val_main_v58 (F := Ideal) x0 x1 x2 x3 x4 x5 x12 i
    = y1 x0 x1 x2 x3 x4 x5 x12 (i 0).val (i 1).val (i 2).val
      - Ideal.div (∑ j : Fin 1024, y1 x0 x1 x2 x3 x4 x5 x12 (i 0).val (i 1).val j.val) (Ideal.ofBits .f32 0x44800000#32) := by
  rw [val_main_v58_apply, val_main_v57_apply, v52_at, v56_at]
  rfl

theorem v76_at (i : S16x4096x1024.Idx) : val_main_v76 (F := Ideal) x0 x1 x2 x3 x4 x5 x6 x7 x12 i
    = lnr (y1 x0 x1 x2 x3 x4 x5 x12 (i 0).val (i 1).val) (at1 x6) (at1 x7) (i 2).val := by
  rw [val_main_v76_apply, val_main_v75_apply, val_main_v74_apply, val_main_v73_apply, val_main_v72_apply, val_main_v71_apply, val_main_v70_apply, val_main_v69_apply,
    val_main_v68_apply, val_main_v67_apply, val_main_v66_apply, val_main_v65_apply, val_main_v64_apply, val_main_v63_apply, val_main_v62_apply, val_main_v61_apply,
    val_main_v60_apply, v52_at, v56_at]
  refine Ideal.add_congr (Ideal.mul_congr (Ideal.mul_congr rfl (congrArg Ideal.rsqrt (Ideal.add_congr (congrArg₂ Ideal.div
    ((Ideal.add_congr zero_f32 (Finset.sum_congr rfl fun k _ => ?_)).trans (zero_add _)) rfl) rfl))) (at1_of x6 _ rfl)) (at1_of x7 _ rfl)
  exact Ideal.mul_congr (v58_at x0 x1 x2 x3 x4 x5 x12 _) (v58_at x0 x1 x2 x3 x4 x5 x12 _)

/-- The first norm's row. -/
def z1 (b t j : ℕ) : EReal := lnr (y1 x0 x1 x2 x3 x4 x5 x12 b t) (at1 x6) (at1 x7) j

theorem v79_at (i : S16x4096x4096.Idx) : val_main_v79 (F := Ideal) x0 x1 x2 x3 x4 x5 x6 x7 x8 x12 i
    = hid (z1 x0 x1 x2 x3 x4 x5 x6 x7 x12 (i 0).val (i 1).val) (at2 x8) (i 2).val := by
  have h : val_main_v78 (F := Ideal) x0 x1 x2 x3 x4 x5 x6 x7 x8 x12 i
      = max (∑ j : Fin 1024, z1 x0 x1 x2 x3 x4 x5 x6 x7 x12 (i 0).val (i 1).val j.val * at2 x8 j.val (i 2).val) 0 := by
    rw [val_main_v78_apply, val_main_v77_apply]
    refine congrArg₂ (fun a c : EReal => max a c) (Finset.sum_congr rfl fun k _ => ?_) ?_
    · exact Ideal.mul_congr (v76_at x0 x1 x2 x3 x4 x5 x6 x7 x12 _) (at2_of x8 _ rfl rfl)
    · rw [val_main_call1_v0_apply]; exact zero_f32
  exact Ideal.mul_congr h h

/-- The row before the second norm. -/
def y2 (b t j : ℕ) : EReal :=
  Ideal.ofBits .f32 0x3FB504F3#32 * z1 x0 x1 x2 x3 x4 x5 x6 x7 x12 b t j + ffn (z1 x0 x1 x2 x3 x4 x5 x6 x7 x12 b t) (at2 x8) (at2 x9) j

theorem v83_at (i : S16x4096x1024.Idx) : val_main_v83 (F := Ideal) x0 x1 x2 x3 x4 x5 x6 x7 x8 x9 x12 i
    = y2 x0 x1 x2 x3 x4 x5 x6 x7 x8 x9 x12 (i 0).val (i 1).val (i 2).val := by
  rw [val_main_v83_apply, val_main_v81_apply, val_main_v80_apply, val_main_v82_apply, v76_at]
  refine Ideal.add_congr rfl (Finset.sum_congr rfl fun f _ => ?_)
  exact Ideal.mul_congr (v79_at x0 x1 x2 x3 x4 x5 x6 x7 x8 x12 _) (at2_of x9 _ rfl rfl)

theorem v87_at (i : S16x4096x1.Idx) : val_main_v87 (F := Ideal) x0 x1 x2 x3 x4 x5 x6 x7 x8 x9 x12 i
    = Ideal.div (∑ j : Fin 1024, y2 x0 x1 x2 x3 x4 x5 x6 x7 x8 x9 x12 (i 0).val (i 1).val j.val) (Ideal.ofBits .f32 0x44800000#32) := by
  rw [val_main_v87_apply, val_main_v86_apply, val_main_v85_apply, val_main_v84_apply]
  refine congrArg₂ Ideal.div ((Ideal.add_congr zero_f32 (Finset.sum_congr rfl fun k _ => ?_)).trans (zero_add _)) rfl
  exact v83_at x0 x1 x2 x3 x4 x5 x6 x7 x8 x9 x12 _

theorem v89_at (i : S16x4096x1024.Idx) : val_main_v89 (F := Ideal) x0 x1 x2 x3 x4 x5 x6 x7 x8 x9 x12 i
    = y2 x0 x1 x2 x3 x4 x5 x6 x7 x8 x9 x12 (i 0).val (i 1).val (i 2).val
      - Ideal.div (∑ j : Fin 1024, y2 x0 x1 x2 x3 x4 x5 x6 x7 x8 x9 x12 (i 0).val (i 1).val j.val) (Ideal.ofBits .f32 0x44800000#32) := by
  rw [val_main_v89_apply, val_main_v88_apply, v83_at, v87_at]
  rfl

/-- The reference's result. -/
theorem v107_at (i : S16x4096x1024.Idx) : val_main_v107 (F := Ideal) x0 x1 x2 x3 x4 x5 x6 x7 x8 x9 x10 x11 x12 i
    = lnr (y2 x0 x1 x2 x3 x4 x5 x6 x7 x8 x9 x12 (i 0).val (i 1).val) (at1 x10) (at1 x11) (i 2).val := by
  rw [val_main_v107_apply, val_main_v106_apply, val_main_v105_apply, val_main_v104_apply, val_main_v103_apply, val_main_v102_apply, val_main_v101_apply, val_main_v100_apply,
    val_main_v99_apply, val_main_v98_apply, val_main_v97_apply, val_main_v96_apply, val_main_v95_apply, val_main_v94_apply, val_main_v93_apply, val_main_v92_apply,
    val_main_v91_apply, v83_at, v87_at]
  refine Ideal.add_congr (Ideal.mul_congr (Ideal.mul_congr rfl (congrArg Ideal.rsqrt (Ideal.add_congr (congrArg₂ Ideal.div
    ((Ideal.add_congr zero_f32 (Finset.sum_congr rfl fun k _ => ?_)).trans (zero_add _)) rfl) rfl))) (at1_of x10 _ rfl)) (at1_of x11 _ rfl)
  exact Ideal.mul_congr (v89_at x0 x1 x2 x3 x4 x5 x6 x7 x8 x9 x12 _) (v89_at x0 x1 x2 x3 x4 x5 x6 x7 x8 x9 x12 _)

end Cert.Ref2

end
-- ==== Proof.MixClaims.lean ====
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.MixOut
public import proofs.«01_k».proof.Proof.Ref2Read
public import proofs.«01_k».proof.Proof.Finite
public import Idealize.ShloMosaic.Lib.Quiescent

@[expose] public section

noncomputable section

/-! The claims about the second layer's second half, from its two runs and the law between the two values. -/

namespace Cert.MixClaims

open Idealize.ShloMosaic Idealize.SL.Sem Cert.Attn Cert.Mix

theorem facts : Cert.Pre_finite2.Facts where
  slices_S16x4096x4096_S16x4096x256_0_0_3840 := by decide
  bitsLt_bf16_f32 := by decide
  bcast_S_S16x4096x256 := by decide
  slices_S16x256x512_S16x256x256_0_0_0 := by decide
  bcast_S_S16x256x256 := by decide

local instance : Cert.Pre_finite2.Facts := facts

/-- The precondition: the memory queries and the memory keys are real. -/
theorem fin_args {x0 : FVec Ideal Cert.Pre_finite2.S16x4096x1024 .f32} {x1 x2 : FVec Ideal Cert.Pre_finite2.S16x4096x768 .bf16}
    {x3 : FVec Ideal Cert.Pre_finite2.S16x4096x4096 .bf16} {x4 : FVec Ideal Cert.Pre_finite2.S16x256x512 .bf16} {x5 : FVec Ideal Cert.Pre_finite2.S1024x1024 .f32}
    {x6 x7 : FVec Ideal Cert.Pre_finite2.S1024 .f32} {x8 : FVec Ideal Cert.Pre_finite2.S1024x4096 .f32} {x9 : FVec Ideal Cert.Pre_finite2.S4096x1024 .f32}
    {x10 x11 : FVec Ideal Cert.Pre_finite2.S1024 .f32} {x12 : FVec Ideal Cert.Pre_finite2.S128 .f32}
    (h : (Cert.Pre_finite2.fn (F := Ideal) x0 x1 x2 x3 x4 x5 x6 x7 x8 x9 x10 x11 x12).1 = (fun _ => 1#1)
      ∧ (Cert.Pre_finite2.fn (F := Ideal) x0 x1 x2 x3 x4 x5 x6 x7 x8 x9 x10 x11 x12).2 = (fun _ => 1#1)) :
    (∀ b t, ∀ l < 256, Fin' (at3 x3 b t (3840 + l))) ∧ ∀ b u, ∀ l < 256, Fin' (at3 x4 b u l) := by
  refine ⟨fun b t l hl => ?_, fun b u l hl => ?_⟩
  · by_cases hh : b < 16 ∧ t < 4096
    · have e := Cert.Finite.fin_of_olt _ (congrFun h.1 (ix3 ⟨b, hh.1⟩ ⟨t, hh.2⟩ ⟨l, hl⟩))
      exact (congrArg Fin' (at3_of x3 _ (Nat.zero_add _) (Nat.zero_add _) rfl)).mp e
    · rw [at3, dif_neg (fun h => hh ⟨h.1, h.2.1⟩)]; exact fin_coe 0
  · by_cases hh : b < 16 ∧ u < 256
    · have e := Cert.Finite.fin_of_olt _ (congrFun h.2 (ix3 ⟨b, hh.1⟩ ⟨u, hh.2⟩ ⟨l, hl⟩))
      exact (congrArg Fin' (at3_of x4 _ (Nat.zero_add _) (Nat.zero_add _) (Nat.zero_add _))).mp e
    · rw [at3, dif_neg (fun h => hh ⟨h.1, h.2.1⟩)]; exact fin_coe 0

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_ideal_finite : Cert.quiescent_Kernel2Ideal_pre_finite2 := fun m ρ _ => Cert.Kernel2Ideal.Gen.frame m ρ

theorem frame_ref : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem frame_ref_finite : Cert.quiescent_Reference2Ideal_pre_finite2 := fun m ρ _ => frame_ref m ρ trivial

variable (x0 : (⟨Cert.Kernel2Ideal.S16x4096x1024, .f32⟩ : BufTy).Contents (Elt Ideal)) (x1 x2 : (⟨Cert.Kernel2Ideal.S16x4096x768, .bf16⟩ : BufTy).Contents (Elt Ideal))
  (x3 : (⟨Cert.Kernel2Ideal.S16x4096x4096, .bf16⟩ : BufTy).Contents (Elt Ideal)) (x4 : (⟨Cert.Kernel2Ideal.S16x256x512, .bf16⟩ : BufTy).Contents (Elt Ideal))
  (x5 : (⟨Cert.Kernel2Ideal.S1024x1024, .f32⟩ : BufTy).Contents (Elt Ideal)) (x6 x7 : (⟨Cert.Kernel2Ideal.S1024, .f32⟩ : BufTy).Contents (Elt Ideal))
  (x8 : (⟨Cert.Kernel2Ideal.S1024x4096, .f32⟩ : BufTy).Contents (Elt Ideal)) (x9 : (⟨Cert.Kernel2Ideal.S4096x1024, .f32⟩ : BufTy).Contents (Elt Ideal))
  (x10 x11 : (⟨Cert.Kernel2Ideal.S1024, .f32⟩ : BufTy).Contents (Elt Ideal)) (x12 : (⟨Cert.Kernel2Ideal.S128, .f32⟩ : BufTy).Contents (Elt Ideal))

/-- Over real memory queries and keys the reference's value is the kernel's. -/
theorem value_eq (hq : ∀ b t, ∀ l < 256, Fin' (at3 x3 b t (3840 + l))) (hk : ∀ b u, ∀ l < 256, Fin' (at3 x4 b u l)) :
    Cert.Reference2Ideal.Read.val_main_v107 (F := Ideal) x0 x1 x2 x3 x4 x5 x6 x7 x8 x9 x10 x11 x12
      = Cert.Kernel2Ideal.Mix.mixOut x0 x1 x2 x3 x4 x5 x6 x7 x8 x9 x10 x11 x12 :=
  funext fun i => (Cert.Ref2.v107_at x0 x1 x2 x3 x4 x5 x6 x7 x8 x9 x10 x11 x12 i).trans
    (outr_congr (at2 x8) (at2 x9) (at1 x10) (at1 x11)
      (fun j hj => x1r_congr (x := at3 x0 (i 0).val (i 1).val) (at2 x5) (at1 x6) (at1 x7) (fun _ _ => rfl)
        (fun l hl => (memk_eq_memr _ (hq (i 0).val (i 1).val) (hk (i 0).val) hl).symm) hj)
      (show (i 2).val < 1024 from (i 2).isLt))

theorem value_congr {y0 y1 y2 y3 y4 y5 y6 y7 y8 y9 y10 y11 y12} (h : y0 = x0 ∧ y1 = x1 ∧ y2 = x2 ∧ y3 = x3 ∧ y4 = x4 ∧ y5 = x5 ∧ y6 = x6 ∧ y7 = x7 ∧ y8 = x8 ∧ y9 = x9
      ∧ y10 = x10 ∧ y11 = x11 ∧ y12 = x12) :
    Cert.Reference2Ideal.Read.val_main_v107 (F := Ideal) y0 y1 y2 y3 y4 y5 y6 y7 y8 y9 y10 y11 y12
      = Cert.Reference2Ideal.Read.val_main_v107 (F := Ideal) x0 x1 x2 x3 x4 x5 x6 x7 x8 x9 x10 x11 x12 := by
  obtain ⟨rfl, rfl, rfl, rfl, rfl, rfl, rfl, rfl, rfl, rfl, rfl, rfl, rfl⟩ := h
  rfl

theorem algebraic : Cert.algebraic_Kernel2Ideal_Reference2Ideal_pre_finite2 := by
  intro m ρ m' ρ' hpre hagree
  refine ⟨fun c => (Cert.Kernel2Ideal.Gen.dats m 0 c).arrAt 14 Cert.Kernel2Ideal.cfg0.N, ?_, ?_⟩
  · exact Cert.Kernel2Ideal.Value.run_blocks m ρ
  · refine (θ_run Cert.Reference2Ideal.defs _ _).mono (fun r h c => ⟨(h c).1.trans ?_, (h c).2⟩)
      (Cert.Reference2Ideal.Value.run (F := Ideal) m' ρ')
    refine (Cert.Reference2Ideal.Read.val_main_v107_eq (StableHlo.launchContents m' c)).trans ?_
    refine Eq.trans ?_ (Cert.Kernel2Ideal.Mix.final m c).symm
    have hf := fin_args (hpre c)
    refine Eq.trans ?_ (value_eq _ _ _ _ _ _ _ _ _ _ _ _ _ hf.1 hf.2)
    exact value_congr _ _ _ _ _ _ _ _ _ _ _ _ _ (hagree c)

end Cert.MixClaims

end
-- ==== Proof.Mix3Pay.lean ====
module

public import proofs.«01_k».proof.Proof.Gen.Kernel3Ideal.Value
public import proofs.«01_k».proof.Proof.MixPay
public import Idealize.ShloMosaic.Lib.ValueIdx
public import Idealize.ShloMosaic.Lib.Pointwise
public import Idealize.ShloMosaic.Lib.Pipeline.ValueKit

@[expose] public section

set_option maxRecDepth 16384

noncomputable section

/-! What the first layer's block computes, read at an index. -/

namespace Cert.Kernel3Ideal.Mix

open Idealize.ShloMosaic Idealize.ShloMosaic.TcCoe Idealize.ShloMosaic.Tactic
open Cert.Kernel3Ideal Cert.Kernel3Ideal.Gen Cert.Mix Cert.Attn

section Memory
variable (q : Vec Ideal S1x128x128 .bf16) (k v : Vec Ideal S1x256x128 .bf16) (Q : ℕ → EReal) (K V : ℕ → ℕ → EReal) (p : ℕ) (r : Fin 128)
  (hq : ∀ l : Fin 128, q (ix3 0 r l) = Q (128 * p + l.val)) (hk : ∀ (m : Fin 256) (l : Fin 128), k (ix3 0 m l) = K m.val (128 * p + l.val))
  (hv : ∀ (m : Fin 256) (l : Fin 128), v (ix3 0 m l) = V m.val (128 * p + l.val))
include hq hk

include hv
theorem mem_apply (l : Fin 128) : (k0_pay16 (F := Ideal) k0_pay3 (k0_pay6 k0_pay3 q k) v (ix2 r l) : EReal) = memk Q K V (128 * p + l.val) :=
  Cert.Kernel2Ideal.Mix.mem_apply q k v Q K V p r hq hk hv l

end Memory

section Tail
variable (r : Fin 512) (P MM X : ℕ → EReal) (W W1 W2 : ℕ → ℕ → EReal) (G1 B1 G2 B2 : ℕ → EReal)

theorem proj_apply (v110 : FVec Ideal S512x768 .bf16) (v234 : Vec Ideal S768x1024 .bf16) (hP : ∀ l : Fin 768, v110 (ix2 r l) = P l.val)
    (hW : ∀ (l : Fin 768) (j : Fin 1024), v234 (ix2 l j) = W l.val j.val) (j : Fin 1024) :
    (k0_pay15 (F := Ideal) v110 v234 (ix2 r j) : EReal) = ∑ l : Fin 768, P l.val * W l.val j.val :=
  Cert.Kernel2Ideal.Mix.proj_apply r P W v110 v234 hP hW j

theorem y1_apply (v127 : FVec Ideal S512x1024 .f32) (v304 : Vec Ideal S512x256 .bf16) (v305 : Vec Ideal S256x1024 .bf16) (v309 : Vec Ideal S1x512x1024 .f32)
    (hA : ∀ j : Fin 1024, v127 (ix2 r j) = ∑ l : Fin 768, P l.val * W l.val j.val)
    (hM : ∀ l : Fin 256, v304 (ix2 r l) = MM l.val) (hW : ∀ (l : Fin 256) (j : Fin 1024), v305 (ix2 l j) = W (768 + l.val) j.val)
    (hx : ∀ j : Fin 1024, v309 (ix3 0 r j) = X j.val) (j : Fin 1024) :
    (k0_pay27 (F := Ideal) v127 v304 v305 v309 (ix2 r j) : EReal) = Ideal.ofBits .f32 0x3FB504F3#32 * X j.val + mixr P MM W j.val := by
  pointwise [k0_pay27]
  simp only [hA, hM, hW, hx]
  rfl

theorem x1_apply (v313 : FVec Ideal S512x1024 .f32) (v314 v316 : Vec Ideal S1x1024 .f32)
    (hy : ∀ j : Fin 1024, v313 (ix2 r j) = Ideal.ofBits .f32 0x3FB504F3#32 * X j.val + mixr P MM W j.val)
    (hg : ∀ j : Fin 1024, v314 (ix2 0 j) = G1 j.val) (hb : ∀ j : Fin 1024, v316 (ix2 0 j) = B1 j.val)
    (j : Fin 1024) : (k0_pay29 (F := Ideal) v313 (k0_pay28 v314) v316 (ix2 r j) : EReal) = x1r X P MM W G1 B1 j.val := by
  pointwise [k0_pay29, k0_pay28]
  simp only [hy, hg, hb]
  rfl

theorem hid_apply (v313 : FVec Ideal S512x1024 .f32) (v315 : FVec Ideal S1x1024 .f32) (v316 : Vec Ideal S1x1024 .f32) (a : Vec Ideal S1024x1024 .bf16)
    (hx : ∀ i : Fin 1024, k0_pay30 v313 v315 v316 (ix2 r i) = X i.val) (d : ∀ i f : Fin 1024, a (ix2 i f) = W1 i.val (1024 + f.val))
    (f : Fin 1024) : (k0_pay32 (F := Ideal) v313 v315 v316 a (ix2 r f) : EReal) = hid X W1 (1024 + f.val) := by
  pointwise [k0_pay32]
  simp only [hx, d, hid]

theorem first_apply (v313 : FVec Ideal S512x1024 .f32) (v315 : FVec Ideal S1x1024 .f32) (v316 : Vec Ideal S1x1024 .f32) (a b : Vec Ideal S1024x1024 .bf16)
    (hx : ∀ i : Fin 1024, k0_pay30 v313 v315 v316 (ix2 r i) = X i.val) (d : ∀ i f : Fin 1024, a (ix2 i f) = W1 i.val f.val)
    (e : ∀ f j : Fin 1024, b (ix2 f j) = W2 f.val j.val) (j : Fin 1024) :
    (k0_pay31 (F := Ideal) v313 v315 v316 a b (ix2 r j) : EReal) = ∑ f : Fin 1024, hid X W1 f.val * W2 f.val j.val := by
  pointwise [k0_pay31]
  simp only [hx, d, e, hid]

theorem y2_apply (v337 : FVec Ideal S512x1024 .f32) (v338 : FVec Ideal S512x1024 .bf16) (v350 v356 : FVec Ideal S512x1024 .f32) (b1 a2 b2 a3 b3 : Vec Ideal S1024x1024 .bf16)
    (hx : ∀ i : Fin 1024, v337 (ix2 r i) = X i.val) (hx' : ∀ i : Fin 1024, v338 (ix2 r i) = X i.val)
    (h0 : ∀ j : Fin 1024, v350 (ix2 r j) = ∑ f : Fin 1024, hid X W1 f.val * W2 f.val j.val)
    (h1 : ∀ f : Fin 1024, v356 (ix2 r f) = hid X W1 (1024 + f.val))
    (e1 : ∀ f j : Fin 1024, b1 (ix2 f j) = W2 (1024 + f.val) j.val)
    (d2 : ∀ i f : Fin 1024, a2 (ix2 i f) = W1 i.val (2048 + f.val)) (e2 : ∀ f j : Fin 1024, b2 (ix2 f j) = W2 (2048 + f.val) j.val)
    (d3 : ∀ i f : Fin 1024, a3 (ix2 i f) = W1 i.val (3072 + f.val)) (e3 : ∀ f j : Fin 1024, b3 (ix2 f j) = W2 (3072 + f.val) j.val)
    (j : Fin 1024) : (k0_pay33 (F := Ideal) v337 v338 v350 v356 b1 a2 b2 a3 b3 (ix2 r j) : EReal)
      = Ideal.ofBits .f32 0x3FB504F3#32 * X j.val + ffn X W1 W2 j.val := by
  rw [ffn_chunks]
  pointwise [k0_pay33]
  simp only [hx, hx', h0, h1, e1, d2, e2, d3, e3]
  simp only [hid]

theorem out_apply (v386 : FVec Ideal S512x1024 .f32) (v387 v389 : Vec Ideal S1x1024 .f32) (v392 : FVec Ideal S512x1 .f32)
    (hy : ∀ i : Fin 1024, v386 (ix2 r i) = Ideal.ofBits .f32 0x3FB504F3#32 * X i.val + ffn X W1 W2 i.val)
    (hs : v392 (ix2 r 0) = ∑ i : Fin 1024, v386 (ix2 r i))
    (hg : ∀ j : Fin 1024, v387 (ix2 0 j) = G2 j.val) (hb : ∀ j : Fin 1024, v389 (ix2 0 j) = B2 j.val) (j : Fin 1024) :
    (k0_pay1 (F := Ideal) v386 (k0_pay34 v387) (k0_pay35 v389) v392 (Scalar.ofBits .f32 0x44800000#32) (ix3 0 r j) : EReal) = outr X W1 W2 G2 B2 j.val := by
  pointwise [k0_pay1, k0_pay34, k0_pay35]
  simp only [hs, hy, hg, hb]
  rfl

theorem sum_apply (v337 : FVec Ideal S512x1024 .f32) (v338 : FVec Ideal S512x1024 .bf16) (v350 v356 : FVec Ideal S512x1024 .f32) (b1 a2 b2 a3 b3 : Vec Ideal S1024x1024 .bf16) :
    (k0_pay36 (F := Ideal) v337 v338 v350 v356 b1 a2 b2 a3 b3 (ix2 r 0) : EReal) = ∑ i : Fin 1024, k0_pay33 v337 v338 v350 v356 b1 a2 b2 a3 b3 (ix2 r i) := by
  generalize hv : k0_pay33 (F := Ideal) v337 v338 v350 v356 b1 a2 b2 a3 b3 = v
  unfold k0_pay36
  rw [hv]
  pointwise

end Tail

end Cert.Kernel3Ideal.Mix
end
-- ==== Proof.Mix3Blk.lean ====
module

public import proofs.«01_k».proof.Proof.Gen.Kernel3Ideal.Value
public import proofs.«01_k».proof.Proof.Mix
public import Idealize.ShloMosaic.Lib.ValueIdx
public import Idealize.ShloMosaic.Lib.Pointwise
public import Idealize.ShloMosaic.Lib.Pipeline.ValueKit

@[expose] public section

set_option maxRecDepth 16384

noncomputable section

/-! The staged blocks, read from the arguments. -/

namespace Cert.Kernel3Ideal.Mix

open Idealize.ShloMosaic Idealize.ShloMosaic.TcCoe Idealize.ShloMosaic.Tactic
open Idealize.ShloMosaic.Pipeline (Dat Cfg Window BodyObligation cellOf)
open Cert.Kernel3Ideal Cert.Kernel3Ideal.Gen Cert.Mix Cert.Attn

variable (m : (ℓ : Loc nD τ sig) → Buf (Elt Ideal) ℓ)

/-- The batch of a grid point. -/
abbrev tb (t : Fin cfg0.N) : ℕ := (grid0.coords t 0).val
/-- The row block of a grid point. -/
abbrev tr (t : Fin cfg0.N) : ℕ := (grid0.coords t 1).val

theorem index0 : ∀ t : Fin grid0.N, win0_0.index t = ![tb t, tr t, 0] := by decide +kernel

theorem index1 : ∀ t : Fin grid0.N, win0_1.index t = ![tb t, tr t, 0] := by decide +kernel

theorem index2 : ∀ t : Fin grid0.N, win0_2.index t = ![tb t, tr t, 9] := by decide +kernel

theorem index3 : ∀ t : Fin grid0.N, win0_3.index t = ![tb t, 0, 0] := by decide +kernel

theorem index4 : ∀ t : Fin grid0.N, win0_4.index t = ![0, 0] := by decide +kernel

theorem index5 : ∀ t : Fin grid0.N, win0_5.index t = ![0, 0] := by decide +kernel

theorem index6 : ∀ t : Fin grid0.N, win0_6.index t = ![0, 0] := by decide +kernel

theorem index7 : ∀ t : Fin grid0.N, win0_7.index t = ![0, 0] := by decide +kernel

theorem index8 : ∀ t : Fin grid0.N, win0_8.index t = ![0, 0] := by decide +kernel

theorem index9 : ∀ t : Fin grid0.N, win0_9.index t = ![0, 0] := by decide +kernel

theorem index10 : ∀ t : Fin grid0.N, win0_10.index t = ![0, 0] := by decide +kernel

theorem index11 : ∀ t : Fin grid0.N, win0_11.index t = ![tb t, tr t, 0] := by decide +kernel

theorem V_v0 (c : Dev nD) : V m c main_v0 = m ((c : Thread nD τ).loc main_arg4) := by
  simp only [V, hostOps0, List.flatten_cons, List.flatten_nil, List.append_nil, List.cons_append, List.nil_append, StableHlo.after_cons, StableHlo.after_nil]
  after_results_simp
  after_results_loop
  rfl

theorem V_v1 (c : Dev nD) : V m c main_v1 = m ((c : Thread nD τ).loc main_arg7) := by
  simp only [V, hostOps0, List.flatten_cons, List.flatten_nil, List.append_nil, List.cons_append, List.nil_append, StableHlo.after_cons, StableHlo.after_nil]
  after_results_simp
  after_results_loop
  rfl

theorem V_v2 (c : Dev nD) : V m c main_v2 = m ((c : Thread nD τ).loc main_arg8) := by
  simp only [V, hostOps0, List.flatten_cons, List.flatten_nil, List.append_nil, List.cons_append, List.nil_append, StableHlo.after_cons, StableHlo.after_nil]
  after_results_simp
  after_results_loop
  rfl

theorem V_v3 (c : Dev nD) : V m c main_v3 = shapeCast S1x1024 (m ((c : Thread nD τ).loc main_arg5)) shapeCasts_S1024_S1x1024 := by
  simp only [V, hostOps0, List.flatten_cons, List.flatten_nil, List.append_nil, List.cons_append, List.nil_append, StableHlo.after_cons, StableHlo.after_nil]
  after_results_simp
  after_results_loop
  rfl

theorem V_v4 (c : Dev nD) : V m c main_v4 = shapeCast S1x1024 (m ((c : Thread nD τ).loc main_arg6)) shapeCasts_S1024_S1x1024 := by
  simp only [V, hostOps0, List.flatten_cons, List.flatten_nil, List.append_nil, List.cons_append, List.nil_append, StableHlo.after_cons, StableHlo.after_nil]
  after_results_simp
  after_results_loop
  rfl

theorem V_v5 (c : Dev nD) : V m c main_v5 = shapeCast S1x1024 (m ((c : Thread nD τ).loc main_arg9)) shapeCasts_S1024_S1x1024 := by
  simp only [V, hostOps0, List.flatten_cons, List.flatten_nil, List.append_nil, List.cons_append, List.nil_append, StableHlo.after_cons, StableHlo.after_nil]
  after_results_simp
  after_results_loop
  rfl

theorem V_v6 (c : Dev nD) : V m c main_v6 = shapeCast S1x1024 (m ((c : Thread nD τ).loc main_arg10)) shapeCasts_S1024_S1x1024 := by
  simp only [V, hostOps0, List.flatten_cons, List.flatten_nil, List.append_nil, List.cons_append, List.nil_append, StableHlo.after_cons, StableHlo.after_nil]
  after_results_simp
  after_results_loop
  rfl

theorem cast1024 (x : S1024.Idx → EReal) (i : S1x1024.Idx) : shapeCast S1x1024 x shapeCasts_S1024_S1x1024 i = at1 x (i 1).val := by
  idx_vars i
  pointwise
  exact at1_of x _ rfl

theorem blk0 (c : Dev nD) (t : Fin cfg0.N) (r : Fin 512) (l : Fin 1024) :
    (iblk m c 0 t (ix3 0 r l : S1x512x1024.Idx) : EReal) = at3 (m ((c : Thread nD τ).loc main_arg0)) (tb t) (tr t * 512 + r.val) (l.val) := by
  unfold iblk
  refine at3_of (m ((c : Thread nD τ).loc main_arg0)) _ ?_ ?_ ?_
  · blk_simp [index0 t]; rfl
  · blk_simp [index0 t]
  · blk_simp [index0 t]

theorem blk1 (c : Dev nD) (t : Fin cfg0.N) (r : Fin 512) (l : Fin 768) :
    (iblk m c 1 t (ix3 0 r l : S1x512x768.Idx) : EReal) = at3 (m ((c : Thread nD τ).loc main_arg1)) (tb t) (tr t * 512 + r.val) (l.val) := by
  unfold iblk
  refine at3_of (m ((c : Thread nD τ).loc main_arg1)) _ ?_ ?_ ?_
  · blk_simp [index1 t]; rfl
  · blk_simp [index1 t]
  · blk_simp [index1 t]

theorem blk2 (c : Dev nD) (t : Fin cfg0.N) (r : Fin 512) (l : Fin 256) :
    (iblk m c 2 t (ix3 0 r l : S1x512x256.Idx) : EReal) = at3 (m ((c : Thread nD τ).loc main_arg2)) (tb t) (tr t * 512 + r.val) (2304 + l.val) := by
  unfold iblk
  refine at3_of (m ((c : Thread nD τ).loc main_arg2)) _ ?_ ?_ ?_
  · blk_simp [index2 t]; rfl
  · blk_simp [index2 t]
  · blk_simp [index2 t]

theorem blk3 (c : Dev nD) (t : Fin cfg0.N) (r : Fin 256) (l : Fin 512) :
    (iblk m c 3 t (ix3 0 r l : S1x256x512.Idx) : EReal) = at3 (m ((c : Thread nD τ).loc main_arg3)) (tb t) (r.val) (l.val) := by
  unfold iblk
  refine at3_of (m ((c : Thread nD τ).loc main_arg3)) _ ?_ ?_ ?_
  · blk_simp [index3 t]; rfl
  · blk_simp [index3 t]
  · blk_simp [index3 t]

theorem blk4 (c : Dev nD) (t : Fin cfg0.N) (r : Fin 1024) (l : Fin 1024) :
    (iblk m c 4 t (ix2 r l : S1024x1024.Idx) : EReal) = at2 (m ((c : Thread nD τ).loc main_arg4)) r.val l.val := by
  unfold iblk
  refine (congrFun (V_v0 m c) _).trans ?_
  refine at2_of (m ((c : Thread nD τ).loc main_arg4)) _ ?_ ?_
  · blk_simp [index4 t]
  · blk_simp [index4 t]

theorem blk7 (c : Dev nD) (t : Fin cfg0.N) (r : Fin 1024) (l : Fin 4096) :
    (iblk m c 7 t (ix2 r l : S1024x4096.Idx) : EReal) = at2 (m ((c : Thread nD τ).loc main_arg7)) r.val l.val := by
  unfold iblk
  refine (congrFun (V_v1 m c) _).trans ?_
  refine at2_of (m ((c : Thread nD τ).loc main_arg7)) _ ?_ ?_
  · blk_simp [index7 t]
  · blk_simp [index7 t]

theorem blk8 (c : Dev nD) (t : Fin cfg0.N) (r : Fin 4096) (l : Fin 1024) :
    (iblk m c 8 t (ix2 r l : S4096x1024.Idx) : EReal) = at2 (m ((c : Thread nD τ).loc main_arg8)) r.val l.val := by
  unfold iblk
  refine (congrFun (V_v2 m c) _).trans ?_
  refine at2_of (m ((c : Thread nD τ).loc main_arg8)) _ ?_ ?_
  · blk_simp [index8 t]
  · blk_simp [index8 t]

theorem blk5 (c : Dev nD) (t : Fin cfg0.N) (l : Fin 1024) :
    (iblk m c 5 t (ix2 0 l : S1x1024.Idx) : EReal) = at1 (m ((c : Thread nD τ).loc main_arg5)) l.val := by
  unfold iblk
  refine (congrFun (V_v3 m c) _).trans ?_
  refine (cast1024 _ _).trans (congrArg (at1 _) ?_)
  blk_simp [index5 t]

theorem blk6 (c : Dev nD) (t : Fin cfg0.N) (l : Fin 1024) :
    (iblk m c 6 t (ix2 0 l : S1x1024.Idx) : EReal) = at1 (m ((c : Thread nD τ).loc main_arg6)) l.val := by
  unfold iblk
  refine (congrFun (V_v4 m c) _).trans ?_
  refine (cast1024 _ _).trans (congrArg (at1 _) ?_)
  blk_simp [index6 t]

theorem blk9 (c : Dev nD) (t : Fin cfg0.N) (l : Fin 1024) :
    (iblk m c 9 t (ix2 0 l : S1x1024.Idx) : EReal) = at1 (m ((c : Thread nD τ).loc main_arg9)) l.val := by
  unfold iblk
  refine (congrFun (V_v5 m c) _).trans ?_
  refine (cast1024 _ _).trans (congrArg (at1 _) ?_)
  blk_simp [index9 t]

theorem blk10 (c : Dev nD) (t : Fin cfg0.N) (l : Fin 1024) :
    (iblk m c 10 t (ix2 0 l : S1x1024.Idx) : EReal) = at1 (m ((c : Thread nD τ).loc main_arg10)) l.val := by
  unfold iblk
  refine (congrFun (V_v6 m c) _).trans ?_
  refine (cast1024 _ _).trans (congrArg (at1 _) ?_)
  blk_simp [index10 t]

end Cert.Kernel3Ideal.Mix

end
-- ==== Proof.Mix3Out.lean ====
module

public import proofs.«01_k».proof.Proof.MixOut
public import proofs.«01_k».proof.Proof.Mix3Pay
public import proofs.«01_k».proof.Proof.Mix3Blk
public import Idealize.ShloMosaic.Lib.Pipeline.ReadBack

@[expose] public section

set_option maxRecDepth 16384

noncomputable section

/-! The first layer's output array after the launch. -/

namespace Cert.Kernel3Ideal.Mix

open Idealize.ShloMosaic Idealize.ShloMosaic.TcCoe Idealize.ShloMosaic.Tactic
open Idealize.ShloMosaic.Pipeline (Dat Cfg Window BodyObligation cellOf)
open Cert.Kernel3Ideal Cert.Kernel3Ideal.Gen Cert.Mix Cert.Attn
open Cert.Kernel2Ideal.Mix (idxv readCov_of_pieces pieces_cons)

section Pieces
variable (QQ K V : ℕ → ℕ → EReal)

/-- The memory attention of every row of the block. -/
def MB : Vec Ideal S512x256 .bf16 := fun y => memk (QQ (y 0).val) K V (y 1).val

theorem piece (q : Vec Ideal S1x128x128 .bf16) (k v : Vec Ideal S1x256x128 .bf16) (t p : ℕ)
    (hq : ∀ r l : Fin 128, q (ix3 0 r l) = QQ (128 * t + r.val) (128 * p + l.val)) (hk : ∀ (m : Fin 256) (l : Fin 128), k (ix3 0 m l) = K m.val (128 * p + l.val))
    (hv : ∀ (m : Fin 256) (l : Fin 128), v (ix3 0 m l) = V m.val (128 * p + l.val))
    (off : Fin 2 → ℕ) (inb) (ho : off = ![128 * t, 128 * p]) (x : (Rect.unit (s := S512x256) off ![128, 128] inb).shape.Idx) :
    k0_pay16 (F := Ideal) k0_pay3 (k0_pay6 k0_pay3 q k) v x = MB QQ K V ((Rect.unit (s := S512x256) off ![128, 128] inb).emb x) := by
  have e0 : ((Rect.unit (s := S512x256) off ![128, 128] inb).emb x 0).val = 128 * t + (x 0).val :=
    idxv (s := S512x256) off ![128, 128] inb x 0 (by rw [ho]; rfl) rfl
  have e1 : ((Rect.unit (s := S512x256) off ![128, 128] inb).emb x 1).val = 128 * p + (x 1).val :=
    idxv (s := S512x256) off ![128, 128] inb x 1 (by rw [ho]; rfl) rfl
  unfold MB
  rw [e0, e1]
  have hx : x = ix2 (x 0) (x 1) := by
    funext a; match a with | ⟨0, _⟩ => rfl | ⟨1, _⟩ => rfl
  rw [hx]
  exact mem_apply q k v (QQ (128 * t + (x 0).val)) K V p (x 0) (hq (x 0)) hk hv (x 1)

end Pieces

/-- The whole block: what its row holds, from what its operands hold. -/
theorem block_apply (r : Fin 512) (P MM X : ℕ → EReal) (W W1 W2 : ℕ → ℕ → EReal) (G1 B1 G2 B2 : ℕ → EReal)
    (v1 : FVec Ideal S512x768 .bf16) (v125 : Vec Ideal S768x1024 .bf16) (M : Vec Ideal S512x256 .bf16) (v305 : Vec Ideal S256x1024 .bf16)
    (v309 : Vec Ideal S1x512x1024 .f32) (v314 v316 v387 v389 : Vec Ideal S1x1024 .f32) (a0 b0 a1 b1 a2 b2 a3 b3 : Vec Ideal S1024x1024 .bf16)
    (v313 : FVec Ideal S512x1024 .f32) (h313 : v313 = k0_pay27 (k0_pay15 v1 v125) M v305 v309)
    (v386 : FVec Ideal S512x1024 .f32) (h386 : v386 = k0_pay33 (k0_pay29 v313 (k0_pay28 v314) v316) (k0_pay30 v313 (k0_pay28 v314) v316)
        (k0_pay31 v313 (k0_pay28 v314) v316 a0 b0) (k0_pay32 v313 (k0_pay28 v314) v316 a1) b1 a2 b2 a3 b3)
    (hP : ∀ l : Fin 768, v1 (ix2 r l) = P l.val) (hW : ∀ (l : Fin 768) (j : Fin 1024), v125 (ix2 l j) = W l.val j.val)
    (hM : ∀ l : Fin 256, M (ix2 r l) = MM l.val) (hW' : ∀ (l : Fin 256) (j : Fin 1024), v305 (ix2 l j) = W (768 + l.val) j.val)
    (hx : ∀ j : Fin 1024, v309 (ix3 0 r j) = X j.val)
    (hg1 : ∀ j : Fin 1024, v314 (ix2 0 j) = G1 j.val) (hb1 : ∀ j : Fin 1024, v316 (ix2 0 j) = B1 j.val)
    (hg2 : ∀ j : Fin 1024, v387 (ix2 0 j) = G2 j.val) (hb2 : ∀ j : Fin 1024, v389 (ix2 0 j) = B2 j.val)
    (d0 : ∀ i f : Fin 1024, a0 (ix2 i f) = W1 i.val f.val) (e0 : ∀ f j : Fin 1024, b0 (ix2 f j) = W2 f.val j.val)
    (d1 : ∀ i f : Fin 1024, a1 (ix2 i f) = W1 i.val (1024 + f.val)) (e1 : ∀ f j : Fin 1024, b1 (ix2 f j) = W2 (1024 + f.val) j.val)
    (d2 : ∀ i f : Fin 1024, a2 (ix2 i f) = W1 i.val (2048 + f.val)) (e2 : ∀ f j : Fin 1024, b2 (ix2 f j) = W2 (2048 + f.val) j.val)
    (d3 : ∀ i f : Fin 1024, a3 (ix2 i f) = W1 i.val (3072 + f.val)) (e3 : ∀ f j : Fin 1024, b3 (ix2 f j) = W2 (3072 + f.val) j.val)
    (j : Fin 1024) :
    (k0_pay1 (F := Ideal) v386 (k0_pay34 v387) (k0_pay35 v389)
      (k0_pay36 (k0_pay29 v313 (k0_pay28 v314) v316) (k0_pay30 v313 (k0_pay28 v314) v316)
        (k0_pay31 v313 (k0_pay28 v314) v316 a0 b0) (k0_pay32 v313 (k0_pay28 v314) v316 a1) b1 a2 b2 a3 b3)
      (Scalar.ofBits .f32 0x44800000#32) (ix3 0 r j) : EReal) = outr (x1r X P MM W G1 B1) W1 W2 G2 B2 j.val := by
  have hA := proj_apply r P W v1 v125 hP hW
  have hY := y1_apply r P MM X W (k0_pay15 v1 v125) M v305 v309 hA hM hW' hx
  rw [← h313] at hY
  have hX := x1_apply r P MM X W G1 B1 v313 v314 v316 hY hg1 hb1
  have hX' : ∀ i : Fin 1024, (k0_pay30 (F := Ideal) v313 (k0_pay28 v314) v316 (ix2 r i) : EReal) = x1r X P MM W G1 B1 i.val := hX
  have h0 := first_apply r (x1r X P MM W G1 B1) W1 W2 v313 _ v316 a0 b0 hX' d0 e0
  have h1 := hid_apply r (x1r X P MM W G1 B1) W1 v313 _ v316 a1 hX' d1
  have hY2 := y2_apply r (x1r X P MM W G1 B1) W1 W2 _ _ _ _ b1 a2 b2 a3 b3 hX hX' h0 h1 e1 d2 e2 d3 e3
  have hS := sum_apply r (k0_pay29 (F := Ideal) v313 (k0_pay28 v314) v316) (k0_pay30 v313 (k0_pay28 v314) v316)
        (k0_pay31 v313 (k0_pay28 v314) v316 a0 b0) (k0_pay32 v313 (k0_pay28 v314) v316 a1) b1 a2 b2 a3 b3
  rw [← h386] at hY2 hS
  exact out_apply r (x1r X P MM W G1 B1) W1 W2 G2 B2 v386 v387 v389 _ hY2 hS hg2 hb2 j

/-- One row of the result, from the argument arrays. -/
def rowOut (x0 : S16x4096x1024.Idx → EReal) (x1 : S16x4096x768.Idx → EReal) (x2 : S16x4096x2560.Idx → EReal) (x3 : S16x256x512.Idx → EReal)
    (x4 : S1024x1024.Idx → EReal) (x5 x6 : S1024.Idx → EReal) (x7 : S1024x4096.Idx → EReal) (x8 : S4096x1024.Idx → EReal) (x9 x10 : S1024.Idx → EReal) (b t : ℕ) : ℕ → EReal :=
  outr (x1r (at3 x0 b t) (at3 x1 b t)
      (memk (fun l => at3 x2 b t (2304 + l)) (fun u l => at3 x3 b u l) fun u l => at3 x3 b u (256 + l)) (at2 x4) (at1 x5) (at1 x6))
    (at2 x7) (at2 x8) (at1 x9) (at1 x10)

variable (m : (ℓ : Loc nD τ sig) → Buf (Elt Ideal) ℓ)

/-- The row of the launch's arguments. -/
abbrev rowOf (c : Dev nD) : ℕ → ℕ → ℕ → EReal :=
  rowOut (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

set_option maxHeartbeats 1000000 in
/-- What the body leaves at point `t`, read at an index of the block. -/
theorem outs_at (c : Dev nD) (t : Fin cfg0.N) (r : Fin 512) (j : Fin 1024) :
    (outsAt0 m c t (ix3 0 r j : S1x512x1024.Idx) : EReal) = rowOf m c (tb t) (tr t * 512 + r.val) j.val := by
  unfold outsAt0
  frame_out
  refine block_apply r _ _ _ _ _ _ _ _ _ _ _ _ _ _ _ _ _ _ _ _ _ _ _ _ _ _ _ _ rfl _ rfl ?_ ?_ ?_ ?_ (fun j => blk0 m c t r j) (fun j => blk5 m c t j) (fun j => blk6 m c t j)
    (fun j => blk9 m c t j) (fun j => blk10 m c t j) ?_ ?_ ?_ ?_ ?_ ?_ ?_ ?_ j
  · intro l; pointwise [k0_pay2]; exact blk1 m c t r l
  · intro l j; pointwise; exact blk4 m c t _ j
  · intro l
    refine (readCov_of_pieces (View.whole cc0_scratch0)
      (MB (fun r l => at3 (m ((c : Thread nD τ).loc main_arg2)) (tb t) (tr t * 512 + r) (2304 + l)) (fun u l => at3 (m ((c : Thread nD τ).loc main_arg3)) (tb t) u l)
        fun u l => at3 (m ((c : Thread nD τ).loc main_arg3)) (tb t) u (256 + l)) _ ?_ ?_ _ _).trans ?_
    · refine pieces_cons _ _ _ _ ?_ (pieces_cons _ _ _ _ ?_ (pieces_cons _ _ _ _ ?_ (pieces_cons _ _ _ _ ?_ (pieces_cons _ _ _ _ ?_ (pieces_cons _ _ _ _ ?_ (pieces_cons _ _ _ _ ?_ (pieces_cons _ _ _ _ ?_ trivial)))))))
      · refine piece _ _ _ _ _ _ 3 1 ?_ ?_ ?_ _ _ rfl <;> intro a b <;> pointwise
        · exact (blk2 m c t _ _).trans (congrArg₂ (at3 _ _) (by first | (dsimp only; done) | (dsimp only; omega) | omega) (by first | (dsimp only; done) | (dsimp only; omega) | omega))
        · exact (blk3 m c t _ _).trans (congrArg (at3 _ _ _) (by first | (dsimp only; done) | (dsimp only; omega) | omega))
        · exact (blk3 m c t _ _).trans (congrArg (at3 _ _ _) (by first | (dsimp only; done) | (dsimp only; omega) | omega))
      · refine piece _ _ _ _ _ _ 3 0 ?_ ?_ ?_ _ _ rfl <;> intro a b <;> pointwise
        · exact (blk2 m c t _ _).trans (congrArg₂ (at3 _ _) (by first | (dsimp only; done) | (dsimp only; omega) | omega) (by first | (dsimp only; done) | (dsimp only; omega) | omega))
        · exact (blk3 m c t _ _).trans (congrArg (at3 _ _ _) (by first | (dsimp only; done) | (dsimp only; omega) | omega))
        · exact (blk3 m c t _ _).trans (congrArg (at3 _ _ _) (by first | (dsimp only; done) | (dsimp only; omega) | omega))
      · refine piece _ _ _ _ _ _ 2 1 ?_ ?_ ?_ _ _ rfl <;> intro a b <;> pointwise
        · exact (blk2 m c t _ _).trans (congrArg₂ (at3 _ _) (by first | (dsimp only; done) | (dsimp only; omega) | omega) (by first | (dsimp only; done) | (dsimp only; omega) | omega))
        · exact (blk3 m c t _ _).trans (congrArg (at3 _ _ _) (by first | (dsimp only; done) | (dsimp only; omega) | omega))
        · exact (blk3 m c t _ _).trans (congrArg (at3 _ _ _) (by first | (dsimp only; done) | (dsimp only; omega) | omega))
      · refine piece _ _ _ _ _ _ 2 0 ?_ ?_ ?_ _ _ rfl <;> intro a b <;> pointwise
        · exact (blk2 m c t _ _).trans (congrArg₂ (at3 _ _) (by first | (dsimp only; done) | (dsimp only; omega) | omega) (by first | (dsimp only; done) | (dsimp only; omega) | omega))
        · exact (blk3 m c t _ _).trans (congrArg (at3 _ _ _) (by first | (dsimp only; done) | (dsimp only; omega) | omega))
        · exact (blk3 m c t _ _).trans (congrArg (at3 _ _ _) (by first | (dsimp only; done) | (dsimp only; omega) | omega))
      · refine piece _ _ _ _ _ _ 1 1 ?_ ?_ ?_ _ _ rfl <;> intro a b <;> pointwise
        · exact (blk2 m c t _ _).trans (congrArg₂ (at3 _ _) (by first | (dsimp only; done) | (dsimp only; omega) | omega) (by first | (dsimp only; done) | (dsimp only; omega) | omega))
        · exact (blk3 m c t _ _).trans (congrArg (at3 _ _ _) (by first | (dsimp only; done) | (dsimp only; omega) | omega))
        · exact (blk3 m c t _ _).trans (congrArg (at3 _ _ _) (by first | (dsimp only; done) | (dsimp only; omega) | omega))
      · refine piece _ _ _ _ _ _ 1 0 ?_ ?_ ?_ _ _ rfl <;> intro a b <;> pointwise
        · exact (blk2 m c t _ _).trans (congrArg₂ (at3 _ _) (by first | (dsimp only; done) | (dsimp only; omega) | omega) (by first | (dsimp only; done) | (dsimp only; omega) | omega))
        · exact (blk3 m c t _ _).trans (congrArg (at3 _ _ _) (by first | (dsimp only; done) | (dsimp only; omega) | omega))
        · exact (blk3 m c t _ _).trans (congrArg (at3 _ _ _) (by first | (dsimp only; done) | (dsimp only; omega) | omega))
      · refine piece _ _ _ _ _ _ 0 1 ?_ ?_ ?_ _ _ rfl <;> intro a b <;> pointwise
        · exact (blk2 m c t _ _).trans (congrArg₂ (at3 _ _) (by first | (dsimp only; done) | (dsimp only; omega) | omega) (by first | (dsimp only; done) | (dsimp only; omega) | omega))
        · exact (blk3 m c t _ _).trans (congrArg (at3 _ _ _) (by first | (dsimp only; done) | (dsimp only; omega) | omega))
        · exact (blk3 m c t _ _).trans (congrArg (at3 _ _ _) (by first | (dsimp only; done) | (dsimp only; omega) | omega))
      · refine piece _ _ _ _ _ _ 0 0 ?_ ?_ ?_ _ _ rfl <;> intro a b <;> pointwise
        · exact (blk2 m c t _ _).trans (congrArg₂ (at3 _ _) (by first | (dsimp only; done) | (dsimp only; omega) | omega) (by first | (dsimp only; done) | (dsimp only; omega) | omega))
        · exact (blk3 m c t _ _).trans (congrArg (at3 _ _ _) (by first | (dsimp only; done) | (dsimp only; omega) | omega))
        · exact (blk3 m c t _ _).trans (congrArg (at3 _ _ _) (by first | (dsimp only; done) | (dsimp only; omega) | omega))
    · exact View.cover_of_tiledL _ S128x128.size (by sl_kernel_rfl)
    · exact congrArg₂ (fun u w : ℕ => memk (fun l => at3 (m ((c : Thread nD τ).loc main_arg2)) (tb t) (tr t * 512 + u) (2304 + l))
        (fun u l => at3 (m ((c : Thread nD τ).loc main_arg3)) (tb t) u l) (fun u l => at3 (m ((c : Thread nD τ).loc main_arg3)) (tb t) u (256 + l)) w)
        (idxv (s := S512x256) ![0, 0] ![512, 256] _ (ix2 r l) 0 rfl (Nat.zero_add _)) (idxv (s := S512x256) ![0, 0] ![512, 256] _ (ix2 r l) 1 rfl (Nat.zero_add _))
  all_goals (intro a b; pointwise)
  · exact blk4 m c t _ b
  · exact blk7 m c t a _
  · exact blk8 m c t _ b
  · exact blk7 m c t a _
  · exact blk8 m c t _ b
  · exact blk7 m c t a _
  · exact blk8 m c t _ b
  · exact blk7 m c t a _
  · exact blk8 m c t _ b

theorem outs_at' (c : Dev nD) (t : Fin cfg0.N) (y : S1x512x1024.Idx) :
    (outsAt0 m c t y : EReal) = rowOf m c (tb t) (tr t * 512 + (y 1).val) (y 2).val := by
  have hy : y = ix3 0 (y 1) (y 2) := by
    funext a; match a with | ⟨0, _⟩ => exact Fin.ext (by have : (y 0).val < 1 := (y 0).isLt; show (y 0).val = 0; omega) | ⟨1, _⟩ => rfl | ⟨2, _⟩ => rfl
  exact (congrArg (outsAt0 m c t) hy).trans (outs_at m c t (y 1) (y 2))

/-- The result over every index. -/
def mixOut (x0 : S16x4096x1024.Idx → EReal) (x1 : S16x4096x768.Idx → EReal) (x2 : S16x4096x2560.Idx → EReal) (x3 : S16x256x512.Idx → EReal)
    (x4 : S1024x1024.Idx → EReal) (x5 x6 : S1024.Idx → EReal) (x7 : S1024x4096.Idx → EReal) (x8 : S4096x1024.Idx → EReal) (x9 x10 : S1024.Idx → EReal) : S16x4096x1024.Idx → EReal :=
  fun i => rowOut x0 x1 x2 x3 x4 x5 x6 x7 x8 x9 x10 (i 0).val (i 1).val (i 2).val

theorem mixOut_of (x0 : S16x4096x1024.Idx → EReal) (x1 : S16x4096x768.Idx → EReal) (x2 : S16x4096x2560.Idx → EReal) (x3 : S16x256x512.Idx → EReal)
    (x4 : S1024x1024.Idx → EReal) (x5 x6 : S1024.Idx → EReal) (x7 : S1024x4096.Idx → EReal) (x8 : S4096x1024.Idx → EReal) (x9 x10 : S1024.Idx → EReal) (i : S16x4096x1024.Idx) {a b d : ℕ} (h0 : a = (i 0).val) (h1 : b = (i 1).val) (h2 : d = (i 2).val) :
    rowOut x0 x1 x2 x3 x4 x5 x6 x7 x8 x9 x10 a b d = mixOut x0 x1 x2 x3 x4 x5 x6 x7 x8 x9 x10 i := by
  subst h0 h1 h2; rfl

/-- The output array after the launch. -/
theorem final (c : Dev nD) :
    (dats m 0 c).arrAt 11 cfg0.N = mixOut (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) := by
  refine (dats m 0 c).arrAt_eq_of_covers 11 _ (by decide +kernel) fun t hf y => ?_
  rw [after0_11]
  blk_simp
  refine (outs_at' m c t _).trans (mixOut_of _ _ _ _ _ _ _ _ _ _ _ _ ?_ ?_ ?_)
  · blk_simp [index11 t]
  · blk_simp [index11 t]
  · blk_simp [index11 t]

end Cert.Kernel3Ideal.Mix
end
-- ==== Proof.Ref3Read.lean ====
module

public import proofs.«01_k».proof.Proof.Gen.Reference3Ideal.Read
public import proofs.«01_k».proof.Proof.Mix
public import proofs.«01_k».proof.Proof.Ref2Read

@[expose] public section

set_option maxRecDepth 16384

noncomputable section

/-! The first layer's reference for its second half, read at an index. -/

namespace Cert.Ref3

open Cert.Reference3Ideal Cert.Reference3Ideal.Gen Cert.Reference3Ideal.Read Idealize.ShloMosaic Cert.Attn Cert.Mix

variable (x0 : (⟨S16x4096x1024, .f32⟩ : BufTy).Contents (Elt Ideal)) (x1 : (⟨S16x4096x768, .bf16⟩ : BufTy).Contents (Elt Ideal))
  (x2 : (⟨S16x4096x2560, .bf16⟩ : BufTy).Contents (Elt Ideal)) (x3 : (⟨S16x256x512, .bf16⟩ : BufTy).Contents (Elt Ideal))
  (x4 : (⟨S1024x1024, .f32⟩ : BufTy).Contents (Elt Ideal)) (x5 x6 : (⟨S1024, .f32⟩ : BufTy).Contents (Elt Ideal))
  (x7 : (⟨S1024x4096, .f32⟩ : BufTy).Contents (Elt Ideal)) (x8 : (⟨S4096x1024, .f32⟩ : BufTy).Contents (Elt Ideal))
  (x9 x10 : (⟨S1024, .f32⟩ : BufTy).Contents (Elt Ideal))

/-- The memory query of a token. -/
def qq (b t l : ℕ) : EReal := at3 x2 b t (2304 + l)
/-- The memory keys of a batch. -/
def kk (b u l : ℕ) : EReal := at3 x3 b u l
/-- The memory values of a batch. -/
def vv (b u l : ℕ) : EReal := at3 x3 b u (256 + l)

theorem v9_at (i : S16x4096x4x64.Idx) :
    val_main_v9 (F := Ideal) x2 i = qq x2 (i 0).val (i 1).val (64 * (i 2).val + (i 3).val) * Ideal.ofBits .f32 0x3E000000#32 := by
  have h0 : (i 0).val < 16 := (i 0).isLt
  have h1 : (i 1).val < 4096 := (i 1).isLt
  have h2 : (i 2).val < 4 := (i 2).isLt
  have h3 : (i 3).val < 64 := (i 3).isLt
  rw [val_main_v9_apply, val_main_v7_apply, val_main_v8_apply, val_main_v1_apply, val_main_v0_apply]
  refine Ideal.mul_congr (at3_of x2 _ ?_ ?_ ?_) rfl
  · show ((((i 0).val * 4096 + (i 1).val) * 4 + (i 2).val) * 64 + (i 3).val) / 1048576 = _; omega
  · show ((((i 0).val * 4096 + (i 1).val) * 4 + (i 2).val) * 64 + (i 3).val) / 256 % 4096 = _; omega
  · show 2304 + ((((i 0).val * 4096 + (i 1).val) * 4 + (i 2).val) * 64 + (i 3).val) % 256 = _; omega

theorem v10_at (i : S16x256x4x64.Idx) : val_main_v10 (F := Ideal) x3 i = kk x3 (i 0).val (i 1).val (64 * (i 2).val + (i 3).val) := by
  have h0 : (i 0).val < 16 := (i 0).isLt
  have h1 : (i 1).val < 256 := (i 1).isLt
  have h2 : (i 2).val < 4 := (i 2).isLt
  have h3 : (i 3).val < 64 := (i 3).isLt
  rw [val_main_v10_apply, val_main_v3_apply, val_main_v2_apply]
  refine at3_of x3 _ ?_ ?_ ?_
  · show ((((i 0).val * 256 + (i 1).val) * 4 + (i 2).val) * 64 + (i 3).val) / 65536 = _; omega
  · show ((((i 0).val * 256 + (i 1).val) * 4 + (i 2).val) * 64 + (i 3).val) / 256 % 256 = _; omega
  · show ((((i 0).val * 256 + (i 1).val) * 4 + (i 2).val) * 64 + (i 3).val) % 256 = _; omega

theorem v11_at (i : S16x256x4x64.Idx) : val_main_v11 (F := Ideal) x3 i = vv x3 (i 0).val (i 1).val (64 * (i 2).val + (i 3).val) := by
  have h0 : (i 0).val < 16 := (i 0).isLt
  have h1 : (i 1).val < 256 := (i 1).isLt
  have h2 : (i 2).val < 4 := (i 2).isLt
  have h3 : (i 3).val < 64 := (i 3).isLt
  rw [val_main_v11_apply, val_main_v5_apply, val_main_v4_apply]
  refine at3_of x3 _ ?_ ?_ ?_
  · show ((((i 0).val * 256 + (i 1).val) * 4 + (i 2).val) * 64 + (i 3).val) / 65536 = _; omega
  · show ((((i 0).val * 256 + (i 1).val) * 4 + (i 2).val) * 64 + (i 3).val) / 256 % 256 = _; omega
  · show 256 + ((((i 0).val * 256 + (i 1).val) * 4 + (i 2).val) * 64 + (i 3).val) % 256 = _; omega

theorem v12_at (i : S16x4x4096x256.Idx) :
    val_main_v12 (F := Ideal) x2 x3 i = sco (qq x2 (i 0).val (i 2).val) (kk x3 (i 0).val) (i 1).val (i 3).val := by
  rw [val_main_v12_apply]
  exact Finset.sum_congr rfl fun d _ => Ideal.mul_congr (v9_at x2 _) (v10_at x3 _)

theorem reduceMax_at (y : S16x4x4096x256.Idx → EReal) (z : S_.Idx → EReal) (hz : ∀ i, z i = ⊥) (b : Fin 16) (n : Fin 4) (t : Fin 4096) :
    Host.reduce (FloatOps.maximumf (F := Ideal) (φ := .f32)) y z reducesTo_S16x4x4096x256_S16x4x4096_d3 h_S_ (ix3 b n t) = Finset.univ.sup fun k : Fin 256 => y (ix4 b n t k) := by
  have hr : S16x4x4096x256.Reduces [3] S16x4x4096 := by decide
  have hf : ∀ k : Fin 256, hr.lift (ix3 b n t) k = ix4 b n t k := by
    intro k
    funext a; match a with
    | ⟨0, _⟩ => rfl
    | ⟨1, _⟩ => rfl
    | ⟨2, _⟩ => rfl
    | ⟨3, _⟩ => rfl
  refine (Host.reduce_eq_fold_single _ y z reducesTo_S16x4x4096x256_S16x4x4096_d3 hr h_S_ (ix3 b n t)).trans ?_
  rw [hz]
  exact (congrArg (fun f => Finset.fold (max : EReal → EReal → EReal) ⊥ f (Finset.univ : Finset (Fin 256))) (funext fun k => congrArg y (hf k))).trans (fold_max_eq_sup _)

theorem v15_at (i : S16x4x4096.Idx) : val_main_v15 (F := Ideal) x2 x3 i
    = Finset.univ.sup fun m : Fin 256 => sco (qq x2 (i 0).val (i 2).val) (kk x3 (i 0).val) (i 1).val m.val := by
  have h : val_main_v13 (F := Ideal) x2 x3 i = Finset.univ.sup fun m : Fin 256 => sco (qq x2 (i 0).val (i 2).val) (kk x3 (i 0).val) (i 1).val m.val := by
    rw [eq_ix3 i]
    unfold val_main_v13
    refine (reduceMax_at _ _ (fun i => (val_main_cst_0_apply i).trans Cert.Attn.neg_inf) (i 0) (i 1) (i 2)).trans ?_
    exact congrArg (Finset.univ : Finset (Fin 256)).sup (funext fun k => v12_at x2 x3 _)
  rw [val_main_v15_apply, h]
  exact (congrArg₂ (fun a c : EReal => max a c) Cert.Attn.neg_inf rfl).trans (bot_sup_eq _)

theorem v19_at (i : S16x4x4096x256.Idx) :
    val_main_v19 (F := Ideal) x2 x3 i = wei (qq x2 (i 0).val (i 2).val) (kk x3 (i 0).val) (i 1).val (i 3).val := by
  rw [val_main_v19_apply, val_main_v18_apply, val_main_v17_apply, val_main_v16_apply, v12_at, v15_at]
  rfl

theorem v23_at (i : S16x4x4096x256.Idx) : val_main_v23 (F := Ideal) x2 x3 i
    = Ideal.div (wei (qq x2 (i 0).val (i 2).val) (kk x3 (i 0).val) (i 1).val (i 3).val)
      (∑ m : Fin 256, wei (qq x2 (i 0).val (i 2).val) (kk x3 (i 0).val) (i 1).val m.val) := by
  rw [val_main_v23_apply, val_main_v22_apply, val_main_v21_apply, val_main_v20_apply, v19_at]
  refine congrArg₂ Ideal.div rfl ((Ideal.add_congr Cert.Ref2.zero_f32 (Finset.sum_congr rfl fun k _ => ?_)).trans (zero_add _))
  exact v19_at x2 x3 _

theorem v26_at (i : S16x4096x256.Idx) : val_main_v26 (F := Ideal) x2 x3 i
    = memr (qq x2 (i 0).val (i 1).val) (kk x3 (i 0).val) (vv x3 (i 0).val) (i 2).val := by
  have h0 : (i 0).val < 16 := (i 0).isLt
  have h1 : (i 1).val < 4096 := (i 1).isLt
  have h2 : (i 2).val < 256 := (i 2).isLt
  have e0 : (((i 0).val * 4096 + (i 1).val) * 256 + (i 2).val) / 1048576 = (i 0).val := by omega
  have e1 : (((i 0).val * 4096 + (i 1).val) * 256 + (i 2).val) / 256 % 4096 = (i 1).val := by omega
  have e2 : (((i 0).val * 4096 + (i 1).val) * 256 + (i 2).val) / 64 % 4 = (i 2).val / 64 := by omega
  have e3 : (((i 0).val * 4096 + (i 1).val) * 256 + (i 2).val) % 64 = (i 2).val % 64 := by omega
  have e4 : 64 * ((i 2).val / 64) + (i 2).val % 64 = (i 2).val := by omega
  rw [val_main_v26_apply, val_main_v25_apply, val_main_v24_apply]
  refine Finset.sum_congr rfl fun m _ => ?_
  rw [v11_at, v23_at]
  dsimp only
  rw [e0, e1, e2, e3, e4]

theorem v27_lo (i : S16x4096x1024.Idx) (h : (i 2).val < 768) : val_main_v27 (F := Ideal) x1 x2 x3 i
    = at3 x1 (i 0).val (i 1).val (i 2).val := by
  refine (concatenate_pair_apply_left 2 _ _ concatenates_S16x4096x768_S16x4096x256_S16x4096x1024_d2 i rfl (ix3 (i 0) (i 1) ⟨(i 2).val, h⟩ : S16x4096x768.Idx) ?_).trans
    (at3_of x1 _ rfl rfl rfl)
  intro a; match a with | ⟨0, _⟩ => rfl | ⟨1, _⟩ => rfl | ⟨2, _⟩ => rfl

theorem v27_hi (i : S16x4096x1024.Idx) (l : ℕ) (hl : l < 256) (h : (i 2).val = 768 + l) : val_main_v27 (F := Ideal) x1 x2 x3 i
    = memr (qq x2 (i 0).val (i 1).val) (kk x3 (i 0).val) (vv x3 (i 0).val) l := by
  refine (concatenate_pair_apply_right 2 _ _ concatenates_S16x4096x768_S16x4096x256_S16x4096x1024_d2 i rfl rfl (ix3 (i 0) (i 1) ⟨l, hl⟩ : S16x4096x256.Idx) ?_ ?_).trans
    (v26_at x2 x3 _)
  · intro a; match a with | ⟨0, _⟩ => exact fun _ => rfl | ⟨1, _⟩ => exact fun _ => rfl | ⟨2, _⟩ => exact fun h => absurd rfl h
  · show l + 768 = (i 2).val
    omega

/-- The projected row of a token. -/
def mm (b t j : ℕ) : EReal :=
  mixr ((at3 x1 b t)) (memr (qq x2 b t) (kk x3 b) (vv x3 b)) (at2 x4) j

theorem v28_at (i : S16x4096x1024.Idx) : val_main_v28 (F := Ideal) x1 x2 x3 x4 i = mm x1 x2 x3 x4 (i 0).val (i 1).val (i 2).val := by
  rw [val_main_v28_apply, Fin.sum_univ_two_halves 768 256 rfl]
  refine Ideal.add_congr (Finset.sum_congr rfl fun l _ => ?_) (Finset.sum_congr rfl fun l _ => ?_)
  · exact Ideal.mul_congr (v27_lo x1 x2 x3 _ l.isLt) (at2_of x4 _ rfl rfl)
  · exact Ideal.mul_congr (v27_hi x1 x2 x3 _ l.val l.isLt rfl) (at2_of x4 _ rfl rfl)

/-- The row before the first norm. -/
def y1 (b t j : ℕ) : EReal := Ideal.ofBits .f32 0x3FB504F3#32 * at3 x0 b t j + mm x1 x2 x3 x4 b t j

theorem v31_at (i : S16x4096x1024.Idx) : val_main_v31 (F := Ideal) x0 x1 x2 x3 x4 i = y1 x0 x1 x2 x3 x4 (i 0).val (i 1).val (i 2).val := by
  rw [val_main_v31_apply, val_main_v30_apply, val_main_v29_apply, v28_at]
  exact Ideal.add_congr (Ideal.mul_congr rfl (at3_of x0 i rfl rfl rfl)) rfl

theorem v35_at (i : S16x4096x1.Idx) : val_main_v35 (F := Ideal) x0 x1 x2 x3 x4 i
    = Ideal.div (∑ j : Fin 1024, y1 x0 x1 x2 x3 x4 (i 0).val (i 1).val j.val) (Ideal.ofBits .f32 0x44800000#32) := by
  rw [val_main_v35_apply, val_main_v34_apply, val_main_v33_apply, val_main_v32_apply]
  refine congrArg₂ Ideal.div ((Ideal.add_congr Cert.Ref2.zero_f32 (Finset.sum_congr rfl fun k _ => ?_)).trans (zero_add _)) rfl
  exact v31_at x0 x1 x2 x3 x4 _

theorem v37_at (i : S16x4096x1024.Idx) : val_main_v37 (F := Ideal) x0 x1 x2 x3 x4 i
    = y1 x0 x1 x2 x3 x4 (i 0).val (i 1).val (i 2).val
      - Ideal.div (∑ j : Fin 1024, y1 x0 x1 x2 x3 x4 (i 0).val (i 1).val j.val) (Ideal.ofBits .f32 0x44800000#32) := by
  rw [val_main_v37_apply, val_main_v36_apply, v31_at, v35_at]
  rfl

theorem v55_at (i : S16x4096x1024.Idx) : val_main_v55 (F := Ideal) x0 x1 x2 x3 x4 x5 x6 i
    = lnr (y1 x0 x1 x2 x3 x4 (i 0).val (i 1).val) (at1 x5) (at1 x6) (i 2).val := by
  rw [val_main_v55_apply, val_main_v54_apply, val_main_v53_apply, val_main_v52_apply, val_main_v51_apply, val_main_v50_apply, val_main_v49_apply, val_main_v48_apply,
    val_main_v47_apply, val_main_v46_apply, val_main_v45_apply, val_main_v44_apply, val_main_v43_apply, val_main_v42_apply, val_main_v41_apply, val_main_v40_apply,
    val_main_v39_apply, v31_at, v35_at]
  refine Ideal.add_congr (Ideal.mul_congr (Ideal.mul_congr rfl (congrArg Ideal.rsqrt (Ideal.add_congr (congrArg₂ Ideal.div
    ((Ideal.add_congr Cert.Ref2.zero_f32 (Finset.sum_congr rfl fun k _ => ?_)).trans (zero_add _)) rfl) rfl))) (at1_of x5 _ rfl)) (at1_of x6 _ rfl)
  exact Ideal.mul_congr (v37_at x0 x1 x2 x3 x4 _) (v37_at x0 x1 x2 x3 x4 _)

/-- The first norm's row. -/
def z1 (b t j : ℕ) : EReal := lnr (y1 x0 x1 x2 x3 x4 b t) (at1 x5) (at1 x6) j

theorem v58_at (i : S16x4096x4096.Idx) : val_main_v58 (F := Ideal) x0 x1 x2 x3 x4 x5 x6 x7 i
    = hid (z1 x0 x1 x2 x3 x4 x5 x6 (i 0).val (i 1).val) (at2 x7) (i 2).val := by
  have h : val_main_v57 (F := Ideal) x0 x1 x2 x3 x4 x5 x6 x7 i
      = max (∑ j : Fin 1024, z1 x0 x1 x2 x3 x4 x5 x6 (i 0).val (i 1).val j.val * at2 x7 j.val (i 2).val) 0 := by
    rw [val_main_v57_apply, val_main_v56_apply]
    refine congrArg₂ (fun a c : EReal => max a c) (Finset.sum_congr rfl fun k _ => ?_) ?_
    · exact Ideal.mul_congr (v55_at x0 x1 x2 x3 x4 x5 x6 _) (at2_of x7 _ rfl rfl)
    · rw [val_main_call0_v0_apply]; exact Cert.Ref2.zero_f32
  exact Ideal.mul_congr h h

/-- The row before the second norm. -/
def y2 (b t j : ℕ) : EReal :=
  Ideal.ofBits .f32 0x3FB504F3#32 * z1 x0 x1 x2 x3 x4 x5 x6 b t j + ffn (z1 x0 x1 x2 x3 x4 x5 x6 b t) (at2 x7) (at2 x8) j

theorem v62_at (i : S16x4096x1024.Idx) : val_main_v62 (F := Ideal) x0 x1 x2 x3 x4 x5 x6 x7 x8 i
    = y2 x0 x1 x2 x3 x4 x5 x6 x7 x8 (i 0).val (i 1).val (i 2).val := by
  rw [val_main_v62_apply, val_main_v60_apply, val_main_v59_apply, val_main_v61_apply, v55_at]
  refine Ideal.add_congr rfl (Finset.sum_congr rfl fun f _ => ?_)
  exact Ideal.mul_congr (v58_at x0 x1 x2 x3 x4 x5 x6 x7 _) (at2_of x8 _ rfl rfl)

theorem v66_at (i : S16x4096x1.Idx) : val_main_v66 (F := Ideal) x0 x1 x2 x3 x4 x5 x6 x7 x8 i
    = Ideal.div (∑ j : Fin 1024, y2 x0 x1 x2 x3 x4 x5 x6 x7 x8 (i 0).val (i 1).val j.val) (Ideal.ofBits .f32 0x44800000#32) := by
  rw [val_main_v66_apply, val_main_v65_apply, val_main_v64_apply, val_main_v63_apply]
  refine congrArg₂ Ideal.div ((Ideal.add_congr Cert.Ref2.zero_f32 (Finset.sum_congr rfl fun k _ => ?_)).trans (zero_add _)) rfl
  exact v62_at x0 x1 x2 x3 x4 x5 x6 x7 x8 _

theorem v68_at (i : S16x4096x1024.Idx) : val_main_v68 (F := Ideal) x0 x1 x2 x3 x4 x5 x6 x7 x8 i
    = y2 x0 x1 x2 x3 x4 x5 x6 x7 x8 (i 0).val (i 1).val (i 2).val
      - Ideal.div (∑ j : Fin 1024, y2 x0 x1 x2 x3 x4 x5 x6 x7 x8 (i 0).val (i 1).val j.val) (Ideal.ofBits .f32 0x44800000#32) := by
  rw [val_main_v68_apply, val_main_v67_apply, v62_at, v66_at]
  rfl

/-- The reference's result. -/
theorem v86_at (i : S16x4096x1024.Idx) : val_main_v86 (F := Ideal) x0 x1 x2 x3 x4 x5 x6 x7 x8 x9 x10 i
    = lnr (y2 x0 x1 x2 x3 x4 x5 x6 x7 x8 (i 0).val (i 1).val) (at1 x9) (at1 x10) (i 2).val := by
  rw [val_main_v86_apply, val_main_v85_apply, val_main_v84_apply, val_main_v83_apply, val_main_v82_apply, val_main_v81_apply, val_main_v80_apply, val_main_v79_apply,
    val_main_v78_apply, val_main_v77_apply, val_main_v76_apply, val_main_v75_apply, val_main_v74_apply, val_main_v73_apply, val_main_v72_apply, val_main_v71_apply,
    val_main_v70_apply, v62_at, v66_at]
  refine Ideal.add_congr (Ideal.mul_congr (Ideal.mul_congr rfl (congrArg Ideal.rsqrt (Ideal.add_congr (congrArg₂ Ideal.div
    ((Ideal.add_congr Cert.Ref2.zero_f32 (Finset.sum_congr rfl fun k _ => ?_)).trans (zero_add _)) rfl) rfl))) (at1_of x9 _ rfl)) (at1_of x10 _ rfl)
  exact Ideal.mul_congr (v68_at x0 x1 x2 x3 x4 x5 x6 x7 x8 _) (v68_at x0 x1 x2 x3 x4 x5 x6 x7 x8 _)

end Cert.Ref3

end
-- ==== Proof.Mix3Claims.lean ====
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Mix3Out
public import proofs.«01_k».proof.Proof.Ref3Read
public import proofs.«01_k».proof.Proof.Finite
public import Idealize.ShloMosaic.Lib.Quiescent

@[expose] public section

noncomputable section

/-! The claims about the first layer's second half, from its two runs and the law between the two values. -/

namespace Cert.Mix3Claims

open Idealize.ShloMosaic Idealize.SL.Sem Cert.Attn Cert.Mix

theorem facts : Cert.Pre_finite3.Facts where
  slices_S16x4096x2560_S16x4096x256_0_0_2304 := by decide
  bitsLt_bf16_f32 := by decide
  bcast_S_S16x4096x256 := by decide
  slices_S16x256x512_S16x256x256_0_0_0 := by decide
  bcast_S_S16x256x256 := by decide

local instance : Cert.Pre_finite3.Facts := facts

/-- The precondition: the memory queries and the memory keys are real. -/
theorem fin_args {x0 : FVec Ideal Cert.Pre_finite3.S16x4096x1024 .f32} {x1 : FVec Ideal Cert.Pre_finite3.S16x4096x768 .bf16}
    {x2 : FVec Ideal Cert.Pre_finite3.S16x4096x2560 .bf16} {x3 : FVec Ideal Cert.Pre_finite3.S16x256x512 .bf16} {x4 : FVec Ideal Cert.Pre_finite3.S1024x1024 .f32}
    {x5 x6 : FVec Ideal Cert.Pre_finite3.S1024 .f32} {x7 : FVec Ideal Cert.Pre_finite3.S1024x4096 .f32} {x8 : FVec Ideal Cert.Pre_finite3.S4096x1024 .f32}
    {x9 x10 : FVec Ideal Cert.Pre_finite3.S1024 .f32}
    (h : (Cert.Pre_finite3.fn (F := Ideal) x0 x1 x2 x3 x4 x5 x6 x7 x8 x9 x10).1 = (fun _ => 1#1)
      ∧ (Cert.Pre_finite3.fn (F := Ideal) x0 x1 x2 x3 x4 x5 x6 x7 x8 x9 x10).2 = (fun _ => 1#1)) :
    (∀ b t, ∀ l < 256, Fin' (at3 x2 b t (2304 + l))) ∧ ∀ b u, ∀ l < 256, Fin' (at3 x3 b u l) := by
  refine ⟨fun b t l hl => ?_, fun b u l hl => ?_⟩
  · by_cases hh : b < 16 ∧ t < 4096
    · have e := Cert.Finite.fin_of_olt _ (congrFun h.1 (ix3 ⟨b, hh.1⟩ ⟨t, hh.2⟩ ⟨l, hl⟩))
      exact (congrArg Fin' (at3_of x2 _ (Nat.zero_add _) (Nat.zero_add _) rfl)).mp e
    · rw [at3, dif_neg (fun h => hh ⟨h.1, h.2.1⟩)]; exact fin_coe 0
  · by_cases hh : b < 16 ∧ u < 256
    · have e := Cert.Finite.fin_of_olt _ (congrFun h.2 (ix3 ⟨b, hh.1⟩ ⟨u, hh.2⟩ ⟨l, hl⟩))
      exact (congrArg Fin' (at3_of x3 _ (Nat.zero_add _) (Nat.zero_add _) (Nat.zero_add _))).mp e
    · rw [at3, dif_neg (fun h => hh ⟨h.1, h.2.1⟩)]; exact fin_coe 0

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_ideal_finite : Cert.quiescent_Kernel3Ideal_pre_finite3 := fun m ρ _ => Cert.Kernel3Ideal.Gen.frame m ρ

theorem frame_ref : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem frame_ref_finite : Cert.quiescent_Reference3Ideal_pre_finite3 := fun m ρ _ => frame_ref m ρ trivial

variable (x0 : (⟨Cert.Kernel3Ideal.S16x4096x1024, .f32⟩ : BufTy).Contents (Elt Ideal)) (x1 : (⟨Cert.Kernel3Ideal.S16x4096x768, .bf16⟩ : BufTy).Contents (Elt Ideal))
  (x2 : (⟨Cert.Kernel3Ideal.S16x4096x2560, .bf16⟩ : BufTy).Contents (Elt Ideal)) (x3 : (⟨Cert.Kernel3Ideal.S16x256x512, .bf16⟩ : BufTy).Contents (Elt Ideal))
  (x4 : (⟨Cert.Kernel3Ideal.S1024x1024, .f32⟩ : BufTy).Contents (Elt Ideal)) (x5 x6 : (⟨Cert.Kernel3Ideal.S1024, .f32⟩ : BufTy).Contents (Elt Ideal))
  (x7 : (⟨Cert.Kernel3Ideal.S1024x4096, .f32⟩ : BufTy).Contents (Elt Ideal)) (x8 : (⟨Cert.Kernel3Ideal.S4096x1024, .f32⟩ : BufTy).Contents (Elt Ideal))
  (x9 x10 : (⟨Cert.Kernel3Ideal.S1024, .f32⟩ : BufTy).Contents (Elt Ideal))

/-- Over real memory queries and keys the reference's value is the kernel's. -/
theorem value_eq (hq : ∀ b t, ∀ l < 256, Fin' (at3 x2 b t (2304 + l))) (hk : ∀ b u, ∀ l < 256, Fin' (at3 x3 b u l)) :
    Cert.Reference3Ideal.Read.val_main_v86 (F := Ideal) x0 x1 x2 x3 x4 x5 x6 x7 x8 x9 x10
      = Cert.Kernel3Ideal.Mix.mixOut x0 x1 x2 x3 x4 x5 x6 x7 x8 x9 x10 :=
  funext fun i => (Cert.Ref3.v86_at x0 x1 x2 x3 x4 x5 x6 x7 x8 x9 x10 i).trans
    (outr_congr (at2 x7) (at2 x8) (at1 x9) (at1 x10)
      (fun j hj => x1r_congr (x := at3 x0 (i 0).val (i 1).val) (at2 x4) (at1 x5) (at1 x6) (fun _ _ => rfl)
        (fun l hl => (memk_eq_memr _ (hq (i 0).val (i 1).val) (hk (i 0).val) hl).symm) hj)
      (show (i 2).val < 1024 from (i 2).isLt))

theorem value_congr {y0 y1 y2 y3 y4 y5 y6 y7 y8 y9 y10} (h : y0 = x0 ∧ y1 = x1 ∧ y2 = x2 ∧ y3 = x3 ∧ y4 = x4 ∧ y5 = x5 ∧ y6 = x6 ∧ y7 = x7 ∧ y8 = x8 ∧ y9 = x9
      ∧ y10 = x10) :
    Cert.Reference3Ideal.Read.val_main_v86 (F := Ideal) y0 y1 y2 y3 y4 y5 y6 y7 y8 y9 y10
      = Cert.Reference3Ideal.Read.val_main_v86 (F := Ideal) x0 x1 x2 x3 x4 x5 x6 x7 x8 x9 x10 := by
  obtain ⟨rfl, rfl, rfl, rfl, rfl, rfl, rfl, rfl, rfl, rfl, rfl⟩ := h
  rfl

theorem algebraic : Cert.algebraic_Kernel3Ideal_Reference3Ideal_pre_finite3 := by
  intro m ρ m' ρ' hpre hagree
  refine ⟨fun c => (Cert.Kernel3Ideal.Gen.dats m 0 c).arrAt 11 Cert.Kernel3Ideal.cfg0.N, ?_, ?_⟩
  · exact Cert.Kernel3Ideal.Value.run_blocks m ρ
  · refine (θ_run Cert.Reference3Ideal.defs _ _).mono (fun r h c => ⟨(h c).1.trans ?_, (h c).2⟩)
      (Cert.Reference3Ideal.Value.run (F := Ideal) m' ρ')
    refine (Cert.Reference3Ideal.Read.val_main_v86_eq (StableHlo.launchContents m' c)).trans ?_
    refine Eq.trans ?_ (Cert.Kernel3Ideal.Mix.final m c).symm
    have hf := fin_args (hpre c)
    refine Eq.trans ?_ (value_eq _ _ _ _ _ _ _ _ _ _ _ hf.1 hf.2)
    exact value_congr _ _ _ _ _ _ _ _ _ _ _ (hagree c)

end Cert.Mix3Claims

end
-- ==== Proof.Mix7Blk.lean ====
module

public import proofs.«01_k».proof.Proof.Gen.Kernel7Ideal.Value
public import proofs.«01_k».proof.Proof.Mix
public import Idealize.ShloMosaic.Lib.ValueIdx
public import Idealize.ShloMosaic.Lib.Pointwise
public import Idealize.ShloMosaic.Lib.Pipeline.ValueKit

@[expose] public section

set_option maxRecDepth 16384

noncomputable section

/-! The staged blocks of the sample batch, read from the arguments. -/

namespace Cert.Kernel7Ideal.Mix

open Idealize.ShloMosaic Idealize.ShloMosaic.TcCoe Idealize.ShloMosaic.Tactic
open Idealize.ShloMosaic.Pipeline (Dat Cfg Window BodyObligation cellOf)
open Cert.Kernel7Ideal Cert.Kernel7Ideal.Gen Cert.Mix Cert.Attn

variable (m : (ℓ : Loc nD τ sig) → Buf (Elt Ideal) ℓ)

/-- The batch of a grid point. -/
abbrev tb (t : Fin cfg0.N) : ℕ := (grid0.coords t 0).val
/-- The row block of a grid point. -/
abbrev tr (t : Fin cfg0.N) : ℕ := (grid0.coords t 1).val

theorem index0 : ∀ t : Fin grid0.N, win0_0.index t = ![tb t, tr t, 0] := by decide +kernel

theorem index1 : ∀ t : Fin grid0.N, win0_1.index t = ![tb t, tr t, 0] := by decide +kernel

theorem index2 : ∀ t : Fin grid0.N, win0_2.index t = ![tb t, tr t, 0] := by decide +kernel

theorem index3 : ∀ t : Fin grid0.N, win0_3.index t = ![tb t, tr t, 4] := by decide +kernel

theorem index4 : ∀ t : Fin grid0.N, win0_4.index t = ![0, 0] := by decide +kernel

theorem index5 : ∀ t : Fin grid0.N, win0_5.index t = ![tb t, tr t, 15] := by decide +kernel

theorem index6 : ∀ t : Fin grid0.N, win0_6.index t = ![tb t, 0, 0] := by decide +kernel

theorem index7 : ∀ t : Fin grid0.N, win0_7.index t = ![0, 0] := by decide +kernel

theorem index8 : ∀ t : Fin grid0.N, win0_8.index t = ![0, 0] := by decide +kernel

theorem index9 : ∀ t : Fin grid0.N, win0_9.index t = ![0, 0] := by decide +kernel

theorem index10 : ∀ t : Fin grid0.N, win0_10.index t = ![0, 0] := by decide +kernel

theorem index11 : ∀ t : Fin grid0.N, win0_11.index t = ![0, 0] := by decide +kernel

theorem index12 : ∀ t : Fin grid0.N, win0_12.index t = ![0, 0] := by decide +kernel

theorem index13 : ∀ t : Fin grid0.N, win0_13.index t = ![0, 0] := by decide +kernel

theorem index14 : ∀ t : Fin grid0.N, win0_14.index t = ![tb t, tr t, 0] := by decide +kernel

theorem V_v0 (c : Dev nD) : V m c main_v0 = m ((c : Thread nD τ).loc main_arg5) := by
  simp only [V, hostOps0, List.flatten_cons, List.flatten_nil, List.append_nil, List.cons_append, List.nil_append, StableHlo.after_cons, StableHlo.after_nil]
  after_results_simp
  after_results_loop
  rfl

theorem V_v1 (c : Dev nD) : V m c main_v1 = m ((c : Thread nD τ).loc main_arg8) := by
  simp only [V, hostOps0, List.flatten_cons, List.flatten_nil, List.append_nil, List.cons_append, List.nil_append, StableHlo.after_cons, StableHlo.after_nil]
  after_results_simp
  after_results_loop
  rfl

theorem V_v2 (c : Dev nD) : V m c main_v2 = m ((c : Thread nD τ).loc main_arg9) := by
  simp only [V, hostOps0, List.flatten_cons, List.flatten_nil, List.append_nil, List.cons_append, List.nil_append, StableHlo.after_cons, StableHlo.after_nil]
  after_results_simp
  after_results_loop
  rfl

theorem V_v3 (c : Dev nD) : V m c main_v3 = shapeCast S1x1024 (m ((c : Thread nD τ).loc main_arg6)) shapeCasts_S1024_S1x1024 := by
  simp only [V, hostOps0, List.flatten_cons, List.flatten_nil, List.append_nil, List.cons_append, List.nil_append, StableHlo.after_cons, StableHlo.after_nil]
  after_results_simp
  after_results_loop
  rfl

theorem V_v4 (c : Dev nD) : V m c main_v4 = shapeCast S1x1024 (m ((c : Thread nD τ).loc main_arg7)) shapeCasts_S1024_S1x1024 := by
  simp only [V, hostOps0, List.flatten_cons, List.flatten_nil, List.append_nil, List.cons_append, List.nil_append, StableHlo.after_cons, StableHlo.after_nil]
  after_results_simp
  after_results_loop
  rfl

theorem V_v5 (c : Dev nD) : V m c main_v5 = shapeCast S1x1024 (m ((c : Thread nD τ).loc main_arg10)) shapeCasts_S1024_S1x1024 := by
  simp only [V, hostOps0, List.flatten_cons, List.flatten_nil, List.append_nil, List.cons_append, List.nil_append, StableHlo.after_cons, StableHlo.after_nil]
  after_results_simp
  after_results_loop
  rfl

theorem V_v6 (c : Dev nD) : V m c main_v6 = shapeCast S1x1024 (m ((c : Thread nD τ).loc main_arg11)) shapeCasts_S1024_S1x1024 := by
  simp only [V, hostOps0, List.flatten_cons, List.flatten_nil, List.append_nil, List.cons_append, List.nil_append, StableHlo.after_cons, StableHlo.after_nil]
  after_results_simp
  after_results_loop
  rfl

theorem V_v7 (c : Dev nD) : V m c main_v7 = shapeCast S1x128 (m ((c : Thread nD τ).loc main_arg12)) shapeCasts_S128_S1x128 := by
  simp only [V, hostOps0, List.flatten_cons, List.flatten_nil, List.append_nil, List.cons_append, List.nil_append, StableHlo.after_cons, StableHlo.after_nil]
  after_results_simp
  after_results_loop
  rfl

theorem cast128 (x : S128.Idx → EReal) (i : S1x128.Idx) : shapeCast S1x128 x shapeCasts_S128_S1x128 i = at1 x (i 1).val := by
  idx_vars i
  pointwise
  exact at1_of x _ rfl

theorem cast1024 (x : S1024.Idx → EReal) (i : S1x1024.Idx) : shapeCast S1x1024 x shapeCasts_S1024_S1x1024 i = at1 x (i 1).val := by
  idx_vars i
  pointwise
  exact at1_of x _ rfl

theorem blk0 (c : Dev nD) (t : Fin cfg0.N) (r : Fin 512) (l : Fin 1024) :
    (iblk m c 0 t (ix3 0 r l : S1x512x1024.Idx) : EReal) = at3 (m ((c : Thread nD τ).loc main_arg0)) (tb t) (tr t * 512 + r.val) (l.val) := by
  unfold iblk
  refine at3_of (m ((c : Thread nD τ).loc main_arg0)) _ ?_ ?_ ?_
  · blk_simp [index0 t]; rfl
  · blk_simp [index0 t]
  · blk_simp [index0 t]

theorem blk1 (c : Dev nD) (t : Fin cfg0.N) (r : Fin 512) (l : Fin 768) :
    (iblk m c 1 t (ix3 0 r l : S1x512x768.Idx) : EReal) = at3 (m ((c : Thread nD τ).loc main_arg1)) (tb t) (tr t * 512 + r.val) (l.val) := by
  unfold iblk
  refine at3_of (m ((c : Thread nD τ).loc main_arg1)) _ ?_ ?_ ?_
  · blk_simp [index1 t]; rfl
  · blk_simp [index1 t]
  · blk_simp [index1 t]

theorem blk2 (c : Dev nD) (t : Fin cfg0.N) (r : Fin 512) (l : Fin 768) :
    (iblk m c 2 t (ix3 0 r l : S1x512x768.Idx) : EReal) = at3 (m ((c : Thread nD τ).loc main_arg2)) (tb t) (tr t * 512 + r.val) (l.val) := by
  unfold iblk
  refine at3_of (m ((c : Thread nD τ).loc main_arg2)) _ ?_ ?_ ?_
  · blk_simp [index2 t]; rfl
  · blk_simp [index2 t]
  · blk_simp [index2 t]

theorem blk5 (c : Dev nD) (t : Fin cfg0.N) (r : Fin 512) (l : Fin 256) :
    (iblk m c 5 t (ix3 0 r l : S1x512x256.Idx) : EReal) = at3 (m ((c : Thread nD τ).loc main_arg3)) (tb t) (tr t * 512 + r.val) (3840 + l.val) := by
  unfold iblk
  refine at3_of (m ((c : Thread nD τ).loc main_arg3)) _ ?_ ?_ ?_
  · blk_simp [index5 t]; rfl
  · blk_simp [index5 t]
  · blk_simp [index5 t]

theorem blk6 (c : Dev nD) (t : Fin cfg0.N) (r : Fin 256) (l : Fin 512) :
    (iblk m c 6 t (ix3 0 r l : S1x256x512.Idx) : EReal) = at3 (m ((c : Thread nD τ).loc main_arg4)) (tb t) (r.val) (l.val) := by
  unfold iblk
  refine at3_of (m ((c : Thread nD τ).loc main_arg4)) _ ?_ ?_ ?_
  · blk_simp [index6 t]; rfl
  · blk_simp [index6 t]
  · blk_simp [index6 t]

theorem blk3 (c : Dev nD) (t : Fin cfg0.N) (r : Fin 512) (l : Fin 768) :
    (X0_3 m c t (ix3 0 r l : S1x512x768.Idx) : EReal) = at3 (m ((c : Thread nD τ).loc main_arg3)) (tb t) (tr t * 512 + r.val) (3072 + l.val) := by
  unfold X0_3 Pipeline.Window.fill
  refine (dif_pos (moved0_3 t _)).trans ?_
  unfold iblk
  refine at3_of (m ((c : Thread nD τ).loc main_arg3)) _ ?_ ?_ ?_
  · blk_simp [index3 t]; rfl
  · blk_simp [index3 t]
  · blk_simp [index3 t]

theorem blk7 (c : Dev nD) (t : Fin cfg0.N) (r : Fin 1024) (l : Fin 1024) :
    (iblk m c 7 t (ix2 r l : S1024x1024.Idx) : EReal) = at2 (m ((c : Thread nD τ).loc main_arg5)) r.val l.val := by
  unfold iblk
  refine (congrFun (V_v0 m c) _).trans ?_
  refine at2_of (m ((c : Thread nD τ).loc main_arg5)) _ ?_ ?_
  · blk_simp [index7 t]
  · blk_simp [index7 t]

theorem blk10 (c : Dev nD) (t : Fin cfg0.N) (r : Fin 1024) (l : Fin 4096) :
    (iblk m c 10 t (ix2 r l : S1024x4096.Idx) : EReal) = at2 (m ((c : Thread nD τ).loc main_arg8)) r.val l.val := by
  unfold iblk
  refine (congrFun (V_v1 m c) _).trans ?_
  refine at2_of (m ((c : Thread nD τ).loc main_arg8)) _ ?_ ?_
  · blk_simp [index10 t]
  · blk_simp [index10 t]

theorem blk11 (c : Dev nD) (t : Fin cfg0.N) (r : Fin 4096) (l : Fin 1024) :
    (iblk m c 11 t (ix2 r l : S4096x1024.Idx) : EReal) = at2 (m ((c : Thread nD τ).loc main_arg9)) r.val l.val := by
  unfold iblk
  refine (congrFun (V_v2 m c) _).trans ?_
  refine at2_of (m ((c : Thread nD τ).loc main_arg9)) _ ?_ ?_
  · blk_simp [index11 t]
  · blk_simp [index11 t]

theorem blk4 (c : Dev nD) (t : Fin cfg0.N) (l : Fin 128) :
    (iblk m c 4 t (ix2 0 l : S1x128.Idx) : EReal) = at1 (m ((c : Thread nD τ).loc main_arg12)) l.val := by
  unfold iblk
  refine (congrFun (V_v7 m c) _).trans ?_
  refine (cast128 _ _).trans (congrArg (at1 _) ?_)
  blk_simp [index4 t]

theorem blk8 (c : Dev nD) (t : Fin cfg0.N) (l : Fin 1024) :
    (iblk m c 8 t (ix2 0 l : S1x1024.Idx) : EReal) = at1 (m ((c : Thread nD τ).loc main_arg6)) l.val := by
  unfold iblk
  refine (congrFun (V_v3 m c) _).trans ?_
  refine (cast1024 _ _).trans (congrArg (at1 _) ?_)
  blk_simp [index8 t]

theorem blk9 (c : Dev nD) (t : Fin cfg0.N) (l : Fin 1024) :
    (iblk m c 9 t (ix2 0 l : S1x1024.Idx) : EReal) = at1 (m ((c : Thread nD τ).loc main_arg7)) l.val := by
  unfold iblk
  refine (congrFun (V_v4 m c) _).trans ?_
  refine (cast1024 _ _).trans (congrArg (at1 _) ?_)
  blk_simp [index9 t]

theorem blk12 (c : Dev nD) (t : Fin cfg0.N) (l : Fin 1024) :
    (iblk m c 12 t (ix2 0 l : S1x1024.Idx) : EReal) = at1 (m ((c : Thread nD τ).loc main_arg10)) l.val := by
  unfold iblk
  refine (congrFun (V_v5 m c) _).trans ?_
  refine (cast1024 _ _).trans (congrArg (at1 _) ?_)
  blk_simp [index12 t]

theorem blk13 (c : Dev nD) (t : Fin cfg0.N) (l : Fin 1024) :
    (iblk m c 13 t (ix2 0 l : S1x1024.Idx) : EReal) = at1 (m ((c : Thread nD τ).loc main_arg11)) l.val := by
  unfold iblk
  refine (congrFun (V_v6 m c) _).trans ?_
  refine (cast1024 _ _).trans (congrArg (at1 _) ?_)
  blk_simp [index13 t]

end Cert.Kernel7Ideal.Mix

end
-- ==== Proof.Mix7Out.lean ====
module

public import proofs.«01_k».proof.Proof.MixOut
public import proofs.«01_k».proof.Proof.Mix7Blk
public import Idealize.ShloMosaic.Lib.Pipeline.ReadBack

@[expose] public section

set_option maxRecDepth 16384

noncomputable section

/-! The output array after the sample batch's launch. -/

namespace Cert.Kernel7Ideal.Mix

open Idealize.ShloMosaic Idealize.ShloMosaic.TcCoe Idealize.ShloMosaic.Tactic
open Idealize.ShloMosaic.Pipeline (Dat Cfg Window BodyObligation cellOf)
open Cert.Kernel7Ideal Cert.Kernel7Ideal.Gen Cert.Mix Cert.Attn
open Cert.Kernel2Ideal.Mix (idxv pieces_cons readCov_of_pieces MB piece block_apply prim_apply)

/-- One row of the result, from the argument arrays. -/
def rowOut (x0 : S2x16384x1024.Idx → EReal) (x1 x2 : S2x16384x768.Idx → EReal) (x3 : S2x16384x4096.Idx → EReal) (x4 : S2x256x512.Idx → EReal)
    (x5 : S1024x1024.Idx → EReal) (x6 x7 : S1024.Idx → EReal) (x8 : S1024x4096.Idx → EReal) (x9 : S4096x1024.Idx → EReal) (x10 x11 : S1024.Idx → EReal)
    (x12 : S128.Idx → EReal) (b t : ℕ) : ℕ → EReal :=
  outr (x1r (at3 x0 b t) (prim (fun l => at3 x1 b t l + at3 x2 b t l) (at1 x12) fun l => at3 x3 b t (3072 + l))
      (memk (fun l => at3 x3 b t (3840 + l)) (fun u l => at3 x4 b u l) fun u l => at3 x4 b u (256 + l)) (at2 x5) (at1 x6) (at1 x7))
    (at2 x8) (at2 x9) (at1 x10) (at1 x11)

variable (m : (ℓ : Loc nD τ sig) → Buf (Elt Ideal) ℓ)

/-- The row of the launch's arguments. -/
abbrev rowOf (c : Dev nD) : ℕ → ℕ → ℕ → EReal :=
  rowOut (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12))

set_option maxHeartbeats 1000000 in
/-- What the body leaves at point `t`, read at an index of the block. -/
theorem outs_at (c : Dev nD) (t : Fin cfg0.N) (r : Fin 512) (j : Fin 1024) :
    (outsAt0 m c t (ix3 0 r j : S1x512x1024.Idx) : EReal) = rowOf m c (tb t) (tr t * 512 + r.val) j.val := by
  unfold outsAt0
  frame_out
  refine block_apply r _ _ _ _ _ _ _ _ _ _ _ _ _ _ _ _ _ _ _ _ _ _ _ _ _ _ _ ?_ ?_ ?_ ?_ (fun j => blk0 m c t r j) (fun j => blk8 m c t j) (fun j => blk9 m c t j)
    (fun j => blk12 m c t j) (fun j => blk13 m c t j) ?_ ?_ ?_ ?_ ?_ ?_ ?_ ?_ j
  · exact prim_apply _ _ _ _ _ _ _ r (fun l => Ideal.add_congr (blk1 m c t r l) (blk2 m c t r l)) (fun d => blk4 m c t d) (fun l => blk3 m c t r l)
  · intro l j; pointwise; exact blk7 m c t _ j
  · intro l
    refine (readCov_of_pieces (View.whole cc0_scratch0)
      (MB (fun r l => at3 (m ((c : Thread nD τ).loc main_arg3)) (tb t) (tr t * 512 + r) (3840 + l)) (fun u l => at3 (m ((c : Thread nD τ).loc main_arg4)) (tb t) u l)
        fun u l => at3 (m ((c : Thread nD τ).loc main_arg4)) (tb t) u (256 + l)) _ ?_ ?_ _ _).trans ?_
    · refine pieces_cons _ _ _ _ ?_ (pieces_cons _ _ _ _ ?_ (pieces_cons _ _ _ _ ?_ (pieces_cons _ _ _ _ ?_ (pieces_cons _ _ _ _ ?_ (pieces_cons _ _ _ _ ?_ (pieces_cons _ _ _ _ ?_ (pieces_cons _ _ _ _ ?_ trivial)))))))
      · refine piece _ _ _ _ _ _ 3 1 ?_ ?_ ?_ _ _ rfl <;> intro a b <;> pointwise
        · exact (blk5 m c t _ _).trans (congrArg₂ (at3 _ _) (by first | (dsimp only; done) | (dsimp only; omega) | omega) (by first | (dsimp only; done) | (dsimp only; omega) | omega))
        · exact (blk6 m c t _ _).trans (congrArg (at3 _ _ _) (by first | (dsimp only; done) | (dsimp only; omega) | omega))
        · exact (blk6 m c t _ _).trans (congrArg (at3 _ _ _) (by first | (dsimp only; done) | (dsimp only; omega) | omega))
      · refine piece _ _ _ _ _ _ 3 0 ?_ ?_ ?_ _ _ rfl <;> intro a b <;> pointwise
        · exact (blk5 m c t _ _).trans (congrArg₂ (at3 _ _) (by first | (dsimp only; done) | (dsimp only; omega) | omega) (by first | (dsimp only; done) | (dsimp only; omega) | omega))
        · exact (blk6 m c t _ _).trans (congrArg (at3 _ _ _) (by first | (dsimp only; done) | (dsimp only; omega) | omega))
        · exact (blk6 m c t _ _).trans (congrArg (at3 _ _ _) (by first | (dsimp only; done) | (dsimp only; omega) | omega))
      · refine piece _ _ _ _ _ _ 2 1 ?_ ?_ ?_ _ _ rfl <;> intro a b <;> pointwise
        · exact (blk5 m c t _ _).trans (congrArg₂ (at3 _ _) (by first | (dsimp only; done) | (dsimp only; omega) | omega) (by first | (dsimp only; done) | (dsimp only; omega) | omega))
        · exact (blk6 m c t _ _).trans (congrArg (at3 _ _ _) (by first | (dsimp only; done) | (dsimp only; omega) | omega))
        · exact (blk6 m c t _ _).trans (congrArg (at3 _ _ _) (by first | (dsimp only; done) | (dsimp only; omega) | omega))
      · refine piece _ _ _ _ _ _ 2 0 ?_ ?_ ?_ _ _ rfl <;> intro a b <;> pointwise
        · exact (blk5 m c t _ _).trans (congrArg₂ (at3 _ _) (by first | (dsimp only; done) | (dsimp only; omega) | omega) (by first | (dsimp only; done) | (dsimp only; omega) | omega))
        · exact (blk6 m c t _ _).trans (congrArg (at3 _ _ _) (by first | (dsimp only; done) | (dsimp only; omega) | omega))
        · exact (blk6 m c t _ _).trans (congrArg (at3 _ _ _) (by first | (dsimp only; done) | (dsimp only; omega) | omega))
      · refine piece _ _ _ _ _ _ 1 1 ?_ ?_ ?_ _ _ rfl <;> intro a b <;> pointwise
        · exact (blk5 m c t _ _).trans (congrArg₂ (at3 _ _) (by first | (dsimp only; done) | (dsimp only; omega) | omega) (by first | (dsimp only; done) | (dsimp only; omega) | omega))
        · exact (blk6 m c t _ _).trans (congrArg (at3 _ _ _) (by first | (dsimp only; done) | (dsimp only; omega) | omega))
        · exact (blk6 m c t _ _).trans (congrArg (at3 _ _ _) (by first | (dsimp only; done) | (dsimp only; omega) | omega))
      · refine piece _ _ _ _ _ _ 1 0 ?_ ?_ ?_ _ _ rfl <;> intro a b <;> pointwise
        · exact (blk5 m c t _ _).trans (congrArg₂ (at3 _ _) (by first | (dsimp only; done) | (dsimp only; omega) | omega) (by first | (dsimp only; done) | (dsimp only; omega) | omega))
        · exact (blk6 m c t _ _).trans (congrArg (at3 _ _ _) (by first | (dsimp only; done) | (dsimp only; omega) | omega))
        · exact (blk6 m c t _ _).trans (congrArg (at3 _ _ _) (by first | (dsimp only; done) | (dsimp only; omega) | omega))
      · refine piece _ _ _ _ _ _ 0 1 ?_ ?_ ?_ _ _ rfl <;> intro a b <;> pointwise
        · exact (blk5 m c t _ _).trans (congrArg₂ (at3 _ _) (by first | (dsimp only; done) | (dsimp only; omega) | omega) (by first | (dsimp only; done) | (dsimp only; omega) | omega))
        · exact (blk6 m c t _ _).trans (congrArg (at3 _ _ _) (by first | (dsimp only; done) | (dsimp only; omega) | omega))
        · exact (blk6 m c t _ _).trans (congrArg (at3 _ _ _) (by first | (dsimp only; done) | (dsimp only; omega) | omega))
      · refine piece _ _ _ _ _ _ 0 0 ?_ ?_ ?_ _ _ rfl <;> intro a b <;> pointwise
        · exact (blk5 m c t _ _).trans (congrArg₂ (at3 _ _) (by first | (dsimp only; done) | (dsimp only; omega) | omega) (by first | (dsimp only; done) | (dsimp only; omega) | omega))
        · exact (blk6 m c t _ _).trans (congrArg (at3 _ _ _) (by first | (dsimp only; done) | (dsimp only; omega) | omega))
        · exact (blk6 m c t _ _).trans (congrArg (at3 _ _ _) (by first | (dsimp only; done) | (dsimp only; omega) | omega))
    · exact View.cover_of_tiledL _ S128x128.size (by sl_kernel_rfl)
    · exact congrArg₂ (fun u w : ℕ => memk (fun l => at3 (m ((c : Thread nD τ).loc main_arg3)) (tb t) (tr t * 512 + u) (3840 + l))
        (fun u l => at3 (m ((c : Thread nD τ).loc main_arg4)) (tb t) u l) (fun u l => at3 (m ((c : Thread nD τ).loc main_arg4)) (tb t) u (256 + l)) w)
        (idxv (s := S512x256) ![0, 0] ![512, 256] _ (ix2 r l) 0 rfl (Nat.zero_add _)) (idxv (s := S512x256) ![0, 0] ![512, 256] _ (ix2 r l) 1 rfl (Nat.zero_add _))
  all_goals (intro a b; pointwise)
  · exact blk7 m c t _ b
  · exact blk10 m c t a _
  · exact blk11 m c t _ b
  · exact blk10 m c t a _
  · exact blk11 m c t _ b
  · exact blk10 m c t a _
  · exact blk11 m c t _ b
  · exact blk10 m c t a _
  · exact blk11 m c t _ b

theorem outs_at' (c : Dev nD) (t : Fin cfg0.N) (y : S1x512x1024.Idx) :
    (outsAt0 m c t y : EReal) = rowOf m c (tb t) (tr t * 512 + (y 1).val) (y 2).val := by
  have hy : y = ix3 0 (y 1) (y 2) := by
    funext a; match a with | ⟨0, _⟩ => exact Fin.ext (by have : (y 0).val < 1 := (y 0).isLt; show (y 0).val = 0; omega) | ⟨1, _⟩ => rfl | ⟨2, _⟩ => rfl
  exact (congrArg (outsAt0 m c t) hy).trans (outs_at m c t (y 1) (y 2))

/-- The result over every index. -/
def mixOut (x0 : S2x16384x1024.Idx → EReal) (x1 x2 : S2x16384x768.Idx → EReal) (x3 : S2x16384x4096.Idx → EReal) (x4 : S2x256x512.Idx → EReal)
    (x5 : S1024x1024.Idx → EReal) (x6 x7 : S1024.Idx → EReal) (x8 : S1024x4096.Idx → EReal) (x9 : S4096x1024.Idx → EReal) (x10 x11 : S1024.Idx → EReal)
    (x12 : S128.Idx → EReal) : S2x16384x1024.Idx → EReal :=
  fun i => rowOut x0 x1 x2 x3 x4 x5 x6 x7 x8 x9 x10 x11 x12 (i 0).val (i 1).val (i 2).val

theorem mixOut_of (x0 : S2x16384x1024.Idx → EReal) (x1 x2 : S2x16384x768.Idx → EReal) (x3 : S2x16384x4096.Idx → EReal) (x4 : S2x256x512.Idx → EReal)
    (x5 : S1024x1024.Idx → EReal) (x6 x7 : S1024.Idx → EReal) (x8 : S1024x4096.Idx → EReal) (x9 : S4096x1024.Idx → EReal) (x10 x11 : S1024.Idx → EReal)
    (x12 : S128.Idx → EReal) (i : S2x16384x1024.Idx) {a b d : ℕ} (h0 : a = (i 0).val) (h1 : b = (i 1).val) (h2 : d = (i 2).val) :
    rowOut x0 x1 x2 x3 x4 x5 x6 x7 x8 x9 x10 x11 x12 a b d = mixOut x0 x1 x2 x3 x4 x5 x6 x7 x8 x9 x10 x11 x12 i := by
  subst h0 h1 h2; rfl

/-- The output array after the launch. -/
theorem final (c : Dev nD) :
    (dats m 0 c).arrAt 14 cfg0.N = mixOut (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11))
      (m ((c : Thread nD τ).loc main_arg12)) := by
  refine (dats m 0 c).arrAt_eq_of_covers 14 _ (by decide +kernel) fun t hf y => ?_
  rw [after0_14]
  blk_simp
  refine (outs_at' m c t _).trans (mixOut_of _ _ _ _ _ _ _ _ _ _ _ _ _ _ ?_ ?_ ?_)
  · blk_simp [index14 t]
  · blk_simp [index14 t]
  · blk_simp [index14 t]

end Cert.Kernel7Ideal.Mix
end
-- ==== Proof.Ref7Read.lean ====
module

public import proofs.«01_k».proof.Proof.Gen.Reference7Ideal.Read
public import proofs.«01_k».proof.Proof.Ref2Read

@[expose] public section

set_option maxRecDepth 16384

noncomputable section

/-! The reference's second half of the layer on the sample batch, read at an index. -/

namespace Cert.Ref7

open Cert.Reference7Ideal Cert.Reference7Ideal.Gen Cert.Reference7Ideal.Read Idealize.ShloMosaic Cert.Attn Cert.Mix
open Cert.Ref2 (zero_f32 one_f32)

variable (x0 : (⟨S2x16384x1024, .f32⟩ : BufTy).Contents (Elt Ideal)) (x1 x2 : (⟨S2x16384x768, .bf16⟩ : BufTy).Contents (Elt Ideal))
  (x3 : (⟨S2x16384x4096, .bf16⟩ : BufTy).Contents (Elt Ideal)) (x4 : (⟨S2x256x512, .bf16⟩ : BufTy).Contents (Elt Ideal))
  (x5 : (⟨S1024x1024, .f32⟩ : BufTy).Contents (Elt Ideal)) (x6 x7 : (⟨S1024, .f32⟩ : BufTy).Contents (Elt Ideal))
  (x8 : (⟨S1024x4096, .f32⟩ : BufTy).Contents (Elt Ideal)) (x9 : (⟨S4096x1024, .f32⟩ : BufTy).Contents (Elt Ideal))
  (x10 x11 : (⟨S1024, .f32⟩ : BufTy).Contents (Elt Ideal)) (x12 : (⟨S128, .f32⟩ : BufTy).Contents (Elt Ideal))

/-- The summed scans of a token. -/
def oo (b t l : ℕ) : EReal := at3 x1 b t l + at3 x2 b t l
/-- The gate of a token. -/
def gg (b t l : ℕ) : EReal := at3 x3 b t (3072 + l)
/-- The memory query of a token. -/
def qq (b t l : ℕ) : EReal := at3 x3 b t (3840 + l)
/-- The memory keys of a batch. -/
def kk (b u l : ℕ) : EReal := at3 x4 b u l
/-- The memory values of a batch. -/
def vv (b u l : ℕ) : EReal := at3 x4 b u (256 + l)

theorem v10_at (i : S2x16384x768.Idx) : val_main_v10 (F := Ideal) x1 x2 i = oo x1 x2 (i 0).val (i 1).val (i 2).val :=
  Ideal.add_congr (at3_of x1 i rfl rfl rfl) (at3_of x2 i rfl rfl rfl)

theorem v11_at (i : S2x16384x6x128.Idx) :
    val_main_v11 (F := Ideal) x1 x2 i = oo x1 x2 (i 0).val (i 1).val (128 * (i 2).val + (i 3).val) := by
  have h0 : (i 0).val < 2 := (i 0).isLt
  have h1 : (i 1).val < 16384 := (i 1).isLt
  have h2 : (i 2).val < 6 := (i 2).isLt
  have h3 : (i 3).val < 128 := (i 3).isLt
  rw [val_main_v11_apply, v10_at]
  refine congr (congr (congrArg (oo x1 x2) ?_) ?_) ?_
  · show ((((i 0).val * 16384 + (i 1).val) * 6 + (i 2).val) * 128 + (i 3).val) / 12582912 = _; omega
  · show ((((i 0).val * 16384 + (i 1).val) * 6 + (i 2).val) * 128 + (i 3).val) / 768 % 16384 = _; omega
  · show ((((i 0).val * 16384 + (i 1).val) * 6 + (i 2).val) * 128 + (i 3).val) % 768 = _; omega

theorem v13_at (i : S2x16384x6.Idx) : val_main_v13 (F := Ideal) x1 x2 i
    = ∑ e : Fin 128, oo x1 x2 (i 0).val (i 1).val (128 * (i 2).val + e.val) * oo x1 x2 (i 0).val (i 1).val (128 * (i 2).val + e.val) := by
  rw [val_main_v13_apply]
  refine (Ideal.add_congr zero_f32 (Finset.sum_congr rfl fun k _ => ?_)).trans (zero_add _)
  exact Ideal.mul_congr (v11_at x1 x2 _) (v11_at x1 x2 _)

theorem v24_at (i : S2x16384x6x128.Idx) : val_main_v24 (F := Ideal) x1 x2 x12 i
    = oo x1 x2 (i 0).val (i 1).val (128 * (i 2).val + (i 3).val)
      * Ideal.rsqrt (Ideal.div (∑ e : Fin 128, oo x1 x2 (i 0).val (i 1).val (128 * (i 2).val + e.val) * oo x1 x2 (i 0).val (i 1).val (128 * (i 2).val + e.val))
        (Ideal.ofBits .f32 0x43000000#32) + Ideal.ofBits .f32 0x358637BD#32) * at1 x12 (i 3).val := by
  rw [val_main_v24_apply, val_main_v21_apply, val_main_v20_apply, val_main_v19_apply, val_main_v18_apply, val_main_v16_apply, val_main_v14_apply, val_main_v15_apply,
    val_main_v17_apply, val_main_v23_apply, val_main_v22_apply, v11_at, v13_at]
  exact Ideal.mul_congr rfl (at1_of x12 _ rfl)

theorem v1_at (i : S2x16384x768.Idx) : val_main_v1 (F := Ideal) x3 i = gg x3 (i 0).val (i 1).val (i 2).val := by
  rw [val_main_v1_apply, val_main_v0_apply]
  exact at3_of x3 _ rfl rfl rfl

theorem v26_at (i : S2x16384x768.Idx) : val_main_v26 (F := Ideal) x3 i
    = gg x3 (i 0).val (i 1).val (i 2).val * Ideal.logistic (gg x3 (i 0).val (i 1).val (i 2).val) := by
  refine Ideal.mul_congr (v1_at x3 i) ?_
  rw [val_main_call0_v5_apply, val_main_call0_v4_apply, val_main_call0_v3_apply, val_main_call0_v2_apply, val_main_call0_v1_apply, val_main_call0_v0_apply, v1_at]
  exact congrArg₂ Ideal.div one_f32 (Ideal.add_congr one_f32 rfl)

theorem v27_at (i : S2x16384x768.Idx) : val_main_v27 (F := Ideal) x1 x2 x3 x12 i
    = prim (oo x1 x2 (i 0).val (i 1).val) (at1 x12) (gg x3 (i 0).val (i 1).val) (i 2).val := by
  have h0 : (i 0).val < 2 := (i 0).isLt
  have h1 : (i 1).val < 16384 := (i 1).isLt
  have h2 : (i 2).val < 768 := (i 2).isLt
  have e0 : (((i 0).val * 16384 + (i 1).val) * 768 + (i 2).val) / 12582912 = (i 0).val := by omega
  have e1 : (((i 0).val * 16384 + (i 1).val) * 768 + (i 2).val) / 768 % 16384 = (i 1).val := by omega
  have e2 : (((i 0).val * 16384 + (i 1).val) * 768 + (i 2).val) / 128 % 6 = (i 2).val / 128 := by omega
  have e3 : (((i 0).val * 16384 + (i 1).val) * 768 + (i 2).val) % 128 = (i 2).val % 128 := by omega
  have e4 : (i 2).val = 128 * ((i 2).val / 128) + (i 2).val % 128 := by omega
  rw [val_main_v27_apply, val_main_v25_apply, v24_at, v26_at]
  dsimp only
  rw [e0, e1, e2, e3]
  exact headn_of (o := oo x1 x2 (i 0).val (i 1).val) (nw := at1 x12) (g := gg x3 (i 0).val (i 1).val) _ _ rfl (fun _ => rfl) rfl
    (congrArg (gg x3 (i 0).val (i 1).val) e4)

theorem v30_at (i : S2x16384x4x64.Idx) :
    val_main_v30 (F := Ideal) x3 i = qq x3 (i 0).val (i 1).val (64 * (i 2).val + (i 3).val) * Ideal.ofBits .f32 0x3E000000#32 := by
  have h0 : (i 0).val < 2 := (i 0).isLt
  have h1 : (i 1).val < 16384 := (i 1).isLt
  have h2 : (i 2).val < 4 := (i 2).isLt
  have h3 : (i 3).val < 64 := (i 3).isLt
  rw [val_main_v30_apply, val_main_v28_apply, val_main_v29_apply, val_main_v3_apply, val_main_v2_apply]
  refine Ideal.mul_congr (at3_of x3 _ ?_ ?_ ?_) rfl
  · show ((((i 0).val * 16384 + (i 1).val) * 4 + (i 2).val) * 64 + (i 3).val) / 4194304 = _; omega
  · show ((((i 0).val * 16384 + (i 1).val) * 4 + (i 2).val) * 64 + (i 3).val) / 256 % 16384 = _; omega
  · show 3840 + ((((i 0).val * 16384 + (i 1).val) * 4 + (i 2).val) * 64 + (i 3).val) % 256 = _; omega

theorem v31_at (i : S2x256x4x64.Idx) : val_main_v31 (F := Ideal) x4 i = kk x4 (i 0).val (i 1).val (64 * (i 2).val + (i 3).val) := by
  have h0 : (i 0).val < 2 := (i 0).isLt
  have h1 : (i 1).val < 256 := (i 1).isLt
  have h2 : (i 2).val < 4 := (i 2).isLt
  have h3 : (i 3).val < 64 := (i 3).isLt
  rw [val_main_v31_apply, val_main_v5_apply, val_main_v4_apply]
  refine at3_of x4 _ ?_ ?_ ?_
  · show ((((i 0).val * 256 + (i 1).val) * 4 + (i 2).val) * 64 + (i 3).val) / 65536 = _; omega
  · show ((((i 0).val * 256 + (i 1).val) * 4 + (i 2).val) * 64 + (i 3).val) / 256 % 256 = _; omega
  · show ((((i 0).val * 256 + (i 1).val) * 4 + (i 2).val) * 64 + (i 3).val) % 256 = _; omega

theorem v32_at (i : S2x256x4x64.Idx) : val_main_v32 (F := Ideal) x4 i = vv x4 (i 0).val (i 1).val (64 * (i 2).val + (i 3).val) := by
  have h0 : (i 0).val < 2 := (i 0).isLt
  have h1 : (i 1).val < 256 := (i 1).isLt
  have h2 : (i 2).val < 4 := (i 2).isLt
  have h3 : (i 3).val < 64 := (i 3).isLt
  rw [val_main_v32_apply, val_main_v7_apply, val_main_v6_apply]
  refine at3_of x4 _ ?_ ?_ ?_
  · show ((((i 0).val * 256 + (i 1).val) * 4 + (i 2).val) * 64 + (i 3).val) / 65536 = _; omega
  · show ((((i 0).val * 256 + (i 1).val) * 4 + (i 2).val) * 64 + (i 3).val) / 256 % 256 = _; omega
  · show 256 + ((((i 0).val * 256 + (i 1).val) * 4 + (i 2).val) * 64 + (i 3).val) % 256 = _; omega

theorem v33_at (i : S2x4x16384x256.Idx) :
    val_main_v33 (F := Ideal) x3 x4 i = sco (qq x3 (i 0).val (i 2).val) (kk x4 (i 0).val) (i 1).val (i 3).val := by
  rw [val_main_v33_apply]
  exact Finset.sum_congr rfl fun d _ => Ideal.mul_congr (v30_at x3 _) (v31_at x4 _)

theorem reduceMax_at (y : S2x4x16384x256.Idx → EReal) (z : S_.Idx → EReal) (hz : ∀ i, z i = ⊥) (b : Fin 2) (n : Fin 4) (t : Fin 16384) :
    Host.reduce (FloatOps.maximumf (F := Ideal) (φ := .f32)) y z reducesTo_S2x4x16384x256_S2x4x16384_d3 h_S_ (ix3 b n t) = Finset.univ.sup fun k : Fin 256 => y (ix4 b n t k) := by
  have hr : S2x4x16384x256.Reduces [3] S2x4x16384 := by decide
  have hf : ∀ k : Fin 256, hr.lift (ix3 b n t) k = ix4 b n t k := by
    intro k
    funext a; match a with
    | ⟨0, _⟩ => rfl
    | ⟨1, _⟩ => rfl
    | ⟨2, _⟩ => rfl
    | ⟨3, _⟩ => rfl
  refine (Host.reduce_eq_fold_single _ y z reducesTo_S2x4x16384x256_S2x4x16384_d3 hr h_S_ (ix3 b n t)).trans ?_
  rw [hz]
  exact (congrArg (fun f => Finset.fold (max : EReal → EReal → EReal) ⊥ f (Finset.univ : Finset (Fin 256))) (funext fun k => congrArg y (hf k))).trans (fold_max_eq_sup _)

theorem v36_at (i : S2x4x16384.Idx) : val_main_v36 (F := Ideal) x3 x4 i
    = Finset.univ.sup fun m : Fin 256 => sco (qq x3 (i 0).val (i 2).val) (kk x4 (i 0).val) (i 1).val m.val := by
  have h : val_main_v34 (F := Ideal) x3 x4 i = Finset.univ.sup fun m : Fin 256 => sco (qq x3 (i 0).val (i 2).val) (kk x4 (i 0).val) (i 1).val m.val := by
    rw [eq_ix3 i]
    unfold val_main_v34
    refine (reduceMax_at _ _ (fun i => (val_main_cst_3_apply i).trans Cert.Attn.neg_inf) (i 0) (i 1) (i 2)).trans ?_
    exact congrArg (Finset.univ : Finset (Fin 256)).sup (funext fun k => v33_at x3 x4 _)
  rw [val_main_v36_apply, h]
  exact (congrArg₂ (fun a c : EReal => max a c) Cert.Attn.neg_inf rfl).trans (bot_sup_eq _)

theorem v40_at (i : S2x4x16384x256.Idx) :
    val_main_v40 (F := Ideal) x3 x4 i = wei (qq x3 (i 0).val (i 2).val) (kk x4 (i 0).val) (i 1).val (i 3).val := by
  rw [val_main_v40_apply, val_main_v39_apply, val_main_v38_apply, val_main_v37_apply, v33_at, v36_at]
  rfl

theorem v44_at (i : S2x4x16384x256.Idx) : val_main_v44 (F := Ideal) x3 x4 i
    = Ideal.div (wei (qq x3 (i 0).val (i 2).val) (kk x4 (i 0).val) (i 1).val (i 3).val)
      (∑ m : Fin 256, wei (qq x3 (i 0).val (i 2).val) (kk x4 (i 0).val) (i 1).val m.val) := by
  rw [val_main_v44_apply, val_main_v43_apply, val_main_v42_apply, val_main_v41_apply, v40_at]
  refine congrArg₂ Ideal.div rfl ((Ideal.add_congr zero_f32 (Finset.sum_congr rfl fun k _ => ?_)).trans (zero_add _))
  exact v40_at x3 x4 _

theorem v47_at (i : S2x16384x256.Idx) : val_main_v47 (F := Ideal) x3 x4 i
    = memr (qq x3 (i 0).val (i 1).val) (kk x4 (i 0).val) (vv x4 (i 0).val) (i 2).val := by
  have h0 : (i 0).val < 2 := (i 0).isLt
  have h1 : (i 1).val < 16384 := (i 1).isLt
  have h2 : (i 2).val < 256 := (i 2).isLt
  have e0 : (((i 0).val * 16384 + (i 1).val) * 256 + (i 2).val) / 4194304 = (i 0).val := by omega
  have e1 : (((i 0).val * 16384 + (i 1).val) * 256 + (i 2).val) / 256 % 16384 = (i 1).val := by omega
  have e2 : (((i 0).val * 16384 + (i 1).val) * 256 + (i 2).val) / 64 % 4 = (i 2).val / 64 := by omega
  have e3 : (((i 0).val * 16384 + (i 1).val) * 256 + (i 2).val) % 64 = (i 2).val % 64 := by omega
  have e4 : 64 * ((i 2).val / 64) + (i 2).val % 64 = (i 2).val := by omega
  rw [val_main_v47_apply, val_main_v46_apply, val_main_v45_apply]
  refine Finset.sum_congr rfl fun m _ => ?_
  rw [v32_at, v44_at]
  dsimp only
  rw [e0, e1, e2, e3, e4]

theorem v48_lo (i : S2x16384x1024.Idx) (h : (i 2).val < 768) : val_main_v48 (F := Ideal) x1 x2 x3 x4 x12 i
    = prim (oo x1 x2 (i 0).val (i 1).val) (at1 x12) (gg x3 (i 0).val (i 1).val) (i 2).val := by
  refine (concatenate_pair_apply_left 2 _ _ concatenates_S2x16384x768_S2x16384x256_S2x16384x1024_d2 i rfl (ix3 (i 0) (i 1) ⟨(i 2).val, h⟩ : S2x16384x768.Idx) ?_).trans
    (v27_at x1 x2 x3 x12 _)
  intro a; match a with | ⟨0, _⟩ => rfl | ⟨1, _⟩ => rfl | ⟨2, _⟩ => rfl

theorem v48_hi (i : S2x16384x1024.Idx) (l : ℕ) (hl : l < 256) (h : (i 2).val = 768 + l) : val_main_v48 (F := Ideal) x1 x2 x3 x4 x12 i
    = memr (qq x3 (i 0).val (i 1).val) (kk x4 (i 0).val) (vv x4 (i 0).val) l := by
  refine (concatenate_pair_apply_right 2 _ _ concatenates_S2x16384x768_S2x16384x256_S2x16384x1024_d2 i rfl rfl (ix3 (i 0) (i 1) ⟨l, hl⟩ : S2x16384x256.Idx) ?_ ?_).trans
    (v47_at x3 x4 _)
  · intro a; match a with | ⟨0, _⟩ => exact fun _ => rfl | ⟨1, _⟩ => exact fun _ => rfl | ⟨2, _⟩ => exact fun h => absurd rfl h
  · show l + 768 = (i 2).val
    omega

/-- The projected row of a token. -/
def mm (b t j : ℕ) : EReal :=
  mixr (prim (oo x1 x2 b t) (at1 x12) (gg x3 b t)) (memr (qq x3 b t) (kk x4 b) (vv x4 b)) (at2 x5) j

theorem v49_at (i : S2x16384x1024.Idx) : val_main_v49 (F := Ideal) x1 x2 x3 x4 x5 x12 i = mm x1 x2 x3 x4 x5 x12 (i 0).val (i 1).val (i 2).val := by
  rw [val_main_v49_apply, Fin.sum_univ_two_halves 768 256 rfl]
  refine Ideal.add_congr (Finset.sum_congr rfl fun l _ => ?_) (Finset.sum_congr rfl fun l _ => ?_)
  · exact Ideal.mul_congr (v48_lo x1 x2 x3 x4 x12 _ l.isLt) (at2_of x5 _ rfl rfl)
  · exact Ideal.mul_congr (v48_hi x1 x2 x3 x4 x12 _ l.val l.isLt rfl) (at2_of x5 _ rfl rfl)

/-- The row before the first norm. -/
def y1 (b t j : ℕ) : EReal := Ideal.ofBits .f32 0x3FB504F3#32 * at3 x0 b t j + mm x1 x2 x3 x4 x5 x12 b t j

theorem v52_at (i : S2x16384x1024.Idx) : val_main_v52 (F := Ideal) x0 x1 x2 x3 x4 x5 x12 i = y1 x0 x1 x2 x3 x4 x5 x12 (i 0).val (i 1).val (i 2).val := by
  rw [val_main_v52_apply, val_main_v51_apply, val_main_v50_apply, v49_at]
  exact Ideal.add_congr (Ideal.mul_congr rfl (at3_of x0 i rfl rfl rfl)) rfl

theorem v56_at (i : S2x16384x1.Idx) : val_main_v56 (F := Ideal) x0 x1 x2 x3 x4 x5 x12 i
    = Ideal.div (∑ j : Fin 1024, y1 x0 x1 x2 x3 x4 x5 x12 (i 0).val (i 1).val j.val) (Ideal.ofBits .f32 0x44800000#32) := by
  rw [val_main_v56_apply, val_main_v55_apply, val_main_v54_apply, val_main_v53_apply]
  refine congrArg₂ Ideal.div ((Ideal.add_congr zero_f32 (Finset.sum_congr rfl fun k _ => ?_)).trans (zero_add _)) rfl
  exact v52_at x0 x1 x2 x3 x4 x5 x12 _

theorem v58_at (i : S2x16384x1024.Idx) : val_main_v58 (F := Ideal) x0 x1 x2 x3 x4 x5 x12 i
    = y1 x0 x1 x2 x3 x4 x5 x12 (i 0).val (i 1).val (i 2).val
      - Ideal.div (∑ j : Fin 1024, y1 x0 x1 x2 x3 x4 x5 x12 (i 0).val (i 1).val j.val) (Ideal.ofBits .f32 0x44800000#32) := by
  rw [val_main_v58_apply, val_main_v57_apply, v52_at, v56_at]
  rfl

theorem v76_at (i : S2x16384x1024.Idx) : val_main_v76 (F := Ideal) x0 x1 x2 x3 x4 x5 x6 x7 x12 i
    = lnr (y1 x0 x1 x2 x3 x4 x5 x12 (i 0).val (i 1).val) (at1 x6) (at1 x7) (i 2).val := by
  rw [val_main_v76_apply, val_main_v75_apply, val_main_v74_apply, val_main_v73_apply, val_main_v72_apply, val_main_v71_apply, val_main_v70_apply, val_main_v69_apply,
    val_main_v68_apply, val_main_v67_apply, val_main_v66_apply, val_main_v65_apply, val_main_v64_apply, val_main_v63_apply, val_main_v62_apply, val_main_v61_apply,
    val_main_v60_apply, v52_at, v56_at]
  refine Ideal.add_congr (Ideal.mul_congr (Ideal.mul_congr rfl (congrArg Ideal.rsqrt (Ideal.add_congr (congrArg₂ Ideal.div
    ((Ideal.add_congr zero_f32 (Finset.sum_congr rfl fun k _ => ?_)).trans (zero_add _)) rfl) rfl))) (at1_of x6 _ rfl)) (at1_of x7 _ rfl)
  exact Ideal.mul_congr (v58_at x0 x1 x2 x3 x4 x5 x12 _) (v58_at x0 x1 x2 x3 x4 x5 x12 _)

/-- The first norm's row. -/
def z1 (b t j : ℕ) : EReal := lnr (y1 x0 x1 x2 x3 x4 x5 x12 b t) (at1 x6) (at1 x7) j

theorem v79_at (i : S2x16384x4096.Idx) : val_main_v79 (F := Ideal) x0 x1 x2 x3 x4 x5 x6 x7 x8 x12 i
    = hid (z1 x0 x1 x2 x3 x4 x5 x6 x7 x12 (i 0).val (i 1).val) (at2 x8) (i 2).val := by
  have h : val_main_v78 (F := Ideal) x0 x1 x2 x3 x4 x5 x6 x7 x8 x12 i
      = max (∑ j : Fin 1024, z1 x0 x1 x2 x3 x4 x5 x6 x7 x12 (i 0).val (i 1).val j.val * at2 x8 j.val (i 2).val) 0 := by
    rw [val_main_v78_apply, val_main_v77_apply]
    refine congrArg₂ (fun a c : EReal => max a c) (Finset.sum_congr rfl fun k _ => ?_) ?_
    · exact Ideal.mul_congr (v76_at x0 x1 x2 x3 x4 x5 x6 x7 x12 _) (at2_of x8 _ rfl rfl)
    · rw [val_main_call1_v0_apply]; exact zero_f32
  exact Ideal.mul_congr h h

/-- The row before the second norm. -/
def y2 (b t j : ℕ) : EReal :=
  Ideal.ofBits .f32 0x3FB504F3#32 * z1 x0 x1 x2 x3 x4 x5 x6 x7 x12 b t j + ffn (z1 x0 x1 x2 x3 x4 x5 x6 x7 x12 b t) (at2 x8) (at2 x9) j

theorem v83_at (i : S2x16384x1024.Idx) : val_main_v83 (F := Ideal) x0 x1 x2 x3 x4 x5 x6 x7 x8 x9 x12 i
    = y2 x0 x1 x2 x3 x4 x5 x6 x7 x8 x9 x12 (i 0).val (i 1).val (i 2).val := by
  rw [val_main_v83_apply, val_main_v81_apply, val_main_v80_apply, val_main_v82_apply, v76_at]
  refine Ideal.add_congr rfl (Finset.sum_congr rfl fun f _ => ?_)
  exact Ideal.mul_congr (v79_at x0 x1 x2 x3 x4 x5 x6 x7 x8 x12 _) (at2_of x9 _ rfl rfl)

theorem v87_at (i : S2x16384x1.Idx) : val_main_v87 (F := Ideal) x0 x1 x2 x3 x4 x5 x6 x7 x8 x9 x12 i
    = Ideal.div (∑ j : Fin 1024, y2 x0 x1 x2 x3 x4 x5 x6 x7 x8 x9 x12 (i 0).val (i 1).val j.val) (Ideal.ofBits .f32 0x44800000#32) := by
  rw [val_main_v87_apply, val_main_v86_apply, val_main_v85_apply, val_main_v84_apply]
  refine congrArg₂ Ideal.div ((Ideal.add_congr zero_f32 (Finset.sum_congr rfl fun k _ => ?_)).trans (zero_add _)) rfl
  exact v83_at x0 x1 x2 x3 x4 x5 x6 x7 x8 x9 x12 _

theorem v89_at (i : S2x16384x1024.Idx) : val_main_v89 (F := Ideal) x0 x1 x2 x3 x4 x5 x6 x7 x8 x9 x12 i
    = y2 x0 x1 x2 x3 x4 x5 x6 x7 x8 x9 x12 (i 0).val (i 1).val (i 2).val
      - Ideal.div (∑ j : Fin 1024, y2 x0 x1 x2 x3 x4 x5 x6 x7 x8 x9 x12 (i 0).val (i 1).val j.val) (Ideal.ofBits .f32 0x44800000#32) := by
  rw [val_main_v89_apply, val_main_v88_apply, v83_at, v87_at]
  rfl

/-- The reference's result. -/
theorem v107_at (i : S2x16384x1024.Idx) : val_main_v107 (F := Ideal) x0 x1 x2 x3 x4 x5 x6 x7 x8 x9 x10 x11 x12 i
    = lnr (y2 x0 x1 x2 x3 x4 x5 x6 x7 x8 x9 x12 (i 0).val (i 1).val) (at1 x10) (at1 x11) (i 2).val := by
  rw [val_main_v107_apply, val_main_v106_apply, val_main_v105_apply, val_main_v104_apply, val_main_v103_apply, val_main_v102_apply, val_main_v101_apply, val_main_v100_apply,
    val_main_v99_apply, val_main_v98_apply, val_main_v97_apply, val_main_v96_apply, val_main_v95_apply, val_main_v94_apply, val_main_v93_apply, val_main_v92_apply,
    val_main_v91_apply, v83_at, v87_at]
  refine Ideal.add_congr (Ideal.mul_congr (Ideal.mul_congr rfl (congrArg Ideal.rsqrt (Ideal.add_congr (congrArg₂ Ideal.div
    ((Ideal.add_congr zero_f32 (Finset.sum_congr rfl fun k _ => ?_)).trans (zero_add _)) rfl) rfl))) (at1_of x10 _ rfl)) (at1_of x11 _ rfl)
  exact Ideal.mul_congr (v89_at x0 x1 x2 x3 x4 x5 x6 x7 x8 x9 x12 _) (v89_at x0 x1 x2 x3 x4 x5 x6 x7 x8 x9 x12 _)

end Cert.Ref7

end
-- ==== Proof.Mix7Claims.lean ====
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import proofs.«01_k».proof.Proof.Mix7Out
public import proofs.«01_k».proof.Proof.Ref7Read
public import proofs.«01_k».proof.Proof.Finite
public import Idealize.ShloMosaic.Lib.Quiescent

@[expose] public section

noncomputable section

/-! The claims about the second layer's second half on the sample batch, from its two runs and the law between the two values. -/

namespace Cert.Mix7Claims

open Idealize.ShloMosaic Idealize.SL.Sem Cert.Attn Cert.Mix

theorem facts : Cert.Pre_finite7.Facts where
  slices_S2x16384x4096_S2x16384x256_0_0_3840 := by decide
  bitsLt_bf16_f32 := by decide
  bcast_S_S2x16384x256 := by decide
  slices_S2x256x512_S2x256x256_0_0_0 := by decide
  bcast_S_S2x256x256 := by decide

local instance : Cert.Pre_finite7.Facts := facts

/-- The precondition: the memory queries and the memory keys are real. -/
theorem fin_args {x0 : FVec Ideal Cert.Pre_finite7.S2x16384x1024 .f32} {x1 x2 : FVec Ideal Cert.Pre_finite7.S2x16384x768 .bf16}
    {x3 : FVec Ideal Cert.Pre_finite7.S2x16384x4096 .bf16} {x4 : FVec Ideal Cert.Pre_finite7.S2x256x512 .bf16} {x5 : FVec Ideal Cert.Pre_finite7.S1024x1024 .f32}
    {x6 x7 : FVec Ideal Cert.Pre_finite7.S1024 .f32} {x8 : FVec Ideal Cert.Pre_finite7.S1024x4096 .f32} {x9 : FVec Ideal Cert.Pre_finite7.S4096x1024 .f32}
    {x10 x11 : FVec Ideal Cert.Pre_finite7.S1024 .f32} {x12 : FVec Ideal Cert.Pre_finite7.S128 .f32}
    (h : (Cert.Pre_finite7.fn (F := Ideal) x0 x1 x2 x3 x4 x5 x6 x7 x8 x9 x10 x11 x12).1 = (fun _ => 1#1)
      ∧ (Cert.Pre_finite7.fn (F := Ideal) x0 x1 x2 x3 x4 x5 x6 x7 x8 x9 x10 x11 x12).2 = (fun _ => 1#1)) :
    (∀ b t, ∀ l < 256, Fin' (at3 x3 b t (3840 + l))) ∧ ∀ b u, ∀ l < 256, Fin' (at3 x4 b u l) := by
  refine ⟨fun b t l hl => ?_, fun b u l hl => ?_⟩
  · by_cases hh : b < 2 ∧ t < 16384
    · have e := Cert.Finite.fin_of_olt _ (congrFun h.1 (ix3 ⟨b, hh.1⟩ ⟨t, hh.2⟩ ⟨l, hl⟩))
      exact (congrArg Fin' (at3_of x3 _ (Nat.zero_add _) (Nat.zero_add _) rfl)).mp e
    · rw [at3, dif_neg (fun h => hh ⟨h.1, h.2.1⟩)]; exact fin_coe 0
  · by_cases hh : b < 2 ∧ u < 256
    · have e := Cert.Finite.fin_of_olt _ (congrFun h.2 (ix3 ⟨b, hh.1⟩ ⟨u, hh.2⟩ ⟨l, hl⟩))
      exact (congrArg Fin' (at3_of x4 _ (Nat.zero_add _) (Nat.zero_add _) (Nat.zero_add _))).mp e
    · rw [at3, dif_neg (fun h => hh ⟨h.1, h.2.1⟩)]; exact fin_coe 0

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_ideal_finite : Cert.quiescent_Kernel7Ideal_pre_finite7 := fun m ρ _ => Cert.Kernel7Ideal.Gen.frame m ρ

theorem frame_ref : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem frame_ref_finite : Cert.quiescent_Reference7Ideal_pre_finite7 := fun m ρ _ => frame_ref m ρ trivial

variable (x0 : (⟨Cert.Kernel7Ideal.S2x16384x1024, .f32⟩ : BufTy).Contents (Elt Ideal)) (x1 x2 : (⟨Cert.Kernel7Ideal.S2x16384x768, .bf16⟩ : BufTy).Contents (Elt Ideal))
  (x3 : (⟨Cert.Kernel7Ideal.S2x16384x4096, .bf16⟩ : BufTy).Contents (Elt Ideal)) (x4 : (⟨Cert.Kernel7Ideal.S2x256x512, .bf16⟩ : BufTy).Contents (Elt Ideal))
  (x5 : (⟨Cert.Kernel7Ideal.S1024x1024, .f32⟩ : BufTy).Contents (Elt Ideal)) (x6 x7 : (⟨Cert.Kernel7Ideal.S1024, .f32⟩ : BufTy).Contents (Elt Ideal))
  (x8 : (⟨Cert.Kernel7Ideal.S1024x4096, .f32⟩ : BufTy).Contents (Elt Ideal)) (x9 : (⟨Cert.Kernel7Ideal.S4096x1024, .f32⟩ : BufTy).Contents (Elt Ideal))
  (x10 x11 : (⟨Cert.Kernel7Ideal.S1024, .f32⟩ : BufTy).Contents (Elt Ideal)) (x12 : (⟨Cert.Kernel7Ideal.S128, .f32⟩ : BufTy).Contents (Elt Ideal))

/-- Over real memory queries and keys the reference's value is the kernel's. -/
theorem value_eq (hq : ∀ b t, ∀ l < 256, Fin' (at3 x3 b t (3840 + l))) (hk : ∀ b u, ∀ l < 256, Fin' (at3 x4 b u l)) :
    Cert.Reference7Ideal.Read.val_main_v107 (F := Ideal) x0 x1 x2 x3 x4 x5 x6 x7 x8 x9 x10 x11 x12
      = Cert.Kernel7Ideal.Mix.mixOut x0 x1 x2 x3 x4 x5 x6 x7 x8 x9 x10 x11 x12 :=
  funext fun i => (Cert.Ref7.v107_at x0 x1 x2 x3 x4 x5 x6 x7 x8 x9 x10 x11 x12 i).trans
    (outr_congr (at2 x8) (at2 x9) (at1 x10) (at1 x11)
      (fun j hj => x1r_congr (x := at3 x0 (i 0).val (i 1).val) (at2 x5) (at1 x6) (at1 x7) (fun _ _ => rfl)
        (fun l hl => (memk_eq_memr _ (hq (i 0).val (i 1).val) (hk (i 0).val) hl).symm) hj)
      (show (i 2).val < 1024 from (i 2).isLt))

theorem value_congr {y0 y1 y2 y3 y4 y5 y6 y7 y8 y9 y10 y11 y12} (h : y0 = x0 ∧ y1 = x1 ∧ y2 = x2 ∧ y3 = x3 ∧ y4 = x4 ∧ y5 = x5 ∧ y6 = x6 ∧ y7 = x7 ∧ y8 = x8 ∧ y9 = x9
      ∧ y10 = x10 ∧ y11 = x11 ∧ y12 = x12) :
    Cert.Reference7Ideal.Read.val_main_v107 (F := Ideal) y0 y1 y2 y3 y4 y5 y6 y7 y8 y9 y10 y11 y12
      = Cert.Reference7Ideal.Read.val_main_v107 (F := Ideal) x0 x1 x2 x3 x4 x5 x6 x7 x8 x9 x10 x11 x12 := by
  obtain ⟨rfl, rfl, rfl, rfl, rfl, rfl, rfl, rfl, rfl, rfl, rfl, rfl, rfl⟩ := h
  rfl

theorem algebraic : Cert.algebraic_Kernel7Ideal_Reference7Ideal_pre_finite7 := by
  intro m ρ m' ρ' hpre hagree
  refine ⟨fun c => (Cert.Kernel7Ideal.Gen.dats m 0 c).arrAt 14 Cert.Kernel7Ideal.cfg0.N, ?_, ?_⟩
  · exact Cert.Kernel7Ideal.Value.run_blocks m ρ
  · refine (θ_run Cert.Reference7Ideal.defs _ _).mono (fun r h c => ⟨(h c).1.trans ?_, (h c).2⟩)
      (Cert.Reference7Ideal.Value.run (F := Ideal) m' ρ')
    refine (Cert.Reference7Ideal.Read.val_main_v107_eq (StableHlo.launchContents m' c)).trans ?_
    refine Eq.trans ?_ (Cert.Kernel7Ideal.Mix.final m c).symm
    have hf := fin_args (hpre c)
    refine Eq.trans ?_ (value_eq _ _ _ _ _ _ _ _ _ _ _ _ _ hf.1 hf.2)
    exact value_congr _ _ _ _ _ _ _ _ _ _ _ _ _ (hagree c)

end Cert.Mix7Claims

end
-- ==== Proof.Hgrn.Head.lean ====
/- One head of the two-way gated scan's body, written as functions of the loaded values: the operations are the printed
   program's own, with the chunk, the sub-block and the direction as parameters, so that one text covers all the heads and
   both directions. -/
module

public import proofs.«01_k».proof.Proof.Gen.Kernel8Ideal

@[expose] public section

noncomputable section

namespace Cert.Kernel8Ideal.Scan

open Idealize.ShloMosaic Facts₀

variable {F : FTy → Type} [FloatOps F]

/-! ## Masks -/

/-- Rounded-down division of a vector of integers by a constant, as the program spells it. -/
def fdiv {s : Shape} (n : BitVec 32) (x : IVec s 32) : IVec s 32 :=
  select (andi (cmpi .ne (subi (extui 32 (cmpi .sgt x (broadcast s 0#32)) natLt_1_32) (extui 32 (cmpi .slt x (broadcast s 0#32)) natLt_1_32))
      (broadcast s (Scalar.subi (Scalar.extui (Scalar.cmpi .sgt n 0#32)) (Scalar.extui (Scalar.cmpi .slt n 0#32)))))
    (cmpi .ne (remsi x (broadcast s n)) (broadcast s 0#32)))
    (subi (divsi x (broadcast s n)) (broadcast s 1#32)) (divsi x (broadcast s n))

def one32 : F .f32 := Scalar.ofBits .f32 0x3F800000#32
def zero32 : F .f32 := Scalar.ofBits .f32 0x00000000#32
def zero16 : F .bf16 := Scalar.ofBits .bf16 0x0000#16

def triMask (rev : Bool) : IVec S256x256 1 :=
  andi (cond rev (cmpi .sge (iota .tc S256x256 32 [1] iota_S256x256_d1_w32) (iota .tc S256x256 32 [0] iota_S256x256_d0_w32))
      (cmpi .sle (iota .tc S256x256 32 [1] iota_S256x256_d1_w32) (iota .tc S256x256 32 [0] iota_S256x256_d0_w32)))
    (cmpi .eq (fdiv 32#32 (iota .tc S256x256 32 [1] iota_S256x256_d1_w32)) (fdiv 32#32 (iota .tc S256x256 32 [0] iota_S256x256_d0_w32)))

def tri (rev : Bool) : FVec F S256x256 .bf16 :=
  truncf .bf16 (select (triMask rev) (broadcast S256x256 one32) (broadcast S256x256 zero32)) bitsLt_bf16_f32

def foldMask : IVec S256x128 1 :=
  cmpi .eq (fdiv 128#32 (iota .tc S256x128 32 [0] iota_S256x128_d0_w32)) (fdiv 32#32 (iota .tc S256x128 32 [1] iota_S256x128_d1_w32))

def fold : FVec F S256x128 .bf16 :=
  truncf .bf16 (select foldMask (broadcast S256x128 one32) (broadcast S256x128 zero32)) bitsLt_bf16_f32

def trow : IVec S32x128 32 := iota .tc S32x128 32 [0] iota_S32x128_d0_w32
def lane : IVec S32x128 32 := iota .tc S32x128 32 [1] iota_S32x128_d1_w32
def key : IVec S32x128 32 := andi lane (broadcast S32x128 31#32)

def same : IVec S32x128 1 :=
  andi (cmpi .eq (fdiv 8#32 key) (fdiv 8#32 trow)) (cmpi .slt lane (broadcast S32x128 64#32))

def dist (d : BitVec 32) (d' : BitVec 32) : IVec S32x128 32 :=
  select (cmpi .slt lane (broadcast S32x128 32#32)) (broadcast S32x128 d) (broadcast S32x128 d')

def hit (rev : Bool) (d : BitVec 32) (d' : BitVec 32) : IVec S32x128 1 :=
  andi same (cmpi .eq key (cond rev (addi trow (dist d d')) (subi trow (dist d d'))))

def cols (a : BitVec 32) (b : BitVec 32) : IVec S8x128 1 :=
  andi (cmpi .sge (iota .tc S8x128 32 [1] iota_S8x128_d1_w32) (broadcast S8x128 a))
    (cmpi .slt (iota .tc S8x128 32 [1] iota_S8x128_d1_w32) (broadcast S8x128 b))

/-! ## Slices and stacks -/

section Layout

variable {α : Type}

theorem slices8 (n : ℕ) : S256x128.Slices ![8 * (n % 32), 0] S8x128 :=
  ⟨rfl, fun a => by fin_cases a <;> simp <;> omega⟩
theorem slices1 (n : ℕ) : S256x128.Slices ![n % 256, 0] S1x128 :=
  ⟨rfl, fun a => by fin_cases a <;> simp <;> omega⟩
theorem slices32 (n : ℕ) : S256x128.Slices ![32 * (n % 8), 0] S32x128 :=
  ⟨rfl, fun a => by fin_cases a <;> simp <;> omega⟩
theorem slices48 (n : ℕ) : S384x128.Slices ![48 * (n % 8), 0] S48x128 :=
  ⟨rfl, fun a => by fin_cases a <;> simp <;> omega⟩
theorem slicesD (d n : ℕ) : S1024x128.Slices ![256 * (d % 4) + 32 * (n % 8), 0] S32x128 :=
  ⟨rfl, fun a => by fin_cases a <;> simp <;> omega⟩
theorem slicesO (n : ℕ) : S48x128.Slices ![8 * (n % 6), 0] S8x128 :=
  ⟨rfl, fun a => by fin_cases a <;> simp <;> omega⟩

def sub8 (x : S256x128.Idx → α) (n : ℕ) : S8x128.Idx → α := extractStridedSlice S8x128 ![8 * (n % 32), 0] x (slices8 n)
def row1 (x : S256x128.Idx → α) (n : ℕ) : S1x128.Idx → α := extractStridedSlice S1x128 ![n % 256, 0] x (slices1 n)
def sub32 (x : S256x128.Idx → α) (n : ℕ) : S32x128.Idx → α := extractStridedSlice S32x128 ![32 * (n % 8), 0] x (slices32 n)
def sub48 (x : S384x128.Idx → α) (n : ℕ) : S48x128.Idx → α := extractStridedSlice S48x128 ![48 * (n % 8), 0] x (slices48 n)
def subD (x : S1024x128.Idx → α) (d n : ℕ) : S32x128.Idx → α :=
  extractStridedSlice S32x128 ![256 * (d % 4) + 32 * (n % 8), 0] x (slicesD d n)
def subO (x : S48x128.Idx → α) (n : ℕ) : S8x128.Idx → α := extractStridedSlice S8x128 ![8 * (n % 6), 0] x (slicesO n)

theorem cat32_ok : Shape.Concatenates [S8x128, S8x128, S8x128, S8x128, S8x128, S8x128, S8x128, S8x128, S8x128, S8x128, S8x128, S8x128, S8x128, S8x128, S8x128, S8x128, S8x128, S8x128, S8x128, S8x128, S8x128, S8x128, S8x128, S8x128, S8x128, S8x128, S8x128, S8x128, S8x128, S8x128, S8x128, S8x128] S256x128 0 := by decide
theorem cat48_ok : Shape.Concatenates (S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: S8x128 :: []) S384x128 0 := by decide
theorem cat8_ok : Shape.Concatenates [S32x128, S32x128, S32x128, S32x128, S32x128, S32x128, S32x128, S32x128] S256x128 0 := by decide

def cat32 (f : ℕ → ℕ → S8x128.Idx → α) : S256x128.Idx → α :=
  concatenate S256x128 0 [⟨S8x128, f 0 0⟩, ⟨S8x128, f 0 1⟩, ⟨S8x128, f 0 2⟩, ⟨S8x128, f 0 3⟩, ⟨S8x128, f 1 0⟩, ⟨S8x128, f 1 1⟩, ⟨S8x128, f 1 2⟩, ⟨S8x128, f 1 3⟩, ⟨S8x128, f 2 0⟩, ⟨S8x128, f 2 1⟩, ⟨S8x128, f 2 2⟩, ⟨S8x128, f 2 3⟩, ⟨S8x128, f 3 0⟩, ⟨S8x128, f 3 1⟩, ⟨S8x128, f 3 2⟩, ⟨S8x128, f 3 3⟩, ⟨S8x128, f 4 0⟩, ⟨S8x128, f 4 1⟩, ⟨S8x128, f 4 2⟩, ⟨S8x128, f 4 3⟩, ⟨S8x128, f 5 0⟩, ⟨S8x128, f 5 1⟩, ⟨S8x128, f 5 2⟩, ⟨S8x128, f 5 3⟩, ⟨S8x128, f 6 0⟩, ⟨S8x128, f 6 1⟩, ⟨S8x128, f 6 2⟩, ⟨S8x128, f 6 3⟩, ⟨S8x128, f 7 0⟩, ⟨S8x128, f 7 1⟩, ⟨S8x128, f 7 2⟩, ⟨S8x128, f 7 3⟩] cat32_ok
def cat48 (f : ℕ → ℕ → S8x128.Idx → α) : S384x128.Idx → α :=
  concatenate S384x128 0 (⟨S8x128, f 0 0⟩ :: ⟨S8x128, f 0 1⟩ :: ⟨S8x128, f 0 2⟩ :: ⟨S8x128, f 0 3⟩ :: ⟨S8x128, f 0 4⟩ :: ⟨S8x128, f 0 5⟩ :: ⟨S8x128, f 1 0⟩ :: ⟨S8x128, f 1 1⟩ :: ⟨S8x128, f 1 2⟩ :: ⟨S8x128, f 1 3⟩ :: ⟨S8x128, f 1 4⟩ :: ⟨S8x128, f 1 5⟩ :: ⟨S8x128, f 2 0⟩ :: ⟨S8x128, f 2 1⟩ :: ⟨S8x128, f 2 2⟩ :: ⟨S8x128, f 2 3⟩ :: ⟨S8x128, f 2 4⟩ :: ⟨S8x128, f 2 5⟩ :: ⟨S8x128, f 3 0⟩ :: ⟨S8x128, f 3 1⟩ :: ⟨S8x128, f 3 2⟩ :: ⟨S8x128, f 3 3⟩ :: ⟨S8x128, f 3 4⟩ :: ⟨S8x128, f 3 5⟩ :: ⟨S8x128, f 4 0⟩ :: ⟨S8x128, f 4 1⟩ :: ⟨S8x128, f 4 2⟩ :: ⟨S8x128, f 4 3⟩ :: ⟨S8x128, f 4 4⟩ :: ⟨S8x128, f 4 5⟩ :: ⟨S8x128, f 5 0⟩ :: ⟨S8x128, f 5 1⟩ :: ⟨S8x128, f 5 2⟩ :: ⟨S8x128, f 5 3⟩ :: ⟨S8x128, f 5 4⟩ :: ⟨S8x128, f 5 5⟩ :: ⟨S8x128, f 6 0⟩ :: ⟨S8x128, f 6 1⟩ :: ⟨S8x128, f 6 2⟩ :: ⟨S8x128, f 6 3⟩ :: ⟨S8x128, f 6 4⟩ :: ⟨S8x128, f 6 5⟩ :: ⟨S8x128, f 7 0⟩ :: ⟨S8x128, f 7 1⟩ :: ⟨S8x128, f 7 2⟩ :: ⟨S8x128, f 7 3⟩ :: ⟨S8x128, f 7 4⟩ :: ⟨S8x128, f 7 5⟩ :: []) cat48_ok
def cat8 (f : ℕ → S32x128.Idx → α) : S256x128.Idx → α :=
  concatenate S256x128 0 [⟨S32x128, f 0⟩, ⟨S32x128, f 1⟩, ⟨S32x128, f 2⟩, ⟨S32x128, f 3⟩, ⟨S32x128, f 4⟩, ⟨S32x128, f 5⟩, ⟨S32x128, f 6⟩, ⟨S32x128, f 7⟩] cat8_ok

end Layout

/-! ## Gates -/

def gq (x : FVec F S256x128 .f32) : FVec F S256x128 .f32 := mulf x (logistic x)
def gf (lb : FVec F S1x128 .f32) (x : FVec F S256x128 .f32) : FVec F S256x128 .f32 :=
  addf (broadcastTo S256x128 lb broadcasts_S1x128_S256x128)
    (mulf (broadcastTo S256x128 (subf (broadcast S1x128 one32) lb) broadcasts_S1x128_S256x128) (logistic x))
def gk (f : FVec F S256x128 .f32) : FVec F S256x128 .f32 := subf (broadcast S256x128 one32) f
def ghi (f : FVec F S256x128 .f32) : FVec F S256x128 .bf16 := truncf .bf16 (log f) bitsLt_bf16_f32
def glo (f : FVec F S256x128 .f32) : FVec F S256x128 .bf16 :=
  truncf .bf16 (subf (log f) (extf .f32 (ghi f) bitsLt_bf16_f32)) bitsLt_bf16_f32
def gmm (rev : Bool) (f : FVec F S256x128 .f32) : FVec F S256x256 .f32 :=
  matmul dot_S256x256_S256x256_S256x256_1_0_0_1_n_n none (tri rev)
    (concatenate S256x256 1 [⟨S256x128, ghi f⟩, ⟨S256x128, glo f⟩] concatenates_S256x128_S256x128_S256x256_d1)
    (constant S256x256 .f32 0x00000000#32)
def gb (rev : Bool) (f : FVec F S256x128 .f32) : FVec F S256x128 .f32 :=
  addf (extractStridedSlice S256x128 ![0, 0] (gmm rev f) slices_S256x256_o0_0_S256x128)
    (extractStridedSlice S256x128 ![0, 128] (gmm rev f) slices_S256x256_o0_128_S256x128)

/-! ## Sub-blocks. `c` is the chunk as it lies in memory, `p` the sub-block's place in the order of time. -/

def pos (rev : Bool) (p : ℕ) : ℕ := cond rev (3 - p) p

def en (rev : Bool) (b : FVec F S256x128 .f32) (c p : ℕ) : FVec F S1x128 .f32 :=
  row1 b (32 * c + 8 * pos rev p + cond rev 0 7)
def wide (e : FVec F S1x128 .f32) : FVec F S8x128 .f32 := broadcastTo S8x128 e broadcasts_S1x128_S8x128
def scl (x : FVec F S8x128 .f32) (e : FVec F S1x128 .f32) : FVec F S8x128 .f32 := mulf x (wide (exp e))
def at8 (rev : Bool) (x : FVec F S256x128 .f32) (c p : ℕ) : FVec F S8x128 .f32 := sub8 x (4 * c + pos rev p)

def qhat (rev : Bool) (q b : FVec F S256x128 .f32) (c p : ℕ) : FVec F S8x128 .f32 :=
  Nat.rec (mulf (at8 rev q c 0) (exp (at8 rev b c 0)))
    (fun p' _ => mulf (at8 rev q c (p' + 1)) (exp (subf (at8 rev b c (p' + 1)) (wide (en rev b c p'))))) p
def khat (rev : Bool) (k b : FVec F S256x128 .f32) (c p : ℕ) : FVec F S8x128 .f32 :=
  mulf (at8 rev k c p) (exp (subf (wide (en rev b c p)) (at8 rev b c p)))
def qbar (rev : Bool) (q b : FVec F S256x128 .f32) (c p : ℕ) : FVec F S8x128 .f32 :=
  Nat.rec (qhat rev q b c 0) (fun p' _ => scl (qhat rev q b c (p' + 1)) (en rev b c p')) p
/-- The key's weight to the end of its chunk; `r` is the number of sub-blocks after it. -/
def kbar (rev : Bool) (k b : FVec F S256x128 .f32) (c r : ℕ) : FVec F S8x128 .f32 :=
  Nat.rec (khat rev k b c 3) (fun r' _ => scl (khat rev k b c (2 - r')) (subf (en rev b c 3) (en rev b c (2 - r')))) r
def lhsOff (rev : Bool) (q b : FVec F S256x128 .f32) (c n : ℕ) : FVec F S8x128 .f32 :=
  Nat.rec (qhat rev q b c 1) (fun n _ =>
    Nat.rec (scl (qhat rev q b c 2) (subf (en rev b c 1) (en rev b c 0))) (fun n _ =>
      Nat.rec (qhat rev q b c 2) (fun n _ =>
        Nat.rec (scl (qhat rev q b c 3) (subf (en rev b c 2) (en rev b c 0))) (fun n _ =>
          Nat.rec (scl (qhat rev q b c 3) (subf (en rev b c 2) (en rev b c 1))) (fun _ _ => qhat rev q b c 3) n) n) n) n) n

def Qbar (rev : Bool) (q b : FVec F S256x128 .f32) : FVec F S256x128 .bf16 :=
  truncf .bf16 (cat32 fun c i => qbar rev q b c (pos rev i)) bitsLt_bf16_f32
def Khat (rev : Bool) (k b : FVec F S256x128 .f32) : FVec F S256x128 .bf16 :=
  truncf .bf16 (cat32 fun c i => khat rev k b c (pos rev i)) bitsLt_bf16_f32
def Kbar (rev : Bool) (k b : FVec F S256x128 .f32) : FVec F S256x128 .bf16 :=
  truncf .bf16 (cat32 fun c i => kbar rev k b c (3 - pos rev i)) bitsLt_bf16_f32
def Loff (rev : Bool) (q b : FVec F S256x128 .f32) : FVec F S384x128 .bf16 :=
  truncf .bf16 (cat48 fun c n => lhsOff rev q b c n) bitsLt_bf16_f32

/-! ## Within a sub-block: the products along the diagonals -/

def prev (rev : Bool) (x : FVec F S256x128 .f32) : FVec F S256x128 .f32 :=
  shapeCast S256x128 (dynamicRotate 1 (cond rev 7#32 1#32) none (shapeCast S32x8x128 x shapeCasts_S256x128_S32x8x128) rotates_S32x8x128_d1)
    shapeCasts_S32x8x128_S256x128
def kd (rev : Bool) (f k : FVec F S256x128 .f32) (d : ℕ) : FVec F S256x128 .f32 :=
  Nat.rec k (fun _ x => mulf f (prev rev x)) d
def term (rev : Bool) (q f k : FVec F S256x128 .f32) (d : ℕ) : FVec F S256x128 .bf16 :=
  truncf .bf16 (mulf q (kd rev f k d)) bitsLt_bf16_f32
def zpair (rev : Bool) (q f k : FVec F S256x128 .f32) (d : ℕ) : FVec F S256x256 .bf16 :=
  concatenate S256x256 1 [⟨S256x128, term rev q f k d⟩, ⟨S256x128, term rev q f k (d + 1)⟩] concatenates_S256x128_S256x128_S256x256_d1
def zcat (rev : Bool) (q f k : FVec F S256x128 .f32) : FVec F S1024x256 .bf16 :=
  concatenate S1024x256 0 [⟨S256x256, zpair rev q f k 0⟩, ⟨S256x256, zpair rev q f k 2⟩, ⟨S256x256, zpair rev q f k 4⟩, ⟨S256x256, zpair rev q f k 6⟩]
    concatenates_S256x256_S256x256_S256x256_S256x256_S1024x256_d0
def rdiag (rev : Bool) (q f k : FVec F S256x128 .f32) : FVec F S1024x128 .f32 :=
  matmul dot_S1024x256_S256x128_S1024x128_1_0_0_1_n_n none (zcat rev q f k) fold (constant S1024x128 .f32 0x00000000#32)

def roff (rev : Bool) (q k b : FVec F S256x128 .f32) (c : ℕ) : FVec F S48x128 .f32 :=
  matmul dot_S48x128_S128x128_S48x128_1_1_0_0_n_n none (sub48 (Loff rev q b) c)
    (concatenate S128x128 0 [⟨S32x128, sub32 (Khat rev k b) c⟩, ⟨S96x128, broadcast S96x128 zero16⟩] concatenates_S32x128_S96x128_S128x128_d0)
    (constant S48x128 .f32 0x00000000#32)

def vb (v : FVec F S256x128 .f32) : FVec F S256x128 .bf16 := truncf .bf16 v bitsLt_bf16_f32

def upd (rev : Bool) (k v b : FVec F S256x128 .f32) (c : ℕ) : FVec F S128x128 .f32 :=
  matmul dot_S32x128_S32x128_S128x128_0_0_1_1_n_n none (sub32 (vb v) c) (sub32 (Kbar rev k b) c) (constant S128x128 .f32 0x00000000#32)

/-! ## A chunk's own part -/

def offc (rev : Bool) (j : ℕ) : IVec S8x128 1 :=
  Nat.rec (cond rev (cols 24#32 32#32) (cols 0#32 8#32)) (fun j _ =>
    Nat.rec (cond rev (cols 16#32 24#32) (cols 8#32 16#32)) (fun _ _ => cond rev (cols 8#32 16#32) (cols 16#32 24#32)) j) j

def zero8 : FVec F S8x128 .f32 := broadcast S8x128 zero32
def arow (rev : Bool) (r : FVec F S48x128 .f32) (p : ℕ) : FVec F S8x128 .f32 :=
  Nat.rec zero8 (fun p _ => Nat.rec (select (offc rev 0) (subO r 0) zero8) (fun p _ =>
    Nat.rec (select (offc rev 1) (subO r 2) (select (offc rev 0) (subO r 1) zero8)) (fun _ _ =>
      select (offc rev 2) (subO r 5) (select (offc rev 1) (subO r 4) (select (offc rev 0) (subO r 3) zero8))) p) p) p
def acat (rev : Bool) (r : FVec F S48x128 .f32) : FVec F S32x128 .f32 :=
  concatenate S32x128 0 [⟨S8x128, arow rev r (pos rev 0)⟩, ⟨S8x128, arow rev r (pos rev 1)⟩, ⟨S8x128, arow rev r (pos rev 2)⟩, ⟨S8x128, arow rev r (pos rev 3)⟩]
    concatenates_S8x128_S8x128_S8x128_S8x128_S32x128_d0
def dadd (rev : Bool) (d d' : BitVec 32) (x : FVec F S32x128 .f32) (r : FVec F S32x128 .f32) : FVec F S32x128 .f32 :=
  addf x (select (hit rev d d') r (broadcast S32x128 zero32))
def amat (rev : Bool) (q f k b : FVec F S256x128 .f32) (c : ℕ) : FVec F S32x128 .f32 :=
  dadd rev 6#32 7#32 (dadd rev 4#32 5#32 (dadd rev 2#32 3#32 (dadd rev 0#32 1#32 (acat rev (roff rev q k b c))
    (subD (rdiag rev q f k) 0 c)) (subD (rdiag rev q f k) 1 c)) (subD (rdiag rev q f k) 2 c)) (subD (rdiag rev q f k) 3 c)
def v2 (v : FVec F S256x128 .f32) (c : ℕ) : FVec F S128x128 .bf16 :=
  concatenate S128x128 0 [⟨S32x128, sub32 (vb v) c⟩, ⟨S32x128, sub32 (vb v) c⟩, ⟨S64x128, broadcast S64x128 zero16⟩]
    concatenates_S32x128_S32x128_S64x128_S128x128_d0
def ointra (rev : Bool) (q f k v b : FVec F S256x128 .f32) (c : ℕ) : FVec F S32x128 .f32 :=
  matmul dot_S32x128_S128x128_S32x128_1_0_0_1_n_n none (truncf .bf16 (amat rev q f k b c) bitsLt_bf16_f32) (v2 v c)
    (constant S32x128 .f32 0x00000000#32)

/-! ## From chunk to chunk -/

def chunk (rev : Bool) (j : ℕ) : ℕ := cond rev (7 - j) j

def stAt (rev : Bool) (k v b : FVec F S256x128 .f32) (st : FVec F S128x128 .f32) (j : ℕ) : FVec F S128x128 .f32 :=
  Nat.rec st (fun j x => addf (mulf x (broadcastTo S128x128 (exp (en rev b (chunk rev j) 3)) broadcasts_S1x128_S128x128))
    (upd rev k v b (chunk rev j))) j
def outAt (rev : Bool) (q f k v b : FVec F S256x128 .f32) (st : FVec F S128x128 .f32) (j : ℕ) : FVec F S32x128 .f32 :=
  addf (ointra rev q f k v b (chunk rev j))
    (matmul dot_S32x128_S128x128_S32x128_1_1_0_0_n_n none (sub32 (Qbar rev q b) (chunk rev j))
      (truncf .bf16 (stAt rev k v b st j) bitsLt_bf16_f32) (constant S32x128 .f32 0x00000000#32))

/-- One head in one direction: what it stores of the output's block. -/
def headOut (rev : Bool) (xq xf xv : FVec F S256x128 .f32) (lb : FVec F S1x128 .f32) (st : FVec F S128x128 .f32) : FVec F S256x128 .f32 :=
  cat8 fun c => outAt rev (gq xq) (gf lb xf) (gk (gf lb xf)) xv (gb rev (gf lb xf)) st (chunk rev c)
/-- The state it leaves. -/
def headSt (rev : Bool) (xf xv : FVec F S256x128 .f32) (lb : FVec F S1x128 .f32) (st : FVec F S128x128 .f32) : FVec F S128x128 .f32 :=
  stAt rev (gk (gf lb xf)) xv (gb rev (gf lb xf)) st 8

def inp (x : Vec F S1x256x128 .bf16) : FVec F S256x128 .f32 :=
  extf .f32 (shapeCast S256x128 x shapeCasts_S1x256x128_S256x128) bitsLt_bf16_f32
def stIn (x : Vec F S1x128x128 .f32) : FVec F S128x128 .f32 := shapeCast S128x128 x shapeCasts_S1x128x128_S128x128
def payOut (x : FVec F S256x128 .f32) : FVec F S1x256x128 .bf16 :=
  shapeCast S1x256x128 (truncf .bf16 x bitsLt_bf16_f32) shapeCasts_S256x128_S1x256x128
def paySt (x : FVec F S128x128 .f32) : FVec F S1x128x128 .f32 := shapeCast S1x128x128 x shapeCasts_S128x128_S1x128x128

end Cert.Kernel8Ideal.Scan

end
-- ==== Proof.Hgrn.Calc.lean ====
/- Real values carried through the operations of a head: `Is x X` says an array of rank two holds the real numbers `X`. -/
module

public import proofs.«01_k».proof.Proof.Hgrn.Head
public import proofs.«01_k».proof.Proof.Attn
public import Idealize.ShloMosaic.Lib.ValueIdx
public import Idealize.ShloMosaic.Lib.ValueLayout
public import Idealize.ShloMosaic.Lib.KernelVsHost
public import Idealize.ShloMosaic.Lib.Pointwise
public import Idealize.ShloMosaic.Lib.Pipeline.Value

@[expose] public section

set_option maxRecDepth 16384

noncomputable section

namespace Cert.Kernel8Ideal.Scan

open Idealize.ShloMosaic Facts₀ Cert.Attn

/-- The array holds the reals `X`. -/
def Is {m n : ℕ} (x : (⟨2, ![m, n]⟩ : Shape).Idx → EReal) (X : ℕ → ℕ → ℝ) : Prop :=
  ∀ (i : Fin m) (j : Fin n), x (ix2 i j) = ((X i.val j.val : ℝ) : EReal)

theorem Is.congr {m n : ℕ} {x : (⟨2, ![m, n]⟩ : Shape).Idx → EReal} {X Y : ℕ → ℕ → ℝ} (h : Is x X)
    (e : ∀ i j, i < m → j < n → X i j = Y i j) : Is x Y := fun i j => by rw [h i j, e _ _ i.isLt j.isLt]

theorem one32_eq : (one32 : Ideal .f32) = ((1 : ℝ) : EReal) := by
  show Ideal.ofBits .f32 0x3F800000#32 = _
  simp [Ideal.ofBits, Ideal.ieee, ← EReal.coe_mul]; norm_num
theorem zero32_eq : (zero32 : Ideal .f32) = ((0 : ℝ) : EReal) := by
  show Ideal.ofBits .f32 0x00000000#32 = _
  simp [Ideal.ofBits, Ideal.ieee]
theorem zero16_eq : (zero16 : Ideal .bf16) = ((0 : ℝ) : EReal) := by
  show Ideal.ofBits .bf16 0x0000#16 = _
  simp [Ideal.ofBits, Ideal.ieee]

section Pointwise'
variable {m n : ℕ} {φ : FTy} {x y : FVec Ideal (⟨2, ![m, n]⟩ : Shape) φ} {X Y : ℕ → ℕ → ℝ}

theorem Is.add (hx : Is x X) (hy : Is y Y) : Is (addf x y) fun i j => X i j + Y i j := fun i j =>
  (Ideal.add_congr (hx i j) (hy i j)).trans (EReal.coe_add _ _).symm
theorem Is.mul (hx : Is x X) (hy : Is y Y) : Is (mulf x y) fun i j => X i j * Y i j := fun i j =>
  (Ideal.mul_congr (hx i j) (hy i j)).trans (EReal.coe_mul _ _).symm
theorem Is.sub (hx : Is x X) (hy : Is y Y) : Is (subf x y) fun i j => X i j - Y i j := fun i j =>
  (congrArg₂ (fun a b : EReal => a - b) (hx i j) (hy i j)).trans (EReal.coe_sub _ _).symm
theorem Is.exp (hx : Is x X) : Is (Idealize.ShloMosaic.exp x) fun i j => Real.exp (X i j) := fun i j =>
  congrArg Ideal.exp (hx i j)
theorem Is.logistic (hx : Is x X) : Is (Idealize.ShloMosaic.logistic x) fun i j => (1 + Real.exp (-X i j))⁻¹ := fun i j =>
  (congrArg Ideal.logistic (hx i j)).trans (Ideal.logistic_coe _)
theorem Is.log (hx : Is x X) (hp : ∀ i j, i < m → j < n → 0 < X i j) : Is (Idealize.ShloMosaic.log x) fun i j => Real.log (X i j) := fun i j =>
  (congrArg Ideal.log (hx i j)).trans (if_neg (not_le.2 (hp _ _ i.isLt j.isLt)))
theorem Is.trunc {ψ : FTy} (h : ψ.bits < φ.bits) (hx : Is x X) : Is (truncf ψ x h) X := hx
theorem Is.ext {ψ : FTy} (h : φ.bits < ψ.bits) (hx : Is x X) : Is (extf ψ x h) X := hx
theorem Is.const {a : EReal} {r : ℝ} (h : a = (r : EReal)) : Is (broadcast (⟨2, ![m, n]⟩ : Shape) a) fun _ _ => r := fun _ _ => h

end Pointwise'

/-- A mask and the positions it holds at. -/
def IsM {m n : ℕ} (x : (⟨2, ![m, n]⟩ : Shape).Idx → BitVec 1) (P : ℕ → ℕ → Prop) : Prop :=
  ∀ (i : Fin m) (j : Fin n), x (ix2 i j) = 1#1 ↔ P i.val j.val

open Classical in
theorem Is.sel {m n : ℕ} {c : IVec (⟨2, ![m, n]⟩ : Shape) 1} {P : ℕ → ℕ → Prop} {φ : FTy} {x y : FVec Ideal (⟨2, ![m, n]⟩ : Shape) φ}
    {X Y : ℕ → ℕ → ℝ} (hc : IsM c P) (hx : Is x X) (hy : Is y Y) : Is (select c x y) fun i j => if P i j then X i j else Y i j := fun i j => by
  show Scalar.select (c (ix2 i j)) (x (ix2 i j)) (y (ix2 i j)) = _
  unfold Scalar.select
  by_cases h : P i.val j.val
  · refine (if_pos ((hc i j).2 h)).trans ((hx i j).trans (congrArg _ ?_))
    dsimp only; rw [if_pos h]
  · refine (if_neg fun e => h ((hc i j).1 e)).trans ((hy i j).trans (congrArg _ ?_))
    dsimp only; rw [if_neg h]

/-! ## Layout -/

section Layout'
variable {x : S256x128.Idx → EReal} {X : ℕ → ℕ → ℝ}

theorem Is.sub8 (hx : Is x X) (n : ℕ) : Is (sub8 x n) fun r k => X (8 * (n % 32) + r) k := fun i j =>
  (extractStridedSlice_apply _ x (slices8 n) (ix2 i j) (ix2 ⟨8 * (n % 32) + i.val, by omega⟩ j) fun a => match a with
    | ⟨0, _⟩ => rfl
    | ⟨1, _⟩ => (Nat.zero_add _).symm).trans (hx _ _)
theorem Is.row1 (hx : Is x X) (n : ℕ) : Is (row1 x n) fun _ k => X (n % 256) k := fun i j =>
  (extractStridedSlice_apply _ x (slices1 n) (ix2 i j) (ix2 ⟨n % 256, by omega⟩ j) fun a => match a with
    | ⟨0, _⟩ => by have := i.isLt; show n % 256 = n % 256 + i.val; omega
    | ⟨1, _⟩ => (Nat.zero_add _).symm).trans (hx _ _)
theorem Is.sub32 (hx : Is x X) (n : ℕ) : Is (sub32 x n) fun r k => X (32 * (n % 8) + r) k := fun i j =>
  (extractStridedSlice_apply _ x (slices32 n) (ix2 i j) (ix2 ⟨32 * (n % 8) + i.val, by omega⟩ j) fun a => match a with
    | ⟨0, _⟩ => rfl
    | ⟨1, _⟩ => (Nat.zero_add _).symm).trans (hx _ _)
theorem Is.sub48 {x : S384x128.Idx → EReal} (hx : Is x X) (n : ℕ) : Is (sub48 x n) fun r k => X (48 * (n % 8) + r) k := fun i j =>
  (extractStridedSlice_apply _ x (slices48 n) (ix2 i j) (ix2 ⟨48 * (n % 8) + i.val, by omega⟩ j) fun a => match a with
    | ⟨0, _⟩ => rfl
    | ⟨1, _⟩ => (Nat.zero_add _).symm).trans (hx _ _)
theorem Is.subD {x : S1024x128.Idx → EReal} (hx : Is x X) (d n : ℕ) :
    Is (subD x d n) fun r k => X (256 * (d % 4) + 32 * (n % 8) + r) k := fun i j =>
  (extractStridedSlice_apply _ x (slicesD d n) (ix2 i j) (ix2 ⟨256 * (d % 4) + 32 * (n % 8) + i.val, by omega⟩ j) fun a => match a with
    | ⟨0, _⟩ => rfl
    | ⟨1, _⟩ => (Nat.zero_add _).symm).trans (hx _ _)
theorem Is.subO {x : S48x128.Idx → EReal} (hx : Is x X) (n : ℕ) : Is (subO x n) fun r k => X (8 * (n % 6) + r) k := fun i j =>
  (extractStridedSlice_apply _ x (slicesO n) (ix2 i j) (ix2 ⟨8 * (n % 6) + i.val, by omega⟩ j) fun a => match a with
    | ⟨0, _⟩ => rfl
    | ⟨1, _⟩ => (Nat.zero_add _).symm).trans (hx _ _)

theorem Is.rows {m : ℕ} {x : S1x128.Idx → EReal} (hx : Is x X) (h : S1x128.Broadcasts (⟨2, ![m, 128]⟩ : Shape)) :
    Is (broadcastTo (⟨2, ![m, 128]⟩ : Shape) x h) fun _ k => X 0 k := fun i j =>
  (ValueIdx.broadcastTo_1b_ab_apply x h i j).trans (hx 0 j)

theorem Is.cat {N K M W : ℕ} (f : Fin N → (⟨2, ![K, W]⟩ : Shape).Idx → EReal) (Y : ℕ → ℕ → ℕ → ℝ) (hM : M = N * K)
    (h : Shape.Concatenates ((List.ofFn fun n : Fin N => (⟨(⟨2, ![K, W]⟩ : Shape), f n⟩ : (s : Shape) × (s.Idx → EReal))).map (·.1)) (⟨2, ![M, W]⟩ : Shape) 0)
    (hf : ∀ n : Fin N, Is (f n) (Y n.val)) :
    Is (concatenate (⟨2, ![M, W]⟩ : Shape) 0 (List.ofFn fun n : Fin N => ⟨(⟨2, ![K, W]⟩ : Shape), f n⟩) h) fun r k => Y (r / K) (r % K) k := fun i j => by
  have hi : i.val < N * K := hM ▸ i.isLt
  have hK : 0 < K := Nat.pos_of_ne_zero fun e => by subst e; simp at hi
  exact (concatenate_ofFn_apply (t := (⟨2, ![M, W]⟩ : Shape)) 0 f h rfl K rfl (ix2 i j) ⟨i.val / K, Nat.div_lt_of_lt_mul (Nat.mul_comm N K ▸ hi)⟩ rfl
    (ix2 ⟨i.val % K, Nat.mod_lt _ hK⟩ j) rfl (fun b hb => match b with
      | ⟨0, _⟩ => absurd rfl hb
      | ⟨1, _⟩ => rfl)).trans (hf _ _ _)

theorem Is.cat32 {f : ℕ → ℕ → S8x128.Idx → EReal} {Y : ℕ → ℕ → ℕ → ℕ → ℝ} (hf : ∀ c i, c < 8 → i < 4 → Is (f c i) (Y c i)) :
    Is (cat32 f) fun r k => Y (r / 32) (r % 32 / 8) (r % 8) k :=
  (Is.cat (N := 32) (K := 8) (M := 256) (fun n => f (n.val / 4) (n.val % 4)) (fun n => Y (n / 4) (n % 4)) rfl cat32_ok
    (fun n => hf _ _ (by omega) (by omega))).congr fun i j hi hj => by
      rw [show i / 8 / 4 = i / 32 by omega, show i / 8 % 4 = i % 32 / 8 by omega]

theorem Is.cat48 {f : ℕ → ℕ → S8x128.Idx → EReal} {Y : ℕ → ℕ → ℕ → ℕ → ℝ} (hf : ∀ c i, c < 8 → i < 6 → Is (f c i) (Y c i)) :
    Is (cat48 f) fun r k => Y (r / 48) (r % 48 / 8) (r % 8) k :=
  (Is.cat (N := 48) (K := 8) (M := 384) (fun n => f (n.val / 6) (n.val % 6)) (fun n => Y (n / 6) (n % 6)) rfl cat48_ok
    (fun n => hf _ _ (by omega) (by omega))).congr fun i j hi hj => by
      rw [show i / 8 / 6 = i / 48 by omega, show i / 8 % 6 = i % 48 / 8 by omega]

theorem Is.cat8 {f : ℕ → S32x128.Idx → EReal} {Y : ℕ → ℕ → ℕ → ℝ} (hf : ∀ c, c < 8 → Is (f c) (Y c)) :
    Is (cat8 f) fun r k => Y (r / 32) (r % 32) k :=
  Is.cat (N := 8) (K := 32) (M := 256) (fun n => f n.val) Y rfl cat8_ok (fun n => hf _ n.isLt)

theorem Is.pairCols {φ : FTy} {x y : FVec Ideal S256x128 φ} {X Y : ℕ → ℕ → ℝ} (hx : Is x X) (hy : Is y Y)
    (h : Shape.Concatenates [S256x128, S256x128] S256x256 1) :
    Is (concatenate S256x256 1 [⟨S256x128, x⟩, ⟨S256x128, y⟩] h) fun r k => if k < 128 then X r k else Y r (k - 128) := fun i j => by
  pointwise []
  by_cases hj : j.val < 128
  · rw [dif_pos hj, if_pos hj, hx]
  · rw [dif_neg hj, if_neg hj, hy]

theorem Is.pairRows {φ : FTy} {x : FVec Ideal S32x128 φ} {y : FVec Ideal S96x128 φ} {X Y : ℕ → ℕ → ℝ} (hx : Is x X) (hy : Is y Y)
    (h : Shape.Concatenates [S32x128, S96x128] S128x128 0) :
    Is (concatenate S128x128 0 [⟨S32x128, x⟩, ⟨S96x128, y⟩] h) fun r k => if r < 32 then X r k else Y (r - 32) k := fun i j => by
  pointwise []
  by_cases hj : i.val < 32
  · rw [dif_pos hj, if_pos hj, hx]
  · rw [dif_neg hj, if_neg hj, hy]

theorem Is.threeRows {φ : FTy} {x y : FVec Ideal S32x128 φ} {z : FVec Ideal S64x128 φ} {X Y Z : ℕ → ℕ → ℝ} (hx : Is x X) (hy : Is y Y) (hz : Is z Z)
    (h : Shape.Concatenates [S32x128, S32x128, S64x128] S128x128 0) :
    Is (concatenate S128x128 0 [⟨S32x128, x⟩, ⟨S32x128, y⟩, ⟨S64x128, z⟩] h)
      fun r k => if r < 32 then X r k else if r < 64 then Y (r - 32) k else Z (r - 64) k := fun i j => by
  pointwise []
  by_cases h1 : i.val < 32
  · rw [dif_pos h1, if_pos h1, hx]
  · rw [dif_neg h1, if_neg h1]
    by_cases h2 : i.val < 64
    · rw [dif_pos (by omega), if_pos h2, hy]
    · rw [dif_neg (by omega), if_neg h2, hz]; congr 2

theorem Is.prev (rev : Bool) {x : FVec Ideal S256x128 .f32} (hx : Is x X) :
    Is (prev rev x) fun r k => X (8 * (r / 8) + (r % 8 + cond rev 1 7) % 8) k := fun i j => by
  have hs : (cond rev 7#32 1#32 : BitVec 32).toNat % 8 = cond rev 7 1 := by cases rev <;> rfl
  have hc : (cond rev 1 7 : ℕ) = 8 - cond rev 7 1 := by cases rev <;> rfl
  have hb : (cond rev 7 1 : ℕ) ≤ 7 := by cases rev <;> decide
  refine (shapeCast_apply _ shapeCasts_S32x8x128_S256x128 (ix2 i j) (ix3 ⟨i.val / 8, by omega⟩ ⟨i.val % 8, by omega⟩ j) ?_).trans ?_
  · rw [Shape.rowMajor_val_three, Shape.rowMajor_val_two]
    show (i.val / 8 * 8 + i.val % 8) * 128 + j.val = i.val * 128 + j.val
    omega
  refine (dynamicRotate_apply 1 _ _ rotates_S32x8x128_d1 _ (ix3 ⟨i.val / 8, by omega⟩ ⟨(i.val % 8 + cond rev 1 7) % 8, by omega⟩ j) fun b => ?_).trans ?_
  · match b with
    | ⟨0, _⟩ => rfl
    | ⟨1, _⟩ =>
      show (i.val % 8 + cond rev 1 7) % 8 = (i.val % 8 + 8 - (cond rev 7#32 1#32 : BitVec 32).toNat % 8) % 8
      rw [hs, hc]; congr 1; omega
    | ⟨2, _⟩ => rfl
  refine (shapeCast_apply x shapeCasts_S256x128_S32x8x128 _ (ix2 ⟨8 * (i.val / 8) + (i.val % 8 + cond rev 1 7) % 8, by omega⟩ j) ?_).trans (hx _ _)
  rw [Shape.rowMajor_val_three, Shape.rowMajor_val_two]
  show (8 * (i.val / 8) + (i.val % 8 + cond rev 1 7) % 8) * 128 + j.val = (i.val / 8 * 8 + (i.val % 8 + cond rev 1 7) % 8) * 128 + j.val
  omega

end Layout'

/-! ## Products -/

theorem sum_is {n : ℕ} {f : Fin n → EReal} {g : Fin n → EReal} {X Y : ℕ → ℝ} (hf : ∀ k, f k = ((X k.val : ℝ) : EReal)) (hg : ∀ k, g k = ((Y k.val : ℝ) : EReal)) :
    (0 : EReal) + ∑ k, f k * g k = ((∑ k ∈ Finset.range n, X k * Y k : ℝ) : EReal) := by
  rw [zero_add, ← Fin.sum_univ_eq_sum_range (fun k => X k * Y k), coe_sum]
  exact Finset.sum_congr rfl fun k _ => by rw [hf, hg, EReal.coe_mul]

section Dots
variable {X Y : ℕ → ℕ → ℝ}

theorem Is.dotTri {x : FVec Ideal S256x256 .bf16} {y : FVec Ideal S256x256 .bf16} (hx : Is x X) (hy : Is y Y) :
    Is (matmul dot_S256x256_S256x256_S256x256_1_0_0_1_n_n none x y (constant S256x256 .f32 0x00000000#32))
      fun i j => ∑ k ∈ Finset.range 256, X i k * Y k j := fun i j => by
  pointwise []
  first | rw [ofBits_zero_f32] | skip
  exact (zero_add _).symm.trans (sum_is (X := fun k => X i.val k) (Y := fun k => Y k j.val) (fun k => hx i k) (fun k => hy k j))
theorem Is.dotOff {x : FVec Ideal S48x128 .bf16} {y : FVec Ideal S128x128 .bf16} (hx : Is x X) (hy : Is y Y) :
    Is (matmul dot_S48x128_S128x128_S48x128_1_1_0_0_n_n none x y (constant S48x128 .f32 0x00000000#32))
      fun i j => ∑ k ∈ Finset.range 128, X i k * Y j k := fun i j => by
  pointwise []
  first | rw [ofBits_zero_f32] | skip
  exact (zero_add _).symm.trans (sum_is (X := fun k => X i.val k) (Y := fun k => Y j.val k) (fun k => hx i k) (fun k => hy j k))
theorem Is.dotFold {x : FVec Ideal S1024x256 .bf16} {y : FVec Ideal S256x128 .bf16} (hx : Is x X) (hy : Is y Y) :
    Is (matmul dot_S1024x256_S256x128_S1024x128_1_0_0_1_n_n none x y (constant S1024x128 .f32 0x00000000#32))
      fun i j => ∑ k ∈ Finset.range 256, X i k * Y k j := fun i j => by
  pointwise []
  first | rw [ofBits_zero_f32] | skip
  exact (zero_add _).symm.trans (sum_is (X := fun k => X i.val k) (Y := fun k => Y k j.val) (fun k => hx i k) (fun k => hy k j))
theorem Is.dotUpd {x : FVec Ideal S32x128 .bf16} {y : FVec Ideal S32x128 .bf16} (hx : Is x X) (hy : Is y Y) :
    Is (matmul dot_S32x128_S32x128_S128x128_0_0_1_1_n_n none x y (constant S128x128 .f32 0x00000000#32))
      fun i j => ∑ k ∈ Finset.range 32, X k i * Y k j := fun i j => by
  pointwise []
  first | rw [ofBits_zero_f32] | skip
  exact (zero_add _).symm.trans (sum_is (X := fun k => X k i.val) (Y := fun k => Y k j.val) (fun k => hx k i) (fun k => hy k j))
theorem Is.dotOut {x : FVec Ideal S32x128 .bf16} {y : FVec Ideal S128x128 .bf16} (hx : Is x X) (hy : Is y Y) :
    Is (matmul dot_S32x128_S128x128_S32x128_1_0_0_1_n_n none x y (constant S32x128 .f32 0x00000000#32))
      fun i j => ∑ k ∈ Finset.range 128, X i k * Y k j := fun i j => by
  pointwise []
  first | rw [ofBits_zero_f32] | skip
  exact (zero_add _).symm.trans (sum_is (X := fun k => X i.val k) (Y := fun k => Y k j.val) (fun k => hx i k) (fun k => hy k j))
theorem Is.dotSt {x : FVec Ideal S32x128 .bf16} {y : FVec Ideal S128x128 .bf16} (hx : Is x X) (hy : Is y Y) :
    Is (matmul dot_S32x128_S128x128_S32x128_1_1_0_0_n_n none x y (constant S32x128 .f32 0x00000000#32))
      fun i j => ∑ k ∈ Finset.range 128, X i k * Y j k := fun i j => by
  pointwise []
  first | rw [ofBits_zero_f32] | skip
  exact (zero_add _).symm.trans (sum_is (X := fun k => X i.val k) (Y := fun k => Y j.val k) (fun k => hx i k) (fun k => hy j k))

end Dots

end Cert.Kernel8Ideal.Scan

end
-- ==== Proof.Hgrn.Masks.lean ====
/- The masks of a head, as conditions on positions. -/
module

public import proofs.«01_k».proof.Proof.Hgrn.Calc

@[expose] public section

set_option maxRecDepth 16384

noncomputable section

namespace Cert.Kernel8Ideal.Scan

open Idealize.ShloMosaic Facts₀

/-- Place in the order of time of place `r` of `n` in memory. -/
def lg (n : ℕ) (rev : Bool) (r : ℕ) : ℕ := cond rev (n - 1 - r) r

def fdivS (n x : BitVec 32) : BitVec 32 :=
  Scalar.select (IntOp.andi (IntOp.cmpi .ne (IntOp.subi ((IntOp.cmpi .sgt x 0#32).setWidth 32) ((IntOp.cmpi .slt x 0#32).setWidth 32))
      (Scalar.subi (Scalar.extui (Scalar.cmpi .sgt n 0#32)) (Scalar.extui (Scalar.cmpi .slt n 0#32))))
    (IntOp.cmpi .ne (IntOp.remsi .vector x n) 0#32)) (IntOp.subi (IntOp.divsi .vector x n) 1#32) (IntOp.divsi .vector x n)

theorem fdiv_at {s : Shape} (n : BitVec 32) (x : IVec s 32) (i : s.Idx) : fdiv n x i = fdivS n (x i) := rfl
theorem fdiv32 : ∀ a : Fin 256, fdivS 32#32 (BitVec.ofNat 32 a.val) = BitVec.ofNat 32 (a.val / 32) := by decide +kernel
theorem fdiv128 : ∀ a : Fin 256, fdivS 128#32 (BitVec.ofNat 32 a.val) = BitVec.ofNat 32 (a.val / 128) := by decide +kernel

theorem ofBool_one (b : Bool) : BitVec.ofBool b = 1#1 ↔ b = true := by cases b <;> decide
theorem and_one : ∀ x y : BitVec 1, IntOp.andi x y = 1#1 ↔ x = 1#1 ∧ y = 1#1 := by decide

theorem toInt_small {a : ℕ} (ha : a < 2 ^ 31) : (BitVec.ofNat 32 a).toInt = (a : ℤ) := by
  rw [BitVec.toInt_eq_toNat_of_lt (by rw [BitVec.toNat_ofNat]; omega), BitVec.toNat_ofNat]
  omega
theorem cmp_eq {a b : ℕ} (ha : a < 2 ^ 31) (hb : b < 2 ^ 31) : IntOp.cmpi .eq (BitVec.ofNat 32 a) (BitVec.ofNat 32 b) = 1#1 ↔ a = b := by
  show BitVec.ofBool (_ == _) = 1#1 ↔ _
  rw [ofBool_one, beq_iff_eq]
  refine ⟨fun h => ?_, fun h => h ▸ rfl⟩
  have := congrArg BitVec.toInt h
  rw [toInt_small ha, toInt_small hb] at this
  omega
theorem cmp_sle {a b : ℕ} (ha : a < 2 ^ 31) (hb : b < 2 ^ 31) : IntOp.cmpi .sle (BitVec.ofNat 32 a) (BitVec.ofNat 32 b) = 1#1 ↔ a ≤ b := by
  show BitVec.ofBool (BitVec.sle _ _) = 1#1 ↔ _
  rw [ofBool_one, BitVec.sle_eq_decide, decide_eq_true_iff, toInt_small ha, toInt_small hb]
  omega
theorem cmp_slt {a b : ℕ} (ha : a < 2 ^ 31) (hb : b < 2 ^ 31) : IntOp.cmpi .slt (BitVec.ofNat 32 a) (BitVec.ofNat 32 b) = 1#1 ↔ a < b := by
  show BitVec.ofBool (BitVec.slt _ _) = 1#1 ↔ _
  rw [ofBool_one, BitVec.slt_eq_decide, decide_eq_true_iff, toInt_small ha, toInt_small hb]
  omega
theorem cmp_sge {a b : ℕ} (ha : a < 2 ^ 31) (hb : b < 2 ^ 31) : IntOp.cmpi .sge (BitVec.ofNat 32 a) (BitVec.ofNat 32 b) = 1#1 ↔ b ≤ a :=
  cmp_sle hb ha

theorem iota1 {m n : ℕ} (h) (i : Fin m) (j : Fin n) : iota .tc (⟨2, ![m, n]⟩ : Shape) 32 [1] h (ix2 i j) = BitVec.ofNat 32 j.val := by
  show BitVec.ofNat 32 (0 * n + j.val) = _
  rw [Nat.zero_mul, Nat.zero_add]
theorem iota0 {m n : ℕ} (h) (i : Fin m) (j : Fin n) : iota .tc (⟨2, ![m, n]⟩ : Shape) 32 [0] h (ix2 i j) = BitVec.ofNat 32 i.val := by
  show BitVec.ofNat 32 (0 * m + i.val) = _
  rw [Nat.zero_mul, Nat.zero_add]

theorem triMask_is (rev : Bool) : IsM (triMask rev) fun i j => lg 256 rev j ≤ lg 256 rev i ∧ j / 32 = i / 32 := fun i j => by
  have hi := i.isLt
  have hj := j.isLt
  have he : IntOp.cmpi .eq (fdiv 32#32 (iota .tc S256x256 32 [1] iota_S256x256_d1_w32) (ix2 i j)) (fdiv 32#32 (iota .tc S256x256 32 [0] iota_S256x256_d0_w32) (ix2 i j)) = 1#1
      ↔ j.val / 32 = i.val / 32 := by
    rw [fdiv_at, fdiv_at, iota1, iota0, fdiv32, fdiv32]
    exact cmp_eq (by omega) (by omega)
  cases rev
  · refine (and_one _ _).trans (and_congr ?_ he)
    show IntOp.cmpi .sle (iota .tc S256x256 32 [1] iota_S256x256_d1_w32 (ix2 i j)) (iota .tc S256x256 32 [0] iota_S256x256_d0_w32 (ix2 i j)) = 1#1 ↔ _
    rw [iota1, iota0]
    exact cmp_sle (by omega) (by omega)
  · refine (and_one _ _).trans (and_congr ?_ he)
    show IntOp.cmpi .sge (iota .tc S256x256 32 [1] iota_S256x256_d1_w32 (ix2 i j)) (iota .tc S256x256 32 [0] iota_S256x256_d0_w32 (ix2 i j)) = 1#1 ↔ _
    rw [iota1, iota0, cmp_sge (by omega) (by omega)]
    simp only [lg, cond_true]
    omega

theorem foldMask_is : IsM foldMask fun i j => i / 128 = j / 32 := fun i j => by
  have hi := i.isLt
  have hj := j.isLt
  show IntOp.cmpi .eq (fdiv 128#32 (iota .tc S256x128 32 [0] iota_S256x128_d0_w32) (ix2 i j)) (fdiv 32#32 (iota .tc S256x128 32 [1] iota_S256x128_d1_w32) (ix2 i j)) = 1#1 ↔ _
  rw [fdiv_at, fdiv_at, iota1, iota0, fdiv128, fdiv32 ⟨j.val, by omega⟩]
  exact cmp_eq (by omega) (by omega)

theorem cols_is (a b : ℕ) (ha : a < 2 ^ 31) (hb : b < 2 ^ 31) : IsM (cols (BitVec.ofNat 32 a) (BitVec.ofNat 32 b)) fun _ j => a ≤ j ∧ j < b := fun i j => by
  have hj := j.isLt
  refine (and_one _ _).trans ?_
  show IntOp.cmpi .sge (iota .tc S8x128 32 [1] iota_S8x128_d1_w32 (ix2 i j)) (BitVec.ofNat 32 a) = 1#1
    ∧ IntOp.cmpi .slt (iota .tc S8x128 32 [1] iota_S8x128_d1_w32 (ix2 i j)) (BitVec.ofNat 32 b) = 1#1 ↔ _
  rw [iota1]
  exact and_congr (cmp_sge (by omega) ha) (cmp_slt (by omega) hb)

theorem offc_is (rev : Bool) (q : ℕ) (hq : q < 3) : IsM (offc rev q) fun _ j => j < 32 ∧ lg 32 rev j / 8 = q := by
  have key : ∀ a b : ℕ, a < 2 ^ 31 → b < 2 ^ 31 → (∀ j, a ≤ j ∧ j < b ↔ j < 32 ∧ lg 32 rev j / 8 = q) →
      IsM (cols (BitVec.ofNat 32 a) (BitVec.ofNat 32 b)) fun _ j => j < 32 ∧ lg 32 rev j / 8 = q :=
    fun a b ha hb h i j => (cols_is a b ha hb i j).trans (h _)
  cases rev <;> interval_cases q
  · exact key 0 8 (by norm_num) (by norm_num) fun j => by simp only [lg, cond_false]; omega
  · exact key 8 16 (by norm_num) (by norm_num) fun j => by simp only [lg, cond_false]; omega
  · exact key 16 24 (by norm_num) (by norm_num) fun j => by simp only [lg, cond_false]; omega
  · exact key 24 32 (by norm_num) (by norm_num) fun j => by simp only [lg, cond_true]; omega
  · exact key 16 24 (by norm_num) (by norm_num) fun j => by simp only [lg, cond_true]; omega
  · exact key 8 16 (by norm_num) (by norm_num) fun j => by simp only [lg, cond_true]; omega

def hitS (rev : Bool) (d d' t c : BitVec 32) : BitVec 1 :=
  IntOp.andi (IntOp.andi (IntOp.cmpi .eq (fdivS 8#32 (IntOp.andi c 31#32)) (fdivS 8#32 t)) (IntOp.cmpi .slt c 64#32))
    (IntOp.cmpi .eq (IntOp.andi c 31#32) (cond rev (IntOp.addi t (Scalar.select (IntOp.cmpi .slt c 32#32) d d'))
      (IntOp.subi t (Scalar.select (IntOp.cmpi .slt c 32#32) d d'))))

theorem hit_at (rev : Bool) (d d' : BitVec 32) (i : Fin 32) (j : Fin 128) :
    hit rev d d' (ix2 i j) = hitS rev d d' (BitVec.ofNat 32 i.val) (BitVec.ofNat 32 j.val) := by
  have h1 : lane (ix2 i j) = BitVec.ofNat 32 j.val := iota1 _ i j
  have h0 : trow (ix2 i j) = BitVec.ofNat 32 i.val := iota0 _ i j
  rw [← h1, ← h0]
  cases rev <;> rfl

theorem hitS_is : ∀ (rev : Bool) (n : Fin 4) (t : Fin 32) (c : Fin 128),
    hitS rev (BitVec.ofNat 32 (2 * n.val)) (BitVec.ofNat 32 (2 * n.val + 1)) (BitVec.ofNat 32 t.val) (BitVec.ofNat 32 c.val) = 1#1
      ↔ c.val < 64 ∧ lg 32 rev (c.val % 32) / 8 = lg 32 rev t.val / 8 ∧ lg 32 rev t.val = lg 32 rev (c.val % 32) + 2 * n.val + c.val / 32 := by
  decide +kernel

theorem hit_is (rev : Bool) (n : Fin 4) :
    IsM (hit rev (BitVec.ofNat 32 (2 * n.val)) (BitVec.ofNat 32 (2 * n.val + 1)))
      fun t c => c < 64 ∧ lg 32 rev (c % 32) / 8 = lg 32 rev t / 8 ∧ lg 32 rev t = lg 32 rev (c % 32) + 2 * n.val + c / 32 :=
  fun i j => by rw [hit_at]; exact hitS_is rev n i j

end Cert.Kernel8Ideal.Scan

end
-- ==== Proof.Hgrn.Head1.lean ====
/- The values of a head's gates, sub-blocks and products, as real functions of the place in the order of time. -/
module

public import proofs.«01_k».proof.Proof.Hgrn.Masks

@[expose] public section

set_option maxRecDepth 16384

noncomputable section

namespace Cert.Kernel8Ideal.Scan

open Idealize.ShloMosaic Facts₀

/-! ## Places -/

theorem sum_lg (n : ℕ) (rev : Bool) (g : ℕ → ℝ) : ∑ r ∈ Finset.range n, g (lg n rev r) = ∑ r ∈ Finset.range n, g r := by
  cases rev
  · rfl
  · exact Finset.sum_range_reflect g n

/-- The time of row `r` of sub-block `p` of chunk `c`. -/
def tm (N : ℕ) (rev : Bool) (c p r : ℕ) : ℕ := N + (32 * lg 8 rev c + 8 * p + lg 8 rev r)
/-- The time of row `t` of chunk `c`. -/
def ct (N : ℕ) (rev : Bool) (c t : ℕ) : ℕ := N + (32 * lg 8 rev c + lg 32 rev t)

theorem t8 {N : ℕ} {rev : Bool} {c p r : ℕ} (hc : c < 8) (hp : p < 4) (hr : r < 8) : N + lg 256 rev (8 * ((4 * c + pos rev p) % 32) + r) = tm N rev c p r := by
  cases rev <;> simp only [tm, lg, pos, cond_true, cond_false] <;> omega
theorem ten {N : ℕ} {rev : Bool} {c p : ℕ} (hc : c < 8) (hp : p < 4) :
    N + lg 256 rev ((32 * c + 8 * pos rev p + cond rev 0 7) % 256) = N + (32 * lg 8 rev c + 8 * p + 7) := by
  cases rev <;> simp only [lg, pos, cond_true, cond_false] <;> omega
theorem tcat {N : ℕ} {rev : Bool} {r : ℕ} (hr : r < 256) : tm N rev (r / 32) (pos rev (r % 32 / 8)) (r % 8) = N + lg 256 rev r := by
  cases rev <;> simp only [tm, lg, pos, cond_true, cond_false] <;> omega
theorem t32 {N : ℕ} {rev : Bool} {c r : ℕ} (hc : c < 8) (hr : r < 32) : N + lg 256 rev (32 * (c % 8) + r) = ct N rev c r := by
  cases rev <;> simp only [ct, lg, cond_true, cond_false] <;> omega
theorem lg8_lt {rev : Bool} {r : ℕ} (h : r < 8) : lg 8 rev r < 8 := by cases rev <;> simp only [lg, cond_true, cond_false] <;> omega
theorem lg32_lt {rev : Bool} {r : ℕ} (h : r < 32) : lg 32 rev r < 32 := by cases rev <;> simp only [lg, cond_true, cond_false] <;> omega
theorem lg256_lt {rev : Bool} {r : ℕ} (h : r < 256) : lg 256 rev r < 256 := by cases rev <;> simp only [lg, cond_true, cond_false] <;> omega
theorem pos_lt {rev : Bool} {r : ℕ} (h : r < 4) : pos rev r < 4 := by cases rev <;> simp only [pos, cond_true, cond_false] <;> omega

/-! ## Logarithms of the gates, summed -/

/-- The sum of the logarithms before time `n`. -/
def G (F : ℕ → ℕ → ℝ) (n k : ℕ) : ℝ := ∑ i ∈ Finset.range n, Real.log (F i k)
/-- The sum of a chunk's logarithms up to time `l`. -/
def Bm (F : ℕ → ℕ → ℝ) (l k : ℕ) : ℝ := G F (l + 1) k - G F (32 * (l / 32)) k
/-- A function of time, at the rows of the block that begins at `N`. -/
def Ph (N : ℕ) (rev : Bool) (X : ℕ → ℕ → ℝ) : ℕ → ℕ → ℝ := fun r k => X (N + lg 256 rev r) k

theorem G_Ico (F : ℕ → ℕ → ℝ) (N k a b : ℕ) (h : a ≤ b) : ∑ x ∈ Finset.Ico a b, Real.log (F (N + x) k) = G F (N + b) k - G F (N + a) k := by
  induction b, h using Nat.le_induction with
  | base => simp
  | succ b h ih =>
    rw [Finset.sum_Ico_succ_top h, ih]
    show _ = G F (N + b + 1) k - _
    unfold G
    rw [Finset.sum_range_succ]
    ring

theorem triSum (rev : Bool) (i : ℕ) (hi : i < 256) (g : ℕ → ℝ) :
    ∑ s ∈ Finset.range 256, (if lg 256 rev s ≤ lg 256 rev i ∧ s / 32 = i / 32 then (1 : ℝ) else 0) * g (lg 256 rev s)
      = ∑ x ∈ Finset.Ico (32 * (lg 256 rev i / 32)) (lg 256 rev i + 1), g x := by
  have ht := lg256_lt (rev := rev) hi
  have h1 : ∀ s ∈ Finset.range 256, (if lg 256 rev s ≤ lg 256 rev i ∧ s / 32 = i / 32 then (1 : ℝ) else 0) * g (lg 256 rev s)
      = (fun x => if x ≤ lg 256 rev i ∧ x / 32 = lg 256 rev i / 32 then g x else 0) (lg 256 rev s) := fun s hs => by
    have hs' := Finset.mem_range.1 hs
    have he : s / 32 = i / 32 ↔ lg 256 rev s / 32 = lg 256 rev i / 32 := by
      cases rev <;> simp only [lg, cond_true, cond_false] <;> omega
    simp only [he, ite_mul, one_mul, zero_mul]
  rw [Finset.sum_congr rfl h1, sum_lg 256 rev (fun x => if x ≤ lg 256 rev i ∧ x / 32 = lg 256 rev i / 32 then g x else 0), ← Finset.sum_filter]
  refine Finset.sum_congr (Finset.ext fun x => ?_) fun _ _ => rfl
  simp only [Finset.mem_filter, Finset.mem_range, Finset.mem_Ico]
  omega

theorem tri_is (rev : Bool) : Is (tri (F := Ideal) rev) fun i j => if lg 256 rev j ≤ lg 256 rev i ∧ j / 32 = i / 32 then 1 else 0 :=
  (Is.trunc bitsLt_bf16_f32 (Is.sel (φ := .f32) (triMask_is rev) (Is.const one32_eq) (Is.const zero32_eq))).congr fun i j _ _ => by
    (try dsimp only); split_ifs <;> rfl

theorem sliceL {x : S256x256.Idx → EReal} {X : ℕ → ℕ → ℝ} (hx : Is x X) (h) : Is (extractStridedSlice S256x128 ![0, 0] x h) fun i j => X i j := fun i j =>
  (extractStridedSlice_apply _ x h (ix2 i j) (ix2 i ⟨j.val, by omega⟩) fun a => match a with
    | ⟨0, _⟩ => (Nat.zero_add _).symm
    | ⟨1, _⟩ => (Nat.zero_add _).symm).trans (hx _ _)
theorem sliceR {x : S256x256.Idx → EReal} {X : ℕ → ℕ → ℝ} (hx : Is x X) (h) : Is (extractStridedSlice S256x128 ![0, 128] x h) fun i j => X i (128 + j) := fun i j =>
  (extractStridedSlice_apply _ x h (ix2 i j) (ix2 i ⟨128 + j.val, by omega⟩) fun a => match a with
    | ⟨0, _⟩ => (Nat.zero_add _).symm
    | ⟨1, _⟩ => rfl).trans (hx _ _)

section
variable {rev : Bool} {N : ℕ} {Q F V : ℕ → ℕ → ℝ} {q f k v b : FVec Ideal S256x128 .f32}

theorem ghi_is (hF : ∀ l k, 0 < F l k) (hf : Is f (Ph N rev F)) : Is (ghi f) (Ph N rev fun l k => Real.log (F l k)) :=
  Is.trunc bitsLt_bf16_f32 (hf.log fun _ _ _ _ => hF _ _)
theorem glo_is (hF : ∀ l k, 0 < F l k) (hf : Is f (Ph N rev F)) : Is (glo f) fun _ _ => 0 :=
  (Is.trunc bitsLt_bf16_f32 (Is.sub (hf.log fun _ _ _ _ => hF _ _) (Is.ext bitsLt_bf16_f32 (ghi_is hF hf)))).congr fun _ _ _ _ => sub_self _

theorem gb_is (hN : N % 256 = 0) (hF : ∀ l k, 0 < F l k) (hf : Is f (Ph N rev F)) : Is (gb rev f) (Ph N rev (Bm F)) := by
  have hm := Is.dotTri (tri_is rev) (Is.pairCols (ghi_is hF hf) (glo_is hF hf) concatenates_S256x128_S256x128_S256x256_d1)
  refine (Is.add (sliceL hm slices_S256x256_o0_0_S256x128) (sliceR hm slices_S256x256_o0_128_S256x128)).congr fun i j hi hj => ?_
  try dsimp only
  have h2 : ∑ s ∈ Finset.range 256, (if lg 256 rev s ≤ lg 256 rev i ∧ s / 32 = i / 32 then (1 : ℝ) else 0)
      * (if 128 + j < 128 then Ph N rev (fun l k => Real.log (F l k)) s (128 + j) else 0) = 0 :=
    Finset.sum_eq_zero fun s _ => by rw [if_neg (by omega : ¬ 128 + j < 128), mul_zero]
  rw [h2, add_zero]
  have h1 := triSum rev i hi (fun x => Real.log (F (N + x) j))
  rw [G_Ico F N j _ _ (by omega)] at h1
  simp only [if_pos hj, Ph]
  rw [h1]
  have ht := lg256_lt (rev := rev) hi
  unfold Bm
  rw [show N + 32 * (lg 256 rev i / 32) = 32 * ((N + lg 256 rev i) / 32) by omega, Nat.add_assoc]

theorem at8_is {x : FVec Ideal S256x128 .f32} {X : ℕ → ℕ → ℝ} (hx : Is x (Ph N rev X)) {c p : ℕ} (hc : c < 8) (hp : p < 4) :
    Is (at8 rev x c p) fun r k => X (tm N rev c p r) k :=
  (hx.sub8 _).congr fun i j hi _ => by show X _ _ = _; rw [t8 hc hp hi]
theorem en_is (hb : Is b (Ph N rev (Bm F))) {c p : ℕ} (hc : c < 8) (hp : p < 4) :
    Is (en rev b c p) fun _ k => Bm F (N + (32 * lg 8 rev c + 8 * p + 7)) k :=
  (hb.row1 _).congr fun i j _ _ => by show Bm F _ _ = _; rw [ten hc hp]

/-- What is taken off before the exponential in sub-block `p`: the end of the sub-block before. -/
def eb (F : ℕ → ℕ → ℝ) (N : ℕ) (rev : Bool) (c p k : ℕ) : ℝ := if p = 0 then 0 else Bm F (N + (32 * lg 8 rev c + 8 * (p - 1) + 7)) k

theorem qhat_is (hq : Is q (Ph N rev Q)) (hb : Is b (Ph N rev (Bm F))) {c p : ℕ} (hc : c < 8) (hp : p < 4) :
    Is (qhat rev q b c p) fun r k => Q (tm N rev c p r) k * Real.exp (Bm F (tm N rev c p r) k - eb F N rev c p k) := by
  cases p with
  | zero => exact ((at8_is hq hc hp).mul (at8_is hb hc hp).exp).congr fun r k _ _ => by simp [eb]
  | succ p =>
    exact ((at8_is hq hc hp).mul ((at8_is hb hc hp).sub ((en_is hb hc (by omega)).rows broadcasts_S1x128_S8x128)).exp).congr
      fun r k _ _ => by simp [eb]
theorem khat_is (hk : Is k (Ph N rev fun l k => 1 - F l k)) (hb : Is b (Ph N rev (Bm F))) {c p : ℕ} (hc : c < 8) (hp : p < 4) :
    Is (khat rev k b c p) fun r i => (1 - F (tm N rev c p r) i) * Real.exp (Bm F (N + (32 * lg 8 rev c + 8 * p + 7)) i - Bm F (tm N rev c p r) i) :=
  (at8_is hk hc hp).mul (((en_is hb hc hp).rows broadcasts_S1x128_S8x128).sub (at8_is hb hc hp)).exp

theorem scl_is {x : FVec Ideal S8x128 .f32} {e : FVec Ideal S1x128 .f32} {X E : ℕ → ℕ → ℝ} (hx : Is x X) (he : Is e E) :
    Is (scl x e) fun r k => X r k * Real.exp (E 0 k) := hx.mul (he.exp.rows broadcasts_S1x128_S8x128)

theorem qbar_is (hq : Is q (Ph N rev Q)) (hb : Is b (Ph N rev (Bm F))) {c p : ℕ} (hc : c < 8) (hp : p < 4) :
    Is (qbar rev q b c p) fun r k => Q (tm N rev c p r) k * Real.exp (Bm F (tm N rev c p r) k) := by
  cases p with
  | zero => exact (qhat_is hq hb hc hp).congr fun r k _ _ => by simp [eb]
  | succ p =>
    exact (scl_is (qhat_is hq hb hc hp) (en_is hb hc (by omega))).congr fun r k _ _ => by
      simp only [eb, if_neg (Nat.succ_ne_zero p), Nat.add_sub_cancel]
      rw [mul_assoc, ← Real.exp_add, sub_add_cancel]
theorem kbar_is (hk : Is k (Ph N rev fun l k => 1 - F l k)) (hb : Is b (Ph N rev (Bm F))) {c p : ℕ} (hc : c < 8) (hp : p < 4) :
    Is (kbar rev k b c (3 - p)) fun r i => (1 - F (tm N rev c p r) i) * Real.exp (Bm F (N + (32 * lg 8 rev c + 31)) i - Bm F (tm N rev c p r) i) := by
  have hs : ∀ r', r' < 3 → Is (kbar rev k b c (r' + 1)) fun r i => (1 - F (tm N rev c (2 - r') r) i) * Real.exp (Bm F (N + (32 * lg 8 rev c + 31)) i - Bm F (tm N rev c (2 - r') r) i) :=
    fun r' hr' => (scl_is (khat_is hk hb hc (by omega)) ((en_is hb hc (by omega)).sub (en_is hb hc (by omega)))).congr fun r i _ _ => by
      try dsimp only
      rw [mul_assoc, ← Real.exp_add]
      congr 2
      ring
  interval_cases p
  · exact hs 2 (by omega)
  · exact hs 1 (by omega)
  · exact hs 0 (by omega)
  · exact khat_is hk hb hc hp

/-- The sub-block of the query and of the key in the `n`-th product of sub-blocks. -/
def ps (n : ℕ) : ℕ := if n = 0 then 1 else if n < 3 then 2 else 3
def pp (n : ℕ) : ℕ := if n = 2 ∨ n = 4 then 1 else if n = 5 then 2 else 0

theorem lhsOff_is (hq : Is q (Ph N rev Q)) (hb : Is b (Ph N rev (Bm F))) {c n : ℕ} (hc : c < 8) (hn : n < 6) :
    Is (lhsOff rev q b c n) fun r k => Q (tm N rev c (ps n) r) k
      * Real.exp (Bm F (tm N rev c (ps n) r) k - Bm F (N + (32 * lg 8 rev c + 8 * pp n + 7)) k) := by
  have h1 : ∀ p, p < 3 → Is (qhat rev q b c (p + 1)) fun r k => Q (tm N rev c (p + 1) r) k
      * Real.exp (Bm F (tm N rev c (p + 1) r) k - Bm F (N + (32 * lg 8 rev c + 8 * p + 7)) k) := fun p hp =>
    (qhat_is hq hb hc (by omega)).congr fun r k _ _ => by simp only [eb, if_neg (Nat.succ_ne_zero p), Nat.add_sub_cancel]
  have h2 : ∀ p p', p < 3 → p' < 3 → Is (scl (qhat rev q b c (p + 1)) (subf (en rev b c p) (en rev b c p'))) fun r k => Q (tm N rev c (p + 1) r) k
      * Real.exp (Bm F (tm N rev c (p + 1) r) k - Bm F (N + (32 * lg 8 rev c + 8 * p' + 7)) k) := fun p p' hp hp' =>
    (scl_is (h1 p hp) ((en_is hb hc (by omega)).sub (en_is hb hc (by omega)))).congr fun r k _ _ => by
      try dsimp only
      rw [mul_assoc, ← Real.exp_add]
      congr 2
      ring
  interval_cases n
  · exact h1 0 (by omega)
  · exact h2 1 0 (by omega) (by omega)
  · exact h1 1 (by omega)
  · exact h2 2 0 (by omega) (by omega)
  · exact h2 2 1 (by omega) (by omega)
  · exact h1 2 (by omega)

theorem Qbar_is (hq : Is q (Ph N rev Q)) (hb : Is b (Ph N rev (Bm F))) : Is (Qbar rev q b) (Ph N rev fun l k => Q l k * Real.exp (Bm F l k)) :=
  (Is.trunc bitsLt_bf16_f32 (Is.cat32 fun c i hc hi => qbar_is hq hb hc (pos_lt (rev := rev) hi))).congr fun i j hi _ => by
    (try dsimp only); rw [tcat hi]; rfl
theorem Khat_is (hN : N % 256 = 0) (hk : Is k (Ph N rev fun l k => 1 - F l k)) (hb : Is b (Ph N rev (Bm F))) :
    Is (Khat rev k b) (Ph N rev fun l i => (1 - F l i) * Real.exp (Bm F (8 * (l / 8) + 7) i - Bm F l i)) :=
  (Is.trunc bitsLt_bf16_f32 (Is.cat32 fun c i hc hi => khat_is hk hb hc (pos_lt (rev := rev) hi))).congr fun i j hi _ => by
    have h : N + (32 * lg 8 rev (i / 32) + 8 * pos rev (i % 32 / 8) + 7) = 8 * ((N + lg 256 rev i) / 8) + 7 := by
      cases rev <;> simp only [lg, pos, cond_true, cond_false] <;> omega
    (try dsimp only); rw [tcat hi, h]; rfl
theorem Kbar_is (hN : N % 256 = 0) (hk : Is k (Ph N rev fun l k => 1 - F l k)) (hb : Is b (Ph N rev (Bm F))) :
    Is (Kbar rev k b) (Ph N rev fun l i => (1 - F l i) * Real.exp (Bm F (32 * (l / 32) + 31) i - Bm F l i)) :=
  (Is.trunc bitsLt_bf16_f32 (Is.cat32 fun c i hc hi => kbar_is hk hb hc (pos_lt (rev := rev) hi))).congr fun i j hi _ => by
    have h : N + (32 * lg 8 rev (i / 32) + 31) = 32 * ((N + lg 256 rev i) / 32) + 31 := by
      cases rev <;> simp only [lg, cond_true, cond_false] <;> omega
    (try dsimp only); rw [tcat hi, h]; rfl
theorem Loff_is (hq : Is q (Ph N rev Q)) (hb : Is b (Ph N rev (Bm F))) :
    Is (Loff rev q b) fun r k => Q (tm N rev (r / 48) (ps (r % 48 / 8)) (r % 8)) k
      * Real.exp (Bm F (tm N rev (r / 48) (ps (r % 48 / 8)) (r % 8)) k - Bm F (N + (32 * lg 8 rev (r / 48) + 8 * pp (r % 48 / 8) + 7)) k) :=
  Is.trunc bitsLt_bf16_f32 (Is.cat48 fun c n hc hn => lhsOff_is hq hb hc hn)

/-- The weight of the key at time `l'` for the query at time `l` of the same chunk. -/
def W (Q F : ℕ → ℕ → ℝ) (l l' : ℕ) : ℝ := ∑ k ∈ Finset.range 128, Q l k * ((1 - F l' k) * Real.exp (Bm F l k - Bm F l' k))

theorem roff_is (hN : N % 256 = 0) (hq : Is q (Ph N rev Q)) (hk : Is k (Ph N rev fun l k => 1 - F l k)) (hb : Is b (Ph N rev (Bm F))) {c : ℕ} (hc : c < 8) :
    ∃ R : ℕ → ℕ → ℝ, Is (roff rev q k b c) R ∧ ∀ n r j, n < 6 → r < 8 → j < 32 → lg 32 rev j / 8 = pp n →
      R (8 * (n % 6) + r) j = W Q F (tm N rev c (ps n) r) (ct N rev c j) := by
  refine ⟨_, Is.dotOff ((Loff_is hq hb).sub48 c) (Is.pairRows (φ := .bf16) ((Khat_is hN hk hb).sub32 c) (Is.const zero16_eq) concatenates_S32x128_S96x128_S128x128_d0), ?_⟩
  intro n r j hn hr hj hp
  refine Finset.sum_congr rfl fun i _ => ?_
  try dsimp only
  rw [if_pos hj]
  have e1 : (48 * (c % 8) + (8 * (n % 6) + r)) / 48 = c := by omega
  have e2 : (48 * (c % 8) + (8 * (n % 6) + r)) % 48 / 8 = n := by omega
  have e3 : (48 * (c % 8) + (8 * (n % 6) + r)) % 8 = r := by omega
  rw [e1, e2, e3]
  show _ * ((1 - F (N + lg 256 rev (32 * (c % 8) + j)) i) * Real.exp (Bm F (8 * ((N + lg 256 rev (32 * (c % 8) + j)) / 8) + 7) i - Bm F (N + lg 256 rev (32 * (c % 8) + j)) i)) = _
  rw [t32 hc hj]
  have h : 8 * (ct N rev c j / 8) + 7 = N + (32 * lg 8 rev c + 8 * pp n + 7) := by
    have := lg32_lt (rev := rev) hj
    unfold ct
    omega
  rw [h, mul_mul_mul_comm, ← Real.exp_add, mul_assoc]
  congr 3
  ring

theorem arow_is (hN : N % 256 = 0) (hq : Is q (Ph N rev Q)) (hk : Is k (Ph N rev fun l k => 1 - F l k)) (hb : Is b (Ph N rev (Bm F))) {c p : ℕ} (hc : c < 8) (hp : p < 4) :
    Is (arow rev (roff rev q k b c) p) fun r j => if j < 32 ∧ lg 32 rev j / 8 < p then W Q F (tm N rev c p r) (ct N rev c j) else 0 := by
  obtain ⟨R, hR, hv⟩ := roff_is hN hq hk hb hc
  have hz : Is (zero8 (F := Ideal)) fun _ _ => 0 := Is.const zero32_eq
  interval_cases p
  · exact hz.congr fun r j _ _ => by rw [if_neg]; omega
  · refine (Is.sel (φ := .f32) (offc_is rev 0 (by omega)) (hR.subO 0) hz).congr fun r j hr _ => ?_
    try dsimp only
    by_cases h0 : j < 32 ∧ lg 32 rev j / 8 = 0
    · rw [if_pos h0, if_pos ⟨h0.1, by omega⟩]; exact hv 0 r j (by omega) hr h0.1 h0.2
    · rw [if_neg h0, if_neg (fun h => h0 ⟨h.1, by omega⟩)]
  · refine (Is.sel (φ := .f32) (offc_is rev 1 (by omega)) (hR.subO 2) (Is.sel (φ := .f32) (offc_is rev 0 (by omega)) (hR.subO 1) hz)).congr fun r j hr _ => ?_
    try dsimp only
    by_cases h1 : j < 32 ∧ lg 32 rev j / 8 = 1
    · rw [if_pos h1, if_pos ⟨h1.1, by omega⟩]; exact hv 2 r j (by omega) hr h1.1 h1.2
    · rw [if_neg h1]
      by_cases h0 : j < 32 ∧ lg 32 rev j / 8 = 0
      · rw [if_pos h0, if_pos ⟨h0.1, by omega⟩]; exact hv 1 r j (by omega) hr h0.1 h0.2
      · rw [if_neg h0, if_neg (fun h => by have := h.1; omega)]
  · refine (Is.sel (φ := .f32) (offc_is rev 2 (by omega)) (hR.subO 5) (Is.sel (φ := .f32) (offc_is rev 1 (by omega)) (hR.subO 4) (Is.sel (φ := .f32) (offc_is rev 0 (by omega)) (hR.subO 3) hz))).congr fun r j hr _ => ?_
    try dsimp only
    by_cases h2 : j < 32 ∧ lg 32 rev j / 8 = 2
    · rw [if_pos h2, if_pos ⟨h2.1, by omega⟩]; exact hv 5 r j (by omega) hr h2.1 h2.2
    · rw [if_neg h2]
      by_cases h1 : j < 32 ∧ lg 32 rev j / 8 = 1
      · rw [if_pos h1, if_pos ⟨h1.1, by omega⟩]; exact hv 4 r j (by omega) hr h1.1 h1.2
      · rw [if_neg h1]
        by_cases h0 : j < 32 ∧ lg 32 rev j / 8 = 0
        · rw [if_pos h0, if_pos ⟨h0.1, by omega⟩]; exact hv 3 r j (by omega) hr h0.1 h0.2
        · rw [if_neg h0, if_neg (fun h => by have := h.1; omega)]

theorem acat_is (hN : N % 256 = 0) (hq : Is q (Ph N rev Q)) (hk : Is k (Ph N rev fun l k => 1 - F l k)) (hb : Is b (Ph N rev (Bm F))) {c : ℕ} (hc : c < 8) :
    Is (acat rev (roff rev q k b c)) fun t j => if j < 32 ∧ lg 32 rev j / 8 < lg 32 rev t / 8 then W Q F (ct N rev c t) (ct N rev c j) else 0 :=
  (Is.cat (N := 4) (K := 8) (M := 32) (fun n => arow rev (roff rev q k b c) (pos rev n.val))
    (fun n r j => if j < 32 ∧ lg 32 rev j / 8 < pos rev n then W Q F (tm N rev c (pos rev n) r) (ct N rev c j) else 0) rfl concatenates_S8x128_S8x128_S8x128_S8x128_S32x128_d0
    (fun n => arow_is hN hq hk hb hc (pos_lt (rev := rev) n.isLt))).congr fun t j ht _ => by
      have h1 : pos rev (t / 8) = lg 32 rev t / 8 := by cases rev <;> simp only [lg, pos, cond_true, cond_false] <;> omega
      have h2 : tm N rev c (pos rev (t / 8)) (t % 8) = ct N rev c t := by
        cases rev <;> simp only [tm, ct, lg, pos, cond_true, cond_false] <;> omega
      try dsimp only
      rw [h2, h1]

end

end Cert.Kernel8Ideal.Scan

end
-- ==== Proof.Hgrn.Head2.lean ====
/- The diagonals of a sub-block, a chunk's own part, and the walk from chunk to chunk. -/
module

public import proofs.«01_k».proof.Proof.Hgrn.Head1

@[expose] public section

set_option maxRecDepth 16384

noncomputable section

namespace Cert.Kernel8Ideal.Scan

open Idealize.ShloMosaic Facts₀

section
variable {rev : Bool} {N : ℕ} {Q F V : ℕ → ℕ → ℝ} {q f k v b : FVec Ideal S256x128 .f32}

theorem Bm_succ (hF : ∀ l k, 0 < F l k) (l i : ℕ) (h : (l + 1) / 32 = l / 32) : Real.exp (Bm F (l + 1) i) = F (l + 1) i * Real.exp (Bm F l i) := by
  have : Bm F (l + 1) i = Real.log (F (l + 1) i) + Bm F l i := by
    unfold Bm
    rw [h]
    unfold G
    rw [Finset.sum_range_succ (n := l + 1)]
    ring
  rw [this, Real.exp_add, Real.exp_log (hF _ _)]

theorem kd_is (hN : N % 256 = 0) (hF : ∀ l k, 0 < F l k) (hf : Is f (Ph N rev F)) (hk : Is k (Ph N rev fun l k => 1 - F l k)) (d : ℕ) :
    ∃ X : ℕ → ℕ → ℝ, Is (kd rev f k d) X ∧ ∀ r i, r < 256 → d ≤ lg 8 rev (r % 8) →
      X r i = (1 - F (N + lg 256 rev r - d) i) * Real.exp (Bm F (N + lg 256 rev r) i - Bm F (N + lg 256 rev r - d) i) := by
  induction d with
  | zero => exact ⟨_, hk, fun r i _ _ => by simp [Ph]⟩
  | succ d ih =>
    obtain ⟨X, hX, hv⟩ := ih
    refine ⟨_, hf.mul (hX.prev rev), fun r i hr hd => ?_⟩
    try dsimp only
    have hp : ∃ l, N + lg 256 rev r = l + 1 ∧ N + lg 256 rev (8 * (r / 8) + (r % 8 + cond rev 1 7) % 8) = l ∧ (l + 1) / 32 = l / 32
        ∧ d ≤ lg 8 rev ((8 * (r / 8) + (r % 8 + cond rev 1 7) % 8) % 8) := by
      refine ⟨N + lg 256 rev r - 1, ?_, ?_, ?_, ?_⟩ <;> revert hd <;> cases rev <;> simp only [lg, cond_true, cond_false] <;> omega
    obtain ⟨l, e1, e2, e3, e4⟩ := hp
    rw [hv _ i (by omega) e4]
    show F (N + lg 256 rev r) i * _ = _
    rw [e1, e2, Nat.add_sub_add_right, Real.exp_sub, Real.exp_sub, Bm_succ hF l i e3]
    ring

theorem fold_is : Is (fold (F := Ideal)) fun i j => if i / 128 = j / 32 then 1 else 0 :=
  (Is.trunc bitsLt_bf16_f32 (Is.sel (φ := .f32) foldMask_is (Is.const one32_eq) (Is.const zero32_eq))).congr fun i j _ _ => by
    (try dsimp only); split_ifs <;> rfl

theorem sum_two_halves (g : ℕ → ℝ) : ∑ x ∈ Finset.range 256, g x = ∑ x ∈ Finset.range 128, g x + ∑ x ∈ Finset.range 128, g (128 + x) :=
  Finset.sum_range_add g 128 128

theorem rdiag_is (hN : N % 256 = 0) (hF : ∀ l k, 0 < F l k) (hq : Is q (Ph N rev Q)) (hf : Is f (Ph N rev F)) (hk : Is k (Ph N rev fun l k => 1 - F l k)) :
    ∃ R : ℕ → ℕ → ℝ, Is (rdiag rev q f k) R ∧ ∀ n r c, n < 4 → r < 256 → c < 64 → 2 * n + c / 32 ≤ lg 8 rev (r % 8) →
      R (256 * n + r) c = W Q F (N + lg 256 rev r) (N + lg 256 rev r - (2 * n + c / 32)) := by
  choose X hX hv using fun d => kd_is hN hF hf hk d
  have ht : ∀ d, Is (term rev q f k d) fun r i => Q (N + lg 256 rev r) i * X d r i := fun d => Is.trunc bitsLt_bf16_f32 (hq.mul (hX d))
  have hz : Is (zcat rev q f k) _ := Is.cat (N := 4) (K := 256) (M := 1024) (W := 256) (fun n => zpair rev q f k (2 * n.val)) (fun n r j =>
      if j < 128 then Q (N + lg 256 rev r) j * X (2 * n) r j else Q (N + lg 256 rev r) (j - 128) * X (2 * n + 1) r (j - 128)) rfl
    concatenates_S256x256_S256x256_S256x256_S256x256_S1024x256_d0 (fun n => Is.pairCols (ht (2 * n.val)) (ht (2 * n.val + 1)) concatenates_S256x128_S256x128_S256x256_d1)
  refine ⟨_, Is.dotFold hz fold_is, fun n r c hn hr hc hd => ?_⟩
  try dsimp only
  rw [sum_two_halves, show (256 * n + r) / 256 = n by omega, show (256 * n + r) % 256 = r by omega]
  have hw : ∀ d, d ≤ lg 8 rev (r % 8) → ∑ i ∈ Finset.range 128, Q (N + lg 256 rev r) i * X d r i = W Q F (N + lg 256 rev r) (N + lg 256 rev r - d) := fun d hd' =>
    Finset.sum_congr rfl fun i _ => by rw [hv d r i hr hd']
  have ha : ∀ i ∈ Finset.range 128, (if i < 128 then Q (N + lg 256 rev r) i * X (2 * n) r i else Q (N + lg 256 rev r) (i - 128) * X (2 * n + 1) r (i - 128))
      * (if i / 128 = c / 32 then (1 : ℝ) else 0) = if c / 32 = 0 then Q (N + lg 256 rev r) i * X (2 * n) r i else 0 := fun i hi => by
    have hi' := Finset.mem_range.1 hi
    rw [if_pos hi', show i / 128 = 0 by omega]
    by_cases h : c / 32 = 0
    · rw [if_pos h.symm, if_pos h, mul_one]
    · rw [if_neg (fun e => h e.symm), if_neg h, mul_zero]
  have hb : ∀ i ∈ Finset.range 128, (if 128 + i < 128 then Q (N + lg 256 rev r) (128 + i) * X (2 * n) r (128 + i) else Q (N + lg 256 rev r) (128 + i - 128) * X (2 * n + 1) r (128 + i - 128))
      * (if (128 + i) / 128 = c / 32 then (1 : ℝ) else 0) = if c / 32 = 0 then 0 else Q (N + lg 256 rev r) i * X (2 * n + 1) r i := fun i hi => by
    have hi' := Finset.mem_range.1 hi
    rw [if_neg (by omega), show (128 + i) / 128 = 1 by omega, Nat.add_sub_cancel_left]
    by_cases h : c / 32 = 0
    · rw [if_neg (by omega), if_pos h, mul_zero]
    · rw [if_pos (by omega), if_neg h, mul_one]
  rw [Finset.sum_congr rfl ha, Finset.sum_congr rfl hb]
  by_cases h : c / 32 = 0
  · simp only [if_pos h, Finset.sum_const_zero, add_zero]
    rw [hw (2 * n) (by omega), h, Nat.add_zero]
  · simp only [if_neg h, Finset.sum_const_zero, zero_add]
    rw [hw (2 * n + 1) (by omega), show c / 32 = 1 by omega]

theorem eight (C : Prop) [Decidable C] (s t : ℕ) (w : ℝ) (h : C → t < s + 8) :
    (if C ∧ t = s + 0 then w else 0) + (if C ∧ t = s + 1 then w else 0) + (if C ∧ t = s + 2 then w else 0) + (if C ∧ t = s + 3 then w else 0)
      + (if C ∧ t = s + 4 then w else 0) + (if C ∧ t = s + 5 then w else 0) + (if C ∧ t = s + 6 then w else 0) + (if C ∧ t = s + 7 then w else 0)
      = if C ∧ s ≤ t then w else 0 := by
  have e : ∑ d ∈ Finset.range 8, (if C ∧ t = s + d then w else 0) = if C ∧ s ≤ t then w else 0 := by
    by_cases hC : C
    · have := h hC
      by_cases hs : s ≤ t
      · rw [if_pos ⟨hC, hs⟩, Finset.sum_eq_single (t - s)]
        · rw [if_pos ⟨hC, by omega⟩]
        · intro d _ hd; rw [if_neg]; rintro ⟨-, h⟩; omega
        · intro hd; exact absurd (Finset.mem_range.2 (by omega)) hd
      · rw [if_neg (fun h => hs h.2)]
        exact Finset.sum_eq_zero fun d _ => if_neg fun h => hs (by omega)
    · rw [if_neg (fun h => hC h.1)]
      exact Finset.sum_eq_zero fun d _ => if_neg fun h => hC h.1
  rw [← e]
  simp only [Finset.sum_range_succ, Finset.sum_range_zero, zero_add]

/-- The chunk's matrix of weights: at a key of the chunk, what the two halves of the lanes hold add up to. -/
theorem amat_is (hN : N % 256 = 0) (hF : ∀ l k, 0 < F l k) (hq : Is q (Ph N rev Q)) (hf : Is f (Ph N rev F)) (hk : Is k (Ph N rev fun l k => 1 - F l k))
    (hb : Is b (Ph N rev (Bm F))) {c : ℕ} (hc : c < 8) :
    ∃ A : ℕ → ℕ → ℝ, Is (amat rev q f k b c) A ∧ ∀ t j, t < 32 → j < 32 →
      A t j + A t (32 + j) = if lg 32 rev j ≤ lg 32 rev t then W Q F (ct N rev c t) (ct N rev c j) else 0 := by
  obtain ⟨R, hR, hv⟩ := rdiag_is hN hF hq hf hk
  have hz : Is (broadcast S32x128 (zero32 (F := Ideal))) fun _ _ => 0 := Is.const zero32_eq
  have hd : ∀ n : Fin 4, Is (select (hit rev (BitVec.ofNat 32 (2 * n.val)) (BitVec.ofNat 32 (2 * n.val + 1))) (subD (rdiag rev q f k) n.val c) (broadcast S32x128 (zero32 (F := Ideal))))
      fun t j => if (j < 64 ∧ lg 32 rev (j % 32) / 8 = lg 32 rev t / 8) ∧ lg 32 rev t = lg 32 rev (j % 32) + (2 * n.val + j / 32)
        then W Q F (ct N rev c t) (ct N rev c (j % 32)) else 0 := fun n =>
    (Is.sel (φ := .f32) (hit_is rev n) (hR.subD n.val c) hz).congr fun t j ht hj => by
      try dsimp only
      by_cases h : j < 64 ∧ lg 32 rev (j % 32) / 8 = lg 32 rev t / 8 ∧ lg 32 rev t = lg 32 rev (j % 32) + 2 * n.val + j / 32
      · rw [if_pos h, if_pos ⟨⟨h.1, h.2.1⟩, by omega⟩]
        have hn := n.isLt
        have h8 : lg 8 rev ((32 * (c % 8) + t) % 8) = lg 32 rev t % 8 := by cases rev <;> simp only [lg, cond_true, cond_false] <;> omega
        have := hv n.val (32 * (c % 8) + t) j hn (by omega) h.1 (by rw [h8]; omega)
        rw [t32 hc ht] at this
        rw [show 256 * (n.val % 4) + 32 * (c % 8) + t = 256 * n.val + (32 * (c % 8) + t) by omega, this]
        congr 1
        unfold ct
        omega
      · rw [if_neg h, if_neg (fun h' => h ⟨h'.1.1, h'.1.2, by omega⟩)]
  refine ⟨_, ((((acat_is hN hq hk hb hc).add (hd 0)).add (hd 1)).add (hd 2)).add (hd 3), fun t j ht hj => ?_⟩
  try dsimp only
  have m1 : j % 32 = j := by omega
  have m2 : (32 + j) % 32 = j := by omega
  have d1 : j / 32 = 0 := by omega
  have d2 : (32 + j) / 32 = 1 := by omega
  have l1 : j < 64 := by omega
  have l2 : 32 + j < 64 := by omega
  rw [m1, m2, d1, d2, if_neg (by omega : ¬ (32 + j < 32 ∧ lg 32 rev (32 + j) / 8 < lg 32 rev t / 8))]
  simp only [true_and, hj, l1, l2]
  have e := eight (lg 32 rev j / 8 = lg 32 rev t / 8) (lg 32 rev j) (lg 32 rev t) (W Q F (ct N rev c t) (ct N rev c j)) (fun h => by omega)
  have hc' : (if lg 32 rev j ≤ lg 32 rev t then W Q F (ct N rev c t) (ct N rev c j) else 0)
      = (if lg 32 rev j / 8 < lg 32 rev t / 8 then W Q F (ct N rev c t) (ct N rev c j) else 0)
        + (if lg 32 rev j / 8 = lg 32 rev t / 8 ∧ lg 32 rev j ≤ lg 32 rev t then W Q F (ct N rev c t) (ct N rev c j) else 0) := by
    by_cases h1 : lg 32 rev j / 8 < lg 32 rev t / 8
    · rw [if_pos h1, if_pos (by omega), if_neg (by omega), add_zero]
    · rw [if_neg h1, zero_add]
      by_cases h2 : lg 32 rev j ≤ lg 32 rev t
      · rw [if_pos h2, if_pos ⟨by omega, h2⟩]
      · rw [if_neg h2, if_neg (fun h => h2 h.2)]
  rw [hc', ← e]
  show _ + _ + _ + _ + _ + (_ + _ + _ + _ + _) = _
  simp only [Fin.val_zero, Fin.val_one, Fin.val_two, Nat.mul_zero, Nat.zero_add, Nat.add_zero, Nat.mul_one, show ((3 : Fin 4).val) = 3 from rfl, show ((2 : Fin 4).val) = 2 from rfl,
    show ((1 : Fin 4).val) = 1 from rfl, show ((0 : Fin 4).val) = 0 from rfl, Nat.reduceMul, Nat.reduceAdd]
  ring

theorem vb_is (hv : Is v (Ph N rev V)) : Is (vb v) (Ph N rev V) := Is.trunc bitsLt_bf16_f32 hv

theorem ointra_is (hN : N % 256 = 0) (hF : ∀ l k, 0 < F l k) (hq : Is q (Ph N rev Q)) (hf : Is f (Ph N rev F)) (hk : Is k (Ph N rev fun l k => 1 - F l k))
    (hv : Is v (Ph N rev V)) (hb : Is b (Ph N rev (Bm F))) {c : ℕ} (hc : c < 8) :
    Is (ointra rev q f k v b c) fun t d => ∑ s ∈ Finset.range (lg 32 rev t + 1), W Q F (ct N rev c t) (N + (32 * lg 8 rev c + s)) * V (N + (32 * lg 8 rev c + s)) d := by
  obtain ⟨A, hA, ha⟩ := amat_is hN hF hq hf hk hb hc
  have hv' := (vb_is hv).sub32 c
  refine (Is.dotOut (Is.trunc bitsLt_bf16_f32 hA) (Is.threeRows (φ := .bf16) hv' hv' (Is.const zero16_eq) concatenates_S32x128_S32x128_S64x128_S128x128_d0)).congr fun t d ht hd => ?_
  try dsimp only
  rw [show (128 : ℕ) = 32 + (32 + 64) from rfl, Finset.sum_range_add, Finset.sum_range_add]
  have e3 : ∑ x ∈ Finset.range 64, A t (32 + (32 + x)) * (if 32 + (32 + x) < 32 then Ph N rev V (32 * (c % 8) + (32 + (32 + x))) d
      else if 32 + (32 + x) < 64 then Ph N rev V (32 * (c % 8) + (32 + (32 + x) - 32)) d else 0) = 0 :=
    Finset.sum_eq_zero fun x _ => by rw [if_neg (by omega), if_neg (by omega), mul_zero]
  rw [e3, add_zero, ← Finset.sum_add_distrib]
  have e1 : ∀ j ∈ Finset.range 32, (A t j * (if j < 32 then Ph N rev V (32 * (c % 8) + j) d else if j < 64 then Ph N rev V (32 * (c % 8) + (j - 32)) d else 0)
      + A t (32 + j) * (if 32 + j < 32 then Ph N rev V (32 * (c % 8) + (32 + j)) d else if 32 + j < 64 then Ph N rev V (32 * (c % 8) + (32 + j - 32)) d else 0))
      = (fun s => if s ≤ lg 32 rev t then W Q F (ct N rev c t) (N + (32 * lg 8 rev c + s)) * V (N + (32 * lg 8 rev c + s)) d else 0) (lg 32 rev j) := fun j hj => by
    have hj' := Finset.mem_range.1 hj
    have := ha t j ht hj'
    rw [if_pos hj', if_neg (by omega), if_pos (by omega), Nat.add_sub_cancel_left, ← add_mul, this]
    show _ * V (N + lg 256 rev (32 * (c % 8) + j)) d = _
    rw [t32 hc hj']
    dsimp only [ct]
    rw [ite_mul, zero_mul]
  rw [Finset.sum_congr rfl e1, sum_lg 32 rev (fun s => if s ≤ lg 32 rev t then W Q F (ct N rev c t) (N + (32 * lg 8 rev c + s)) * V (N + (32 * lg 8 rev c + s)) d else 0),
    ← Finset.sum_filter]
  have := lg32_lt (rev := rev) ht
  refine Finset.sum_congr (Finset.ext fun x => ?_) fun _ _ => rfl
  simp only [Finset.mem_filter, Finset.mem_range]
  omega

/-! ## The state before a time, and the output at a time -/

/-- The state before time `n`. -/
def ST (F V : ℕ → ℕ → ℝ) (n d k : ℕ) : ℝ := ∑ s ∈ Finset.range n, V s d * ((1 - F s k) * Real.exp (G F n k - G F (s + 1) k))
/-- The output at time `l`. -/
def OUT (Q F V : ℕ → ℕ → ℝ) (l d : ℕ) : ℝ :=
  ∑ s ∈ Finset.range (l + 1), (∑ k ∈ Finset.range 128, Q l k * ((1 - F s k) * Real.exp (G F (l + 1) k - G F (s + 1) k))) * V s d

theorem ST_step (F V : ℕ → ℕ → ℝ) (n d k : ℕ) : ST F V (n + 32) d k = ST F V n d k * Real.exp (G F (n + 32) k - G F n k)
    + ∑ s ∈ Finset.range 32, V (n + s) d * ((1 - F (n + s) k) * Real.exp (G F (n + 32) k - G F (n + s + 1) k)) := by
  unfold ST
  rw [Finset.sum_range_add, Finset.sum_mul]
  congr 1
  refine Finset.sum_congr rfl fun s _ => ?_
  rw [mul_assoc, mul_assoc, ← Real.exp_add]
  congr 3
  ring

theorem W_eq (Q F : ℕ → ℕ → ℝ) (l s : ℕ) (h : l / 32 = s / 32) :
    W Q F l s = ∑ k ∈ Finset.range 128, Q l k * ((1 - F s k) * Real.exp (G F (l + 1) k - G F (s + 1) k)) :=
  Finset.sum_congr rfl fun k _ => by unfold Bm; rw [h]; congr 3; ring

theorem OUT_split (Q F V : ℕ → ℕ → ℝ) (n t d : ℕ) (hn : n % 32 = 0) (ht : t < 32) :
    OUT Q F V (n + t) d = ∑ s ∈ Finset.range (t + 1), W Q F (n + t) (n + s) * V (n + s) d
      + ∑ k ∈ Finset.range 128, (Q (n + t) k * Real.exp (Bm F (n + t) k)) * ST F V n d k := by
  unfold OUT
  rw [Nat.add_assoc, Finset.sum_range_add, add_comm]
  congr 1
  · refine Finset.sum_congr rfl fun s hs => ?_
    have := Finset.mem_range.1 hs
    rw [W_eq Q F _ _ (by omega)]
    rfl
  · unfold ST
    simp only [Finset.sum_mul, Finset.mul_sum]
    rw [Finset.sum_comm]
    refine Finset.sum_congr rfl fun k _ => Finset.sum_congr rfl fun s _ => ?_
    have h : 32 * ((n + t) / 32) = n := by omega
    unfold Bm
    rw [h, show n + (t + 1) = n + t + 1 from rfl]
    have e : Real.exp (G F (n + t + 1) k - G F (s + 1) k) = Real.exp (G F (n + t + 1) k - G F n k) * Real.exp (G F n k - G F (s + 1) k) := by
      rw [← Real.exp_add]; congr 1; ring
    rw [e]
    ring

theorem lg_chunk {j : ℕ} (h : j < 8) : lg 8 rev (chunk rev j) = j := by cases rev <;> simp only [lg, chunk, cond_true, cond_false] <;> omega
theorem chunk_lt {j : ℕ} (h : j < 8) : chunk rev j < 8 := by cases rev <;> simp only [chunk, cond_true, cond_false] <;> omega

theorem stAt_is (hN : N % 256 = 0) (hk : Is k (Ph N rev fun l k => 1 - F l k)) (hv : Is v (Ph N rev V)) (hb : Is b (Ph N rev (Bm F)))
    {st : FVec Ideal S128x128 .f32} (hs : Is st (ST F V N)) (j : ℕ) (hj : j ≤ 8) : Is (stAt rev k v b st j) (ST F V (N + 32 * j)) := by
  induction j with
  | zero => exact hs
  | succ j ih =>
    have hj' : j < 8 := hj
    have hc := chunk_lt (rev := rev) hj'
    refine (Is.add ((ih (by omega)).mul ((en_is hb hc (by omega : 3 < 4)).exp.rows broadcasts_S1x128_S128x128))
      (Is.dotUpd ((vb_is hv).sub32 (chunk rev j)) ((Kbar_is hN hk hb).sub32 (chunk rev j)))).congr fun d i _ _ => ?_
    try dsimp only
    rw [show N + 32 * (j + 1) = N + 32 * j + 32 by ring, ST_step, lg_chunk hj']
    have hB : ∀ s, s < 32 → Bm F (N + 32 * j + s) i = G F (N + 32 * j + s + 1) i - G F (N + 32 * j) i := fun s hs => by
      unfold Bm; rw [show 32 * ((N + 32 * j + s) / 32) = N + 32 * j by omega]
    congr 1
    · rw [show N + (32 * j + 8 * 3 + 7) = N + 32 * j + 31 by ring, hB 31 (by omega)]
    · have e1 : ∀ r ∈ Finset.range 32, Ph N rev V (32 * (chunk rev j % 8) + r) d * Ph N rev (fun l i => (1 - F l i) * Real.exp (Bm F (32 * (l / 32) + 31) i - Bm F l i)) (32 * (chunk rev j % 8) + r) i
          = (fun s => V (N + 32 * j + s) d * ((1 - F (N + 32 * j + s) i) * Real.exp (G F (N + 32 * j + 32) i - G F (N + 32 * j + s + 1) i))) (lg 32 rev r) := fun r hr => by
        have hr' := Finset.mem_range.1 hr
        have hl := lg32_lt (rev := rev) hr'
        have ht : N + lg 256 rev (32 * (chunk rev j % 8) + r) = N + 32 * j + lg 32 rev r := by
          rw [t32 hc hr']; unfold ct; rw [lg_chunk hj', Nat.add_assoc]
        show V (N + lg 256 rev (32 * (chunk rev j % 8) + r)) d * ((1 - F (N + lg 256 rev (32 * (chunk rev j % 8) + r)) i)
          * Real.exp (Bm F (32 * ((N + lg 256 rev (32 * (chunk rev j % 8) + r)) / 32) + 31) i - Bm F (N + lg 256 rev (32 * (chunk rev j % 8) + r)) i)) = _
        rw [ht, show 32 * ((N + 32 * j + lg 32 rev r) / 32) + 31 = N + 32 * j + 31 by omega, hB 31 (by omega), hB _ hl]
        try dsimp only
        congr 3
        ring
      rw [Finset.sum_congr rfl e1]
      exact sum_lg 32 rev (fun s => V (N + 32 * j + s) d * ((1 - F (N + 32 * j + s) i) * Real.exp (G F (N + 32 * j + 32) i - G F (N + 32 * j + s + 1) i)))

theorem outAt_is (hN : N % 256 = 0) (hF : ∀ l k, 0 < F l k) (hq : Is q (Ph N rev Q)) (hf : Is f (Ph N rev F)) (hk : Is k (Ph N rev fun l k => 1 - F l k))
    (hv : Is v (Ph N rev V)) (hb : Is b (Ph N rev (Bm F))) {st : FVec Ideal S128x128 .f32} (hs : Is st (ST F V N)) (j : ℕ) (hj : j < 8) :
    Is (outAt rev q f k v b st j) fun t d => OUT Q F V (N + 32 * j + lg 32 rev t) d := by
  have hc := chunk_lt (rev := rev) hj
  refine (Is.add (ointra_is hN hF hq hf hk hv hb hc) (Is.dotSt ((Qbar_is hq hb).sub32 (chunk rev j)) (Is.trunc bitsLt_bf16_f32 (stAt_is hN hk hv hb hs j (by omega))))).congr fun t d ht _ => ?_
  try dsimp only
  rw [OUT_split Q F V _ _ d (by omega) (lg32_lt ht)]
  congr 1
  · unfold ct
    rw [lg_chunk hj]
    simp only [Nat.add_assoc]
  · refine Finset.sum_congr rfl fun i _ => ?_
    show Q (N + lg 256 rev (32 * (chunk rev j % 8) + t)) i * Real.exp (Bm F (N + lg 256 rev (32 * (chunk rev j % 8) + t)) i) * _ = _
    rw [t32 hc ht]
    unfold ct
    rw [lg_chunk hj, Nat.add_assoc]

end

/-! ## A head -/

def sg (x : ℝ) : ℝ := (1 + Real.exp (-x))⁻¹
theorem sg_pos (x : ℝ) : 0 < sg x := by unfold sg; positivity
/-- The gate over a lower bound. -/
def gate (LB : ℕ → ℝ) (X : ℕ → ℕ → ℝ) : ℕ → ℕ → ℝ := fun l k => LB k + (1 - LB k) * sg (X l k)
def swish (X : ℕ → ℕ → ℝ) : ℕ → ℕ → ℝ := fun l k => X l k * sg (X l k)

section
variable {rev : Bool} {N : ℕ} {XQ XF V : ℕ → ℕ → ℝ} {LB : ℕ → ℝ} {xq xf xv : FVec Ideal S256x128 .f32} {lb : FVec Ideal S1x128 .f32} {st : FVec Ideal S128x128 .f32}

theorem gate_pos (h : ∀ k, 0 < LB k ∧ LB k < 1) (l k : ℕ) : 0 < gate LB XF l k := by
  unfold gate
  have h1 := h k
  have := mul_pos (sub_pos.2 h1.2) (sg_pos (XF l k))
  linarith

theorem gf_is (hf : Is xf (Ph N rev XF)) (hl : Is lb fun _ k => LB k) : Is (gf lb xf) (Ph N rev (gate LB XF)) :=
  (hl.rows broadcasts_S1x128_S256x128).add (((Is.const one32_eq).sub hl).rows broadcasts_S1x128_S256x128 |>.mul hf.logistic)
theorem gq_is (hq : Is xq (Ph N rev XQ)) : Is (gq xq) (Ph N rev (swish XQ)) := hq.mul hq.logistic
theorem gk_is {f : FVec Ideal S256x128 .f32} {F : ℕ → ℕ → ℝ} (hf : Is f (Ph N rev F)) : Is (gk f) (Ph N rev fun l k => 1 - F l k) := (Is.const one32_eq).sub hf

theorem headSt_is (hN : N % 256 = 0) (h : ∀ k, 0 < LB k ∧ LB k < 1) (hf : Is xf (Ph N rev XF)) (hv : Is xv (Ph N rev V)) (hl : Is lb fun _ k => LB k)
    (hs : Is st (ST (gate LB XF) V N)) : Is (headSt rev xf xv lb st) (ST (gate LB XF) V (N + 256)) :=
  stAt_is hN (gk_is (gf_is hf hl)) hv (gb_is hN (gate_pos h) (gf_is hf hl)) hs 8 (le_refl 8)

theorem headOut_is (hN : N % 256 = 0) (h : ∀ k, 0 < LB k ∧ LB k < 1) (hq : Is xq (Ph N rev XQ)) (hf : Is xf (Ph N rev XF)) (hv : Is xv (Ph N rev V))
    (hl : Is lb fun _ k => LB k) (hs : Is st (ST (gate LB XF) V N)) :
    Is (headOut rev xq xf xv lb st) (Ph N rev (OUT (swish XQ) (gate LB XF) V)) :=
  (Is.cat8 fun c hc => outAt_is hN (gate_pos h) (gq_is hq) (gf_is hf hl) (gk_is (gf_is hf hl)) hv (gb_is hN (gate_pos h) (gf_is hf hl)) hs
    (chunk rev c) (chunk_lt hc)).congr fun r d hr _ => by
      dsimp only [Ph]
      congr 1
      cases rev <;> simp only [lg, chunk, cond_true, cond_false] <;> omega

end

end Cert.Kernel8Ideal.Scan

end
-- ==== Proof.Hgrn.Vals.lean ====
/- The two results in closed form over the arguments' real numbers. -/
module

public import proofs.«01_k».proof.Proof.Hgrn.Head2
public import proofs.«01_k».proof.Proof.Mix

@[expose] public section

noncomputable section

namespace Cert.Kernel8Ideal.Scan

open Idealize.ShloMosaic Cert.Attn Cert.Mix

variable (x0 : (⟨3, ![16, 4096, 4096]⟩ : Shape).Idx → EReal) (x1 : (⟨2, ![2, 768]⟩ : Shape).Idx → EReal)

/-- The lower bound of a gate: the first weight of a softmax over two logits, counted from the sum. -/
def lbr (a c : ℝ) : ℝ := Real.exp c / (Real.exp a + Real.exp c)
def LBh (h k : ℕ) : ℝ := lbr (at2 x1 0 (128 * h + k)).toReal (at2 x1 1 (128 * h + k)).toReal
/-- A head's columns of an input, along the scan's time. -/
def Sq (rev : Bool) (b col h l k : ℕ) : ℝ := (at3 x0 b (lg 4096 rev l) (col + (128 * h + k))).toReal
/-- A result at a batch, a time and a column. -/
def res (rev : Bool) (col b t c : ℕ) : EReal :=
  ((OUT (swish (Sq x0 rev b 0 (c / 128))) (gate (LBh x1 (c / 128)) (Sq x0 rev b col (c / 128))) (Sq x0 rev b 2304 (c / 128)) (lg 4096 rev t) (c % 128) : ℝ) : EReal)
/-- A result over every index. -/
def scanOut (rev : Bool) (col : ℕ) : (⟨3, ![16, 4096, 768]⟩ : Shape).Idx → EReal := fun i => res x0 x1 rev col (i 0).val (i 1).val (i 2).val

theorem scanOut_of (rev : Bool) (col : ℕ) (i : (⟨3, ![16, 4096, 768]⟩ : Shape).Idx) {a b d : ℕ} (h0 : a = (i 0).val) (h1 : b = (i 1).val) (h2 : d = (i 2).val) :
    res x0 x1 rev col a b d = scanOut x0 x1 rev col i := by subst h0 h1 h2; rfl

theorem lbr_pos (a c : ℝ) : 0 < lbr a c ∧ lbr a c < 1 := by
  have ha := Real.exp_pos a
  have hc := Real.exp_pos c
  refine ⟨div_pos hc (add_pos ha hc), ?_⟩
  unfold lbr
  rw [div_lt_one (add_pos ha hc)]
  linarith

theorem LBh_pos (h k : ℕ) : 0 < LBh x1 h k ∧ LBh x1 h k < 1 := lbr_pos _ _

theorem sup_two (f : Fin 2 → EReal) (a c : ℝ) (h0 : f 0 = (a : EReal)) (h1 : f 1 = (c : EReal)) : ∃ M : ℝ, Finset.univ.sup f = (M : EReal) := by
  rw [show (Finset.univ : Finset (Fin 2)) = {0, 1} from rfl, Finset.sup_insert, Finset.sup_singleton, h0, h1]
  rcases le_total a c with h | h
  · exact ⟨c, sup_eq_right.2 (EReal.coe_le_coe_iff.2 h)⟩
  · exact ⟨a, sup_eq_left.2 (EReal.coe_le_coe_iff.2 h)⟩

/-- The softmax's own route to the lower bound, whatever real number is taken off the logits. -/
theorem soft_lb (a c M : ℝ) :
    (Ideal.div (Ideal.exp ((a : EReal) - (M : EReal))) (Ideal.exp ((a : EReal) - (M : EReal)) + Ideal.exp ((c : EReal) - (M : EReal)))
      + Ideal.div (Ideal.exp ((c : EReal) - (M : EReal))) (Ideal.exp ((a : EReal) - (M : EReal)) + Ideal.exp ((c : EReal) - (M : EReal))))
      - Ideal.div (Ideal.exp ((a : EReal) - (M : EReal))) (Ideal.exp ((a : EReal) - (M : EReal)) + Ideal.exp ((c : EReal) - (M : EReal))) = ((lbr a c : ℝ) : EReal) := by
  have he : ∀ x : ℝ, Ideal.exp ((x : EReal) - (M : EReal)) = ((Real.exp (x - M) : ℝ) : EReal) := fun x => by
    rw [← EReal.coe_sub]; rfl
  have ha := Real.exp_pos (a - M)
  have hc := Real.exp_pos (c - M)
  have hs : Real.exp (a - M) + Real.exp (c - M) ≠ 0 := (add_pos ha hc).ne'
  rw [he, he, ← EReal.coe_add, div_coe hs, div_coe hs, ← EReal.coe_add, ← EReal.coe_sub]
  refine congrArg _ ?_
  rw [add_sub_cancel_left, Real.exp_sub, Real.exp_sub, ← add_div, div_div_div_cancel_right₀ (Real.exp_pos M).ne']
  rfl

/-- A gate's logistic written with a quotient. -/
theorem div_sg (r : ℝ) : Ideal.div ((1 : ℝ) : EReal) (((1 : ℝ) : EReal) + Ideal.exp (-(r : EReal))) = ((sg r : ℝ) : EReal) := by
  have he : Ideal.exp (-(r : EReal)) = ((Real.exp (-r) : ℝ) : EReal) := by rw [← EReal.coe_neg]; rfl
  have hs : 1 + Real.exp (-r) ≠ 0 := (add_pos one_pos (Real.exp_pos _)).ne'
  rw [he, ← EReal.coe_add, div_coe hs, one_div]
  rfl

theorem sum_le_range (n t : ℕ) (ht : t < n) (g : ℕ → ℝ) : ∑ s : Fin n, (if s.val ≤ t then g s.val else 0) = ∑ s ∈ Finset.range (t + 1), g s := by
  rw [Fin.sum_univ_eq_sum_range (fun s => if s ≤ t then g s else 0) n]
  have hsub : Finset.range (t + 1) ⊆ Finset.range n := fun s hs => by
    rw [Finset.mem_range] at hs ⊢; omega
  refine (Finset.sum_subset hsub fun s _ hs => ?_).symm.trans (Finset.sum_congr rfl fun s hs => ?_)
  · rw [Finset.mem_range] at hs; exact if_neg (by omega)
  · rw [Finset.mem_range] at hs; exact if_pos (by omega)

end Cert.Kernel8Ideal.Scan

end
-- ==== Proof.Hgrn.PiecesB.lean ====
module

public import proofs.«01_k».proof.Proof.Gen.Kernel8Ideal.Frame
public import proofs.«01_k».proof.Proof.Hgrn.Head

/-! What a grid point of the recurrence stores, head by head, over what it loads. -/

@[expose] public section

noncomputable section

namespace Cert.Kernel8Ideal.Scan

open Cert.Kernel8Ideal.Gen Idealize.ShloMosaic Idealize.ShloMosaic.TcCoe Idealize.SL.Sem

variable {F : FTy → Type} [FloatOps F]

theorem inIn (h : Fin 6) : ∀ a, (![0, 0, 128 * h.val] : Fin 3 → ℕ) a + S1x256x128.size a ≤ S1x256x768.size a := by revert h; decide +kernel
theorem inLb (h : Fin 6) : ∀ a, (![0, 128 * h.val] : Fin 2 → ℕ) a + S1x128.size a ≤ S1x768.size a := by revert h; decide +kernel
theorem inSt (h : Fin 6) : ∀ a, (![h.val, 0, 0] : Fin 3 → ℕ) a + S1x128x128.size a ≤ S6x128x128.size a := by revert h; decide +kernel
abbrev rIn (h : Fin 6) : Rect S1x256x768 := Rect.unit (s := S1x256x768) ![0, 0, 128 * h.val] S1x256x128.size (inIn h)
abbrev rLb (h : Fin 6) : Rect S1x768 := Rect.unit (s := S1x768) ![0, 128 * h.val] S1x128.size (inLb h)
abbrev rSt (h : Fin 6) : Rect S6x128x128 := Rect.unit (s := S6x128x128) ![h.val, 0, 0] S1x128x128.size (inSt h)

/-- A head's rows of an input's block. -/
def ldIn (arg : Memref sig .tc .vmem S1x256x768 .bf16) (harg : arg.IsWhole) (x : Vec F S1x256x768 .bf16) (h : Fin 6) : FVec F S256x128 .f32 :=
  inp (View.readAt (Elt F) arg.view (rIn h).toLoadRect (harg.unread x))
/-- The lower bounds a point stores, and a head's of them. -/
abbrev lbL (arg2 : Memref sig .tc .vmem S2x768 .f32) (harg2 : arg2.IsWhole) (x0 : Vec F S2x768 .f32) : List (View.Piece (Elt F) S1x768 .f32) :=
  [⟨Rect.unit ![0, 0] S1x768.size inb_S1x768_S1x768_0_0, k0_pay3 (View.readAt (Elt F) arg2.view (Rect.unit ![0, 0] S2x768.size inb_S2x768_S2x768_0_0).toLoadRect (harg2.unread x0))⟩]
def ldLb (arg2 : Memref sig .tc .vmem S2x768 .f32) (harg2 : arg2.IsWhole) (arg13 : Memref sig .tc .vmem S1x768 .f32) (x0 : Vec F S2x768 .f32) (h : Fin 6) : FVec F S1x128 .f32 :=
  arg13.view.readCov (lbL arg2 harg2 x0) (rLb h).toLoadRect
/-- A head's state at the point's start, carried from the point before. -/
def ldSt (arg : Memref sig .tc .vmem S6x128x128 .f32) (harg : arg.IsWhole) (xs : Vec F S6x128x128 .f32) (h : Fin 6) : FVec F S128x128 .f32 :=
  stIn (View.readAt (Elt F) arg.view (rSt h).toLoadRect (harg.unread xs))

variable (c : Dev nD) (i : grid0.Coords) (arg2 : Memref sig .tc .vmem S2x768 .f32) (harg2 : arg2.IsWhole) (arg3 : Memref sig .tc .vmem S1x256x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S1x256x768 .bf16) (harg6 : arg6.IsWhole) (arg7 : Memref sig .tc .vmem S1x256x768 .bf16) (harg7 : arg7.IsWhole) (arg8 : Memref sig .tc .vmem S1x256x768 .bf16) (harg8 : arg8.IsWhole) (arg9 : Memref sig .tc .vmem S1x256x768 .bf16) (harg9 : arg9.IsWhole) (arg10 : Memref sig .tc .vmem S1x256x768 .bf16) (harg10 : arg10.IsWhole) (arg11 : Memref sig .tc .vmem S6x128x128 .f32) (harg11 : arg11.IsWhole) (arg12 : Memref sig .tc .vmem S6x128x128 .f32) (harg12 : arg12.IsWhole) (arg13 : Memref sig .tc .vmem S1x768 .f32) (harg13 : arg13.IsWhole) (hc0 : ¬ cond0_0 i) (hc1 : cond0_0 i)
  (x0 : Vec F S2x768 .f32) (x1 x2 x3 x4 x5 x6 : Vec F S1x256x768 .bf16) (xs0 xs1 : Vec F S6x128x128 .f32)

theorem outB_fwd : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).1 =
    ⟨rIn 5, payOut (headOut false (ldIn arg3 harg3 x1 5) (ldIn arg4 harg4 x2 5) (ldIn arg5 harg5 x3 5) (ldLb arg2 harg2 arg13 x0 5) (ldSt arg11 harg11 xs0 5))⟩ ::
    ⟨rIn 4, payOut (headOut false (ldIn arg3 harg3 x1 4) (ldIn arg4 harg4 x2 4) (ldIn arg5 harg5 x3 4) (ldLb arg2 harg2 arg13 x0 4) (ldSt arg11 harg11 xs0 4))⟩ ::
    ⟨rIn 3, payOut (headOut false (ldIn arg3 harg3 x1 3) (ldIn arg4 harg4 x2 3) (ldIn arg5 harg5 x3 3) (ldLb arg2 harg2 arg13 x0 3) (ldSt arg11 harg11 xs0 3))⟩ ::
    ⟨rIn 2, payOut (headOut false (ldIn arg3 harg3 x1 2) (ldIn arg4 harg4 x2 2) (ldIn arg5 harg5 x3 2) (ldLb arg2 harg2 arg13 x0 2) (ldSt arg11 harg11 xs0 2))⟩ ::
    ⟨rIn 1, payOut (headOut false (ldIn arg3 harg3 x1 1) (ldIn arg4 harg4 x2 1) (ldIn arg5 harg5 x3 1) (ldLb arg2 harg2 arg13 x0 1) (ldSt arg11 harg11 xs0 1))⟩ ::
    ⟨rIn 0, payOut (headOut false (ldIn arg3 harg3 x1 0) (ldIn arg4 harg4 x2 0) (ldIn arg5 harg5 x3 0) (ldLb arg2 harg2 arg13 x0 0) (ldSt arg11 harg11 xs0 0))⟩ :: [] := by
  sl_kernel_rfl

theorem outB_bwd : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.1 =
    ⟨rIn 5, payOut (headOut true (ldIn arg6 harg6 x4 5) (ldIn arg7 harg7 x5 5) (ldIn arg8 harg8 x6 5) (ldLb arg2 harg2 arg13 x0 5) (ldSt arg12 harg12 xs1 5))⟩ ::
    ⟨rIn 4, payOut (headOut true (ldIn arg6 harg6 x4 4) (ldIn arg7 harg7 x5 4) (ldIn arg8 harg8 x6 4) (ldLb arg2 harg2 arg13 x0 4) (ldSt arg12 harg12 xs1 4))⟩ ::
    ⟨rIn 3, payOut (headOut true (ldIn arg6 harg6 x4 3) (ldIn arg7 harg7 x5 3) (ldIn arg8 harg8 x6 3) (ldLb arg2 harg2 arg13 x0 3) (ldSt arg12 harg12 xs1 3))⟩ ::
    ⟨rIn 2, payOut (headOut true (ldIn arg6 harg6 x4 2) (ldIn arg7 harg7 x5 2) (ldIn arg8 harg8 x6 2) (ldLb arg2 harg2 arg13 x0 2) (ldSt arg12 harg12 xs1 2))⟩ ::
    ⟨rIn 1, payOut (headOut true (ldIn arg6 harg6 x4 1) (ldIn arg7 harg7 x5 1) (ldIn arg8 harg8 x6 1) (ldLb arg2 harg2 arg13 x0 1) (ldSt arg12 harg12 xs1 1))⟩ ::
    ⟨rIn 0, payOut (headOut true (ldIn arg6 harg6 x4 0) (ldIn arg7 harg7 x5 0) (ldIn arg8 harg8 x6 0) (ldLb arg2 harg2 arg13 x0 0) (ldSt arg12 harg12 xs1 0))⟩ :: [] := by
  sl_kernel_rfl

theorem stB_fwd : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.2.1 =
    ⟨rSt 5, paySt (headSt false (ldIn arg4 harg4 x2 5) (ldIn arg5 harg5 x3 5) (ldLb arg2 harg2 arg13 x0 5) (ldSt arg11 harg11 xs0 5))⟩ ::
    ⟨rSt 4, paySt (headSt false (ldIn arg4 harg4 x2 4) (ldIn arg5 harg5 x3 4) (ldLb arg2 harg2 arg13 x0 4) (ldSt arg11 harg11 xs0 4))⟩ ::
    ⟨rSt 3, paySt (headSt false (ldIn arg4 harg4 x2 3) (ldIn arg5 harg5 x3 3) (ldLb arg2 harg2 arg13 x0 3) (ldSt arg11 harg11 xs0 3))⟩ ::
    ⟨rSt 2, paySt (headSt false (ldIn arg4 harg4 x2 2) (ldIn arg5 harg5 x3 2) (ldLb arg2 harg2 arg13 x0 2) (ldSt arg11 harg11 xs0 2))⟩ ::
    ⟨rSt 1, paySt (headSt false (ldIn arg4 harg4 x2 1) (ldIn arg5 harg5 x3 1) (ldLb arg2 harg2 arg13 x0 1) (ldSt arg11 harg11 xs0 1))⟩ ::
    ⟨rSt 0, paySt (headSt false (ldIn arg4 harg4 x2 0) (ldIn arg5 harg5 x3 0) (ldLb arg2 harg2 arg13 x0 0) (ldSt arg11 harg11 xs0 0))⟩ :: [] := by
  sl_kernel_rfl

theorem stB_bwd : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1).2.2.2.1 =
    ⟨rSt 5, paySt (headSt true (ldIn arg7 harg7 x5 5) (ldIn arg8 harg8 x6 5) (ldLb arg2 harg2 arg13 x0 5) (ldSt arg12 harg12 xs1 5))⟩ ::
    ⟨rSt 4, paySt (headSt true (ldIn arg7 harg7 x5 4) (ldIn arg8 harg8 x6 4) (ldLb arg2 harg2 arg13 x0 4) (ldSt arg12 harg12 xs1 4))⟩ ::
    ⟨rSt 3, paySt (headSt true (ldIn arg7 harg7 x5 3) (ldIn arg8 harg8 x6 3) (ldLb arg2 harg2 arg13 x0 3) (ldSt arg12 harg12 xs1 3))⟩ ::
    ⟨rSt 2, paySt (headSt true (ldIn arg7 harg7 x5 2) (ldIn arg8 harg8 x6 2) (ldLb arg2 harg2 arg13 x0 2) (ldSt arg12 harg12 xs1 2))⟩ ::
    ⟨rSt 1, paySt (headSt true (ldIn arg7 harg7 x5 1) (ldIn arg8 harg8 x6 1) (ldLb arg2 harg2 arg13 x0 1) (ldSt arg12 harg12 xs1 1))⟩ ::
    ⟨rSt 0, paySt (headSt true (ldIn arg7 harg7 x5 0) (ldIn arg8 harg8 x6 0) (ldLb arg2 harg2 arg13 x0 0) (ldSt arg12 harg12 xs1 0))⟩ :: [] := by
  sl_kernel_rfl

end Cert.Kernel8Ideal.Scan

end
-- ==== Proof.Hgrn.PiecesA.lean ====
module

public import proofs.«01_k».proof.Proof.Gen.Kernel8Ideal.Frame
public import proofs.«01_k».proof.Proof.Hgrn.PiecesB

/-! What a grid point of the recurrence stores, head by head, over what it loads. -/

@[expose] public section

noncomputable section

namespace Cert.Kernel8Ideal.Scan

open Cert.Kernel8Ideal.Gen Idealize.ShloMosaic Idealize.ShloMosaic.TcCoe Idealize.SL.Sem

variable {F : FTy → Type} [FloatOps F]

/-- The zero a batch's first point stores into a state. -/
abbrev zL : List (View.Piece (Elt F) S6x128x128 .f32) :=
  [⟨Rect.unit (s := S6x128x128) ![0, 0, 0] S6x128x128.size inb_S6x128x128_S6x128x128_0_0_0, broadcast S6x128x128 (zero32 (F := F))⟩]

/-- A head's state at a batch's first point, over what the heads before it stored. -/
def ldCov (arg : Memref sig .tc .vmem S6x128x128 .f32) (L : List (View.Piece (Elt F) S6x128x128 .f32)) (h : Fin 6) : FVec F S128x128 .f32 :=
  stIn (arg.view.readCov L (rSt h).toLoadRect)

abbrev l_fwd0 (arg2 : Memref sig .tc .vmem S2x768 .f32) (harg2 : arg2.IsWhole) (arg3 : Memref sig .tc .vmem S1x256x768 .bf16) (harg3 : arg3.IsWhole) (arg4 : Memref sig .tc .vmem S1x256x768 .bf16) (harg4 : arg4.IsWhole) (arg5 : Memref sig .tc .vmem S1x256x768 .bf16) (harg5 : arg5.IsWhole) (arg11 : Memref sig .tc .vmem S6x128x128 .f32) (arg13 : Memref sig .tc .vmem S1x768 .f32) (x0 : Vec F S2x768 .f32) (x1 x2 x3 : Vec F S1x256x768 .bf16) : List (View.Piece (Elt F) S6x128x128 .f32) :=
  zL
abbrev l_fwd1 (arg2 : Memref sig .tc .vmem S2x768 .f32) (harg2 : arg2.IsWhole) (arg3 : Memref sig .tc .vmem S1x256x768 .bf16) (harg3 : arg3.IsWhole) (arg4 : Memref sig .tc .vmem S1x256x768 .bf16) (harg4 : arg4.IsWhole) (arg5 : Memref sig .tc .vmem S1x256x768 .bf16) (harg5 : arg5.IsWhole) (arg11 : Memref sig .tc .vmem S6x128x128 .f32) (arg13 : Memref sig .tc .vmem S1x768 .f32) (x0 : Vec F S2x768 .f32) (x1 x2 x3 : Vec F S1x256x768 .bf16) : List (View.Piece (Elt F) S6x128x128 .f32) :=
  ⟨rSt 0, paySt (headSt false (ldIn arg4 harg4 x2 0) (ldIn arg5 harg5 x3 0) (ldLb arg2 harg2 arg13 x0 0) (ldCov arg11 (l_fwd0 arg2 harg2 arg3 harg3 arg4 harg4 arg5 harg5 arg11 arg13 x0 x1 x2 x3) 0))⟩ :: l_fwd0 arg2 harg2 arg3 harg3 arg4 harg4 arg5 harg5 arg11 arg13 x0 x1 x2 x3
abbrev l_fwd2 (arg2 : Memref sig .tc .vmem S2x768 .f32) (harg2 : arg2.IsWhole) (arg3 : Memref sig .tc .vmem S1x256x768 .bf16) (harg3 : arg3.IsWhole) (arg4 : Memref sig .tc .vmem S1x256x768 .bf16) (harg4 : arg4.IsWhole) (arg5 : Memref sig .tc .vmem S1x256x768 .bf16) (harg5 : arg5.IsWhole) (arg11 : Memref sig .tc .vmem S6x128x128 .f32) (arg13 : Memref sig .tc .vmem S1x768 .f32) (x0 : Vec F S2x768 .f32) (x1 x2 x3 : Vec F S1x256x768 .bf16) : List (View.Piece (Elt F) S6x128x128 .f32) :=
  ⟨rSt 1, paySt (headSt false (ldIn arg4 harg4 x2 1) (ldIn arg5 harg5 x3 1) (ldLb arg2 harg2 arg13 x0 1) (ldCov arg11 (l_fwd1 arg2 harg2 arg3 harg3 arg4 harg4 arg5 harg5 arg11 arg13 x0 x1 x2 x3) 1))⟩ :: l_fwd1 arg2 harg2 arg3 harg3 arg4 harg4 arg5 harg5 arg11 arg13 x0 x1 x2 x3
abbrev l_fwd3 (arg2 : Memref sig .tc .vmem S2x768 .f32) (harg2 : arg2.IsWhole) (arg3 : Memref sig .tc .vmem S1x256x768 .bf16) (harg3 : arg3.IsWhole) (arg4 : Memref sig .tc .vmem S1x256x768 .bf16) (harg4 : arg4.IsWhole) (arg5 : Memref sig .tc .vmem S1x256x768 .bf16) (harg5 : arg5.IsWhole) (arg11 : Memref sig .tc .vmem S6x128x128 .f32) (arg13 : Memref sig .tc .vmem S1x768 .f32) (x0 : Vec F S2x768 .f32) (x1 x2 x3 : Vec F S1x256x768 .bf16) : List (View.Piece (Elt F) S6x128x128 .f32) :=
  ⟨rSt 2, paySt (headSt false (ldIn arg4 harg4 x2 2) (ldIn arg5 harg5 x3 2) (ldLb arg2 harg2 arg13 x0 2) (ldCov arg11 (l_fwd2 arg2 harg2 arg3 harg3 arg4 harg4 arg5 harg5 arg11 arg13 x0 x1 x2 x3) 2))⟩ :: l_fwd2 arg2 harg2 arg3 harg3 arg4 harg4 arg5 harg5 arg11 arg13 x0 x1 x2 x3
abbrev l_fwd4 (arg2 : Memref sig .tc .vmem S2x768 .f32) (harg2 : arg2.IsWhole) (arg3 : Memref sig .tc .vmem S1x256x768 .bf16) (harg3 : arg3.IsWhole) (arg4 : Memref sig .tc .vmem S1x256x768 .bf16) (harg4 : arg4.IsWhole) (arg5 : Memref sig .tc .vmem S1x256x768 .bf16) (harg5 : arg5.IsWhole) (arg11 : Memref sig .tc .vmem S6x128x128 .f32) (arg13 : Memref sig .tc .vmem S1x768 .f32) (x0 : Vec F S2x768 .f32) (x1 x2 x3 : Vec F S1x256x768 .bf16) : List (View.Piece (Elt F) S6x128x128 .f32) :=
  ⟨rSt 3, paySt (headSt false (ldIn arg4 harg4 x2 3) (ldIn arg5 harg5 x3 3) (ldLb arg2 harg2 arg13 x0 3) (ldCov arg11 (l_fwd3 arg2 harg2 arg3 harg3 arg4 harg4 arg5 harg5 arg11 arg13 x0 x1 x2 x3) 3))⟩ :: l_fwd3 arg2 harg2 arg3 harg3 arg4 harg4 arg5 harg5 arg11 arg13 x0 x1 x2 x3
abbrev l_fwd5 (arg2 : Memref sig .tc .vmem S2x768 .f32) (harg2 : arg2.IsWhole) (arg3 : Memref sig .tc .vmem S1x256x768 .bf16) (harg3 : arg3.IsWhole) (arg4 : Memref sig .tc .vmem S1x256x768 .bf16) (harg4 : arg4.IsWhole) (arg5 : Memref sig .tc .vmem S1x256x768 .bf16) (harg5 : arg5.IsWhole) (arg11 : Memref sig .tc .vmem S6x128x128 .f32) (arg13 : Memref sig .tc .vmem S1x768 .f32) (x0 : Vec F S2x768 .f32) (x1 x2 x3 : Vec F S1x256x768 .bf16) : List (View.Piece (Elt F) S6x128x128 .f32) :=
  ⟨rSt 4, paySt (headSt false (ldIn arg4 harg4 x2 4) (ldIn arg5 harg5 x3 4) (ldLb arg2 harg2 arg13 x0 4) (ldCov arg11 (l_fwd4 arg2 harg2 arg3 harg3 arg4 harg4 arg5 harg5 arg11 arg13 x0 x1 x2 x3) 4))⟩ :: l_fwd4 arg2 harg2 arg3 harg3 arg4 harg4 arg5 harg5 arg11 arg13 x0 x1 x2 x3

abbrev l_bwd0 (arg2 : Memref sig .tc .vmem S2x768 .f32) (harg2 : arg2.IsWhole) (arg6 : Memref sig .tc .vmem S1x256x768 .bf16) (harg6 : arg6.IsWhole) (arg7 : Memref sig .tc .vmem S1x256x768 .bf16) (harg7 : arg7.IsWhole) (arg8 : Memref sig .tc .vmem S1x256x768 .bf16) (harg8 : arg8.IsWhole) (arg12 : Memref sig .tc .vmem S6x128x128 .f32) (arg13 : Memref sig .tc .vmem S1x768 .f32) (x0 : Vec F S2x768 .f32) (x4 x5 x6 : Vec F S1x256x768 .bf16) : List (View.Piece (Elt F) S6x128x128 .f32) :=
  zL
abbrev l_bwd1 (arg2 : Memref sig .tc .vmem S2x768 .f32) (harg2 : arg2.IsWhole) (arg6 : Memref sig .tc .vmem S1x256x768 .bf16) (harg6 : arg6.IsWhole) (arg7 : Memref sig .tc .vmem S1x256x768 .bf16) (harg7 : arg7.IsWhole) (arg8 : Memref sig .tc .vmem S1x256x768 .bf16) (harg8 : arg8.IsWhole) (arg12 : Memref sig .tc .vmem S6x128x128 .f32) (arg13 : Memref sig .tc .vmem S1x768 .f32) (x0 : Vec F S2x768 .f32) (x4 x5 x6 : Vec F S1x256x768 .bf16) : List (View.Piece (Elt F) S6x128x128 .f32) :=
  ⟨rSt 0, paySt (headSt true (ldIn arg7 harg7 x5 0) (ldIn arg8 harg8 x6 0) (ldLb arg2 harg2 arg13 x0 0) (ldCov arg12 (l_bwd0 arg2 harg2 arg6 harg6 arg7 harg7 arg8 harg8 arg12 arg13 x0 x4 x5 x6) 0))⟩ :: l_bwd0 arg2 harg2 arg6 harg6 arg7 harg7 arg8 harg8 arg12 arg13 x0 x4 x5 x6
abbrev l_bwd2 (arg2 : Memref sig .tc .vmem S2x768 .f32) (harg2 : arg2.IsWhole) (arg6 : Memref sig .tc .vmem S1x256x768 .bf16) (harg6 : arg6.IsWhole) (arg7 : Memref sig .tc .vmem S1x256x768 .bf16) (harg7 : arg7.IsWhole) (arg8 : Memref sig .tc .vmem S1x256x768 .bf16) (harg8 : arg8.IsWhole) (arg12 : Memref sig .tc .vmem S6x128x128 .f32) (arg13 : Memref sig .tc .vmem S1x768 .f32) (x0 : Vec F S2x768 .f32) (x4 x5 x6 : Vec F S1x256x768 .bf16) : List (View.Piece (Elt F) S6x128x128 .f32) :=
  ⟨rSt 1, paySt (headSt true (ldIn arg7 harg7 x5 1) (ldIn arg8 harg8 x6 1) (ldLb arg2 harg2 arg13 x0 1) (ldCov arg12 (l_bwd1 arg2 harg2 arg6 harg6 arg7 harg7 arg8 harg8 arg12 arg13 x0 x4 x5 x6) 1))⟩ :: l_bwd1 arg2 harg2 arg6 harg6 arg7 harg7 arg8 harg8 arg12 arg13 x0 x4 x5 x6
abbrev l_bwd3 (arg2 : Memref sig .tc .vmem S2x768 .f32) (harg2 : arg2.IsWhole) (arg6 : Memref sig .tc .vmem S1x256x768 .bf16) (harg6 : arg6.IsWhole) (arg7 : Memref sig .tc .vmem S1x256x768 .bf16) (harg7 : arg7.IsWhole) (arg8 : Memref sig .tc .vmem S1x256x768 .bf16) (harg8 : arg8.IsWhole) (arg12 : Memref sig .tc .vmem S6x128x128 .f32) (arg13 : Memref sig .tc .vmem S1x768 .f32) (x0 : Vec F S2x768 .f32) (x4 x5 x6 : Vec F S1x256x768 .bf16) : List (View.Piece (Elt F) S6x128x128 .f32) :=
  ⟨rSt 2, paySt (headSt true (ldIn arg7 harg7 x5 2) (ldIn arg8 harg8 x6 2) (ldLb arg2 harg2 arg13 x0 2) (ldCov arg12 (l_bwd2 arg2 harg2 arg6 harg6 arg7 harg7 arg8 harg8 arg12 arg13 x0 x4 x5 x6) 2))⟩ :: l_bwd2 arg2 harg2 arg6 harg6 arg7 harg7 arg8 harg8 arg12 arg13 x0 x4 x5 x6
abbrev l_bwd4 (arg2 : Memref sig .tc .vmem S2x768 .f32) (harg2 : arg2.IsWhole) (arg6 : Memref sig .tc .vmem S1x256x768 .bf16) (harg6 : arg6.IsWhole) (arg7 : Memref sig .tc .vmem S1x256x768 .bf16) (harg7 : arg7.IsWhole) (arg8 : Memref sig .tc .vmem S1x256x768 .bf16) (harg8 : arg8.IsWhole) (arg12 : Memref sig .tc .vmem S6x128x128 .f32) (arg13 : Memref sig .tc .vmem S1x768 .f32) (x0 : Vec F S2x768 .f32) (x4 x5 x6 : Vec F S1x256x768 .bf16) : List (View.Piece (Elt F) S6x128x128 .f32) :=
  ⟨rSt 3, paySt (headSt true (ldIn arg7 harg7 x5 3) (ldIn arg8 harg8 x6 3) (ldLb arg2 harg2 arg13 x0 3) (ldCov arg12 (l_bwd3 arg2 harg2 arg6 harg6 arg7 harg7 arg8 harg8 arg12 arg13 x0 x4 x5 x6) 3))⟩ :: l_bwd3 arg2 harg2 arg6 harg6 arg7 harg7 arg8 harg8 arg12 arg13 x0 x4 x5 x6
abbrev l_bwd5 (arg2 : Memref sig .tc .vmem S2x768 .f32) (harg2 : arg2.IsWhole) (arg6 : Memref sig .tc .vmem S1x256x768 .bf16) (harg6 : arg6.IsWhole) (arg7 : Memref sig .tc .vmem S1x256x768 .bf16) (harg7 : arg7.IsWhole) (arg8 : Memref sig .tc .vmem S1x256x768 .bf16) (harg8 : arg8.IsWhole) (arg12 : Memref sig .tc .vmem S6x128x128 .f32) (arg13 : Memref sig .tc .vmem S1x768 .f32) (x0 : Vec F S2x768 .f32) (x4 x5 x6 : Vec F S1x256x768 .bf16) : List (View.Piece (Elt F) S6x128x128 .f32) :=
  ⟨rSt 4, paySt (headSt true (ldIn arg7 harg7 x5 4) (ldIn arg8 harg8 x6 4) (ldLb arg2 harg2 arg13 x0 4) (ldCov arg12 (l_bwd4 arg2 harg2 arg6 harg6 arg7 harg7 arg8 harg8 arg12 arg13 x0 x4 x5 x6) 4))⟩ :: l_bwd4 arg2 harg2 arg6 harg6 arg7 harg7 arg8 harg8 arg12 arg13 x0 x4 x5 x6

variable (c : Dev nD) (i : grid0.Coords) (arg2 : Memref sig .tc .vmem S2x768 .f32) (harg2 : arg2.IsWhole) (arg3 : Memref sig .tc .vmem S1x256x768 .bf16) (harg3 : arg3.IsWhole) (arg4 : Memref sig .tc .vmem S1x256x768 .bf16) (harg4 : arg4.IsWhole) (arg5 : Memref sig .tc .vmem S1x256x768 .bf16) (harg5 : arg5.IsWhole) (arg6 : Memref sig .tc .vmem S1x256x768 .bf16) (harg6 : arg6.IsWhole) (arg7 : Memref sig .tc .vmem S1x256x768 .bf16) (harg7 : arg7.IsWhole) (arg8 : Memref sig .tc .vmem S1x256x768 .bf16) (harg8 : arg8.IsWhole) (arg9 : Memref sig .tc .vmem S1x256x768 .bf16) (harg9 : arg9.IsWhole) (arg10 : Memref sig .tc .vmem S1x256x768 .bf16) (harg10 : arg10.IsWhole) (arg11 : Memref sig .tc .vmem S6x128x128 .f32) (harg11 : arg11.IsWhole) (arg12 : Memref sig .tc .vmem S6x128x128 .f32) (harg12 : arg12.IsWhole) (arg13 : Memref sig .tc .vmem S1x768 .f32) (harg13 : arg13.IsWhole) (hc0 : ¬ cond0_0 i) (hc1 : cond0_0 i)
  (x0 : Vec F S2x768 .f32) (x1 x2 x3 x4 x5 x6 : Vec F S1x256x768 .bf16) (xs0 xs1 : Vec F S6x128x128 .f32)

theorem outA_fwd : (kernelRun0_A c i arg2 harg2 arg3 harg3 arg4 harg4 arg5 harg5 arg6 harg6 arg7 harg7 arg8 harg8 arg9 harg9 arg10 harg10 arg11 harg11 arg12 harg12 arg13 harg13 hc1 x0 x1 x2 x3 x4 x5 x6).1 =
    ⟨rIn 5, payOut (headOut false (ldIn arg3 harg3 x1 5) (ldIn arg4 harg4 x2 5) (ldIn arg5 harg5 x3 5) (ldLb arg2 harg2 arg13 x0 5) (ldCov arg11 (l_fwd5 arg2 harg2 arg3 harg3 arg4 harg4 arg5 harg5 arg11 arg13 x0 x1 x2 x3) 5))⟩ ::
    ⟨rIn 4, payOut (headOut false (ldIn arg3 harg3 x1 4) (ldIn arg4 harg4 x2 4) (ldIn arg5 harg5 x3 4) (ldLb arg2 harg2 arg13 x0 4) (ldCov arg11 (l_fwd4 arg2 harg2 arg3 harg3 arg4 harg4 arg5 harg5 arg11 arg13 x0 x1 x2 x3) 4))⟩ ::
    ⟨rIn 3, payOut (headOut false (ldIn arg3 harg3 x1 3) (ldIn arg4 harg4 x2 3) (ldIn arg5 harg5 x3 3) (ldLb arg2 harg2 arg13 x0 3) (ldCov arg11 (l_fwd3 arg2 harg2 arg3 harg3 arg4 harg4 arg5 harg5 arg11 arg13 x0 x1 x2 x3) 3))⟩ ::
    ⟨rIn 2, payOut (headOut false (ldIn arg3 harg3 x1 2) (ldIn arg4 harg4 x2 2) (ldIn arg5 harg5 x3 2) (ldLb arg2 harg2 arg13 x0 2) (ldCov arg11 (l_fwd2 arg2 harg2 arg3 harg3 arg4 harg4 arg5 harg5 arg11 arg13 x0 x1 x2 x3) 2))⟩ ::
    ⟨rIn 1, payOut (headOut false (ldIn arg3 harg3 x1 1) (ldIn arg4 harg4 x2 1) (ldIn arg5 harg5 x3 1) (ldLb arg2 harg2 arg13 x0 1) (ldCov arg11 (l_fwd1 arg2 harg2 arg3 harg3 arg4 harg4 arg5 harg5 arg11 arg13 x0 x1 x2 x3) 1))⟩ ::
    ⟨rIn 0, payOut (headOut false (ldIn arg3 harg3 x1 0) (ldIn arg4 harg4 x2 0) (ldIn arg5 harg5 x3 0) (ldLb arg2 harg2 arg13 x0 0) (ldCov arg11 (l_fwd0 arg2 harg2 arg3 harg3 arg4 harg4 arg5 harg5 arg11 arg13 x0 x1 x2 x3) 0))⟩ :: [] := by
  sl_kernel_rfl

theorem stA_fwd : (kernelRun0_A c i arg2 harg2 arg3 harg3 arg4 harg4 arg5 harg5 arg6 harg6 arg7 harg7 arg8 harg8 arg9 harg9 arg10 harg10 arg11 harg11 arg12 harg12 arg13 harg13 hc1 x0 x1 x2 x3 x4 x5 x6).2.2.1 =
    ⟨rSt 5, paySt (headSt false (ldIn arg4 harg4 x2 5) (ldIn arg5 harg5 x3 5) (ldLb arg2 harg2 arg13 x0 5) (ldCov arg11 (l_fwd5 arg2 harg2 arg3 harg3 arg4 harg4 arg5 harg5 arg11 arg13 x0 x1 x2 x3) 5))⟩ :: l_fwd5 arg2 harg2 arg3 harg3 arg4 harg4 arg5 harg5 arg11 arg13 x0 x1 x2 x3 := by
  sl_kernel_rfl

theorem outA_bwd : (kernelRun0_A c i arg2 harg2 arg3 harg3 arg4 harg4 arg5 harg5 arg6 harg6 arg7 harg7 arg8 harg8 arg9 harg9 arg10 harg10 arg11 harg11 arg12 harg12 arg13 harg13 hc1 x0 x1 x2 x3 x4 x5 x6).2.1 =
    ⟨rIn 5, payOut (headOut true (ldIn arg6 harg6 x4 5) (ldIn arg7 harg7 x5 5) (ldIn arg8 harg8 x6 5) (ldLb arg2 harg2 arg13 x0 5) (ldCov arg12 (l_bwd5 arg2 harg2 arg6 harg6 arg7 harg7 arg8 harg8 arg12 arg13 x0 x4 x5 x6) 5))⟩ ::
    ⟨rIn 4, payOut (headOut true (ldIn arg6 harg6 x4 4) (ldIn arg7 harg7 x5 4) (ldIn arg8 harg8 x6 4) (ldLb arg2 harg2 arg13 x0 4) (ldCov arg12 (l_bwd4 arg2 harg2 arg6 harg6 arg7 harg7 arg8 harg8 arg12 arg13 x0 x4 x5 x6) 4))⟩ ::
    ⟨rIn 3, payOut (headOut true (ldIn arg6 harg6 x4 3) (ldIn arg7 harg7 x5 3) (ldIn arg8 harg8 x6 3) (ldLb arg2 harg2 arg13 x0 3) (ldCov arg12 (l_bwd3 arg2 harg2 arg6 harg6 arg7 harg7 arg8 harg8 arg12 arg13 x0 x4 x5 x6) 3))⟩ ::
    ⟨rIn 2, payOut (headOut true (ldIn arg6 harg6 x4 2) (ldIn arg7 harg7 x5 2) (ldIn arg8 harg8 x6 2) (ldLb arg2 harg2 arg13 x0 2) (ldCov arg12 (l_bwd2 arg2 harg2 arg6 harg6 arg7 harg7 arg8 harg8 arg12 arg13 x0 x4 x5 x6) 2))⟩ ::
    ⟨rIn 1, payOut (headOut true (ldIn arg6 harg6 x4 1) (ldIn arg7 harg7 x5 1) (ldIn arg8 harg8 x6 1) (ldLb arg2 harg2 arg13 x0 1) (ldCov arg12 (l_bwd1 arg2 harg2 arg6 harg6 arg7 harg7 arg8 harg8 arg12 arg13 x0 x4 x5 x6) 1))⟩ ::
    ⟨rIn 0, payOut (headOut true (ldIn arg6 harg6 x4 0) (ldIn arg7 harg7 x5 0) (ldIn arg8 harg8 x6 0) (ldLb arg2 harg2 arg13 x0 0) (ldCov arg12 (l_bwd0 arg2 harg2 arg6 harg6 arg7 harg7 arg8 harg8 arg12 arg13 x0 x4 x5 x6) 0))⟩ :: [] := by
  sl_kernel_rfl

theorem stA_bwd : (kernelRun0_A c i arg2 harg2 arg3 harg3 arg4 harg4 arg5 harg5 arg6 harg6 arg7 harg7 arg8 harg8 arg9 harg9 arg10 harg10 arg11 harg11 arg12 harg12 arg13 harg13 hc1 x0 x1 x2 x3 x4 x5 x6).2.2.2.1 =
    ⟨rSt 5, paySt (headSt true (ldIn arg7 harg7 x5 5) (ldIn arg8 harg8 x6 5) (ldLb arg2 harg2 arg13 x0 5) (ldCov arg12 (l_bwd5 arg2 harg2 arg6 harg6 arg7 harg7 arg8 harg8 arg12 arg13 x0 x4 x5 x6) 5))⟩ :: l_bwd5 arg2 harg2 arg6 harg6 arg7 harg7 arg8 harg8 arg12 arg13 x0 x4 x5 x6 := by
  sl_kernel_rfl

end Cert.Kernel8Ideal.Scan

end
-- ==== Proof.Hgrn.Grid.lean ====
/- What every point of the grid reads, stores and carries on. -/
module

public import proofs.«01_k».proof.Proof.Gen.Kernel8Ideal.Value
public import proofs.«01_k».proof.Proof.Hgrn.Vals
public import proofs.«01_k».proof.Proof.Hgrn.PiecesA
public import proofs.«01_k».proof.Proof.Ref2Read
public import Idealize.ShloMosaic.Lib.ValueIdx
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel8Ideal.Scan

open Idealize.ShloMosaic Idealize.ShloMosaic.TcCoe Idealize.ShloMosaic.Tactic
open Idealize.ShloMosaic.Pipeline (Dat Cfg Window BodyObligation cellOf)
open Cert.Kernel8Ideal Cert.Kernel8Ideal.Gen Cert.Mix Cert.Attn

section
variable {x0 : S16x4096x4096.Idx → EReal} {x1 : S2x768.Idx → EReal}

theorem lb_at (x : S2x768.Idx → EReal) (k : Fin 768) (a c : ℝ) (h0 : x (ix2 0 k) = (a : EReal)) (h1 : x (ix2 1 k) = (c : EReal)) :
    (k0_pay3 (F := Ideal) x (ix2 0 k) : EReal) = ((lbr a c : ℝ) : EReal) := by
  pointwise [k0_pay3]
  simp only [Cert.Attn.neg_inf, fold_max_eq_sup]
  obtain ⟨M, hM⟩ := sup_two (fun q => x (ix2 q k)) a c h0 h1
  show (∑ r : Fin 2, Ideal.div (Ideal.exp (x (ix2 r k) - Finset.univ.sup fun q => x (ix2 q k))) (∑ r : Fin 2, Ideal.exp (x (ix2 r k) - Finset.univ.sup fun q => x (ix2 q k))))
    - Ideal.div (Ideal.exp (x (ix2 0 k) - Finset.univ.sup fun q => x (ix2 q k))) (∑ r : Fin 2, Ideal.exp (x (ix2 r k) - Finset.univ.sup fun q => x (ix2 q k))) = _
  rw [hM, Fin.sum_univ_two, Fin.sum_univ_two, h0, h1]
  exact soft_lb a c M

theorem ldLb_is (arg2 : Memref sig .tc .vmem S2x768 .f32) (harg2 : arg2.IsWhole) (arg13 : Memref sig .tc .vmem S1x768 .f32) (x : S2x768.Idx → EReal)
    (hx : ∀ (r : Fin 2) (l : Fin 768), x (ix2 r l) = (((at2 x1 r.val l.val).toReal : ℝ) : EReal)) (h : Fin 6) :
    Is (ldLb (F := Ideal) arg2 harg2 arg13 x h) fun _ k => LBh x1 h.val k := fun i j => by
  have hj : j.val < 128 := j.isLt
  have hh : h.val < 6 := h.isLt
  unfold ldLb
  refine (congrFun (View.readCov_fill arg13.view inb_S1x768_S1x768_0_0 _ [] (rLb h) (by decide)) (ix2 i j)).trans ?_
  have e : View.readAt (Elt Ideal) arg2.view (Rect.unit ![0, 0] S2x768.size inb_S2x768_S2x768_0_0).toLoadRect (harg2.unread x) = x := by
    rw [View.readAt_eq_ld, harg2.read_unread]
    exact funext fun y => congrArg x (funext fun a => match a with
      | ⟨0, _⟩ => Fin.ext (show 0 + 1 * (y 0).val = (y 0).val by omega)
      | ⟨1, _⟩ => Fin.ext (show 0 + 1 * (y 1).val = (y 1).val by omega))
  rw [e]
  have ei : (rLb h).idx (ix2 i j) = (ix2 0 (⟨128 * h.val + j.val, by omega⟩ : Fin 768) : S1x768.Idx) := funext fun a => match a with
    | ⟨0, _⟩ => Fin.ext (show 0 + 1 * i.val = 0 by omega)
    | ⟨1, _⟩ => Fin.ext (show 128 * h.val + 1 * j.val = 128 * h.val + j.val by omega)
  show (k0_pay3 (F := Ideal) x ((rLb h).idx (ix2 i j)) : EReal) = _
  rw [ei]
  exact lb_at x _ _ _ (hx 0 _) (hx 1 _)

theorem ldIn_is (arg : Memref sig .tc .vmem S1x256x768 .bf16) (harg : arg.IsWhole) (x : S1x256x768.Idx → EReal) {X : ℕ → ℕ → ℝ}
    (hx : ∀ (r : Fin 256) (l : Fin 768), x (ix3 0 r l) = ((X r.val l.val : ℝ) : EReal)) (h : Fin 6) :
    Is (ldIn (F := Ideal) arg harg x h) fun r k => X r (128 * h.val + k) := fun i j => by
  have hj : j.val < 128 := j.isLt
  have hh : h.val < 6 := h.isLt
  unfold ldIn
  rw [View.readAt_eq_ld, harg.read_unread]
  refine (shapeCast_apply (View.ld (Val := Elt Ideal) (e' := .bf16) x (rIn h)) shapeCasts_S1x256x128_S256x128 (ix2 i j) (ix3 0 i j) ?_).trans ?_
  · rewrite [Shape.rowMajor_val_two, Shape.rowMajor_val_three]
    show (0 * 256 + i.val) * 128 + j.val = i.val * 128 + j.val
    omega
  · have e : (rIn h).idx (ix3 0 i j) = (ix3 0 i (⟨128 * h.val + j.val, by omega⟩ : Fin 768) : S1x256x768.Idx) := funext fun a => match a with
      | ⟨0, _⟩ => Fin.ext (show 0 + 1 * 0 = 0 by omega)
      | ⟨1, _⟩ => Fin.ext (show 0 + 1 * i.val = i.val by omega)
      | ⟨2, _⟩ => Fin.ext (show 128 * h.val + 1 * j.val = 128 * h.val + j.val by omega)
    show x ((rIn h).idx (ix3 0 i j)) = _
    rw [e]
    exact hx i ⟨128 * h.val + j.val, by omega⟩

/-- A state over every head. -/
def StIs (x : S6x128x128.Idx → EReal) (R : ℕ → ℕ → ℕ → ℝ) : Prop := ∀ (h : Fin 6) (a b : Fin 128), x (ix3 h a b) = ((R h.val a.val b.val : ℝ) : EReal)

theorem stIn_is (x : S6x128x128.Idx → EReal) {R : ℕ → ℕ → ℕ → ℝ} (hx : StIs x R) (h : Fin 6) : Is (stIn (F := Ideal) (View.ld (Val := Elt Ideal) (e' := .f32) x (rSt h))) (R h.val) := fun i j => by
  unfold stIn
  refine (shapeCast_apply (View.ld (Val := Elt Ideal) (e' := .f32) x (rSt h)) shapeCasts_S1x128x128_S128x128 (ix2 i j) (ix3 0 i j) ?_).trans ?_
  · rewrite [Shape.rowMajor_val_two, Shape.rowMajor_val_three]
    show (0 * 128 + i.val) * 128 + j.val = i.val * 128 + j.val
    omega
  · have e : (rSt h).idx (ix3 0 i j) = (ix3 h i j : S6x128x128.Idx) := funext fun a => match a with
      | ⟨0, _⟩ => Fin.ext (show h.val + 1 * 0 = h.val by omega)
      | ⟨1, _⟩ => Fin.ext (show 0 + 1 * i.val = i.val by omega)
      | ⟨2, _⟩ => Fin.ext (show 0 + 1 * j.val = j.val by omega)
    show x ((rSt h).idx (ix3 0 i j)) = _
    rw [e]
    exact hx h i j

theorem ldSt_is (arg : Memref sig .tc .vmem S6x128x128 .f32) (harg : arg.IsWhole) (x : S6x128x128.Idx → EReal) {R : ℕ → ℕ → ℕ → ℝ} (hx : StIs x R) (h : Fin 6) :
    Is (ldSt (F := Ideal) arg harg x h) (R h.val) := by
  unfold ldSt
  rw [View.readAt_eq_ld, harg.read_unread]
  exact stIn_is x hx h

theorem ldCov_zero (arg : Memref sig .tc .vmem S6x128x128 .f32) (h : Fin 6) : Is (ldCov (F := Ideal) arg zL h) fun _ _ => 0 := by
  unfold ldCov
  rw [View.readCov_fill arg.view inb_S6x128x128_S6x128x128_0_0_0 _ [] (rSt h) (by decide)]
  exact stIn_is _ (R := fun _ _ _ => 0) (fun _ _ _ => Cert.Ref2.zero_f32.trans EReal.coe_zero.symm) h

theorem rSt_disj : ∀ h h' : Fin 6, h' ≠ h → LoadRect.disj (rSt h') (rSt h).toLoadRect = true := by decide +kernel

theorem ldCov_skip (arg : Memref sig .tc .vmem S6x128x128 .f32) (L : List (View.Piece (Elt Ideal) S6x128x128 .f32)) (h h' : Fin 6) (hne : h' ≠ h)
    (w : S1x128x128.Idx → EReal) {X : ℕ → ℕ → ℝ} (H : Is (ldCov (F := Ideal) arg L h) X) : Is (ldCov (F := Ideal) arg (⟨rSt h', w⟩ :: L) h) X := by
  unfold ldCov at H ⊢
  rw [View.readCov_skip arg.view (rSt h') w L _ (rSt_disj h h' hne)]
  exact H

theorem ST_zero (F V : ℕ → ℕ → ℝ) : ST F V 0 = fun _ _ => 0 := by
  funext d k
  exact Finset.sum_range_zero _

/-- A block of a result, head by head. -/
def outG (R : ℕ → ℕ → ℕ → ℝ) : S1x256x768.Idx → EReal := fun y => ((R ((y 2).val / 128) (y 1).val ((y 2).val % 128) : ℝ) : EReal)
def stG (R : ℕ → ℕ → ℕ → ℝ) : S6x128x128.Idx → EReal := fun y => ((R (y 0).val (y 1).val (y 2).val : ℝ) : EReal)

theorem pieceOut (R : ℕ → ℕ → ℕ → ℝ) (h : Fin 6) {Y : FVec Ideal S256x128 .f32} (hY : Is Y (R h.val)) (x : S1x256x128.Idx) :
    (payOut (F := Ideal) Y x : EReal) = outG R ((rIn h).emb x) := by
  have x0 : (x 0).val < 1 := (x 0).isLt
  have x2 : (x 2).val < 128 := (x 2).isLt
  unfold payOut
  refine (shapeCast_apply _ shapeCasts_S256x128_S1x256x128 x (ix2 (x 1) (x 2)) ?_).trans ?_
  · rewrite [Shape.rowMajor_val_two, Shape.rowMajor_val_three]
    show (x 1).val * 128 + (x 2).val = ((x 0).val * 256 + (x 1).val) * 128 + (x 2).val
    omega
  · refine (hY (x 1) (x 2)).trans ?_
    have e1 : ((rIn h).emb x 1).val = (x 1).val := show 0 + 1 * (x 1).val = (x 1).val by omega
    have e2 : ((rIn h).emb x 2).val = 128 * h.val + (x 2).val := show 128 * h.val + 1 * (x 2).val = 128 * h.val + (x 2).val by omega
    unfold outG
    rw [e1, e2, show (128 * h.val + (x 2).val) / 128 = h.val by omega, show (128 * h.val + (x 2).val) % 128 = (x 2).val by omega]

theorem pieceSt (R : ℕ → ℕ → ℕ → ℝ) (h : Fin 6) {Y : FVec Ideal S128x128 .f32} (hY : Is Y (R h.val)) (x : S1x128x128.Idx) :
    (paySt (F := Ideal) Y x : EReal) = stG R ((rSt h).emb x) := by
  have x0 : (x 0).val < 1 := (x 0).isLt
  unfold paySt
  refine (shapeCast_apply _ shapeCasts_S128x128_S1x128x128 x (ix2 (x 1) (x 2)) ?_).trans ?_
  · rewrite [Shape.rowMajor_val_two, Shape.rowMajor_val_three]
    show (x 1).val * 128 + (x 2).val = ((x 0).val * 128 + (x 1).val) * 128 + (x 2).val
    omega
  · refine (hY (x 1) (x 2)).trans ?_
    have e0 : ((rSt h).emb x 0).val = h.val := show h.val + 1 * (x 0).val = h.val by omega
    have e1 : ((rSt h).emb x 1).val = (x 1).val := show 0 + 1 * (x 1).val = (x 1).val by omega
    have e2 : ((rSt h).emb x 2).val = (x 2).val := show 0 + 1 * (x 2).val = (x 2).val by omega
    unfold stG
    rw [e0, e1, e2]

abbrev outL (Y0 Y1 Y2 Y3 Y4 Y5 : FVec Ideal S256x128 .f32) : List (View.Piece (Elt Ideal) S1x256x768 .bf16) :=
  ⟨rIn 5, payOut Y5⟩ :: ⟨rIn 4, payOut Y4⟩ :: ⟨rIn 3, payOut Y3⟩ :: ⟨rIn 2, payOut Y2⟩ :: ⟨rIn 1, payOut Y1⟩ :: ⟨rIn 0, payOut Y0⟩ :: []
abbrev stL (Y0 Y1 Y2 Y3 Y4 Y5 : FVec Ideal S128x128 .f32) : List (View.Piece (Elt Ideal) S6x128x128 .f32) :=
  ⟨rSt 5, paySt Y5⟩ :: ⟨rSt 4, paySt Y4⟩ :: ⟨rSt 3, paySt Y3⟩ :: ⟨rSt 2, paySt Y2⟩ :: ⟨rSt 1, paySt Y1⟩ :: ⟨rSt 0, paySt Y0⟩ :: []

theorem canon_out (R : ℕ → ℕ → ℕ → ℝ) {Y0 Y1 Y2 Y3 Y4 Y5 : FVec Ideal S256x128 .f32} (h0 : Is Y0 (R 0)) (h1 : Is Y1 (R 1)) (h2 : Is Y2 (R 2)) (h3 : Is Y3 (R 3))
    (h4 : Is Y4 (R 4)) (h5 : Is Y5 (R 5)) : View.canon (outL Y0 Y1 Y2 Y3 Y4 Y5) = outG R := funext fun y => by
  have hp : View.PiecesOf (Val := Elt Ideal) (e := .bf16) (outG R) (outL Y0 Y1 Y2 Y3 Y4 Y5) :=
    ⟨pieceOut R 5 h5, pieceOut R 4 h4, pieceOut R 3 h3, pieceOut R 2 h2, pieceOut R 1 h1, pieceOut R 0 h0, trivial⟩
  exact View.canon_apply_of_pieces (outG R) _ hp.mem y (View.cover_of_tiledL (outL Y0 Y1 Y2 Y3 Y4 Y5) S1x256x128.size (by sl_kernel_rfl) y)

theorem canon_st (R : ℕ → ℕ → ℕ → ℝ) (L : List (View.Piece (Elt Ideal) S6x128x128 .f32)) {Y0 Y1 Y2 Y3 Y4 Y5 : FVec Ideal S128x128 .f32} (h0 : Is Y0 (R 0)) (h1 : Is Y1 (R 1)) (h2 : Is Y2 (R 2)) (h3 : Is Y3 (R 3))
    (h4 : Is Y4 (R 4)) (h5 : Is Y5 (R 5)) : StIs (View.canon (stL Y0 Y1 Y2 Y3 Y4 Y5 ++ L)) R := fun h a b => by
  have hp : View.PiecesOf (Val := Elt Ideal) (e := .f32) (stG R) (stL Y0 Y1 Y2 Y3 Y4 Y5) :=
    ⟨pieceSt R 5 h5, pieceSt R 4 h4, pieceSt R 3 h3, pieceSt R 2 h2, pieceSt R 1 h1, pieceSt R 0 h0, trivial⟩
  exact View.canon_append_of_piecesOf (stG R) L _ hp _ (View.cover_of_tiledL (stL Y0 Y1 Y2 Y3 Y4 Y5) S1x128x128.size (by sl_kernel_rfl) _)

end

variable (m : (ℓ : Loc nD τ sig) → Buf (Elt Ideal) ℓ)

theorem index0 : ∀ t : Fin grid0.N, win0_0.index t = ![0, 0] := by decide +kernel

theorem index1 : ∀ t : Fin grid0.N, win0_1.index t = ![t.val / 16, t.val % 16, 0] := by decide +kernel

theorem index2 : ∀ t : Fin grid0.N, win0_2.index t = ![t.val / 16, t.val % 16, 1] := by decide +kernel

theorem index3 : ∀ t : Fin grid0.N, win0_3.index t = ![t.val / 16, t.val % 16, 3] := by decide +kernel

theorem index4 : ∀ t : Fin grid0.N, win0_4.index t = ![t.val / 16, 15 - t.val % 16, 0] := by decide +kernel

theorem index5 : ∀ t : Fin grid0.N, win0_5.index t = ![t.val / 16, 15 - t.val % 16, 2] := by decide +kernel

theorem index6 : ∀ t : Fin grid0.N, win0_6.index t = ![t.val / 16, 15 - t.val % 16, 3] := by decide +kernel

theorem index7 : ∀ t : Fin grid0.N, win0_7.index t = ![t.val / 16, t.val % 16, 0] := by decide +kernel

theorem index8 : ∀ t : Fin grid0.N, win0_8.index t = ![t.val / 16, 15 - t.val % 16, 0] := by decide +kernel

theorem blk1 (c : Dev nD) (t : Fin cfg0.N) (r : Fin 256) (l : Fin 768) :
    (X0_1 m c t (ix3 0 r l : S1x256x768.Idx) : EReal) = at3 (m ((c : Thread nD τ).loc main_arg0)) (t.val / 16) (t.val % 16 * 256 + r.val) l.val := by
  unfold X0_1 Pipeline.Window.fill
  refine (dif_pos (moved0_1 t _)).trans ?_
  unfold iblk
  refine at3_of (m ((c : Thread nD τ).loc main_arg0)) _ ?_ ?_ ?_
  · blk_simp [index1 t]; rfl
  · blk_simp [index1 t]
  · blk_simp [index1 t]

theorem blk2 (c : Dev nD) (t : Fin cfg0.N) (r : Fin 256) (l : Fin 768) :
    (X0_2 m c t (ix3 0 r l : S1x256x768.Idx) : EReal) = at3 (m ((c : Thread nD τ).loc main_arg0)) (t.val / 16) (t.val % 16 * 256 + r.val) (768 + l.val) := by
  unfold X0_2 Pipeline.Window.fill
  refine (dif_pos (moved0_2 t _)).trans ?_
  unfold iblk
  refine at3_of (m ((c : Thread nD τ).loc main_arg0)) _ ?_ ?_ ?_
  · blk_simp [index2 t]; rfl
  · blk_simp [index2 t]
  · blk_simp [index2 t]

theorem blk3 (c : Dev nD) (t : Fin cfg0.N) (r : Fin 256) (l : Fin 768) :
    (X0_3 m c t (ix3 0 r l : S1x256x768.Idx) : EReal) = at3 (m ((c : Thread nD τ).loc main_arg0)) (t.val / 16) (t.val % 16 * 256 + r.val) (2304 + l.val) := by
  unfold X0_3 Pipeline.Window.fill
  refine (dif_pos (moved0_3 t _)).trans ?_
  unfold iblk
  refine at3_of (m ((c : Thread nD τ).loc main_arg0)) _ ?_ ?_ ?_
  · blk_simp [index3 t]; rfl
  · blk_simp [index3 t]
  · blk_simp [index3 t]

theorem blk4 (c : Dev nD) (t : Fin cfg0.N) (r : Fin 256) (l : Fin 768) :
    (X0_4 m c t (ix3 0 r l : S1x256x768.Idx) : EReal) = at3 (m ((c : Thread nD τ).loc main_arg0)) (t.val / 16) ((15 - t.val % 16) * 256 + r.val) l.val := by
  unfold X0_4 Pipeline.Window.fill
  refine (dif_pos (moved0_4 t _)).trans ?_
  unfold iblk
  refine at3_of (m ((c : Thread nD τ).loc main_arg0)) _ ?_ ?_ ?_
  · blk_simp [index4 t]; rfl
  · blk_simp [index4 t]
  · blk_simp [index4 t]

theorem blk5 (c : Dev nD) (t : Fin cfg0.N) (r : Fin 256) (l : Fin 768) :
    (X0_5 m c t (ix3 0 r l : S1x256x768.Idx) : EReal) = at3 (m ((c : Thread nD τ).loc main_arg0)) (t.val / 16) ((15 - t.val % 16) * 256 + r.val) (1536 + l.val) := by
  unfold X0_5 Pipeline.Window.fill
  refine (dif_pos (moved0_5 t _)).trans ?_
  unfold iblk
  refine at3_of (m ((c : Thread nD τ).loc main_arg0)) _ ?_ ?_ ?_
  · blk_simp [index5 t]; rfl
  · blk_simp [index5 t]
  · blk_simp [index5 t]

theorem blk6 (c : Dev nD) (t : Fin cfg0.N) (r : Fin 256) (l : Fin 768) :
    (X0_6 m c t (ix3 0 r l : S1x256x768.Idx) : EReal) = at3 (m ((c : Thread nD τ).loc main_arg0)) (t.val / 16) ((15 - t.val % 16) * 256 + r.val) (2304 + l.val) := by
  unfold X0_6 Pipeline.Window.fill
  refine (dif_pos (moved0_6 t _)).trans ?_
  unfold iblk
  refine at3_of (m ((c : Thread nD τ).loc main_arg0)) _ ?_ ?_ ?_
  · blk_simp [index6 t]; rfl
  · blk_simp [index6 t]
  · blk_simp [index6 t]

theorem blk0 (c : Dev nD) (t : Fin cfg0.N) (r : Fin 2) (l : Fin 768) :
    (iblk m c 0 t (ix2 r l : S2x768.Idx) : EReal) = at2 (m ((c : Thread nD τ).loc main_arg1)) r.val l.val := by
  unfold iblk
  refine at2_of (m ((c : Thread nD τ).loc main_arg1)) _ ?_ ?_
  · blk_simp [index0 t]
  · blk_simp [index0 t]

theorem lt_N (t : Fin cfg0.N) : t.val < 256 := t.isLt.trans_eq N_0

theorem in1 (c : Dev nD) (hx : ∀ b t k, k < 3072 → Fin' (at3 (m ((c : Thread nD τ).loc main_arg0)) b t k)) (t : Fin cfg0.N) (arg : Memref sig .tc .vmem S1x256x768 .bf16) (harg : arg.IsWhole) (h : Fin 6) :
    Is (ldIn (F := Ideal) arg harg (X0_1 m c t) h) (Ph (256 * (t.val % 16)) false (Sq (m ((c : Thread nD τ).loc main_arg0)) false (t.val / 16) 0 h.val)) :=
  (ldIn_is arg harg _ (X := fun r l => (at3 (m ((c : Thread nD τ).loc main_arg0)) (t.val / 16) (t.val % 16 * 256 + r) l).toReal)
    (fun r l => (blk1 m c t r l).trans (hx _ _ _ (by have := l.isLt; omega)).coe.symm) h).congr fun i j hi hj => by
      have e : t.val % 16 * 256 + i = lg 4096 false (256 * (t.val % 16) + lg 256 false i) := by
        simp only [lg, cond_true, cond_false]; omega
      simp only [Ph, Sq, ← e, Nat.zero_add]

theorem in2 (c : Dev nD) (hx : ∀ b t k, k < 3072 → Fin' (at3 (m ((c : Thread nD τ).loc main_arg0)) b t k)) (t : Fin cfg0.N) (arg : Memref sig .tc .vmem S1x256x768 .bf16) (harg : arg.IsWhole) (h : Fin 6) :
    Is (ldIn (F := Ideal) arg harg (X0_2 m c t) h) (Ph (256 * (t.val % 16)) false (Sq (m ((c : Thread nD τ).loc main_arg0)) false (t.val / 16) 768 h.val)) :=
  (ldIn_is arg harg _ (X := fun r l => (at3 (m ((c : Thread nD τ).loc main_arg0)) (t.val / 16) (t.val % 16 * 256 + r) (768 + l)).toReal)
    (fun r l => (blk2 m c t r l).trans (hx _ _ _ (by have := l.isLt; omega)).coe.symm) h).congr fun i j hi hj => by
      have e : t.val % 16 * 256 + i = lg 4096 false (256 * (t.val % 16) + lg 256 false i) := by
        simp only [lg, cond_true, cond_false]; omega
      simp only [Ph, Sq, ← e]

theorem in3 (c : Dev nD) (hx : ∀ b t k, k < 3072 → Fin' (at3 (m ((c : Thread nD τ).loc main_arg0)) b t k)) (t : Fin cfg0.N) (arg : Memref sig .tc .vmem S1x256x768 .bf16) (harg : arg.IsWhole) (h : Fin 6) :
    Is (ldIn (F := Ideal) arg harg (X0_3 m c t) h) (Ph (256 * (t.val % 16)) false (Sq (m ((c : Thread nD τ).loc main_arg0)) false (t.val / 16) 2304 h.val)) :=
  (ldIn_is arg harg _ (X := fun r l => (at3 (m ((c : Thread nD τ).loc main_arg0)) (t.val / 16) (t.val % 16 * 256 + r) (2304 + l)).toReal)
    (fun r l => (blk3 m c t r l).trans (hx _ _ _ (by have := l.isLt; omega)).coe.symm) h).congr fun i j hi hj => by
      have e : t.val % 16 * 256 + i = lg 4096 false (256 * (t.val % 16) + lg 256 false i) := by
        simp only [lg, cond_true, cond_false]; omega
      simp only [Ph, Sq, ← e]

theorem in4 (c : Dev nD) (hx : ∀ b t k, k < 3072 → Fin' (at3 (m ((c : Thread nD τ).loc main_arg0)) b t k)) (t : Fin cfg0.N) (arg : Memref sig .tc .vmem S1x256x768 .bf16) (harg : arg.IsWhole) (h : Fin 6) :
    Is (ldIn (F := Ideal) arg harg (X0_4 m c t) h) (Ph (256 * (t.val % 16)) true (Sq (m ((c : Thread nD τ).loc main_arg0)) true (t.val / 16) 0 h.val)) :=
  (ldIn_is arg harg _ (X := fun r l => (at3 (m ((c : Thread nD τ).loc main_arg0)) (t.val / 16) ((15 - t.val % 16) * 256 + r) l).toReal)
    (fun r l => (blk4 m c t r l).trans (hx _ _ _ (by have := l.isLt; omega)).coe.symm) h).congr fun i j hi hj => by
      have e : (15 - t.val % 16) * 256 + i = lg 4096 true (256 * (t.val % 16) + lg 256 true i) := by
        simp only [lg, cond_true, cond_false]; omega
      simp only [Ph, Sq, ← e, Nat.zero_add]

theorem in5 (c : Dev nD) (hx : ∀ b t k, k < 3072 → Fin' (at3 (m ((c : Thread nD τ).loc main_arg0)) b t k)) (t : Fin cfg0.N) (arg : Memref sig .tc .vmem S1x256x768 .bf16) (harg : arg.IsWhole) (h : Fin 6) :
    Is (ldIn (F := Ideal) arg harg (X0_5 m c t) h) (Ph (256 * (t.val % 16)) true (Sq (m ((c : Thread nD τ).loc main_arg0)) true (t.val / 16) 1536 h.val)) :=
  (ldIn_is arg harg _ (X := fun r l => (at3 (m ((c : Thread nD τ).loc main_arg0)) (t.val / 16) ((15 - t.val % 16) * 256 + r) (1536 + l)).toReal)
    (fun r l => (blk5 m c t r l).trans (hx _ _ _ (by have := l.isLt; omega)).coe.symm) h).congr fun i j hi hj => by
      have e : (15 - t.val % 16) * 256 + i = lg 4096 true (256 * (t.val % 16) + lg 256 true i) := by
        simp only [lg, cond_true, cond_false]; omega
      simp only [Ph, Sq, ← e]

theorem in6 (c : Dev nD) (hx : ∀ b t k, k < 3072 → Fin' (at3 (m ((c : Thread nD τ).loc main_arg0)) b t k)) (t : Fin cfg0.N) (arg : Memref sig .tc .vmem S1x256x768 .bf16) (harg : arg.IsWhole) (h : Fin 6) :
    Is (ldIn (F := Ideal) arg harg (X0_6 m c t) h) (Ph (256 * (t.val % 16)) true (Sq (m ((c : Thread nD τ).loc main_arg0)) true (t.val / 16) 2304 h.val)) :=
  (ldIn_is arg harg _ (X := fun r l => (at3 (m ((c : Thread nD τ).loc main_arg0)) (t.val / 16) ((15 - t.val % 16) * 256 + r) (2304 + l)).toReal)
    (fun r l => (blk6 m c t r l).trans (hx _ _ _ (by have := l.isLt; omega)).coe.symm) h).congr fun i j hi hj => by
      have e : (15 - t.val % 16) * 256 + i = lg 4096 true (256 * (t.val % 16) + lg 256 true i) := by
        simp only [lg, cond_true, cond_false]; omega
      simp only [Ph, Sq, ← e]

theorem in0 (c : Dev nD) (hl : ∀ r k, Fin' (at2 (m ((c : Thread nD τ).loc main_arg1)) r k)) (t : Fin cfg0.N) (arg2 : Memref sig .tc .vmem S2x768 .f32) (harg2 : arg2.IsWhole) (arg13 : Memref sig .tc .vmem S1x768 .f32) (h : Fin 6) :
    Is (ldLb (F := Ideal) arg2 harg2 arg13 (iblk m c 0 t) h) fun _ k => LBh (m ((c : Thread nD τ).loc main_arg1)) h.val k :=
  ldLb_is arg2 harg2 arg13 _ (fun r l => (blk0 m c t r l).trans (hl _ _).coe.symm) h

/-- The state of every head before a time, and the result of every head at a block. -/
def Rs_fwd (c : Dev nD) (b n : ℕ) : ℕ → ℕ → ℕ → ℝ := fun h => ST (gate (LBh (m ((c : Thread nD τ).loc main_arg1)) h) (Sq (m ((c : Thread nD τ).loc main_arg0)) false b 768 h)) (Sq (m ((c : Thread nD τ).loc main_arg0)) false b 2304 h) n
def Ro_fwd (c : Dev nD) (b n : ℕ) : ℕ → ℕ → ℕ → ℝ := fun h => Ph n false (OUT (swish (Sq (m ((c : Thread nD τ).loc main_arg0)) false b 0 h)) (gate (LBh (m ((c : Thread nD τ).loc main_arg1)) h) (Sq (m ((c : Thread nD τ).loc main_arg0)) false b 768 h)) (Sq (m ((c : Thread nD τ).loc main_arg0)) false b 2304 h))

theorem Rs_fwd_zero (c : Dev nD) (b h : ℕ) : Rs_fwd m c b 0 h = fun _ _ => 0 := ST_zero _ _

/-- The state of every head before a time, and the result of every head at a block. -/
def Rs_bwd (c : Dev nD) (b n : ℕ) : ℕ → ℕ → ℕ → ℝ := fun h => ST (gate (LBh (m ((c : Thread nD τ).loc main_arg1)) h) (Sq (m ((c : Thread nD τ).loc main_arg0)) true b 1536 h)) (Sq (m ((c : Thread nD τ).loc main_arg0)) true b 2304 h) n
def Ro_bwd (c : Dev nD) (b n : ℕ) : ℕ → ℕ → ℕ → ℝ := fun h => Ph n true (OUT (swish (Sq (m ((c : Thread nD τ).loc main_arg0)) true b 0 h)) (gate (LBh (m ((c : Thread nD τ).loc main_arg1)) h) (Sq (m ((c : Thread nD τ).loc main_arg0)) true b 1536 h)) (Sq (m ((c : Thread nD τ).loc main_arg0)) true b 2304 h))

theorem Rs_bwd_zero (c : Dev nD) (b h : ℕ) : Rs_bwd m c b 0 h = fun _ _ => 0 := ST_zero _ _

section
variable (c : Dev nD) (hx : ∀ b t k, k < 3072 → Fin' (at3 (m ((c : Thread nD τ).loc main_arg0)) b t k)) (hl : ∀ r k, Fin' (at2 (m ((c : Thread nD τ).loc main_arg1)) r k)) (t : Fin cfg0.N)
include hx hl

theorem ho_fwd (arg2 : Memref sig .tc .vmem S2x768 .f32) (harg2 : arg2.IsWhole) (a b d : Memref sig .tc .vmem S1x256x768 .bf16) (ha : a.IsWhole) (hb : b.IsWhole) (hd : d.IsWhole) (arg13 : Memref sig .tc .vmem S1x768 .f32) (h : Fin 6) {st : FVec Ideal S128x128 .f32} (hs : Is st (Rs_fwd m c (t.val / 16) (256 * (t.val % 16)) h.val)) :
    Is (headOut (F := Ideal) false (ldIn a ha (X0_1 m c t) h) (ldIn b hb (X0_2 m c t) h) (ldIn d hd (X0_3 m c t) h) (ldLb arg2 harg2 arg13 (iblk m c 0 t) h) st) (Ro_fwd m c (t.val / 16) (256 * (t.val % 16)) h.val) :=
  headOut_is (Nat.mul_mod_right _ _) (LBh_pos _ _) (in1 m c hx t a ha h) (in2 m c hx t b hb h) (in3 m c hx t d hd h) (in0 m c hl t arg2 harg2 arg13 h) hs

theorem hs_fwd (arg2 : Memref sig .tc .vmem S2x768 .f32) (harg2 : arg2.IsWhole) (a b d : Memref sig .tc .vmem S1x256x768 .bf16) (ha : a.IsWhole) (hb : b.IsWhole) (hd : d.IsWhole) (arg13 : Memref sig .tc .vmem S1x768 .f32) (h : Fin 6) {st : FVec Ideal S128x128 .f32} (hs : Is st (Rs_fwd m c (t.val / 16) (256 * (t.val % 16)) h.val)) :
    Is (headSt (F := Ideal) false (ldIn b hb (X0_2 m c t) h) (ldIn d hd (X0_3 m c t) h) (ldLb arg2 harg2 arg13 (iblk m c 0 t) h) st) (Rs_fwd m c (t.val / 16) (256 * (t.val % 16) + 256) h.val) :=
  headSt_is (Nat.mul_mod_right _ _) (LBh_pos _ _) (in2 m c hx t b hb h) (in3 m c hx t d hd h) (in0 m c hl t arg2 harg2 arg13 h) hs

theorem ho_bwd (arg2 : Memref sig .tc .vmem S2x768 .f32) (harg2 : arg2.IsWhole) (a b d : Memref sig .tc .vmem S1x256x768 .bf16) (ha : a.IsWhole) (hb : b.IsWhole) (hd : d.IsWhole) (arg13 : Memref sig .tc .vmem S1x768 .f32) (h : Fin 6) {st : FVec Ideal S128x128 .f32} (hs : Is st (Rs_bwd m c (t.val / 16) (256 * (t.val % 16)) h.val)) :
    Is (headOut (F := Ideal) true (ldIn a ha (X0_4 m c t) h) (ldIn b hb (X0_5 m c t) h) (ldIn d hd (X0_6 m c t) h) (ldLb arg2 harg2 arg13 (iblk m c 0 t) h) st) (Ro_bwd m c (t.val / 16) (256 * (t.val % 16)) h.val) :=
  headOut_is (Nat.mul_mod_right _ _) (LBh_pos _ _) (in4 m c hx t a ha h) (in5 m c hx t b hb h) (in6 m c hx t d hd h) (in0 m c hl t arg2 harg2 arg13 h) hs

theorem hs_bwd (arg2 : Memref sig .tc .vmem S2x768 .f32) (harg2 : arg2.IsWhole) (a b d : Memref sig .tc .vmem S1x256x768 .bf16) (ha : a.IsWhole) (hb : b.IsWhole) (hd : d.IsWhole) (arg13 : Memref sig .tc .vmem S1x768 .f32) (h : Fin 6) {st : FVec Ideal S128x128 .f32} (hs : Is st (Rs_bwd m c (t.val / 16) (256 * (t.val % 16)) h.val)) :
    Is (headSt (F := Ideal) true (ldIn b hb (X0_5 m c t) h) (ldIn d hd (X0_6 m c t) h) (ldLb arg2 harg2 arg13 (iblk m c 0 t) h) st) (Rs_bwd m c (t.val / 16) (256 * (t.val % 16) + 256) h.val) :=
  headSt_is (Nat.mul_mod_right _ _) (LBh_pos _ _) (in5 m c hx t b hb h) (in6 m c hx t d hd h) (in0 m c hl t arg2 harg2 arg13 h) hs

theorem oA_fwd (h0 : t.val % 16 = 0) : out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (X0_1 m c t) (X0_2 m c t) (X0_3 m c t) (X0_4 m c t) (X0_5 m c t) (X0_6 m c t) = outG (Ro_fwd m c (t.val / 16) (256 * (t.val % 16))) := by
  have e0 : ∀ h : ℕ, Rs_fwd m c (t.val / 16) (256 * (t.val % 16)) h = fun _ _ => 0 := fun h => by
    rw [h0]; exact Rs_fwd_zero m c _ h
  unfold out0_A_7
  rw [View.read_writes_junk_eq_canon, outA_fwd]
  exact canon_out (Ro_fwd m c (t.val / 16) (256 * (t.val % 16))) (ho_fwd m c hx hl t (ms0_0 t) (hs0_0 t) (ms0_1 t) (ms0_2 t) (ms0_3 t) (hs0_1 t) (hs0_2 t) (hs0_3 t) scM0_2 0 ((congrArg (Is _) (e0 0)).mpr (ldCov_zero scM0_0 0))) (ho_fwd m c hx hl t (ms0_0 t) (hs0_0 t) (ms0_1 t) (ms0_2 t) (ms0_3 t) (hs0_1 t) (hs0_2 t) (hs0_3 t) scM0_2 1 ((congrArg (Is _) (e0 1)).mpr (ldCov_skip scM0_0 _ 1 0 (by decide) _ (ldCov_zero scM0_0 1)))) (ho_fwd m c hx hl t (ms0_0 t) (hs0_0 t) (ms0_1 t) (ms0_2 t) (ms0_3 t) (hs0_1 t) (hs0_2 t) (hs0_3 t) scM0_2 2 ((congrArg (Is _) (e0 2)).mpr (ldCov_skip scM0_0 _ 2 1 (by decide) _ (ldCov_skip scM0_0 _ 2 0 (by decide) _ (ldCov_zero scM0_0 2))))) (ho_fwd m c hx hl t (ms0_0 t) (hs0_0 t) (ms0_1 t) (ms0_2 t) (ms0_3 t) (hs0_1 t) (hs0_2 t) (hs0_3 t) scM0_2 3 ((congrArg (Is _) (e0 3)).mpr (ldCov_skip scM0_0 _ 3 2 (by decide) _ (ldCov_skip scM0_0 _ 3 1 (by decide) _ (ldCov_skip scM0_0 _ 3 0 (by decide) _ (ldCov_zero scM0_0 3)))))) (ho_fwd m c hx hl t (ms0_0 t) (hs0_0 t) (ms0_1 t) (ms0_2 t) (ms0_3 t) (hs0_1 t) (hs0_2 t) (hs0_3 t) scM0_2 4 ((congrArg (Is _) (e0 4)).mpr (ldCov_skip scM0_0 _ 4 3 (by decide) _ (ldCov_skip scM0_0 _ 4 2 (by decide) _ (ldCov_skip scM0_0 _ 4 1 (by decide) _ (ldCov_skip scM0_0 _ 4 0 (by decide) _ (ldCov_zero scM0_0 4))))))) (ho_fwd m c hx hl t (ms0_0 t) (hs0_0 t) (ms0_1 t) (ms0_2 t) (ms0_3 t) (hs0_1 t) (hs0_2 t) (hs0_3 t) scM0_2 5 ((congrArg (Is _) (e0 5)).mpr (ldCov_skip scM0_0 _ 5 4 (by decide) _ (ldCov_skip scM0_0 _ 5 3 (by decide) _ (ldCov_skip scM0_0 _ 5 2 (by decide) _ (ldCov_skip scM0_0 _ 5 1 (by decide) _ (ldCov_skip scM0_0 _ 5 0 (by decide) _ (ldCov_zero scM0_0 5))))))))

theorem sA_fwd (h0 : t.val % 16 = 0) : StIs (sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (X0_1 m c t) (X0_2 m c t) (X0_3 m c t) (X0_4 m c t) (X0_5 m c t) (X0_6 m c t)) (Rs_fwd m c (t.val / 16) (256 * (t.val % 16) + 256)) := by
  have e0 : ∀ h : ℕ, Rs_fwd m c (t.val / 16) (256 * (t.val % 16)) h = fun _ _ => 0 := fun h => by
    rw [h0]; exact Rs_fwd_zero m c _ h
  unfold sout0_A_0
  rw [View.read_writes_junk_eq_canon, stA_fwd]
  exact canon_st (Rs_fwd m c (t.val / 16) (256 * (t.val % 16) + 256)) zL (hs_fwd m c hx hl t (ms0_0 t) (hs0_0 t) (ms0_1 t) (ms0_2 t) (ms0_3 t) (hs0_1 t) (hs0_2 t) (hs0_3 t) scM0_2 0 ((congrArg (Is _) (e0 0)).mpr (ldCov_zero scM0_0 0))) (hs_fwd m c hx hl t (ms0_0 t) (hs0_0 t) (ms0_1 t) (ms0_2 t) (ms0_3 t) (hs0_1 t) (hs0_2 t) (hs0_3 t) scM0_2 1 ((congrArg (Is _) (e0 1)).mpr (ldCov_skip scM0_0 _ 1 0 (by decide) _ (ldCov_zero scM0_0 1)))) (hs_fwd m c hx hl t (ms0_0 t) (hs0_0 t) (ms0_1 t) (ms0_2 t) (ms0_3 t) (hs0_1 t) (hs0_2 t) (hs0_3 t) scM0_2 2 ((congrArg (Is _) (e0 2)).mpr (ldCov_skip scM0_0 _ 2 1 (by decide) _ (ldCov_skip scM0_0 _ 2 0 (by decide) _ (ldCov_zero scM0_0 2))))) (hs_fwd m c hx hl t (ms0_0 t) (hs0_0 t) (ms0_1 t) (ms0_2 t) (ms0_3 t) (hs0_1 t) (hs0_2 t) (hs0_3 t) scM0_2 3 ((congrArg (Is _) (e0 3)).mpr (ldCov_skip scM0_0 _ 3 2 (by decide) _ (ldCov_skip scM0_0 _ 3 1 (by decide) _ (ldCov_skip scM0_0 _ 3 0 (by decide) _ (ldCov_zero scM0_0 3)))))) (hs_fwd m c hx hl t (ms0_0 t) (hs0_0 t) (ms0_1 t) (ms0_2 t) (ms0_3 t) (hs0_1 t) (hs0_2 t) (hs0_3 t) scM0_2 4 ((congrArg (Is _) (e0 4)).mpr (ldCov_skip scM0_0 _ 4 3 (by decide) _ (ldCov_skip scM0_0 _ 4 2 (by decide) _ (ldCov_skip scM0_0 _ 4 1 (by decide) _ (ldCov_skip scM0_0 _ 4 0 (by decide) _ (ldCov_zero scM0_0 4))))))) (hs_fwd m c hx hl t (ms0_0 t) (hs0_0 t) (ms0_1 t) (ms0_2 t) (ms0_3 t) (hs0_1 t) (hs0_2 t) (hs0_3 t) scM0_2 5 ((congrArg (Is _) (e0 5)).mpr (ldCov_skip scM0_0 _ 5 4 (by decide) _ (ldCov_skip scM0_0 _ 5 3 (by decide) _ (ldCov_skip scM0_0 _ 5 2 (by decide) _ (ldCov_skip scM0_0 _ 5 1 (by decide) _ (ldCov_skip scM0_0 _ 5 0 (by decide) _ (ldCov_zero scM0_0 5))))))))

theorem oB_fwd (h0 : ¬t.val % 16 = 0) (xs0 xs1 : S6x128x128.Idx → EReal) (hs : StIs xs0 (Rs_fwd m c (t.val / 16) (256 * (t.val % 16)))) : out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (X0_1 m c t) (X0_2 m c t) (X0_3 m c t) (X0_4 m c t) (X0_5 m c t) (X0_6 m c t) xs0 xs1 = outG (Ro_fwd m c (t.val / 16) (256 * (t.val % 16))) := by
  unfold out0_B_7
  rw [View.read_writes_junk_eq_canon, outB_fwd]
  exact canon_out (Ro_fwd m c (t.val / 16) (256 * (t.val % 16))) (ho_fwd m c hx hl t (ms0_0 t) (hs0_0 t) (ms0_1 t) (ms0_2 t) (ms0_3 t) (hs0_1 t) (hs0_2 t) (hs0_3 t) scM0_2 0 (ldSt_is scM0_0 (Memref.isWhole_whole _) _ hs 0)) (ho_fwd m c hx hl t (ms0_0 t) (hs0_0 t) (ms0_1 t) (ms0_2 t) (ms0_3 t) (hs0_1 t) (hs0_2 t) (hs0_3 t) scM0_2 1 (ldSt_is scM0_0 (Memref.isWhole_whole _) _ hs 1)) (ho_fwd m c hx hl t (ms0_0 t) (hs0_0 t) (ms0_1 t) (ms0_2 t) (ms0_3 t) (hs0_1 t) (hs0_2 t) (hs0_3 t) scM0_2 2 (ldSt_is scM0_0 (Memref.isWhole_whole _) _ hs 2)) (ho_fwd m c hx hl t (ms0_0 t) (hs0_0 t) (ms0_1 t) (ms0_2 t) (ms0_3 t) (hs0_1 t) (hs0_2 t) (hs0_3 t) scM0_2 3 (ldSt_is scM0_0 (Memref.isWhole_whole _) _ hs 3)) (ho_fwd m c hx hl t (ms0_0 t) (hs0_0 t) (ms0_1 t) (ms0_2 t) (ms0_3 t) (hs0_1 t) (hs0_2 t) (hs0_3 t) scM0_2 4 (ldSt_is scM0_0 (Memref.isWhole_whole _) _ hs 4)) (ho_fwd m c hx hl t (ms0_0 t) (hs0_0 t) (ms0_1 t) (ms0_2 t) (ms0_3 t) (hs0_1 t) (hs0_2 t) (hs0_3 t) scM0_2 5 (ldSt_is scM0_0 (Memref.isWhole_whole _) _ hs 5))

theorem sB_fwd (h0 : ¬t.val % 16 = 0) (xs0 xs1 : S6x128x128.Idx → EReal) (hs : StIs xs0 (Rs_fwd m c (t.val / 16) (256 * (t.val % 16)))) : StIs (sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (X0_1 m c t) (X0_2 m c t) (X0_3 m c t) (X0_4 m c t) (X0_5 m c t) (X0_6 m c t) xs0 xs1) (Rs_fwd m c (t.val / 16) (256 * (t.val % 16) + 256)) := by
  unfold sout0_B_0
  rw [View.read_writes_junk_eq_canon, stB_fwd]
  exact canon_st (Rs_fwd m c (t.val / 16) (256 * (t.val % 16) + 256)) [] (hs_fwd m c hx hl t (ms0_0 t) (hs0_0 t) (ms0_1 t) (ms0_2 t) (ms0_3 t) (hs0_1 t) (hs0_2 t) (hs0_3 t) scM0_2 0 (ldSt_is scM0_0 (Memref.isWhole_whole _) _ hs 0)) (hs_fwd m c hx hl t (ms0_0 t) (hs0_0 t) (ms0_1 t) (ms0_2 t) (ms0_3 t) (hs0_1 t) (hs0_2 t) (hs0_3 t) scM0_2 1 (ldSt_is scM0_0 (Memref.isWhole_whole _) _ hs 1)) (hs_fwd m c hx hl t (ms0_0 t) (hs0_0 t) (ms0_1 t) (ms0_2 t) (ms0_3 t) (hs0_1 t) (hs0_2 t) (hs0_3 t) scM0_2 2 (ldSt_is scM0_0 (Memref.isWhole_whole _) _ hs 2)) (hs_fwd m c hx hl t (ms0_0 t) (hs0_0 t) (ms0_1 t) (ms0_2 t) (ms0_3 t) (hs0_1 t) (hs0_2 t) (hs0_3 t) scM0_2 3 (ldSt_is scM0_0 (Memref.isWhole_whole _) _ hs 3)) (hs_fwd m c hx hl t (ms0_0 t) (hs0_0 t) (ms0_1 t) (ms0_2 t) (ms0_3 t) (hs0_1 t) (hs0_2 t) (hs0_3 t) scM0_2 4 (ldSt_is scM0_0 (Memref.isWhole_whole _) _ hs 4)) (hs_fwd m c hx hl t (ms0_0 t) (hs0_0 t) (ms0_1 t) (ms0_2 t) (ms0_3 t) (hs0_1 t) (hs0_2 t) (hs0_3 t) scM0_2 5 (ldSt_is scM0_0 (Memref.isWhole_whole _) _ hs 5))

theorem oA_bwd (h0 : t.val % 16 = 0) : out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (X0_1 m c t) (X0_2 m c t) (X0_3 m c t) (X0_4 m c t) (X0_5 m c t) (X0_6 m c t) = outG (Ro_bwd m c (t.val / 16) (256 * (t.val % 16))) := by
  have e0 : ∀ h : ℕ, Rs_bwd m c (t.val / 16) (256 * (t.val % 16)) h = fun _ _ => 0 := fun h => by
    rw [h0]; exact Rs_bwd_zero m c _ h
  unfold out0_A_8
  rw [View.read_writes_junk_eq_canon, outA_bwd]
  exact canon_out (Ro_bwd m c (t.val / 16) (256 * (t.val % 16))) (ho_bwd m c hx hl t (ms0_0 t) (hs0_0 t) (ms0_4 t) (ms0_5 t) (ms0_6 t) (hs0_4 t) (hs0_5 t) (hs0_6 t) scM0_2 0 ((congrArg (Is _) (e0 0)).mpr (ldCov_zero scM0_1 0))) (ho_bwd m c hx hl t (ms0_0 t) (hs0_0 t) (ms0_4 t) (ms0_5 t) (ms0_6 t) (hs0_4 t) (hs0_5 t) (hs0_6 t) scM0_2 1 ((congrArg (Is _) (e0 1)).mpr (ldCov_skip scM0_1 _ 1 0 (by decide) _ (ldCov_zero scM0_1 1)))) (ho_bwd m c hx hl t (ms0_0 t) (hs0_0 t) (ms0_4 t) (ms0_5 t) (ms0_6 t) (hs0_4 t) (hs0_5 t) (hs0_6 t) scM0_2 2 ((congrArg (Is _) (e0 2)).mpr (ldCov_skip scM0_1 _ 2 1 (by decide) _ (ldCov_skip scM0_1 _ 2 0 (by decide) _ (ldCov_zero scM0_1 2))))) (ho_bwd m c hx hl t (ms0_0 t) (hs0_0 t) (ms0_4 t) (ms0_5 t) (ms0_6 t) (hs0_4 t) (hs0_5 t) (hs0_6 t) scM0_2 3 ((congrArg (Is _) (e0 3)).mpr (ldCov_skip scM0_1 _ 3 2 (by decide) _ (ldCov_skip scM0_1 _ 3 1 (by decide) _ (ldCov_skip scM0_1 _ 3 0 (by decide) _ (ldCov_zero scM0_1 3)))))) (ho_bwd m c hx hl t (ms0_0 t) (hs0_0 t) (ms0_4 t) (ms0_5 t) (ms0_6 t) (hs0_4 t) (hs0_5 t) (hs0_6 t) scM0_2 4 ((congrArg (Is _) (e0 4)).mpr (ldCov_skip scM0_1 _ 4 3 (by decide) _ (ldCov_skip scM0_1 _ 4 2 (by decide) _ (ldCov_skip scM0_1 _ 4 1 (by decide) _ (ldCov_skip scM0_1 _ 4 0 (by decide) _ (ldCov_zero scM0_1 4))))))) (ho_bwd m c hx hl t (ms0_0 t) (hs0_0 t) (ms0_4 t) (ms0_5 t) (ms0_6 t) (hs0_4 t) (hs0_5 t) (hs0_6 t) scM0_2 5 ((congrArg (Is _) (e0 5)).mpr (ldCov_skip scM0_1 _ 5 4 (by decide) _ (ldCov_skip scM0_1 _ 5 3 (by decide) _ (ldCov_skip scM0_1 _ 5 2 (by decide) _ (ldCov_skip scM0_1 _ 5 1 (by decide) _ (ldCov_skip scM0_1 _ 5 0 (by decide) _ (ldCov_zero scM0_1 5))))))))

theorem sA_bwd (h0 : t.val % 16 = 0) : StIs (sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (X0_1 m c t) (X0_2 m c t) (X0_3 m c t) (X0_4 m c t) (X0_5 m c t) (X0_6 m c t)) (Rs_bwd m c (t.val / 16) (256 * (t.val % 16) + 256)) := by
  have e0 : ∀ h : ℕ, Rs_bwd m c (t.val / 16) (256 * (t.val % 16)) h = fun _ _ => 0 := fun h => by
    rw [h0]; exact Rs_bwd_zero m c _ h
  unfold sout0_A_1
  rw [View.read_writes_junk_eq_canon, stA_bwd]
  exact canon_st (Rs_bwd m c (t.val / 16) (256 * (t.val % 16) + 256)) zL (hs_bwd m c hx hl t (ms0_0 t) (hs0_0 t) (ms0_4 t) (ms0_5 t) (ms0_6 t) (hs0_4 t) (hs0_5 t) (hs0_6 t) scM0_2 0 ((congrArg (Is _) (e0 0)).mpr (ldCov_zero scM0_1 0))) (hs_bwd m c hx hl t (ms0_0 t) (hs0_0 t) (ms0_4 t) (ms0_5 t) (ms0_6 t) (hs0_4 t) (hs0_5 t) (hs0_6 t) scM0_2 1 ((congrArg (Is _) (e0 1)).mpr (ldCov_skip scM0_1 _ 1 0 (by decide) _ (ldCov_zero scM0_1 1)))) (hs_bwd m c hx hl t (ms0_0 t) (hs0_0 t) (ms0_4 t) (ms0_5 t) (ms0_6 t) (hs0_4 t) (hs0_5 t) (hs0_6 t) scM0_2 2 ((congrArg (Is _) (e0 2)).mpr (ldCov_skip scM0_1 _ 2 1 (by decide) _ (ldCov_skip scM0_1 _ 2 0 (by decide) _ (ldCov_zero scM0_1 2))))) (hs_bwd m c hx hl t (ms0_0 t) (hs0_0 t) (ms0_4 t) (ms0_5 t) (ms0_6 t) (hs0_4 t) (hs0_5 t) (hs0_6 t) scM0_2 3 ((congrArg (Is _) (e0 3)).mpr (ldCov_skip scM0_1 _ 3 2 (by decide) _ (ldCov_skip scM0_1 _ 3 1 (by decide) _ (ldCov_skip scM0_1 _ 3 0 (by decide) _ (ldCov_zero scM0_1 3)))))) (hs_bwd m c hx hl t (ms0_0 t) (hs0_0 t) (ms0_4 t) (ms0_5 t) (ms0_6 t) (hs0_4 t) (hs0_5 t) (hs0_6 t) scM0_2 4 ((congrArg (Is _) (e0 4)).mpr (ldCov_skip scM0_1 _ 4 3 (by decide) _ (ldCov_skip scM0_1 _ 4 2 (by decide) _ (ldCov_skip scM0_1 _ 4 1 (by decide) _ (ldCov_skip scM0_1 _ 4 0 (by decide) _ (ldCov_zero scM0_1 4))))))) (hs_bwd m c hx hl t (ms0_0 t) (hs0_0 t) (ms0_4 t) (ms0_5 t) (ms0_6 t) (hs0_4 t) (hs0_5 t) (hs0_6 t) scM0_2 5 ((congrArg (Is _) (e0 5)).mpr (ldCov_skip scM0_1 _ 5 4 (by decide) _ (ldCov_skip scM0_1 _ 5 3 (by decide) _ (ldCov_skip scM0_1 _ 5 2 (by decide) _ (ldCov_skip scM0_1 _ 5 1 (by decide) _ (ldCov_skip scM0_1 _ 5 0 (by decide) _ (ldCov_zero scM0_1 5))))))))

theorem oB_bwd (h0 : ¬t.val % 16 = 0) (xs0 xs1 : S6x128x128.Idx → EReal) (hs : StIs xs1 (Rs_bwd m c (t.val / 16) (256 * (t.val % 16)))) : out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (X0_1 m c t) (X0_2 m c t) (X0_3 m c t) (X0_4 m c t) (X0_5 m c t) (X0_6 m c t) xs0 xs1 = outG (Ro_bwd m c (t.val / 16) (256 * (t.val % 16))) := by
  unfold out0_B_8
  rw [View.read_writes_junk_eq_canon, outB_bwd]
  exact canon_out (Ro_bwd m c (t.val / 16) (256 * (t.val % 16))) (ho_bwd m c hx hl t (ms0_0 t) (hs0_0 t) (ms0_4 t) (ms0_5 t) (ms0_6 t) (hs0_4 t) (hs0_5 t) (hs0_6 t) scM0_2 0 (ldSt_is scM0_1 (Memref.isWhole_whole _) _ hs 0)) (ho_bwd m c hx hl t (ms0_0 t) (hs0_0 t) (ms0_4 t) (ms0_5 t) (ms0_6 t) (hs0_4 t) (hs0_5 t) (hs0_6 t) scM0_2 1 (ldSt_is scM0_1 (Memref.isWhole_whole _) _ hs 1)) (ho_bwd m c hx hl t (ms0_0 t) (hs0_0 t) (ms0_4 t) (ms0_5 t) (ms0_6 t) (hs0_4 t) (hs0_5 t) (hs0_6 t) scM0_2 2 (ldSt_is scM0_1 (Memref.isWhole_whole _) _ hs 2)) (ho_bwd m c hx hl t (ms0_0 t) (hs0_0 t) (ms0_4 t) (ms0_5 t) (ms0_6 t) (hs0_4 t) (hs0_5 t) (hs0_6 t) scM0_2 3 (ldSt_is scM0_1 (Memref.isWhole_whole _) _ hs 3)) (ho_bwd m c hx hl t (ms0_0 t) (hs0_0 t) (ms0_4 t) (ms0_5 t) (ms0_6 t) (hs0_4 t) (hs0_5 t) (hs0_6 t) scM0_2 4 (ldSt_is scM0_1 (Memref.isWhole_whole _) _ hs 4)) (ho_bwd m c hx hl t (ms0_0 t) (hs0_0 t) (ms0_4 t) (ms0_5 t) (ms0_6 t) (hs0_4 t) (hs0_5 t) (hs0_6 t) scM0_2 5 (ldSt_is scM0_1 (Memref.isWhole_whole _) _ hs 5))

theorem sB_bwd (h0 : ¬t.val % 16 = 0) (xs0 xs1 : S6x128x128.Idx → EReal) (hs : StIs xs1 (Rs_bwd m c (t.val / 16) (256 * (t.val % 16)))) : StIs (sout0_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (X0_1 m c t) (X0_2 m c t) (X0_3 m c t) (X0_4 m c t) (X0_5 m c t) (X0_6 m c t) xs0 xs1) (Rs_bwd m c (t.val / 16) (256 * (t.val % 16) + 256)) := by
  unfold sout0_B_1
  rw [View.read_writes_junk_eq_canon, stB_bwd]
  exact canon_st (Rs_bwd m c (t.val / 16) (256 * (t.val % 16) + 256)) [] (hs_bwd m c hx hl t (ms0_0 t) (hs0_0 t) (ms0_4 t) (ms0_5 t) (ms0_6 t) (hs0_4 t) (hs0_5 t) (hs0_6 t) scM0_2 0 (ldSt_is scM0_1 (Memref.isWhole_whole _) _ hs 0)) (hs_bwd m c hx hl t (ms0_0 t) (hs0_0 t) (ms0_4 t) (ms0_5 t) (ms0_6 t) (hs0_4 t) (hs0_5 t) (hs0_6 t) scM0_2 1 (ldSt_is scM0_1 (Memref.isWhole_whole _) _ hs 1)) (hs_bwd m c hx hl t (ms0_0 t) (hs0_0 t) (ms0_4 t) (ms0_5 t) (ms0_6 t) (hs0_4 t) (hs0_5 t) (hs0_6 t) scM0_2 2 (ldSt_is scM0_1 (Memref.isWhole_whole _) _ hs 2)) (hs_bwd m c hx hl t (ms0_0 t) (hs0_0 t) (ms0_4 t) (ms0_5 t) (ms0_6 t) (hs0_4 t) (hs0_5 t) (hs0_6 t) scM0_2 3 (ldSt_is scM0_1 (Memref.isWhole_whole _) _ hs 3)) (hs_bwd m c hx hl t (ms0_0 t) (hs0_0 t) (ms0_4 t) (ms0_5 t) (ms0_6 t) (hs0_4 t) (hs0_5 t) (hs0_6 t) scM0_2 4 (ldSt_is scM0_1 (Memref.isWhole_whole _) _ hs 4)) (hs_bwd m c hx hl t (ms0_0 t) (hs0_0 t) (ms0_4 t) (ms0_5 t) (ms0_6 t) (hs0_4 t) (hs0_5 t) (hs0_6 t) scM0_2 5 (ldSt_is scM0_1 (Memref.isWhole_whole _) _ hs 5))

end

section
variable (c : Dev nD) (hx : ∀ b t k, k < 3072 → Fin' (at3 (m ((c : Thread nD τ).loc main_arg0)) b t k)) (hl : ∀ r k, Fin' (at2 (m ((c : Thread nD τ).loc main_arg1)) r k))
include hx hl

set_option maxHeartbeats 1000000 in
theorem stA_at_fwd (t : Fin cfg0.N) (h0 : t.val % 16 = 0) : StIs (outsAt0 m c t.val t.isLt).2.2.1 (Rs_fwd m c (t.val / 16) (256 * (t.val % 16) + 256)) := by
  rw [outsAt0_A m c t h0]
  exact sA_fwd m c hx hl t h0

set_option maxHeartbeats 1000000 in
theorem stB_at_fwd (t : Fin cfg0.N) (h0 : ¬t.val % 16 = 0)
    (hs : StIs (outsAt0 m c (t.val - 1) (lt_of_le_of_lt (Nat.sub_le _ _) t.isLt)).2.2.1 (Rs_fwd m c (t.val / 16) (256 * (t.val % 16)))) :
    StIs (outsAt0 m c t.val t.isLt).2.2.1 (Rs_fwd m c (t.val / 16) (256 * (t.val % 16) + 256)) := by
  rw [outsAt0_B m c t h0]
  exact sB_fwd m c hx hl t h0 (outsAt0 m c (t.val - 1) (lt_of_le_of_lt (Nat.sub_le _ _) t.isLt)).2.2.1 (outsAt0 m c (t.val - 1) (lt_of_le_of_lt (Nat.sub_le _ _) t.isLt)).2.2.2 hs

/-- The state after every point. -/
theorem st_fwd (n : ℕ) : ∀ hn : n < cfg0.N, StIs (outsAt0 m c n hn).2.2.1 (Rs_fwd m c (n / 16) (256 * (n % 16) + 256)) := by
  induction n with
  | zero => exact fun hn => stA_at_fwd m c hx hl ⟨0, hn⟩ rfl
  | succ k ih =>
    intro hn
    by_cases h0 : (k + 1) % 16 = 0
    · exact stA_at_fwd m c hx hl ⟨k + 1, hn⟩ h0
    · refine stB_at_fwd m c hx hl ⟨k + 1, hn⟩ h0 ?_
      have i := ih (Nat.lt_of_succ_lt hn)
      rw [show k / 16 = (k + 1) / 16 by omega, show 256 * (k % 16) + 256 = 256 * ((k + 1) % 16) by omega] at i
      exact i

set_option maxHeartbeats 1000000 in
theorem outs_fwd (t : Fin cfg0.N) : (outsAt0 m c t.val t.isLt).1 = outG (Ro_fwd m c (t.val / 16) (256 * (t.val % 16))) := by
  by_cases h0 : t.val % 16 = 0
  · rw [outsAt0_A m c t h0]
    dsimp only
    exact oA_fwd m c hx hl t h0
  · have i := st_fwd m c hx hl (t.val - 1) (lt_of_le_of_lt (Nat.sub_le _ _) t.isLt)
    rw [show (t.val - 1) / 16 = t.val / 16 by omega, show 256 * ((t.val - 1) % 16) + 256 = 256 * (t.val % 16) by omega] at i
    rw [outsAt0_B m c t h0]
    dsimp only
    exact oB_fwd m c hx hl t h0 (outsAt0 m c (t.val - 1) (lt_of_le_of_lt (Nat.sub_le _ _) t.isLt)).2.2.1 (outsAt0 m c (t.val - 1) (lt_of_le_of_lt (Nat.sub_le _ _) t.isLt)).2.2.2 i

theorem at_fwd (t : Fin cfg0.N) (y : S1x256x768.Idx) : ((outsAt0 m c t.val t.isLt).1 y : EReal)
    = res (m ((c : Thread nD τ).loc main_arg0)) (m ((c : Thread nD τ).loc main_arg1)) false 768 (t.val / 16) (t.val % 16 * 256 + (y 1).val) (y 2).val := by
  have h1 : (y 1).val < 256 := (y 1).isLt
  rw [outs_fwd m c hx hl t]
  have e : lg 4096 false (t.val % 16 * 256 + (y 1).val) = 256 * (t.val % 16) + lg 256 false (y 1).val := by
    simp only [lg, cond_true, cond_false]; omega
  unfold res
  rw [e]
  rfl

/-- The array after the launch. -/
theorem final_fwd : (dats m 0 c).arrAt 7 cfg0.N = scanOut (m ((c : Thread nD τ).loc main_arg0)) (m ((c : Thread nD τ).loc main_arg1)) false 768 := by
  refine (dats m 0 c).arrAt_eq_of_covers 7 _ (by decide +kernel) fun t hf y => ?_
  rw [after0_7]
  blk_simp
  refine (at_fwd m c hx hl t _).trans (scanOut_of _ _ _ _ _ ?_ ?_ ?_)
  · blk_simp [index7 t]
  · blk_simp [index7 t]
  · blk_simp [index7 t]

end

section
variable (c : Dev nD) (hx : ∀ b t k, k < 3072 → Fin' (at3 (m ((c : Thread nD τ).loc main_arg0)) b t k)) (hl : ∀ r k, Fin' (at2 (m ((c : Thread nD τ).loc main_arg1)) r k))
include hx hl

set_option maxHeartbeats 1000000 in
theorem stA_at_bwd (t : Fin cfg0.N) (h0 : t.val % 16 = 0) : StIs (outsAt0 m c t.val t.isLt).2.2.2 (Rs_bwd m c (t.val / 16) (256 * (t.val % 16) + 256)) := by
  rw [outsAt0_A m c t h0]
  exact sA_bwd m c hx hl t h0

set_option maxHeartbeats 1000000 in
theorem stB_at_bwd (t : Fin cfg0.N) (h0 : ¬t.val % 16 = 0)
    (hs : StIs (outsAt0 m c (t.val - 1) (lt_of_le_of_lt (Nat.sub_le _ _) t.isLt)).2.2.2 (Rs_bwd m c (t.val / 16) (256 * (t.val % 16)))) :
    StIs (outsAt0 m c t.val t.isLt).2.2.2 (Rs_bwd m c (t.val / 16) (256 * (t.val % 16) + 256)) := by
  rw [outsAt0_B m c t h0]
  exact sB_bwd m c hx hl t h0 (outsAt0 m c (t.val - 1) (lt_of_le_of_lt (Nat.sub_le _ _) t.isLt)).2.2.1 (outsAt0 m c (t.val - 1) (lt_of_le_of_lt (Nat.sub_le _ _) t.isLt)).2.2.2 hs

/-- The state after every point. -/
theorem st_bwd (n : ℕ) : ∀ hn : n < cfg0.N, StIs (outsAt0 m c n hn).2.2.2 (Rs_bwd m c (n / 16) (256 * (n % 16) + 256)) := by
  induction n with
  | zero => exact fun hn => stA_at_bwd m c hx hl ⟨0, hn⟩ rfl
  | succ k ih =>
    intro hn
    by_cases h0 : (k + 1) % 16 = 0
    · exact stA_at_bwd m c hx hl ⟨k + 1, hn⟩ h0
    · refine stB_at_bwd m c hx hl ⟨k + 1, hn⟩ h0 ?_
      have i := ih (Nat.lt_of_succ_lt hn)
      rw [show k / 16 = (k + 1) / 16 by omega, show 256 * (k % 16) + 256 = 256 * ((k + 1) % 16) by omega] at i
      exact i

set_option maxHeartbeats 1000000 in
theorem outs_bwd (t : Fin cfg0.N) : (outsAt0 m c t.val t.isLt).2.1 = outG (Ro_bwd m c (t.val / 16) (256 * (t.val % 16))) := by
  by_cases h0 : t.val % 16 = 0
  · rw [outsAt0_A m c t h0]
    dsimp only
    exact oA_bwd m c hx hl t h0
  · have i := st_bwd m c hx hl (t.val - 1) (lt_of_le_of_lt (Nat.sub_le _ _) t.isLt)
    rw [show (t.val - 1) / 16 = t.val / 16 by omega, show 256 * ((t.val - 1) % 16) + 256 = 256 * (t.val % 16) by omega] at i
    rw [outsAt0_B m c t h0]
    dsimp only
    exact oB_bwd m c hx hl t h0 (outsAt0 m c (t.val - 1) (lt_of_le_of_lt (Nat.sub_le _ _) t.isLt)).2.2.1 (outsAt0 m c (t.val - 1) (lt_of_le_of_lt (Nat.sub_le _ _) t.isLt)).2.2.2 i

theorem at_bwd (t : Fin cfg0.N) (y : S1x256x768.Idx) : ((outsAt0 m c t.val t.isLt).2.1 y : EReal)
    = res (m ((c : Thread nD τ).loc main_arg0)) (m ((c : Thread nD τ).loc main_arg1)) true 1536 (t.val / 16) ((15 - t.val % 16) * 256 + (y 1).val) (y 2).val := by
  have h1 : (y 1).val < 256 := (y 1).isLt
  rw [outs_bwd m c hx hl t]
  have e : lg 4096 true ((15 - t.val % 16) * 256 + (y 1).val) = 256 * (t.val % 16) + lg 256 true (y 1).val := by
    simp only [lg, cond_true, cond_false]; omega
  unfold res
  rw [e]
  rfl

/-- The array after the launch. -/
theorem final_bwd : (dats m 0 c).arrAt 8 cfg0.N = scanOut (m ((c : Thread nD τ).loc main_arg0)) (m ((c : Thread nD τ).loc main_arg1)) true 1536 := by
  refine (dats m 0 c).arrAt_eq_of_covers 8 _ (by decide +kernel) fun t hf y => ?_
  rw [after0_8]
  blk_simp
  refine (at_bwd m c hx hl t _).trans (scanOut_of _ _ _ _ _ ?_ ?_ ?_)
  · blk_simp [index8 t]
  · blk_simp [index8 t]
  · blk_simp [index8 t]

end

end Cert.Kernel8Ideal.Scan

end
-- ==== Proof.Hgrn.Ref8Read.lean ====
/- The reference of the recurrence, read at an index. -/
module

public import proofs.«01_k».proof.Proof.Gen.Reference8Ideal.Read
public import proofs.«01_k».proof.Proof.Hgrn.Vals
public import proofs.«01_k».proof.Proof.Ref2Read

@[expose] public section

set_option maxRecDepth 16384

noncomputable section

namespace Cert.Ref8

open Cert.Reference8Ideal Cert.Reference8Ideal.Gen Cert.Reference8Ideal.Read Idealize.ShloMosaic Cert.Attn Cert.Mix
open Cert.Kernel8Ideal.Scan (OUT ST G gate swish sg sg_pos lg Sq LBh LBh_pos lbr res scanOut gate_pos sup_two soft_lb div_sg sum_le_range one32_eq cmp_sge)

theorem one_eq : FloatOps.ofBits (F := Ideal) .f32 0x3F800000#32 = ((1 : ℝ) : EReal) := one32_eq

theorem uito_one : FloatOps.uitofp (F := Ideal) .f32 1#1 = ((1 : ℝ) : EReal) := by
  show (((1#1 : BitVec 1).toNat : ℝ) : EReal) = _
  rw [show (1#1 : BitVec 1).toNat = 1 from rfl, Nat.cast_one]
theorem uito_zero : FloatOps.uitofp (F := Ideal) .f32 0#1 = ((0 : ℝ) : EReal) := by
  show (((0#1 : BitVec 1).toNat : ℝ) : EReal) = _
  rw [show (0#1 : BitVec 1).toNat = 0 from rfl, Nat.cast_zero]

theorem w_pos (q k a b : ℝ) (z : EReal) : FloatOps.mulf (F := Ideal) (φ := .f32) (FloatOps.mulf (F := Ideal) (φ := .f32) (q : EReal) (k : EReal))
    (FloatOps.hostUnary (F := Ideal) (φ := .f32) .exp (Scalar.select 1#1 (FloatOps.subf (F := Ideal) (φ := .f32) (a : EReal) (b : EReal)) z)) = ((q * (k * Real.exp (a - b)) : ℝ) : EReal) := by
  show (q : EReal) * (k : EReal) * Ideal.exp ((a : EReal) - (b : EReal)) = _
  rw [← EReal.coe_sub, ← mul_assoc, EReal.coe_mul, EReal.coe_mul]
  rfl
theorem w_neg (q k : ℝ) (y : EReal) : FloatOps.mulf (F := Ideal) (φ := .f32) (FloatOps.mulf (F := Ideal) (φ := .f32) (q : EReal) (k : EReal))
    (FloatOps.hostUnary (F := Ideal) (φ := .f32) .exp (Scalar.select 0#1 y (FloatOps.ofBits (F := Ideal) .f32 0xFF800000#32))) = ((0 : ℝ) : EReal) := by
  show (q : EReal) * (k : EReal) * Ideal.exp (Ideal.ofBits .f32 0xFF800000#32) = _
  rw [Cert.Attn.neg_inf, show Ideal.exp ⊥ = (0 : EReal) from rfl, mul_zero, EReal.coe_zero]

variable (x0 : (⟨S16x4096x4096, .bf16⟩ : BufTy).Contents (Elt Ideal)) (x1 : (⟨S2x768, .f32⟩ : BufTy).Contents (Elt Ideal))

theorem bot_eq (i : S_.Idx) : val_main_cst (F := Ideal) i = (⊥ : EReal) := Cert.Attn.neg_inf

theorem reduceMax_at (y : S2x768.Idx → EReal) (z : S_.Idx → EReal) (hz : ∀ i, z i = ⊥) (k : Fin 768) :
    Host.reduce (FloatOps.maximumf (F := Ideal) (φ := .f32)) y z reducesTo_S2x768_S768_d0 h_S_ (ValueIdx.ix1 k) = Finset.univ.sup fun r : Fin 2 => y (ValueIdx.ix2 r k) := by
  have hr : S2x768.Reduces [0] S768 := by decide
  have hf : ∀ r : Fin 2, hr.lift (ValueIdx.ix1 k) r = ValueIdx.ix2 r k := by
    intro r
    funext a; match a with
    | ⟨0, _⟩ => rfl
    | ⟨1, _⟩ => rfl
  refine (Host.reduce_eq_fold_single _ y z reducesTo_S2x768_S768_d0 hr h_S_ (ValueIdx.ix1 k)).trans ?_
  rw [hz]
  exact (congrArg (fun f => Finset.fold (max : EReal → EReal → EReal) ⊥ f (Finset.univ : Finset (Fin 2))) (funext fun r => congrArg y (hf r))).trans (fold_max_eq_sup _)

theorem zero_add' (s : EReal) (z : EReal) (hz : z = 0) : z + s = s := by rw [hz, zero_add]

theorem rev_at (y : S16x4096x6x128.Idx → EReal) (i : S16x4096x6x128.Idx) {j : S16x4096x6x128.Idx} (h0 : (j 0).val = (i 0).val) (h1 : (j 1).val = 4096 - 1 - (i 1).val)
    (h2 : (j 2).val = (i 2).val) (h3 : (j 3).val = (i 3).val) : Host.reverse [1] y i = y j := by
  refine (Host.reverse_apply [1] y i).trans (congrArg y (funext fun a => match a with
    | ⟨0, _⟩ => Fin.ext h0.symm
    | ⟨1, _⟩ => Fin.ext (Eq.trans (show 4096 - ((i 1).val + 1) = 4096 - 1 - (i 1).val by omega) h1.symm)
    | ⟨2, _⟩ => Fin.ext h2.symm
    | ⟨3, _⟩ => Fin.ext h3.symm))

variable {x0 x1}

section
variable (hl : ∀ r k, Fin' (at2 x1 r k))
include hl

theorem v10_at (k : Fin 768) : ∃ M : ℝ, ∀ i : S768.Idx, (i 0).val = k.val → val_main_v10 (F := Ideal) x1 i = (M : EReal) := by
  obtain ⟨M, hM⟩ := sup_two (fun r : Fin 2 => x1 (ValueIdx.ix2 r k)) _ _
    ((at2_of x1 _ rfl rfl).trans (hl 0 k.val).coe.symm) ((at2_of x1 _ rfl rfl).trans (hl 1 k.val).coe.symm)
  refine ⟨M, fun i hi => ?_⟩
  obtain rfl : i = ValueIdx.ix1 k := funext fun a => match a with
    | ⟨0, _⟩ => Fin.ext hi
  rw [val_main_v10_apply, val_main_v9_apply]
  refine (congrArg₂ (fun a c : EReal => max a c) Cert.Attn.neg_inf ?_).trans (bot_sup_eq _)
  exact (reduceMax_at x1 _ bot_eq k).trans hM

theorem v14_at (k : Fin 768) : ∃ M : ℝ, ∀ r : Fin 2, val_main_v14 (F := Ideal) x1 (ValueIdx.ix2 r k)
    = Ideal.exp (((at2 x1 r.val k.val).toReal : EReal) - (M : EReal)) := by
  obtain ⟨M, hM⟩ := v10_at hl k
  refine ⟨M, fun r => ?_⟩
  rw [val_main_v14_apply, val_main_v13_apply, val_main_v12_apply, val_main_v11_apply]
  refine congrArg Ideal.exp (congrArg₂ (fun a c : EReal => a - c) ((at2_of x1 _ rfl rfl).trans (hl r.val k.val).coe.symm) (hM _ rfl))

theorem v22_at (k : Fin 768) (i : S768.Idx) (hi : (i 0).val = k.val) :
    val_main_v22 (F := Ideal) x1 i = ((lbr (at2 x1 0 k.val).toReal (at2 x1 1 k.val).toReal : ℝ) : EReal) := by
  obtain rfl : i = ValueIdx.ix1 k := funext fun a => match a with
    | ⟨0, _⟩ => Fin.ext hi
  obtain ⟨M, hM⟩ := v14_at hl k
  have h15 : ∀ j : S768.Idx, (j 0).val = k.val → val_main_v15 (F := Ideal) x1 j
      = Ideal.exp (((at2 x1 0 k.val).toReal : EReal) - (M : EReal)) + Ideal.exp (((at2 x1 1 k.val).toReal : EReal) - (M : EReal)) := fun j hj => by
    obtain rfl : j = ValueIdx.ix1 k := funext fun a => match a with
      | ⟨0, _⟩ => Fin.ext hj
    rw [val_main_v15_apply]
    refine (zero_add' _ _ Cert.Ref2.zero_f32).trans ((Fin.sum_univ_two _).trans ?_)
    have hi : ∀ r : Fin 2, idx_main_v15 (ValueIdx.ix1 k) r = ValueIdx.ix2 r k := fun r => funext fun a => match a with
      | ⟨0, _⟩ => rfl
      | ⟨1, _⟩ => rfl
    rw [hi, hi]
    exact Ideal.add_congr (hM 0) (hM 1)
  have h18 : ∀ r : Fin 2, ∀ j : S2x768.Idx, (j 0).val = r.val → (j 1).val = k.val → val_main_v18 (F := Ideal) x1 j
      = Ideal.div (Ideal.exp (((at2 x1 r.val k.val).toReal : EReal) - (M : EReal)))
        (Ideal.exp (((at2 x1 0 k.val).toReal : EReal) - (M : EReal)) + Ideal.exp (((at2 x1 1 k.val).toReal : EReal) - (M : EReal))) := fun r j h0 h1 => by
    obtain rfl : j = ValueIdx.ix2 r k := funext fun a => match a with
      | ⟨0, _⟩ => Fin.ext h0
      | ⟨1, _⟩ => Fin.ext h1
    rw [val_main_v18_apply, val_main_v17_apply, val_main_v16_apply]
    exact congrArg₂ Ideal.div (hM r) (h15 _ rfl)
  rw [val_main_v22_apply, val_main_v19_apply, val_main_v21_apply, val_main_v20_apply]
  refine Eq.trans ?_ (soft_lb (at2 x1 0 k.val).toReal (at2 x1 1 k.val).toReal M)
  refine congrArg₂ (fun a c : EReal => a - c) ((zero_add' _ _ Cert.Ref2.zero_f32).trans ((Fin.sum_univ_two _).trans ?_)) (h18 0 _ rfl (Nat.mod_eq_of_lt k.isLt))
  exact Ideal.add_congr (h18 0 _ rfl rfl) (h18 1 _ rfl rfl)

theorem v26_at (i : S6x128.Idx) : val_main_v26 (F := Ideal) x1 i = ((LBh x1 (i 0).val (i 1).val : ℝ) : EReal) := by
  rw [val_main_v26_apply]
  have h0 : (i 0).val < 6 := (i 0).isLt
  have h1 : (i 1).val < 128 := (i 1).isLt
  exact v22_at hl ⟨128 * (i 0).val + (i 1).val, by omega⟩ _ (by show (i 0).val * 128 + (i 1).val = 128 * (i 0).val + (i 1).val; omega)

end

section
variable (hx : ∀ b t, ∀ k < 3072, Fin' (at3 x0 b t k))
include hx

/-- A column of the input, as a real number. -/
theorem col_at (j : S16x4096x4096.Idx) {b t k : ℕ} (hk : k < 3072) (h0 : (j 0).val = b) (h1 : (j 1).val = t) (h2 : (j 2).val = k) :
    x0 j = (((at3 x0 b t k).toReal : ℝ) : EReal) := (at3_of x0 j h0 h1 h2).trans (hx b t k hk).coe.symm

theorem v25_at (i : S16x4096x6x128.Idx) : val_main_v25 (F := Ideal) x0 i = ((Sq x0 false (i 0).val 2304 (i 2).val (i 1).val (i 3).val : ℝ) : EReal) := by
  rw [val_main_v25_apply, val_main_v7_apply, val_main_v6_apply]
  have h0 : (i 0).val < 16 := (i 0).isLt
  have h1 : (i 1).val < 4096 := (i 1).isLt
  have h2 : (i 2).val < 6 := (i 2).isLt
  have h3 : (i 3).val < 128 := (i 3).isLt
  refine col_at hx _ (by omega) ?_ ?_ ?_
  · show ((((i 0).val * 4096 + (i 1).val) * 6 + (i 2).val) * 128 + (i 3).val) / 3145728 = (i 0).val
    omega
  · show ((((i 0).val * 4096 + (i 1).val) * 6 + (i 2).val) * 128 + (i 3).val) / 768 % 4096 = (i 1).val
    omega
  · show 2304 + ((((i 0).val * 4096 + (i 1).val) * 6 + (i 2).val) * 128 + (i 3).val) % 768 = 2304 + (128 * (i 2).val + (i 3).val)
    omega

theorem v29_at (i : S16x4096x6x128.Idx) : val_main_v29 (F := Ideal) x0 i = ((Sq x0 false (i 0).val 768 (i 2).val (i 1).val (i 3).val : ℝ) : EReal) := by
  rw [val_main_v29_apply, val_main_v3_apply, val_main_v2_apply]
  have h0 : (i 0).val < 16 := (i 0).isLt
  have h1 : (i 1).val < 4096 := (i 1).isLt
  have h2 : (i 2).val < 6 := (i 2).isLt
  have h3 : (i 3).val < 128 := (i 3).isLt
  refine col_at hx _ (by omega) ?_ ?_ ?_
  · show ((((i 0).val * 4096 + (i 1).val) * 6 + (i 2).val) * 128 + (i 3).val) / 3145728 = (i 0).val
    omega
  · show ((((i 0).val * 4096 + (i 1).val) * 6 + (i 2).val) * 128 + (i 3).val) / 768 % 4096 = (i 1).val
    omega
  · show 768 + ((((i 0).val * 4096 + (i 1).val) * 6 + (i 2).val) * 128 + (i 3).val) % 768 = 768 + (128 * (i 2).val + (i 3).val)
    omega

theorem v47_at (i : S16x4096x6x128.Idx) : val_main_v47 (F := Ideal) x0 i = ((Sq x0 false (i 0).val 1536 (i 2).val (i 1).val (i 3).val : ℝ) : EReal) := by
  rw [val_main_v47_apply, val_main_v5_apply, val_main_v4_apply]
  have h0 : (i 0).val < 16 := (i 0).isLt
  have h1 : (i 1).val < 4096 := (i 1).isLt
  have h2 : (i 2).val < 6 := (i 2).isLt
  have h3 : (i 3).val < 128 := (i 3).isLt
  refine col_at hx _ (by omega) ?_ ?_ ?_
  · show ((((i 0).val * 4096 + (i 1).val) * 6 + (i 2).val) * 128 + (i 3).val) / 3145728 = (i 0).val
    omega
  · show ((((i 0).val * 4096 + (i 1).val) * 6 + (i 2).val) * 128 + (i 3).val) / 768 % 4096 = (i 1).val
    omega
  · show 1536 + ((((i 0).val * 4096 + (i 1).val) * 6 + (i 2).val) * 128 + (i 3).val) % 768 = 1536 + (128 * (i 2).val + (i 3).val)
    omega

theorem v24_at (i : S16x4096x6x128.Idx) : val_main_v24 (F := Ideal) x0 i = ((swish (Sq x0 false (i 0).val 0 (i 2).val) (i 1).val (i 3).val : ℝ) : EReal) := by
  have h0 : (i 0).val < 16 := (i 0).isLt
  have h1 : (i 1).val < 4096 := (i 1).isLt
  have h2 : (i 2).val < 6 := (i 2).isLt
  have h3 : (i 3).val < 128 := (i 3).isLt
  have e : val_main_v1 (F := Ideal) x0 (idx_main_v24 i) = ((Sq x0 false (i 0).val 0 (i 2).val (i 1).val (i 3).val : ℝ) : EReal) := by
    rw [val_main_v1_apply, val_main_v0_apply]
    refine col_at hx _ (by omega) ?_ ?_ ?_
    · show ((((i 0).val * 4096 + (i 1).val) * 6 + (i 2).val) * 128 + (i 3).val) / 3145728 = (i 0).val
      omega
    · show ((((i 0).val * 4096 + (i 1).val) * 6 + (i 2).val) * 128 + (i 3).val) / 768 % 4096 = (i 1).val
      omega
    · show ((((i 0).val * 4096 + (i 1).val) * 6 + (i 2).val) * 128 + (i 3).val) % 768 = 0 + (128 * (i 2).val + (i 3).val)
      omega
  rw [val_main_v24_apply, val_main_v23_apply, val_main_call0_v5_apply, val_main_call0_v3_apply, val_main_call0_v1_apply, val_main_call0_v0_apply,
    val_main_call0_v2_apply, val_main_call0_v4_apply, val_main_call0_cst_apply, val_main_call0_cst_0_apply, one_eq, e]
  exact (Ideal.mul_congr rfl (div_sg _)).trans (EReal.coe_mul _ _).symm

theorem v35_at (i : S16x4096x6x128.Idx) : val_main_v35 (F := Ideal) x0 i = ((sg (Sq x0 false (i 0).val 768 (i 2).val (i 1).val (i 3).val) : ℝ) : EReal) := by
  rw [val_main_v35_apply, val_main_v33_apply, val_main_v31_apply, val_main_v30_apply, val_main_v32_apply, val_main_v34_apply, val_main_cst_4_apply, val_main_cst_5_apply, one_eq, v29_at hx]
  exact div_sg _

theorem v41_at (hl : ∀ r k, Fin' (at2 x1 r k)) (i : S16x4096x6x128.Idx) : val_main_v41 (F := Ideal) x0 x1 i
    = ((gate (LBh x1 (i 2).val) (Sq x0 false (i 0).val 768 (i 2).val) (i 1).val (i 3).val : ℝ) : EReal) := by
  rw [val_main_v41_apply, val_main_v38_apply, val_main_v40_apply, val_main_v39_apply, val_main_v37_apply, val_main_v36_apply, val_main_v28_apply, val_main_v27_apply, val_main_cst_3_apply, one_eq,
    v35_at hx, v26_at hl]
  exact (Ideal.add_congr rfl ((Ideal.mul_congr (EReal.coe_sub _ _).symm rfl).trans (EReal.coe_mul _ _).symm)).trans (EReal.coe_add _ _).symm

theorem v43_at (hl : ∀ r k, Fin' (at2 x1 r k)) (i : S16x4096x6x128.Idx) : val_main_v43 (F := Ideal) x0 x1 i
    = ((1 - gate (LBh x1 (i 2).val) (Sq x0 false (i 0).val 768 (i 2).val) (i 1).val (i 3).val : ℝ) : EReal) := by
  rw [val_main_v43_apply, val_main_v42_apply, val_main_cst_6_apply, one_eq, v41_at hx hl]
  exact (EReal.coe_sub _ _).symm

theorem v44_at (hl : ∀ r k, Fin' (at2 x1 r k)) (i : S16x4096x6x128.Idx) : val_main_v44 (F := Ideal) x0 x1 i
    = ((Real.log (gate (LBh x1 (i 2).val) (Sq x0 false (i 0).val 768 (i 2).val) (i 1).val (i 3).val) : ℝ) : EReal) := by
  rw [val_main_v44_apply, v41_at hx hl]
  exact if_neg (not_le.2 (gate_pos (LBh_pos x1 _) _ _))

theorem v53_at (i : S16x4096x6x128.Idx) : val_main_v53 (F := Ideal) x0 i = ((sg (Sq x0 false (i 0).val 1536 (i 2).val (i 1).val (i 3).val) : ℝ) : EReal) := by
  rw [val_main_v53_apply, val_main_v51_apply, val_main_v49_apply, val_main_v48_apply, val_main_v50_apply, val_main_v52_apply, val_main_cst_8_apply, val_main_cst_9_apply, one_eq, v47_at hx]
  exact div_sg _

theorem v59_at (hl : ∀ r k, Fin' (at2 x1 r k)) (i : S16x4096x6x128.Idx) : val_main_v59 (F := Ideal) x0 x1 i
    = ((gate (LBh x1 (i 2).val) (Sq x0 false (i 0).val 1536 (i 2).val) (i 1).val (i 3).val : ℝ) : EReal) := by
  rw [val_main_v59_apply, val_main_v56_apply, val_main_v58_apply, val_main_v57_apply, val_main_v55_apply, val_main_v54_apply, val_main_v46_apply, val_main_v45_apply, val_main_cst_7_apply, one_eq,
    v53_at hx, v26_at hl]
  exact (Ideal.add_congr rfl ((Ideal.mul_congr (EReal.coe_sub _ _).symm rfl).trans (EReal.coe_mul _ _).symm)).trans (EReal.coe_add _ _).symm

theorem v61_at (hl : ∀ r k, Fin' (at2 x1 r k)) (i : S16x4096x6x128.Idx) : val_main_v61 (F := Ideal) x0 x1 i
    = ((1 - gate (LBh x1 (i 2).val) (Sq x0 false (i 0).val 1536 (i 2).val) (i 1).val (i 3).val : ℝ) : EReal) := by
  rw [val_main_v61_apply, val_main_v60_apply, val_main_cst_10_apply, one_eq, v59_at hx hl]
  exact (EReal.coe_sub _ _).symm

theorem v62_at (hl : ∀ r k, Fin' (at2 x1 r k)) (i : S16x4096x6x128.Idx) : val_main_v62 (F := Ideal) x0 x1 i
    = ((Real.log (gate (LBh x1 (i 2).val) (Sq x0 false (i 0).val 1536 (i 2).val) (i 1).val (i 3).val) : ℝ) : EReal) := by
  rw [val_main_v62_apply, v59_at hx hl]
  exact if_neg (not_le.2 (gate_pos (LBh_pos x1 _) _ _))

variable (x0 x1) in
omit hx in
theorem Sq_rev (b col h t k : ℕ) : Sq x0 false b col h (4096 - 1 - t) k = Sq x0 true b col h t k := by simp only [Sq, lg, cond_true, cond_false]
variable (x0 x1) in
omit hx in
theorem swish_rev (b col h t k : ℕ) : swish (Sq x0 false b col h) (4096 - 1 - t) k = swish (Sq x0 true b col h) t k := by simp only [swish, Sq_rev]
variable (x0 x1) in
omit hx in
theorem gate_rev (B : ℕ → ℝ) (b col h t k : ℕ) : gate B (Sq x0 false b col h) (4096 - 1 - t) k = gate B (Sq x0 true b col h) t k := by simp only [gate, Sq_rev]

/-- The index mirrored in time. -/
abbrev mir (i : S16x4096x6x128.Idx) : S16x4096x6x128.Idx :=
  ix4 (i 0) ⟨4096 - 1 - (i 1).val, by omega⟩ (i 2) (i 3)

theorem v89_at (i : S16x4096x6x128.Idx) : val_main_v89 (F := Ideal) x0 i = ((swish (Sq x0 true (i 0).val 0 (i 2).val) (i 1).val (i 3).val : ℝ) : EReal) := by
  unfold val_main_v89
  refine (rev_at _ i (j := mir i) rfl rfl rfl rfl).trans ((v24_at hx (mir i)).trans ?_)
  exact congrArg (fun r : ℝ => (r : EReal)) (swish_rev x0 (i 0).val 0 (i 2).val (i 1).val (i 3).val)

theorem v91_at (i : S16x4096x6x128.Idx) : val_main_v91 (F := Ideal) x0 i = ((Sq x0 true (i 0).val 2304 (i 2).val (i 1).val (i 3).val : ℝ) : EReal) := by
  unfold val_main_v91
  refine (rev_at _ i (j := mir i) rfl rfl rfl rfl).trans ((v25_at hx (mir i)).trans ?_)
  exact congrArg (fun r : ℝ => (r : EReal)) (Sq_rev x0 (i 0).val 2304 (i 2).val (i 1).val (i 3).val)

theorem v90_at (hl : ∀ r k, Fin' (at2 x1 r k)) (i : S16x4096x6x128.Idx) : val_main_v90 (F := Ideal) x0 x1 i
    = ((1 - gate (LBh x1 (i 2).val) (Sq x0 true (i 0).val 1536 (i 2).val) (i 1).val (i 3).val : ℝ) : EReal) := by
  unfold val_main_v90
  refine (rev_at _ i (j := mir i) rfl rfl rfl rfl).trans ((v61_at hx hl (mir i)).trans ?_)
  exact congrArg (fun r : ℝ => ((1 - r : ℝ) : EReal)) (gate_rev x0 (LBh x1 (i 2).val) (i 0).val 1536 (i 2).val (i 1).val (i 3).val)

theorem v92_at (hl : ∀ r k, Fin' (at2 x1 r k)) (i : S16x4096x6x128.Idx) : val_main_v92 (F := Ideal) x0 x1 i
    = ((Real.log (gate (LBh x1 (i 2).val) (Sq x0 true (i 0).val 1536 (i 2).val) (i 1).val (i 3).val) : ℝ) : EReal) := by
  unfold val_main_v92
  refine (rev_at _ i (j := mir i) rfl rfl rfl rfl).trans ((v62_at hx hl (mir i)).trans ?_)
  exact congrArg (fun r : ℝ => ((Real.log r : ℝ) : EReal)) (gate_rev x0 (LBh x1 (i 2).val) (i 0).val 1536 (i 2).val (i 1).val (i 3).val)

theorem q_fwd (i : S16x6x4096x128.Idx) : val_main_v65 (F := Ideal) x0 i = ((swish (Sq x0 false (i 0).val 0 (i 1).val) (i 2).val (i 3).val : ℝ) : EReal) :=
  (val_main_v65_apply x0 i).trans (v24_at hx _)
theorem v_fwd (i : S16x6x4096x128.Idx) : val_main_v67 (F := Ideal) x0 i = ((Sq x0 false (i 0).val 2304 (i 1).val (i 2).val (i 3).val : ℝ) : EReal) :=
  (val_main_v67_apply x0 i).trans (v25_at hx _)
theorem k_fwd (hl : ∀ r k, Fin' (at2 x1 r k)) (i : S16x6x4096x128.Idx) : val_main_v66 (F := Ideal) x0 x1 i
    = ((1 - gate (LBh x1 (i 1).val) (Sq x0 false (i 0).val 768 (i 1).val) (i 2).val (i 3).val : ℝ) : EReal) :=
  (val_main_v66_apply x0 x1 i).trans (v43_at hx hl _)
theorem g_fwd (hl : ∀ r k, Fin' (at2 x1 r k)) (i : S16x6x4096x128.Idx) : val_main_v68 (F := Ideal) x0 x1 i
    = ((Real.log (gate (LBh x1 (i 1).val) (Sq x0 false (i 0).val 768 (i 1).val) (i 2).val (i 3).val) : ℝ) : EReal) :=
  (val_main_v68_apply x0 x1 i).trans (v44_at hx hl _)

omit hx in
theorem mask_fwd (i : S4096x4096.Idx) : val_main_v64 (F := Ideal) i = if (i 1).val ≤ (i 0).val then 1#1 else 0#1 := by
  have i0 : (i 0).val < 4096 := (i 0).isLt
  have i1 : (i 1).val < 4096 := (i 1).isLt
  have h : val_main_call1_v4 (F := Ideal) i = 1#1 ↔ (i 1).val ≤ (i 0).val := by
    rw [val_main_call1_v4_apply, val_main_call1_v2_apply, val_main_call1_v0_apply, val_main_call1_v1_apply, val_main_call1_c_apply, val_main_call1_v3_apply]
    rw [show IntOp.addi (BitVec.ofNat 32 (i 0).val) 0#32 = BitVec.ofNat 32 (i 0).val from BitVec.add_zero _]
    exact cmp_sge (by omega) (by omega)
  rw [val_main_v64_apply, val_main_v63_apply, val_main_c_apply, val_main_call1_v5_apply, val_main_call1_c_0_apply]
  by_cases hh : (i 1).val ≤ (i 0).val
  · exact (if_pos (h.2 hh)).trans (if_pos hh).symm
  · exact (if_neg fun e => hh (h.1 e)).trans (if_neg hh).symm

theorem cum_fwd (hl : ∀ r k, Fin' (at2 x1 r k)) (i : S16x6x4096x128.Idx) : val_main_v71 (F := Ideal) x0 x1 i
    = ((G (gate (LBh x1 (i 1).val) (Sq x0 false (i 0).val 768 (i 1).val)) ((i 2).val + 1) (i 3).val : ℝ) : EReal) := by
  have i2 : (i 2).val < 4096 := (i 2).isLt
  rw [val_main_v71_apply, val_main_v70_apply]
  have e : ∀ s : Fin 4096, val_main_v68 (F := Ideal) x0 x1 (lidx_main_v70 (idx_main_v71 i) s) * val_main_v69 (F := Ideal) (ridx_main_v70 (idx_main_v71 i) s)
      = (((if s.val ≤ (i 2).val then Real.log (gate (LBh x1 (i 1).val) (Sq x0 false (i 0).val 768 (i 1).val) s.val (i 3).val) else 0 : ℝ)) : EReal) := fun s => by
    rw [g_fwd hx hl, val_main_v69_apply, mask_fwd]
    by_cases hh : s.val ≤ (i 2).val
    · rw [if_pos hh, if_pos (show ((ridx_main_v70 (idx_main_v71 i) s) 1).val ≤ ((ridx_main_v70 (idx_main_v71 i) s) 0).val from hh)]
      refine (Ideal.mul_congr rfl uito_one).trans ?_
      exact (EReal.coe_mul _ _).symm.trans (congrArg _ (mul_one _))
    · rw [if_neg hh, if_neg (show ¬((ridx_main_v70 (idx_main_v71 i) s) 1).val ≤ ((ridx_main_v70 (idx_main_v71 i) s) 0).val from hh)]
      refine (Ideal.mul_congr rfl uito_zero).trans ?_
      exact (EReal.coe_mul _ _).symm.trans (congrArg _ (mul_zero _))
  rw [Finset.sum_congr rfl fun s _ => e s, ← coe_sum]
  exact congrArg _ (sum_le_range 4096 _ i2 fun s => Real.log (gate (LBh x1 (i 1).val) (Sq x0 false (i 0).val 768 (i 1).val) s (i 3).val))

theorem term_fwd (hl : ∀ r k, Fin' (at2 x1 r k)) (i : S16x6x4096x4096x128.Idx) : val_main_v85 (F := Ideal) x0 x1 i
    = ((if (i 3).val ≤ (i 2).val then swish (Sq x0 false (i 0).val 0 (i 1).val) (i 2).val (i 4).val
        * ((1 - gate (LBh x1 (i 1).val) (Sq x0 false (i 0).val 768 (i 1).val) (i 3).val (i 4).val)
          * Real.exp (G (gate (LBh x1 (i 1).val) (Sq x0 false (i 0).val 768 (i 1).val)) ((i 2).val + 1) (i 4).val
            - G (gate (LBh x1 (i 1).val) (Sq x0 false (i 0).val 768 (i 1).val)) ((i 3).val + 1) (i 4).val)) else 0 : ℝ) : EReal) := by
  rw [val_main_v85_apply, val_main_v84_apply, val_main_v83_apply, val_main_v81_apply, val_main_v82_apply, val_main_v79_apply, val_main_v80_apply,
    val_main_v78_apply, val_main_v77_apply, val_main_v75_apply, val_main_v76_apply, val_main_v73_apply, val_main_v74_apply, val_main_call2_v1_apply, val_main_v72_apply,
    val_main_call2_v2_apply, val_main_call2_v0_apply, val_main_cst_11_apply, q_fwd hx, k_fwd hx hl, cum_fwd hx hl, cum_fwd hx hl, mask_fwd]
  by_cases hh : (i 3).val ≤ (i 2).val
  · rw [if_pos hh]; try rw [if_pos hh]
    exact w_pos _ _ _ _ _
  · rw [if_neg hh]; try rw [if_neg hh]
    exact w_neg _ _ _

theorem att_fwd (hl : ∀ r k, Fin' (at2 x1 r k)) (i : S16x6x4096x4096.Idx) : val_main_v86 (F := Ideal) x0 x1 i
    = ((if (i 3).val ≤ (i 2).val then ∑ k ∈ Finset.range 128, swish (Sq x0 false (i 0).val 0 (i 1).val) (i 2).val k
        * ((1 - gate (LBh x1 (i 1).val) (Sq x0 false (i 0).val 768 (i 1).val) (i 3).val k)
          * Real.exp (G (gate (LBh x1 (i 1).val) (Sq x0 false (i 0).val 768 (i 1).val)) ((i 2).val + 1) k
            - G (gate (LBh x1 (i 1).val) (Sq x0 false (i 0).val 768 (i 1).val)) ((i 3).val + 1) k)) else 0 : ℝ) : EReal) := by
  rw [val_main_v86_apply]
  refine (zero_add' _ _ Cert.Ref2.zero_f32).trans ?_
  rw [Finset.sum_congr rfl fun k _ => term_fwd hx hl _, ← coe_sum]
  refine congrArg _ ?_
  by_cases hh : (i 3).val ≤ (i 2).val
  · rw [if_pos hh, ← Fin.sum_univ_eq_sum_range]
    exact Finset.sum_congr rfl fun k _ => if_pos hh
  · rw [if_neg hh]
    exact Finset.sum_eq_zero fun k _ => if_neg hh

theorem out_fwd (hl : ∀ r k, Fin' (at2 x1 r k)) (i : S16x6x4096x128.Idx) : val_main_v87 (F := Ideal) x0 x1 i
    = ((OUT (swish (Sq x0 false (i 0).val 0 (i 1).val)) (gate (LBh x1 (i 1).val) (Sq x0 false (i 0).val 768 (i 1).val))
      (Sq x0 false (i 0).val 2304 (i 1).val) (i 2).val (i 3).val : ℝ) : EReal) := by
  have i2 : (i 2).val < 4096 := (i 2).isLt
  rw [val_main_v87_apply]
  have e : ∀ s : Fin 4096, val_main_v86 (F := Ideal) x0 x1 (lidx_main_v87 i s) * val_main_v67 (F := Ideal) x0 (ridx_main_v87 i s)
      = ((if s.val ≤ (i 2).val then (∑ k ∈ Finset.range 128, swish (Sq x0 false (i 0).val 0 (i 1).val) (i 2).val k
        * ((1 - gate (LBh x1 (i 1).val) (Sq x0 false (i 0).val 768 (i 1).val) s.val k)
          * Real.exp (G (gate (LBh x1 (i 1).val) (Sq x0 false (i 0).val 768 (i 1).val)) ((i 2).val + 1) k
            - G (gate (LBh x1 (i 1).val) (Sq x0 false (i 0).val 768 (i 1).val)) (s.val + 1) k))) * Sq x0 false (i 0).val 2304 (i 1).val s.val (i 3).val else 0 : ℝ) : EReal) := fun s => by
    rw [att_fwd hx hl, v_fwd hx]
    by_cases hh : s.val ≤ (i 2).val
    · refine (Ideal.mul_congr (congrArg (fun r : ℝ => (r : EReal)) (if_pos hh)) rfl).trans ((EReal.coe_mul _ _).symm.trans ?_)
      exact congrArg (fun r : ℝ => (r : EReal)) (if_pos hh).symm
    · refine (Ideal.mul_congr (congrArg (fun r : ℝ => (r : EReal)) (if_neg hh)) rfl).trans ((EReal.coe_mul _ _).symm.trans ?_)
      exact congrArg (fun r : ℝ => (r : EReal)) ((zero_mul _).trans (if_neg hh).symm)
  rw [Finset.sum_congr rfl fun s _ => e s, ← coe_sum]
  exact congrArg _ (sum_le_range 4096 _ i2 fun s => (∑ k ∈ Finset.range 128, swish (Sq x0 false (i 0).val 0 (i 1).val) (i 2).val k
    * ((1 - gate (LBh x1 (i 1).val) (Sq x0 false (i 0).val 768 (i 1).val) s k)
      * Real.exp (G (gate (LBh x1 (i 1).val) (Sq x0 false (i 0).val 768 (i 1).val)) ((i 2).val + 1) k
        - G (gate (LBh x1 (i 1).val) (Sq x0 false (i 0).val 768 (i 1).val)) (s + 1) k))) * Sq x0 false (i 0).val 2304 (i 1).val s (i 3).val)

theorem q_bwd (i : S16x6x4096x128.Idx) : val_main_v95 (F := Ideal) x0 i = ((swish (Sq x0 true (i 0).val 0 (i 1).val) (i 2).val (i 3).val : ℝ) : EReal) :=
  (val_main_v95_apply x0 i).trans (v89_at hx _)
theorem v_bwd (i : S16x6x4096x128.Idx) : val_main_v97 (F := Ideal) x0 i = ((Sq x0 true (i 0).val 2304 (i 1).val (i 2).val (i 3).val : ℝ) : EReal) :=
  (val_main_v97_apply x0 i).trans (v91_at hx _)
theorem k_bwd (hl : ∀ r k, Fin' (at2 x1 r k)) (i : S16x6x4096x128.Idx) : val_main_v96 (F := Ideal) x0 x1 i
    = ((1 - gate (LBh x1 (i 1).val) (Sq x0 true (i 0).val 1536 (i 1).val) (i 2).val (i 3).val : ℝ) : EReal) :=
  (val_main_v96_apply x0 x1 i).trans (v90_at hx hl _)
theorem g_bwd (hl : ∀ r k, Fin' (at2 x1 r k)) (i : S16x6x4096x128.Idx) : val_main_v98 (F := Ideal) x0 x1 i
    = ((Real.log (gate (LBh x1 (i 1).val) (Sq x0 true (i 0).val 1536 (i 1).val) (i 2).val (i 3).val) : ℝ) : EReal) :=
  (val_main_v98_apply x0 x1 i).trans (v92_at hx hl _)

omit hx in
theorem mask_bwd (i : S4096x4096.Idx) : val_main_v94 (F := Ideal) i = if (i 1).val ≤ (i 0).val then 1#1 else 0#1 := by
  have i0 : (i 0).val < 4096 := (i 0).isLt
  have i1 : (i 1).val < 4096 := (i 1).isLt
  have h : val_main_call7_v4 (F := Ideal) i = 1#1 ↔ (i 1).val ≤ (i 0).val := by
    rw [val_main_call7_v4_apply, val_main_call7_v2_apply, val_main_call7_v0_apply, val_main_call7_v1_apply, val_main_call7_c_apply, val_main_call7_v3_apply]
    rw [show IntOp.addi (BitVec.ofNat 32 (i 0).val) 0#32 = BitVec.ofNat 32 (i 0).val from BitVec.add_zero _]
    exact cmp_sge (by omega) (by omega)
  rw [val_main_v94_apply, val_main_v93_apply, val_main_c_13_apply, val_main_call7_v5_apply, val_main_call7_c_0_apply]
  by_cases hh : (i 1).val ≤ (i 0).val
  · exact (if_pos (h.2 hh)).trans (if_pos hh).symm
  · exact (if_neg fun e => hh (h.1 e)).trans (if_neg hh).symm

theorem cum_bwd (hl : ∀ r k, Fin' (at2 x1 r k)) (i : S16x6x4096x128.Idx) : val_main_v101 (F := Ideal) x0 x1 i
    = ((G (gate (LBh x1 (i 1).val) (Sq x0 true (i 0).val 1536 (i 1).val)) ((i 2).val + 1) (i 3).val : ℝ) : EReal) := by
  have i2 : (i 2).val < 4096 := (i 2).isLt
  rw [val_main_v101_apply, val_main_v100_apply]
  have e : ∀ s : Fin 4096, val_main_v98 (F := Ideal) x0 x1 (lidx_main_v100 (idx_main_v101 i) s) * val_main_v99 (F := Ideal) (ridx_main_v100 (idx_main_v101 i) s)
      = (((if s.val ≤ (i 2).val then Real.log (gate (LBh x1 (i 1).val) (Sq x0 true (i 0).val 1536 (i 1).val) s.val (i 3).val) else 0 : ℝ)) : EReal) := fun s => by
    rw [g_bwd hx hl, val_main_v99_apply, mask_bwd]
    by_cases hh : s.val ≤ (i 2).val
    · rw [if_pos hh, if_pos (show ((ridx_main_v100 (idx_main_v101 i) s) 1).val ≤ ((ridx_main_v100 (idx_main_v101 i) s) 0).val from hh)]
      refine (Ideal.mul_congr rfl uito_one).trans ?_
      exact (EReal.coe_mul _ _).symm.trans (congrArg _ (mul_one _))
    · rw [if_neg hh, if_neg (show ¬((ridx_main_v100 (idx_main_v101 i) s) 1).val ≤ ((ridx_main_v100 (idx_main_v101 i) s) 0).val from hh)]
      refine (Ideal.mul_congr rfl uito_zero).trans ?_
      exact (EReal.coe_mul _ _).symm.trans (congrArg _ (mul_zero _))
  rw [Finset.sum_congr rfl fun s _ => e s, ← coe_sum]
  exact congrArg _ (sum_le_range 4096 _ i2 fun s => Real.log (gate (LBh x1 (i 1).val) (Sq x0 true (i 0).val 1536 (i 1).val) s (i 3).val))

theorem term_bwd (hl : ∀ r k, Fin' (at2 x1 r k)) (i : S16x6x4096x4096x128.Idx) : val_main_v115 (F := Ideal) x0 x1 i
    = ((if (i 3).val ≤ (i 2).val then swish (Sq x0 true (i 0).val 0 (i 1).val) (i 2).val (i 4).val
        * ((1 - gate (LBh x1 (i 1).val) (Sq x0 true (i 0).val 1536 (i 1).val) (i 3).val (i 4).val)
          * Real.exp (G (gate (LBh x1 (i 1).val) (Sq x0 true (i 0).val 1536 (i 1).val)) ((i 2).val + 1) (i 4).val
            - G (gate (LBh x1 (i 1).val) (Sq x0 true (i 0).val 1536 (i 1).val)) ((i 3).val + 1) (i 4).val)) else 0 : ℝ) : EReal) := by
  rw [val_main_v115_apply, val_main_v114_apply, val_main_v113_apply, val_main_v111_apply, val_main_v112_apply, val_main_v109_apply, val_main_v110_apply,
    val_main_v108_apply, val_main_v107_apply, val_main_v105_apply, val_main_v106_apply, val_main_v103_apply, val_main_v104_apply, val_main_call8_v1_apply, val_main_v102_apply,
    val_main_call8_v2_apply, val_main_call8_v0_apply, val_main_cst_14_apply, q_bwd hx, k_bwd hx hl, cum_bwd hx hl, cum_bwd hx hl, mask_bwd]
  by_cases hh : (i 3).val ≤ (i 2).val
  · rw [if_pos hh]; try rw [if_pos hh]
    exact w_pos _ _ _ _ _
  · rw [if_neg hh]; try rw [if_neg hh]
    exact w_neg _ _ _

theorem att_bwd (hl : ∀ r k, Fin' (at2 x1 r k)) (i : S16x6x4096x4096.Idx) : val_main_v116 (F := Ideal) x0 x1 i
    = ((if (i 3).val ≤ (i 2).val then ∑ k ∈ Finset.range 128, swish (Sq x0 true (i 0).val 0 (i 1).val) (i 2).val k
        * ((1 - gate (LBh x1 (i 1).val) (Sq x0 true (i 0).val 1536 (i 1).val) (i 3).val k)
          * Real.exp (G (gate (LBh x1 (i 1).val) (Sq x0 true (i 0).val 1536 (i 1).val)) ((i 2).val + 1) k
            - G (gate (LBh x1 (i 1).val) (Sq x0 true (i 0).val 1536 (i 1).val)) ((i 3).val + 1) k)) else 0 : ℝ) : EReal) := by
  rw [val_main_v116_apply]
  refine (zero_add' _ _ Cert.Ref2.zero_f32).trans ?_
  rw [Finset.sum_congr rfl fun k _ => term_bwd hx hl _, ← coe_sum]
  refine congrArg _ ?_
  by_cases hh : (i 3).val ≤ (i 2).val
  · rw [if_pos hh, ← Fin.sum_univ_eq_sum_range]
    exact Finset.sum_congr rfl fun k _ => if_pos hh
  · rw [if_neg hh]
    exact Finset.sum_eq_zero fun k _ => if_neg hh

theorem out_bwd (hl : ∀ r k, Fin' (at2 x1 r k)) (i : S16x6x4096x128.Idx) : val_main_v117 (F := Ideal) x0 x1 i
    = ((OUT (swish (Sq x0 true (i 0).val 0 (i 1).val)) (gate (LBh x1 (i 1).val) (Sq x0 true (i 0).val 1536 (i 1).val))
      (Sq x0 true (i 0).val 2304 (i 1).val) (i 2).val (i 3).val : ℝ) : EReal) := by
  have i2 : (i 2).val < 4096 := (i 2).isLt
  rw [val_main_v117_apply]
  have e : ∀ s : Fin 4096, val_main_v116 (F := Ideal) x0 x1 (lidx_main_v117 i s) * val_main_v97 (F := Ideal) x0 (ridx_main_v117 i s)
      = ((if s.val ≤ (i 2).val then (∑ k ∈ Finset.range 128, swish (Sq x0 true (i 0).val 0 (i 1).val) (i 2).val k
        * ((1 - gate (LBh x1 (i 1).val) (Sq x0 true (i 0).val 1536 (i 1).val) s.val k)
          * Real.exp (G (gate (LBh x1 (i 1).val) (Sq x0 true (i 0).val 1536 (i 1).val)) ((i 2).val + 1) k
            - G (gate (LBh x1 (i 1).val) (Sq x0 true (i 0).val 1536 (i 1).val)) (s.val + 1) k))) * Sq x0 true (i 0).val 2304 (i 1).val s.val (i 3).val else 0 : ℝ) : EReal) := fun s => by
    rw [att_bwd hx hl, v_bwd hx]
    by_cases hh : s.val ≤ (i 2).val
    · refine (Ideal.mul_congr (congrArg (fun r : ℝ => (r : EReal)) (if_pos hh)) rfl).trans ((EReal.coe_mul _ _).symm.trans ?_)
      exact congrArg (fun r : ℝ => (r : EReal)) (if_pos hh).symm
    · refine (Ideal.mul_congr (congrArg (fun r : ℝ => (r : EReal)) (if_neg hh)) rfl).trans ((EReal.coe_mul _ _).symm.trans ?_)
      exact congrArg (fun r : ℝ => (r : EReal)) ((zero_mul _).trans (if_neg hh).symm)
  rw [Finset.sum_congr rfl fun s _ => e s, ← coe_sum]
  exact congrArg _ (sum_le_range 4096 _ i2 fun s => (∑ k ∈ Finset.range 128, swish (Sq x0 true (i 0).val 0 (i 1).val) (i 2).val k
    * ((1 - gate (LBh x1 (i 1).val) (Sq x0 true (i 0).val 1536 (i 1).val) s k)
      * Real.exp (G (gate (LBh x1 (i 1).val) (Sq x0 true (i 0).val 1536 (i 1).val)) ((i 2).val + 1) k
        - G (gate (LBh x1 (i 1).val) (Sq x0 true (i 0).val 1536 (i 1).val)) (s + 1) k))) * Sq x0 true (i 0).val 2304 (i 1).val s (i 3).val)

theorem res_fwd (hl : ∀ r k, Fin' (at2 x1 r k)) : val_main_v121 (F := Ideal) x0 x1 = scanOut x0 x1 false 768 := funext fun i => by
  have h0 : (i 0).val < 16 := (i 0).isLt
  have h1 : (i 1).val < 4096 := (i 1).isLt
  have h2 : (i 2).val < 768 := (i 2).isLt
  rw [val_main_v121_apply, val_main_v120_apply, val_main_v88_apply]
  refine (out_fwd hx hl _).trans ?_
  show _ = res x0 x1 false 768 (i 0).val (i 1).val (i 2).val
  have e0 : ((idx_main_v88 (idx_main_v120 i)) 0).val = (i 0).val := by show (((i 0).val * 4096 + (i 1).val) * 768 + (i 2).val) / 3145728 = _; omega
  have e1 : ((idx_main_v88 (idx_main_v120 i)) 1).val = (i 2).val / 128 := by show (((i 0).val * 4096 + (i 1).val) * 768 + (i 2).val) / 128 % 6 = _; omega
  have e2 : ((idx_main_v88 (idx_main_v120 i)) 2).val = (i 1).val := by show (((i 0).val * 4096 + (i 1).val) * 768 + (i 2).val) / 768 % 4096 = _; omega
  have e3 : ((idx_main_v88 (idx_main_v120 i)) 3).val = (i 2).val % 128 := by show (((i 0).val * 4096 + (i 1).val) * 768 + (i 2).val) % 128 = _; omega
  rw [e0, e1, e2, e3]
  rfl

theorem v119_at (hl : ∀ r k, Fin' (at2 x1 r k)) (i : S16x4096x6x128.Idx) : val_main_v119 (F := Ideal) x0 x1 i
    = ((OUT (swish (Sq x0 true (i 0).val 0 (i 2).val)) (gate (LBh x1 (i 2).val) (Sq x0 true (i 0).val 1536 (i 2).val))
      (Sq x0 true (i 0).val 2304 (i 2).val) (4096 - 1 - (i 1).val) (i 3).val : ℝ) : EReal) := by
  unfold val_main_v119
  refine (rev_at (val_main_v118 (F := Ideal) x0 x1) i (j := mir i) rfl rfl rfl rfl).trans ?_
  rw [val_main_v118_apply, out_bwd hx hl]
  rfl

theorem res_bwd (hl : ∀ r k, Fin' (at2 x1 r k)) : val_main_v123 (F := Ideal) x0 x1 = scanOut x0 x1 true 1536 := funext fun i => by
  have h0 : (i 0).val < 16 := (i 0).isLt
  have h1 : (i 1).val < 4096 := (i 1).isLt
  have h2 : (i 2).val < 768 := (i 2).isLt
  rw [val_main_v123_apply, val_main_v122_apply]
  refine (v119_at hx hl _).trans ?_
  show _ = res x0 x1 true 1536 (i 0).val (i 1).val (i 2).val
  have e0 : ((idx_main_v122 i) 0).val = (i 0).val := by show (((i 0).val * 4096 + (i 1).val) * 768 + (i 2).val) / 3145728 = _; omega
  have e1 : ((idx_main_v122 i) 2).val = (i 2).val / 128 := by show (((i 0).val * 4096 + (i 1).val) * 768 + (i 2).val) / 128 % 6 = _; omega
  have e2 : ((idx_main_v122 i) 1).val = (i 1).val := by show (((i 0).val * 4096 + (i 1).val) * 768 + (i 2).val) / 768 % 4096 = _; omega
  have e3 : ((idx_main_v122 i) 3).val = (i 2).val % 128 := by show (((i 0).val * 4096 + (i 1).val) * 768 + (i 2).val) % 128 = _; omega
  rw [e0, e1, e2, e3]
  simp only [res, lg, cond_true]

end

end Cert.Ref8

end
-- ==== Proof.Hgrn.Claims.lean ====
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import proofs.«01_k».proof.Proof.Hgrn.Grid
public import proofs.«01_k».proof.Proof.Hgrn.Ref8Read
public import proofs.«01_k».proof.Proof.Finite
public import Idealize.ShloMosaic.Lib.Quiescent

@[expose] public section

noncomputable section

/-! The claims about the second layer's recurrence, from its two runs and the law between the two values. -/

namespace Cert.HgrnClaims

open Idealize.ShloMosaic Idealize.SL.Sem Cert.Attn Cert.Mix

theorem facts : Cert.Pre_finite8.Facts where
  slices_S16x4096x4096_S16x4096x3072_0_0_0 := by decide
  bitsLt_bf16_f32 := by decide
  bcast_S_S16x4096x3072 := by decide
  bcast_S_S2x768 := by decide

local instance : Cert.Pre_finite8.Facts := facts

/-- The precondition: the queries, gates, values and the lower bound's logits are real. -/
theorem fin_args {x0 : FVec Ideal Cert.Pre_finite8.S16x4096x4096 .bf16} {x1 : FVec Ideal Cert.Pre_finite8.S2x768 .f32}
    (h : (Cert.Pre_finite8.fn (F := Ideal) x0 x1).1 = (fun _ => 1#1) ∧ (Cert.Pre_finite8.fn (F := Ideal) x0 x1).2 = (fun _ => 1#1)) :
    (∀ b t k, k < 3072 → Fin' (at3 x0 b t k)) ∧ ∀ r k, Fin' (at2 x1 r k) := by
  refine ⟨fun b t k hk => ?_, fun r k => ?_⟩
  · by_cases hh : b < 16 ∧ t < 4096
    · have e := Cert.Finite.fin_of_olt _ (congrFun h.1 (ix3 ⟨b, hh.1⟩ ⟨t, hh.2⟩ ⟨k, hk⟩))
      exact (congrArg Fin' (at3_of x0 _ (Nat.zero_add _) (Nat.zero_add _) (Nat.zero_add _))).mp e
    · rw [at3, dif_neg (fun h => hh ⟨h.1, h.2.1⟩)]; exact fin_coe 0
  · by_cases hh : r < 2 ∧ k < 768
    · have e := Cert.Finite.fin_of_olt _ (congrFun h.2 (ix2 ⟨r, hh.1⟩ ⟨k, hh.2⟩))
      exact (congrArg Fin' (at2_of x1 (ix2 ⟨r, hh.1⟩ ⟨k, hh.2⟩) rfl rfl)).mp e
    · rw [at2, dif_neg (fun h => hh ⟨h.1, h.2⟩)]; exact fin_coe 0

theorem frame_kernel : Cert.quiescent_Kernel8 := fun m ρ _ => Cert.Kernel8.Gen.frame m ρ

theorem frame_ideal : Cert.quiescent_Kernel8Ideal := fun m ρ _ => Cert.Kernel8Ideal.Gen.frame m ρ

theorem frame_ideal_finite : Cert.quiescent_Kernel8Ideal_pre_finite8 := fun m ρ _ => Cert.Kernel8Ideal.Gen.frame m ρ

theorem frame_ref : Cert.quiescent_Reference8Ideal := fun m ρ _ =>
  (θ_run Cert.Reference8Ideal.defs _ _).mono (fun r h => ⟨fun c => (h c).2.2,
      Idealize.ShloMosaic.sem_eq_zero_of_no_sems (by decide) r.2⟩)
    (Cert.Reference8Ideal.Value.run (F := Ideal) m ρ)

theorem frame_ref_finite : Cert.quiescent_Reference8Ideal_pre_finite8 := fun m ρ _ => frame_ref m ρ trivial

variable (x0 : (⟨Cert.Kernel8Ideal.S16x4096x4096, .bf16⟩ : BufTy).Contents (Elt Ideal)) (x1 : (⟨Cert.Kernel8Ideal.S2x768, .f32⟩ : BufTy).Contents (Elt Ideal))

theorem value_congr {y0 y1} (h : y0 = x0 ∧ y1 = x1) :
    Cert.Reference8Ideal.Read.val_main_v121 (F := Ideal) y0 y1 = Cert.Reference8Ideal.Read.val_main_v121 (F := Ideal) x0 x1
      ∧ Cert.Reference8Ideal.Read.val_main_v123 (F := Ideal) y0 y1 = Cert.Reference8Ideal.Read.val_main_v123 (F := Ideal) x0 x1 := by
  obtain ⟨rfl, rfl⟩ := h
  exact ⟨rfl, rfl⟩

theorem algebraic : Cert.algebraic_Kernel8Ideal_Reference8Ideal_pre_finite8 := by
  intro m ρ m' ρ' hpre hagree
  refine ⟨fun c => (Cert.Kernel8Ideal.Gen.dats m 0 c).arrAt 7 Cert.Kernel8Ideal.cfg0.N,
    fun c => (Cert.Kernel8Ideal.Gen.dats m 0 c).arrAt 8 Cert.Kernel8Ideal.cfg0.N, ?_, ?_⟩
  · exact Cert.Kernel8Ideal.Value.run_blocks m ρ
  · refine (θ_run Cert.Reference8Ideal.defs _ _).mono (fun r h c => ⟨(h c).1.trans ?_, (h c).2.1.trans ?_, (h c).2.2⟩)
      (Cert.Reference8Ideal.Value.run (F := Ideal) m' ρ')
    · have hf := fin_args (hpre c)
      refine (Cert.Reference8Ideal.Read.val_main_v121_eq m' c).trans ?_
      refine Eq.trans ?_ (Cert.Kernel8Ideal.Scan.final_fwd m c hf.1 hf.2).symm
      refine Eq.trans ?_ (Cert.Ref8.res_fwd hf.1 hf.2)
      exact (value_congr _ _ (hagree c)).1
    · have hf := fin_args (hpre c)
      refine (Cert.Reference8Ideal.Read.val_main_v123_eq m' c).trans ?_
      refine Eq.trans ?_ (Cert.Kernel8Ideal.Scan.final_bwd m c hf.1 hf.2).symm
      refine Eq.trans ?_ (Cert.Ref8.res_bwd hf.1 hf.2)
      exact (value_congr _ _ (hagree c)).2

end Cert.HgrnClaims

end
-- ==== Proof.Proj4.lean ====
module

public import proofs.«01_k».proof.Proof.Gen.Kernel4Ideal.Value
public import proofs.«01_k».proof.Proof.Gen.Reference4Ideal.Read
public import proofs.«01_k».proof.Proof.Mix
public import proofs.«01_k».proof.Proof.MixOut
public import Idealize.ShloMosaic.Lib.ValueIdx
public import Idealize.ShloMosaic.Lib.Pointwise
public import Idealize.ShloMosaic.Lib.Pipeline.ValueKit

@[expose] public section

set_option maxRecDepth 16384

noncomputable section

/-! The second layer's input projection: the array its launch leaves, and the reference's value. -/

namespace Cert.Kernel4Ideal.Proj

open Idealize.ShloMosaic Idealize.ShloMosaic.TcCoe Idealize.ShloMosaic.Tactic
open Idealize.ShloMosaic.Pipeline (Dat Cfg Window BodyObligation cellOf)
open Cert.Kernel4Ideal Cert.Kernel4Ideal.Gen Cert.Mix Cert.Attn
open Cert.Kernel2Ideal.Mix (idxv)

variable (m : (ℓ : Loc nD τ sig) → Buf (Elt Ideal) ℓ)

/-- The row block of a grid point. -/
abbrev tr (t : Fin cfg0.N) : ℕ := (grid0.coords t 0).val

theorem index0 : ∀ t : Fin grid0.N, win0_0.index t = ![tr t, 0] := by decide +kernel

theorem index1 : ∀ t : Fin grid0.N, win0_1.index t = ![0, 0] := by decide +kernel

theorem index2 : ∀ t : Fin grid0.N, win0_2.index t = ![tr t, 0] := by decide +kernel

theorem V_v0 (c : Dev nD) : V m c main_v0 = shapeCast S65536x1024 (m ((c : Thread nD τ).loc main_arg0)) shapeCasts_S16x4096x1024_S65536x1024 := by
  simp only [V, hostOps0, List.flatten_cons, List.flatten_nil, List.append_nil, List.cons_append, List.nil_append, StableHlo.after_cons, StableHlo.after_nil]
  after_results_simp
  after_results_loop
  rfl

theorem V_v1 (c : Dev nD) : V m c main_v1 = m ((c : Thread nD τ).loc main_arg1) := by
  simp only [V, hostOps0, List.flatten_cons, List.flatten_nil, List.append_nil, List.cons_append, List.nil_append, StableHlo.after_cons, StableHlo.after_nil]
  after_results_simp
  after_results_loop
  rfl

/-- The flattened tokens, read at an index. -/
theorem flat (x : S16x4096x1024.Idx → EReal) (i : S65536x1024.Idx) :
    shapeCast S65536x1024 x shapeCasts_S16x4096x1024_S65536x1024 i = at3 x ((i 0).val / 4096) ((i 0).val % 4096) (i 1).val := by
  have h0 : (i 0).val < 65536 := (i 0).isLt
  have h1 : (i 1).val < 1024 := (i 1).isLt
  refine (shapeCast_apply x shapeCasts_S16x4096x1024_S65536x1024 i (ValueIdx.ix3 ⟨(i 0).val / 4096, by omega⟩ ⟨(i 0).val % 4096, by omega⟩ ⟨(i 1).val, h1⟩) ?_).trans
    (at3_of x _ rfl rfl rfl)
  rewrite [Shape.rowMajor_val_three, Shape.rowMajor_val_two]
  show ((i 0).val / 4096 * 4096 + (i 0).val % 4096) * 1024 + (i 1).val = (i 0).val * 1024 + (i 1).val
  omega

theorem blk0 (c : Dev nD) (t : Fin cfg0.N) (r : Fin 512) (l : Fin 1024) :
    (iblk m c 0 t (ix2 r l : S512x1024.Idx) : EReal)
      = at3 (m ((c : Thread nD τ).loc main_arg0)) ((tr t * 512 + r.val) / 4096) ((tr t * 512 + r.val) % 4096) l.val := by
  unfold iblk
  refine (congrFun (V_v0 m c) _).trans ((flat _ _).trans (congr (congrArg₂ (at3 _) (congrArg (· / 4096) ?_) (congrArg (· % 4096) ?_)) ?_))
  · blk_simp [index0 t]
  · blk_simp [index0 t]
  · blk_simp [index0 t]

theorem blk1 (c : Dev nD) (t : Fin cfg0.N) (r : Fin 1024) (l : Fin 4096) :
    (iblk m c 1 t (ix2 r l : S1024x4096.Idx) : EReal) = at2 (m ((c : Thread nD τ).loc main_arg1)) r.val l.val := by
  unfold iblk
  refine (congrFun (V_v1 m c) _).trans ?_
  refine at2_of (m ((c : Thread nD τ).loc main_arg1)) _ ?_ ?_
  · blk_simp [index1 t]
  · blk_simp [index1 t]

theorem chunk_apply (v0 : Vec Ideal S512x1024 .f32) (v3 : Vec Ideal S1024x512 .bf16) (r l : Fin 512) :
    (k0_pay5 (F := Ideal) v0 v3 (ix2 r l) : EReal) = ∑ k : Fin 1024, v0 (ix2 r k) * v3 (ix2 k l) := by
  pointwise [k0_pay5, k0_pay4]

/-- The block as one function. -/
def blockG (X W : ℕ → ℕ → EReal) : Vec Ideal S512x4096 .bf16 := fun y => dotr X W (y 0).val (y 1).val

theorem piece (X W : ℕ → ℕ → EReal) (v0 : Vec Ideal S512x1024 .f32) (v3 : Vec Ideal S1024x512 .bf16) (o : ℕ)
    (hx : ∀ (r : Fin 512) (k : Fin 1024), v0 (ix2 r k) = X r.val k.val) (hw : ∀ (k : Fin 1024) (l : Fin 512), v3 (ix2 k l) = W k.val (o + l.val))
    (off : Fin 2 → ℕ) (inb) (ho : off = ![0, o]) (x : (Rect.unit (s := S512x4096) off ![512, 512] inb).shape.Idx) :
    k0_pay5 (F := Ideal) v0 v3 x = blockG X W ((Rect.unit (s := S512x4096) off ![512, 512] inb).emb x) := by
  have e0 : ((Rect.unit (s := S512x4096) off ![512, 512] inb).emb x 0).val = (x 0).val :=
    idxv (s := S512x4096) off ![512, 512] inb x 0 (by rw [ho]; rfl) (Nat.zero_add _)
  have e1 : ((Rect.unit (s := S512x4096) off ![512, 512] inb).emb x 1).val = o + (x 1).val :=
    idxv (s := S512x4096) off ![512, 512] inb x 1 (by rw [ho]; rfl) rfl
  unfold blockG
  rw [e0, e1]
  have hi : x = ix2 (x 0) (x 1) := by
    funext a; match a with | ⟨0, _⟩ => rfl | ⟨1, _⟩ => rfl
  rw [hi]
  refine (chunk_apply v0 v3 (x 0) (x 1)).trans (Finset.sum_congr rfl fun k _ => ?_)
  exact Ideal.mul_congr (hx (x 0) k) (hw k (x 1))

/-- The rows the point `t` stages. -/
abbrev rows (c : Dev nD) (t : Fin cfg0.N) (r k : ℕ) : EReal :=
  at3 (m ((c : Thread nD τ).loc main_arg0)) ((tr t * 512 + r) / 4096) ((tr t * 512 + r) % 4096) k

set_option maxHeartbeats 1000000 in
theorem out_at (c : Dev nD) (t : Fin cfg0.N) (y : S512x4096.Idx) :
    (out0_2 (iblk m c 0 t) (iblk m c 1 t) y : EReal) = dotr (rows m c t) (at2 (m ((c : Thread nD τ).loc main_arg1))) (y 0).val (y 1).val := by
  unfold out0_2 k0_pay10
  refine View.canon_apply_of_pieces (blockG (rows m c t) (at2 (m ((c : Thread nD τ).loc main_arg1)))) _ (fun p hp x => View.PiecesOf.mem (L := _) ?_ p hp x) y
    (cover0_2 _ _ _ _ _ _ _ _ y)
  refine ⟨?_, ?_, ?_, ?_, ?_, ?_, ?_, ?_, trivial⟩
  · refine piece _ _ _ _ 3584 ?_ ?_ ![0, 3584] (by decide) rfl <;> intro a b <;> pointwise
    · exact blk0 m c t a b
    · exact blk1 m c t a _
  · refine piece _ _ _ _ 3072 ?_ ?_ ![0, 3072] (by decide) rfl <;> intro a b <;> pointwise
    · exact blk0 m c t a b
    · exact blk1 m c t a _
  · refine piece _ _ _ _ 2560 ?_ ?_ ![0, 2560] (by decide) rfl <;> intro a b <;> pointwise
    · exact blk0 m c t a b
    · exact blk1 m c t a _
  · refine piece _ _ _ _ 2048 ?_ ?_ ![0, 2048] (by decide) rfl <;> intro a b <;> pointwise
    · exact blk0 m c t a b
    · exact blk1 m c t a _
  · refine piece _ _ _ _ 1536 ?_ ?_ ![0, 1536] (by decide) rfl <;> intro a b <;> pointwise
    · exact blk0 m c t a b
    · exact blk1 m c t a _
  · refine piece _ _ _ _ 1024 ?_ ?_ ![0, 1024] (by decide) rfl <;> intro a b <;> pointwise
    · exact blk0 m c t a b
    · exact blk1 m c t a _
  · refine piece _ _ _ _ 512 ?_ ?_ ![0, 512] (by decide) rfl <;> intro a b <;> pointwise
    · exact blk0 m c t a b
    · exact blk1 m c t a _
  · refine piece _ _ _ _ 0 ?_ ?_ ![0, 0] (by decide) rfl <;> intro a b <;> pointwise
    · exact blk0 m c t a b
    · exact blk1 m c t a _

/-- The projected tokens over every index. -/
def projOut (x0 : S16x4096x1024.Idx → EReal) (x1 : S1024x4096.Idx → EReal) : S65536x4096.Idx → EReal :=
  fun i => ∑ k : Fin 1024, at3 x0 ((i 0).val / 4096) ((i 0).val % 4096) k.val * at2 x1 k.val (i 1).val

theorem projOut_of (x0 : S16x4096x1024.Idx → EReal) (x1 : S1024x4096.Idx → EReal) (i : S65536x4096.Idx) (b r l : ℕ) (h0 : b + r = (i 0).val) (h1 : l = (i 1).val) :
    dotr (fun r k => at3 x0 ((b + r) / 4096) ((b + r) % 4096) k) (at2 x1) r l = projOut x0 x1 i := by
  unfold dotr projOut
  subst h1
  dsimp only
  rw [h0]

/-- The output array after the launch. -/
theorem final (c : Dev nD) :
    (dats m 0 c).arrAt 2 cfg0.N = projOut (m ((c : Thread nD τ).loc main_arg0)) (m ((c : Thread nD τ).loc main_arg1)) := by
  refine (dats m 0 c).arrAt_eq_of_covers 2 _ (by decide +kernel) fun t hf y => ?_
  rw [after0_2]
  blk_simp
  refine (out_at m c t _).trans (projOut_of _ _ _ _ _ _ ?_ ?_)
  · blk_simp [index2 t]
  · blk_simp [index2 t]

open Cert.Reference4Ideal.Read in
/-- The reference's value is the same sum. -/
theorem ref_eq (x0 : (⟨Cert.Reference4Ideal.S16x4096x1024, .f32⟩ : BufTy).Contents (Elt Ideal)) (x1 : (⟨Cert.Reference4Ideal.S1024x4096, .f32⟩ : BufTy).Contents (Elt Ideal)) :
    val_main_v2 (F := Ideal) x0 x1 = projOut x0 x1 := by
  funext i
  have h0 : (i 0).val < 65536 := (i 0).isLt
  have h1 : (i 1).val < 4096 := (i 1).isLt
  rw [val_main_v2_apply, val_main_v1_apply, val_main_v0_apply]
  refine Finset.sum_congr rfl fun k _ => Ideal.mul_congr (at3_of x0 _ ?_ ?_ rfl) (at2_of x1 _ rfl ?_)
  · show ((i 0).val * 4096 + (i 1).val) / 16777216 = (i 0).val / 4096; omega
  · show ((i 0).val * 4096 + (i 1).val) / 4096 % 4096 = (i 0).val % 4096; omega
  · show ((i 0).val * 4096 + (i 1).val) % 4096 = (i 1).val; omega

end Cert.Kernel4Ideal.Proj
end
-- ==== Proof.Proj5.lean ====
module

public import proofs.«01_k».proof.Proof.Gen.Kernel5Ideal.Value
public import proofs.«01_k».proof.Proof.Gen.Reference5Ideal.Read
public import proofs.«01_k».proof.Proof.Mix
public import proofs.«01_k».proof.Proof.MixOut
public import Idealize.ShloMosaic.Lib.ValueIdx
public import Idealize.ShloMosaic.Lib.Pointwise
public import Idealize.ShloMosaic.Lib.Pipeline.ValueKit

@[expose] public section

set_option maxRecDepth 16384

noncomputable section

/-! The first layer's input projection: the array its launch leaves, and the reference's value. -/

namespace Cert.Kernel5Ideal.Proj

open Idealize.ShloMosaic Idealize.ShloMosaic.TcCoe Idealize.ShloMosaic.Tactic
open Idealize.ShloMosaic.Pipeline (Dat Cfg Window BodyObligation cellOf)
open Cert.Kernel5Ideal Cert.Kernel5Ideal.Gen Cert.Mix Cert.Attn
open Cert.Kernel2Ideal.Mix (idxv)

variable (m : (ℓ : Loc nD τ sig) → Buf (Elt Ideal) ℓ)

/-- The row block of a grid point. -/
abbrev tr (t : Fin cfg0.N) : ℕ := (grid0.coords t 0).val

theorem index0 : ∀ t : Fin grid0.N, win0_0.index t = ![tr t, 0] := by decide +kernel

theorem index1 : ∀ t : Fin grid0.N, win0_1.index t = ![0, 0] := by decide +kernel

theorem index2 : ∀ t : Fin grid0.N, win0_2.index t = ![tr t, 0] := by decide +kernel

theorem V_v0 (c : Dev nD) : V m c main_v0 = shapeCast S65536x1024 (m ((c : Thread nD τ).loc main_arg0)) shapeCasts_S16x4096x1024_S65536x1024 := by
  simp only [V, hostOps0, List.flatten_cons, List.flatten_nil, List.append_nil, List.cons_append, List.nil_append, StableHlo.after_cons, StableHlo.after_nil]
  after_results_simp
  after_results_loop
  rfl

theorem V_v1 (c : Dev nD) : V m c main_v1 = m ((c : Thread nD τ).loc main_arg1) := by
  simp only [V, hostOps0, List.flatten_cons, List.flatten_nil, List.append_nil, List.cons_append, List.nil_append, StableHlo.after_cons, StableHlo.after_nil]
  after_results_simp
  after_results_loop
  rfl

/-- The flattened tokens, read at an index. -/
theorem flat (x : S16x4096x1024.Idx → EReal) (i : S65536x1024.Idx) :
    shapeCast S65536x1024 x shapeCasts_S16x4096x1024_S65536x1024 i = at3 x ((i 0).val / 4096) ((i 0).val % 4096) (i 1).val := by
  have h0 : (i 0).val < 65536 := (i 0).isLt
  have h1 : (i 1).val < 1024 := (i 1).isLt
  refine (shapeCast_apply x shapeCasts_S16x4096x1024_S65536x1024 i (ValueIdx.ix3 ⟨(i 0).val / 4096, by omega⟩ ⟨(i 0).val % 4096, by omega⟩ ⟨(i 1).val, h1⟩) ?_).trans
    (at3_of x _ rfl rfl rfl)
  rewrite [Shape.rowMajor_val_three, Shape.rowMajor_val_two]
  show ((i 0).val / 4096 * 4096 + (i 0).val % 4096) * 1024 + (i 1).val = (i 0).val * 1024 + (i 1).val
  omega

theorem blk0 (c : Dev nD) (t : Fin cfg0.N) (r : Fin 512) (l : Fin 1024) :
    (iblk m c 0 t (ix2 r l : S512x1024.Idx) : EReal)
      = at3 (m ((c : Thread nD τ).loc main_arg0)) ((tr t * 512 + r.val) / 4096) ((tr t * 512 + r.val) % 4096) l.val := by
  unfold iblk
  refine (congrFun (V_v0 m c) _).trans ((flat _ _).trans (congr (congrArg₂ (at3 _) (congrArg (· / 4096) ?_) (congrArg (· % 4096) ?_)) ?_))
  · blk_simp [index0 t]
  · blk_simp [index0 t]
  · blk_simp [index0 t]

theorem blk1 (c : Dev nD) (t : Fin cfg0.N) (r : Fin 1024) (l : Fin 2560) :
    (iblk m c 1 t (ix2 r l : S1024x2560.Idx) : EReal) = at2 (m ((c : Thread nD τ).loc main_arg1)) r.val l.val := by
  unfold iblk
  refine (congrFun (V_v1 m c) _).trans ?_
  refine at2_of (m ((c : Thread nD τ).loc main_arg1)) _ ?_ ?_
  · blk_simp [index1 t]
  · blk_simp [index1 t]

theorem chunk_apply (v0 : Vec Ideal S512x1024 .f32) (v3 : Vec Ideal S1024x512 .bf16) (r l : Fin 512) :
    (k0_pay2 (F := Ideal) v0 v3 (ix2 r l) : EReal) = ∑ k : Fin 1024, v0 (ix2 r k) * v3 (ix2 k l) := by
  pointwise [k0_pay2, k0_pay1]

/-- The block as one function. -/
def blockG (X W : ℕ → ℕ → EReal) : Vec Ideal S512x2560 .bf16 := fun y => dotr X W (y 0).val (y 1).val

theorem piece (X W : ℕ → ℕ → EReal) (v0 : Vec Ideal S512x1024 .f32) (v3 : Vec Ideal S1024x512 .bf16) (o : ℕ)
    (hx : ∀ (r : Fin 512) (k : Fin 1024), v0 (ix2 r k) = X r.val k.val) (hw : ∀ (k : Fin 1024) (l : Fin 512), v3 (ix2 k l) = W k.val (o + l.val))
    (off : Fin 2 → ℕ) (inb) (ho : off = ![0, o]) (x : (Rect.unit (s := S512x2560) off ![512, 512] inb).shape.Idx) :
    k0_pay2 (F := Ideal) v0 v3 x = blockG X W ((Rect.unit (s := S512x2560) off ![512, 512] inb).emb x) := by
  have e0 : ((Rect.unit (s := S512x2560) off ![512, 512] inb).emb x 0).val = (x 0).val :=
    idxv (s := S512x2560) off ![512, 512] inb x 0 (by rw [ho]; rfl) (Nat.zero_add _)
  have e1 : ((Rect.unit (s := S512x2560) off ![512, 512] inb).emb x 1).val = o + (x 1).val :=
    idxv (s := S512x2560) off ![512, 512] inb x 1 (by rw [ho]; rfl) rfl
  unfold blockG
  rw [e0, e1]
  have hi : x = ix2 (x 0) (x 1) := by
    funext a; match a with | ⟨0, _⟩ => rfl | ⟨1, _⟩ => rfl
  rw [hi]
  refine (chunk_apply v0 v3 (x 0) (x 1)).trans (Finset.sum_congr rfl fun k _ => ?_)
  exact Ideal.mul_congr (hx (x 0) k) (hw k (x 1))

/-- The rows the point `t` stages. -/
abbrev rows (c : Dev nD) (t : Fin cfg0.N) (r k : ℕ) : EReal :=
  at3 (m ((c : Thread nD τ).loc main_arg0)) ((tr t * 512 + r) / 4096) ((tr t * 512 + r) % 4096) k

set_option maxHeartbeats 1000000 in
theorem out_at (c : Dev nD) (t : Fin cfg0.N) (y : S512x2560.Idx) :
    (out0_2 (iblk m c 0 t) (iblk m c 1 t) y : EReal) = dotr (rows m c t) (at2 (m ((c : Thread nD τ).loc main_arg1))) (y 0).val (y 1).val := by
  unfold out0_2
  refine View.canon_apply_of_pieces (blockG (rows m c t) (at2 (m ((c : Thread nD τ).loc main_arg1)))) _ (fun p hp x => View.PiecesOf.mem (L := _) ?_ p hp x) y
    (cover0_2 _ _ _ _ _ y)
  refine ⟨?_, ?_, ?_, ?_, ?_, trivial⟩
  · refine piece _ _ _ _ 2048 ?_ ?_ ![0, 2048] (by decide) rfl <;> intro a b <;> pointwise
    · exact blk0 m c t a b
    · exact blk1 m c t a _
  · refine piece _ _ _ _ 1536 ?_ ?_ ![0, 1536] (by decide) rfl <;> intro a b <;> pointwise
    · exact blk0 m c t a b
    · exact blk1 m c t a _
  · refine piece _ _ _ _ 1024 ?_ ?_ ![0, 1024] (by decide) rfl <;> intro a b <;> pointwise
    · exact blk0 m c t a b
    · exact blk1 m c t a _
  · refine piece _ _ _ _ 512 ?_ ?_ ![0, 512] (by decide) rfl <;> intro a b <;> pointwise
    · exact blk0 m c t a b
    · exact blk1 m c t a _
  · refine piece _ _ _ _ 0 ?_ ?_ ![0, 0] (by decide) rfl <;> intro a b <;> pointwise
    · exact blk0 m c t a b
    · exact blk1 m c t a _

/-- The projected tokens over every index. -/
def projOut (x0 : S16x4096x1024.Idx → EReal) (x1 : S1024x2560.Idx → EReal) : S65536x2560.Idx → EReal :=
  fun i => ∑ k : Fin 1024, at3 x0 ((i 0).val / 4096) ((i 0).val % 4096) k.val * at2 x1 k.val (i 1).val

theorem projOut_of (x0 : S16x4096x1024.Idx → EReal) (x1 : S1024x2560.Idx → EReal) (i : S65536x2560.Idx) (b r l : ℕ) (h0 : b + r = (i 0).val) (h1 : l = (i 1).val) :
    dotr (fun r k => at3 x0 ((b + r) / 4096) ((b + r) % 4096) k) (at2 x1) r l = projOut x0 x1 i := by
  unfold dotr projOut
  subst h1
  dsimp only
  rw [h0]

/-- The output array after the launch. -/
theorem final (c : Dev nD) :
    (dats m 0 c).arrAt 2 cfg0.N = projOut (m ((c : Thread nD τ).loc main_arg0)) (m ((c : Thread nD τ).loc main_arg1)) := by
  refine (dats m 0 c).arrAt_eq_of_covers 2 _ (by decide +kernel) fun t hf y => ?_
  rw [after0_2]
  blk_simp
  refine (out_at m c t _).trans (projOut_of _ _ _ _ _ _ ?_ ?_)
  · blk_simp [index2 t]
  · blk_simp [index2 t]

open Cert.Reference5Ideal.Read in
/-- The reference's value is the same sum. -/
theorem ref_eq (x0 : (⟨Cert.Reference5Ideal.S16x4096x1024, .f32⟩ : BufTy).Contents (Elt Ideal)) (x1 : (⟨Cert.Reference5Ideal.S1024x2560, .f32⟩ : BufTy).Contents (Elt Ideal)) :
    val_main_v2 (F := Ideal) x0 x1 = projOut x0 x1 := by
  funext i
  have h0 : (i 0).val < 65536 := (i 0).isLt
  have h1 : (i 1).val < 2560 := (i 1).isLt
  rw [val_main_v2_apply, val_main_v1_apply, val_main_v0_apply]
  refine Finset.sum_congr rfl fun k _ => Ideal.mul_congr (at3_of x0 _ ?_ ?_ rfl) (at2_of x1 _ rfl ?_)
  · show ((i 0).val * 2560 + (i 1).val) / 10485760 = (i 0).val / 4096; omega
  · show ((i 0).val * 2560 + (i 1).val) / 2560 % 4096 = (i 0).val % 4096; omega
  · show ((i 0).val * 2560 + (i 1).val) % 2560 = (i 1).val; omega

end Cert.Kernel5Ideal.Proj
end
-- ==== Proof.Proj6.lean ====
module

public import proofs.«01_k».proof.Proof.Gen.Kernel6Ideal.Value
public import proofs.«01_k».proof.Proof.Gen.Reference6Ideal.Read
public import proofs.«01_k».proof.Proof.Mix
public import proofs.«01_k».proof.Proof.MixOut
public import Idealize.ShloMosaic.Lib.ValueIdx
public import Idealize.ShloMosaic.Lib.Pointwise
public import Idealize.ShloMosaic.Lib.Pipeline.ValueKit

@[expose] public section

set_option maxRecDepth 16384

noncomputable section

/-! The memory's projection to keys and values: the array its launch leaves, and the reference's value. -/

namespace Cert.Kernel6Ideal.Proj

open Idealize.ShloMosaic Idealize.ShloMosaic.TcCoe Idealize.ShloMosaic.Tactic
open Idealize.ShloMosaic.Pipeline (Dat Cfg Window BodyObligation cellOf)
open Cert.Kernel6Ideal Cert.Kernel6Ideal.Gen Cert.Mix Cert.Attn
open Cert.Kernel2Ideal.Mix (idxv)

variable (m : (ℓ : Loc nD τ sig) → Buf (Elt Ideal) ℓ)

/-- The row block of a grid point. -/
abbrev tr (t : Fin cfg0.N) : ℕ := (grid0.coords t 0).val

theorem index0 : ∀ t : Fin grid0.N, win0_0.index t = ![tr t, 0] := by decide +kernel

theorem index1 : ∀ t : Fin grid0.N, win0_1.index t = ![0, 0] := by decide +kernel

theorem index2 : ∀ t : Fin grid0.N, win0_2.index t = ![tr t, 0] := by decide +kernel

theorem V_v0 (c : Dev nD) : V m c main_v0 = shapeCast S4096x1024 (m ((c : Thread nD τ).loc main_arg0)) shapeCasts_S16x256x1024_S4096x1024 := by
  simp only [V, hostOps0, List.flatten_cons, List.flatten_nil, List.append_nil, List.cons_append, List.nil_append, StableHlo.after_cons, StableHlo.after_nil]
  after_results_simp
  after_results_loop
  rfl

theorem V_v1 (c : Dev nD) : V m c main_v1 = m ((c : Thread nD τ).loc main_arg1) := by
  simp only [V, hostOps0, List.flatten_cons, List.flatten_nil, List.append_nil, List.cons_append, List.nil_append, StableHlo.after_cons, StableHlo.after_nil]
  after_results_simp
  after_results_loop
  rfl

/-- The flattened tokens, read at an index. -/
theorem flat (x : S16x256x1024.Idx → EReal) (i : S4096x1024.Idx) :
    shapeCast S4096x1024 x shapeCasts_S16x256x1024_S4096x1024 i = at3 x ((i 0).val / 256) ((i 0).val % 256) (i 1).val := by
  have h0 : (i 0).val < 4096 := (i 0).isLt
  have h1 : (i 1).val < 1024 := (i 1).isLt
  refine (shapeCast_apply x shapeCasts_S16x256x1024_S4096x1024 i (ValueIdx.ix3 ⟨(i 0).val / 256, by omega⟩ ⟨(i 0).val % 256, by omega⟩ ⟨(i 1).val, h1⟩) ?_).trans
    (at3_of x _ rfl rfl rfl)
  rewrite [Shape.rowMajor_val_three, Shape.rowMajor_val_two]
  show ((i 0).val / 256 * 256 + (i 0).val % 256) * 1024 + (i 1).val = (i 0).val * 1024 + (i 1).val
  omega

theorem blk0 (c : Dev nD) (t : Fin cfg0.N) (r : Fin 512) (l : Fin 1024) :
    (iblk m c 0 t (ix2 r l : S512x1024.Idx) : EReal)
      = at3 (m ((c : Thread nD τ).loc main_arg0)) ((tr t * 512 + r.val) / 256) ((tr t * 512 + r.val) % 256) l.val := by
  unfold iblk
  refine (congrFun (V_v0 m c) _).trans ((flat _ _).trans (congr (congrArg₂ (at3 _) (congrArg (· / 256) ?_) (congrArg (· % 256) ?_)) ?_))
  · blk_simp [index0 t]
  · blk_simp [index0 t]
  · blk_simp [index0 t]

theorem blk1 (c : Dev nD) (t : Fin cfg0.N) (r : Fin 1024) (l : Fin 512) :
    (iblk m c 1 t (ix2 r l : S1024x512.Idx) : EReal) = at2 (m ((c : Thread nD τ).loc main_arg1)) r.val l.val := by
  unfold iblk
  refine (congrFun (V_v1 m c) _).trans ?_
  refine at2_of (m ((c : Thread nD τ).loc main_arg1)) _ ?_ ?_
  · blk_simp [index1 t]
  · blk_simp [index1 t]

theorem chunk_apply (v0 : Vec Ideal S512x1024 .f32) (v3 : Vec Ideal S1024x512 .bf16) (r l : Fin 512) :
    (k0_pay1 (F := Ideal) v0 v3 (ix2 r l) : EReal) = ∑ k : Fin 1024, v0 (ix2 r k) * v3 (ix2 k l) := by
  pointwise [k0_pay1]

/-- The block as one function. -/
def blockG (X W : ℕ → ℕ → EReal) : Vec Ideal S512x512 .bf16 := fun y => dotr X W (y 0).val (y 1).val

theorem piece (X W : ℕ → ℕ → EReal) (v0 : Vec Ideal S512x1024 .f32) (v3 : Vec Ideal S1024x512 .bf16) (o : ℕ)
    (hx : ∀ (r : Fin 512) (k : Fin 1024), v0 (ix2 r k) = X r.val k.val) (hw : ∀ (k : Fin 1024) (l : Fin 512), v3 (ix2 k l) = W k.val (o + l.val))
    (off : Fin 2 → ℕ) (inb) (ho : off = ![0, o]) (x : (Rect.unit (s := S512x512) off ![512, 512] inb).shape.Idx) :
    k0_pay1 (F := Ideal) v0 v3 x = blockG X W ((Rect.unit (s := S512x512) off ![512, 512] inb).emb x) := by
  have e0 : ((Rect.unit (s := S512x512) off ![512, 512] inb).emb x 0).val = (x 0).val :=
    idxv (s := S512x512) off ![512, 512] inb x 0 (by rw [ho]; rfl) (Nat.zero_add _)
  have e1 : ((Rect.unit (s := S512x512) off ![512, 512] inb).emb x 1).val = o + (x 1).val :=
    idxv (s := S512x512) off ![512, 512] inb x 1 (by rw [ho]; rfl) rfl
  unfold blockG
  rw [e0, e1]
  have hi : x = ix2 (x 0) (x 1) := by
    funext a; match a with | ⟨0, _⟩ => rfl | ⟨1, _⟩ => rfl
  rw [hi]
  refine (chunk_apply v0 v3 (x 0) (x 1)).trans (Finset.sum_congr rfl fun k _ => ?_)
  exact Ideal.mul_congr (hx (x 0) k) (hw k (x 1))

/-- The rows the point `t` stages. -/
abbrev rows (c : Dev nD) (t : Fin cfg0.N) (r k : ℕ) : EReal :=
  at3 (m ((c : Thread nD τ).loc main_arg0)) ((tr t * 512 + r) / 256) ((tr t * 512 + r) % 256) k

set_option maxHeartbeats 1000000 in
theorem out_at (c : Dev nD) (t : Fin cfg0.N) (y : S512x512.Idx) :
    (out0_2 (iblk m c 0 t) (iblk m c 1 t) y : EReal) = dotr (rows m c t) (at2 (m ((c : Thread nD τ).loc main_arg1))) (y 0).val (y 1).val := by
  unfold out0_2
  refine View.canon_apply_of_pieces (blockG (rows m c t) (at2 (m ((c : Thread nD τ).loc main_arg1)))) _ (fun p hp x => View.PiecesOf.mem (L := _) ?_ p hp x) y
    (cover0_2 _ y)
  refine ⟨?_, trivial⟩
  · refine piece _ _ _ _ 0 ?_ ?_ ![0, 0] (by decide) rfl <;> intro a b <;> pointwise
    · exact blk0 m c t a b
    · exact blk1 m c t a _

/-- The projected tokens over every index. -/
def projOut (x0 : S16x256x1024.Idx → EReal) (x1 : S1024x512.Idx → EReal) : S4096x512.Idx → EReal :=
  fun i => ∑ k : Fin 1024, at3 x0 ((i 0).val / 256) ((i 0).val % 256) k.val * at2 x1 k.val (i 1).val

theorem projOut_of (x0 : S16x256x1024.Idx → EReal) (x1 : S1024x512.Idx → EReal) (i : S4096x512.Idx) (b r l : ℕ) (h0 : b + r = (i 0).val) (h1 : l = (i 1).val) :
    dotr (fun r k => at3 x0 ((b + r) / 256) ((b + r) % 256) k) (at2 x1) r l = projOut x0 x1 i := by
  unfold dotr projOut
  subst h1
  dsimp only
  rw [h0]

/-- The output array after the launch. -/
theorem final (c : Dev nD) :
    (dats m 0 c).arrAt 2 cfg0.N = projOut (m ((c : Thread nD τ).loc main_arg0)) (m ((c : Thread nD τ).loc main_arg1)) := by
  refine (dats m 0 c).arrAt_eq_of_covers 2 _ (by decide +kernel) fun t hf y => ?_
  rw [after0_2]
  blk_simp
  refine (out_at m c t _).trans (projOut_of _ _ _ _ _ _ ?_ ?_)
  · blk_simp [index2 t]
  · blk_simp [index2 t]

open Cert.Reference6Ideal.Read in
/-- The reference's value is the same sum. -/
theorem ref_eq (x0 : (⟨Cert.Reference6Ideal.S16x256x1024, .f32⟩ : BufTy).Contents (Elt Ideal)) (x1 : (⟨Cert.Reference6Ideal.S1024x512, .f32⟩ : BufTy).Contents (Elt Ideal)) :
    val_main_v2 (F := Ideal) x0 x1 = projOut x0 x1 := by
  funext i
  have h0 : (i 0).val < 4096 := (i 0).isLt
  have h1 : (i 1).val < 512 := (i 1).isLt
  rw [val_main_v2_apply, val_main_v1_apply, val_main_v0_apply]
  refine Finset.sum_congr rfl fun k _ => Ideal.mul_congr (at3_of x0 _ ?_ ?_ rfl) (at2_of x1 _ rfl ?_)
  · show ((i 0).val * 512 + (i 1).val) / 131072 = (i 0).val / 256; omega
  · show ((i 0).val * 512 + (i 1).val) / 512 % 256 = (i 0).val % 256; omega
  · show ((i 0).val * 512 + (i 1).val) % 512 = (i 1).val; omega

end Cert.Kernel6Ideal.Proj
end
-- ==== Proof.ProjClaims.lean ====
module

public import proofs.«01_k».proof.Defs
public import proofs.«01_k».proof.Proof.Gen.Kernel4.Frame
public import proofs.«01_k».proof.Proof.Gen.Reference4Ideal.Run
public import proofs.«01_k».proof.Proof.Proj4
public import proofs.«01_k».proof.Proof.Gen.Kernel5.Frame
public import proofs.«01_k».proof.Proof.Gen.Reference5Ideal.Run
public import proofs.«01_k».proof.Proof.Proj5
public import proofs.«01_k».proof.Proof.Gen.Kernel6.Frame
public import proofs.«01_k».proof.Proof.Gen.Reference6Ideal.Run
public import proofs.«01_k».proof.Proof.Proj6
public import Idealize.ShloMosaic.Lib.Quiescent

@[expose] public section

noncomputable section

/-! The claims about the three input projections: their frames, and the law between each launch's array and its reference's value. -/

namespace Cert.ProjClaims

open Idealize.ShloMosaic Idealize.SL.Sem

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_ref4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem algebraic4 : Cert.algebraic_Kernel4Ideal_Reference4Ideal := by
  intro m ρ m' ρ' _ hagree
  refine ⟨fun c => (Cert.Kernel4Ideal.Gen.dats m 0 c).arrAt 2 Cert.Kernel4Ideal.cfg0.N, Cert.Kernel4Ideal.Value.run_blocks m ρ, ?_⟩
  refine (θ_run Cert.Reference4Ideal.defs _ _).mono (fun r h c => ⟨(h c).1.trans ?_, (h c).2⟩)
    (Cert.Reference4Ideal.Value.run (F := Ideal) m' ρ')
  refine (Cert.Reference4Ideal.Read.val_main_v2_eq _ _).trans ((Cert.Kernel4Ideal.Proj.ref_eq _ _).trans ?_)
  exact (congrArg₂ Cert.Kernel4Ideal.Proj.projOut (hagree c).1 (hagree c).2).trans (Cert.Kernel4Ideal.Proj.final m c).symm

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_ref5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem algebraic5 : Cert.algebraic_Kernel5Ideal_Reference5Ideal := by
  intro m ρ m' ρ' _ hagree
  refine ⟨fun c => (Cert.Kernel5Ideal.Gen.dats m 0 c).arrAt 2 Cert.Kernel5Ideal.cfg0.N, Cert.Kernel5Ideal.Value.run_blocks m ρ, ?_⟩
  refine (θ_run Cert.Reference5Ideal.defs _ _).mono (fun r h c => ⟨(h c).1.trans ?_, (h c).2⟩)
    (Cert.Reference5Ideal.Value.run (F := Ideal) m' ρ')
  refine (Cert.Reference5Ideal.Read.val_main_v2_eq _ _).trans ((Cert.Kernel5Ideal.Proj.ref_eq _ _).trans ?_)
  exact (congrArg₂ Cert.Kernel5Ideal.Proj.projOut (hagree c).1 (hagree c).2).trans (Cert.Kernel5Ideal.Proj.final m c).symm

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_ref6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem algebraic6 : Cert.algebraic_Kernel6Ideal_Reference6Ideal := by
  intro m ρ m' ρ' _ hagree
  refine ⟨fun c => (Cert.Kernel6Ideal.Gen.dats m 0 c).arrAt 2 Cert.Kernel6Ideal.cfg0.N, Cert.Kernel6Ideal.Value.run_blocks m ρ, ?_⟩
  refine (θ_run Cert.Reference6Ideal.defs _ _).mono (fun r h c => ⟨(h c).1.trans ?_, (h c).2⟩)
    (Cert.Reference6Ideal.Value.run (F := Ideal) m' ρ')
  refine (Cert.Reference6Ideal.Read.val_main_v2_eq _ _).trans ((Cert.Kernel6Ideal.Proj.ref_eq _ _).trans ?_)
  exact (congrArg₂ Cert.Kernel6Ideal.Proj.projOut (hagree c).1 (hagree c).2).trans (Cert.Kernel6Ideal.Proj.final m c).symm

end Cert.ProjClaims

end
-- ==== Proof.lean ====
module

public import proofs.«01_k».proof.Defs
public import proofs.«01_k».proof.Proof.NaClaims
public import proofs.«01_k».proof.Proof.MixClaims
public import proofs.«01_k».proof.Proof.Mix3Claims
public import proofs.«01_k».proof.Proof.Mix7Claims
public import proofs.«01_k».proof.Proof.Hgrn.Claims
public import proofs.«01_k».proof.Proof.ProjClaims

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Finite.facts, Cert.MixClaims.facts, Cert.Mix3Claims.facts, Cert.Mix7Claims.facts, Cert.HgrnClaims.facts,
    Cert.NaClaims.frame_kernel, Cert.NaClaims.frame_ideal, Cert.NaClaims.frame_ideal_finite, Cert.NaClaims.frame_ref, Cert.NaClaims.frame_ref_finite,
    Cert.MixClaims.frame_kernel, Cert.MixClaims.frame_ideal, Cert.MixClaims.frame_ideal_finite, Cert.MixClaims.frame_ref, Cert.MixClaims.frame_ref_finite,
    Cert.Mix3Claims.frame_kernel, Cert.Mix3Claims.frame_ideal, Cert.Mix3Claims.frame_ideal_finite, Cert.Mix3Claims.frame_ref, Cert.Mix3Claims.frame_ref_finite,
    Cert.ProjClaims.frame_kernel4, Cert.ProjClaims.frame_ideal4, Cert.ProjClaims.frame_ref4,
    Cert.ProjClaims.frame_kernel5, Cert.ProjClaims.frame_ideal5, Cert.ProjClaims.frame_ref5,
    Cert.ProjClaims.frame_kernel6, Cert.ProjClaims.frame_ideal6, Cert.ProjClaims.frame_ref6,
    Cert.Mix7Claims.frame_kernel, Cert.Mix7Claims.frame_ideal, Cert.Mix7Claims.frame_ideal_finite, Cert.Mix7Claims.frame_ref, Cert.Mix7Claims.frame_ref_finite,
    Cert.HgrnClaims.frame_kernel, Cert.HgrnClaims.frame_ideal, Cert.HgrnClaims.frame_ideal_finite, Cert.HgrnClaims.frame_ref, Cert.HgrnClaims.frame_ref_finite,
    trivial, Cert.NaClaims.algebraic, trivial, Cert.MixClaims.algebraic, trivial, Cert.Mix3Claims.algebraic,
    trivial, Cert.ProjClaims.algebraic4, trivial, Cert.ProjClaims.algebraic5, trivial, Cert.ProjClaims.algebraic6,
    trivial, Cert.Mix7Claims.algebraic, trivial, Cert.HgrnClaims.algebraic⟩

end Cert.Proof

end
